-- ==== Defs.lean ====
def Pre_Kernel [hPre_columns_in_bin : Cert.Pre_columns_in_bin.Facts] (m : (ℓ : Loc Cert.Kernel.nD Cert.Kernel.τ Cert.Kernel.sig) → Buf (Elt Bits) ℓ) : Prop :=
  ∀ c : Dev Cert.Kernel.nD,
    (Cert.Pre_columns_in_bin.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_Kernel_bin_table [hPre_bin_table : Cert.Pre_bin_table.Facts] (m : (ℓ : Loc Cert.Kernel.nD Cert.Kernel.τ Cert.Kernel.sig) → Buf (Elt Bits) ℓ) : Prop :=
  ∀ c : Dev Cert.Kernel.nD,
    (Cert.Pre_bin_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_columns_in_bin : Cert.Pre_columns_in_bin.Facts] (m : (ℓ : Loc Cert.KernelIdeal.nD Cert.KernelIdeal.τ Cert.KernelIdeal.sig) → Buf (Elt Ideal) ℓ) : Prop :=
  ∀ c : Dev Cert.KernelIdeal.nD,
    (Cert.Pre_columns_in_bin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_bin_table [hPre_bin_table : Cert.Pre_bin_table.Facts] (m : (ℓ : Loc Cert.KernelIdeal.nD Cert.KernelIdeal.τ Cert.KernelIdeal.sig) → Buf (Elt Ideal) ℓ) : Prop :=
  ∀ c : Dev Cert.KernelIdeal.nD,
    (Cert.Pre_bin_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bin_table [hPre_bin_table : Cert.Pre_bin_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bin_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_bin_table : Cert.Pre_bin_table.Facts] (m : (ℓ : Loc Cert.Reference.nD Cert.Reference.τ Cert.Reference.sig) → Buf (Elt Bits) ℓ) : Prop :=
  ∀ c : Dev Cert.Reference.nD,
    (Cert.Pre_bin_table.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] [hPre_columns_in_bin : Cert.Pre_columns_in_bin.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_bin_table [hKernel : Cert.Kernel.Facts] [hPre_bin_table : Cert.Pre_bin_table.Facts] : Prop :=
  ∀ (m : (ℓ : Loc Cert.Kernel.nD Cert.Kernel.τ Cert.Kernel.sig) → Buf (Elt Bits) ℓ) (g : Dev Cert.Kernel.nD → PrngReg), Pre_Kernel_bin_table m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_columns_in_bin : Cert.Pre_columns_in_bin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bin_table [hKernelIdeal : Cert.KernelIdeal.Facts] [hPre_bin_table : Cert.Pre_bin_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bin_table m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bin_table [hReferenceIdeal : Cert.ReferenceIdeal.Facts] [hPre_bin_table : Cert.Pre_bin_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bin_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_bin_table : Cert.Pre_bin_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal_pre_bin_table [hKernelIdeal : Cert.KernelIdeal.Facts] [hReferenceIdeal : Cert.ReferenceIdeal.Facts] [hPre_bin_table : Cert.Pre_bin_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bin_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference_pre_bin_table [hKernel : Cert.Kernel.Facts] [hReference : Cert.Reference.Facts] [hPre_bin_table : Cert.Pre_bin_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_bin_table m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts) (hPre_columns_in_bin : Cert.Pre_columns_in_bin.Facts) (hPre_bin_table : Cert.Pre_bin_table.Facts),
    quiescent_Kernel (hKernel := hKernel) (hPre_columns_in_bin := hPre_columns_in_bin)
    ∧ quiescent_Kernel_pre_bin_table (hKernel := hKernel) (hPre_bin_table := hPre_bin_table)
    ∧ quiescent_KernelIdeal (hKernelIdeal := hKernelIdeal) (hPre_columns_in_bin := hPre_columns_in_bin)
    ∧ quiescent_KernelIdeal_pre_bin_table (hKernelIdeal := hKernelIdeal) (hPre_bin_table := hPre_bin_table)
    ∧ quiescent_ReferenceIdeal (hReferenceIdeal := hReferenceIdeal)
    ∧ quiescent_ReferenceIdeal_pre_bin_table (hReferenceIdeal := hReferenceIdeal) (hPre_bin_table := hPre_bin_table)
    ∧ quiescent_Reference (hReference := hReference) (hPre_bin_table := hPre_bin_table)
    ∧ preserves_Kernel_KernelIdeal
    ∧ algebraic_KernelIdeal_ReferenceIdeal_pre_bin_table (hKernelIdeal := hKernelIdeal) (hReferenceIdeal := hReferenceIdeal) (hPre_bin_table := hPre_bin_table)
    ∧ bitexact_Kernel_Reference_pre_bin_table (hKernel := hKernel) (hReference := hReference) (hPre_bin_table := hPre_bin_table)
-- ==== Pre_bin_table.lean ====
abbrev S524288x64 : Shape := ⟨2, ![524288, 64]⟩
abbrev S16384 : Shape := ⟨1, ![16384]⟩
abbrev S16384x64 : Shape := ⟨2, ![16384, 64]⟩
abbrev S65536 : Shape := ⟨1, ![65536]⟩
abbrev S1024x64 : Shape := ⟨2, ![1024, 64]⟩
abbrev S1024x1 : Shape := ⟨2, ![1024, 1]⟩
abbrev S1024x48 : Shape := ⟨2, ![1024, 48]⟩
abbrev S_ : Shape := ⟨0, ![]⟩
abbrev S48 : Shape := ⟨1, ![48]⟩
abbrev S1x48 : Shape := ⟨2, ![1, 48]⟩
abbrev S1024 : Shape := ⟨1, ![1024]⟩
abbrev S524288 : Shape := ⟨1, ![524288]⟩
abbrev S16384x1 : Shape := ⟨2, ![16384, 1]⟩
abbrev S1024x48x1 : Shape := ⟨3, ![1024, 48, 1]⟩
abbrev S1024x512 : Shape := ⟨2, ![1024, 512]⟩
abbrev S1024x560 : Shape := ⟨2, ![1024, 560]⟩

class Facts : Prop where
  shapeCasts_S65536_S1024x64 : S65536.ShapeCasts S1024x64
  slices_S1024x64_S1024x1_0_0 : S1024x64.Slices ![0, 0] S1024x1
  slices_S1024x64_S1024x48_0_16 : S1024x64.Slices ![0, 16] S1024x48
  bcast_S_S1024x48 : S_.BroadcastsInDim S1024x48 (![] : Fin 0 → Fin S1024x48.rank)
  bcast_S48_S1x48_1 : S48.BroadcastsInDim S1x48 (![1] : Fin 1 → Fin S1x48.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x48_S1024x48_0_1 : S1x48.BroadcastsInDim S1024x48 (![0, 1] : Fin 2 → Fin S1024x48.rank)
  bcast_S1024x1_S1024x48_0_1 : S1024x1.BroadcastsInDim S1024x48 (![0, 1] : Fin 2 → Fin S1024x48.rank)
  bcast_S_S524288 : S_.BroadcastsInDim S524288 (![] : Fin 0 → Fin S524288.rank)
  bcast_S_S16384 : S_.BroadcastsInDim S16384 (![] : Fin 0 → Fin S16384.rank)
  bcast_S16384_S16384x1_0 : S16384.BroadcastsInDim S16384x1 (![0] : Fin 1 → Fin S16384x1.rank)
  bcast_S1024x48_S1024x48x1_0_1 : S1024x48.BroadcastsInDim S1024x48x1 (![0, 1] : Fin 2 → Fin S1024x48x1.rank)
  bcast_S_S48 : S_.BroadcastsInDim S48 (![] : Fin 0 → Fin S48.rank)
  shapeCasts_S524288_S1024x512 : S524288.ShapeCasts S1024x512
  concatenates_S1024x512_S1024x48_S1024x560_d1 : Shape.Concatenates [S1024x512, S1024x48] S1024x560 1
  scatter_S524288_S16384x1_S16384_n_0_0_1_wf : ScatterDims.WF S524288 S16384x1 S16384 [] [0] [0] 1
  scatter_S524288_S1024x48x1_S1024x48_n_0_0_2_wf : ScatterDims.WF S524288 S1024x48x1 S1024x48 [] [0] [0] 2

variable [Facts]

def scatter_S524288_S16384x1_S16384_n_0_0_1 : ScatterDims S524288 S16384x1 S16384 where
  updateWindowDims := []
  insertedWindowDims := [0]
  scatterDimsToOperandDims := [0]
  indexVectorDim := 1
  wf := scatter_S524288_S16384x1_S16384_n_0_0_1_wf
def scatter_S524288_S1024x48x1_S1024x48_n_0_0_2 : ScatterDims S524288 S1024x48x1 S1024x48 where
  updateWindowDims := []
  insertedWindowDims := [0]
  scatterDimsToOperandDims := [0]
  indexVectorDim := 2
  wf := scatter_S524288_S1024x48x1_S1024x48_n_0_0_2_wf
def fn_where {F : FTy → Type} [FloatOps F] (arg0 : IVec S1024x48 1) (arg1 : IVec S1024x48 32) (arg2 : IVec S_ 32) : IVec S1024x48 32 :=
  let v0 : IVec S_ 32 := id arg2
  let v1 : IVec S1024x48 32 := broadcastInDim S1024x48 ![] bcast_S_S1024x48 v0
  let v2 : IVec S1024x48 32 := select arg0 arg1 v1
  v2

def fn_part2 {F : FTy → Type} [FloatOps F] (main_v1 : IVec S1024x1 32) (main_v4 : IVec S1024x48 32) (main_v29 : IVec S524288 32) (main_v36 : IVec S524288 32) (main_v37 : IVec S48 32) : IVec S1024x560 1 :=
  let main_c_9 : IVec S_ 32 := constantI S_ 32 4#32
  let main_v38 : IVec S48 32 := broadcastInDim S48 ![] bcast_S_S48 main_c_9
  let main_v39 : IVec S48 32 := Host.shrsi main_v37 main_v38
  let main_c_10 : IVec S_ 32 := constantI S_ 32 4#32
  let main_v40 : IVec S48 32 := broadcastInDim S48 ![] bcast_S_S48 main_c_10
  let main_v41 : IVec S48 32 := Host.shli main_v39 main_v40
  let main_v42 : IVec S1x48 32 := broadcastInDim S1x48 ![1] bcast_S48_S1x48_1 main_v41
  let main_v43 : IVec S1024x48 32 := broadcastInDim S1024x48 ![0, 1] bcast_S1024x1_S1024x48_0_1 main_v1
  let main_v44 : IVec S1024x48 32 := broadcastInDim S1024x48 ![0, 1] bcast_S1x48_S1024x48_0_1 main_v42
  let main_v45 : IVec S1024x48 1 := cmpi .sle main_v43 main_v44
  let main_c_11 : IVec S_ 32 := constantI S_ 32 512#32
  let main_v46 : IVec S1024x48 32 := broadcastInDim S1024x48 ![] bcast_S_S1024x48 main_c_11
  let main_v47 : IVec S1024x48 1 := cmpi .slt main_v4 main_v46
  let main_v48 : IVec S1024x48 1 := ori main_v45 main_v47
  let main_v49 : IVec S524288 1 := cmpi .eq main_v36 main_v29
  let main_v50 : IVec S1024x512 1 := shapeCast S1024x512 main_v49 shapeCasts_S524288_S1024x512
  let main_v51 : IVec S1024x560 1 := (fun a b => concatenate S1024x560 1 [⟨S1024x512, a⟩, ⟨S1024x48, b⟩] concatenates_S1024x512_S1024x48_S1024x560_d1) main_v50 main_v48
  main_v51

def fn_part1 {F : FTy → Type} [FloatOps F] (main_arg1 : IVec S16384 32) (main_v1 : IVec S1024x1 32) (main_v4 : IVec S1024x48 32) (main_v8 : IVec S1024x48 32) (main_v17 : IVec S1024x48 1) (main_v19 : IVec S1024x48 32) : IVec S1024x560 1 :=
  let main_c_3 : IVec S_ 32 := constantI S_ 32 524288#32
  let main_v20 : IVec S1024x48 32 := fn_where (F := F) main_v17 main_v19 main_c_3
  let main_c_4 : IVec S_ 32 := constantI S_ 32 4294967295#32
  let main_v21 : IVec S524288 32 := broadcastInDim S524288 ![] bcast_S_S524288 main_c_4
  let main_v22 : IVec S16384 32 := iotaInDim S16384 32 0
  let main_c_5 : IVec S_ 32 := constantI S_ 32 0#32
  let main_v23 : IVec S16384 32 := broadcastInDim S16384 ![] bcast_S_S16384 main_c_5
  let main_v24 : IVec S16384 1 := cmpi .slt main_arg1 main_v23
  let main_c_6 : IVec S_ 32 := constantI S_ 32 524288#32
  let main_v25 : IVec S16384 32 := broadcastInDim S16384 ![] bcast_S_S16384 main_c_6
  let main_v26 : IVec S16384 32 := addi main_arg1 main_v25
  let main_v27 : IVec S16384 32 := select main_v24 main_v26 main_arg1
  let main_v28 : IVec S16384x1 32 := broadcastInDim S16384x1 ![0] bcast_S16384_S16384x1_0 main_v27
  let main_v29 : IVec S524288 32 := (fun x i u => Host.scatter scatter_S524288_S16384x1_S16384_n_0_0_1 (fun _ b => b) x i u) main_v21 main_v28 main_v22
  let main_c_7 : IVec S_ 32 := constantI S_ 32 0#32
  let main_v30 : IVec S1024x48 32 := broadcastInDim S1024x48 ![] bcast_S_S1024x48 main_c_7
  let main_v31 : IVec S1024x48 1 := cmpi .slt main_v20 main_v30
  let main_c_8 : IVec S_ 32 := constantI S_ 32 524288#32
  let main_v32 : IVec S1024x48 32 := broadcastInDim S1024x48 ![] bcast_S_S1024x48 main_c_8
  let main_v33 : IVec S1024x48 32 := addi main_v20 main_v32
  let main_v34 : IVec S1024x48 32 := select main_v31 main_v33 main_v20
  let main_v35 : IVec S1024x48x1 32 := broadcastInDim S1024x48x1 ![0, 1] bcast_S1024x48_S1024x48x1_0_1 main_v34
  let main_v36 : IVec S524288 32 := (fun x i u => Host.scatter scatter_S524288_S1024x48x1_S1024x48_n_0_0_2 (fun _ b => b) x i u) main_v21 main_v35 main_v8
  let main_v37 : IVec S48 32 := iotaInDim S48 32 0
  fn_part2 (F := F) main_v1 main_v4 main_v29 main_v36 main_v37

def fn {F : FTy → Type} [FloatOps F] (main_arg0 : FVec F S524288x64 .f32) (main_arg1 : IVec S16384 32) (main_arg2 : FVec F S16384x64 .f32) (main_arg3 : IVec S65536 32) : IVec S1024x560 1 :=
  let main_v0 : IVec S1024x64 32 := shapeCast S1024x64 main_arg3 shapeCasts_S65536_S1024x64
  let main_v1 : IVec S1024x1 32 := (extractStridedSlice S1024x1 ![0, 0] · slices_S1024x64_S1024x1_0_0) main_v0
  let main_v2 : IVec S1024x48 32 := (extractStridedSlice S1024x48 ![0, 16] · slices_S1024x64_S1024x48_0_16) main_v0
  let main_c : IVec S_ 32 := constantI S_ 32 1023#32
  let main_v3 : IVec S1024x48 32 := broadcastInDim S1024x48 ![] bcast_S_S1024x48 main_c
  let main_v4 : IVec S1024x48 32 := andi main_v2 main_v3
  let main_c_0 : IVec S_ 32 := constantI S_ 32 10#32
  let main_v5 : IVec S1024x48 32 := broadcastInDim S1024x48 ![] bcast_S_S1024x48 main_c_0
  let main_v6 : IVec S1024x48 32 := Host.shrsi main_v2 main_v5
  let main_c_1 : IVec S_ 32 := constantI S_ 32 16383#32
  let main_v7 : IVec S1024x48 32 := broadcastInDim S1024x48 ![] bcast_S_S1024x48 main_c_1
  let main_v8 : IVec S1024x48 32 := andi main_v6 main_v7
  let main_v9 : IVec S48 32 := iotaInDim S48 32 0
  let main_v10 : IVec S1x48 32 := broadcastInDim S1x48 ![1] bcast_S48_S1x48_1 main_v9
  let main_v11 : IVec S1024 32 := iotaInDim S1024 32 0
  let main_v12 : IVec S1024x1 32 := broadcastInDim S1024x1 ![0] bcast_S1024_S1024x1_0 main_v11
  let main_c_2 : IVec S_ 32 := constantI S_ 32 512#32
  let main_v13 : IVec S1024x1 32 := broadcastInDim S1024x1 ![] bcast_S_S1024x1 main_c_2
  let main_v14 : IVec S1024x1 32 := muli main_v13 main_v12
  let main_v15 : IVec S1024x48 32 := broadcastInDim S1024x48 ![0, 1] bcast_S1x48_S1024x48_0_1 main_v10
  let main_v16 : IVec S1024x48 32 := broadcastInDim S1024x48 ![0, 1] bcast_S1024x1_S1024x48_0_1 main_v1
  let main_v17 : IVec S1024x48 1 := cmpi .slt main_v15 main_v16
  let main_v18 : IVec S1024x48 32 := broadcastInDim S1024x48 ![0, 1] bcast_S1024x1_S1024x48_0_1 main_v14
  let main_v19 : IVec S1024x48 32 := addi main_v18 main_v4
  fn_part1 (F := F) main_arg1 main_v1 main_v4 main_v8 main_v17 main_v19
-- ==== Pre_columns_in_bin.lean ====
abbrev S524288x64 : Shape := ⟨2, ![524288, 64]⟩
abbrev S16384 : Shape := ⟨1, ![16384]⟩
abbrev S16384x64 : Shape := ⟨2, ![16384, 64]⟩
abbrev S65536 : Shape := ⟨1, ![65536]⟩
abbrev S1024x64 : Shape := ⟨2, ![1024, 64]⟩
abbrev S1024x1 : Shape := ⟨2, ![1024, 1]⟩
abbrev S1024x48 : Shape := ⟨2, ![1024, 48]⟩
abbrev S48 : Shape := ⟨1, ![48]⟩
abbrev S_ : Shape := ⟨0, ![]⟩
abbrev S1x48 : Shape := ⟨2, ![1, 48]⟩

class Facts : Prop where
  shapeCasts_S65536_S1024x64 : S65536.ShapeCasts S1024x64
  slices_S1024x64_S1024x1_0_0 : S1024x64.Slices ![0, 0] S1024x1
  slices_S1024x64_S1024x48_0_16 : S1024x64.Slices ![0, 16] S1024x48
  bcast_S_S48 : S_.BroadcastsInDim S48 (![] : Fin 0 → Fin S48.rank)
  bcast_S48_S1x48_1 : S48.BroadcastsInDim S1x48 (![1] : Fin 1 → Fin S1x48.rank)
  bcast_S1024x1_S1024x48_0_1 : S1024x1.BroadcastsInDim S1024x48 (![0, 1] : Fin 2 → Fin S1024x48.rank)
  bcast_S1x48_S1024x48_0_1 : S1x48.BroadcastsInDim S1024x48 (![0, 1] : Fin 2 → Fin S1024x48.rank)
  bcast_S_S1024x48 : S_.BroadcastsInDim S1024x48 (![] : Fin 0 → Fin S1024x48.rank)

variable [Facts]

def fn {F : FTy → Type} [FloatOps F] (main_arg0 : FVec F S524288x64 .f32) (main_arg1 : IVec S16384 32) (main_arg2 : FVec F S16384x64 .f32) (main_arg3 : IVec S65536 32) : IVec S1024x48 1 :=
  let main_v0 : IVec S1024x64 32 := shapeCast S1024x64 main_arg3 shapeCasts_S65536_S1024x64
  let main_v1 : IVec S1024x1 32 := (extractStridedSlice S1024x1 ![0, 0] · slices_S1024x64_S1024x1_0_0) main_v0
  let main_v2 : IVec S1024x48 32 := (extractStridedSlice S1024x48 ![0, 16] · slices_S1024x64_S1024x48_0_16) main_v0
  let main_v3 : IVec S48 32 := iotaInDim S48 32 0
  let main_c : IVec S_ 32 := constantI S_ 32 4#32
  let main_v4 : IVec S48 32 := broadcastInDim S48 ![] bcast_S_S48 main_c
  let main_v5 : IVec S48 32 := Host.shrsi main_v3 main_v4
  let main_c_0 : IVec S_ 32 := constantI S_ 32 4#32
  let main_v6 : IVec S48 32 := broadcastInDim S48 ![] bcast_S_S48 main_c_0
  let main_v7 : IVec S48 32 := Host.shli main_v5 main_v6
  let main_v8 : IVec S1x48 32 := broadcastInDim S1x48 ![1] bcast_S48_S1x48_1 main_v7
  let main_v9 : IVec S1024x48 32 := broadcastInDim S1024x48 ![0, 1] bcast_S1024x1_S1024x48_0_1 main_v1
  let main_v10 : IVec S1024x48 32 := broadcastInDim S1024x48 ![0, 1] bcast_S1x48_S1024x48_0_1 main_v8
  let main_v11 : IVec S1024x48 1 := cmpi .sle main_v9 main_v10
  let main_c_1 : IVec S_ 32 := constantI S_ 32 1023#32
  let main_v12 : IVec S1024x48 32 := broadcastInDim S1024x48 ![] bcast_S_S1024x48 main_c_1
  let main_v13 : IVec S1024x48 32 := andi main_v2 main_v12
  let main_c_2 : IVec S_ 32 := constantI S_ 32 512#32
  let main_v14 : IVec S1024x48 32 := broadcastInDim S1024x48 ![] bcast_S_S1024x48 main_c_2
  let main_v15 : IVec S1024x48 1 := cmpi .slt main_v13 main_v14
  let main_v16 : IVec S1024x48 1 := ori main_v11 main_v15
  main_v16
-- ==== Kernel.lean ====
abbrev S524288x64 : Shape := ⟨2, ![524288, 64]⟩
abbrev S16384 : Shape := ⟨1, ![16384]⟩
abbrev S16384x64 : Shape := ⟨2, ![16384, 64]⟩
abbrev S65536 : Shape := ⟨1, ![65536]⟩
abbrev S_ : Shape := ⟨0, ![]⟩
abbrev S16384x128 : Shape := ⟨2, ![16384, 128]⟩
abbrev S64x524288 : Shape := ⟨2, ![64, 524288]⟩
abbrev S64x512 : Shape := ⟨2, ![64, 512]⟩
abbrev S2048 : Shape := ⟨1, ![2048]⟩
abbrev S48x128 : Shape := ⟨2, ![48, 128]⟩
abbrev S48 : Shape := ⟨1, ![48]⟩
abbrev S16 : Shape := ⟨1, ![16]⟩
abbrev S1 : Shape := ⟨1, ![1]⟩

abbrev nBuf : Table → Nat
  | .hbm => 10
  | .local .scVector .vmem => 7
  | _ => 0

abbrev bufTy : (tb : Table) → Fin (nBuf tb) → BufTy
  | .hbm, ⟨0, _⟩ => ⟨S524288x64, .f32⟩
  | .hbm, ⟨1, _⟩ => ⟨S16384, .i32⟩
  | .hbm, ⟨2, _⟩ => ⟨S16384x64, .f32⟩
  | .hbm, ⟨3, _⟩ => ⟨S65536, .i32⟩
  | .hbm, ⟨4, _⟩ => ⟨S_, .i32⟩
  | .hbm, ⟨5, _⟩ => ⟨S_, .f32⟩
  | .hbm, ⟨6, _⟩ => ⟨S16384x128, .f32⟩
  | .hbm, ⟨7, _⟩ => ⟨S64x524288, .f32⟩
  | .hbm, ⟨8, _⟩ => ⟨S64x524288, .f32⟩
  | .hbm, ⟨9, _⟩ => ⟨S524288x64, .f32⟩
  | .local .scVector .vmem, ⟨0, _⟩ => ⟨S64x512, .f32⟩
  | .local .scVector .vmem, ⟨1, _⟩ => ⟨S64x512, .f32⟩
  | .local .scVector .vmem, ⟨2, _⟩ => ⟨S2048, .i32⟩
  | .local .scVector .vmem, ⟨3, _⟩ => ⟨S48x128, .f32⟩
  | .local .scVector .vmem, ⟨4, _⟩ => ⟨S48x128, .f32⟩
  | .local .scVector .vmem, ⟨5, _⟩ => ⟨S48, .i32⟩
  | .local .scVector .vmem, ⟨6, _⟩ => ⟨S48, .i32⟩
  | _, _ => ⟨S524288x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v1_scv : Ref sig .scVector := ⟨.hbm, 7, rfl⟩
abbrev main_v0_scv : Ref sig .scVector := ⟨.hbm, 6, rfl⟩
abbrev main_arg3_scv : Ref sig .scVector := ⟨.hbm, 3, rfl⟩
abbrev main_v2_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v3 : BitVec 32 := Scalar.muli v1 c32_i32
  let c64_i32 : BitVec 32 := 64#32
  let v4 : BitVec 32 := Scalar.muli v3 c64_i32
  ![v4.toNat]
def k0_off2 (i : grid0.Coords) (c0_i32 : BitVec 32) : Fin 2 → Nat :=
  let c0_i32_0 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let v5 : BitVec 32 := Scalar.addi v2 c0_i32
  ![0, v5.toNat]
@[reducible] def k0_t1_loop : Scf.Loop 32 :=
  let c0_i32_10 : BitVec 32 := 0#32
  let c16_i32_11 : BitVec 32 := 16#32
  let v27 : BitVec 32 := Scalar.addi c0_i32_10 c16_i32_11
  let c1_i32 : BitVec 32 := 1#32
  ⟨c0_i32_10, v27, c1_i32⟩
def k0_off3 (i : grid0.Coords) (k0_t1 : Fin k0_t1_loop.trips) : Fin 2 → Nat :=
  let c0_i32_16 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c512_i32 : BitVec 32 := 512#32
  let v33 : BitVec 32 := Scalar.muli v32 c512_i32
  let v34 : BitVec 32 := Scalar.addi v2 v33
  ![0, v34.toNat]
def k0_cond1 (k0_t1 : Fin k0_t1_loop.trips) : BitVec 1 :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c0_i32_18 : BitVec 32 := 0#32
  let v37 : BitVec 1 := Scalar.cmpi .sgt v32 c0_i32_18
  let v38 : BitVec 32 := Scalar.extui v37
  let c0_i32_19 : BitVec 32 := 0#32
  let v39 : BitVec 1 := Scalar.cmpi .ne v38 c0_i32_19
  v39

def k0_off4 (i : grid0.Coords) (k0_t1 : Fin k0_t1_loop.trips) : Fin 2 → Nat :=
  let c0_i32_83 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_81 : BitVec 32 := 1#32
  let v130 : BitVec 32 := Scalar.subi v32 c1_i32_81
  let c512_i32_82 : BitVec 32 := 512#32
  let v131 : BitVec 32 := Scalar.muli v130 c512_i32_82
  let v132 : BitVec 32 := Scalar.addi v2 v131
  ![0, v132.toNat]
def k0_off5 (i : grid0.Coords) (k0_t1 : Fin k0_t1_loop.trips) : Fin 2 → Nat :=
  let c0_i32_22 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_20 : BitVec 32 := 1#32
  let v40 : BitVec 32 := Scalar.addi v32 c1_i32_20
  let c512_i32_21 : BitVec 32 := 512#32
  let v41 : BitVec 32 := Scalar.muli v40 c512_i32_21
  let v42 : BitVec 32 := Scalar.addi v2 v41
  ![0, v42.toNat]
def k0_off6 (k0_t1 : Fin k0_t1_loop.trips) (c0_i32_27 : BitVec 32) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_24 : BitVec 32 := 1#32
  let v45 : BitVec 32 := Scalar.addi v32 c1_i32_24
  let c64_i32_25 : BitVec 32 := 64#32
  let v46 : BitVec 32 := Scalar.muli v45 c64_i32_25
  let c16_i32_26 : BitVec 32 := 16#32
  let v47 : BitVec 32 := Scalar.addi v46 c16_i32_26
  let v48 : BitVec 32 := Scalar.addi v47 c0_i32_27
  let v49 : Index := Scalar.indexCast v48
  ![v49.toNat]
def k0_off7 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c64_i32_47 : BitVec 32 := 64#32
  let v78 : BitVec 32 := Scalar.muli v32 c64_i32_47
  let v79 : Index := Scalar.indexCast v78
  ![v79.toNat]
def k0_off8 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c64_i32_81 : BitVec 32 := 64#32
  let v130 : BitVec 32 := Scalar.muli v32 c64_i32_81
  let c16_i32_82 : BitVec 32 := 16#32
  let v131 : BitVec 32 := Scalar.addi v130 c16_i32_82
  let c0_i32_83 : BitVec 32 := 0#32
  let v132 : BitVec 32 := Scalar.addi v131 c0_i32_83
  let v133 : Index := Scalar.indexCast v132
  ![v133.toNat]
def k0_cond2 (v82 : BitVec 32) : BitVec 1 :=
  let c0_i32_48 : BitVec 32 := 0#32
  let v83 : BitVec 1 := Scalar.cmpi .sgt v82 c0_i32_48
  let v84 : BitVec 32 := Scalar.extui v83
  let c0_i32_49 : BitVec 32 := 0#32
  let v85 : BitVec 1 := Scalar.cmpi .ne v84 c0_i32_49
  v85

def k0_chk1 (v82 : BitVec 32) (v136 : IVec S16 32) (v139 : IVec S16 32) (v142 : IVec S16 32) : Prop :=
  (∀ (k0_h2 : k0_cond2 v82 = 1#1), ∀ a x, ((![v139, v142] : Fin 2 → IVec S16 32) a x).toNat < S48x128.size a) ∧
  (∀ (k0_h2 : k0_cond2 v82 = 1#1), ∀ a x, ((![v142, v136] : Fin 2 → IVec S16 32) a x).toNat < S64x512.size a)
theorem k0_idx1_inb : ∀ (v82 : BitVec 32) (v136 : IVec S16 32) (v139 : IVec S16 32) (v142 : IVec S16 32) (k0_hw1 : k0_chk1 v82 v136 v139 v142), ∀ (k0_h2 : k0_cond2 v82 = 1#1), ∀ a x, ((![v139, v142] : Fin 2 → IVec S16 32) a x).toNat < S48x128.size a := fun v82 v136 v139 v142 k0_hw1 k0_h2 => k0_hw1.1 k0_h2
theorem k0_idx2_inb : ∀ (v82 : BitVec 32) (v136 : IVec S16 32) (v139 : IVec S16 32) (v142 : IVec S16 32) (k0_hw1 : k0_chk1 v82 v136 v139 v142), ∀ (k0_h2 : k0_cond2 v82 = 1#1), ∀ a x, ((![v142, v136] : Fin 2 → IVec S16 32) a x).toNat < S64x512.size a := fun v82 v136 v139 v142 k0_hw1 k0_h2 => k0_hw1.2 k0_h2

def k0_chk2 (v82 : BitVec 32) (v136 : IVec S16 32) (v139 : IVec S16 32) (v144 : IVec S16 32) : Prop :=
  (∀ (k0_h2 : k0_cond2 v82 = 1#1), ∀ a x, ((![v139, v144] : Fin 2 → IVec S16 32) a x).toNat < S48x128.size a) ∧
  (∀ (k0_h2 : k0_cond2 v82 = 1#1), ∀ a x, ((![v144, v136] : Fin 2 → IVec S16 32) a x).toNat < S64x512.size a)
theorem k0_idx3_inb : ∀ (v82 : BitVec 32) (v136 : IVec S16 32) (v139 : IVec S16 32) (v144 : IVec S16 32) (k0_hw2 : k0_chk2 v82 v136 v139 v144), ∀ (k0_h2 : k0_cond2 v82 = 1#1), ∀ a x, ((![v139, v144] : Fin 2 → IVec S16 32) a x).toNat < S48x128.size a := fun v82 v136 v139 v144 k0_hw2 k0_h2 => k0_hw2.1 k0_h2
theorem k0_idx4_inb : ∀ (v82 : BitVec 32) (v136 : IVec S16 32) (v139 : IVec S16 32) (v144 : IVec S16 32) (k0_hw2 : k0_chk2 v82 v136 v139 v144), ∀ (k0_h2 : k0_cond2 v82 = 1#1), ∀ a x, ((![v144, v136] : Fin 2 → IVec S16 32) a x).toNat < S64x512.size a := fun v82 v136 v139 v144 k0_hw2 k0_h2 => k0_hw2.2 k0_h2

def k0_chk3 (v82 : BitVec 32) (v136 : IVec S16 32) (v139 : IVec S16 32) (v146 : IVec S16 32) : Prop :=
  (∀ (k0_h2 : k0_cond2 v82 = 1#1), ∀ a x, ((![v139, v146] : Fin 2 → IVec S16 32) a x).toNat < S48x128.size a) ∧
  (∀ (k0_h2 : k0_cond2 v82 = 1#1), ∀ a x, ((![v146, v136] : Fin 2 → IVec S16 32) a x).toNat < S64x512.size a)
theorem k0_idx5_inb : ∀ (v82 : BitVec 32) (v136 : IVec S16 32) (v139 : IVec S16 32) (v146 : IVec S16 32) (k0_hw3 : k0_chk3 v82 v136 v139 v146), ∀ (k0_h2 : k0_cond2 v82 = 1#1), ∀ a x, ((![v139, v146] : Fin 2 → IVec S16 32) a x).toNat < S48x128.size a := fun v82 v136 v139 v146 k0_hw3 k0_h2 => k0_hw3.1 k0_h2
theorem k0_idx6_inb : ∀ (v82 : BitVec 32) (v136 : IVec S16 32) (v139 : IVec S16 32) (v146 : IVec S16 32) (k0_hw3 : k0_chk3 v82 v136 v139 v146), ∀ (k0_h2 : k0_cond2 v82 = 1#1), ∀ a x, ((![v146, v136] : Fin 2 → IVec S16 32) a x).toNat < S64x512.size a := fun v82 v136 v139 v146 k0_hw3 k0_h2 => k0_hw3.2 k0_h2

def k0_chk4 (v82 : BitVec 32) (v136 : IVec S16 32) (v139 : IVec S16 32) (v148 : IVec S16 32) : Prop :=
  (∀ (k0_h2 : k0_cond2 v82 = 1#1), ∀ a x, ((![v139, v148] : Fin 2 → IVec S16 32) a x).toNat < S48x128.size a) ∧
  (∀ (k0_h2 : k0_cond2 v82 = 1#1), ∀ a x, ((![v148, v136] : Fin 2 → IVec S16 32) a x).toNat < S64x512.size a)
theorem k0_idx7_inb : ∀ (v82 : BitVec 32) (v136 : IVec S16 32) (v139 : IVec S16 32) (v148 : IVec S16 32) (k0_hw4 : k0_chk4 v82 v136 v139 v148), ∀ (k0_h2 : k0_cond2 v82 = 1#1), ∀ a x, ((![v139, v148] : Fin 2 → IVec S16 32) a x).toNat < S48x128.size a := fun v82 v136 v139 v148 k0_hw4 k0_h2 => k0_hw4.1 k0_h2
theorem k0_idx8_inb : ∀ (v82 : BitVec 32) (v136 : IVec S16 32) (v139 : IVec S16 32) (v148 : IVec S16 32) (k0_hw4 : k0_chk4 v82 v136 v139 v148), ∀ (k0_h2 : k0_cond2 v82 = 1#1), ∀ a x, ((![v148, v136] : Fin 2 → IVec S16 32) a x).toNat < S64x512.size a := fun v82 v136 v139 v148 k0_hw4 k0_h2 => k0_hw4.2 k0_h2

def k0_chk5 (v82 : BitVec 32) (v136 : IVec S16 32) (v139 : IVec S16 32) (v150 : IVec S16 32) : Prop :=
  (∀ (k0_h2 : k0_cond2 v82 = 1#1), ∀ a x, ((![v139, v150] : Fin 2 → IVec S16 32) a x).toNat < S48x128.size a) ∧
  (∀ (k0_h2 : k0_cond2 v82 = 1#1), ∀ a x, ((![v150, v136] : Fin 2 → IVec S16 32) a x).toNat < S64x512.size a)
theorem k0_idx9_inb : ∀ (v82 : BitVec 32) (v136 : IVec S16 32) (v139 : IVec S16 32) (v150 : IVec S16 32) (k0_hw5 : k0_chk5 v82 v136 v139 v150), ∀ (k0_h2 : k0_cond2 v82 = 1#1), ∀ a x, ((![v139, v150] : Fin 2 → IVec S16 32) a x).toNat < S48x128.size a := fun v82 v136 v139 v150 k0_hw5 k0_h2 => k0_hw5.1 k0_h2
theorem k0_idx10_inb : ∀ (v82 : BitVec 32) (v136 : IVec S16 32) (v139 : IVec S16 32) (v150 : IVec S16 32) (k0_hw5 : k0_chk5 v82 v136 v139 v150), ∀ (k0_h2 : k0_cond2 v82 = 1#1), ∀ a x, ((![v150, v136] : Fin 2 → IVec S16 32) a x).toNat < S64x512.size a := fun v82 v136 v139 v150 k0_hw5 k0_h2 => k0_hw5.2 k0_h2

def k0_chk6 (v82 : BitVec 32) (v136 : IVec S16 32) (v139 : IVec S16 32) (v152 : IVec S16 32) : Prop :=
  (∀ (k0_h2 : k0_cond2 v82 = 1#1), ∀ a x, ((![v139, v152] : Fin 2 → IVec S16 32) a x).toNat < S48x128.size a) ∧
  (∀ (k0_h2 : k0_cond2 v82 = 1#1), ∀ a x, ((![v152, v136] : Fin 2 → IVec S16 32) a x).toNat < S64x512.size a)
theorem k0_idx11_inb : ∀ (v82 : BitVec 32) (v136 : IVec S16 32) (v139 : IVec S16 32) (v152 : IVec S16 32) (k0_hw6 : k0_chk6 v82 v136 v139 v152), ∀ (k0_h2 : k0_cond2 v82 = 1#1), ∀ a x, ((![v139, v152] : Fin 2 → IVec S16 32) a x).toNat < S48x128.size a := fun v82 v136 v139 v152 k0_hw6 k0_h2 => k0_hw6.1 k0_h2
theorem k0_idx12_inb : ∀ (v82 : BitVec 32) (v136 : IVec S16 32) (v139 : IVec S16 32) (v152 : IVec S16 32) (k0_hw6 : k0_chk6 v82 v136 v139 v152), ∀ (k0_h2 : k0_cond2 v82 = 1#1), ∀ a x, ((![v152, v136] : Fin 2 → IVec S16 32) a x).toNat < S64x512.size a := fun v82 v136 v139 v152 k0_hw6 k0_h2 => k0_hw6.2 k0_h2

def k0_chk7 (v82 : BitVec 32) (v136 : IVec S16 32) (v139 : IVec S16 32) (v154 : IVec S16 32) : Prop :=
  (∀ (k0_h2 : k0_cond2 v82 = 1#1), ∀ a x, ((![v139, v154] : Fin 2 → IVec S16 32) a x).toNat < S48x128.size a) ∧
  (∀ (k0_h2 : k0_cond2 v82 = 1#1), ∀ a x, ((![v154, v136] : Fin 2 → IVec S16 32) a x).toNat < S64x512.size a)
theorem k0_idx13_inb : ∀ (v82 : BitVec 32) (v136 : IVec S16 32) (v139 : IVec S16 32) (v154 : IVec S16 32) (k0_hw7 : k0_chk7 v82 v136 v139 v154), ∀ (k0_h2 : k0_cond2 v82 = 1#1), ∀ a x, ((![v139, v154] : Fin 2 → IVec S16 32) a x).toNat < S48x128.size a := fun v82 v136 v139 v154 k0_hw7 k0_h2 => k0_hw7.1 k0_h2
theorem k0_idx14_inb : ∀ (v82 : BitVec 32) (v136 : IVec S16 32) (v139 : IVec S16 32) (v154 : IVec S16 32) (k0_hw7 : k0_chk7 v82 v136 v139 v154), ∀ (k0_h2 : k0_cond2 v82 = 1#1), ∀ a x, ((![v154, v136] : Fin 2 → IVec S16 32) a x).toNat < S64x512.size a := fun v82 v136 v139 v154 k0_hw7 k0_h2 => k0_hw7.2 k0_h2

def k0_chk8 (v82 : BitVec 32) (v136 : IVec S16 32) (v139 : IVec S16 32) (v156 : IVec S16 32) : Prop :=
  (∀ (k0_h2 : k0_cond2 v82 = 1#1), ∀ a x, ((![v139, v156] : Fin 2 → IVec S16 32) a x).toNat < S48x128.size a) ∧
  (∀ (k0_h2 : k0_cond2 v82 = 1#1), ∀ a x, ((![v156, v136] : Fin 2 → IVec S16 32) a x).toNat < S64x512.size a)
theorem k0_idx15_inb : ∀ (v82 : BitVec 32) (v136 : IVec S16 32) (v139 : IVec S16 32) (v156 : IVec S16 32) (k0_hw8 : k0_chk8 v82 v136 v139 v156), ∀ (k0_h2 : k0_cond2 v82 = 1#1), ∀ a x, ((![v139, v156] : Fin 2 → IVec S16 32) a x).toNat < S48x128.size a := fun v82 v136 v139 v156 k0_hw8 k0_h2 => k0_hw8.1 k0_h2
theorem k0_idx16_inb : ∀ (v82 : BitVec 32) (v136 : IVec S16 32) (v139 : IVec S16 32) (v156 : IVec S16 32) (k0_hw8 : k0_chk8 v82 v136 v139 v156), ∀ (k0_h2 : k0_cond2 v82 = 1#1), ∀ a x, ((![v156, v136] : Fin 2 → IVec S16 32) a x).toNat < S64x512.size a := fun v82 v136 v139 v156 k0_hw8 k0_h2 => k0_hw8.2 k0_h2

def k0_chk9 (v82 : BitVec 32) (v136 : IVec S16 32) (v139 : IVec S16 32) (v158 : IVec S16 32) : Prop :=
  (∀ (k0_h2 : k0_cond2 v82 = 1#1), ∀ a x, ((![v139, v158] : Fin 2 → IVec S16 32) a x).toNat < S48x128.size a) ∧
  (∀ (k0_h2 : k0_cond2 v82 = 1#1), ∀ a x, ((![v158, v136] : Fin 2 → IVec S16 32) a x).toNat < S64x512.size a)
theorem k0_idx17_inb : ∀ (v82 : BitVec 32) (v136 : IVec S16 32) (v139 : IVec S16 32) (v158 : IVec S16 32) (k0_hw9 : k0_chk9 v82 v136 v139 v158), ∀ (k0_h2 : k0_cond2 v82 = 1#1), ∀ a x, ((![v139, v158] : Fin 2 → IVec S16 32) a x).toNat < S48x128.size a := fun v82 v136 v139 v158 k0_hw9 k0_h2 => k0_hw9.1 k0_h2
theorem k0_idx18_inb : ∀ (v82 : BitVec 32) (v136 : IVec S16 32) (v139 : IVec S16 32) (v158 : IVec S16 32) (k0_hw9 : k0_chk9 v82 v136 v139 v158), ∀ (k0_h2 : k0_cond2 v82 = 1#1), ∀ a x, ((![v158, v136] : Fin 2 → IVec S16 32) a x).toNat < S64x512.size a := fun v82 v136 v139 v158 k0_hw9 k0_h2 => k0_hw9.2 k0_h2

def k0_chk10 (v82 : BitVec 32) (v136 : IVec S16 32) (v139 : IVec S16 32) (v160 : IVec S16 32) : Prop :=
  (∀ (k0_h2 : k0_cond2 v82 = 1#1), ∀ a x, ((![v139, v160] : Fin 2 → IVec S16 32) a x).toNat < S48x128.size a) ∧
  (∀ (k0_h2 : k0_cond2 v82 = 1#1), ∀ a x, ((![v160, v136] : Fin 2 → IVec S16 32) a x).toNat < S64x512.size a)
theorem k0_idx19_inb : ∀ (v82 : BitVec 32) (v136 : IVec S16 32) (v139 : IVec S16 32) (v160 : IVec S16 32) (k0_hw10 : k0_chk10 v82 v136 v139 v160), ∀ (k0_h2 : k0_cond2 v82 = 1#1), ∀ a x, ((![v139, v160] : Fin 2 → IVec S16 32) a x).toNat < S48x128.size a := fun v82 v136 v139 v160 k0_hw10 k0_h2 => k0_hw10.1 k0_h2
theorem k0_idx20_inb : ∀ (v82 : BitVec 32) (v136 : IVec S16 32) (v139 : IVec S16 32) (v160 : IVec S16 32) (k0_hw10 : k0_chk10 v82 v136 v139 v160), ∀ (k0_h2 : k0_cond2 v82 = 1#1), ∀ a x, ((![v160, v136] : Fin 2 → IVec S16 32) a x).toNat < S64x512.size a := fun v82 v136 v139 v160 k0_hw10 k0_h2 => k0_hw10.2 k0_h2

def k0_chk11 (v82 : BitVec 32) (v136 : IVec S16 32) (v139 : IVec S16 32) (v162 : IVec S16 32) : Prop :=
  (∀ (k0_h2 : k0_cond2 v82 = 1#1), ∀ a x, ((![v139, v162] : Fin 2 → IVec S16 32) a x).toNat < S48x128.size a) ∧
  (∀ (k0_h2 : k0_cond2 v82 = 1#1), ∀ a x, ((![v162, v136] : Fin 2 → IVec S16 32) a x).toNat < S64x512.size a)
theorem k0_idx21_inb : ∀ (v82 : BitVec 32) (v136 : IVec S16 32) (v139 : IVec S16 32) (v162 : IVec S16 32) (k0_hw11 : k0_chk11 v82 v136 v139 v162), ∀ (k0_h2 : k0_cond2 v82 = 1#1), ∀ a x, ((![v139, v162] : Fin 2 → IVec S16 32) a x).toNat < S48x128.size a := fun v82 v136 v139 v162 k0_hw11 k0_h2 => k0_hw11.1 k0_h2
theorem k0_idx22_inb : ∀ (v82 : BitVec 32) (v136 : IVec S16 32) (v139 : IVec S16 32) (v162 : IVec S16 32) (k0_hw11 : k0_chk11 v82 v136 v139 v162), ∀ (k0_h2 : k0_cond2 v82 = 1#1), ∀ a x, ((![v162, v136] : Fin 2 → IVec S16 32) a x).toNat < S64x512.size a := fun v82 v136 v139 v162 k0_hw11 k0_h2 => k0_hw11.2 k0_h2

def k0_chk12 (v82 : BitVec 32) (v136 : IVec S16 32) (v139 : IVec S16 32) (v164 : IVec S16 32) : Prop :=
  (∀ (k0_h2 : k0_cond2 v82 = 1#1), ∀ a x, ((![v139, v164] : Fin 2 → IVec S16 32) a x).toNat < S48x128.size a) ∧
  (∀ (k0_h2 : k0_cond2 v82 = 1#1), ∀ a x, ((![v164, v136] : Fin 2 → IVec S16 32) a x).toNat < S64x512.size a)
theorem k0_idx23_inb : ∀ (v82 : BitVec 32) (v136 : IVec S16 32) (v139 : IVec S16 32) (v164 : IVec S16 32) (k0_hw12 : k0_chk12 v82 v136 v139 v164), ∀ (k0_h2 : k0_cond2 v82 = 1#1), ∀ a x, ((![v139, v164] : Fin 2 → IVec S16 32) a x).toNat < S48x128.size a := fun v82 v136 v139 v164 k0_hw12 k0_h2 => k0_hw12.1 k0_h2
theorem k0_idx24_inb : ∀ (v82 : BitVec 32) (v136 : IVec S16 32) (v139 : IVec S16 32) (v164 : IVec S16 32) (k0_hw12 : k0_chk12 v82 v136 v139 v164), ∀ (k0_h2 : k0_cond2 v82 = 1#1), ∀ a x, ((![v164, v136] : Fin 2 → IVec S16 32) a x).toNat < S64x512.size a := fun v82 v136 v139 v164 k0_hw12 k0_h2 => k0_hw12.2 k0_h2

def k0_chk13 (v82 : BitVec 32) (v136 : IVec S16 32) (v139 : IVec S16 32) (v166 : IVec S16 32) : Prop :=
  (∀ (k0_h2 : k0_cond2 v82 = 1#1), ∀ a x, ((![v139, v166] : Fin 2 → IVec S16 32) a x).toNat < S48x128.size a) ∧
  (∀ (k0_h2 : k0_cond2 v82 = 1#1), ∀ a x, ((![v166, v136] : Fin 2 → IVec S16 32) a x).toNat < S64x512.size a)
theorem k0_idx25_inb : ∀ (v82 : BitVec 32) (v136 : IVec S16 32) (v139 : IVec S16 32) (v166 : IVec S16 32) (k0_hw13 : k0_chk13 v82 v136 v139 v166), ∀ (k0_h2 : k0_cond2 v82 = 1#1), ∀ a x, ((![v139, v166] : Fin 2 → IVec S16 32) a x).toNat < S48x128.size a := fun v82 v136 v139 v166 k0_hw13 k0_h2 => k0_hw13.1 k0_h2
theorem k0_idx26_inb : ∀ (v82 : BitVec 32) (v136 : IVec S16 32) (v139 : IVec S16 32) (v166 : IVec S16 32) (k0_hw13 : k0_chk13 v82 v136 v139 v166), ∀ (k0_h2 : k0_cond2 v82 = 1#1), ∀ a x, ((![v166, v136] : Fin 2 → IVec S16 32) a x).toNat < S64x512.size a := fun v82 v136 v139 v166 k0_hw13 k0_h2 => k0_hw13.2 k0_h2

def k0_chk14 (v82 : BitVec 32) (v136 : IVec S16 32) (v139 : IVec S16 32) (v168 : IVec S16 32) : Prop :=
  (∀ (k0_h2 : k0_cond2 v82 = 1#1), ∀ a x, ((![v139, v168] : Fin 2 → IVec S16 32) a x).toNat < S48x128.size a) ∧
  (∀ (k0_h2 : k0_cond2 v82 = 1#1), ∀ a x, ((![v168, v136] : Fin 2 → IVec S16 32) a x).toNat < S64x512.size a)
theorem k0_idx27_inb : ∀ (v82 : BitVec 32) (v136 : IVec S16 32) (v139 : IVec S16 32) (v168 : IVec S16 32) (k0_hw14 : k0_chk14 v82 v136 v139 v168), ∀ (k0_h2 : k0_cond2 v82 = 1#1), ∀ a x, ((![v139, v168] : Fin 2 → IVec S16 32) a x).toNat < S48x128.size a := fun v82 v136 v139 v168 k0_hw14 k0_h2 => k0_hw14.1 k0_h2
theorem k0_idx28_inb : ∀ (v82 : BitVec 32) (v136 : IVec S16 32) (v139 : IVec S16 32) (v168 : IVec S16 32) (k0_hw14 : k0_chk14 v82 v136 v139 v168), ∀ (k0_h2 : k0_cond2 v82 = 1#1), ∀ a x, ((![v168, v136] : Fin 2 → IVec S16 32) a x).toNat < S64x512.size a := fun v82 v136 v139 v168 k0_hw14 k0_h2 => k0_hw14.2 k0_h2

def k0_chk15 (v82 : BitVec 32) (v136 : IVec S16 32) (v139 : IVec S16 32) (v170 : IVec S16 32) : Prop :=
  (∀ (k0_h2 : k0_cond2 v82 = 1#1), ∀ a x, ((![v139, v170] : Fin 2 → IVec S16 32) a x).toNat < S48x128.size a) ∧
  (∀ (k0_h2 : k0_cond2 v82 = 1#1), ∀ a x, ((![v170, v136] : Fin 2 → IVec S16 32) a x).toNat < S64x512.size a)
theorem k0_idx29_inb : ∀ (v82 : BitVec 32) (v136 : IVec S16 32) (v139 : IVec S16 32) (v170 : IVec S16 32) (k0_hw15 : k0_chk15 v82 v136 v139 v170), ∀ (k0_h2 : k0_cond2 v82 = 1#1), ∀ a x, ((![v139, v170] : Fin 2 → IVec S16 32) a x).toNat < S48x128.size a := fun v82 v136 v139 v170 k0_hw15 k0_h2 => k0_hw15.1 k0_h2
theorem k0_idx30_inb : ∀ (v82 : BitVec 32) (v136 : IVec S16 32) (v139 : IVec S16 32) (v170 : IVec S16 32) (k0_hw15 : k0_chk15 v82 v136 v139 v170), ∀ (k0_h2 : k0_cond2 v82 = 1#1), ∀ a x, ((![v170, v136] : Fin 2 → IVec S16 32) a x).toNat < S64x512.size a := fun v82 v136 v139 v170 k0_hw15 k0_h2 => k0_hw15.2 k0_h2

def k0_chk16 (v82 : BitVec 32) (v136 : IVec S16 32) (v139 : IVec S16 32) (v172 : IVec S16 32) : Prop :=
  (∀ (k0_h2 : k0_cond2 v82 = 1#1), ∀ a x, ((![v139, v172] : Fin 2 → IVec S16 32) a x).toNat < S48x128.size a) ∧
  (∀ (k0_h2 : k0_cond2 v82 = 1#1), ∀ a x, ((![v172, v136] : Fin 2 → IVec S16 32) a x).toNat < S64x512.size a)
theorem k0_idx31_inb : ∀ (v82 : BitVec 32) (v136 : IVec S16 32) (v139 : IVec S16 32) (v172 : IVec S16 32) (k0_hw16 : k0_chk16 v82 v136 v139 v172), ∀ (k0_h2 : k0_cond2 v82 = 1#1), ∀ a x, ((![v139, v172] : Fin 2 → IVec S16 32) a x).toNat < S48x128.size a := fun v82 v136 v139 v172 k0_hw16 k0_h2 => k0_hw16.1 k0_h2
theorem k0_idx32_inb : ∀ (v82 : BitVec 32) (v136 : IVec S16 32) (v139 : IVec S16 32) (v172 : IVec S16 32) (k0_hw16 : k0_chk16 v82 v136 v139 v172), ∀ (k0_h2 : k0_cond2 v82 = 1#1), ∀ a x, ((![v172, v136] : Fin 2 → IVec S16 32) a x).toNat < S64x512.size a := fun v82 v136 v139 v172 k0_hw16 k0_h2 => k0_hw16.2 k0_h2

def k0_chk17 (v82 : BitVec 32) (v136 : IVec S16 32) (v139 : IVec S16 32) (v174 : IVec S16 32) : Prop :=
  (∀ (k0_h2 : k0_cond2 v82 = 1#1), ∀ a x, ((![v139, v174] : Fin 2 → IVec S16 32) a x).toNat < S48x128.size a) ∧
  (∀ (k0_h2 : k0_cond2 v82 = 1#1), ∀ a x, ((![v174, v136] : Fin 2 → IVec S16 32) a x).toNat < S64x512.size a)
theorem k0_idx33_inb : ∀ (v82 : BitVec 32) (v136 : IVec S16 32) (v139 : IVec S16 32) (v174 : IVec S16 32) (k0_hw17 : k0_chk17 v82 v136 v139 v174), ∀ (k0_h2 : k0_cond2 v82 = 1#1), ∀ a x, ((![v139, v174] : Fin 2 → IVec S16 32) a x).toNat < S48x128.size a := fun v82 v136 v139 v174 k0_hw17 k0_h2 => k0_hw17.1 k0_h2
theorem k0_idx34_inb : ∀ (v82 : BitVec 32) (v136 : IVec S16 32) (v139 : IVec S16 32) (v174 : IVec S16 32) (k0_hw17 : k0_chk17 v82 v136 v139 v174), ∀ (k0_h2 : k0_cond2 v82 = 1#1), ∀ a x, ((![v174, v136] : Fin 2 → IVec S16 32) a x).toNat < S64x512.size a := fun v82 v136 v139 v174 k0_hw17 k0_h2 => k0_hw17.2 k0_h2

def k0_chk18 (v82 : BitVec 32) (v136 : IVec S16 32) (v139 : IVec S16 32) (v176 : IVec S16 32) : Prop :=
  (∀ (k0_h2 : k0_cond2 v82 = 1#1), ∀ a x, ((![v139, v176] : Fin 2 → IVec S16 32) a x).toNat < S48x128.size a) ∧
  (∀ (k0_h2 : k0_cond2 v82 = 1#1), ∀ a x, ((![v176, v136] : Fin 2 → IVec S16 32) a x).toNat < S64x512.size a)
theorem k0_idx35_inb : ∀ (v82 : BitVec 32) (v136 : IVec S16 32) (v139 : IVec S16 32) (v176 : IVec S16 32) (k0_hw18 : k0_chk18 v82 v136 v139 v176), ∀ (k0_h2 : k0_cond2 v82 = 1#1), ∀ a x, ((![v139, v176] : Fin 2 → IVec S16 32) a x).toNat < S48x128.size a := fun v82 v136 v139 v176 k0_hw18 k0_h2 => k0_hw18.1 k0_h2
theorem k0_idx36_inb : ∀ (v82 : BitVec 32) (v136 : IVec S16 32) (v139 : IVec S16 32) (v176 : IVec S16 32) (k0_hw18 : k0_chk18 v82 v136 v139 v176), ∀ (k0_h2 : k0_cond2 v82 = 1#1), ∀ a x, ((![v176, v136] : Fin 2 → IVec S16 32) a x).toNat < S64x512.size a := fun v82 v136 v139 v176 k0_hw18 k0_h2 => k0_hw18.2 k0_h2

def k0_chk19 (v82 : BitVec 32) (v136 : IVec S16 32) (v139 : IVec S16 32) (v178 : IVec S16 32) : Prop :=
  (∀ (k0_h2 : k0_cond2 v82 = 1#1), ∀ a x, ((![v139, v178] : Fin 2 → IVec S16 32) a x).toNat < S48x128.size a) ∧
  (∀ (k0_h2 : k0_cond2 v82 = 1#1), ∀ a x, ((![v178, v136] : Fin 2 → IVec S16 32) a x).toNat < S64x512.size a)
theorem k0_idx37_inb : ∀ (v82 : BitVec 32) (v136 : IVec S16 32) (v139 : IVec S16 32) (v178 : IVec S16 32) (k0_hw19 : k0_chk19 v82 v136 v139 v178), ∀ (k0_h2 : k0_cond2 v82 = 1#1), ∀ a x, ((![v139, v178] : Fin 2 → IVec S16 32) a x).toNat < S48x128.size a := fun v82 v136 v139 v178 k0_hw19 k0_h2 => k0_hw19.1 k0_h2
theorem k0_idx38_inb : ∀ (v82 : BitVec 32) (v136 : IVec S16 32) (v139 : IVec S16 32) (v178 : IVec S16 32) (k0_hw19 : k0_chk19 v82 v136 v139 v178), ∀ (k0_h2 : k0_cond2 v82 = 1#1), ∀ a x, ((![v178, v136] : Fin 2 → IVec S16 32) a x).toNat < S64x512.size a := fun v82 v136 v139 v178 k0_hw19 k0_h2 => k0_hw19.2 k0_h2

def k0_chk20 (v82 : BitVec 32) (v136 : IVec S16 32) (v139 : IVec S16 32) (v180 : IVec S16 32) : Prop :=
  (∀ (k0_h2 : k0_cond2 v82 = 1#1), ∀ a x, ((![v139, v180] : Fin 2 → IVec S16 32) a x).toNat < S48x128.size a) ∧
  (∀ (k0_h2 : k0_cond2 v82 = 1#1), ∀ a x, ((![v180, v136] : Fin 2 → IVec S16 32) a x).toNat < S64x512.size a)
theorem k0_idx39_inb : ∀ (v82 : BitVec 32) (v136 : IVec S16 32) (v139 : IVec S16 32) (v180 : IVec S16 32) (k0_hw20 : k0_chk20 v82 v136 v139 v180), ∀ (k0_h2 : k0_cond2 v82 = 1#1), ∀ a x, ((![v139, v180] : Fin 2 → IVec S16 32) a x).toNat < S48x128.size a := fun v82 v136 v139 v180 k0_hw20 k0_h2 => k0_hw20.1 k0_h2
theorem k0_idx40_inb : ∀ (v82 : BitVec 32) (v136 : IVec S16 32) (v139 : IVec S16 32) (v180 : IVec S16 32) (k0_hw20 : k0_chk20 v82 v136 v139 v180), ∀ (k0_h2 : k0_cond2 v82 = 1#1), ∀ a x, ((![v180, v136] : Fin 2 → IVec S16 32) a x).toNat < S64x512.size a := fun v82 v136 v139 v180 k0_hw20 k0_h2 => k0_hw20.2 k0_h2

def k0_chk21 (v82 : BitVec 32) (v136 : IVec S16 32) (v139 : IVec S16 32) (v182 : IVec S16 32) : Prop :=
  (∀ (k0_h2 : k0_cond2 v82 = 1#1), ∀ a x, ((![v139, v182] : Fin 2 → IVec S16 32) a x).toNat < S48x128.size a) ∧
  (∀ (k0_h2 : k0_cond2 v82 = 1#1), ∀ a x, ((![v182, v136] : Fin 2 → IVec S16 32) a x).toNat < S64x512.size a)
theorem k0_idx41_inb : ∀ (v82 : BitVec 32) (v136 : IVec S16 32) (v139 : IVec S16 32) (v182 : IVec S16 32) (k0_hw21 : k0_chk21 v82 v136 v139 v182), ∀ (k0_h2 : k0_cond2 v82 = 1#1), ∀ a x, ((![v139, v182] : Fin 2 → IVec S16 32) a x).toNat < S48x128.size a := fun v82 v136 v139 v182 k0_hw21 k0_h2 => k0_hw21.1 k0_h2
theorem k0_idx42_inb : ∀ (v82 : BitVec 32) (v136 : IVec S16 32) (v139 : IVec S16 32) (v182 : IVec S16 32) (k0_hw21 : k0_chk21 v82 v136 v139 v182), ∀ (k0_h2 : k0_cond2 v82 = 1#1), ∀ a x, ((![v182, v136] : Fin 2 → IVec S16 32) a x).toNat < S64x512.size a := fun v82 v136 v139 v182 k0_hw21 k0_h2 => k0_hw21.2 k0_h2

def k0_chk22 (v82 : BitVec 32) (v136 : IVec S16 32) (v139 : IVec S16 32) (v184 : IVec S16 32) : Prop :=
  (∀ (k0_h2 : k0_cond2 v82 = 1#1), ∀ a x, ((![v139, v184] : Fin 2 → IVec S16 32) a x).toNat < S48x128.size a) ∧
  (∀ (k0_h2 : k0_cond2 v82 = 1#1), ∀ a x, ((![v184, v136] : Fin 2 → IVec S16 32) a x).toNat < S64x512.size a)
theorem k0_idx43_inb : ∀ (v82 : BitVec 32) (v136 : IVec S16 32) (v139 : IVec S16 32) (v184 : IVec S16 32) (k0_hw22 : k0_chk22 v82 v136 v139 v184), ∀ (k0_h2 : k0_cond2 v82 = 1#1), ∀ a x, ((![v139, v184] : Fin 2 → IVec S16 32) a x).toNat < S48x128.size a := fun v82 v136 v139 v184 k0_hw22 k0_h2 => k0_hw22.1 k0_h2
theorem k0_idx44_inb : ∀ (v82 : BitVec 32) (v136 : IVec S16 32) (v139 : IVec S16 32) (v184 : IVec S16 32) (k0_hw22 : k0_chk22 v82 v136 v139 v184), ∀ (k0_h2 : k0_cond2 v82 = 1#1), ∀ a x, ((![v184, v136] : Fin 2 → IVec S16 32) a x).toNat < S64x512.size a := fun v82 v136 v139 v184 k0_hw22 k0_h2 => k0_hw22.2 k0_h2

def k0_chk23 (v82 : BitVec 32) (v136 : IVec S16 32) (v139 : IVec S16 32) (v186 : IVec S16 32) : Prop :=
  (∀ (k0_h2 : k0_cond2 v82 = 1#1), ∀ a x, ((![v139, v186] : Fin 2 → IVec S16 32) a x).toNat < S48x128.size a) ∧
  (∀ (k0_h2 : k0_cond2 v82 = 1#1), ∀ a x, ((![v186, v136] : Fin 2 → IVec S16 32) a x).toNat < S64x512.size a)
theorem k0_idx45_inb : ∀ (v82 : BitVec 32) (v136 : IVec S16 32) (v139 : IVec S16 32) (v186 : IVec S16 32) (k0_hw23 : k0_chk23 v82 v136 v139 v186), ∀ (k0_h2 : k0_cond2 v82 = 1#1), ∀ a x, ((![v139, v186] : Fin 2 → IVec S16 32) a x).toNat < S48x128.size a := fun v82 v136 v139 v186 k0_hw23 k0_h2 => k0_hw23.1 k0_h2
theorem k0_idx46_inb : ∀ (v82 : BitVec 32) (v136 : IVec S16 32) (v139 : IVec S16 32) (v186 : IVec S16 32) (k0_hw23 : k0_chk23 v82 v136 v139 v186), ∀ (k0_h2 : k0_cond2 v82 = 1#1), ∀ a x, ((![v186, v136] : Fin 2 → IVec S16 32) a x).toNat < S64x512.size a := fun v82 v136 v139 v186 k0_hw23 k0_h2 => k0_hw23.2 k0_h2

def k0_chk24 (v82 : BitVec 32) (v136 : IVec S16 32) (v139 : IVec S16 32) (v188 : IVec S16 32) : Prop :=
  (∀ (k0_h2 : k0_cond2 v82 = 1#1), ∀ a x, ((![v139, v188] : Fin 2 → IVec S16 32) a x).toNat < S48x128.size a) ∧
  (∀ (k0_h2 : k0_cond2 v82 = 1#1), ∀ a x, ((![v188, v136] : Fin 2 → IVec S16 32) a x).toNat < S64x512.size a)
theorem k0_idx47_inb : ∀ (v82 : BitVec 32) (v136 : IVec S16 32) (v139 : IVec S16 32) (v188 : IVec S16 32) (k0_hw24 : k0_chk24 v82 v136 v139 v188), ∀ (k0_h2 : k0_cond2 v82 = 1#1), ∀ a x, ((![v139, v188] : Fin 2 → IVec S16 32) a x).toNat < S48x128.size a := fun v82 v136 v139 v188 k0_hw24 k0_h2 => k0_hw24.1 k0_h2
theorem k0_idx48_inb : ∀ (v82 : BitVec 32) (v136 : IVec S16 32) (v139 : IVec S16 32) (v188 : IVec S16 32) (k0_hw24 : k0_chk24 v82 v136 v139 v188), ∀ (k0_h2 : k0_cond2 v82 = 1#1), ∀ a x, ((![v188, v136] : Fin 2 → IVec S16 32) a x).toNat < S64x512.size a := fun v82 v136 v139 v188 k0_hw24 k0_h2 => k0_hw24.2 k0_h2

def k0_chk25 (v82 : BitVec 32) (v136 : IVec S16 32) (v139 : IVec S16 32) (v190 : IVec S16 32) : Prop :=
  (∀ (k0_h2 : k0_cond2 v82 = 1#1), ∀ a x, ((![v139, v190] : Fin 2 → IVec S16 32) a x).toNat < S48x128.size a) ∧
  (∀ (k0_h2 : k0_cond2 v82 = 1#1), ∀ a x, ((![v190, v136] : Fin 2 → IVec S16 32) a x).toNat < S64x512.size a)
theorem k0_idx49_inb : ∀ (v82 : BitVec 32) (v136 : IVec S16 32) (v139 : IVec S16 32) (v190 : IVec S16 32) (k0_hw25 : k0_chk25 v82 v136 v139 v190), ∀ (k0_h2 : k0_cond2 v82 = 1#1), ∀ a x, ((![v139, v190] : Fin 2 → IVec S16 32) a x).toNat < S48x128.size a := fun v82 v136 v139 v190 k0_hw25 k0_h2 => k0_hw25.1 k0_h2
theorem k0_idx50_inb : ∀ (v82 : BitVec 32) (v136 : IVec S16 32) (v139 : IVec S16 32) (v190 : IVec S16 32) (k0_hw25 : k0_chk25 v82 v136 v139 v190), ∀ (k0_h2 : k0_cond2 v82 = 1#1), ∀ a x, ((![v190, v136] : Fin 2 → IVec S16 32) a x).toNat < S64x512.size a := fun v82 v136 v139 v190 k0_hw25 k0_h2 => k0_hw25.2 k0_h2

def k0_chk26 (v82 : BitVec 32) (v136 : IVec S16 32) (v139 : IVec S16 32) (v192 : IVec S16 32) : Prop :=
  (∀ (k0_h2 : k0_cond2 v82 = 1#1), ∀ a x, ((![v139, v192] : Fin 2 → IVec S16 32) a x).toNat < S48x128.size a) ∧
  (∀ (k0_h2 : k0_cond2 v82 = 1#1), ∀ a x, ((![v192, v136] : Fin 2 → IVec S16 32) a x).toNat < S64x512.size a)
theorem k0_idx51_inb : ∀ (v82 : BitVec 32) (v136 : IVec S16 32) (v139 : IVec S16 32) (v192 : IVec S16 32) (k0_hw26 : k0_chk26 v82 v136 v139 v192), ∀ (k0_h2 : k0_cond2 v82 = 1#1), ∀ a x, ((![v139, v192] : Fin 2 → IVec S16 32) a x).toNat < S48x128.size a := fun v82 v136 v139 v192 k0_hw26 k0_h2 => k0_hw26.1 k0_h2
theorem k0_idx52_inb : ∀ (v82 : BitVec 32) (v136 : IVec S16 32) (v139 : IVec S16 32) (v192 : IVec S16 32) (k0_hw26 : k0_chk26 v82 v136 v139 v192), ∀ (k0_h2 : k0_cond2 v82 = 1#1), ∀ a x, ((![v192, v136] : Fin 2 → IVec S16 32) a x).toNat < S64x512.size a := fun v82 v136 v139 v192 k0_hw26 k0_h2 => k0_hw26.2 k0_h2

def k0_chk27 (v82 : BitVec 32) (v136 : IVec S16 32) (v139 : IVec S16 32) (v194 : IVec S16 32) : Prop :=
  (∀ (k0_h2 : k0_cond2 v82 = 1#1), ∀ a x, ((![v139, v194] : Fin 2 → IVec S16 32) a x).toNat < S48x128.size a) ∧
  (∀ (k0_h2 : k0_cond2 v82 = 1#1), ∀ a x, ((![v194, v136] : Fin 2 → IVec S16 32) a x).toNat < S64x512.size a)
theorem k0_idx53_inb : ∀ (v82 : BitVec 32) (v136 : IVec S16 32) (v139 : IVec S16 32) (v194 : IVec S16 32) (k0_hw27 : k0_chk27 v82 v136 v139 v194), ∀ (k0_h2 : k0_cond2 v82 = 1#1), ∀ a x, ((![v139, v194] : Fin 2 → IVec S16 32) a x).toNat < S48x128.size a := fun v82 v136 v139 v194 k0_hw27 k0_h2 => k0_hw27.1 k0_h2
theorem k0_idx54_inb : ∀ (v82 : BitVec 32) (v136 : IVec S16 32) (v139 : IVec S16 32) (v194 : IVec S16 32) (k0_hw27 : k0_chk27 v82 v136 v139 v194), ∀ (k0_h2 : k0_cond2 v82 = 1#1), ∀ a x, ((![v194, v136] : Fin 2 → IVec S16 32) a x).toNat < S64x512.size a := fun v82 v136 v139 v194 k0_hw27 k0_h2 => k0_hw27.2 k0_h2

def k0_chk28 (v82 : BitVec 32) (v136 : IVec S16 32) (v139 : IVec S16 32) (v196 : IVec S16 32) : Prop :=
  (∀ (k0_h2 : k0_cond2 v82 = 1#1), ∀ a x, ((![v139, v196] : Fin 2 → IVec S16 32) a x).toNat < S48x128.size a) ∧
  (∀ (k0_h2 : k0_cond2 v82 = 1#1), ∀ a x, ((![v196, v136] : Fin 2 → IVec S16 32) a x).toNat < S64x512.size a)
theorem k0_idx55_inb : ∀ (v82 : BitVec 32) (v136 : IVec S16 32) (v139 : IVec S16 32) (v196 : IVec S16 32) (k0_hw28 : k0_chk28 v82 v136 v139 v196), ∀ (k0_h2 : k0_cond2 v82 = 1#1), ∀ a x, ((![v139, v196] : Fin 2 → IVec S16 32) a x).toNat < S48x128.size a := fun v82 v136 v139 v196 k0_hw28 k0_h2 => k0_hw28.1 k0_h2
theorem k0_idx56_inb : ∀ (v82 : BitVec 32) (v136 : IVec S16 32) (v139 : IVec S16 32) (v196 : IVec S16 32) (k0_hw28 : k0_chk28 v82 v136 v139 v196), ∀ (k0_h2 : k0_cond2 v82 = 1#1), ∀ a x, ((![v196, v136] : Fin 2 → IVec S16 32) a x).toNat < S64x512.size a := fun v82 v136 v139 v196 k0_hw28 k0_h2 => k0_hw28.2 k0_h2

def k0_chk29 (v82 : BitVec 32) (v136 : IVec S16 32) (v139 : IVec S16 32) (v198 : IVec S16 32) : Prop :=
  (∀ (k0_h2 : k0_cond2 v82 = 1#1), ∀ a x, ((![v139, v198] : Fin 2 → IVec S16 32) a x).toNat < S48x128.size a) ∧
  (∀ (k0_h2 : k0_cond2 v82 = 1#1), ∀ a x, ((![v198, v136] : Fin 2 → IVec S16 32) a x).toNat < S64x512.size a)
theorem k0_idx57_inb : ∀ (v82 : BitVec 32) (v136 : IVec S16 32) (v139 : IVec S16 32) (v198 : IVec S16 32) (k0_hw29 : k0_chk29 v82 v136 v139 v198), ∀ (k0_h2 : k0_cond2 v82 = 1#1), ∀ a x, ((![v139, v198] : Fin 2 → IVec S16 32) a x).toNat < S48x128.size a := fun v82 v136 v139 v198 k0_hw29 k0_h2 => k0_hw29.1 k0_h2
theorem k0_idx58_inb : ∀ (v82 : BitVec 32) (v136 : IVec S16 32) (v139 : IVec S16 32) (v198 : IVec S16 32) (k0_hw29 : k0_chk29 v82 v136 v139 v198), ∀ (k0_h2 : k0_cond2 v82 = 1#1), ∀ a x, ((![v198, v136] : Fin 2 → IVec S16 32) a x).toNat < S64x512.size a := fun v82 v136 v139 v198 k0_hw29 k0_h2 => k0_hw29.2 k0_h2

def k0_chk30 (v82 : BitVec 32) (v136 : IVec S16 32) (v139 : IVec S16 32) (v200 : IVec S16 32) : Prop :=
  (∀ (k0_h2 : k0_cond2 v82 = 1#1), ∀ a x, ((![v139, v200] : Fin 2 → IVec S16 32) a x).toNat < S48x128.size a) ∧
  (∀ (k0_h2 : k0_cond2 v82 = 1#1), ∀ a x, ((![v200, v136] : Fin 2 → IVec S16 32) a x).toNat < S64x512.size a)
theorem k0_idx59_inb : ∀ (v82 : BitVec 32) (v136 : IVec S16 32) (v139 : IVec S16 32) (v200 : IVec S16 32) (k0_hw30 : k0_chk30 v82 v136 v139 v200), ∀ (k0_h2 : k0_cond2 v82 = 1#1), ∀ a x, ((![v139, v200] : Fin 2 → IVec S16 32) a x).toNat < S48x128.size a := fun v82 v136 v139 v200 k0_hw30 k0_h2 => k0_hw30.1 k0_h2
theorem k0_idx60_inb : ∀ (v82 : BitVec 32) (v136 : IVec S16 32) (v139 : IVec S16 32) (v200 : IVec S16 32) (k0_hw30 : k0_chk30 v82 v136 v139 v200), ∀ (k0_h2 : k0_cond2 v82 = 1#1), ∀ a x, ((![v200, v136] : Fin 2 → IVec S16 32) a x).toNat < S64x512.size a := fun v82 v136 v139 v200 k0_hw30 k0_h2 => k0_hw30.2 k0_h2

def k0_chk31 (v82 : BitVec 32) (v136 : IVec S16 32) (v139 : IVec S16 32) (v202 : IVec S16 32) : Prop :=
  (∀ (k0_h2 : k0_cond2 v82 = 1#1), ∀ a x, ((![v139, v202] : Fin 2 → IVec S16 32) a x).toNat < S48x128.size a) ∧
  (∀ (k0_h2 : k0_cond2 v82 = 1#1), ∀ a x, ((![v202, v136] : Fin 2 → IVec S16 32) a x).toNat < S64x512.size a)
theorem k0_idx61_inb : ∀ (v82 : BitVec 32) (v136 : IVec S16 32) (v139 : IVec S16 32) (v202 : IVec S16 32) (k0_hw31 : k0_chk31 v82 v136 v139 v202), ∀ (k0_h2 : k0_cond2 v82 = 1#1), ∀ a x, ((![v139, v202] : Fin 2 → IVec S16 32) a x).toNat < S48x128.size a := fun v82 v136 v139 v202 k0_hw31 k0_h2 => k0_hw31.1 k0_h2
theorem k0_idx62_inb : ∀ (v82 : BitVec 32) (v136 : IVec S16 32) (v139 : IVec S16 32) (v202 : IVec S16 32) (k0_hw31 : k0_chk31 v82 v136 v139 v202), ∀ (k0_h2 : k0_cond2 v82 = 1#1), ∀ a x, ((![v202, v136] : Fin 2 → IVec S16 32) a x).toNat < S64x512.size a := fun v82 v136 v139 v202 k0_hw31 k0_h2 => k0_hw31.2 k0_h2

def k0_chk32 (v82 : BitVec 32) (v136 : IVec S16 32) (v139 : IVec S16 32) (v204 : IVec S16 32) : Prop :=
  (∀ (k0_h2 : k0_cond2 v82 = 1#1), ∀ a x, ((![v139, v204] : Fin 2 → IVec S16 32) a x).toNat < S48x128.size a) ∧
  (∀ (k0_h2 : k0_cond2 v82 = 1#1), ∀ a x, ((![v204, v136] : Fin 2 → IVec S16 32) a x).toNat < S64x512.size a)
theorem k0_idx63_inb : ∀ (v82 : BitVec 32) (v136 : IVec S16 32) (v139 : IVec S16 32) (v204 : IVec S16 32) (k0_hw32 : k0_chk32 v82 v136 v139 v204), ∀ (k0_h2 : k0_cond2 v82 = 1#1), ∀ a x, ((![v139, v204] : Fin 2 → IVec S16 32) a x).toNat < S48x128.size a := fun v82 v136 v139 v204 k0_hw32 k0_h2 => k0_hw32.1 k0_h2
theorem k0_idx64_inb : ∀ (v82 : BitVec 32) (v136 : IVec S16 32) (v139 : IVec S16 32) (v204 : IVec S16 32) (k0_hw32 : k0_chk32 v82 v136 v139 v204), ∀ (k0_h2 : k0_cond2 v82 = 1#1), ∀ a x, ((![v204, v136] : Fin 2 → IVec S16 32) a x).toNat < S64x512.size a := fun v82 v136 v139 v204 k0_hw32 k0_h2 => k0_hw32.2 k0_h2

def k0_chk33 (v82 : BitVec 32) (v136 : IVec S16 32) (v139 : IVec S16 32) (v206 : IVec S16 32) : Prop :=
  (∀ (k0_h2 : k0_cond2 v82 = 1#1), ∀ a x, ((![v139, v206] : Fin 2 → IVec S16 32) a x).toNat < S48x128.size a) ∧
  (∀ (k0_h2 : k0_cond2 v82 = 1#1), ∀ a x, ((![v206, v136] : Fin 2 → IVec S16 32) a x).toNat < S64x512.size a)
theorem k0_idx65_inb : ∀ (v82 : BitVec 32) (v136 : IVec S16 32) (v139 : IVec S16 32) (v206 : IVec S16 32) (k0_hw33 : k0_chk33 v82 v136 v139 v206), ∀ (k0_h2 : k0_cond2 v82 = 1#1), ∀ a x, ((![v139, v206] : Fin 2 → IVec S16 32) a x).toNat < S48x128.size a := fun v82 v136 v139 v206 k0_hw33 k0_h2 => k0_hw33.1 k0_h2
theorem k0_idx66_inb : ∀ (v82 : BitVec 32) (v136 : IVec S16 32) (v139 : IVec S16 32) (v206 : IVec S16 32) (k0_hw33 : k0_chk33 v82 v136 v139 v206), ∀ (k0_h2 : k0_cond2 v82 = 1#1), ∀ a x, ((![v206, v136] : Fin 2 → IVec S16 32) a x).toNat < S64x512.size a := fun v82 v136 v139 v206 k0_hw33 k0_h2 => k0_hw33.2 k0_h2

def k0_chk34 (v82 : BitVec 32) (v136 : IVec S16 32) (v139 : IVec S16 32) (v208 : IVec S16 32) : Prop :=
  (∀ (k0_h2 : k0_cond2 v82 = 1#1), ∀ a x, ((![v139, v208] : Fin 2 → IVec S16 32) a x).toNat < S48x128.size a) ∧
  (∀ (k0_h2 : k0_cond2 v82 = 1#1), ∀ a x, ((![v208, v136] : Fin 2 → IVec S16 32) a x).toNat < S64x512.size a)
theorem k0_idx67_inb : ∀ (v82 : BitVec 32) (v136 : IVec S16 32) (v139 : IVec S16 32) (v208 : IVec S16 32) (k0_hw34 : k0_chk34 v82 v136 v139 v208), ∀ (k0_h2 : k0_cond2 v82 = 1#1), ∀ a x, ((![v139, v208] : Fin 2 → IVec S16 32) a x).toNat < S48x128.size a := fun v82 v136 v139 v208 k0_hw34 k0_h2 => k0_hw34.1 k0_h2
theorem k0_idx68_inb : ∀ (v82 : BitVec 32) (v136 : IVec S16 32) (v139 : IVec S16 32) (v208 : IVec S16 32) (k0_hw34 : k0_chk34 v82 v136 v139 v208), ∀ (k0_h2 : k0_cond2 v82 = 1#1), ∀ a x, ((![v208, v136] : Fin 2 → IVec S16 32) a x).toNat < S64x512.size a := fun v82 v136 v139 v208 k0_hw34 k0_h2 => k0_hw34.2 k0_h2

def k0_chk35 (v82 : BitVec 32) (v136 : IVec S16 32) (v139 : IVec S16 32) (v210 : IVec S16 32) : Prop :=
  (∀ (k0_h2 : k0_cond2 v82 = 1#1), ∀ a x, ((![v139, v210] : Fin 2 → IVec S16 32) a x).toNat < S48x128.size a) ∧
  (∀ (k0_h2 : k0_cond2 v82 = 1#1), ∀ a x, ((![v210, v136] : Fin 2 → IVec S16 32) a x).toNat < S64x512.size a)
theorem k0_idx69_inb : ∀ (v82 : BitVec 32) (v136 : IVec S16 32) (v139 : IVec S16 32) (v210 : IVec S16 32) (k0_hw35 : k0_chk35 v82 v136 v139 v210), ∀ (k0_h2 : k0_cond2 v82 = 1#1), ∀ a x, ((![v139, v210] : Fin 2 → IVec S16 32) a x).toNat < S48x128.size a := fun v82 v136 v139 v210 k0_hw35 k0_h2 => k0_hw35.1 k0_h2
theorem k0_idx70_inb : ∀ (v82 : BitVec 32) (v136 : IVec S16 32) (v139 : IVec S16 32) (v210 : IVec S16 32) (k0_hw35 : k0_chk35 v82 v136 v139 v210), ∀ (k0_h2 : k0_cond2 v82 = 1#1), ∀ a x, ((![v210, v136] : Fin 2 → IVec S16 32) a x).toNat < S64x512.size a := fun v82 v136 v139 v210 k0_hw35 k0_h2 => k0_hw35.2 k0_h2

def k0_chk36 (v82 : BitVec 32) (v136 : IVec S16 32) (v139 : IVec S16 32) (v212 : IVec S16 32) : Prop :=
  (∀ (k0_h2 : k0_cond2 v82 = 1#1), ∀ a x, ((![v139, v212] : Fin 2 → IVec S16 32) a x).toNat < S48x128.size a) ∧
  (∀ (k0_h2 : k0_cond2 v82 = 1#1), ∀ a x, ((![v212, v136] : Fin 2 → IVec S16 32) a x).toNat < S64x512.size a)
theorem k0_idx71_inb : ∀ (v82 : BitVec 32) (v136 : IVec S16 32) (v139 : IVec S16 32) (v212 : IVec S16 32) (k0_hw36 : k0_chk36 v82 v136 v139 v212), ∀ (k0_h2 : k0_cond2 v82 = 1#1), ∀ a x, ((![v139, v212] : Fin 2 → IVec S16 32) a x).toNat < S48x128.size a := fun v82 v136 v139 v212 k0_hw36 k0_h2 => k0_hw36.1 k0_h2
theorem k0_idx72_inb : ∀ (v82 : BitVec 32) (v136 : IVec S16 32) (v139 : IVec S16 32) (v212 : IVec S16 32) (k0_hw36 : k0_chk36 v82 v136 v139 v212), ∀ (k0_h2 : k0_cond2 v82 = 1#1), ∀ a x, ((![v212, v136] : Fin 2 → IVec S16 32) a x).toNat < S64x512.size a := fun v82 v136 v139 v212 k0_hw36 k0_h2 => k0_hw36.2 k0_h2

def k0_chk37 (v82 : BitVec 32) (v136 : IVec S16 32) (v139 : IVec S16 32) (v214 : IVec S16 32) : Prop :=
  (∀ (k0_h2 : k0_cond2 v82 = 1#1), ∀ a x, ((![v139, v214] : Fin 2 → IVec S16 32) a x).toNat < S48x128.size a) ∧
  (∀ (k0_h2 : k0_cond2 v82 = 1#1), ∀ a x, ((![v214, v136] : Fin 2 → IVec S16 32) a x).toNat < S64x512.size a)
theorem k0_idx73_inb : ∀ (v82 : BitVec 32) (v136 : IVec S16 32) (v139 : IVec S16 32) (v214 : IVec S16 32) (k0_hw37 : k0_chk37 v82 v136 v139 v214), ∀ (k0_h2 : k0_cond2 v82 = 1#1), ∀ a x, ((![v139, v214] : Fin 2 → IVec S16 32) a x).toNat < S48x128.size a := fun v82 v136 v139 v214 k0_hw37 k0_h2 => k0_hw37.1 k0_h2
theorem k0_idx74_inb : ∀ (v82 : BitVec 32) (v136 : IVec S16 32) (v139 : IVec S16 32) (v214 : IVec S16 32) (k0_hw37 : k0_chk37 v82 v136 v139 v214), ∀ (k0_h2 : k0_cond2 v82 = 1#1), ∀ a x, ((![v214, v136] : Fin 2 → IVec S16 32) a x).toNat < S64x512.size a := fun v82 v136 v139 v214 k0_hw37 k0_h2 => k0_hw37.2 k0_h2

def k0_chk38 (v82 : BitVec 32) (v136 : IVec S16 32) (v139 : IVec S16 32) (v216 : IVec S16 32) : Prop :=
  (∀ (k0_h2 : k0_cond2 v82 = 1#1), ∀ a x, ((![v139, v216] : Fin 2 → IVec S16 32) a x).toNat < S48x128.size a) ∧
  (∀ (k0_h2 : k0_cond2 v82 = 1#1), ∀ a x, ((![v216, v136] : Fin 2 → IVec S16 32) a x).toNat < S64x512.size a)
theorem k0_idx75_inb : ∀ (v82 : BitVec 32) (v136 : IVec S16 32) (v139 : IVec S16 32) (v216 : IVec S16 32) (k0_hw38 : k0_chk38 v82 v136 v139 v216), ∀ (k0_h2 : k0_cond2 v82 = 1#1), ∀ a x, ((![v139, v216] : Fin 2 → IVec S16 32) a x).toNat < S48x128.size a := fun v82 v136 v139 v216 k0_hw38 k0_h2 => k0_hw38.1 k0_h2
theorem k0_idx76_inb : ∀ (v82 : BitVec 32) (v136 : IVec S16 32) (v139 : IVec S16 32) (v216 : IVec S16 32) (k0_hw38 : k0_chk38 v82 v136 v139 v216), ∀ (k0_h2 : k0_cond2 v82 = 1#1), ∀ a x, ((![v216, v136] : Fin 2 → IVec S16 32) a x).toNat < S64x512.size a := fun v82 v136 v139 v216 k0_hw38 k0_h2 => k0_hw38.2 k0_h2

def k0_chk39 (v82 : BitVec 32) (v136 : IVec S16 32) (v139 : IVec S16 32) (v218 : IVec S16 32) : Prop :=
  (∀ (k0_h2 : k0_cond2 v82 = 1#1), ∀ a x, ((![v139, v218] : Fin 2 → IVec S16 32) a x).toNat < S48x128.size a) ∧
  (∀ (k0_h2 : k0_cond2 v82 = 1#1), ∀ a x, ((![v218, v136] : Fin 2 → IVec S16 32) a x).toNat < S64x512.size a)
theorem k0_idx77_inb : ∀ (v82 : BitVec 32) (v136 : IVec S16 32) (v139 : IVec S16 32) (v218 : IVec S16 32) (k0_hw39 : k0_chk39 v82 v136 v139 v218), ∀ (k0_h2 : k0_cond2 v82 = 1#1), ∀ a x, ((![v139, v218] : Fin 2 → IVec S16 32) a x).toNat < S48x128.size a := fun v82 v136 v139 v218 k0_hw39 k0_h2 => k0_hw39.1 k0_h2
theorem k0_idx78_inb : ∀ (v82 : BitVec 32) (v136 : IVec S16 32) (v139 : IVec S16 32) (v218 : IVec S16 32) (k0_hw39 : k0_chk39 v82 v136 v139 v218), ∀ (k0_h2 : k0_cond2 v82 = 1#1), ∀ a x, ((![v218, v136] : Fin 2 → IVec S16 32) a x).toNat < S64x512.size a := fun v82 v136 v139 v218 k0_hw39 k0_h2 => k0_hw39.2 k0_h2

def k0_chk40 (v82 : BitVec 32) (v136 : IVec S16 32) (v139 : IVec S16 32) (v220 : IVec S16 32) : Prop :=
  (∀ (k0_h2 : k0_cond2 v82 = 1#1), ∀ a x, ((![v139, v220] : Fin 2 → IVec S16 32) a x).toNat < S48x128.size a) ∧
  (∀ (k0_h2 : k0_cond2 v82 = 1#1), ∀ a x, ((![v220, v136] : Fin 2 → IVec S16 32) a x).toNat < S64x512.size a)
theorem k0_idx79_inb : ∀ (v82 : BitVec 32) (v136 : IVec S16 32) (v139 : IVec S16 32) (v220 : IVec S16 32) (k0_hw40 : k0_chk40 v82 v136 v139 v220), ∀ (k0_h2 : k0_cond2 v82 = 1#1), ∀ a x, ((![v139, v220] : Fin 2 → IVec S16 32) a x).toNat < S48x128.size a := fun v82 v136 v139 v220 k0_hw40 k0_h2 => k0_hw40.1 k0_h2
theorem k0_idx80_inb : ∀ (v82 : BitVec 32) (v136 : IVec S16 32) (v139 : IVec S16 32) (v220 : IVec S16 32) (k0_hw40 : k0_chk40 v82 v136 v139 v220), ∀ (k0_h2 : k0_cond2 v82 = 1#1), ∀ a x, ((![v220, v136] : Fin 2 → IVec S16 32) a x).toNat < S64x512.size a := fun v82 v136 v139 v220 k0_hw40 k0_h2 => k0_hw40.2 k0_h2

def k0_chk41 (v82 : BitVec 32) (v136 : IVec S16 32) (v139 : IVec S16 32) (v222 : IVec S16 32) : Prop :=
  (∀ (k0_h2 : k0_cond2 v82 = 1#1), ∀ a x, ((![v139, v222] : Fin 2 → IVec S16 32) a x).toNat < S48x128.size a) ∧
  (∀ (k0_h2 : k0_cond2 v82 = 1#1), ∀ a x, ((![v222, v136] : Fin 2 → IVec S16 32) a x).toNat < S64x512.size a)
theorem k0_idx81_inb : ∀ (v82 : BitVec 32) (v136 : IVec S16 32) (v139 : IVec S16 32) (v222 : IVec S16 32) (k0_hw41 : k0_chk41 v82 v136 v139 v222), ∀ (k0_h2 : k0_cond2 v82 = 1#1), ∀ a x, ((![v139, v222] : Fin 2 → IVec S16 32) a x).toNat < S48x128.size a := fun v82 v136 v139 v222 k0_hw41 k0_h2 => k0_hw41.1 k0_h2
theorem k0_idx82_inb : ∀ (v82 : BitVec 32) (v136 : IVec S16 32) (v139 : IVec S16 32) (v222 : IVec S16 32) (k0_hw41 : k0_chk41 v82 v136 v139 v222), ∀ (k0_h2 : k0_cond2 v82 = 1#1), ∀ a x, ((![v222, v136] : Fin 2 → IVec S16 32) a x).toNat < S64x512.size a := fun v82 v136 v139 v222 k0_hw41 k0_h2 => k0_hw41.2 k0_h2

def k0_chk42 (v82 : BitVec 32) (v136 : IVec S16 32) (v139 : IVec S16 32) (v224 : IVec S16 32) : Prop :=
  (∀ (k0_h2 : k0_cond2 v82 = 1#1), ∀ a x, ((![v139, v224] : Fin 2 → IVec S16 32) a x).toNat < S48x128.size a) ∧
  (∀ (k0_h2 : k0_cond2 v82 = 1#1), ∀ a x, ((![v224, v136] : Fin 2 → IVec S16 32) a x).toNat < S64x512.size a)
theorem k0_idx83_inb : ∀ (v82 : BitVec 32) (v136 : IVec S16 32) (v139 : IVec S16 32) (v224 : IVec S16 32) (k0_hw42 : k0_chk42 v82 v136 v139 v224), ∀ (k0_h2 : k0_cond2 v82 = 1#1), ∀ a x, ((![v139, v224] : Fin 2 → IVec S16 32) a x).toNat < S48x128.size a := fun v82 v136 v139 v224 k0_hw42 k0_h2 => k0_hw42.1 k0_h2
theorem k0_idx84_inb : ∀ (v82 : BitVec 32) (v136 : IVec S16 32) (v139 : IVec S16 32) (v224 : IVec S16 32) (k0_hw42 : k0_chk42 v82 v136 v139 v224), ∀ (k0_h2 : k0_cond2 v82 = 1#1), ∀ a x, ((![v224, v136] : Fin 2 → IVec S16 32) a x).toNat < S64x512.size a := fun v82 v136 v139 v224 k0_hw42 k0_h2 => k0_hw42.2 k0_h2

def k0_chk43 (v82 : BitVec 32) (v136 : IVec S16 32) (v139 : IVec S16 32) (v226 : IVec S16 32) : Prop :=
  (∀ (k0_h2 : k0_cond2 v82 = 1#1), ∀ a x, ((![v139, v226] : Fin 2 → IVec S16 32) a x).toNat < S48x128.size a) ∧
  (∀ (k0_h2 : k0_cond2 v82 = 1#1), ∀ a x, ((![v226, v136] : Fin 2 → IVec S16 32) a x).toNat < S64x512.size a)
theorem k0_idx85_inb : ∀ (v82 : BitVec 32) (v136 : IVec S16 32) (v139 : IVec S16 32) (v226 : IVec S16 32) (k0_hw43 : k0_chk43 v82 v136 v139 v226), ∀ (k0_h2 : k0_cond2 v82 = 1#1), ∀ a x, ((![v139, v226] : Fin 2 → IVec S16 32) a x).toNat < S48x128.size a := fun v82 v136 v139 v226 k0_hw43 k0_h2 => k0_hw43.1 k0_h2
theorem k0_idx86_inb : ∀ (v82 : BitVec 32) (v136 : IVec S16 32) (v139 : IVec S16 32) (v226 : IVec S16 32) (k0_hw43 : k0_chk43 v82 v136 v139 v226), ∀ (k0_h2 : k0_cond2 v82 = 1#1), ∀ a x, ((![v226, v136] : Fin 2 → IVec S16 32) a x).toNat < S64x512.size a := fun v82 v136 v139 v226 k0_hw43 k0_h2 => k0_hw43.2 k0_h2

def k0_chk44 (v82 : BitVec 32) (v136 : IVec S16 32) (v139 : IVec S16 32) (v228 : IVec S16 32) : Prop :=
  (∀ (k0_h2 : k0_cond2 v82 = 1#1), ∀ a x, ((![v139, v228] : Fin 2 → IVec S16 32) a x).toNat < S48x128.size a) ∧
  (∀ (k0_h2 : k0_cond2 v82 = 1#1), ∀ a x, ((![v228, v136] : Fin 2 → IVec S16 32) a x).toNat < S64x512.size a)
theorem k0_idx87_inb : ∀ (v82 : BitVec 32) (v136 : IVec S16 32) (v139 : IVec S16 32) (v228 : IVec S16 32) (k0_hw44 : k0_chk44 v82 v136 v139 v228), ∀ (k0_h2 : k0_cond2 v82 = 1#1), ∀ a x, ((![v139, v228] : Fin 2 → IVec S16 32) a x).toNat < S48x128.size a := fun v82 v136 v139 v228 k0_hw44 k0_h2 => k0_hw44.1 k0_h2
theorem k0_idx88_inb : ∀ (v82 : BitVec 32) (v136 : IVec S16 32) (v139 : IVec S16 32) (v228 : IVec S16 32) (k0_hw44 : k0_chk44 v82 v136 v139 v228), ∀ (k0_h2 : k0_cond2 v82 = 1#1), ∀ a x, ((![v228, v136] : Fin 2 → IVec S16 32) a x).toNat < S64x512.size a := fun v82 v136 v139 v228 k0_hw44 k0_h2 => k0_hw44.2 k0_h2

def k0_chk45 (v82 : BitVec 32) (v136 : IVec S16 32) (v139 : IVec S16 32) (v230 : IVec S16 32) : Prop :=
  (∀ (k0_h2 : k0_cond2 v82 = 1#1), ∀ a x, ((![v139, v230] : Fin 2 → IVec S16 32) a x).toNat < S48x128.size a) ∧
  (∀ (k0_h2 : k0_cond2 v82 = 1#1), ∀ a x, ((![v230, v136] : Fin 2 → IVec S16 32) a x).toNat < S64x512.size a)
theorem k0_idx89_inb : ∀ (v82 : BitVec 32) (v136 : IVec S16 32) (v139 : IVec S16 32) (v230 : IVec S16 32) (k0_hw45 : k0_chk45 v82 v136 v139 v230), ∀ (k0_h2 : k0_cond2 v82 = 1#1), ∀ a x, ((![v139, v230] : Fin 2 → IVec S16 32) a x).toNat < S48x128.size a := fun v82 v136 v139 v230 k0_hw45 k0_h2 => k0_hw45.1 k0_h2
theorem k0_idx90_inb : ∀ (v82 : BitVec 32) (v136 : IVec S16 32) (v139 : IVec S16 32) (v230 : IVec S16 32) (k0_hw45 : k0_chk45 v82 v136 v139 v230), ∀ (k0_h2 : k0_cond2 v82 = 1#1), ∀ a x, ((![v230, v136] : Fin 2 → IVec S16 32) a x).toNat < S64x512.size a := fun v82 v136 v139 v230 k0_hw45 k0_h2 => k0_hw45.2 k0_h2

def k0_chk46 (v82 : BitVec 32) (v136 : IVec S16 32) (v139 : IVec S16 32) (v232 : IVec S16 32) : Prop :=
  (∀ (k0_h2 : k0_cond2 v82 = 1#1), ∀ a x, ((![v139, v232] : Fin 2 → IVec S16 32) a x).toNat < S48x128.size a) ∧
  (∀ (k0_h2 : k0_cond2 v82 = 1#1), ∀ a x, ((![v232, v136] : Fin 2 → IVec S16 32) a x).toNat < S64x512.size a)
theorem k0_idx91_inb : ∀ (v82 : BitVec 32) (v136 : IVec S16 32) (v139 : IVec S16 32) (v232 : IVec S16 32) (k0_hw46 : k0_chk46 v82 v136 v139 v232), ∀ (k0_h2 : k0_cond2 v82 = 1#1), ∀ a x, ((![v139, v232] : Fin 2 → IVec S16 32) a x).toNat < S48x128.size a := fun v82 v136 v139 v232 k0_hw46 k0_h2 => k0_hw46.1 k0_h2
theorem k0_idx92_inb : ∀ (v82 : BitVec 32) (v136 : IVec S16 32) (v139 : IVec S16 32) (v232 : IVec S16 32) (k0_hw46 : k0_chk46 v82 v136 v139 v232), ∀ (k0_h2 : k0_cond2 v82 = 1#1), ∀ a x, ((![v232, v136] : Fin 2 → IVec S16 32) a x).toNat < S64x512.size a := fun v82 v136 v139 v232 k0_hw46 k0_h2 => k0_hw46.2 k0_h2

def k0_chk47 (v82 : BitVec 32) (v136 : IVec S16 32) (v139 : IVec S16 32) (v234 : IVec S16 32) : Prop :=
  (∀ (k0_h2 : k0_cond2 v82 = 1#1), ∀ a x, ((![v139, v234] : Fin 2 → IVec S16 32) a x).toNat < S48x128.size a) ∧
  (∀ (k0_h2 : k0_cond2 v82 = 1#1), ∀ a x, ((![v234, v136] : Fin 2 → IVec S16 32) a x).toNat < S64x512.size a)
theorem k0_idx93_inb : ∀ (v82 : BitVec 32) (v136 : IVec S16 32) (v139 : IVec S16 32) (v234 : IVec S16 32) (k0_hw47 : k0_chk47 v82 v136 v139 v234), ∀ (k0_h2 : k0_cond2 v82 = 1#1), ∀ a x, ((![v139, v234] : Fin 2 → IVec S16 32) a x).toNat < S48x128.size a := fun v82 v136 v139 v234 k0_hw47 k0_h2 => k0_hw47.1 k0_h2
theorem k0_idx94_inb : ∀ (v82 : BitVec 32) (v136 : IVec S16 32) (v139 : IVec S16 32) (v234 : IVec S16 32) (k0_hw47 : k0_chk47 v82 v136 v139 v234), ∀ (k0_h2 : k0_cond2 v82 = 1#1), ∀ a x, ((![v234, v136] : Fin 2 → IVec S16 32) a x).toNat < S64x512.size a := fun v82 v136 v139 v234 k0_hw47 k0_h2 => k0_hw47.2 k0_h2

def k0_chk48 (v82 : BitVec 32) (v136 : IVec S16 32) (v139 : IVec S16 32) (v236 : IVec S16 32) : Prop :=
  (∀ (k0_h2 : k0_cond2 v82 = 1#1), ∀ a x, ((![v139, v236] : Fin 2 → IVec S16 32) a x).toNat < S48x128.size a) ∧
  (∀ (k0_h2 : k0_cond2 v82 = 1#1), ∀ a x, ((![v236, v136] : Fin 2 → IVec S16 32) a x).toNat < S64x512.size a)
theorem k0_idx95_inb : ∀ (v82 : BitVec 32) (v136 : IVec S16 32) (v139 : IVec S16 32) (v236 : IVec S16 32) (k0_hw48 : k0_chk48 v82 v136 v139 v236), ∀ (k0_h2 : k0_cond2 v82 = 1#1), ∀ a x, ((![v139, v236] : Fin 2 → IVec S16 32) a x).toNat < S48x128.size a := fun v82 v136 v139 v236 k0_hw48 k0_h2 => k0_hw48.1 k0_h2
theorem k0_idx96_inb : ∀ (v82 : BitVec 32) (v136 : IVec S16 32) (v139 : IVec S16 32) (v236 : IVec S16 32) (k0_hw48 : k0_chk48 v82 v136 v139 v236), ∀ (k0_h2 : k0_cond2 v82 = 1#1), ∀ a x, ((![v236, v136] : Fin 2 → IVec S16 32) a x).toNat < S64x512.size a := fun v82 v136 v139 v236 k0_hw48 k0_h2 => k0_hw48.2 k0_h2

def k0_chk49 (v82 : BitVec 32) (v136 : IVec S16 32) (v139 : IVec S16 32) (v238 : IVec S16 32) : Prop :=
  (∀ (k0_h2 : k0_cond2 v82 = 1#1), ∀ a x, ((![v139, v238] : Fin 2 → IVec S16 32) a x).toNat < S48x128.size a) ∧
  (∀ (k0_h2 : k0_cond2 v82 = 1#1), ∀ a x, ((![v238, v136] : Fin 2 → IVec S16 32) a x).toNat < S64x512.size a)
theorem k0_idx97_inb : ∀ (v82 : BitVec 32) (v136 : IVec S16 32) (v139 : IVec S16 32) (v238 : IVec S16 32) (k0_hw49 : k0_chk49 v82 v136 v139 v238), ∀ (k0_h2 : k0_cond2 v82 = 1#1), ∀ a x, ((![v139, v238] : Fin 2 → IVec S16 32) a x).toNat < S48x128.size a := fun v82 v136 v139 v238 k0_hw49 k0_h2 => k0_hw49.1 k0_h2
theorem k0_idx98_inb : ∀ (v82 : BitVec 32) (v136 : IVec S16 32) (v139 : IVec S16 32) (v238 : IVec S16 32) (k0_hw49 : k0_chk49 v82 v136 v139 v238), ∀ (k0_h2 : k0_cond2 v82 = 1#1), ∀ a x, ((![v238, v136] : Fin 2 → IVec S16 32) a x).toNat < S64x512.size a := fun v82 v136 v139 v238 k0_hw49 k0_h2 => k0_hw49.2 k0_h2

def k0_chk50 (v82 : BitVec 32) (v136 : IVec S16 32) (v139 : IVec S16 32) (v240 : IVec S16 32) : Prop :=
  (∀ (k0_h2 : k0_cond2 v82 = 1#1), ∀ a x, ((![v139, v240] : Fin 2 → IVec S16 32) a x).toNat < S48x128.size a) ∧
  (∀ (k0_h2 : k0_cond2 v82 = 1#1), ∀ a x, ((![v240, v136] : Fin 2 → IVec S16 32) a x).toNat < S64x512.size a)
theorem k0_idx99_inb : ∀ (v82 : BitVec 32) (v136 : IVec S16 32) (v139 : IVec S16 32) (v240 : IVec S16 32) (k0_hw50 : k0_chk50 v82 v136 v139 v240), ∀ (k0_h2 : k0_cond2 v82 = 1#1), ∀ a x, ((![v139, v240] : Fin 2 → IVec S16 32) a x).toNat < S48x128.size a := fun v82 v136 v139 v240 k0_hw50 k0_h2 => k0_hw50.1 k0_h2
theorem k0_idx100_inb : ∀ (v82 : BitVec 32) (v136 : IVec S16 32) (v139 : IVec S16 32) (v240 : IVec S16 32) (k0_hw50 : k0_chk50 v82 v136 v139 v240), ∀ (k0_h2 : k0_cond2 v82 = 1#1), ∀ a x, ((![v240, v136] : Fin 2 → IVec S16 32) a x).toNat < S64x512.size a := fun v82 v136 v139 v240 k0_hw50 k0_h2 => k0_hw50.2 k0_h2

def k0_chk51 (v82 : BitVec 32) (v136 : IVec S16 32) (v139 : IVec S16 32) (v242 : IVec S16 32) : Prop :=
  (∀ (k0_h2 : k0_cond2 v82 = 1#1), ∀ a x, ((![v139, v242] : Fin 2 → IVec S16 32) a x).toNat < S48x128.size a) ∧
  (∀ (k0_h2 : k0_cond2 v82 = 1#1), ∀ a x, ((![v242, v136] : Fin 2 → IVec S16 32) a x).toNat < S64x512.size a)
theorem k0_idx101_inb : ∀ (v82 : BitVec 32) (v136 : IVec S16 32) (v139 : IVec S16 32) (v242 : IVec S16 32) (k0_hw51 : k0_chk51 v82 v136 v139 v242), ∀ (k0_h2 : k0_cond2 v82 = 1#1), ∀ a x, ((![v139, v242] : Fin 2 → IVec S16 32) a x).toNat < S48x128.size a := fun v82 v136 v139 v242 k0_hw51 k0_h2 => k0_hw51.1 k0_h2
theorem k0_idx102_inb : ∀ (v82 : BitVec 32) (v136 : IVec S16 32) (v139 : IVec S16 32) (v242 : IVec S16 32) (k0_hw51 : k0_chk51 v82 v136 v139 v242), ∀ (k0_h2 : k0_cond2 v82 = 1#1), ∀ a x, ((![v242, v136] : Fin 2 → IVec S16 32) a x).toNat < S64x512.size a := fun v82 v136 v139 v242 k0_hw51 k0_h2 => k0_hw51.2 k0_h2

def k0_chk52 (v82 : BitVec 32) (v136 : IVec S16 32) (v139 : IVec S16 32) (v244 : IVec S16 32) : Prop :=
  (∀ (k0_h2 : k0_cond2 v82 = 1#1), ∀ a x, ((![v139, v244] : Fin 2 → IVec S16 32) a x).toNat < S48x128.size a) ∧
  (∀ (k0_h2 : k0_cond2 v82 = 1#1), ∀ a x, ((![v244, v136] : Fin 2 → IVec S16 32) a x).toNat < S64x512.size a)
theorem k0_idx103_inb : ∀ (v82 : BitVec 32) (v136 : IVec S16 32) (v139 : IVec S16 32) (v244 : IVec S16 32) (k0_hw52 : k0_chk52 v82 v136 v139 v244), ∀ (k0_h2 : k0_cond2 v82 = 1#1), ∀ a x, ((![v139, v244] : Fin 2 → IVec S16 32) a x).toNat < S48x128.size a := fun v82 v136 v139 v244 k0_hw52 k0_h2 => k0_hw52.1 k0_h2
theorem k0_idx104_inb : ∀ (v82 : BitVec 32) (v136 : IVec S16 32) (v139 : IVec S16 32) (v244 : IVec S16 32) (k0_hw52 : k0_chk52 v82 v136 v139 v244), ∀ (k0_h2 : k0_cond2 v82 = 1#1), ∀ a x, ((![v244, v136] : Fin 2 → IVec S16 32) a x).toNat < S64x512.size a := fun v82 v136 v139 v244 k0_hw52 k0_h2 => k0_hw52.2 k0_h2

def k0_chk53 (v82 : BitVec 32) (v136 : IVec S16 32) (v139 : IVec S16 32) (v246 : IVec S16 32) : Prop :=
  (∀ (k0_h2 : k0_cond2 v82 = 1#1), ∀ a x, ((![v139, v246] : Fin 2 → IVec S16 32) a x).toNat < S48x128.size a) ∧
  (∀ (k0_h2 : k0_cond2 v82 = 1#1), ∀ a x, ((![v246, v136] : Fin 2 → IVec S16 32) a x).toNat < S64x512.size a)
theorem k0_idx105_inb : ∀ (v82 : BitVec 32) (v136 : IVec S16 32) (v139 : IVec S16 32) (v246 : IVec S16 32) (k0_hw53 : k0_chk53 v82 v136 v139 v246), ∀ (k0_h2 : k0_cond2 v82 = 1#1), ∀ a x, ((![v139, v246] : Fin 2 → IVec S16 32) a x).toNat < S48x128.size a := fun v82 v136 v139 v246 k0_hw53 k0_h2 => k0_hw53.1 k0_h2
theorem k0_idx106_inb : ∀ (v82 : BitVec 32) (v136 : IVec S16 32) (v139 : IVec S16 32) (v246 : IVec S16 32) (k0_hw53 : k0_chk53 v82 v136 v139 v246), ∀ (k0_h2 : k0_cond2 v82 = 1#1), ∀ a x, ((![v246, v136] : Fin 2 → IVec S16 32) a x).toNat < S64x512.size a := fun v82 v136 v139 v246 k0_hw53 k0_h2 => k0_hw53.2 k0_h2

def k0_chk54 (v82 : BitVec 32) (v136 : IVec S16 32) (v139 : IVec S16 32) (v248 : IVec S16 32) : Prop :=
  (∀ (k0_h2 : k0_cond2 v82 = 1#1), ∀ a x, ((![v139, v248] : Fin 2 → IVec S16 32) a x).toNat < S48x128.size a) ∧
  (∀ (k0_h2 : k0_cond2 v82 = 1#1), ∀ a x, ((![v248, v136] : Fin 2 → IVec S16 32) a x).toNat < S64x512.size a)
theorem k0_idx107_inb : ∀ (v82 : BitVec 32) (v136 : IVec S16 32) (v139 : IVec S16 32) (v248 : IVec S16 32) (k0_hw54 : k0_chk54 v82 v136 v139 v248), ∀ (k0_h2 : k0_cond2 v82 = 1#1), ∀ a x, ((![v139, v248] : Fin 2 → IVec S16 32) a x).toNat < S48x128.size a := fun v82 v136 v139 v248 k0_hw54 k0_h2 => k0_hw54.1 k0_h2
theorem k0_idx108_inb : ∀ (v82 : BitVec 32) (v136 : IVec S16 32) (v139 : IVec S16 32) (v248 : IVec S16 32) (k0_hw54 : k0_chk54 v82 v136 v139 v248), ∀ (k0_h2 : k0_cond2 v82 = 1#1), ∀ a x, ((![v248, v136] : Fin 2 → IVec S16 32) a x).toNat < S64x512.size a := fun v82 v136 v139 v248 k0_hw54 k0_h2 => k0_hw54.2 k0_h2

def k0_chk55 (v82 : BitVec 32) (v136 : IVec S16 32) (v139 : IVec S16 32) (v250 : IVec S16 32) : Prop :=
  (∀ (k0_h2 : k0_cond2 v82 = 1#1), ∀ a x, ((![v139, v250] : Fin 2 → IVec S16 32) a x).toNat < S48x128.size a) ∧
  (∀ (k0_h2 : k0_cond2 v82 = 1#1), ∀ a x, ((![v250, v136] : Fin 2 → IVec S16 32) a x).toNat < S64x512.size a)
theorem k0_idx109_inb : ∀ (v82 : BitVec 32) (v136 : IVec S16 32) (v139 : IVec S16 32) (v250 : IVec S16 32) (k0_hw55 : k0_chk55 v82 v136 v139 v250), ∀ (k0_h2 : k0_cond2 v82 = 1#1), ∀ a x, ((![v139, v250] : Fin 2 → IVec S16 32) a x).toNat < S48x128.size a := fun v82 v136 v139 v250 k0_hw55 k0_h2 => k0_hw55.1 k0_h2
theorem k0_idx110_inb : ∀ (v82 : BitVec 32) (v136 : IVec S16 32) (v139 : IVec S16 32) (v250 : IVec S16 32) (k0_hw55 : k0_chk55 v82 v136 v139 v250), ∀ (k0_h2 : k0_cond2 v82 = 1#1), ∀ a x, ((![v250, v136] : Fin 2 → IVec S16 32) a x).toNat < S64x512.size a := fun v82 v136 v139 v250 k0_hw55 k0_h2 => k0_hw55.2 k0_h2

def k0_chk56 (v82 : BitVec 32) (v136 : IVec S16 32) (v139 : IVec S16 32) (v252 : IVec S16 32) : Prop :=
  (∀ (k0_h2 : k0_cond2 v82 = 1#1), ∀ a x, ((![v139, v252] : Fin 2 → IVec S16 32) a x).toNat < S48x128.size a) ∧
  (∀ (k0_h2 : k0_cond2 v82 = 1#1), ∀ a x, ((![v252, v136] : Fin 2 → IVec S16 32) a x).toNat < S64x512.size a)
theorem k0_idx111_inb : ∀ (v82 : BitVec 32) (v136 : IVec S16 32) (v139 : IVec S16 32) (v252 : IVec S16 32) (k0_hw56 : k0_chk56 v82 v136 v139 v252), ∀ (k0_h2 : k0_cond2 v82 = 1#1), ∀ a x, ((![v139, v252] : Fin 2 → IVec S16 32) a x).toNat < S48x128.size a := fun v82 v136 v139 v252 k0_hw56 k0_h2 => k0_hw56.1 k0_h2
theorem k0_idx112_inb : ∀ (v82 : BitVec 32) (v136 : IVec S16 32) (v139 : IVec S16 32) (v252 : IVec S16 32) (k0_hw56 : k0_chk56 v82 v136 v139 v252), ∀ (k0_h2 : k0_cond2 v82 = 1#1), ∀ a x, ((![v252, v136] : Fin 2 → IVec S16 32) a x).toNat < S64x512.size a := fun v82 v136 v139 v252 k0_hw56 k0_h2 => k0_hw56.2 k0_h2

def k0_chk57 (v82 : BitVec 32) (v136 : IVec S16 32) (v139 : IVec S16 32) (v254 : IVec S16 32) : Prop :=
  (∀ (k0_h2 : k0_cond2 v82 = 1#1), ∀ a x, ((![v139, v254] : Fin 2 → IVec S16 32) a x).toNat < S48x128.size a) ∧
  (∀ (k0_h2 : k0_cond2 v82 = 1#1), ∀ a x, ((![v254, v136] : Fin 2 → IVec S16 32) a x).toNat < S64x512.size a)
theorem k0_idx113_inb : ∀ (v82 : BitVec 32) (v136 : IVec S16 32) (v139 : IVec S16 32) (v254 : IVec S16 32) (k0_hw57 : k0_chk57 v82 v136 v139 v254), ∀ (k0_h2 : k0_cond2 v82 = 1#1), ∀ a x, ((![v139, v254] : Fin 2 → IVec S16 32) a x).toNat < S48x128.size a := fun v82 v136 v139 v254 k0_hw57 k0_h2 => k0_hw57.1 k0_h2
theorem k0_idx114_inb : ∀ (v82 : BitVec 32) (v136 : IVec S16 32) (v139 : IVec S16 32) (v254 : IVec S16 32) (k0_hw57 : k0_chk57 v82 v136 v139 v254), ∀ (k0_h2 : k0_cond2 v82 = 1#1), ∀ a x, ((![v254, v136] : Fin 2 → IVec S16 32) a x).toNat < S64x512.size a := fun v82 v136 v139 v254 k0_hw57 k0_h2 => k0_hw57.2 k0_h2

def k0_chk58 (v82 : BitVec 32) (v136 : IVec S16 32) (v139 : IVec S16 32) (v256 : IVec S16 32) : Prop :=
  (∀ (k0_h2 : k0_cond2 v82 = 1#1), ∀ a x, ((![v139, v256] : Fin 2 → IVec S16 32) a x).toNat < S48x128.size a) ∧
  (∀ (k0_h2 : k0_cond2 v82 = 1#1), ∀ a x, ((![v256, v136] : Fin 2 → IVec S16 32) a x).toNat < S64x512.size a)
theorem k0_idx115_inb : ∀ (v82 : BitVec 32) (v136 : IVec S16 32) (v139 : IVec S16 32) (v256 : IVec S16 32) (k0_hw58 : k0_chk58 v82 v136 v139 v256), ∀ (k0_h2 : k0_cond2 v82 = 1#1), ∀ a x, ((![v139, v256] : Fin 2 → IVec S16 32) a x).toNat < S48x128.size a := fun v82 v136 v139 v256 k0_hw58 k0_h2 => k0_hw58.1 k0_h2
theorem k0_idx116_inb : ∀ (v82 : BitVec 32) (v136 : IVec S16 32) (v139 : IVec S16 32) (v256 : IVec S16 32) (k0_hw58 : k0_chk58 v82 v136 v139 v256), ∀ (k0_h2 : k0_cond2 v82 = 1#1), ∀ a x, ((![v256, v136] : Fin 2 → IVec S16 32) a x).toNat < S64x512.size a := fun v82 v136 v139 v256 k0_hw58 k0_h2 => k0_hw58.2 k0_h2

def k0_chk59 (v82 : BitVec 32) (v136 : IVec S16 32) (v139 : IVec S16 32) (v258 : IVec S16 32) : Prop :=
  (∀ (k0_h2 : k0_cond2 v82 = 1#1), ∀ a x, ((![v139, v258] : Fin 2 → IVec S16 32) a x).toNat < S48x128.size a) ∧
  (∀ (k0_h2 : k0_cond2 v82 = 1#1), ∀ a x, ((![v258, v136] : Fin 2 → IVec S16 32) a x).toNat < S64x512.size a)
theorem k0_idx117_inb : ∀ (v82 : BitVec 32) (v136 : IVec S16 32) (v139 : IVec S16 32) (v258 : IVec S16 32) (k0_hw59 : k0_chk59 v82 v136 v139 v258), ∀ (k0_h2 : k0_cond2 v82 = 1#1), ∀ a x, ((![v139, v258] : Fin 2 → IVec S16 32) a x).toNat < S48x128.size a := fun v82 v136 v139 v258 k0_hw59 k0_h2 => k0_hw59.1 k0_h2
theorem k0_idx118_inb : ∀ (v82 : BitVec 32) (v136 : IVec S16 32) (v139 : IVec S16 32) (v258 : IVec S16 32) (k0_hw59 : k0_chk59 v82 v136 v139 v258), ∀ (k0_h2 : k0_cond2 v82 = 1#1), ∀ a x, ((![v258, v136] : Fin 2 → IVec S16 32) a x).toNat < S64x512.size a := fun v82 v136 v139 v258 k0_hw59 k0_h2 => k0_hw59.2 k0_h2

def k0_chk60 (v82 : BitVec 32) (v136 : IVec S16 32) (v139 : IVec S16 32) (v260 : IVec S16 32) : Prop :=
  (∀ (k0_h2 : k0_cond2 v82 = 1#1), ∀ a x, ((![v139, v260] : Fin 2 → IVec S16 32) a x).toNat < S48x128.size a) ∧
  (∀ (k0_h2 : k0_cond2 v82 = 1#1), ∀ a x, ((![v260, v136] : Fin 2 → IVec S16 32) a x).toNat < S64x512.size a)
theorem k0_idx119_inb : ∀ (v82 : BitVec 32) (v136 : IVec S16 32) (v139 : IVec S16 32) (v260 : IVec S16 32) (k0_hw60 : k0_chk60 v82 v136 v139 v260), ∀ (k0_h2 : k0_cond2 v82 = 1#1), ∀ a x, ((![v139, v260] : Fin 2 → IVec S16 32) a x).toNat < S48x128.size a := fun v82 v136 v139 v260 k0_hw60 k0_h2 => k0_hw60.1 k0_h2
theorem k0_idx120_inb : ∀ (v82 : BitVec 32) (v136 : IVec S16 32) (v139 : IVec S16 32) (v260 : IVec S16 32) (k0_hw60 : k0_chk60 v82 v136 v139 v260), ∀ (k0_h2 : k0_cond2 v82 = 1#1), ∀ a x, ((![v260, v136] : Fin 2 → IVec S16 32) a x).toNat < S64x512.size a := fun v82 v136 v139 v260 k0_hw60 k0_h2 => k0_hw60.2 k0_h2

def k0_chk61 (v82 : BitVec 32) (v136 : IVec S16 32) (v139 : IVec S16 32) (v262 : IVec S16 32) : Prop :=
  (∀ (k0_h2 : k0_cond2 v82 = 1#1), ∀ a x, ((![v139, v262] : Fin 2 → IVec S16 32) a x).toNat < S48x128.size a) ∧
  (∀ (k0_h2 : k0_cond2 v82 = 1#1), ∀ a x, ((![v262, v136] : Fin 2 → IVec S16 32) a x).toNat < S64x512.size a)
theorem k0_idx121_inb : ∀ (v82 : BitVec 32) (v136 : IVec S16 32) (v139 : IVec S16 32) (v262 : IVec S16 32) (k0_hw61 : k0_chk61 v82 v136 v139 v262), ∀ (k0_h2 : k0_cond2 v82 = 1#1), ∀ a x, ((![v139, v262] : Fin 2 → IVec S16 32) a x).toNat < S48x128.size a := fun v82 v136 v139 v262 k0_hw61 k0_h2 => k0_hw61.1 k0_h2
theorem k0_idx122_inb : ∀ (v82 : BitVec 32) (v136 : IVec S16 32) (v139 : IVec S16 32) (v262 : IVec S16 32) (k0_hw61 : k0_chk61 v82 v136 v139 v262), ∀ (k0_h2 : k0_cond2 v82 = 1#1), ∀ a x, ((![v262, v136] : Fin 2 → IVec S16 32) a x).toNat < S64x512.size a := fun v82 v136 v139 v262 k0_hw61 k0_h2 => k0_hw61.2 k0_h2

def k0_chk62 (v82 : BitVec 32) (v136 : IVec S16 32) (v139 : IVec S16 32) (v264 : IVec S16 32) : Prop :=
  (∀ (k0_h2 : k0_cond2 v82 = 1#1), ∀ a x, ((![v139, v264] : Fin 2 → IVec S16 32) a x).toNat < S48x128.size a) ∧
  (∀ (k0_h2 : k0_cond2 v82 = 1#1), ∀ a x, ((![v264, v136] : Fin 2 → IVec S16 32) a x).toNat < S64x512.size a)
theorem k0_idx123_inb : ∀ (v82 : BitVec 32) (v136 : IVec S16 32) (v139 : IVec S16 32) (v264 : IVec S16 32) (k0_hw62 : k0_chk62 v82 v136 v139 v264), ∀ (k0_h2 : k0_cond2 v82 = 1#1), ∀ a x, ((![v139, v264] : Fin 2 → IVec S16 32) a x).toNat < S48x128.size a := fun v82 v136 v139 v264 k0_hw62 k0_h2 => k0_hw62.1 k0_h2
theorem k0_idx124_inb : ∀ (v82 : BitVec 32) (v136 : IVec S16 32) (v139 : IVec S16 32) (v264 : IVec S16 32) (k0_hw62 : k0_chk62 v82 v136 v139 v264), ∀ (k0_h2 : k0_cond2 v82 = 1#1), ∀ a x, ((![v264, v136] : Fin 2 → IVec S16 32) a x).toNat < S64x512.size a := fun v82 v136 v139 v264 k0_hw62 k0_h2 => k0_hw62.2 k0_h2

def k0_chk63 (v82 : BitVec 32) (v136 : IVec S16 32) (v139 : IVec S16 32) (v266 : IVec S16 32) : Prop :=
  (∀ (k0_h2 : k0_cond2 v82 = 1#1), ∀ a x, ((![v139, v266] : Fin 2 → IVec S16 32) a x).toNat < S48x128.size a) ∧
  (∀ (k0_h2 : k0_cond2 v82 = 1#1), ∀ a x, ((![v266, v136] : Fin 2 → IVec S16 32) a x).toNat < S64x512.size a)
theorem k0_idx125_inb : ∀ (v82 : BitVec 32) (v136 : IVec S16 32) (v139 : IVec S16 32) (v266 : IVec S16 32) (k0_hw63 : k0_chk63 v82 v136 v139 v266), ∀ (k0_h2 : k0_cond2 v82 = 1#1), ∀ a x, ((![v139, v266] : Fin 2 → IVec S16 32) a x).toNat < S48x128.size a := fun v82 v136 v139 v266 k0_hw63 k0_h2 => k0_hw63.1 k0_h2
theorem k0_idx126_inb : ∀ (v82 : BitVec 32) (v136 : IVec S16 32) (v139 : IVec S16 32) (v266 : IVec S16 32) (k0_hw63 : k0_chk63 v82 v136 v139 v266), ∀ (k0_h2 : k0_cond2 v82 = 1#1), ∀ a x, ((![v266, v136] : Fin 2 → IVec S16 32) a x).toNat < S64x512.size a := fun v82 v136 v139 v266 k0_hw63 k0_h2 => k0_hw63.2 k0_h2

def k0_chk64 (v82 : BitVec 32) (v136 : IVec S16 32) (v139 : IVec S16 32) (v268 : IVec S16 32) : Prop :=
  (∀ (k0_h2 : k0_cond2 v82 = 1#1), ∀ a x, ((![v139, v268] : Fin 2 → IVec S16 32) a x).toNat < S48x128.size a) ∧
  (∀ (k0_h2 : k0_cond2 v82 = 1#1), ∀ a x, ((![v268, v136] : Fin 2 → IVec S16 32) a x).toNat < S64x512.size a)
theorem k0_idx127_inb : ∀ (v82 : BitVec 32) (v136 : IVec S16 32) (v139 : IVec S16 32) (v268 : IVec S16 32) (k0_hw64 : k0_chk64 v82 v136 v139 v268), ∀ (k0_h2 : k0_cond2 v82 = 1#1), ∀ a x, ((![v139, v268] : Fin 2 → IVec S16 32) a x).toNat < S48x128.size a := fun v82 v136 v139 v268 k0_hw64 k0_h2 => k0_hw64.1 k0_h2
theorem k0_idx128_inb : ∀ (v82 : BitVec 32) (v136 : IVec S16 32) (v139 : IVec S16 32) (v268 : IVec S16 32) (k0_hw64 : k0_chk64 v82 v136 v139 v268), ∀ (k0_h2 : k0_cond2 v82 = 1#1), ∀ a x, ((![v268, v136] : Fin 2 → IVec S16 32) a x).toNat < S64x512.size a := fun v82 v136 v139 v268 k0_hw64 k0_h2 => k0_hw64.2 k0_h2
def k0_off9 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c64_i32_81 : BitVec 32 := 64#32
  let v130 : BitVec 32 := Scalar.muli v32 c64_i32_81
  let c16_i32_82 : BitVec 32 := 16#32
  let v131 : BitVec 32 := Scalar.addi v130 c16_i32_82
  let c16_i32_83 : BitVec 32 := 16#32
  let v132 : BitVec 32 := Scalar.addi v131 c16_i32_83
  let v133 : Index := Scalar.indexCast v132
  ![v133.toNat]
def k0_cond3 (v82 : BitVec 32) : BitVec 1 :=
  let c16_i32_50 : BitVec 32 := 16#32
  let v86 : BitVec 1 := Scalar.cmpi .sgt v82 c16_i32_50
  let v87 : BitVec 32 := Scalar.extui v86
  let c0_i32_51 : BitVec 32 := 0#32
  let v88 : BitVec 1 := Scalar.cmpi .ne v87 c0_i32_51
  v88

def k0_chk65 (v82 : BitVec 32) (v136 : IVec S16 32) (v139 : IVec S16 32) (v142 : IVec S16 32) : Prop :=
  (∀ (k0_h3 : k0_cond3 v82 = 1#1), ∀ a x, ((![v139, v142] : Fin 2 → IVec S16 32) a x).toNat < S48x128.size a) ∧
  (∀ (k0_h3 : k0_cond3 v82 = 1#1), ∀ a x, ((![v142, v136] : Fin 2 → IVec S16 32) a x).toNat < S64x512.size a)
theorem k0_idx129_inb : ∀ (v82 : BitVec 32) (v136 : IVec S16 32) (v139 : IVec S16 32) (v142 : IVec S16 32) (k0_hw65 : k0_chk65 v82 v136 v139 v142), ∀ (k0_h3 : k0_cond3 v82 = 1#1), ∀ a x, ((![v139, v142] : Fin 2 → IVec S16 32) a x).toNat < S48x128.size a := fun v82 v136 v139 v142 k0_hw65 k0_h3 => k0_hw65.1 k0_h3
theorem k0_idx130_inb : ∀ (v82 : BitVec 32) (v136 : IVec S16 32) (v139 : IVec S16 32) (v142 : IVec S16 32) (k0_hw65 : k0_chk65 v82 v136 v139 v142), ∀ (k0_h3 : k0_cond3 v82 = 1#1), ∀ a x, ((![v142, v136] : Fin 2 → IVec S16 32) a x).toNat < S64x512.size a := fun v82 v136 v139 v142 k0_hw65 k0_h3 => k0_hw65.2 k0_h3

def k0_chk66 (v82 : BitVec 32) (v136 : IVec S16 32) (v139 : IVec S16 32) (v144 : IVec S16 32) : Prop :=
  (∀ (k0_h3 : k0_cond3 v82 = 1#1), ∀ a x, ((![v139, v144] : Fin 2 → IVec S16 32) a x).toNat < S48x128.size a) ∧
  (∀ (k0_h3 : k0_cond3 v82 = 1#1), ∀ a x, ((![v144, v136] : Fin 2 → IVec S16 32) a x).toNat < S64x512.size a)
theorem k0_idx131_inb : ∀ (v82 : BitVec 32) (v136 : IVec S16 32) (v139 : IVec S16 32) (v144 : IVec S16 32) (k0_hw66 : k0_chk66 v82 v136 v139 v144), ∀ (k0_h3 : k0_cond3 v82 = 1#1), ∀ a x, ((![v139, v144] : Fin 2 → IVec S16 32) a x).toNat < S48x128.size a := fun v82 v136 v139 v144 k0_hw66 k0_h3 => k0_hw66.1 k0_h3
theorem k0_idx132_inb : ∀ (v82 : BitVec 32) (v136 : IVec S16 32) (v139 : IVec S16 32) (v144 : IVec S16 32) (k0_hw66 : k0_chk66 v82 v136 v139 v144), ∀ (k0_h3 : k0_cond3 v82 = 1#1), ∀ a x, ((![v144, v136] : Fin 2 → IVec S16 32) a x).toNat < S64x512.size a := fun v82 v136 v139 v144 k0_hw66 k0_h3 => k0_hw66.2 k0_h3

def k0_chk67 (v82 : BitVec 32) (v136 : IVec S16 32) (v139 : IVec S16 32) (v146 : IVec S16 32) : Prop :=
  (∀ (k0_h3 : k0_cond3 v82 = 1#1), ∀ a x, ((![v139, v146] : Fin 2 → IVec S16 32) a x).toNat < S48x128.size a) ∧
  (∀ (k0_h3 : k0_cond3 v82 = 1#1), ∀ a x, ((![v146, v136] : Fin 2 → IVec S16 32) a x).toNat < S64x512.size a)
theorem k0_idx133_inb : ∀ (v82 : BitVec 32) (v136 : IVec S16 32) (v139 : IVec S16 32) (v146 : IVec S16 32) (k0_hw67 : k0_chk67 v82 v136 v139 v146), ∀ (k0_h3 : k0_cond3 v82 = 1#1), ∀ a x, ((![v139, v146] : Fin 2 → IVec S16 32) a x).toNat < S48x128.size a := fun v82 v136 v139 v146 k0_hw67 k0_h3 => k0_hw67.1 k0_h3
theorem k0_idx134_inb : ∀ (v82 : BitVec 32) (v136 : IVec S16 32) (v139 : IVec S16 32) (v146 : IVec S16 32) (k0_hw67 : k0_chk67 v82 v136 v139 v146), ∀ (k0_h3 : k0_cond3 v82 = 1#1), ∀ a x, ((![v146, v136] : Fin 2 → IVec S16 32) a x).toNat < S64x512.size a := fun v82 v136 v139 v146 k0_hw67 k0_h3 => k0_hw67.2 k0_h3

def k0_chk68 (v82 : BitVec 32) (v136 : IVec S16 32) (v139 : IVec S16 32) (v148 : IVec S16 32) : Prop :=
  (∀ (k0_h3 : k0_cond3 v82 = 1#1), ∀ a x, ((![v139, v148] : Fin 2 → IVec S16 32) a x).toNat < S48x128.size a) ∧
  (∀ (k0_h3 : k0_cond3 v82 = 1#1), ∀ a x, ((![v148, v136] : Fin 2 → IVec S16 32) a x).toNat < S64x512.size a)
theorem k0_idx135_inb : ∀ (v82 : BitVec 32) (v136 : IVec S16 32) (v139 : IVec S16 32) (v148 : IVec S16 32) (k0_hw68 : k0_chk68 v82 v136 v139 v148), ∀ (k0_h3 : k0_cond3 v82 = 1#1), ∀ a x, ((![v139, v148] : Fin 2 → IVec S16 32) a x).toNat < S48x128.size a := fun v82 v136 v139 v148 k0_hw68 k0_h3 => k0_hw68.1 k0_h3
theorem k0_idx136_inb : ∀ (v82 : BitVec 32) (v136 : IVec S16 32) (v139 : IVec S16 32) (v148 : IVec S16 32) (k0_hw68 : k0_chk68 v82 v136 v139 v148), ∀ (k0_h3 : k0_cond3 v82 = 1#1), ∀ a x, ((![v148, v136] : Fin 2 → IVec S16 32) a x).toNat < S64x512.size a := fun v82 v136 v139 v148 k0_hw68 k0_h3 => k0_hw68.2 k0_h3

def k0_chk69 (v82 : BitVec 32) (v136 : IVec S16 32) (v139 : IVec S16 32) (v150 : IVec S16 32) : Prop :=
  (∀ (k0_h3 : k0_cond3 v82 = 1#1), ∀ a x, ((![v139, v150] : Fin 2 → IVec S16 32) a x).toNat < S48x128.size a) ∧
  (∀ (k0_h3 : k0_cond3 v82 = 1#1), ∀ a x, ((![v150, v136] : Fin 2 → IVec S16 32) a x).toNat < S64x512.size a)
theorem k0_idx137_inb : ∀ (v82 : BitVec 32) (v136 : IVec S16 32) (v139 : IVec S16 32) (v150 : IVec S16 32) (k0_hw69 : k0_chk69 v82 v136 v139 v150), ∀ (k0_h3 : k0_cond3 v82 = 1#1), ∀ a x, ((![v139, v150] : Fin 2 → IVec S16 32) a x).toNat < S48x128.size a := fun v82 v136 v139 v150 k0_hw69 k0_h3 => k0_hw69.1 k0_h3
theorem k0_idx138_inb : ∀ (v82 : BitVec 32) (v136 : IVec S16 32) (v139 : IVec S16 32) (v150 : IVec S16 32) (k0_hw69 : k0_chk69 v82 v136 v139 v150), ∀ (k0_h3 : k0_cond3 v82 = 1#1), ∀ a x, ((![v150, v136] : Fin 2 → IVec S16 32) a x).toNat < S64x512.size a := fun v82 v136 v139 v150 k0_hw69 k0_h3 => k0_hw69.2 k0_h3

def k0_chk70 (v82 : BitVec 32) (v136 : IVec S16 32) (v139 : IVec S16 32) (v152 : IVec S16 32) : Prop :=
  (∀ (k0_h3 : k0_cond3 v82 = 1#1), ∀ a x, ((![v139, v152] : Fin 2 → IVec S16 32) a x).toNat < S48x128.size a) ∧
  (∀ (k0_h3 : k0_cond3 v82 = 1#1), ∀ a x, ((![v152, v136] : Fin 2 → IVec S16 32) a x).toNat < S64x512.size a)
theorem k0_idx139_inb : ∀ (v82 : BitVec 32) (v136 : IVec S16 32) (v139 : IVec S16 32) (v152 : IVec S16 32) (k0_hw70 : k0_chk70 v82 v136 v139 v152), ∀ (k0_h3 : k0_cond3 v82 = 1#1), ∀ a x, ((![v139, v152] : Fin 2 → IVec S16 32) a x).toNat < S48x128.size a := fun v82 v136 v139 v152 k0_hw70 k0_h3 => k0_hw70.1 k0_h3
theorem k0_idx140_inb : ∀ (v82 : BitVec 32) (v136 : IVec S16 32) (v139 : IVec S16 32) (v152 : IVec S16 32) (k0_hw70 : k0_chk70 v82 v136 v139 v152), ∀ (k0_h3 : k0_cond3 v82 = 1#1), ∀ a x, ((![v152, v136] : Fin 2 → IVec S16 32) a x).toNat < S64x512.size a := fun v82 v136 v139 v152 k0_hw70 k0_h3 => k0_hw70.2 k0_h3

def k0_chk71 (v82 : BitVec 32) (v136 : IVec S16 32) (v139 : IVec S16 32) (v154 : IVec S16 32) : Prop :=
  (∀ (k0_h3 : k0_cond3 v82 = 1#1), ∀ a x, ((![v139, v154] : Fin 2 → IVec S16 32) a x).toNat < S48x128.size a) ∧
  (∀ (k0_h3 : k0_cond3 v82 = 1#1), ∀ a x, ((![v154, v136] : Fin 2 → IVec S16 32) a x).toNat < S64x512.size a)
theorem k0_idx141_inb : ∀ (v82 : BitVec 32) (v136 : IVec S16 32) (v139 : IVec S16 32) (v154 : IVec S16 32) (k0_hw71 : k0_chk71 v82 v136 v139 v154), ∀ (k0_h3 : k0_cond3 v82 = 1#1), ∀ a x, ((![v139, v154] : Fin 2 → IVec S16 32) a x).toNat < S48x128.size a := fun v82 v136 v139 v154 k0_hw71 k0_h3 => k0_hw71.1 k0_h3
theorem k0_idx142_inb : ∀ (v82 : BitVec 32) (v136 : IVec S16 32) (v139 : IVec S16 32) (v154 : IVec S16 32) (k0_hw71 : k0_chk71 v82 v136 v139 v154), ∀ (k0_h3 : k0_cond3 v82 = 1#1), ∀ a x, ((![v154, v136] : Fin 2 → IVec S16 32) a x).toNat < S64x512.size a := fun v82 v136 v139 v154 k0_hw71 k0_h3 => k0_hw71.2 k0_h3

def k0_chk72 (v82 : BitVec 32) (v136 : IVec S16 32) (v139 : IVec S16 32) (v156 : IVec S16 32) : Prop :=
  (∀ (k0_h3 : k0_cond3 v82 = 1#1), ∀ a x, ((![v139, v156] : Fin 2 → IVec S16 32) a x).toNat < S48x128.size a) ∧
  (∀ (k0_h3 : k0_cond3 v82 = 1#1), ∀ a x, ((![v156, v136] : Fin 2 → IVec S16 32) a x).toNat < S64x512.size a)
theorem k0_idx143_inb : ∀ (v82 : BitVec 32) (v136 : IVec S16 32) (v139 : IVec S16 32) (v156 : IVec S16 32) (k0_hw72 : k0_chk72 v82 v136 v139 v156), ∀ (k0_h3 : k0_cond3 v82 = 1#1), ∀ a x, ((![v139, v156] : Fin 2 → IVec S16 32) a x).toNat < S48x128.size a := fun v82 v136 v139 v156 k0_hw72 k0_h3 => k0_hw72.1 k0_h3
theorem k0_idx144_inb : ∀ (v82 : BitVec 32) (v136 : IVec S16 32) (v139 : IVec S16 32) (v156 : IVec S16 32) (k0_hw72 : k0_chk72 v82 v136 v139 v156), ∀ (k0_h3 : k0_cond3 v82 = 1#1), ∀ a x, ((![v156, v136] : Fin 2 → IVec S16 32) a x).toNat < S64x512.size a := fun v82 v136 v139 v156 k0_hw72 k0_h3 => k0_hw72.2 k0_h3

def k0_chk73 (v82 : BitVec 32) (v136 : IVec S16 32) (v139 : IVec S16 32) (v158 : IVec S16 32) : Prop :=
  (∀ (k0_h3 : k0_cond3 v82 = 1#1), ∀ a x, ((![v139, v158] : Fin 2 → IVec S16 32) a x).toNat < S48x128.size a) ∧
  (∀ (k0_h3 : k0_cond3 v82 = 1#1), ∀ a x, ((![v158, v136] : Fin 2 → IVec S16 32) a x).toNat < S64x512.size a)
theorem k0_idx145_inb : ∀ (v82 : BitVec 32) (v136 : IVec S16 32) (v139 : IVec S16 32) (v158 : IVec S16 32) (k0_hw73 : k0_chk73 v82 v136 v139 v158), ∀ (k0_h3 : k0_cond3 v82 = 1#1), ∀ a x, ((![v139, v158] : Fin 2 → IVec S16 32) a x).toNat < S48x128.size a := fun v82 v136 v139 v158 k0_hw73 k0_h3 => k0_hw73.1 k0_h3
theorem k0_idx146_inb : ∀ (v82 : BitVec 32) (v136 : IVec S16 32) (v139 : IVec S16 32) (v158 : IVec S16 32) (k0_hw73 : k0_chk73 v82 v136 v139 v158), ∀ (k0_h3 : k0_cond3 v82 = 1#1), ∀ a x, ((![v158, v136] : Fin 2 → IVec S16 32) a x).toNat < S64x512.size a := fun v82 v136 v139 v158 k0_hw73 k0_h3 => k0_hw73.2 k0_h3

def k0_chk74 (v82 : BitVec 32) (v136 : IVec S16 32) (v139 : IVec S16 32) (v160 : IVec S16 32) : Prop :=
  (∀ (k0_h3 : k0_cond3 v82 = 1#1), ∀ a x, ((![v139, v160] : Fin 2 → IVec S16 32) a x).toNat < S48x128.size a) ∧
  (∀ (k0_h3 : k0_cond3 v82 = 1#1), ∀ a x, ((![v160, v136] : Fin 2 → IVec S16 32) a x).toNat < S64x512.size a)
theorem k0_idx147_inb : ∀ (v82 : BitVec 32) (v136 : IVec S16 32) (v139 : IVec S16 32) (v160 : IVec S16 32) (k0_hw74 : k0_chk74 v82 v136 v139 v160), ∀ (k0_h3 : k0_cond3 v82 = 1#1), ∀ a x, ((![v139, v160] : Fin 2 → IVec S16 32) a x).toNat < S48x128.size a := fun v82 v136 v139 v160 k0_hw74 k0_h3 => k0_hw74.1 k0_h3
theorem k0_idx148_inb : ∀ (v82 : BitVec 32) (v136 : IVec S16 32) (v139 : IVec S16 32) (v160 : IVec S16 32) (k0_hw74 : k0_chk74 v82 v136 v139 v160), ∀ (k0_h3 : k0_cond3 v82 = 1#1), ∀ a x, ((![v160, v136] : Fin 2 → IVec S16 32) a x).toNat < S64x512.size a := fun v82 v136 v139 v160 k0_hw74 k0_h3 => k0_hw74.2 k0_h3

def k0_chk75 (v82 : BitVec 32) (v136 : IVec S16 32) (v139 : IVec S16 32) (v162 : IVec S16 32) : Prop :=
  (∀ (k0_h3 : k0_cond3 v82 = 1#1), ∀ a x, ((![v139, v162] : Fin 2 → IVec S16 32) a x).toNat < S48x128.size a) ∧
  (∀ (k0_h3 : k0_cond3 v82 = 1#1), ∀ a x, ((![v162, v136] : Fin 2 → IVec S16 32) a x).toNat < S64x512.size a)
theorem k0_idx149_inb : ∀ (v82 : BitVec 32) (v136 : IVec S16 32) (v139 : IVec S16 32) (v162 : IVec S16 32) (k0_hw75 : k0_chk75 v82 v136 v139 v162), ∀ (k0_h3 : k0_cond3 v82 = 1#1), ∀ a x, ((![v139, v162] : Fin 2 → IVec S16 32) a x).toNat < S48x128.size a := fun v82 v136 v139 v162 k0_hw75 k0_h3 => k0_hw75.1 k0_h3
theorem k0_idx150_inb : ∀ (v82 : BitVec 32) (v136 : IVec S16 32) (v139 : IVec S16 32) (v162 : IVec S16 32) (k0_hw75 : k0_chk75 v82 v136 v139 v162), ∀ (k0_h3 : k0_cond3 v82 = 1#1), ∀ a x, ((![v162, v136] : Fin 2 → IVec S16 32) a x).toNat < S64x512.size a := fun v82 v136 v139 v162 k0_hw75 k0_h3 => k0_hw75.2 k0_h3

def k0_chk76 (v82 : BitVec 32) (v136 : IVec S16 32) (v139 : IVec S16 32) (v164 : IVec S16 32) : Prop :=
  (∀ (k0_h3 : k0_cond3 v82 = 1#1), ∀ a x, ((![v139, v164] : Fin 2 → IVec S16 32) a x).toNat < S48x128.size a) ∧
  (∀ (k0_h3 : k0_cond3 v82 = 1#1), ∀ a x, ((![v164, v136] : Fin 2 → IVec S16 32) a x).toNat < S64x512.size a)
theorem k0_idx151_inb : ∀ (v82 : BitVec 32) (v136 : IVec S16 32) (v139 : IVec S16 32) (v164 : IVec S16 32) (k0_hw76 : k0_chk76 v82 v136 v139 v164), ∀ (k0_h3 : k0_cond3 v82 = 1#1), ∀ a x, ((![v139, v164] : Fin 2 → IVec S16 32) a x).toNat < S48x128.size a := fun v82 v136 v139 v164 k0_hw76 k0_h3 => k0_hw76.1 k0_h3
theorem k0_idx152_inb : ∀ (v82 : BitVec 32) (v136 : IVec S16 32) (v139 : IVec S16 32) (v164 : IVec S16 32) (k0_hw76 : k0_chk76 v82 v136 v139 v164), ∀ (k0_h3 : k0_cond3 v82 = 1#1), ∀ a x, ((![v164, v136] : Fin 2 → IVec S16 32) a x).toNat < S64x512.size a := fun v82 v136 v139 v164 k0_hw76 k0_h3 => k0_hw76.2 k0_h3

def k0_chk77 (v82 : BitVec 32) (v136 : IVec S16 32) (v139 : IVec S16 32) (v166 : IVec S16 32) : Prop :=
  (∀ (k0_h3 : k0_cond3 v82 = 1#1), ∀ a x, ((![v139, v166] : Fin 2 → IVec S16 32) a x).toNat < S48x128.size a) ∧
  (∀ (k0_h3 : k0_cond3 v82 = 1#1), ∀ a x, ((![v166, v136] : Fin 2 → IVec S16 32) a x).toNat < S64x512.size a)
theorem k0_idx153_inb : ∀ (v82 : BitVec 32) (v136 : IVec S16 32) (v139 : IVec S16 32) (v166 : IVec S16 32) (k0_hw77 : k0_chk77 v82 v136 v139 v166), ∀ (k0_h3 : k0_cond3 v82 = 1#1), ∀ a x, ((![v139, v166] : Fin 2 → IVec S16 32) a x).toNat < S48x128.size a := fun v82 v136 v139 v166 k0_hw77 k0_h3 => k0_hw77.1 k0_h3
theorem k0_idx154_inb : ∀ (v82 : BitVec 32) (v136 : IVec S16 32) (v139 : IVec S16 32) (v166 : IVec S16 32) (k0_hw77 : k0_chk77 v82 v136 v139 v166), ∀ (k0_h3 : k0_cond3 v82 = 1#1), ∀ a x, ((![v166, v136] : Fin 2 → IVec S16 32) a x).toNat < S64x512.size a := fun v82 v136 v139 v166 k0_hw77 k0_h3 => k0_hw77.2 k0_h3

def k0_chk78 (v82 : BitVec 32) (v136 : IVec S16 32) (v139 : IVec S16 32) (v168 : IVec S16 32) : Prop :=
  (∀ (k0_h3 : k0_cond3 v82 = 1#1), ∀ a x, ((![v139, v168] : Fin 2 → IVec S16 32) a x).toNat < S48x128.size a) ∧
  (∀ (k0_h3 : k0_cond3 v82 = 1#1), ∀ a x, ((![v168, v136] : Fin 2 → IVec S16 32) a x).toNat < S64x512.size a)
theorem k0_idx155_inb : ∀ (v82 : BitVec 32) (v136 : IVec S16 32) (v139 : IVec S16 32) (v168 : IVec S16 32) (k0_hw78 : k0_chk78 v82 v136 v139 v168), ∀ (k0_h3 : k0_cond3 v82 = 1#1), ∀ a x, ((![v139, v168] : Fin 2 → IVec S16 32) a x).toNat < S48x128.size a := fun v82 v136 v139 v168 k0_hw78 k0_h3 => k0_hw78.1 k0_h3
theorem k0_idx156_inb : ∀ (v82 : BitVec 32) (v136 : IVec S16 32) (v139 : IVec S16 32) (v168 : IVec S16 32) (k0_hw78 : k0_chk78 v82 v136 v139 v168), ∀ (k0_h3 : k0_cond3 v82 = 1#1), ∀ a x, ((![v168, v136] : Fin 2 → IVec S16 32) a x).toNat < S64x512.size a := fun v82 v136 v139 v168 k0_hw78 k0_h3 => k0_hw78.2 k0_h3

def k0_chk79 (v82 : BitVec 32) (v136 : IVec S16 32) (v139 : IVec S16 32) (v170 : IVec S16 32) : Prop :=
  (∀ (k0_h3 : k0_cond3 v82 = 1#1), ∀ a x, ((![v139, v170] : Fin 2 → IVec S16 32) a x).toNat < S48x128.size a) ∧
  (∀ (k0_h3 : k0_cond3 v82 = 1#1), ∀ a x, ((![v170, v136] : Fin 2 → IVec S16 32) a x).toNat < S64x512.size a)
theorem k0_idx157_inb : ∀ (v82 : BitVec 32) (v136 : IVec S16 32) (v139 : IVec S16 32) (v170 : IVec S16 32) (k0_hw79 : k0_chk79 v82 v136 v139 v170), ∀ (k0_h3 : k0_cond3 v82 = 1#1), ∀ a x, ((![v139, v170] : Fin 2 → IVec S16 32) a x).toNat < S48x128.size a := fun v82 v136 v139 v170 k0_hw79 k0_h3 => k0_hw79.1 k0_h3
theorem k0_idx158_inb : ∀ (v82 : BitVec 32) (v136 : IVec S16 32) (v139 : IVec S16 32) (v170 : IVec S16 32) (k0_hw79 : k0_chk79 v82 v136 v139 v170), ∀ (k0_h3 : k0_cond3 v82 = 1#1), ∀ a x, ((![v170, v136] : Fin 2 → IVec S16 32) a x).toNat < S64x512.size a := fun v82 v136 v139 v170 k0_hw79 k0_h3 => k0_hw79.2 k0_h3

def k0_chk80 (v82 : BitVec 32) (v136 : IVec S16 32) (v139 : IVec S16 32) (v172 : IVec S16 32) : Prop :=
  (∀ (k0_h3 : k0_cond3 v82 = 1#1), ∀ a x, ((![v139, v172] : Fin 2 → IVec S16 32) a x).toNat < S48x128.size a) ∧
  (∀ (k0_h3 : k0_cond3 v82 = 1#1), ∀ a x, ((![v172, v136] : Fin 2 → IVec S16 32) a x).toNat < S64x512.size a)
theorem k0_idx159_inb : ∀ (v82 : BitVec 32) (v136 : IVec S16 32) (v139 : IVec S16 32) (v172 : IVec S16 32) (k0_hw80 : k0_chk80 v82 v136 v139 v172), ∀ (k0_h3 : k0_cond3 v82 = 1#1), ∀ a x, ((![v139, v172] : Fin 2 → IVec S16 32) a x).toNat < S48x128.size a := fun v82 v136 v139 v172 k0_hw80 k0_h3 => k0_hw80.1 k0_h3
theorem k0_idx160_inb : ∀ (v82 : BitVec 32) (v136 : IVec S16 32) (v139 : IVec S16 32) (v172 : IVec S16 32) (k0_hw80 : k0_chk80 v82 v136 v139 v172), ∀ (k0_h3 : k0_cond3 v82 = 1#1), ∀ a x, ((![v172, v136] : Fin 2 → IVec S16 32) a x).toNat < S64x512.size a := fun v82 v136 v139 v172 k0_hw80 k0_h3 => k0_hw80.2 k0_h3

def k0_chk81 (v82 : BitVec 32) (v136 : IVec S16 32) (v139 : IVec S16 32) (v174 : IVec S16 32) : Prop :=
  (∀ (k0_h3 : k0_cond3 v82 = 1#1), ∀ a x, ((![v139, v174] : Fin 2 → IVec S16 32) a x).toNat < S48x128.size a) ∧
  (∀ (k0_h3 : k0_cond3 v82 = 1#1), ∀ a x, ((![v174, v136] : Fin 2 → IVec S16 32) a x).toNat < S64x512.size a)
theorem k0_idx161_inb : ∀ (v82 : BitVec 32) (v136 : IVec S16 32) (v139 : IVec S16 32) (v174 : IVec S16 32) (k0_hw81 : k0_chk81 v82 v136 v139 v174), ∀ (k0_h3 : k0_cond3 v82 = 1#1), ∀ a x, ((![v139, v174] : Fin 2 → IVec S16 32) a x).toNat < S48x128.size a := fun v82 v136 v139 v174 k0_hw81 k0_h3 => k0_hw81.1 k0_h3
theorem k0_idx162_inb : ∀ (v82 : BitVec 32) (v136 : IVec S16 32) (v139 : IVec S16 32) (v174 : IVec S16 32) (k0_hw81 : k0_chk81 v82 v136 v139 v174), ∀ (k0_h3 : k0_cond3 v82 = 1#1), ∀ a x, ((![v174, v136] : Fin 2 → IVec S16 32) a x).toNat < S64x512.size a := fun v82 v136 v139 v174 k0_hw81 k0_h3 => k0_hw81.2 k0_h3

def k0_chk82 (v82 : BitVec 32) (v136 : IVec S16 32) (v139 : IVec S16 32) (v176 : IVec S16 32) : Prop :=
  (∀ (k0_h3 : k0_cond3 v82 = 1#1), ∀ a x, ((![v139, v176] : Fin 2 → IVec S16 32) a x).toNat < S48x128.size a) ∧
  (∀ (k0_h3 : k0_cond3 v82 = 1#1), ∀ a x, ((![v176, v136] : Fin 2 → IVec S16 32) a x).toNat < S64x512.size a)
theorem k0_idx163_inb : ∀ (v82 : BitVec 32) (v136 : IVec S16 32) (v139 : IVec S16 32) (v176 : IVec S16 32) (k0_hw82 : k0_chk82 v82 v136 v139 v176), ∀ (k0_h3 : k0_cond3 v82 = 1#1), ∀ a x, ((![v139, v176] : Fin 2 → IVec S16 32) a x).toNat < S48x128.size a := fun v82 v136 v139 v176 k0_hw82 k0_h3 => k0_hw82.1 k0_h3
theorem k0_idx164_inb : ∀ (v82 : BitVec 32) (v136 : IVec S16 32) (v139 : IVec S16 32) (v176 : IVec S16 32) (k0_hw82 : k0_chk82 v82 v136 v139 v176), ∀ (k0_h3 : k0_cond3 v82 = 1#1), ∀ a x, ((![v176, v136] : Fin 2 → IVec S16 32) a x).toNat < S64x512.size a := fun v82 v136 v139 v176 k0_hw82 k0_h3 => k0_hw82.2 k0_h3

def k0_chk83 (v82 : BitVec 32) (v136 : IVec S16 32) (v139 : IVec S16 32) (v178 : IVec S16 32) : Prop :=
  (∀ (k0_h3 : k0_cond3 v82 = 1#1), ∀ a x, ((![v139, v178] : Fin 2 → IVec S16 32) a x).toNat < S48x128.size a) ∧
  (∀ (k0_h3 : k0_cond3 v82 = 1#1), ∀ a x, ((![v178, v136] : Fin 2 → IVec S16 32) a x).toNat < S64x512.size a)
theorem k0_idx165_inb : ∀ (v82 : BitVec 32) (v136 : IVec S16 32) (v139 : IVec S16 32) (v178 : IVec S16 32) (k0_hw83 : k0_chk83 v82 v136 v139 v178), ∀ (k0_h3 : k0_cond3 v82 = 1#1), ∀ a x, ((![v139, v178] : Fin 2 → IVec S16 32) a x).toNat < S48x128.size a := fun v82 v136 v139 v178 k0_hw83 k0_h3 => k0_hw83.1 k0_h3
theorem k0_idx166_inb : ∀ (v82 : BitVec 32) (v136 : IVec S16 32) (v139 : IVec S16 32) (v178 : IVec S16 32) (k0_hw83 : k0_chk83 v82 v136 v139 v178), ∀ (k0_h3 : k0_cond3 v82 = 1#1), ∀ a x, ((![v178, v136] : Fin 2 → IVec S16 32) a x).toNat < S64x512.size a := fun v82 v136 v139 v178 k0_hw83 k0_h3 => k0_hw83.2 k0_h3

def k0_chk84 (v82 : BitVec 32) (v136 : IVec S16 32) (v139 : IVec S16 32) (v180 : IVec S16 32) : Prop :=
  (∀ (k0_h3 : k0_cond3 v82 = 1#1), ∀ a x, ((![v139, v180] : Fin 2 → IVec S16 32) a x).toNat < S48x128.size a) ∧
  (∀ (k0_h3 : k0_cond3 v82 = 1#1), ∀ a x, ((![v180, v136] : Fin 2 → IVec S16 32) a x).toNat < S64x512.size a)
theorem k0_idx167_inb : ∀ (v82 : BitVec 32) (v136 : IVec S16 32) (v139 : IVec S16 32) (v180 : IVec S16 32) (k0_hw84 : k0_chk84 v82 v136 v139 v180), ∀ (k0_h3 : k0_cond3 v82 = 1#1), ∀ a x, ((![v139, v180] : Fin 2 → IVec S16 32) a x).toNat < S48x128.size a := fun v82 v136 v139 v180 k0_hw84 k0_h3 => k0_hw84.1 k0_h3
theorem k0_idx168_inb : ∀ (v82 : BitVec 32) (v136 : IVec S16 32) (v139 : IVec S16 32) (v180 : IVec S16 32) (k0_hw84 : k0_chk84 v82 v136 v139 v180), ∀ (k0_h3 : k0_cond3 v82 = 1#1), ∀ a x, ((![v180, v136] : Fin 2 → IVec S16 32) a x).toNat < S64x512.size a := fun v82 v136 v139 v180 k0_hw84 k0_h3 => k0_hw84.2 k0_h3

def k0_chk85 (v82 : BitVec 32) (v136 : IVec S16 32) (v139 : IVec S16 32) (v182 : IVec S16 32) : Prop :=
  (∀ (k0_h3 : k0_cond3 v82 = 1#1), ∀ a x, ((![v139, v182] : Fin 2 → IVec S16 32) a x).toNat < S48x128.size a) ∧
  (∀ (k0_h3 : k0_cond3 v82 = 1#1), ∀ a x, ((![v182, v136] : Fin 2 → IVec S16 32) a x).toNat < S64x512.size a)
theorem k0_idx169_inb : ∀ (v82 : BitVec 32) (v136 : IVec S16 32) (v139 : IVec S16 32) (v182 : IVec S16 32) (k0_hw85 : k0_chk85 v82 v136 v139 v182), ∀ (k0_h3 : k0_cond3 v82 = 1#1), ∀ a x, ((![v139, v182] : Fin 2 → IVec S16 32) a x).toNat < S48x128.size a := fun v82 v136 v139 v182 k0_hw85 k0_h3 => k0_hw85.1 k0_h3
theorem k0_idx170_inb : ∀ (v82 : BitVec 32) (v136 : IVec S16 32) (v139 : IVec S16 32) (v182 : IVec S16 32) (k0_hw85 : k0_chk85 v82 v136 v139 v182), ∀ (k0_h3 : k0_cond3 v82 = 1#1), ∀ a x, ((![v182, v136] : Fin 2 → IVec S16 32) a x).toNat < S64x512.size a := fun v82 v136 v139 v182 k0_hw85 k0_h3 => k0_hw85.2 k0_h3

def k0_chk86 (v82 : BitVec 32) (v136 : IVec S16 32) (v139 : IVec S16 32) (v184 : IVec S16 32) : Prop :=
  (∀ (k0_h3 : k0_cond3 v82 = 1#1), ∀ a x, ((![v139, v184] : Fin 2 → IVec S16 32) a x).toNat < S48x128.size a) ∧
  (∀ (k0_h3 : k0_cond3 v82 = 1#1), ∀ a x, ((![v184, v136] : Fin 2 → IVec S16 32) a x).toNat < S64x512.size a)
theorem k0_idx171_inb : ∀ (v82 : BitVec 32) (v136 : IVec S16 32) (v139 : IVec S16 32) (v184 : IVec S16 32) (k0_hw86 : k0_chk86 v82 v136 v139 v184), ∀ (k0_h3 : k0_cond3 v82 = 1#1), ∀ a x, ((![v139, v184] : Fin 2 → IVec S16 32) a x).toNat < S48x128.size a := fun v82 v136 v139 v184 k0_hw86 k0_h3 => k0_hw86.1 k0_h3
theorem k0_idx172_inb : ∀ (v82 : BitVec 32) (v136 : IVec S16 32) (v139 : IVec S16 32) (v184 : IVec S16 32) (k0_hw86 : k0_chk86 v82 v136 v139 v184), ∀ (k0_h3 : k0_cond3 v82 = 1#1), ∀ a x, ((![v184, v136] : Fin 2 → IVec S16 32) a x).toNat < S64x512.size a := fun v82 v136 v139 v184 k0_hw86 k0_h3 => k0_hw86.2 k0_h3

def k0_chk87 (v82 : BitVec 32) (v136 : IVec S16 32) (v139 : IVec S16 32) (v186 : IVec S16 32) : Prop :=
  (∀ (k0_h3 : k0_cond3 v82 = 1#1), ∀ a x, ((![v139, v186] : Fin 2 → IVec S16 32) a x).toNat < S48x128.size a) ∧
  (∀ (k0_h3 : k0_cond3 v82 = 1#1), ∀ a x, ((![v186, v136] : Fin 2 → IVec S16 32) a x).toNat < S64x512.size a)
theorem k0_idx173_inb : ∀ (v82 : BitVec 32) (v136 : IVec S16 32) (v139 : IVec S16 32) (v186 : IVec S16 32) (k0_hw87 : k0_chk87 v82 v136 v139 v186), ∀ (k0_h3 : k0_cond3 v82 = 1#1), ∀ a x, ((![v139, v186] : Fin 2 → IVec S16 32) a x).toNat < S48x128.size a := fun v82 v136 v139 v186 k0_hw87 k0_h3 => k0_hw87.1 k0_h3
theorem k0_idx174_inb : ∀ (v82 : BitVec 32) (v136 : IVec S16 32) (v139 : IVec S16 32) (v186 : IVec S16 32) (k0_hw87 : k0_chk87 v82 v136 v139 v186), ∀ (k0_h3 : k0_cond3 v82 = 1#1), ∀ a x, ((![v186, v136] : Fin 2 → IVec S16 32) a x).toNat < S64x512.size a := fun v82 v136 v139 v186 k0_hw87 k0_h3 => k0_hw87.2 k0_h3

def k0_chk88 (v82 : BitVec 32) (v136 : IVec S16 32) (v139 : IVec S16 32) (v188 : IVec S16 32) : Prop :=
  (∀ (k0_h3 : k0_cond3 v82 = 1#1), ∀ a x, ((![v139, v188] : Fin 2 → IVec S16 32) a x).toNat < S48x128.size a) ∧
  (∀ (k0_h3 : k0_cond3 v82 = 1#1), ∀ a x, ((![v188, v136] : Fin 2 → IVec S16 32) a x).toNat < S64x512.size a)
theorem k0_idx175_inb : ∀ (v82 : BitVec 32) (v136 : IVec S16 32) (v139 : IVec S16 32) (v188 : IVec S16 32) (k0_hw88 : k0_chk88 v82 v136 v139 v188), ∀ (k0_h3 : k0_cond3 v82 = 1#1), ∀ a x, ((![v139, v188] : Fin 2 → IVec S16 32) a x).toNat < S48x128.size a := fun v82 v136 v139 v188 k0_hw88 k0_h3 => k0_hw88.1 k0_h3
theorem k0_idx176_inb : ∀ (v82 : BitVec 32) (v136 : IVec S16 32) (v139 : IVec S16 32) (v188 : IVec S16 32) (k0_hw88 : k0_chk88 v82 v136 v139 v188), ∀ (k0_h3 : k0_cond3 v82 = 1#1), ∀ a x, ((![v188, v136] : Fin 2 → IVec S16 32) a x).toNat < S64x512.size a := fun v82 v136 v139 v188 k0_hw88 k0_h3 => k0_hw88.2 k0_h3

def k0_chk89 (v82 : BitVec 32) (v136 : IVec S16 32) (v139 : IVec S16 32) (v190 : IVec S16 32) : Prop :=
  (∀ (k0_h3 : k0_cond3 v82 = 1#1), ∀ a x, ((![v139, v190] : Fin 2 → IVec S16 32) a x).toNat < S48x128.size a) ∧
  (∀ (k0_h3 : k0_cond3 v82 = 1#1), ∀ a x, ((![v190, v136] : Fin 2 → IVec S16 32) a x).toNat < S64x512.size a)
theorem k0_idx177_inb : ∀ (v82 : BitVec 32) (v136 : IVec S16 32) (v139 : IVec S16 32) (v190 : IVec S16 32) (k0_hw89 : k0_chk89 v82 v136 v139 v190), ∀ (k0_h3 : k0_cond3 v82 = 1#1), ∀ a x, ((![v139, v190] : Fin 2 → IVec S16 32) a x).toNat < S48x128.size a := fun v82 v136 v139 v190 k0_hw89 k0_h3 => k0_hw89.1 k0_h3
theorem k0_idx178_inb : ∀ (v82 : BitVec 32) (v136 : IVec S16 32) (v139 : IVec S16 32) (v190 : IVec S16 32) (k0_hw89 : k0_chk89 v82 v136 v139 v190), ∀ (k0_h3 : k0_cond3 v82 = 1#1), ∀ a x, ((![v190, v136] : Fin 2 → IVec S16 32) a x).toNat < S64x512.size a := fun v82 v136 v139 v190 k0_hw89 k0_h3 => k0_hw89.2 k0_h3

def k0_chk90 (v82 : BitVec 32) (v136 : IVec S16 32) (v139 : IVec S16 32) (v192 : IVec S16 32) : Prop :=
  (∀ (k0_h3 : k0_cond3 v82 = 1#1), ∀ a x, ((![v139, v192] : Fin 2 → IVec S16 32) a x).toNat < S48x128.size a) ∧
  (∀ (k0_h3 : k0_cond3 v82 = 1#1), ∀ a x, ((![v192, v136] : Fin 2 → IVec S16 32) a x).toNat < S64x512.size a)
theorem k0_idx179_inb : ∀ (v82 : BitVec 32) (v136 : IVec S16 32) (v139 : IVec S16 32) (v192 : IVec S16 32) (k0_hw90 : k0_chk90 v82 v136 v139 v192), ∀ (k0_h3 : k0_cond3 v82 = 1#1), ∀ a x, ((![v139, v192] : Fin 2 → IVec S16 32) a x).toNat < S48x128.size a := fun v82 v136 v139 v192 k0_hw90 k0_h3 => k0_hw90.1 k0_h3
theorem k0_idx180_inb : ∀ (v82 : BitVec 32) (v136 : IVec S16 32) (v139 : IVec S16 32) (v192 : IVec S16 32) (k0_hw90 : k0_chk90 v82 v136 v139 v192), ∀ (k0_h3 : k0_cond3 v82 = 1#1), ∀ a x, ((![v192, v136] : Fin 2 → IVec S16 32) a x).toNat < S64x512.size a := fun v82 v136 v139 v192 k0_hw90 k0_h3 => k0_hw90.2 k0_h3

def k0_chk91 (v82 : BitVec 32) (v136 : IVec S16 32) (v139 : IVec S16 32) (v194 : IVec S16 32) : Prop :=
  (∀ (k0_h3 : k0_cond3 v82 = 1#1), ∀ a x, ((![v139, v194] : Fin 2 → IVec S16 32) a x).toNat < S48x128.size a) ∧
  (∀ (k0_h3 : k0_cond3 v82 = 1#1), ∀ a x, ((![v194, v136] : Fin 2 → IVec S16 32) a x).toNat < S64x512.size a)
theorem k0_idx181_inb : ∀ (v82 : BitVec 32) (v136 : IVec S16 32) (v139 : IVec S16 32) (v194 : IVec S16 32) (k0_hw91 : k0_chk91 v82 v136 v139 v194), ∀ (k0_h3 : k0_cond3 v82 = 1#1), ∀ a x, ((![v139, v194] : Fin 2 → IVec S16 32) a x).toNat < S48x128.size a := fun v82 v136 v139 v194 k0_hw91 k0_h3 => k0_hw91.1 k0_h3
theorem k0_idx182_inb : ∀ (v82 : BitVec 32) (v136 : IVec S16 32) (v139 : IVec S16 32) (v194 : IVec S16 32) (k0_hw91 : k0_chk91 v82 v136 v139 v194), ∀ (k0_h3 : k0_cond3 v82 = 1#1), ∀ a x, ((![v194, v136] : Fin 2 → IVec S16 32) a x).toNat < S64x512.size a := fun v82 v136 v139 v194 k0_hw91 k0_h3 => k0_hw91.2 k0_h3

def k0_chk92 (v82 : BitVec 32) (v136 : IVec S16 32) (v139 : IVec S16 32) (v196 : IVec S16 32) : Prop :=
  (∀ (k0_h3 : k0_cond3 v82 = 1#1), ∀ a x, ((![v139, v196] : Fin 2 → IVec S16 32) a x).toNat < S48x128.size a) ∧
  (∀ (k0_h3 : k0_cond3 v82 = 1#1), ∀ a x, ((![v196, v136] : Fin 2 → IVec S16 32) a x).toNat < S64x512.size a)
theorem k0_idx183_inb : ∀ (v82 : BitVec 32) (v136 : IVec S16 32) (v139 : IVec S16 32) (v196 : IVec S16 32) (k0_hw92 : k0_chk92 v82 v136 v139 v196), ∀ (k0_h3 : k0_cond3 v82 = 1#1), ∀ a x, ((![v139, v196] : Fin 2 → IVec S16 32) a x).toNat < S48x128.size a := fun v82 v136 v139 v196 k0_hw92 k0_h3 => k0_hw92.1 k0_h3
theorem k0_idx184_inb : ∀ (v82 : BitVec 32) (v136 : IVec S16 32) (v139 : IVec S16 32) (v196 : IVec S16 32) (k0_hw92 : k0_chk92 v82 v136 v139 v196), ∀ (k0_h3 : k0_cond3 v82 = 1#1), ∀ a x, ((![v196, v136] : Fin 2 → IVec S16 32) a x).toNat < S64x512.size a := fun v82 v136 v139 v196 k0_hw92 k0_h3 => k0_hw92.2 k0_h3

def k0_chk93 (v82 : BitVec 32) (v136 : IVec S16 32) (v139 : IVec S16 32) (v198 : IVec S16 32) : Prop :=
  (∀ (k0_h3 : k0_cond3 v82 = 1#1), ∀ a x, ((![v139, v198] : Fin 2 → IVec S16 32) a x).toNat < S48x128.size a) ∧
  (∀ (k0_h3 : k0_cond3 v82 = 1#1), ∀ a x, ((![v198, v136] : Fin 2 → IVec S16 32) a x).toNat < S64x512.size a)
theorem k0_idx185_inb : ∀ (v82 : BitVec 32) (v136 : IVec S16 32) (v139 : IVec S16 32) (v198 : IVec S16 32) (k0_hw93 : k0_chk93 v82 v136 v139 v198), ∀ (k0_h3 : k0_cond3 v82 = 1#1), ∀ a x, ((![v139, v198] : Fin 2 → IVec S16 32) a x).toNat < S48x128.size a := fun v82 v136 v139 v198 k0_hw93 k0_h3 => k0_hw93.1 k0_h3
theorem k0_idx186_inb : ∀ (v82 : BitVec 32) (v136 : IVec S16 32) (v139 : IVec S16 32) (v198 : IVec S16 32) (k0_hw93 : k0_chk93 v82 v136 v139 v198), ∀ (k0_h3 : k0_cond3 v82 = 1#1), ∀ a x, ((![v198, v136] : Fin 2 → IVec S16 32) a x).toNat < S64x512.size a := fun v82 v136 v139 v198 k0_hw93 k0_h3 => k0_hw93.2 k0_h3

def k0_chk94 (v82 : BitVec 32) (v136 : IVec S16 32) (v139 : IVec S16 32) (v200 : IVec S16 32) : Prop :=
  (∀ (k0_h3 : k0_cond3 v82 = 1#1), ∀ a x, ((![v139, v200] : Fin 2 → IVec S16 32) a x).toNat < S48x128.size a) ∧
  (∀ (k0_h3 : k0_cond3 v82 = 1#1), ∀ a x, ((![v200, v136] : Fin 2 → IVec S16 32) a x).toNat < S64x512.size a)
theorem k0_idx187_inb : ∀ (v82 : BitVec 32) (v136 : IVec S16 32) (v139 : IVec S16 32) (v200 : IVec S16 32) (k0_hw94 : k0_chk94 v82 v136 v139 v200), ∀ (k0_h3 : k0_cond3 v82 = 1#1), ∀ a x, ((![v139, v200] : Fin 2 → IVec S16 32) a x).toNat < S48x128.size a := fun v82 v136 v139 v200 k0_hw94 k0_h3 => k0_hw94.1 k0_h3
theorem k0_idx188_inb : ∀ (v82 : BitVec 32) (v136 : IVec S16 32) (v139 : IVec S16 32) (v200 : IVec S16 32) (k0_hw94 : k0_chk94 v82 v136 v139 v200), ∀ (k0_h3 : k0_cond3 v82 = 1#1), ∀ a x, ((![v200, v136] : Fin 2 → IVec S16 32) a x).toNat < S64x512.size a := fun v82 v136 v139 v200 k0_hw94 k0_h3 => k0_hw94.2 k0_h3

def k0_chk95 (v82 : BitVec 32) (v136 : IVec S16 32) (v139 : IVec S16 32) (v202 : IVec S16 32) : Prop :=
  (∀ (k0_h3 : k0_cond3 v82 = 1#1), ∀ a x, ((![v139, v202] : Fin 2 → IVec S16 32) a x).toNat < S48x128.size a) ∧
  (∀ (k0_h3 : k0_cond3 v82 = 1#1), ∀ a x, ((![v202, v136] : Fin 2 → IVec S16 32) a x).toNat < S64x512.size a)
theorem k0_idx189_inb : ∀ (v82 : BitVec 32) (v136 : IVec S16 32) (v139 : IVec S16 32) (v202 : IVec S16 32) (k0_hw95 : k0_chk95 v82 v136 v139 v202), ∀ (k0_h3 : k0_cond3 v82 = 1#1), ∀ a x, ((![v139, v202] : Fin 2 → IVec S16 32) a x).toNat < S48x128.size a := fun v82 v136 v139 v202 k0_hw95 k0_h3 => k0_hw95.1 k0_h3
theorem k0_idx190_inb : ∀ (v82 : BitVec 32) (v136 : IVec S16 32) (v139 : IVec S16 32) (v202 : IVec S16 32) (k0_hw95 : k0_chk95 v82 v136 v139 v202), ∀ (k0_h3 : k0_cond3 v82 = 1#1), ∀ a x, ((![v202, v136] : Fin 2 → IVec S16 32) a x).toNat < S64x512.size a := fun v82 v136 v139 v202 k0_hw95 k0_h3 => k0_hw95.2 k0_h3

def k0_chk96 (v82 : BitVec 32) (v136 : IVec S16 32) (v139 : IVec S16 32) (v204 : IVec S16 32) : Prop :=
  (∀ (k0_h3 : k0_cond3 v82 = 1#1), ∀ a x, ((![v139, v204] : Fin 2 → IVec S16 32) a x).toNat < S48x128.size a) ∧
  (∀ (k0_h3 : k0_cond3 v82 = 1#1), ∀ a x, ((![v204, v136] : Fin 2 → IVec S16 32) a x).toNat < S64x512.size a)
theorem k0_idx191_inb : ∀ (v82 : BitVec 32) (v136 : IVec S16 32) (v139 : IVec S16 32) (v204 : IVec S16 32) (k0_hw96 : k0_chk96 v82 v136 v139 v204), ∀ (k0_h3 : k0_cond3 v82 = 1#1), ∀ a x, ((![v139, v204] : Fin 2 → IVec S16 32) a x).toNat < S48x128.size a := fun v82 v136 v139 v204 k0_hw96 k0_h3 => k0_hw96.1 k0_h3
theorem k0_idx192_inb : ∀ (v82 : BitVec 32) (v136 : IVec S16 32) (v139 : IVec S16 32) (v204 : IVec S16 32) (k0_hw96 : k0_chk96 v82 v136 v139 v204), ∀ (k0_h3 : k0_cond3 v82 = 1#1), ∀ a x, ((![v204, v136] : Fin 2 → IVec S16 32) a x).toNat < S64x512.size a := fun v82 v136 v139 v204 k0_hw96 k0_h3 => k0_hw96.2 k0_h3

def k0_chk97 (v82 : BitVec 32) (v136 : IVec S16 32) (v139 : IVec S16 32) (v206 : IVec S16 32) : Prop :=
  (∀ (k0_h3 : k0_cond3 v82 = 1#1), ∀ a x, ((![v139, v206] : Fin 2 → IVec S16 32) a x).toNat < S48x128.size a) ∧
  (∀ (k0_h3 : k0_cond3 v82 = 1#1), ∀ a x, ((![v206, v136] : Fin 2 → IVec S16 32) a x).toNat < S64x512.size a)
theorem k0_idx193_inb : ∀ (v82 : BitVec 32) (v136 : IVec S16 32) (v139 : IVec S16 32) (v206 : IVec S16 32) (k0_hw97 : k0_chk97 v82 v136 v139 v206), ∀ (k0_h3 : k0_cond3 v82 = 1#1), ∀ a x, ((![v139, v206] : Fin 2 → IVec S16 32) a x).toNat < S48x128.size a := fun v82 v136 v139 v206 k0_hw97 k0_h3 => k0_hw97.1 k0_h3
theorem k0_idx194_inb : ∀ (v82 : BitVec 32) (v136 : IVec S16 32) (v139 : IVec S16 32) (v206 : IVec S16 32) (k0_hw97 : k0_chk97 v82 v136 v139 v206), ∀ (k0_h3 : k0_cond3 v82 = 1#1), ∀ a x, ((![v206, v136] : Fin 2 → IVec S16 32) a x).toNat < S64x512.size a := fun v82 v136 v139 v206 k0_hw97 k0_h3 => k0_hw97.2 k0_h3

def k0_chk98 (v82 : BitVec 32) (v136 : IVec S16 32) (v139 : IVec S16 32) (v208 : IVec S16 32) : Prop :=
  (∀ (k0_h3 : k0_cond3 v82 = 1#1), ∀ a x, ((![v139, v208] : Fin 2 → IVec S16 32) a x).toNat < S48x128.size a) ∧
  (∀ (k0_h3 : k0_cond3 v82 = 1#1), ∀ a x, ((![v208, v136] : Fin 2 → IVec S16 32) a x).toNat < S64x512.size a)
theorem k0_idx195_inb : ∀ (v82 : BitVec 32) (v136 : IVec S16 32) (v139 : IVec S16 32) (v208 : IVec S16 32) (k0_hw98 : k0_chk98 v82 v136 v139 v208), ∀ (k0_h3 : k0_cond3 v82 = 1#1), ∀ a x, ((![v139, v208] : Fin 2 → IVec S16 32) a x).toNat < S48x128.size a := fun v82 v136 v139 v208 k0_hw98 k0_h3 => k0_hw98.1 k0_h3
theorem k0_idx196_inb : ∀ (v82 : BitVec 32) (v136 : IVec S16 32) (v139 : IVec S16 32) (v208 : IVec S16 32) (k0_hw98 : k0_chk98 v82 v136 v139 v208), ∀ (k0_h3 : k0_cond3 v82 = 1#1), ∀ a x, ((![v208, v136] : Fin 2 → IVec S16 32) a x).toNat < S64x512.size a := fun v82 v136 v139 v208 k0_hw98 k0_h3 => k0_hw98.2 k0_h3

def k0_chk99 (v82 : BitVec 32) (v136 : IVec S16 32) (v139 : IVec S16 32) (v210 : IVec S16 32) : Prop :=
  (∀ (k0_h3 : k0_cond3 v82 = 1#1), ∀ a x, ((![v139, v210] : Fin 2 → IVec S16 32) a x).toNat < S48x128.size a) ∧
  (∀ (k0_h3 : k0_cond3 v82 = 1#1), ∀ a x, ((![v210, v136] : Fin 2 → IVec S16 32) a x).toNat < S64x512.size a)
theorem k0_idx197_inb : ∀ (v82 : BitVec 32) (v136 : IVec S16 32) (v139 : IVec S16 32) (v210 : IVec S16 32) (k0_hw99 : k0_chk99 v82 v136 v139 v210), ∀ (k0_h3 : k0_cond3 v82 = 1#1), ∀ a x, ((![v139, v210] : Fin 2 → IVec S16 32) a x).toNat < S48x128.size a := fun v82 v136 v139 v210 k0_hw99 k0_h3 => k0_hw99.1 k0_h3
theorem k0_idx198_inb : ∀ (v82 : BitVec 32) (v136 : IVec S16 32) (v139 : IVec S16 32) (v210 : IVec S16 32) (k0_hw99 : k0_chk99 v82 v136 v139 v210), ∀ (k0_h3 : k0_cond3 v82 = 1#1), ∀ a x, ((![v210, v136] : Fin 2 → IVec S16 32) a x).toNat < S64x512.size a := fun v82 v136 v139 v210 k0_hw99 k0_h3 => k0_hw99.2 k0_h3

def k0_chk100 (v82 : BitVec 32) (v136 : IVec S16 32) (v139 : IVec S16 32) (v212 : IVec S16 32) : Prop :=
  (∀ (k0_h3 : k0_cond3 v82 = 1#1), ∀ a x, ((![v139, v212] : Fin 2 → IVec S16 32) a x).toNat < S48x128.size a) ∧
  (∀ (k0_h3 : k0_cond3 v82 = 1#1), ∀ a x, ((![v212, v136] : Fin 2 → IVec S16 32) a x).toNat < S64x512.size a)
theorem k0_idx199_inb : ∀ (v82 : BitVec 32) (v136 : IVec S16 32) (v139 : IVec S16 32) (v212 : IVec S16 32) (k0_hw100 : k0_chk100 v82 v136 v139 v212), ∀ (k0_h3 : k0_cond3 v82 = 1#1), ∀ a x, ((![v139, v212] : Fin 2 → IVec S16 32) a x).toNat < S48x128.size a := fun v82 v136 v139 v212 k0_hw100 k0_h3 => k0_hw100.1 k0_h3
theorem k0_idx200_inb : ∀ (v82 : BitVec 32) (v136 : IVec S16 32) (v139 : IVec S16 32) (v212 : IVec S16 32) (k0_hw100 : k0_chk100 v82 v136 v139 v212), ∀ (k0_h3 : k0_cond3 v82 = 1#1), ∀ a x, ((![v212, v136] : Fin 2 → IVec S16 32) a x).toNat < S64x512.size a := fun v82 v136 v139 v212 k0_hw100 k0_h3 => k0_hw100.2 k0_h3

def k0_chk101 (v82 : BitVec 32) (v136 : IVec S16 32) (v139 : IVec S16 32) (v214 : IVec S16 32) : Prop :=
  (∀ (k0_h3 : k0_cond3 v82 = 1#1), ∀ a x, ((![v139, v214] : Fin 2 → IVec S16 32) a x).toNat < S48x128.size a) ∧
  (∀ (k0_h3 : k0_cond3 v82 = 1#1), ∀ a x, ((![v214, v136] : Fin 2 → IVec S16 32) a x).toNat < S64x512.size a)
theorem k0_idx201_inb : ∀ (v82 : BitVec 32) (v136 : IVec S16 32) (v139 : IVec S16 32) (v214 : IVec S16 32) (k0_hw101 : k0_chk101 v82 v136 v139 v214), ∀ (k0_h3 : k0_cond3 v82 = 1#1), ∀ a x, ((![v139, v214] : Fin 2 → IVec S16 32) a x).toNat < S48x128.size a := fun v82 v136 v139 v214 k0_hw101 k0_h3 => k0_hw101.1 k0_h3
theorem k0_idx202_inb : ∀ (v82 : BitVec 32) (v136 : IVec S16 32) (v139 : IVec S16 32) (v214 : IVec S16 32) (k0_hw101 : k0_chk101 v82 v136 v139 v214), ∀ (k0_h3 : k0_cond3 v82 = 1#1), ∀ a x, ((![v214, v136] : Fin 2 → IVec S16 32) a x).toNat < S64x512.size a := fun v82 v136 v139 v214 k0_hw101 k0_h3 => k0_hw101.2 k0_h3

def k0_chk102 (v82 : BitVec 32) (v136 : IVec S16 32) (v139 : IVec S16 32) (v216 : IVec S16 32) : Prop :=
  (∀ (k0_h3 : k0_cond3 v82 = 1#1), ∀ a x, ((![v139, v216] : Fin 2 → IVec S16 32) a x).toNat < S48x128.size a) ∧
  (∀ (k0_h3 : k0_cond3 v82 = 1#1), ∀ a x, ((![v216, v136] : Fin 2 → IVec S16 32) a x).toNat < S64x512.size a)
theorem k0_idx203_inb : ∀ (v82 : BitVec 32) (v136 : IVec S16 32) (v139 : IVec S16 32) (v216 : IVec S16 32) (k0_hw102 : k0_chk102 v82 v136 v139 v216), ∀ (k0_h3 : k0_cond3 v82 = 1#1), ∀ a x, ((![v139, v216] : Fin 2 → IVec S16 32) a x).toNat < S48x128.size a := fun v82 v136 v139 v216 k0_hw102 k0_h3 => k0_hw102.1 k0_h3
theorem k0_idx204_inb : ∀ (v82 : BitVec 32) (v136 : IVec S16 32) (v139 : IVec S16 32) (v216 : IVec S16 32) (k0_hw102 : k0_chk102 v82 v136 v139 v216), ∀ (k0_h3 : k0_cond3 v82 = 1#1), ∀ a x, ((![v216, v136] : Fin 2 → IVec S16 32) a x).toNat < S64x512.size a := fun v82 v136 v139 v216 k0_hw102 k0_h3 => k0_hw102.2 k0_h3

def k0_chk103 (v82 : BitVec 32) (v136 : IVec S16 32) (v139 : IVec S16 32) (v218 : IVec S16 32) : Prop :=
  (∀ (k0_h3 : k0_cond3 v82 = 1#1), ∀ a x, ((![v139, v218] : Fin 2 → IVec S16 32) a x).toNat < S48x128.size a) ∧
  (∀ (k0_h3 : k0_cond3 v82 = 1#1), ∀ a x, ((![v218, v136] : Fin 2 → IVec S16 32) a x).toNat < S64x512.size a)
theorem k0_idx205_inb : ∀ (v82 : BitVec 32) (v136 : IVec S16 32) (v139 : IVec S16 32) (v218 : IVec S16 32) (k0_hw103 : k0_chk103 v82 v136 v139 v218), ∀ (k0_h3 : k0_cond3 v82 = 1#1), ∀ a x, ((![v139, v218] : Fin 2 → IVec S16 32) a x).toNat < S48x128.size a := fun v82 v136 v139 v218 k0_hw103 k0_h3 => k0_hw103.1 k0_h3
theorem k0_idx206_inb : ∀ (v82 : BitVec 32) (v136 : IVec S16 32) (v139 : IVec S16 32) (v218 : IVec S16 32) (k0_hw103 : k0_chk103 v82 v136 v139 v218), ∀ (k0_h3 : k0_cond3 v82 = 1#1), ∀ a x, ((![v218, v136] : Fin 2 → IVec S16 32) a x).toNat < S64x512.size a := fun v82 v136 v139 v218 k0_hw103 k0_h3 => k0_hw103.2 k0_h3

def k0_chk104 (v82 : BitVec 32) (v136 : IVec S16 32) (v139 : IVec S16 32) (v220 : IVec S16 32) : Prop :=
  (∀ (k0_h3 : k0_cond3 v82 = 1#1), ∀ a x, ((![v139, v220] : Fin 2 → IVec S16 32) a x).toNat < S48x128.size a) ∧
  (∀ (k0_h3 : k0_cond3 v82 = 1#1), ∀ a x, ((![v220, v136] : Fin 2 → IVec S16 32) a x).toNat < S64x512.size a)
theorem k0_idx207_inb : ∀ (v82 : BitVec 32) (v136 : IVec S16 32) (v139 : IVec S16 32) (v220 : IVec S16 32) (k0_hw104 : k0_chk104 v82 v136 v139 v220), ∀ (k0_h3 : k0_cond3 v82 = 1#1), ∀ a x, ((![v139, v220] : Fin 2 → IVec S16 32) a x).toNat < S48x128.size a := fun v82 v136 v139 v220 k0_hw104 k0_h3 => k0_hw104.1 k0_h3
theorem k0_idx208_inb : ∀ (v82 : BitVec 32) (v136 : IVec S16 32) (v139 : IVec S16 32) (v220 : IVec S16 32) (k0_hw104 : k0_chk104 v82 v136 v139 v220), ∀ (k0_h3 : k0_cond3 v82 = 1#1), ∀ a x, ((![v220, v136] : Fin 2 → IVec S16 32) a x).toNat < S64x512.size a := fun v82 v136 v139 v220 k0_hw104 k0_h3 => k0_hw104.2 k0_h3

def k0_chk105 (v82 : BitVec 32) (v136 : IVec S16 32) (v139 : IVec S16 32) (v222 : IVec S16 32) : Prop :=
  (∀ (k0_h3 : k0_cond3 v82 = 1#1), ∀ a x, ((![v139, v222] : Fin 2 → IVec S16 32) a x).toNat < S48x128.size a) ∧
  (∀ (k0_h3 : k0_cond3 v82 = 1#1), ∀ a x, ((![v222, v136] : Fin 2 → IVec S16 32) a x).toNat < S64x512.size a)
theorem k0_idx209_inb : ∀ (v82 : BitVec 32) (v136 : IVec S16 32) (v139 : IVec S16 32) (v222 : IVec S16 32) (k0_hw105 : k0_chk105 v82 v136 v139 v222), ∀ (k0_h3 : k0_cond3 v82 = 1#1), ∀ a x, ((![v139, v222] : Fin 2 → IVec S16 32) a x).toNat < S48x128.size a := fun v82 v136 v139 v222 k0_hw105 k0_h3 => k0_hw105.1 k0_h3
theorem k0_idx210_inb : ∀ (v82 : BitVec 32) (v136 : IVec S16 32) (v139 : IVec S16 32) (v222 : IVec S16 32) (k0_hw105 : k0_chk105 v82 v136 v139 v222), ∀ (k0_h3 : k0_cond3 v82 = 1#1), ∀ a x, ((![v222, v136] : Fin 2 → IVec S16 32) a x).toNat < S64x512.size a := fun v82 v136 v139 v222 k0_hw105 k0_h3 => k0_hw105.2 k0_h3

def k0_chk106 (v82 : BitVec 32) (v136 : IVec S16 32) (v139 : IVec S16 32) (v224 : IVec S16 32) : Prop :=
  (∀ (k0_h3 : k0_cond3 v82 = 1#1), ∀ a x, ((![v139, v224] : Fin 2 → IVec S16 32) a x).toNat < S48x128.size a) ∧
  (∀ (k0_h3 : k0_cond3 v82 = 1#1), ∀ a x, ((![v224, v136] : Fin 2 → IVec S16 32) a x).toNat < S64x512.size a)
theorem k0_idx211_inb : ∀ (v82 : BitVec 32) (v136 : IVec S16 32) (v139 : IVec S16 32) (v224 : IVec S16 32) (k0_hw106 : k0_chk106 v82 v136 v139 v224), ∀ (k0_h3 : k0_cond3 v82 = 1#1), ∀ a x, ((![v139, v224] : Fin 2 → IVec S16 32) a x).toNat < S48x128.size a := fun v82 v136 v139 v224 k0_hw106 k0_h3 => k0_hw106.1 k0_h3
theorem k0_idx212_inb : ∀ (v82 : BitVec 32) (v136 : IVec S16 32) (v139 : IVec S16 32) (v224 : IVec S16 32) (k0_hw106 : k0_chk106 v82 v136 v139 v224), ∀ (k0_h3 : k0_cond3 v82 = 1#1), ∀ a x, ((![v224, v136] : Fin 2 → IVec S16 32) a x).toNat < S64x512.size a := fun v82 v136 v139 v224 k0_hw106 k0_h3 => k0_hw106.2 k0_h3

def k0_chk107 (v82 : BitVec 32) (v136 : IVec S16 32) (v139 : IVec S16 32) (v226 : IVec S16 32) : Prop :=
  (∀ (k0_h3 : k0_cond3 v82 = 1#1), ∀ a x, ((![v139, v226] : Fin 2 → IVec S16 32) a x).toNat < S48x128.size a) ∧
  (∀ (k0_h3 : k0_cond3 v82 = 1#1), ∀ a x, ((![v226, v136] : Fin 2 → IVec S16 32) a x).toNat < S64x512.size a)
theorem k0_idx213_inb : ∀ (v82 : BitVec 32) (v136 : IVec S16 32) (v139 : IVec S16 32) (v226 : IVec S16 32) (k0_hw107 : k0_chk107 v82 v136 v139 v226), ∀ (k0_h3 : k0_cond3 v82 = 1#1), ∀ a x, ((![v139, v226] : Fin 2 → IVec S16 32) a x).toNat < S48x128.size a := fun v82 v136 v139 v226 k0_hw107 k0_h3 => k0_hw107.1 k0_h3
theorem k0_idx214_inb : ∀ (v82 : BitVec 32) (v136 : IVec S16 32) (v139 : IVec S16 32) (v226 : IVec S16 32) (k0_hw107 : k0_chk107 v82 v136 v139 v226), ∀ (k0_h3 : k0_cond3 v82 = 1#1), ∀ a x, ((![v226, v136] : Fin 2 → IVec S16 32) a x).toNat < S64x512.size a := fun v82 v136 v139 v226 k0_hw107 k0_h3 => k0_hw107.2 k0_h3

def k0_chk108 (v82 : BitVec 32) (v136 : IVec S16 32) (v139 : IVec S16 32) (v228 : IVec S16 32) : Prop :=
  (∀ (k0_h3 : k0_cond3 v82 = 1#1), ∀ a x, ((![v139, v228] : Fin 2 → IVec S16 32) a x).toNat < S48x128.size a) ∧
  (∀ (k0_h3 : k0_cond3 v82 = 1#1), ∀ a x, ((![v228, v136] : Fin 2 → IVec S16 32) a x).toNat < S64x512.size a)
theorem k0_idx215_inb : ∀ (v82 : BitVec 32) (v136 : IVec S16 32) (v139 : IVec S16 32) (v228 : IVec S16 32) (k0_hw108 : k0_chk108 v82 v136 v139 v228), ∀ (k0_h3 : k0_cond3 v82 = 1#1), ∀ a x, ((![v139, v228] : Fin 2 → IVec S16 32) a x).toNat < S48x128.size a := fun v82 v136 v139 v228 k0_hw108 k0_h3 => k0_hw108.1 k0_h3
theorem k0_idx216_inb : ∀ (v82 : BitVec 32) (v136 : IVec S16 32) (v139 : IVec S16 32) (v228 : IVec S16 32) (k0_hw108 : k0_chk108 v82 v136 v139 v228), ∀ (k0_h3 : k0_cond3 v82 = 1#1), ∀ a x, ((![v228, v136] : Fin 2 → IVec S16 32) a x).toNat < S64x512.size a := fun v82 v136 v139 v228 k0_hw108 k0_h3 => k0_hw108.2 k0_h3

def k0_chk109 (v82 : BitVec 32) (v136 : IVec S16 32) (v139 : IVec S16 32) (v230 : IVec S16 32) : Prop :=
  (∀ (k0_h3 : k0_cond3 v82 = 1#1), ∀ a x, ((![v139, v230] : Fin 2 → IVec S16 32) a x).toNat < S48x128.size a) ∧
  (∀ (k0_h3 : k0_cond3 v82 = 1#1), ∀ a x, ((![v230, v136] : Fin 2 → IVec S16 32) a x).toNat < S64x512.size a)
theorem k0_idx217_inb : ∀ (v82 : BitVec 32) (v136 : IVec S16 32) (v139 : IVec S16 32) (v230 : IVec S16 32) (k0_hw109 : k0_chk109 v82 v136 v139 v230), ∀ (k0_h3 : k0_cond3 v82 = 1#1), ∀ a x, ((![v139, v230] : Fin 2 → IVec S16 32) a x).toNat < S48x128.size a := fun v82 v136 v139 v230 k0_hw109 k0_h3 => k0_hw109.1 k0_h3
theorem k0_idx218_inb : ∀ (v82 : BitVec 32) (v136 : IVec S16 32) (v139 : IVec S16 32) (v230 : IVec S16 32) (k0_hw109 : k0_chk109 v82 v136 v139 v230), ∀ (k0_h3 : k0_cond3 v82 = 1#1), ∀ a x, ((![v230, v136] : Fin 2 → IVec S16 32) a x).toNat < S64x512.size a := fun v82 v136 v139 v230 k0_hw109 k0_h3 => k0_hw109.2 k0_h3

def k0_chk110 (v82 : BitVec 32) (v136 : IVec S16 32) (v139 : IVec S16 32) (v232 : IVec S16 32) : Prop :=
  (∀ (k0_h3 : k0_cond3 v82 = 1#1), ∀ a x, ((![v139, v232] : Fin 2 → IVec S16 32) a x).toNat < S48x128.size a) ∧
  (∀ (k0_h3 : k0_cond3 v82 = 1#1), ∀ a x, ((![v232, v136] : Fin 2 → IVec S16 32) a x).toNat < S64x512.size a)
theorem k0_idx219_inb : ∀ (v82 : BitVec 32) (v136 : IVec S16 32) (v139 : IVec S16 32) (v232 : IVec S16 32) (k0_hw110 : k0_chk110 v82 v136 v139 v232), ∀ (k0_h3 : k0_cond3 v82 = 1#1), ∀ a x, ((![v139, v232] : Fin 2 → IVec S16 32) a x).toNat < S48x128.size a := fun v82 v136 v139 v232 k0_hw110 k0_h3 => k0_hw110.1 k0_h3
theorem k0_idx220_inb : ∀ (v82 : BitVec 32) (v136 : IVec S16 32) (v139 : IVec S16 32) (v232 : IVec S16 32) (k0_hw110 : k0_chk110 v82 v136 v139 v232), ∀ (k0_h3 : k0_cond3 v82 = 1#1), ∀ a x, ((![v232, v136] : Fin 2 → IVec S16 32) a x).toNat < S64x512.size a := fun v82 v136 v139 v232 k0_hw110 k0_h3 => k0_hw110.2 k0_h3

def k0_chk111 (v82 : BitVec 32) (v136 : IVec S16 32) (v139 : IVec S16 32) (v234 : IVec S16 32) : Prop :=
  (∀ (k0_h3 : k0_cond3 v82 = 1#1), ∀ a x, ((![v139, v234] : Fin 2 → IVec S16 32) a x).toNat < S48x128.size a) ∧
  (∀ (k0_h3 : k0_cond3 v82 = 1#1), ∀ a x, ((![v234, v136] : Fin 2 → IVec S16 32) a x).toNat < S64x512.size a)
theorem k0_idx221_inb : ∀ (v82 : BitVec 32) (v136 : IVec S16 32) (v139 : IVec S16 32) (v234 : IVec S16 32) (k0_hw111 : k0_chk111 v82 v136 v139 v234), ∀ (k0_h3 : k0_cond3 v82 = 1#1), ∀ a x, ((![v139, v234] : Fin 2 → IVec S16 32) a x).toNat < S48x128.size a := fun v82 v136 v139 v234 k0_hw111 k0_h3 => k0_hw111.1 k0_h3
theorem k0_idx222_inb : ∀ (v82 : BitVec 32) (v136 : IVec S16 32) (v139 : IVec S16 32) (v234 : IVec S16 32) (k0_hw111 : k0_chk111 v82 v136 v139 v234), ∀ (k0_h3 : k0_cond3 v82 = 1#1), ∀ a x, ((![v234, v136] : Fin 2 → IVec S16 32) a x).toNat < S64x512.size a := fun v82 v136 v139 v234 k0_hw111 k0_h3 => k0_hw111.2 k0_h3

def k0_chk112 (v82 : BitVec 32) (v136 : IVec S16 32) (v139 : IVec S16 32) (v236 : IVec S16 32) : Prop :=
  (∀ (k0_h3 : k0_cond3 v82 = 1#1), ∀ a x, ((![v139, v236] : Fin 2 → IVec S16 32) a x).toNat < S48x128.size a) ∧
  (∀ (k0_h3 : k0_cond3 v82 = 1#1), ∀ a x, ((![v236, v136] : Fin 2 → IVec S16 32) a x).toNat < S64x512.size a)
theorem k0_idx223_inb : ∀ (v82 : BitVec 32) (v136 : IVec S16 32) (v139 : IVec S16 32) (v236 : IVec S16 32) (k0_hw112 : k0_chk112 v82 v136 v139 v236), ∀ (k0_h3 : k0_cond3 v82 = 1#1), ∀ a x, ((![v139, v236] : Fin 2 → IVec S16 32) a x).toNat < S48x128.size a := fun v82 v136 v139 v236 k0_hw112 k0_h3 => k0_hw112.1 k0_h3
theorem k0_idx224_inb : ∀ (v82 : BitVec 32) (v136 : IVec S16 32) (v139 : IVec S16 32) (v236 : IVec S16 32) (k0_hw112 : k0_chk112 v82 v136 v139 v236), ∀ (k0_h3 : k0_cond3 v82 = 1#1), ∀ a x, ((![v236, v136] : Fin 2 → IVec S16 32) a x).toNat < S64x512.size a := fun v82 v136 v139 v236 k0_hw112 k0_h3 => k0_hw112.2 k0_h3

def k0_chk113 (v82 : BitVec 32) (v136 : IVec S16 32) (v139 : IVec S16 32) (v238 : IVec S16 32) : Prop :=
  (∀ (k0_h3 : k0_cond3 v82 = 1#1), ∀ a x, ((![v139, v238] : Fin 2 → IVec S16 32) a x).toNat < S48x128.size a) ∧
  (∀ (k0_h3 : k0_cond3 v82 = 1#1), ∀ a x, ((![v238, v136] : Fin 2 → IVec S16 32) a x).toNat < S64x512.size a)
theorem k0_idx225_inb : ∀ (v82 : BitVec 32) (v136 : IVec S16 32) (v139 : IVec S16 32) (v238 : IVec S16 32) (k0_hw113 : k0_chk113 v82 v136 v139 v238), ∀ (k0_h3 : k0_cond3 v82 = 1#1), ∀ a x, ((![v139, v238] : Fin 2 → IVec S16 32) a x).toNat < S48x128.size a := fun v82 v136 v139 v238 k0_hw113 k0_h3 => k0_hw113.1 k0_h3
theorem k0_idx226_inb : ∀ (v82 : BitVec 32) (v136 : IVec S16 32) (v139 : IVec S16 32) (v238 : IVec S16 32) (k0_hw113 : k0_chk113 v82 v136 v139 v238), ∀ (k0_h3 : k0_cond3 v82 = 1#1), ∀ a x, ((![v238, v136] : Fin 2 → IVec S16 32) a x).toNat < S64x512.size a := fun v82 v136 v139 v238 k0_hw113 k0_h3 => k0_hw113.2 k0_h3

def k0_chk114 (v82 : BitVec 32) (v136 : IVec S16 32) (v139 : IVec S16 32) (v240 : IVec S16 32) : Prop :=
  (∀ (k0_h3 : k0_cond3 v82 = 1#1), ∀ a x, ((![v139, v240] : Fin 2 → IVec S16 32) a x).toNat < S48x128.size a) ∧
  (∀ (k0_h3 : k0_cond3 v82 = 1#1), ∀ a x, ((![v240, v136] : Fin 2 → IVec S16 32) a x).toNat < S64x512.size a)
theorem k0_idx227_inb : ∀ (v82 : BitVec 32) (v136 : IVec S16 32) (v139 : IVec S16 32) (v240 : IVec S16 32) (k0_hw114 : k0_chk114 v82 v136 v139 v240), ∀ (k0_h3 : k0_cond3 v82 = 1#1), ∀ a x, ((![v139, v240] : Fin 2 → IVec S16 32) a x).toNat < S48x128.size a := fun v82 v136 v139 v240 k0_hw114 k0_h3 => k0_hw114.1 k0_h3
theorem k0_idx228_inb : ∀ (v82 : BitVec 32) (v136 : IVec S16 32) (v139 : IVec S16 32) (v240 : IVec S16 32) (k0_hw114 : k0_chk114 v82 v136 v139 v240), ∀ (k0_h3 : k0_cond3 v82 = 1#1), ∀ a x, ((![v240, v136] : Fin 2 → IVec S16 32) a x).toNat < S64x512.size a := fun v82 v136 v139 v240 k0_hw114 k0_h3 => k0_hw114.2 k0_h3

def k0_chk115 (v82 : BitVec 32) (v136 : IVec S16 32) (v139 : IVec S16 32) (v242 : IVec S16 32) : Prop :=
  (∀ (k0_h3 : k0_cond3 v82 = 1#1), ∀ a x, ((![v139, v242] : Fin 2 → IVec S16 32) a x).toNat < S48x128.size a) ∧
  (∀ (k0_h3 : k0_cond3 v82 = 1#1), ∀ a x, ((![v242, v136] : Fin 2 → IVec S16 32) a x).toNat < S64x512.size a)
theorem k0_idx229_inb : ∀ (v82 : BitVec 32) (v136 : IVec S16 32) (v139 : IVec S16 32) (v242 : IVec S16 32) (k0_hw115 : k0_chk115 v82 v136 v139 v242), ∀ (k0_h3 : k0_cond3 v82 = 1#1), ∀ a x, ((![v139, v242] : Fin 2 → IVec S16 32) a x).toNat < S48x128.size a := fun v82 v136 v139 v242 k0_hw115 k0_h3 => k0_hw115.1 k0_h3
theorem k0_idx230_inb : ∀ (v82 : BitVec 32) (v136 : IVec S16 32) (v139 : IVec S16 32) (v242 : IVec S16 32) (k0_hw115 : k0_chk115 v82 v136 v139 v242), ∀ (k0_h3 : k0_cond3 v82 = 1#1), ∀ a x, ((![v242, v136] : Fin 2 → IVec S16 32) a x).toNat < S64x512.size a := fun v82 v136 v139 v242 k0_hw115 k0_h3 => k0_hw115.2 k0_h3

def k0_chk116 (v82 : BitVec 32) (v136 : IVec S16 32) (v139 : IVec S16 32) (v244 : IVec S16 32) : Prop :=
  (∀ (k0_h3 : k0_cond3 v82 = 1#1), ∀ a x, ((![v139, v244] : Fin 2 → IVec S16 32) a x).toNat < S48x128.size a) ∧
  (∀ (k0_h3 : k0_cond3 v82 = 1#1), ∀ a x, ((![v244, v136] : Fin 2 → IVec S16 32) a x).toNat < S64x512.size a)
theorem k0_idx231_inb : ∀ (v82 : BitVec 32) (v136 : IVec S16 32) (v139 : IVec S16 32) (v244 : IVec S16 32) (k0_hw116 : k0_chk116 v82 v136 v139 v244), ∀ (k0_h3 : k0_cond3 v82 = 1#1), ∀ a x, ((![v139, v244] : Fin 2 → IVec S16 32) a x).toNat < S48x128.size a := fun v82 v136 v139 v244 k0_hw116 k0_h3 => k0_hw116.1 k0_h3
theorem k0_idx232_inb : ∀ (v82 : BitVec 32) (v136 : IVec S16 32) (v139 : IVec S16 32) (v244 : IVec S16 32) (k0_hw116 : k0_chk116 v82 v136 v139 v244), ∀ (k0_h3 : k0_cond3 v82 = 1#1), ∀ a x, ((![v244, v136] : Fin 2 → IVec S16 32) a x).toNat < S64x512.size a := fun v82 v136 v139 v244 k0_hw116 k0_h3 => k0_hw116.2 k0_h3

def k0_chk117 (v82 : BitVec 32) (v136 : IVec S16 32) (v139 : IVec S16 32) (v246 : IVec S16 32) : Prop :=
  (∀ (k0_h3 : k0_cond3 v82 = 1#1), ∀ a x, ((![v139, v246] : Fin 2 → IVec S16 32) a x).toNat < S48x128.size a) ∧
  (∀ (k0_h3 : k0_cond3 v82 = 1#1), ∀ a x, ((![v246, v136] : Fin 2 → IVec S16 32) a x).toNat < S64x512.size a)
theorem k0_idx233_inb : ∀ (v82 : BitVec 32) (v136 : IVec S16 32) (v139 : IVec S16 32) (v246 : IVec S16 32) (k0_hw117 : k0_chk117 v82 v136 v139 v246), ∀ (k0_h3 : k0_cond3 v82 = 1#1), ∀ a x, ((![v139, v246] : Fin 2 → IVec S16 32) a x).toNat < S48x128.size a := fun v82 v136 v139 v246 k0_hw117 k0_h3 => k0_hw117.1 k0_h3
theorem k0_idx234_inb : ∀ (v82 : BitVec 32) (v136 : IVec S16 32) (v139 : IVec S16 32) (v246 : IVec S16 32) (k0_hw117 : k0_chk117 v82 v136 v139 v246), ∀ (k0_h3 : k0_cond3 v82 = 1#1), ∀ a x, ((![v246, v136] : Fin 2 → IVec S16 32) a x).toNat < S64x512.size a := fun v82 v136 v139 v246 k0_hw117 k0_h3 => k0_hw117.2 k0_h3

def k0_chk118 (v82 : BitVec 32) (v136 : IVec S16 32) (v139 : IVec S16 32) (v248 : IVec S16 32) : Prop :=
  (∀ (k0_h3 : k0_cond3 v82 = 1#1), ∀ a x, ((![v139, v248] : Fin 2 → IVec S16 32) a x).toNat < S48x128.size a) ∧
  (∀ (k0_h3 : k0_cond3 v82 = 1#1), ∀ a x, ((![v248, v136] : Fin 2 → IVec S16 32) a x).toNat < S64x512.size a)
theorem k0_idx235_inb : ∀ (v82 : BitVec 32) (v136 : IVec S16 32) (v139 : IVec S16 32) (v248 : IVec S16 32) (k0_hw118 : k0_chk118 v82 v136 v139 v248), ∀ (k0_h3 : k0_cond3 v82 = 1#1), ∀ a x, ((![v139, v248] : Fin 2 → IVec S16 32) a x).toNat < S48x128.size a := fun v82 v136 v139 v248 k0_hw118 k0_h3 => k0_hw118.1 k0_h3
theorem k0_idx236_inb : ∀ (v82 : BitVec 32) (v136 : IVec S16 32) (v139 : IVec S16 32) (v248 : IVec S16 32) (k0_hw118 : k0_chk118 v82 v136 v139 v248), ∀ (k0_h3 : k0_cond3 v82 = 1#1), ∀ a x, ((![v248, v136] : Fin 2 → IVec S16 32) a x).toNat < S64x512.size a := fun v82 v136 v139 v248 k0_hw118 k0_h3 => k0_hw118.2 k0_h3

def k0_chk119 (v82 : BitVec 32) (v136 : IVec S16 32) (v139 : IVec S16 32) (v250 : IVec S16 32) : Prop :=
  (∀ (k0_h3 : k0_cond3 v82 = 1#1), ∀ a x, ((![v139, v250] : Fin 2 → IVec S16 32) a x).toNat < S48x128.size a) ∧
  (∀ (k0_h3 : k0_cond3 v82 = 1#1), ∀ a x, ((![v250, v136] : Fin 2 → IVec S16 32) a x).toNat < S64x512.size a)
theorem k0_idx237_inb : ∀ (v82 : BitVec 32) (v136 : IVec S16 32) (v139 : IVec S16 32) (v250 : IVec S16 32) (k0_hw119 : k0_chk119 v82 v136 v139 v250), ∀ (k0_h3 : k0_cond3 v82 = 1#1), ∀ a x, ((![v139, v250] : Fin 2 → IVec S16 32) a x).toNat < S48x128.size a := fun v82 v136 v139 v250 k0_hw119 k0_h3 => k0_hw119.1 k0_h3
theorem k0_idx238_inb : ∀ (v82 : BitVec 32) (v136 : IVec S16 32) (v139 : IVec S16 32) (v250 : IVec S16 32) (k0_hw119 : k0_chk119 v82 v136 v139 v250), ∀ (k0_h3 : k0_cond3 v82 = 1#1), ∀ a x, ((![v250, v136] : Fin 2 → IVec S16 32) a x).toNat < S64x512.size a := fun v82 v136 v139 v250 k0_hw119 k0_h3 => k0_hw119.2 k0_h3

def k0_chk120 (v82 : BitVec 32) (v136 : IVec S16 32) (v139 : IVec S16 32) (v252 : IVec S16 32) : Prop :=
  (∀ (k0_h3 : k0_cond3 v82 = 1#1), ∀ a x, ((![v139, v252] : Fin 2 → IVec S16 32) a x).toNat < S48x128.size a) ∧
  (∀ (k0_h3 : k0_cond3 v82 = 1#1), ∀ a x, ((![v252, v136] : Fin 2 → IVec S16 32) a x).toNat < S64x512.size a)
theorem k0_idx239_inb : ∀ (v82 : BitVec 32) (v136 : IVec S16 32) (v139 : IVec S16 32) (v252 : IVec S16 32) (k0_hw120 : k0_chk120 v82 v136 v139 v252), ∀ (k0_h3 : k0_cond3 v82 = 1#1), ∀ a x, ((![v139, v252] : Fin 2 → IVec S16 32) a x).toNat < S48x128.size a := fun v82 v136 v139 v252 k0_hw120 k0_h3 => k0_hw120.1 k0_h3
theorem k0_idx240_inb : ∀ (v82 : BitVec 32) (v136 : IVec S16 32) (v139 : IVec S16 32) (v252 : IVec S16 32) (k0_hw120 : k0_chk120 v82 v136 v139 v252), ∀ (k0_h3 : k0_cond3 v82 = 1#1), ∀ a x, ((![v252, v136] : Fin 2 → IVec S16 32) a x).toNat < S64x512.size a := fun v82 v136 v139 v252 k0_hw120 k0_h3 => k0_hw120.2 k0_h3

def k0_chk121 (v82 : BitVec 32) (v136 : IVec S16 32) (v139 : IVec S16 32) (v254 : IVec S16 32) : Prop :=
  (∀ (k0_h3 : k0_cond3 v82 = 1#1), ∀ a x, ((![v139, v254] : Fin 2 → IVec S16 32) a x).toNat < S48x128.size a) ∧
  (∀ (k0_h3 : k0_cond3 v82 = 1#1), ∀ a x, ((![v254, v136] : Fin 2 → IVec S16 32) a x).toNat < S64x512.size a)
theorem k0_idx241_inb : ∀ (v82 : BitVec 32) (v136 : IVec S16 32) (v139 : IVec S16 32) (v254 : IVec S16 32) (k0_hw121 : k0_chk121 v82 v136 v139 v254), ∀ (k0_h3 : k0_cond3 v82 = 1#1), ∀ a x, ((![v139, v254] : Fin 2 → IVec S16 32) a x).toNat < S48x128.size a := fun v82 v136 v139 v254 k0_hw121 k0_h3 => k0_hw121.1 k0_h3
theorem k0_idx242_inb : ∀ (v82 : BitVec 32) (v136 : IVec S16 32) (v139 : IVec S16 32) (v254 : IVec S16 32) (k0_hw121 : k0_chk121 v82 v136 v139 v254), ∀ (k0_h3 : k0_cond3 v82 = 1#1), ∀ a x, ((![v254, v136] : Fin 2 → IVec S16 32) a x).toNat < S64x512.size a := fun v82 v136 v139 v254 k0_hw121 k0_h3 => k0_hw121.2 k0_h3

def k0_chk122 (v82 : BitVec 32) (v136 : IVec S16 32) (v139 : IVec S16 32) (v256 : IVec S16 32) : Prop :=
  (∀ (k0_h3 : k0_cond3 v82 = 1#1), ∀ a x, ((![v139, v256] : Fin 2 → IVec S16 32) a x).toNat < S48x128.size a) ∧
  (∀ (k0_h3 : k0_cond3 v82 = 1#1), ∀ a x, ((![v256, v136] : Fin 2 → IVec S16 32) a x).toNat < S64x512.size a)
theorem k0_idx243_inb : ∀ (v82 : BitVec 32) (v136 : IVec S16 32) (v139 : IVec S16 32) (v256 : IVec S16 32) (k0_hw122 : k0_chk122 v82 v136 v139 v256), ∀ (k0_h3 : k0_cond3 v82 = 1#1), ∀ a x, ((![v139, v256] : Fin 2 → IVec S16 32) a x).toNat < S48x128.size a := fun v82 v136 v139 v256 k0_hw122 k0_h3 => k0_hw122.1 k0_h3
theorem k0_idx244_inb : ∀ (v82 : BitVec 32) (v136 : IVec S16 32) (v139 : IVec S16 32) (v256 : IVec S16 32) (k0_hw122 : k0_chk122 v82 v136 v139 v256), ∀ (k0_h3 : k0_cond3 v82 = 1#1), ∀ a x, ((![v256, v136] : Fin 2 → IVec S16 32) a x).toNat < S64x512.size a := fun v82 v136 v139 v256 k0_hw122 k0_h3 => k0_hw122.2 k0_h3

def k0_chk123 (v82 : BitVec 32) (v136 : IVec S16 32) (v139 : IVec S16 32) (v258 : IVec S16 32) : Prop :=
  (∀ (k0_h3 : k0_cond3 v82 = 1#1), ∀ a x, ((![v139, v258] : Fin 2 → IVec S16 32) a x).toNat < S48x128.size a) ∧
  (∀ (k0_h3 : k0_cond3 v82 = 1#1), ∀ a x, ((![v258, v136] : Fin 2 → IVec S16 32) a x).toNat < S64x512.size a)
theorem k0_idx245_inb : ∀ (v82 : BitVec 32) (v136 : IVec S16 32) (v139 : IVec S16 32) (v258 : IVec S16 32) (k0_hw123 : k0_chk123 v82 v136 v139 v258), ∀ (k0_h3 : k0_cond3 v82 = 1#1), ∀ a x, ((![v139, v258] : Fin 2 → IVec S16 32) a x).toNat < S48x128.size a := fun v82 v136 v139 v258 k0_hw123 k0_h3 => k0_hw123.1 k0_h3
theorem k0_idx246_inb : ∀ (v82 : BitVec 32) (v136 : IVec S16 32) (v139 : IVec S16 32) (v258 : IVec S16 32) (k0_hw123 : k0_chk123 v82 v136 v139 v258), ∀ (k0_h3 : k0_cond3 v82 = 1#1), ∀ a x, ((![v258, v136] : Fin 2 → IVec S16 32) a x).toNat < S64x512.size a := fun v82 v136 v139 v258 k0_hw123 k0_h3 => k0_hw123.2 k0_h3

def k0_chk124 (v82 : BitVec 32) (v136 : IVec S16 32) (v139 : IVec S16 32) (v260 : IVec S16 32) : Prop :=
  (∀ (k0_h3 : k0_cond3 v82 = 1#1), ∀ a x, ((![v139, v260] : Fin 2 → IVec S16 32) a x).toNat < S48x128.size a) ∧
  (∀ (k0_h3 : k0_cond3 v82 = 1#1), ∀ a x, ((![v260, v136] : Fin 2 → IVec S16 32) a x).toNat < S64x512.size a)
theorem k0_idx247_inb : ∀ (v82 : BitVec 32) (v136 : IVec S16 32) (v139 : IVec S16 32) (v260 : IVec S16 32) (k0_hw124 : k0_chk124 v82 v136 v139 v260), ∀ (k0_h3 : k0_cond3 v82 = 1#1), ∀ a x, ((![v139, v260] : Fin 2 → IVec S16 32) a x).toNat < S48x128.size a := fun v82 v136 v139 v260 k0_hw124 k0_h3 => k0_hw124.1 k0_h3
theorem k0_idx248_inb : ∀ (v82 : BitVec 32) (v136 : IVec S16 32) (v139 : IVec S16 32) (v260 : IVec S16 32) (k0_hw124 : k0_chk124 v82 v136 v139 v260), ∀ (k0_h3 : k0_cond3 v82 = 1#1), ∀ a x, ((![v260, v136] : Fin 2 → IVec S16 32) a x).toNat < S64x512.size a := fun v82 v136 v139 v260 k0_hw124 k0_h3 => k0_hw124.2 k0_h3

def k0_chk125 (v82 : BitVec 32) (v136 : IVec S16 32) (v139 : IVec S16 32) (v262 : IVec S16 32) : Prop :=
  (∀ (k0_h3 : k0_cond3 v82 = 1#1), ∀ a x, ((![v139, v262] : Fin 2 → IVec S16 32) a x).toNat < S48x128.size a) ∧
  (∀ (k0_h3 : k0_cond3 v82 = 1#1), ∀ a x, ((![v262, v136] : Fin 2 → IVec S16 32) a x).toNat < S64x512.size a)
theorem k0_idx249_inb : ∀ (v82 : BitVec 32) (v136 : IVec S16 32) (v139 : IVec S16 32) (v262 : IVec S16 32) (k0_hw125 : k0_chk125 v82 v136 v139 v262), ∀ (k0_h3 : k0_cond3 v82 = 1#1), ∀ a x, ((![v139, v262] : Fin 2 → IVec S16 32) a x).toNat < S48x128.size a := fun v82 v136 v139 v262 k0_hw125 k0_h3 => k0_hw125.1 k0_h3
theorem k0_idx250_inb : ∀ (v82 : BitVec 32) (v136 : IVec S16 32) (v139 : IVec S16 32) (v262 : IVec S16 32) (k0_hw125 : k0_chk125 v82 v136 v139 v262), ∀ (k0_h3 : k0_cond3 v82 = 1#1), ∀ a x, ((![v262, v136] : Fin 2 → IVec S16 32) a x).toNat < S64x512.size a := fun v82 v136 v139 v262 k0_hw125 k0_h3 => k0_hw125.2 k0_h3

def k0_chk126 (v82 : BitVec 32) (v136 : IVec S16 32) (v139 : IVec S16 32) (v264 : IVec S16 32) : Prop :=
  (∀ (k0_h3 : k0_cond3 v82 = 1#1), ∀ a x, ((![v139, v264] : Fin 2 → IVec S16 32) a x).toNat < S48x128.size a) ∧
  (∀ (k0_h3 : k0_cond3 v82 = 1#1), ∀ a x, ((![v264, v136] : Fin 2 → IVec S16 32) a x).toNat < S64x512.size a)
theorem k0_idx251_inb : ∀ (v82 : BitVec 32) (v136 : IVec S16 32) (v139 : IVec S16 32) (v264 : IVec S16 32) (k0_hw126 : k0_chk126 v82 v136 v139 v264), ∀ (k0_h3 : k0_cond3 v82 = 1#1), ∀ a x, ((![v139, v264] : Fin 2 → IVec S16 32) a x).toNat < S48x128.size a := fun v82 v136 v139 v264 k0_hw126 k0_h3 => k0_hw126.1 k0_h3
theorem k0_idx252_inb : ∀ (v82 : BitVec 32) (v136 : IVec S16 32) (v139 : IVec S16 32) (v264 : IVec S16 32) (k0_hw126 : k0_chk126 v82 v136 v139 v264), ∀ (k0_h3 : k0_cond3 v82 = 1#1), ∀ a x, ((![v264, v136] : Fin 2 → IVec S16 32) a x).toNat < S64x512.size a := fun v82 v136 v139 v264 k0_hw126 k0_h3 => k0_hw126.2 k0_h3

def k0_chk127 (v82 : BitVec 32) (v136 : IVec S16 32) (v139 : IVec S16 32) (v266 : IVec S16 32) : Prop :=
  (∀ (k0_h3 : k0_cond3 v82 = 1#1), ∀ a x, ((![v139, v266] : Fin 2 → IVec S16 32) a x).toNat < S48x128.size a) ∧
  (∀ (k0_h3 : k0_cond3 v82 = 1#1), ∀ a x, ((![v266, v136] : Fin 2 → IVec S16 32) a x).toNat < S64x512.size a)
theorem k0_idx253_inb : ∀ (v82 : BitVec 32) (v136 : IVec S16 32) (v139 : IVec S16 32) (v266 : IVec S16 32) (k0_hw127 : k0_chk127 v82 v136 v139 v266), ∀ (k0_h3 : k0_cond3 v82 = 1#1), ∀ a x, ((![v139, v266] : Fin 2 → IVec S16 32) a x).toNat < S48x128.size a := fun v82 v136 v139 v266 k0_hw127 k0_h3 => k0_hw127.1 k0_h3
theorem k0_idx254_inb : ∀ (v82 : BitVec 32) (v136 : IVec S16 32) (v139 : IVec S16 32) (v266 : IVec S16 32) (k0_hw127 : k0_chk127 v82 v136 v139 v266), ∀ (k0_h3 : k0_cond3 v82 = 1#1), ∀ a x, ((![v266, v136] : Fin 2 → IVec S16 32) a x).toNat < S64x512.size a := fun v82 v136 v139 v266 k0_hw127 k0_h3 => k0_hw127.2 k0_h3

def k0_chk128 (v82 : BitVec 32) (v136 : IVec S16 32) (v139 : IVec S16 32) (v268 : IVec S16 32) : Prop :=
  (∀ (k0_h3 : k0_cond3 v82 = 1#1), ∀ a x, ((![v139, v268] : Fin 2 → IVec S16 32) a x).toNat < S48x128.size a) ∧
  (∀ (k0_h3 : k0_cond3 v82 = 1#1), ∀ a x, ((![v268, v136] : Fin 2 → IVec S16 32) a x).toNat < S64x512.size a)
theorem k0_idx255_inb : ∀ (v82 : BitVec 32) (v136 : IVec S16 32) (v139 : IVec S16 32) (v268 : IVec S16 32) (k0_hw128 : k0_chk128 v82 v136 v139 v268), ∀ (k0_h3 : k0_cond3 v82 = 1#1), ∀ a x, ((![v139, v268] : Fin 2 → IVec S16 32) a x).toNat < S48x128.size a := fun v82 v136 v139 v268 k0_hw128 k0_h3 => k0_hw128.1 k0_h3
theorem k0_idx256_inb : ∀ (v82 : BitVec 32) (v136 : IVec S16 32) (v139 : IVec S16 32) (v268 : IVec S16 32) (k0_hw128 : k0_chk128 v82 v136 v139 v268), ∀ (k0_h3 : k0_cond3 v82 = 1#1), ∀ a x, ((![v268, v136] : Fin 2 → IVec S16 32) a x).toNat < S64x512.size a := fun v82 v136 v139 v268 k0_hw128 k0_h3 => k0_hw128.2 k0_h3
def k0_off10 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c64_i32_81 : BitVec 32 := 64#32
  let v130 : BitVec 32 := Scalar.muli v32 c64_i32_81
  let c16_i32_82 : BitVec 32 := 16#32
  let v131 : BitVec 32 := Scalar.addi v130 c16_i32_82
  let c32_i32_83 : BitVec 32 := 32#32
  let v132 : BitVec 32 := Scalar.addi v131 c32_i32_83
  let v133 : Index := Scalar.indexCast v132
  ![v133.toNat]
def k0_cond4 (v82 : BitVec 32) : BitVec 1 :=
  let c32_i32_52 : BitVec 32 := 32#32
  let v89 : BitVec 1 := Scalar.cmpi .sgt v82 c32_i32_52
  let v90 : BitVec 32 := Scalar.extui v89
  let c0_i32_53 : BitVec 32 := 0#32
  let v91 : BitVec 1 := Scalar.cmpi .ne v90 c0_i32_53
  v91

def k0_chk129 (v82 : BitVec 32) (v136 : IVec S16 32) (v139 : IVec S16 32) (v142 : IVec S16 32) : Prop :=
  (∀ (k0_h4 : k0_cond4 v82 = 1#1), ∀ a x, ((![v139, v142] : Fin 2 → IVec S16 32) a x).toNat < S48x128.size a) ∧
  (∀ (k0_h4 : k0_cond4 v82 = 1#1), ∀ a x, ((![v142, v136] : Fin 2 → IVec S16 32) a x).toNat < S64x512.size a)
theorem k0_idx257_inb : ∀ (v82 : BitVec 32) (v136 : IVec S16 32) (v139 : IVec S16 32) (v142 : IVec S16 32) (k0_hw129 : k0_chk129 v82 v136 v139 v142), ∀ (k0_h4 : k0_cond4 v82 = 1#1), ∀ a x, ((![v139, v142] : Fin 2 → IVec S16 32) a x).toNat < S48x128.size a := fun v82 v136 v139 v142 k0_hw129 k0_h4 => k0_hw129.1 k0_h4
theorem k0_idx258_inb : ∀ (v82 : BitVec 32) (v136 : IVec S16 32) (v139 : IVec S16 32) (v142 : IVec S16 32) (k0_hw129 : k0_chk129 v82 v136 v139 v142), ∀ (k0_h4 : k0_cond4 v82 = 1#1), ∀ a x, ((![v142, v136] : Fin 2 → IVec S16 32) a x).toNat < S64x512.size a := fun v82 v136 v139 v142 k0_hw129 k0_h4 => k0_hw129.2 k0_h4

def k0_chk130 (v82 : BitVec 32) (v136 : IVec S16 32) (v139 : IVec S16 32) (v144 : IVec S16 32) : Prop :=
  (∀ (k0_h4 : k0_cond4 v82 = 1#1), ∀ a x, ((![v139, v144] : Fin 2 → IVec S16 32) a x).toNat < S48x128.size a) ∧
  (∀ (k0_h4 : k0_cond4 v82 = 1#1), ∀ a x, ((![v144, v136] : Fin 2 → IVec S16 32) a x).toNat < S64x512.size a)
theorem k0_idx259_inb : ∀ (v82 : BitVec 32) (v136 : IVec S16 32) (v139 : IVec S16 32) (v144 : IVec S16 32) (k0_hw130 : k0_chk130 v82 v136 v139 v144), ∀ (k0_h4 : k0_cond4 v82 = 1#1), ∀ a x, ((![v139, v144] : Fin 2 → IVec S16 32) a x).toNat < S48x128.size a := fun v82 v136 v139 v144 k0_hw130 k0_h4 => k0_hw130.1 k0_h4
theorem k0_idx260_inb : ∀ (v82 : BitVec 32) (v136 : IVec S16 32) (v139 : IVec S16 32) (v144 : IVec S16 32) (k0_hw130 : k0_chk130 v82 v136 v139 v144), ∀ (k0_h4 : k0_cond4 v82 = 1#1), ∀ a x, ((![v144, v136] : Fin 2 → IVec S16 32) a x).toNat < S64x512.size a := fun v82 v136 v139 v144 k0_hw130 k0_h4 => k0_hw130.2 k0_h4

def k0_chk131 (v82 : BitVec 32) (v136 : IVec S16 32) (v139 : IVec S16 32) (v146 : IVec S16 32) : Prop :=
  (∀ (k0_h4 : k0_cond4 v82 = 1#1), ∀ a x, ((![v139, v146] : Fin 2 → IVec S16 32) a x).toNat < S48x128.size a) ∧
  (∀ (k0_h4 : k0_cond4 v82 = 1#1), ∀ a x, ((![v146, v136] : Fin 2 → IVec S16 32) a x).toNat < S64x512.size a)
theorem k0_idx261_inb : ∀ (v82 : BitVec 32) (v136 : IVec S16 32) (v139 : IVec S16 32) (v146 : IVec S16 32) (k0_hw131 : k0_chk131 v82 v136 v139 v146), ∀ (k0_h4 : k0_cond4 v82 = 1#1), ∀ a x, ((![v139, v146] : Fin 2 → IVec S16 32) a x).toNat < S48x128.size a := fun v82 v136 v139 v146 k0_hw131 k0_h4 => k0_hw131.1 k0_h4
theorem k0_idx262_inb : ∀ (v82 : BitVec 32) (v136 : IVec S16 32) (v139 : IVec S16 32) (v146 : IVec S16 32) (k0_hw131 : k0_chk131 v82 v136 v139 v146), ∀ (k0_h4 : k0_cond4 v82 = 1#1), ∀ a x, ((![v146, v136] : Fin 2 → IVec S16 32) a x).toNat < S64x512.size a := fun v82 v136 v139 v146 k0_hw131 k0_h4 => k0_hw131.2 k0_h4

def k0_chk132 (v82 : BitVec 32) (v136 : IVec S16 32) (v139 : IVec S16 32) (v148 : IVec S16 32) : Prop :=
  (∀ (k0_h4 : k0_cond4 v82 = 1#1), ∀ a x, ((![v139, v148] : Fin 2 → IVec S16 32) a x).toNat < S48x128.size a) ∧
  (∀ (k0_h4 : k0_cond4 v82 = 1#1), ∀ a x, ((![v148, v136] : Fin 2 → IVec S16 32) a x).toNat < S64x512.size a)
theorem k0_idx263_inb : ∀ (v82 : BitVec 32) (v136 : IVec S16 32) (v139 : IVec S16 32) (v148 : IVec S16 32) (k0_hw132 : k0_chk132 v82 v136 v139 v148), ∀ (k0_h4 : k0_cond4 v82 = 1#1), ∀ a x, ((![v139, v148] : Fin 2 → IVec S16 32) a x).toNat < S48x128.size a := fun v82 v136 v139 v148 k0_hw132 k0_h4 => k0_hw132.1 k0_h4
theorem k0_idx264_inb : ∀ (v82 : BitVec 32) (v136 : IVec S16 32) (v139 : IVec S16 32) (v148 : IVec S16 32) (k0_hw132 : k0_chk132 v82 v136 v139 v148), ∀ (k0_h4 : k0_cond4 v82 = 1#1), ∀ a x, ((![v148, v136] : Fin 2 → IVec S16 32) a x).toNat < S64x512.size a := fun v82 v136 v139 v148 k0_hw132 k0_h4 => k0_hw132.2 k0_h4

def k0_chk133 (v82 : BitVec 32) (v136 : IVec S16 32) (v139 : IVec S16 32) (v150 : IVec S16 32) : Prop :=
  (∀ (k0_h4 : k0_cond4 v82 = 1#1), ∀ a x, ((![v139, v150] : Fin 2 → IVec S16 32) a x).toNat < S48x128.size a) ∧
  (∀ (k0_h4 : k0_cond4 v82 = 1#1), ∀ a x, ((![v150, v136] : Fin 2 → IVec S16 32) a x).toNat < S64x512.size a)
theorem k0_idx265_inb : ∀ (v82 : BitVec 32) (v136 : IVec S16 32) (v139 : IVec S16 32) (v150 : IVec S16 32) (k0_hw133 : k0_chk133 v82 v136 v139 v150), ∀ (k0_h4 : k0_cond4 v82 = 1#1), ∀ a x, ((![v139, v150] : Fin 2 → IVec S16 32) a x).toNat < S48x128.size a := fun v82 v136 v139 v150 k0_hw133 k0_h4 => k0_hw133.1 k0_h4
theorem k0_idx266_inb : ∀ (v82 : BitVec 32) (v136 : IVec S16 32) (v139 : IVec S16 32) (v150 : IVec S16 32) (k0_hw133 : k0_chk133 v82 v136 v139 v150), ∀ (k0_h4 : k0_cond4 v82 = 1#1), ∀ a x, ((![v150, v136] : Fin 2 → IVec S16 32) a x).toNat < S64x512.size a := fun v82 v136 v139 v150 k0_hw133 k0_h4 => k0_hw133.2 k0_h4

def k0_chk134 (v82 : BitVec 32) (v136 : IVec S16 32) (v139 : IVec S16 32) (v152 : IVec S16 32) : Prop :=
  (∀ (k0_h4 : k0_cond4 v82 = 1#1), ∀ a x, ((![v139, v152] : Fin 2 → IVec S16 32) a x).toNat < S48x128.size a) ∧
  (∀ (k0_h4 : k0_cond4 v82 = 1#1), ∀ a x, ((![v152, v136] : Fin 2 → IVec S16 32) a x).toNat < S64x512.size a)
theorem k0_idx267_inb : ∀ (v82 : BitVec 32) (v136 : IVec S16 32) (v139 : IVec S16 32) (v152 : IVec S16 32) (k0_hw134 : k0_chk134 v82 v136 v139 v152), ∀ (k0_h4 : k0_cond4 v82 = 1#1), ∀ a x, ((![v139, v152] : Fin 2 → IVec S16 32) a x).toNat < S48x128.size a := fun v82 v136 v139 v152 k0_hw134 k0_h4 => k0_hw134.1 k0_h4
theorem k0_idx268_inb : ∀ (v82 : BitVec 32) (v136 : IVec S16 32) (v139 : IVec S16 32) (v152 : IVec S16 32) (k0_hw134 : k0_chk134 v82 v136 v139 v152), ∀ (k0_h4 : k0_cond4 v82 = 1#1), ∀ a x, ((![v152, v136] : Fin 2 → IVec S16 32) a x).toNat < S64x512.size a := fun v82 v136 v139 v152 k0_hw134 k0_h4 => k0_hw134.2 k0_h4

def k0_chk135 (v82 : BitVec 32) (v136 : IVec S16 32) (v139 : IVec S16 32) (v154 : IVec S16 32) : Prop :=
  (∀ (k0_h4 : k0_cond4 v82 = 1#1), ∀ a x, ((![v139, v154] : Fin 2 → IVec S16 32) a x).toNat < S48x128.size a) ∧
  (∀ (k0_h4 : k0_cond4 v82 = 1#1), ∀ a x, ((![v154, v136] : Fin 2 → IVec S16 32) a x).toNat < S64x512.size a)
theorem k0_idx269_inb : ∀ (v82 : BitVec 32) (v136 : IVec S16 32) (v139 : IVec S16 32) (v154 : IVec S16 32) (k0_hw135 : k0_chk135 v82 v136 v139 v154), ∀ (k0_h4 : k0_cond4 v82 = 1#1), ∀ a x, ((![v139, v154] : Fin 2 → IVec S16 32) a x).toNat < S48x128.size a := fun v82 v136 v139 v154 k0_hw135 k0_h4 => k0_hw135.1 k0_h4
theorem k0_idx270_inb : ∀ (v82 : BitVec 32) (v136 : IVec S16 32) (v139 : IVec S16 32) (v154 : IVec S16 32) (k0_hw135 : k0_chk135 v82 v136 v139 v154), ∀ (k0_h4 : k0_cond4 v82 = 1#1), ∀ a x, ((![v154, v136] : Fin 2 → IVec S16 32) a x).toNat < S64x512.size a := fun v82 v136 v139 v154 k0_hw135 k0_h4 => k0_hw135.2 k0_h4

def k0_chk136 (v82 : BitVec 32) (v136 : IVec S16 32) (v139 : IVec S16 32) (v156 : IVec S16 32) : Prop :=
  (∀ (k0_h4 : k0_cond4 v82 = 1#1), ∀ a x, ((![v139, v156] : Fin 2 → IVec S16 32) a x).toNat < S48x128.size a) ∧
  (∀ (k0_h4 : k0_cond4 v82 = 1#1), ∀ a x, ((![v156, v136] : Fin 2 → IVec S16 32) a x).toNat < S64x512.size a)
theorem k0_idx271_inb : ∀ (v82 : BitVec 32) (v136 : IVec S16 32) (v139 : IVec S16 32) (v156 : IVec S16 32) (k0_hw136 : k0_chk136 v82 v136 v139 v156), ∀ (k0_h4 : k0_cond4 v82 = 1#1), ∀ a x, ((![v139, v156] : Fin 2 → IVec S16 32) a x).toNat < S48x128.size a := fun v82 v136 v139 v156 k0_hw136 k0_h4 => k0_hw136.1 k0_h4
theorem k0_idx272_inb : ∀ (v82 : BitVec 32) (v136 : IVec S16 32) (v139 : IVec S16 32) (v156 : IVec S16 32) (k0_hw136 : k0_chk136 v82 v136 v139 v156), ∀ (k0_h4 : k0_cond4 v82 = 1#1), ∀ a x, ((![v156, v136] : Fin 2 → IVec S16 32) a x).toNat < S64x512.size a := fun v82 v136 v139 v156 k0_hw136 k0_h4 => k0_hw136.2 k0_h4

def k0_chk137 (v82 : BitVec 32) (v136 : IVec S16 32) (v139 : IVec S16 32) (v158 : IVec S16 32) : Prop :=
  (∀ (k0_h4 : k0_cond4 v82 = 1#1), ∀ a x, ((![v139, v158] : Fin 2 → IVec S16 32) a x).toNat < S48x128.size a) ∧
  (∀ (k0_h4 : k0_cond4 v82 = 1#1), ∀ a x, ((![v158, v136] : Fin 2 → IVec S16 32) a x).toNat < S64x512.size a)
theorem k0_idx273_inb : ∀ (v82 : BitVec 32) (v136 : IVec S16 32) (v139 : IVec S16 32) (v158 : IVec S16 32) (k0_hw137 : k0_chk137 v82 v136 v139 v158), ∀ (k0_h4 : k0_cond4 v82 = 1#1), ∀ a x, ((![v139, v158] : Fin 2 → IVec S16 32) a x).toNat < S48x128.size a := fun v82 v136 v139 v158 k0_hw137 k0_h4 => k0_hw137.1 k0_h4
theorem k0_idx274_inb : ∀ (v82 : BitVec 32) (v136 : IVec S16 32) (v139 : IVec S16 32) (v158 : IVec S16 32) (k0_hw137 : k0_chk137 v82 v136 v139 v158), ∀ (k0_h4 : k0_cond4 v82 = 1#1), ∀ a x, ((![v158, v136] : Fin 2 → IVec S16 32) a x).toNat < S64x512.size a := fun v82 v136 v139 v158 k0_hw137 k0_h4 => k0_hw137.2 k0_h4

def k0_chk138 (v82 : BitVec 32) (v136 : IVec S16 32) (v139 : IVec S16 32) (v160 : IVec S16 32) : Prop :=
  (∀ (k0_h4 : k0_cond4 v82 = 1#1), ∀ a x, ((![v139, v160] : Fin 2 → IVec S16 32) a x).toNat < S48x128.size a) ∧
  (∀ (k0_h4 : k0_cond4 v82 = 1#1), ∀ a x, ((![v160, v136] : Fin 2 → IVec S16 32) a x).toNat < S64x512.size a)
theorem k0_idx275_inb : ∀ (v82 : BitVec 32) (v136 : IVec S16 32) (v139 : IVec S16 32) (v160 : IVec S16 32) (k0_hw138 : k0_chk138 v82 v136 v139 v160), ∀ (k0_h4 : k0_cond4 v82 = 1#1), ∀ a x, ((![v139, v160] : Fin 2 → IVec S16 32) a x).toNat < S48x128.size a := fun v82 v136 v139 v160 k0_hw138 k0_h4 => k0_hw138.1 k0_h4
theorem k0_idx276_inb : ∀ (v82 : BitVec 32) (v136 : IVec S16 32) (v139 : IVec S16 32) (v160 : IVec S16 32) (k0_hw138 : k0_chk138 v82 v136 v139 v160), ∀ (k0_h4 : k0_cond4 v82 = 1#1), ∀ a x, ((![v160, v136] : Fin 2 → IVec S16 32) a x).toNat < S64x512.size a := fun v82 v136 v139 v160 k0_hw138 k0_h4 => k0_hw138.2 k0_h4

def k0_chk139 (v82 : BitVec 32) (v136 : IVec S16 32) (v139 : IVec S16 32) (v162 : IVec S16 32) : Prop :=
  (∀ (k0_h4 : k0_cond4 v82 = 1#1), ∀ a x, ((![v139, v162] : Fin 2 → IVec S16 32) a x).toNat < S48x128.size a) ∧
  (∀ (k0_h4 : k0_cond4 v82 = 1#1), ∀ a x, ((![v162, v136] : Fin 2 → IVec S16 32) a x).toNat < S64x512.size a)
theorem k0_idx277_inb : ∀ (v82 : BitVec 32) (v136 : IVec S16 32) (v139 : IVec S16 32) (v162 : IVec S16 32) (k0_hw139 : k0_chk139 v82 v136 v139 v162), ∀ (k0_h4 : k0_cond4 v82 = 1#1), ∀ a x, ((![v139, v162] : Fin 2 → IVec S16 32) a x).toNat < S48x128.size a := fun v82 v136 v139 v162 k0_hw139 k0_h4 => k0_hw139.1 k0_h4
theorem k0_idx278_inb : ∀ (v82 : BitVec 32) (v136 : IVec S16 32) (v139 : IVec S16 32) (v162 : IVec S16 32) (k0_hw139 : k0_chk139 v82 v136 v139 v162), ∀ (k0_h4 : k0_cond4 v82 = 1#1), ∀ a x, ((![v162, v136] : Fin 2 → IVec S16 32) a x).toNat < S64x512.size a := fun v82 v136 v139 v162 k0_hw139 k0_h4 => k0_hw139.2 k0_h4

def k0_chk140 (v82 : BitVec 32) (v136 : IVec S16 32) (v139 : IVec S16 32) (v164 : IVec S16 32) : Prop :=
  (∀ (k0_h4 : k0_cond4 v82 = 1#1), ∀ a x, ((![v139, v164] : Fin 2 → IVec S16 32) a x).toNat < S48x128.size a) ∧
  (∀ (k0_h4 : k0_cond4 v82 = 1#1), ∀ a x, ((![v164, v136] : Fin 2 → IVec S16 32) a x).toNat < S64x512.size a)
theorem k0_idx279_inb : ∀ (v82 : BitVec 32) (v136 : IVec S16 32) (v139 : IVec S16 32) (v164 : IVec S16 32) (k0_hw140 : k0_chk140 v82 v136 v139 v164), ∀ (k0_h4 : k0_cond4 v82 = 1#1), ∀ a x, ((![v139, v164] : Fin 2 → IVec S16 32) a x).toNat < S48x128.size a := fun v82 v136 v139 v164 k0_hw140 k0_h4 => k0_hw140.1 k0_h4
theorem k0_idx280_inb : ∀ (v82 : BitVec 32) (v136 : IVec S16 32) (v139 : IVec S16 32) (v164 : IVec S16 32) (k0_hw140 : k0_chk140 v82 v136 v139 v164), ∀ (k0_h4 : k0_cond4 v82 = 1#1), ∀ a x, ((![v164, v136] : Fin 2 → IVec S16 32) a x).toNat < S64x512.size a := fun v82 v136 v139 v164 k0_hw140 k0_h4 => k0_hw140.2 k0_h4

def k0_chk141 (v82 : BitVec 32) (v136 : IVec S16 32) (v139 : IVec S16 32) (v166 : IVec S16 32) : Prop :=
  (∀ (k0_h4 : k0_cond4 v82 = 1#1), ∀ a x, ((![v139, v166] : Fin 2 → IVec S16 32) a x).toNat < S48x128.size a) ∧
  (∀ (k0_h4 : k0_cond4 v82 = 1#1), ∀ a x, ((![v166, v136] : Fin 2 → IVec S16 32) a x).toNat < S64x512.size a)
theorem k0_idx281_inb : ∀ (v82 : BitVec 32) (v136 : IVec S16 32) (v139 : IVec S16 32) (v166 : IVec S16 32) (k0_hw141 : k0_chk141 v82 v136 v139 v166), ∀ (k0_h4 : k0_cond4 v82 = 1#1), ∀ a x, ((![v139, v166] : Fin 2 → IVec S16 32) a x).toNat < S48x128.size a := fun v82 v136 v139 v166 k0_hw141 k0_h4 => k0_hw141.1 k0_h4
theorem k0_idx282_inb : ∀ (v82 : BitVec 32) (v136 : IVec S16 32) (v139 : IVec S16 32) (v166 : IVec S16 32) (k0_hw141 : k0_chk141 v82 v136 v139 v166), ∀ (k0_h4 : k0_cond4 v82 = 1#1), ∀ a x, ((![v166, v136] : Fin 2 → IVec S16 32) a x).toNat < S64x512.size a := fun v82 v136 v139 v166 k0_hw141 k0_h4 => k0_hw141.2 k0_h4

def k0_chk142 (v82 : BitVec 32) (v136 : IVec S16 32) (v139 : IVec S16 32) (v168 : IVec S16 32) : Prop :=
  (∀ (k0_h4 : k0_cond4 v82 = 1#1), ∀ a x, ((![v139, v168] : Fin 2 → IVec S16 32) a x).toNat < S48x128.size a) ∧
  (∀ (k0_h4 : k0_cond4 v82 = 1#1), ∀ a x, ((![v168, v136] : Fin 2 → IVec S16 32) a x).toNat < S64x512.size a)
theorem k0_idx283_inb : ∀ (v82 : BitVec 32) (v136 : IVec S16 32) (v139 : IVec S16 32) (v168 : IVec S16 32) (k0_hw142 : k0_chk142 v82 v136 v139 v168), ∀ (k0_h4 : k0_cond4 v82 = 1#1), ∀ a x, ((![v139, v168] : Fin 2 → IVec S16 32) a x).toNat < S48x128.size a := fun v82 v136 v139 v168 k0_hw142 k0_h4 => k0_hw142.1 k0_h4
theorem k0_idx284_inb : ∀ (v82 : BitVec 32) (v136 : IVec S16 32) (v139 : IVec S16 32) (v168 : IVec S16 32) (k0_hw142 : k0_chk142 v82 v136 v139 v168), ∀ (k0_h4 : k0_cond4 v82 = 1#1), ∀ a x, ((![v168, v136] : Fin 2 → IVec S16 32) a x).toNat < S64x512.size a := fun v82 v136 v139 v168 k0_hw142 k0_h4 => k0_hw142.2 k0_h4

def k0_chk143 (v82 : BitVec 32) (v136 : IVec S16 32) (v139 : IVec S16 32) (v170 : IVec S16 32) : Prop :=
  (∀ (k0_h4 : k0_cond4 v82 = 1#1), ∀ a x, ((![v139, v170] : Fin 2 → IVec S16 32) a x).toNat < S48x128.size a) ∧
  (∀ (k0_h4 : k0_cond4 v82 = 1#1), ∀ a x, ((![v170, v136] : Fin 2 → IVec S16 32) a x).toNat < S64x512.size a)
theorem k0_idx285_inb : ∀ (v82 : BitVec 32) (v136 : IVec S16 32) (v139 : IVec S16 32) (v170 : IVec S16 32) (k0_hw143 : k0_chk143 v82 v136 v139 v170), ∀ (k0_h4 : k0_cond4 v82 = 1#1), ∀ a x, ((![v139, v170] : Fin 2 → IVec S16 32) a x).toNat < S48x128.size a := fun v82 v136 v139 v170 k0_hw143 k0_h4 => k0_hw143.1 k0_h4
theorem k0_idx286_inb : ∀ (v82 : BitVec 32) (v136 : IVec S16 32) (v139 : IVec S16 32) (v170 : IVec S16 32) (k0_hw143 : k0_chk143 v82 v136 v139 v170), ∀ (k0_h4 : k0_cond4 v82 = 1#1), ∀ a x, ((![v170, v136] : Fin 2 → IVec S16 32) a x).toNat < S64x512.size a := fun v82 v136 v139 v170 k0_hw143 k0_h4 => k0_hw143.2 k0_h4

def k0_chk144 (v82 : BitVec 32) (v136 : IVec S16 32) (v139 : IVec S16 32) (v172 : IVec S16 32) : Prop :=
  (∀ (k0_h4 : k0_cond4 v82 = 1#1), ∀ a x, ((![v139, v172] : Fin 2 → IVec S16 32) a x).toNat < S48x128.size a) ∧
  (∀ (k0_h4 : k0_cond4 v82 = 1#1), ∀ a x, ((![v172, v136] : Fin 2 → IVec S16 32) a x).toNat < S64x512.size a)
theorem k0_idx287_inb : ∀ (v82 : BitVec 32) (v136 : IVec S16 32) (v139 : IVec S16 32) (v172 : IVec S16 32) (k0_hw144 : k0_chk144 v82 v136 v139 v172), ∀ (k0_h4 : k0_cond4 v82 = 1#1), ∀ a x, ((![v139, v172] : Fin 2 → IVec S16 32) a x).toNat < S48x128.size a := fun v82 v136 v139 v172 k0_hw144 k0_h4 => k0_hw144.1 k0_h4
theorem k0_idx288_inb : ∀ (v82 : BitVec 32) (v136 : IVec S16 32) (v139 : IVec S16 32) (v172 : IVec S16 32) (k0_hw144 : k0_chk144 v82 v136 v139 v172), ∀ (k0_h4 : k0_cond4 v82 = 1#1), ∀ a x, ((![v172, v136] : Fin 2 → IVec S16 32) a x).toNat < S64x512.size a := fun v82 v136 v139 v172 k0_hw144 k0_h4 => k0_hw144.2 k0_h4

def k0_chk145 (v82 : BitVec 32) (v136 : IVec S16 32) (v139 : IVec S16 32) (v174 : IVec S16 32) : Prop :=
  (∀ (k0_h4 : k0_cond4 v82 = 1#1), ∀ a x, ((![v139, v174] : Fin 2 → IVec S16 32) a x).toNat < S48x128.size a) ∧
  (∀ (k0_h4 : k0_cond4 v82 = 1#1), ∀ a x, ((![v174, v136] : Fin 2 → IVec S16 32) a x).toNat < S64x512.size a)
theorem k0_idx289_inb : ∀ (v82 : BitVec 32) (v136 : IVec S16 32) (v139 : IVec S16 32) (v174 : IVec S16 32) (k0_hw145 : k0_chk145 v82 v136 v139 v174), ∀ (k0_h4 : k0_cond4 v82 = 1#1), ∀ a x, ((![v139, v174] : Fin 2 → IVec S16 32) a x).toNat < S48x128.size a := fun v82 v136 v139 v174 k0_hw145 k0_h4 => k0_hw145.1 k0_h4
theorem k0_idx290_inb : ∀ (v82 : BitVec 32) (v136 : IVec S16 32) (v139 : IVec S16 32) (v174 : IVec S16 32) (k0_hw145 : k0_chk145 v82 v136 v139 v174), ∀ (k0_h4 : k0_cond4 v82 = 1#1), ∀ a x, ((![v174, v136] : Fin 2 → IVec S16 32) a x).toNat < S64x512.size a := fun v82 v136 v139 v174 k0_hw145 k0_h4 => k0_hw145.2 k0_h4

def k0_chk146 (v82 : BitVec 32) (v136 : IVec S16 32) (v139 : IVec S16 32) (v176 : IVec S16 32) : Prop :=
  (∀ (k0_h4 : k0_cond4 v82 = 1#1), ∀ a x, ((![v139, v176] : Fin 2 → IVec S16 32) a x).toNat < S48x128.size a) ∧
  (∀ (k0_h4 : k0_cond4 v82 = 1#1), ∀ a x, ((![v176, v136] : Fin 2 → IVec S16 32) a x).toNat < S64x512.size a)
theorem k0_idx291_inb : ∀ (v82 : BitVec 32) (v136 : IVec S16 32) (v139 : IVec S16 32) (v176 : IVec S16 32) (k0_hw146 : k0_chk146 v82 v136 v139 v176), ∀ (k0_h4 : k0_cond4 v82 = 1#1), ∀ a x, ((![v139, v176] : Fin 2 → IVec S16 32) a x).toNat < S48x128.size a := fun v82 v136 v139 v176 k0_hw146 k0_h4 => k0_hw146.1 k0_h4
theorem k0_idx292_inb : ∀ (v82 : BitVec 32) (v136 : IVec S16 32) (v139 : IVec S16 32) (v176 : IVec S16 32) (k0_hw146 : k0_chk146 v82 v136 v139 v176), ∀ (k0_h4 : k0_cond4 v82 = 1#1), ∀ a x, ((![v176, v136] : Fin 2 → IVec S16 32) a x).toNat < S64x512.size a := fun v82 v136 v139 v176 k0_hw146 k0_h4 => k0_hw146.2 k0_h4

def k0_chk147 (v82 : BitVec 32) (v136 : IVec S16 32) (v139 : IVec S16 32) (v178 : IVec S16 32) : Prop :=
  (∀ (k0_h4 : k0_cond4 v82 = 1#1), ∀ a x, ((![v139, v178] : Fin 2 → IVec S16 32) a x).toNat < S48x128.size a) ∧
  (∀ (k0_h4 : k0_cond4 v82 = 1#1), ∀ a x, ((![v178, v136] : Fin 2 → IVec S16 32) a x).toNat < S64x512.size a)
theorem k0_idx293_inb : ∀ (v82 : BitVec 32) (v136 : IVec S16 32) (v139 : IVec S16 32) (v178 : IVec S16 32) (k0_hw147 : k0_chk147 v82 v136 v139 v178), ∀ (k0_h4 : k0_cond4 v82 = 1#1), ∀ a x, ((![v139, v178] : Fin 2 → IVec S16 32) a x).toNat < S48x128.size a := fun v82 v136 v139 v178 k0_hw147 k0_h4 => k0_hw147.1 k0_h4
theorem k0_idx294_inb : ∀ (v82 : BitVec 32) (v136 : IVec S16 32) (v139 : IVec S16 32) (v178 : IVec S16 32) (k0_hw147 : k0_chk147 v82 v136 v139 v178), ∀ (k0_h4 : k0_cond4 v82 = 1#1), ∀ a x, ((![v178, v136] : Fin 2 → IVec S16 32) a x).toNat < S64x512.size a := fun v82 v136 v139 v178 k0_hw147 k0_h4 => k0_hw147.2 k0_h4

def k0_chk148 (v82 : BitVec 32) (v136 : IVec S16 32) (v139 : IVec S16 32) (v180 : IVec S16 32) : Prop :=
  (∀ (k0_h4 : k0_cond4 v82 = 1#1), ∀ a x, ((![v139, v180] : Fin 2 → IVec S16 32) a x).toNat < S48x128.size a) ∧
  (∀ (k0_h4 : k0_cond4 v82 = 1#1), ∀ a x, ((![v180, v136] : Fin 2 → IVec S16 32) a x).toNat < S64x512.size a)
theorem k0_idx295_inb : ∀ (v82 : BitVec 32) (v136 : IVec S16 32) (v139 : IVec S16 32) (v180 : IVec S16 32) (k0_hw148 : k0_chk148 v82 v136 v139 v180), ∀ (k0_h4 : k0_cond4 v82 = 1#1), ∀ a x, ((![v139, v180] : Fin 2 → IVec S16 32) a x).toNat < S48x128.size a := fun v82 v136 v139 v180 k0_hw148 k0_h4 => k0_hw148.1 k0_h4
theorem k0_idx296_inb : ∀ (v82 : BitVec 32) (v136 : IVec S16 32) (v139 : IVec S16 32) (v180 : IVec S16 32) (k0_hw148 : k0_chk148 v82 v136 v139 v180), ∀ (k0_h4 : k0_cond4 v82 = 1#1), ∀ a x, ((![v180, v136] : Fin 2 → IVec S16 32) a x).toNat < S64x512.size a := fun v82 v136 v139 v180 k0_hw148 k0_h4 => k0_hw148.2 k0_h4

def k0_chk149 (v82 : BitVec 32) (v136 : IVec S16 32) (v139 : IVec S16 32) (v182 : IVec S16 32) : Prop :=
  (∀ (k0_h4 : k0_cond4 v82 = 1#1), ∀ a x, ((![v139, v182] : Fin 2 → IVec S16 32) a x).toNat < S48x128.size a) ∧
  (∀ (k0_h4 : k0_cond4 v82 = 1#1), ∀ a x, ((![v182, v136] : Fin 2 → IVec S16 32) a x).toNat < S64x512.size a)
theorem k0_idx297_inb : ∀ (v82 : BitVec 32) (v136 : IVec S16 32) (v139 : IVec S16 32) (v182 : IVec S16 32) (k0_hw149 : k0_chk149 v82 v136 v139 v182), ∀ (k0_h4 : k0_cond4 v82 = 1#1), ∀ a x, ((![v139, v182] : Fin 2 → IVec S16 32) a x).toNat < S48x128.size a := fun v82 v136 v139 v182 k0_hw149 k0_h4 => k0_hw149.1 k0_h4
theorem k0_idx298_inb : ∀ (v82 : BitVec 32) (v136 : IVec S16 32) (v139 : IVec S16 32) (v182 : IVec S16 32) (k0_hw149 : k0_chk149 v82 v136 v139 v182), ∀ (k0_h4 : k0_cond4 v82 = 1#1), ∀ a x, ((![v182, v136] : Fin 2 → IVec S16 32) a x).toNat < S64x512.size a := fun v82 v136 v139 v182 k0_hw149 k0_h4 => k0_hw149.2 k0_h4

def k0_chk150 (v82 : BitVec 32) (v136 : IVec S16 32) (v139 : IVec S16 32) (v184 : IVec S16 32) : Prop :=
  (∀ (k0_h4 : k0_cond4 v82 = 1#1), ∀ a x, ((![v139, v184] : Fin 2 → IVec S16 32) a x).toNat < S48x128.size a) ∧
  (∀ (k0_h4 : k0_cond4 v82 = 1#1), ∀ a x, ((![v184, v136] : Fin 2 → IVec S16 32) a x).toNat < S64x512.size a)
theorem k0_idx299_inb : ∀ (v82 : BitVec 32) (v136 : IVec S16 32) (v139 : IVec S16 32) (v184 : IVec S16 32) (k0_hw150 : k0_chk150 v82 v136 v139 v184), ∀ (k0_h4 : k0_cond4 v82 = 1#1), ∀ a x, ((![v139, v184] : Fin 2 → IVec S16 32) a x).toNat < S48x128.size a := fun v82 v136 v139 v184 k0_hw150 k0_h4 => k0_hw150.1 k0_h4
theorem k0_idx300_inb : ∀ (v82 : BitVec 32) (v136 : IVec S16 32) (v139 : IVec S16 32) (v184 : IVec S16 32) (k0_hw150 : k0_chk150 v82 v136 v139 v184), ∀ (k0_h4 : k0_cond4 v82 = 1#1), ∀ a x, ((![v184, v136] : Fin 2 → IVec S16 32) a x).toNat < S64x512.size a := fun v82 v136 v139 v184 k0_hw150 k0_h4 => k0_hw150.2 k0_h4

def k0_chk151 (v82 : BitVec 32) (v136 : IVec S16 32) (v139 : IVec S16 32) (v186 : IVec S16 32) : Prop :=
  (∀ (k0_h4 : k0_cond4 v82 = 1#1), ∀ a x, ((![v139, v186] : Fin 2 → IVec S16 32) a x).toNat < S48x128.size a) ∧
  (∀ (k0_h4 : k0_cond4 v82 = 1#1), ∀ a x, ((![v186, v136] : Fin 2 → IVec S16 32) a x).toNat < S64x512.size a)
theorem k0_idx301_inb : ∀ (v82 : BitVec 32) (v136 : IVec S16 32) (v139 : IVec S16 32) (v186 : IVec S16 32) (k0_hw151 : k0_chk151 v82 v136 v139 v186), ∀ (k0_h4 : k0_cond4 v82 = 1#1), ∀ a x, ((![v139, v186] : Fin 2 → IVec S16 32) a x).toNat < S48x128.size a := fun v82 v136 v139 v186 k0_hw151 k0_h4 => k0_hw151.1 k0_h4
theorem k0_idx302_inb : ∀ (v82 : BitVec 32) (v136 : IVec S16 32) (v139 : IVec S16 32) (v186 : IVec S16 32) (k0_hw151 : k0_chk151 v82 v136 v139 v186), ∀ (k0_h4 : k0_cond4 v82 = 1#1), ∀ a x, ((![v186, v136] : Fin 2 → IVec S16 32) a x).toNat < S64x512.size a := fun v82 v136 v139 v186 k0_hw151 k0_h4 => k0_hw151.2 k0_h4

def k0_chk152 (v82 : BitVec 32) (v136 : IVec S16 32) (v139 : IVec S16 32) (v188 : IVec S16 32) : Prop :=
  (∀ (k0_h4 : k0_cond4 v82 = 1#1), ∀ a x, ((![v139, v188] : Fin 2 → IVec S16 32) a x).toNat < S48x128.size a) ∧
  (∀ (k0_h4 : k0_cond4 v82 = 1#1), ∀ a x, ((![v188, v136] : Fin 2 → IVec S16 32) a x).toNat < S64x512.size a)
theorem k0_idx303_inb : ∀ (v82 : BitVec 32) (v136 : IVec S16 32) (v139 : IVec S16 32) (v188 : IVec S16 32) (k0_hw152 : k0_chk152 v82 v136 v139 v188), ∀ (k0_h4 : k0_cond4 v82 = 1#1), ∀ a x, ((![v139, v188] : Fin 2 → IVec S16 32) a x).toNat < S48x128.size a := fun v82 v136 v139 v188 k0_hw152 k0_h4 => k0_hw152.1 k0_h4
theorem k0_idx304_inb : ∀ (v82 : BitVec 32) (v136 : IVec S16 32) (v139 : IVec S16 32) (v188 : IVec S16 32) (k0_hw152 : k0_chk152 v82 v136 v139 v188), ∀ (k0_h4 : k0_cond4 v82 = 1#1), ∀ a x, ((![v188, v136] : Fin 2 → IVec S16 32) a x).toNat < S64x512.size a := fun v82 v136 v139 v188 k0_hw152 k0_h4 => k0_hw152.2 k0_h4

def k0_chk153 (v82 : BitVec 32) (v136 : IVec S16 32) (v139 : IVec S16 32) (v190 : IVec S16 32) : Prop :=
  (∀ (k0_h4 : k0_cond4 v82 = 1#1), ∀ a x, ((![v139, v190] : Fin 2 → IVec S16 32) a x).toNat < S48x128.size a) ∧
  (∀ (k0_h4 : k0_cond4 v82 = 1#1), ∀ a x, ((![v190, v136] : Fin 2 → IVec S16 32) a x).toNat < S64x512.size a)
theorem k0_idx305_inb : ∀ (v82 : BitVec 32) (v136 : IVec S16 32) (v139 : IVec S16 32) (v190 : IVec S16 32) (k0_hw153 : k0_chk153 v82 v136 v139 v190), ∀ (k0_h4 : k0_cond4 v82 = 1#1), ∀ a x, ((![v139, v190] : Fin 2 → IVec S16 32) a x).toNat < S48x128.size a := fun v82 v136 v139 v190 k0_hw153 k0_h4 => k0_hw153.1 k0_h4
theorem k0_idx306_inb : ∀ (v82 : BitVec 32) (v136 : IVec S16 32) (v139 : IVec S16 32) (v190 : IVec S16 32) (k0_hw153 : k0_chk153 v82 v136 v139 v190), ∀ (k0_h4 : k0_cond4 v82 = 1#1), ∀ a x, ((![v190, v136] : Fin 2 → IVec S16 32) a x).toNat < S64x512.size a := fun v82 v136 v139 v190 k0_hw153 k0_h4 => k0_hw153.2 k0_h4

def k0_chk154 (v82 : BitVec 32) (v136 : IVec S16 32) (v139 : IVec S16 32) (v192 : IVec S16 32) : Prop :=
  (∀ (k0_h4 : k0_cond4 v82 = 1#1), ∀ a x, ((![v139, v192] : Fin 2 → IVec S16 32) a x).toNat < S48x128.size a) ∧
  (∀ (k0_h4 : k0_cond4 v82 = 1#1), ∀ a x, ((![v192, v136] : Fin 2 → IVec S16 32) a x).toNat < S64x512.size a)
theorem k0_idx307_inb : ∀ (v82 : BitVec 32) (v136 : IVec S16 32) (v139 : IVec S16 32) (v192 : IVec S16 32) (k0_hw154 : k0_chk154 v82 v136 v139 v192), ∀ (k0_h4 : k0_cond4 v82 = 1#1), ∀ a x, ((![v139, v192] : Fin 2 → IVec S16 32) a x).toNat < S48x128.size a := fun v82 v136 v139 v192 k0_hw154 k0_h4 => k0_hw154.1 k0_h4
theorem k0_idx308_inb : ∀ (v82 : BitVec 32) (v136 : IVec S16 32) (v139 : IVec S16 32) (v192 : IVec S16 32) (k0_hw154 : k0_chk154 v82 v136 v139 v192), ∀ (k0_h4 : k0_cond4 v82 = 1#1), ∀ a x, ((![v192, v136] : Fin 2 → IVec S16 32) a x).toNat < S64x512.size a := fun v82 v136 v139 v192 k0_hw154 k0_h4 => k0_hw154.2 k0_h4

def k0_chk155 (v82 : BitVec 32) (v136 : IVec S16 32) (v139 : IVec S16 32) (v194 : IVec S16 32) : Prop :=
  (∀ (k0_h4 : k0_cond4 v82 = 1#1), ∀ a x, ((![v139, v194] : Fin 2 → IVec S16 32) a x).toNat < S48x128.size a) ∧
  (∀ (k0_h4 : k0_cond4 v82 = 1#1), ∀ a x, ((![v194, v136] : Fin 2 → IVec S16 32) a x).toNat < S64x512.size a)
theorem k0_idx309_inb : ∀ (v82 : BitVec 32) (v136 : IVec S16 32) (v139 : IVec S16 32) (v194 : IVec S16 32) (k0_hw155 : k0_chk155 v82 v136 v139 v194), ∀ (k0_h4 : k0_cond4 v82 = 1#1), ∀ a x, ((![v139, v194] : Fin 2 → IVec S16 32) a x).toNat < S48x128.size a := fun v82 v136 v139 v194 k0_hw155 k0_h4 => k0_hw155.1 k0_h4
theorem k0_idx310_inb : ∀ (v82 : BitVec 32) (v136 : IVec S16 32) (v139 : IVec S16 32) (v194 : IVec S16 32) (k0_hw155 : k0_chk155 v82 v136 v139 v194), ∀ (k0_h4 : k0_cond4 v82 = 1#1), ∀ a x, ((![v194, v136] : Fin 2 → IVec S16 32) a x).toNat < S64x512.size a := fun v82 v136 v139 v194 k0_hw155 k0_h4 => k0_hw155.2 k0_h4

def k0_chk156 (v82 : BitVec 32) (v136 : IVec S16 32) (v139 : IVec S16 32) (v196 : IVec S16 32) : Prop :=
  (∀ (k0_h4 : k0_cond4 v82 = 1#1), ∀ a x, ((![v139, v196] : Fin 2 → IVec S16 32) a x).toNat < S48x128.size a) ∧
  (∀ (k0_h4 : k0_cond4 v82 = 1#1), ∀ a x, ((![v196, v136] : Fin 2 → IVec S16 32) a x).toNat < S64x512.size a)
theorem k0_idx311_inb : ∀ (v82 : BitVec 32) (v136 : IVec S16 32) (v139 : IVec S16 32) (v196 : IVec S16 32) (k0_hw156 : k0_chk156 v82 v136 v139 v196), ∀ (k0_h4 : k0_cond4 v82 = 1#1), ∀ a x, ((![v139, v196] : Fin 2 → IVec S16 32) a x).toNat < S48x128.size a := fun v82 v136 v139 v196 k0_hw156 k0_h4 => k0_hw156.1 k0_h4
theorem k0_idx312_inb : ∀ (v82 : BitVec 32) (v136 : IVec S16 32) (v139 : IVec S16 32) (v196 : IVec S16 32) (k0_hw156 : k0_chk156 v82 v136 v139 v196), ∀ (k0_h4 : k0_cond4 v82 = 1#1), ∀ a x, ((![v196, v136] : Fin 2 → IVec S16 32) a x).toNat < S64x512.size a := fun v82 v136 v139 v196 k0_hw156 k0_h4 => k0_hw156.2 k0_h4

def k0_chk157 (v82 : BitVec 32) (v136 : IVec S16 32) (v139 : IVec S16 32) (v198 : IVec S16 32) : Prop :=
  (∀ (k0_h4 : k0_cond4 v82 = 1#1), ∀ a x, ((![v139, v198] : Fin 2 → IVec S16 32) a x).toNat < S48x128.size a) ∧
  (∀ (k0_h4 : k0_cond4 v82 = 1#1), ∀ a x, ((![v198, v136] : Fin 2 → IVec S16 32) a x).toNat < S64x512.size a)
theorem k0_idx313_inb : ∀ (v82 : BitVec 32) (v136 : IVec S16 32) (v139 : IVec S16 32) (v198 : IVec S16 32) (k0_hw157 : k0_chk157 v82 v136 v139 v198), ∀ (k0_h4 : k0_cond4 v82 = 1#1), ∀ a x, ((![v139, v198] : Fin 2 → IVec S16 32) a x).toNat < S48x128.size a := fun v82 v136 v139 v198 k0_hw157 k0_h4 => k0_hw157.1 k0_h4
theorem k0_idx314_inb : ∀ (v82 : BitVec 32) (v136 : IVec S16 32) (v139 : IVec S16 32) (v198 : IVec S16 32) (k0_hw157 : k0_chk157 v82 v136 v139 v198), ∀ (k0_h4 : k0_cond4 v82 = 1#1), ∀ a x, ((![v198, v136] : Fin 2 → IVec S16 32) a x).toNat < S64x512.size a := fun v82 v136 v139 v198 k0_hw157 k0_h4 => k0_hw157.2 k0_h4

def k0_chk158 (v82 : BitVec 32) (v136 : IVec S16 32) (v139 : IVec S16 32) (v200 : IVec S16 32) : Prop :=
  (∀ (k0_h4 : k0_cond4 v82 = 1#1), ∀ a x, ((![v139, v200] : Fin 2 → IVec S16 32) a x).toNat < S48x128.size a) ∧
  (∀ (k0_h4 : k0_cond4 v82 = 1#1), ∀ a x, ((![v200, v136] : Fin 2 → IVec S16 32) a x).toNat < S64x512.size a)
theorem k0_idx315_inb : ∀ (v82 : BitVec 32) (v136 : IVec S16 32) (v139 : IVec S16 32) (v200 : IVec S16 32) (k0_hw158 : k0_chk158 v82 v136 v139 v200), ∀ (k0_h4 : k0_cond4 v82 = 1#1), ∀ a x, ((![v139, v200] : Fin 2 → IVec S16 32) a x).toNat < S48x128.size a := fun v82 v136 v139 v200 k0_hw158 k0_h4 => k0_hw158.1 k0_h4
theorem k0_idx316_inb : ∀ (v82 : BitVec 32) (v136 : IVec S16 32) (v139 : IVec S16 32) (v200 : IVec S16 32) (k0_hw158 : k0_chk158 v82 v136 v139 v200), ∀ (k0_h4 : k0_cond4 v82 = 1#1), ∀ a x, ((![v200, v136] : Fin 2 → IVec S16 32) a x).toNat < S64x512.size a := fun v82 v136 v139 v200 k0_hw158 k0_h4 => k0_hw158.2 k0_h4

def k0_chk159 (v82 : BitVec 32) (v136 : IVec S16 32) (v139 : IVec S16 32) (v202 : IVec S16 32) : Prop :=
  (∀ (k0_h4 : k0_cond4 v82 = 1#1), ∀ a x, ((![v139, v202] : Fin 2 → IVec S16 32) a x).toNat < S48x128.size a) ∧
  (∀ (k0_h4 : k0_cond4 v82 = 1#1), ∀ a x, ((![v202, v136] : Fin 2 → IVec S16 32) a x).toNat < S64x512.size a)
theorem k0_idx317_inb : ∀ (v82 : BitVec 32) (v136 : IVec S16 32) (v139 : IVec S16 32) (v202 : IVec S16 32) (k0_hw159 : k0_chk159 v82 v136 v139 v202), ∀ (k0_h4 : k0_cond4 v82 = 1#1), ∀ a x, ((![v139, v202] : Fin 2 → IVec S16 32) a x).toNat < S48x128.size a := fun v82 v136 v139 v202 k0_hw159 k0_h4 => k0_hw159.1 k0_h4
theorem k0_idx318_inb : ∀ (v82 : BitVec 32) (v136 : IVec S16 32) (v139 : IVec S16 32) (v202 : IVec S16 32) (k0_hw159 : k0_chk159 v82 v136 v139 v202), ∀ (k0_h4 : k0_cond4 v82 = 1#1), ∀ a x, ((![v202, v136] : Fin 2 → IVec S16 32) a x).toNat < S64x512.size a := fun v82 v136 v139 v202 k0_hw159 k0_h4 => k0_hw159.2 k0_h4

def k0_chk160 (v82 : BitVec 32) (v136 : IVec S16 32) (v139 : IVec S16 32) (v204 : IVec S16 32) : Prop :=
  (∀ (k0_h4 : k0_cond4 v82 = 1#1), ∀ a x, ((![v139, v204] : Fin 2 → IVec S16 32) a x).toNat < S48x128.size a) ∧
  (∀ (k0_h4 : k0_cond4 v82 = 1#1), ∀ a x, ((![v204, v136] : Fin 2 → IVec S16 32) a x).toNat < S64x512.size a)
theorem k0_idx319_inb : ∀ (v82 : BitVec 32) (v136 : IVec S16 32) (v139 : IVec S16 32) (v204 : IVec S16 32) (k0_hw160 : k0_chk160 v82 v136 v139 v204), ∀ (k0_h4 : k0_cond4 v82 = 1#1), ∀ a x, ((![v139, v204] : Fin 2 → IVec S16 32) a x).toNat < S48x128.size a := fun v82 v136 v139 v204 k0_hw160 k0_h4 => k0_hw160.1 k0_h4
theorem k0_idx320_inb : ∀ (v82 : BitVec 32) (v136 : IVec S16 32) (v139 : IVec S16 32) (v204 : IVec S16 32) (k0_hw160 : k0_chk160 v82 v136 v139 v204), ∀ (k0_h4 : k0_cond4 v82 = 1#1), ∀ a x, ((![v204, v136] : Fin 2 → IVec S16 32) a x).toNat < S64x512.size a := fun v82 v136 v139 v204 k0_hw160 k0_h4 => k0_hw160.2 k0_h4

def k0_chk161 (v82 : BitVec 32) (v136 : IVec S16 32) (v139 : IVec S16 32) (v206 : IVec S16 32) : Prop :=
  (∀ (k0_h4 : k0_cond4 v82 = 1#1), ∀ a x, ((![v139, v206] : Fin 2 → IVec S16 32) a x).toNat < S48x128.size a) ∧
  (∀ (k0_h4 : k0_cond4 v82 = 1#1), ∀ a x, ((![v206, v136] : Fin 2 → IVec S16 32) a x).toNat < S64x512.size a)
theorem k0_idx321_inb : ∀ (v82 : BitVec 32) (v136 : IVec S16 32) (v139 : IVec S16 32) (v206 : IVec S16 32) (k0_hw161 : k0_chk161 v82 v136 v139 v206), ∀ (k0_h4 : k0_cond4 v82 = 1#1), ∀ a x, ((![v139, v206] : Fin 2 → IVec S16 32) a x).toNat < S48x128.size a := fun v82 v136 v139 v206 k0_hw161 k0_h4 => k0_hw161.1 k0_h4
theorem k0_idx322_inb : ∀ (v82 : BitVec 32) (v136 : IVec S16 32) (v139 : IVec S16 32) (v206 : IVec S16 32) (k0_hw161 : k0_chk161 v82 v136 v139 v206), ∀ (k0_h4 : k0_cond4 v82 = 1#1), ∀ a x, ((![v206, v136] : Fin 2 → IVec S16 32) a x).toNat < S64x512.size a := fun v82 v136 v139 v206 k0_hw161 k0_h4 => k0_hw161.2 k0_h4

def k0_chk162 (v82 : BitVec 32) (v136 : IVec S16 32) (v139 : IVec S16 32) (v208 : IVec S16 32) : Prop :=
  (∀ (k0_h4 : k0_cond4 v82 = 1#1), ∀ a x, ((![v139, v208] : Fin 2 → IVec S16 32) a x).toNat < S48x128.size a) ∧
  (∀ (k0_h4 : k0_cond4 v82 = 1#1), ∀ a x, ((![v208, v136] : Fin 2 → IVec S16 32) a x).toNat < S64x512.size a)
theorem k0_idx323_inb : ∀ (v82 : BitVec 32) (v136 : IVec S16 32) (v139 : IVec S16 32) (v208 : IVec S16 32) (k0_hw162 : k0_chk162 v82 v136 v139 v208), ∀ (k0_h4 : k0_cond4 v82 = 1#1), ∀ a x, ((![v139, v208] : Fin 2 → IVec S16 32) a x).toNat < S48x128.size a := fun v82 v136 v139 v208 k0_hw162 k0_h4 => k0_hw162.1 k0_h4
theorem k0_idx324_inb : ∀ (v82 : BitVec 32) (v136 : IVec S16 32) (v139 : IVec S16 32) (v208 : IVec S16 32) (k0_hw162 : k0_chk162 v82 v136 v139 v208), ∀ (k0_h4 : k0_cond4 v82 = 1#1), ∀ a x, ((![v208, v136] : Fin 2 → IVec S16 32) a x).toNat < S64x512.size a := fun v82 v136 v139 v208 k0_hw162 k0_h4 => k0_hw162.2 k0_h4

def k0_chk163 (v82 : BitVec 32) (v136 : IVec S16 32) (v139 : IVec S16 32) (v210 : IVec S16 32) : Prop :=
  (∀ (k0_h4 : k0_cond4 v82 = 1#1), ∀ a x, ((![v139, v210] : Fin 2 → IVec S16 32) a x).toNat < S48x128.size a) ∧
  (∀ (k0_h4 : k0_cond4 v82 = 1#1), ∀ a x, ((![v210, v136] : Fin 2 → IVec S16 32) a x).toNat < S64x512.size a)
theorem k0_idx325_inb : ∀ (v82 : BitVec 32) (v136 : IVec S16 32) (v139 : IVec S16 32) (v210 : IVec S16 32) (k0_hw163 : k0_chk163 v82 v136 v139 v210), ∀ (k0_h4 : k0_cond4 v82 = 1#1), ∀ a x, ((![v139, v210] : Fin 2 → IVec S16 32) a x).toNat < S48x128.size a := fun v82 v136 v139 v210 k0_hw163 k0_h4 => k0_hw163.1 k0_h4
theorem k0_idx326_inb : ∀ (v82 : BitVec 32) (v136 : IVec S16 32) (v139 : IVec S16 32) (v210 : IVec S16 32) (k0_hw163 : k0_chk163 v82 v136 v139 v210), ∀ (k0_h4 : k0_cond4 v82 = 1#1), ∀ a x, ((![v210, v136] : Fin 2 → IVec S16 32) a x).toNat < S64x512.size a := fun v82 v136 v139 v210 k0_hw163 k0_h4 => k0_hw163.2 k0_h4

def k0_chk164 (v82 : BitVec 32) (v136 : IVec S16 32) (v139 : IVec S16 32) (v212 : IVec S16 32) : Prop :=
  (∀ (k0_h4 : k0_cond4 v82 = 1#1), ∀ a x, ((![v139, v212] : Fin 2 → IVec S16 32) a x).toNat < S48x128.size a) ∧
  (∀ (k0_h4 : k0_cond4 v82 = 1#1), ∀ a x, ((![v212, v136] : Fin 2 → IVec S16 32) a x).toNat < S64x512.size a)
theorem k0_idx327_inb : ∀ (v82 : BitVec 32) (v136 : IVec S16 32) (v139 : IVec S16 32) (v212 : IVec S16 32) (k0_hw164 : k0_chk164 v82 v136 v139 v212), ∀ (k0_h4 : k0_cond4 v82 = 1#1), ∀ a x, ((![v139, v212] : Fin 2 → IVec S16 32) a x).toNat < S48x128.size a := fun v82 v136 v139 v212 k0_hw164 k0_h4 => k0_hw164.1 k0_h4
theorem k0_idx328_inb : ∀ (v82 : BitVec 32) (v136 : IVec S16 32) (v139 : IVec S16 32) (v212 : IVec S16 32) (k0_hw164 : k0_chk164 v82 v136 v139 v212), ∀ (k0_h4 : k0_cond4 v82 = 1#1), ∀ a x, ((![v212, v136] : Fin 2 → IVec S16 32) a x).toNat < S64x512.size a := fun v82 v136 v139 v212 k0_hw164 k0_h4 => k0_hw164.2 k0_h4

def k0_chk165 (v82 : BitVec 32) (v136 : IVec S16 32) (v139 : IVec S16 32) (v214 : IVec S16 32) : Prop :=
  (∀ (k0_h4 : k0_cond4 v82 = 1#1), ∀ a x, ((![v139, v214] : Fin 2 → IVec S16 32) a x).toNat < S48x128.size a) ∧
  (∀ (k0_h4 : k0_cond4 v82 = 1#1), ∀ a x, ((![v214, v136] : Fin 2 → IVec S16 32) a x).toNat < S64x512.size a)
theorem k0_idx329_inb : ∀ (v82 : BitVec 32) (v136 : IVec S16 32) (v139 : IVec S16 32) (v214 : IVec S16 32) (k0_hw165 : k0_chk165 v82 v136 v139 v214), ∀ (k0_h4 : k0_cond4 v82 = 1#1), ∀ a x, ((![v139, v214] : Fin 2 → IVec S16 32) a x).toNat < S48x128.size a := fun v82 v136 v139 v214 k0_hw165 k0_h4 => k0_hw165.1 k0_h4
theorem k0_idx330_inb : ∀ (v82 : BitVec 32) (v136 : IVec S16 32) (v139 : IVec S16 32) (v214 : IVec S16 32) (k0_hw165 : k0_chk165 v82 v136 v139 v214), ∀ (k0_h4 : k0_cond4 v82 = 1#1), ∀ a x, ((![v214, v136] : Fin 2 → IVec S16 32) a x).toNat < S64x512.size a := fun v82 v136 v139 v214 k0_hw165 k0_h4 => k0_hw165.2 k0_h4

def k0_chk166 (v82 : BitVec 32) (v136 : IVec S16 32) (v139 : IVec S16 32) (v216 : IVec S16 32) : Prop :=
  (∀ (k0_h4 : k0_cond4 v82 = 1#1), ∀ a x, ((![v139, v216] : Fin 2 → IVec S16 32) a x).toNat < S48x128.size a) ∧
  (∀ (k0_h4 : k0_cond4 v82 = 1#1), ∀ a x, ((![v216, v136] : Fin 2 → IVec S16 32) a x).toNat < S64x512.size a)
theorem k0_idx331_inb : ∀ (v82 : BitVec 32) (v136 : IVec S16 32) (v139 : IVec S16 32) (v216 : IVec S16 32) (k0_hw166 : k0_chk166 v82 v136 v139 v216), ∀ (k0_h4 : k0_cond4 v82 = 1#1), ∀ a x, ((![v139, v216] : Fin 2 → IVec S16 32) a x).toNat < S48x128.size a := fun v82 v136 v139 v216 k0_hw166 k0_h4 => k0_hw166.1 k0_h4
theorem k0_idx332_inb : ∀ (v82 : BitVec 32) (v136 : IVec S16 32) (v139 : IVec S16 32) (v216 : IVec S16 32) (k0_hw166 : k0_chk166 v82 v136 v139 v216), ∀ (k0_h4 : k0_cond4 v82 = 1#1), ∀ a x, ((![v216, v136] : Fin 2 → IVec S16 32) a x).toNat < S64x512.size a := fun v82 v136 v139 v216 k0_hw166 k0_h4 => k0_hw166.2 k0_h4

def k0_chk167 (v82 : BitVec 32) (v136 : IVec S16 32) (v139 : IVec S16 32) (v218 : IVec S16 32) : Prop :=
  (∀ (k0_h4 : k0_cond4 v82 = 1#1), ∀ a x, ((![v139, v218] : Fin 2 → IVec S16 32) a x).toNat < S48x128.size a) ∧
  (∀ (k0_h4 : k0_cond4 v82 = 1#1), ∀ a x, ((![v218, v136] : Fin 2 → IVec S16 32) a x).toNat < S64x512.size a)
theorem k0_idx333_inb : ∀ (v82 : BitVec 32) (v136 : IVec S16 32) (v139 : IVec S16 32) (v218 : IVec S16 32) (k0_hw167 : k0_chk167 v82 v136 v139 v218), ∀ (k0_h4 : k0_cond4 v82 = 1#1), ∀ a x, ((![v139, v218] : Fin 2 → IVec S16 32) a x).toNat < S48x128.size a := fun v82 v136 v139 v218 k0_hw167 k0_h4 => k0_hw167.1 k0_h4
theorem k0_idx334_inb : ∀ (v82 : BitVec 32) (v136 : IVec S16 32) (v139 : IVec S16 32) (v218 : IVec S16 32) (k0_hw167 : k0_chk167 v82 v136 v139 v218), ∀ (k0_h4 : k0_cond4 v82 = 1#1), ∀ a x, ((![v218, v136] : Fin 2 → IVec S16 32) a x).toNat < S64x512.size a := fun v82 v136 v139 v218 k0_hw167 k0_h4 => k0_hw167.2 k0_h4

def k0_chk168 (v82 : BitVec 32) (v136 : IVec S16 32) (v139 : IVec S16 32) (v220 : IVec S16 32) : Prop :=
  (∀ (k0_h4 : k0_cond4 v82 = 1#1), ∀ a x, ((![v139, v220] : Fin 2 → IVec S16 32) a x).toNat < S48x128.size a) ∧
  (∀ (k0_h4 : k0_cond4 v82 = 1#1), ∀ a x, ((![v220, v136] : Fin 2 → IVec S16 32) a x).toNat < S64x512.size a)
theorem k0_idx335_inb : ∀ (v82 : BitVec 32) (v136 : IVec S16 32) (v139 : IVec S16 32) (v220 : IVec S16 32) (k0_hw168 : k0_chk168 v82 v136 v139 v220), ∀ (k0_h4 : k0_cond4 v82 = 1#1), ∀ a x, ((![v139, v220] : Fin 2 → IVec S16 32) a x).toNat < S48x128.size a := fun v82 v136 v139 v220 k0_hw168 k0_h4 => k0_hw168.1 k0_h4
theorem k0_idx336_inb : ∀ (v82 : BitVec 32) (v136 : IVec S16 32) (v139 : IVec S16 32) (v220 : IVec S16 32) (k0_hw168 : k0_chk168 v82 v136 v139 v220), ∀ (k0_h4 : k0_cond4 v82 = 1#1), ∀ a x, ((![v220, v136] : Fin 2 → IVec S16 32) a x).toNat < S64x512.size a := fun v82 v136 v139 v220 k0_hw168 k0_h4 => k0_hw168.2 k0_h4

def k0_chk169 (v82 : BitVec 32) (v136 : IVec S16 32) (v139 : IVec S16 32) (v222 : IVec S16 32) : Prop :=
  (∀ (k0_h4 : k0_cond4 v82 = 1#1), ∀ a x, ((![v139, v222] : Fin 2 → IVec S16 32) a x).toNat < S48x128.size a) ∧
  (∀ (k0_h4 : k0_cond4 v82 = 1#1), ∀ a x, ((![v222, v136] : Fin 2 → IVec S16 32) a x).toNat < S64x512.size a)
theorem k0_idx337_inb : ∀ (v82 : BitVec 32) (v136 : IVec S16 32) (v139 : IVec S16 32) (v222 : IVec S16 32) (k0_hw169 : k0_chk169 v82 v136 v139 v222), ∀ (k0_h4 : k0_cond4 v82 = 1#1), ∀ a x, ((![v139, v222] : Fin 2 → IVec S16 32) a x).toNat < S48x128.size a := fun v82 v136 v139 v222 k0_hw169 k0_h4 => k0_hw169.1 k0_h4
theorem k0_idx338_inb : ∀ (v82 : BitVec 32) (v136 : IVec S16 32) (v139 : IVec S16 32) (v222 : IVec S16 32) (k0_hw169 : k0_chk169 v82 v136 v139 v222), ∀ (k0_h4 : k0_cond4 v82 = 1#1), ∀ a x, ((![v222, v136] : Fin 2 → IVec S16 32) a x).toNat < S64x512.size a := fun v82 v136 v139 v222 k0_hw169 k0_h4 => k0_hw169.2 k0_h4

def k0_chk170 (v82 : BitVec 32) (v136 : IVec S16 32) (v139 : IVec S16 32) (v224 : IVec S16 32) : Prop :=
  (∀ (k0_h4 : k0_cond4 v82 = 1#1), ∀ a x, ((![v139, v224] : Fin 2 → IVec S16 32) a x).toNat < S48x128.size a) ∧
  (∀ (k0_h4 : k0_cond4 v82 = 1#1), ∀ a x, ((![v224, v136] : Fin 2 → IVec S16 32) a x).toNat < S64x512.size a)
theorem k0_idx339_inb : ∀ (v82 : BitVec 32) (v136 : IVec S16 32) (v139 : IVec S16 32) (v224 : IVec S16 32) (k0_hw170 : k0_chk170 v82 v136 v139 v224), ∀ (k0_h4 : k0_cond4 v82 = 1#1), ∀ a x, ((![v139, v224] : Fin 2 → IVec S16 32) a x).toNat < S48x128.size a := fun v82 v136 v139 v224 k0_hw170 k0_h4 => k0_hw170.1 k0_h4
theorem k0_idx340_inb : ∀ (v82 : BitVec 32) (v136 : IVec S16 32) (v139 : IVec S16 32) (v224 : IVec S16 32) (k0_hw170 : k0_chk170 v82 v136 v139 v224), ∀ (k0_h4 : k0_cond4 v82 = 1#1), ∀ a x, ((![v224, v136] : Fin 2 → IVec S16 32) a x).toNat < S64x512.size a := fun v82 v136 v139 v224 k0_hw170 k0_h4 => k0_hw170.2 k0_h4

def k0_chk171 (v82 : BitVec 32) (v136 : IVec S16 32) (v139 : IVec S16 32) (v226 : IVec S16 32) : Prop :=
  (∀ (k0_h4 : k0_cond4 v82 = 1#1), ∀ a x, ((![v139, v226] : Fin 2 → IVec S16 32) a x).toNat < S48x128.size a) ∧
  (∀ (k0_h4 : k0_cond4 v82 = 1#1), ∀ a x, ((![v226, v136] : Fin 2 → IVec S16 32) a x).toNat < S64x512.size a)
theorem k0_idx341_inb : ∀ (v82 : BitVec 32) (v136 : IVec S16 32) (v139 : IVec S16 32) (v226 : IVec S16 32) (k0_hw171 : k0_chk171 v82 v136 v139 v226), ∀ (k0_h4 : k0_cond4 v82 = 1#1), ∀ a x, ((![v139, v226] : Fin 2 → IVec S16 32) a x).toNat < S48x128.size a := fun v82 v136 v139 v226 k0_hw171 k0_h4 => k0_hw171.1 k0_h4
theorem k0_idx342_inb : ∀ (v82 : BitVec 32) (v136 : IVec S16 32) (v139 : IVec S16 32) (v226 : IVec S16 32) (k0_hw171 : k0_chk171 v82 v136 v139 v226), ∀ (k0_h4 : k0_cond4 v82 = 1#1), ∀ a x, ((![v226, v136] : Fin 2 → IVec S16 32) a x).toNat < S64x512.size a := fun v82 v136 v139 v226 k0_hw171 k0_h4 => k0_hw171.2 k0_h4

def k0_chk172 (v82 : BitVec 32) (v136 : IVec S16 32) (v139 : IVec S16 32) (v228 : IVec S16 32) : Prop :=
  (∀ (k0_h4 : k0_cond4 v82 = 1#1), ∀ a x, ((![v139, v228] : Fin 2 → IVec S16 32) a x).toNat < S48x128.size a) ∧
  (∀ (k0_h4 : k0_cond4 v82 = 1#1), ∀ a x, ((![v228, v136] : Fin 2 → IVec S16 32) a x).toNat < S64x512.size a)
theorem k0_idx343_inb : ∀ (v82 : BitVec 32) (v136 : IVec S16 32) (v139 : IVec S16 32) (v228 : IVec S16 32) (k0_hw172 : k0_chk172 v82 v136 v139 v228), ∀ (k0_h4 : k0_cond4 v82 = 1#1), ∀ a x, ((![v139, v228] : Fin 2 → IVec S16 32) a x).toNat < S48x128.size a := fun v82 v136 v139 v228 k0_hw172 k0_h4 => k0_hw172.1 k0_h4
theorem k0_idx344_inb : ∀ (v82 : BitVec 32) (v136 : IVec S16 32) (v139 : IVec S16 32) (v228 : IVec S16 32) (k0_hw172 : k0_chk172 v82 v136 v139 v228), ∀ (k0_h4 : k0_cond4 v82 = 1#1), ∀ a x, ((![v228, v136] : Fin 2 → IVec S16 32) a x).toNat < S64x512.size a := fun v82 v136 v139 v228 k0_hw172 k0_h4 => k0_hw172.2 k0_h4

def k0_chk173 (v82 : BitVec 32) (v136 : IVec S16 32) (v139 : IVec S16 32) (v230 : IVec S16 32) : Prop :=
  (∀ (k0_h4 : k0_cond4 v82 = 1#1), ∀ a x, ((![v139, v230] : Fin 2 → IVec S16 32) a x).toNat < S48x128.size a) ∧
  (∀ (k0_h4 : k0_cond4 v82 = 1#1), ∀ a x, ((![v230, v136] : Fin 2 → IVec S16 32) a x).toNat < S64x512.size a)
theorem k0_idx345_inb : ∀ (v82 : BitVec 32) (v136 : IVec S16 32) (v139 : IVec S16 32) (v230 : IVec S16 32) (k0_hw173 : k0_chk173 v82 v136 v139 v230), ∀ (k0_h4 : k0_cond4 v82 = 1#1), ∀ a x, ((![v139, v230] : Fin 2 → IVec S16 32) a x).toNat < S48x128.size a := fun v82 v136 v139 v230 k0_hw173 k0_h4 => k0_hw173.1 k0_h4
theorem k0_idx346_inb : ∀ (v82 : BitVec 32) (v136 : IVec S16 32) (v139 : IVec S16 32) (v230 : IVec S16 32) (k0_hw173 : k0_chk173 v82 v136 v139 v230), ∀ (k0_h4 : k0_cond4 v82 = 1#1), ∀ a x, ((![v230, v136] : Fin 2 → IVec S16 32) a x).toNat < S64x512.size a := fun v82 v136 v139 v230 k0_hw173 k0_h4 => k0_hw173.2 k0_h4

def k0_chk174 (v82 : BitVec 32) (v136 : IVec S16 32) (v139 : IVec S16 32) (v232 : IVec S16 32) : Prop :=
  (∀ (k0_h4 : k0_cond4 v82 = 1#1), ∀ a x, ((![v139, v232] : Fin 2 → IVec S16 32) a x).toNat < S48x128.size a) ∧
  (∀ (k0_h4 : k0_cond4 v82 = 1#1), ∀ a x, ((![v232, v136] : Fin 2 → IVec S16 32) a x).toNat < S64x512.size a)
theorem k0_idx347_inb : ∀ (v82 : BitVec 32) (v136 : IVec S16 32) (v139 : IVec S16 32) (v232 : IVec S16 32) (k0_hw174 : k0_chk174 v82 v136 v139 v232), ∀ (k0_h4 : k0_cond4 v82 = 1#1), ∀ a x, ((![v139, v232] : Fin 2 → IVec S16 32) a x).toNat < S48x128.size a := fun v82 v136 v139 v232 k0_hw174 k0_h4 => k0_hw174.1 k0_h4
theorem k0_idx348_inb : ∀ (v82 : BitVec 32) (v136 : IVec S16 32) (v139 : IVec S16 32) (v232 : IVec S16 32) (k0_hw174 : k0_chk174 v82 v136 v139 v232), ∀ (k0_h4 : k0_cond4 v82 = 1#1), ∀ a x, ((![v232, v136] : Fin 2 → IVec S16 32) a x).toNat < S64x512.size a := fun v82 v136 v139 v232 k0_hw174 k0_h4 => k0_hw174.2 k0_h4

def k0_chk175 (v82 : BitVec 32) (v136 : IVec S16 32) (v139 : IVec S16 32) (v234 : IVec S16 32) : Prop :=
  (∀ (k0_h4 : k0_cond4 v82 = 1#1), ∀ a x, ((![v139, v234] : Fin 2 → IVec S16 32) a x).toNat < S48x128.size a) ∧
  (∀ (k0_h4 : k0_cond4 v82 = 1#1), ∀ a x, ((![v234, v136] : Fin 2 → IVec S16 32) a x).toNat < S64x512.size a)
theorem k0_idx349_inb : ∀ (v82 : BitVec 32) (v136 : IVec S16 32) (v139 : IVec S16 32) (v234 : IVec S16 32) (k0_hw175 : k0_chk175 v82 v136 v139 v234), ∀ (k0_h4 : k0_cond4 v82 = 1#1), ∀ a x, ((![v139, v234] : Fin 2 → IVec S16 32) a x).toNat < S48x128.size a := fun v82 v136 v139 v234 k0_hw175 k0_h4 => k0_hw175.1 k0_h4
theorem k0_idx350_inb : ∀ (v82 : BitVec 32) (v136 : IVec S16 32) (v139 : IVec S16 32) (v234 : IVec S16 32) (k0_hw175 : k0_chk175 v82 v136 v139 v234), ∀ (k0_h4 : k0_cond4 v82 = 1#1), ∀ a x, ((![v234, v136] : Fin 2 → IVec S16 32) a x).toNat < S64x512.size a := fun v82 v136 v139 v234 k0_hw175 k0_h4 => k0_hw175.2 k0_h4

def k0_chk176 (v82 : BitVec 32) (v136 : IVec S16 32) (v139 : IVec S16 32) (v236 : IVec S16 32) : Prop :=
  (∀ (k0_h4 : k0_cond4 v82 = 1#1), ∀ a x, ((![v139, v236] : Fin 2 → IVec S16 32) a x).toNat < S48x128.size a) ∧
  (∀ (k0_h4 : k0_cond4 v82 = 1#1), ∀ a x, ((![v236, v136] : Fin 2 → IVec S16 32) a x).toNat < S64x512.size a)
theorem k0_idx351_inb : ∀ (v82 : BitVec 32) (v136 : IVec S16 32) (v139 : IVec S16 32) (v236 : IVec S16 32) (k0_hw176 : k0_chk176 v82 v136 v139 v236), ∀ (k0_h4 : k0_cond4 v82 = 1#1), ∀ a x, ((![v139, v236] : Fin 2 → IVec S16 32) a x).toNat < S48x128.size a := fun v82 v136 v139 v236 k0_hw176 k0_h4 => k0_hw176.1 k0_h4
theorem k0_idx352_inb : ∀ (v82 : BitVec 32) (v136 : IVec S16 32) (v139 : IVec S16 32) (v236 : IVec S16 32) (k0_hw176 : k0_chk176 v82 v136 v139 v236), ∀ (k0_h4 : k0_cond4 v82 = 1#1), ∀ a x, ((![v236, v136] : Fin 2 → IVec S16 32) a x).toNat < S64x512.size a := fun v82 v136 v139 v236 k0_hw176 k0_h4 => k0_hw176.2 k0_h4

def k0_chk177 (v82 : BitVec 32) (v136 : IVec S16 32) (v139 : IVec S16 32) (v238 : IVec S16 32) : Prop :=
  (∀ (k0_h4 : k0_cond4 v82 = 1#1), ∀ a x, ((![v139, v238] : Fin 2 → IVec S16 32) a x).toNat < S48x128.size a) ∧
  (∀ (k0_h4 : k0_cond4 v82 = 1#1), ∀ a x, ((![v238, v136] : Fin 2 → IVec S16 32) a x).toNat < S64x512.size a)
theorem k0_idx353_inb : ∀ (v82 : BitVec 32) (v136 : IVec S16 32) (v139 : IVec S16 32) (v238 : IVec S16 32) (k0_hw177 : k0_chk177 v82 v136 v139 v238), ∀ (k0_h4 : k0_cond4 v82 = 1#1), ∀ a x, ((![v139, v238] : Fin 2 → IVec S16 32) a x).toNat < S48x128.size a := fun v82 v136 v139 v238 k0_hw177 k0_h4 => k0_hw177.1 k0_h4
theorem k0_idx354_inb : ∀ (v82 : BitVec 32) (v136 : IVec S16 32) (v139 : IVec S16 32) (v238 : IVec S16 32) (k0_hw177 : k0_chk177 v82 v136 v139 v238), ∀ (k0_h4 : k0_cond4 v82 = 1#1), ∀ a x, ((![v238, v136] : Fin 2 → IVec S16 32) a x).toNat < S64x512.size a := fun v82 v136 v139 v238 k0_hw177 k0_h4 => k0_hw177.2 k0_h4

def k0_chk178 (v82 : BitVec 32) (v136 : IVec S16 32) (v139 : IVec S16 32) (v240 : IVec S16 32) : Prop :=
  (∀ (k0_h4 : k0_cond4 v82 = 1#1), ∀ a x, ((![v139, v240] : Fin 2 → IVec S16 32) a x).toNat < S48x128.size a) ∧
  (∀ (k0_h4 : k0_cond4 v82 = 1#1), ∀ a x, ((![v240, v136] : Fin 2 → IVec S16 32) a x).toNat < S64x512.size a)
theorem k0_idx355_inb : ∀ (v82 : BitVec 32) (v136 : IVec S16 32) (v139 : IVec S16 32) (v240 : IVec S16 32) (k0_hw178 : k0_chk178 v82 v136 v139 v240), ∀ (k0_h4 : k0_cond4 v82 = 1#1), ∀ a x, ((![v139, v240] : Fin 2 → IVec S16 32) a x).toNat < S48x128.size a := fun v82 v136 v139 v240 k0_hw178 k0_h4 => k0_hw178.1 k0_h4
theorem k0_idx356_inb : ∀ (v82 : BitVec 32) (v136 : IVec S16 32) (v139 : IVec S16 32) (v240 : IVec S16 32) (k0_hw178 : k0_chk178 v82 v136 v139 v240), ∀ (k0_h4 : k0_cond4 v82 = 1#1), ∀ a x, ((![v240, v136] : Fin 2 → IVec S16 32) a x).toNat < S64x512.size a := fun v82 v136 v139 v240 k0_hw178 k0_h4 => k0_hw178.2 k0_h4

def k0_chk179 (v82 : BitVec 32) (v136 : IVec S16 32) (v139 : IVec S16 32) (v242 : IVec S16 32) : Prop :=
  (∀ (k0_h4 : k0_cond4 v82 = 1#1), ∀ a x, ((![v139, v242] : Fin 2 → IVec S16 32) a x).toNat < S48x128.size a) ∧
  (∀ (k0_h4 : k0_cond4 v82 = 1#1), ∀ a x, ((![v242, v136] : Fin 2 → IVec S16 32) a x).toNat < S64x512.size a)
theorem k0_idx357_inb : ∀ (v82 : BitVec 32) (v136 : IVec S16 32) (v139 : IVec S16 32) (v242 : IVec S16 32) (k0_hw179 : k0_chk179 v82 v136 v139 v242), ∀ (k0_h4 : k0_cond4 v82 = 1#1), ∀ a x, ((![v139, v242] : Fin 2 → IVec S16 32) a x).toNat < S48x128.size a := fun v82 v136 v139 v242 k0_hw179 k0_h4 => k0_hw179.1 k0_h4
theorem k0_idx358_inb : ∀ (v82 : BitVec 32) (v136 : IVec S16 32) (v139 : IVec S16 32) (v242 : IVec S16 32) (k0_hw179 : k0_chk179 v82 v136 v139 v242), ∀ (k0_h4 : k0_cond4 v82 = 1#1), ∀ a x, ((![v242, v136] : Fin 2 → IVec S16 32) a x).toNat < S64x512.size a := fun v82 v136 v139 v242 k0_hw179 k0_h4 => k0_hw179.2 k0_h4

def k0_chk180 (v82 : BitVec 32) (v136 : IVec S16 32) (v139 : IVec S16 32) (v244 : IVec S16 32) : Prop :=
  (∀ (k0_h4 : k0_cond4 v82 = 1#1), ∀ a x, ((![v139, v244] : Fin 2 → IVec S16 32) a x).toNat < S48x128.size a) ∧
  (∀ (k0_h4 : k0_cond4 v82 = 1#1), ∀ a x, ((![v244, v136] : Fin 2 → IVec S16 32) a x).toNat < S64x512.size a)
theorem k0_idx359_inb : ∀ (v82 : BitVec 32) (v136 : IVec S16 32) (v139 : IVec S16 32) (v244 : IVec S16 32) (k0_hw180 : k0_chk180 v82 v136 v139 v244), ∀ (k0_h4 : k0_cond4 v82 = 1#1), ∀ a x, ((![v139, v244] : Fin 2 → IVec S16 32) a x).toNat < S48x128.size a := fun v82 v136 v139 v244 k0_hw180 k0_h4 => k0_hw180.1 k0_h4
theorem k0_idx360_inb : ∀ (v82 : BitVec 32) (v136 : IVec S16 32) (v139 : IVec S16 32) (v244 : IVec S16 32) (k0_hw180 : k0_chk180 v82 v136 v139 v244), ∀ (k0_h4 : k0_cond4 v82 = 1#1), ∀ a x, ((![v244, v136] : Fin 2 → IVec S16 32) a x).toNat < S64x512.size a := fun v82 v136 v139 v244 k0_hw180 k0_h4 => k0_hw180.2 k0_h4

def k0_chk181 (v82 : BitVec 32) (v136 : IVec S16 32) (v139 : IVec S16 32) (v246 : IVec S16 32) : Prop :=
  (∀ (k0_h4 : k0_cond4 v82 = 1#1), ∀ a x, ((![v139, v246] : Fin 2 → IVec S16 32) a x).toNat < S48x128.size a) ∧
  (∀ (k0_h4 : k0_cond4 v82 = 1#1), ∀ a x, ((![v246, v136] : Fin 2 → IVec S16 32) a x).toNat < S64x512.size a)
theorem k0_idx361_inb : ∀ (v82 : BitVec 32) (v136 : IVec S16 32) (v139 : IVec S16 32) (v246 : IVec S16 32) (k0_hw181 : k0_chk181 v82 v136 v139 v246), ∀ (k0_h4 : k0_cond4 v82 = 1#1), ∀ a x, ((![v139, v246] : Fin 2 → IVec S16 32) a x).toNat < S48x128.size a := fun v82 v136 v139 v246 k0_hw181 k0_h4 => k0_hw181.1 k0_h4
theorem k0_idx362_inb : ∀ (v82 : BitVec 32) (v136 : IVec S16 32) (v139 : IVec S16 32) (v246 : IVec S16 32) (k0_hw181 : k0_chk181 v82 v136 v139 v246), ∀ (k0_h4 : k0_cond4 v82 = 1#1), ∀ a x, ((![v246, v136] : Fin 2 → IVec S16 32) a x).toNat < S64x512.size a := fun v82 v136 v139 v246 k0_hw181 k0_h4 => k0_hw181.2 k0_h4

def k0_chk182 (v82 : BitVec 32) (v136 : IVec S16 32) (v139 : IVec S16 32) (v248 : IVec S16 32) : Prop :=
  (∀ (k0_h4 : k0_cond4 v82 = 1#1), ∀ a x, ((![v139, v248] : Fin 2 → IVec S16 32) a x).toNat < S48x128.size a) ∧
  (∀ (k0_h4 : k0_cond4 v82 = 1#1), ∀ a x, ((![v248, v136] : Fin 2 → IVec S16 32) a x).toNat < S64x512.size a)
theorem k0_idx363_inb : ∀ (v82 : BitVec 32) (v136 : IVec S16 32) (v139 : IVec S16 32) (v248 : IVec S16 32) (k0_hw182 : k0_chk182 v82 v136 v139 v248), ∀ (k0_h4 : k0_cond4 v82 = 1#1), ∀ a x, ((![v139, v248] : Fin 2 → IVec S16 32) a x).toNat < S48x128.size a := fun v82 v136 v139 v248 k0_hw182 k0_h4 => k0_hw182.1 k0_h4
theorem k0_idx364_inb : ∀ (v82 : BitVec 32) (v136 : IVec S16 32) (v139 : IVec S16 32) (v248 : IVec S16 32) (k0_hw182 : k0_chk182 v82 v136 v139 v248), ∀ (k0_h4 : k0_cond4 v82 = 1#1), ∀ a x, ((![v248, v136] : Fin 2 → IVec S16 32) a x).toNat < S64x512.size a := fun v82 v136 v139 v248 k0_hw182 k0_h4 => k0_hw182.2 k0_h4

def k0_chk183 (v82 : BitVec 32) (v136 : IVec S16 32) (v139 : IVec S16 32) (v250 : IVec S16 32) : Prop :=
  (∀ (k0_h4 : k0_cond4 v82 = 1#1), ∀ a x, ((![v139, v250] : Fin 2 → IVec S16 32) a x).toNat < S48x128.size a) ∧
  (∀ (k0_h4 : k0_cond4 v82 = 1#1), ∀ a x, ((![v250, v136] : Fin 2 → IVec S16 32) a x).toNat < S64x512.size a)
theorem k0_idx365_inb : ∀ (v82 : BitVec 32) (v136 : IVec S16 32) (v139 : IVec S16 32) (v250 : IVec S16 32) (k0_hw183 : k0_chk183 v82 v136 v139 v250), ∀ (k0_h4 : k0_cond4 v82 = 1#1), ∀ a x, ((![v139, v250] : Fin 2 → IVec S16 32) a x).toNat < S48x128.size a := fun v82 v136 v139 v250 k0_hw183 k0_h4 => k0_hw183.1 k0_h4
theorem k0_idx366_inb : ∀ (v82 : BitVec 32) (v136 : IVec S16 32) (v139 : IVec S16 32) (v250 : IVec S16 32) (k0_hw183 : k0_chk183 v82 v136 v139 v250), ∀ (k0_h4 : k0_cond4 v82 = 1#1), ∀ a x, ((![v250, v136] : Fin 2 → IVec S16 32) a x).toNat < S64x512.size a := fun v82 v136 v139 v250 k0_hw183 k0_h4 => k0_hw183.2 k0_h4

def k0_chk184 (v82 : BitVec 32) (v136 : IVec S16 32) (v139 : IVec S16 32) (v252 : IVec S16 32) : Prop :=
  (∀ (k0_h4 : k0_cond4 v82 = 1#1), ∀ a x, ((![v139, v252] : Fin 2 → IVec S16 32) a x).toNat < S48x128.size a) ∧
  (∀ (k0_h4 : k0_cond4 v82 = 1#1), ∀ a x, ((![v252, v136] : Fin 2 → IVec S16 32) a x).toNat < S64x512.size a)
theorem k0_idx367_inb : ∀ (v82 : BitVec 32) (v136 : IVec S16 32) (v139 : IVec S16 32) (v252 : IVec S16 32) (k0_hw184 : k0_chk184 v82 v136 v139 v252), ∀ (k0_h4 : k0_cond4 v82 = 1#1), ∀ a x, ((![v139, v252] : Fin 2 → IVec S16 32) a x).toNat < S48x128.size a := fun v82 v136 v139 v252 k0_hw184 k0_h4 => k0_hw184.1 k0_h4
theorem k0_idx368_inb : ∀ (v82 : BitVec 32) (v136 : IVec S16 32) (v139 : IVec S16 32) (v252 : IVec S16 32) (k0_hw184 : k0_chk184 v82 v136 v139 v252), ∀ (k0_h4 : k0_cond4 v82 = 1#1), ∀ a x, ((![v252, v136] : Fin 2 → IVec S16 32) a x).toNat < S64x512.size a := fun v82 v136 v139 v252 k0_hw184 k0_h4 => k0_hw184.2 k0_h4

def k0_chk185 (v82 : BitVec 32) (v136 : IVec S16 32) (v139 : IVec S16 32) (v254 : IVec S16 32) : Prop :=
  (∀ (k0_h4 : k0_cond4 v82 = 1#1), ∀ a x, ((![v139, v254] : Fin 2 → IVec S16 32) a x).toNat < S48x128.size a) ∧
  (∀ (k0_h4 : k0_cond4 v82 = 1#1), ∀ a x, ((![v254, v136] : Fin 2 → IVec S16 32) a x).toNat < S64x512.size a)
theorem k0_idx369_inb : ∀ (v82 : BitVec 32) (v136 : IVec S16 32) (v139 : IVec S16 32) (v254 : IVec S16 32) (k0_hw185 : k0_chk185 v82 v136 v139 v254), ∀ (k0_h4 : k0_cond4 v82 = 1#1), ∀ a x, ((![v139, v254] : Fin 2 → IVec S16 32) a x).toNat < S48x128.size a := fun v82 v136 v139 v254 k0_hw185 k0_h4 => k0_hw185.1 k0_h4
theorem k0_idx370_inb : ∀ (v82 : BitVec 32) (v136 : IVec S16 32) (v139 : IVec S16 32) (v254 : IVec S16 32) (k0_hw185 : k0_chk185 v82 v136 v139 v254), ∀ (k0_h4 : k0_cond4 v82 = 1#1), ∀ a x, ((![v254, v136] : Fin 2 → IVec S16 32) a x).toNat < S64x512.size a := fun v82 v136 v139 v254 k0_hw185 k0_h4 => k0_hw185.2 k0_h4

def k0_chk186 (v82 : BitVec 32) (v136 : IVec S16 32) (v139 : IVec S16 32) (v256 : IVec S16 32) : Prop :=
  (∀ (k0_h4 : k0_cond4 v82 = 1#1), ∀ a x, ((![v139, v256] : Fin 2 → IVec S16 32) a x).toNat < S48x128.size a) ∧
  (∀ (k0_h4 : k0_cond4 v82 = 1#1), ∀ a x, ((![v256, v136] : Fin 2 → IVec S16 32) a x).toNat < S64x512.size a)
theorem k0_idx371_inb : ∀ (v82 : BitVec 32) (v136 : IVec S16 32) (v139 : IVec S16 32) (v256 : IVec S16 32) (k0_hw186 : k0_chk186 v82 v136 v139 v256), ∀ (k0_h4 : k0_cond4 v82 = 1#1), ∀ a x, ((![v139, v256] : Fin 2 → IVec S16 32) a x).toNat < S48x128.size a := fun v82 v136 v139 v256 k0_hw186 k0_h4 => k0_hw186.1 k0_h4
theorem k0_idx372_inb : ∀ (v82 : BitVec 32) (v136 : IVec S16 32) (v139 : IVec S16 32) (v256 : IVec S16 32) (k0_hw186 : k0_chk186 v82 v136 v139 v256), ∀ (k0_h4 : k0_cond4 v82 = 1#1), ∀ a x, ((![v256, v136] : Fin 2 → IVec S16 32) a x).toNat < S64x512.size a := fun v82 v136 v139 v256 k0_hw186 k0_h4 => k0_hw186.2 k0_h4

def k0_chk187 (v82 : BitVec 32) (v136 : IVec S16 32) (v139 : IVec S16 32) (v258 : IVec S16 32) : Prop :=
  (∀ (k0_h4 : k0_cond4 v82 = 1#1), ∀ a x, ((![v139, v258] : Fin 2 → IVec S16 32) a x).toNat < S48x128.size a) ∧
  (∀ (k0_h4 : k0_cond4 v82 = 1#1), ∀ a x, ((![v258, v136] : Fin 2 → IVec S16 32) a x).toNat < S64x512.size a)
theorem k0_idx373_inb : ∀ (v82 : BitVec 32) (v136 : IVec S16 32) (v139 : IVec S16 32) (v258 : IVec S16 32) (k0_hw187 : k0_chk187 v82 v136 v139 v258), ∀ (k0_h4 : k0_cond4 v82 = 1#1), ∀ a x, ((![v139, v258] : Fin 2 → IVec S16 32) a x).toNat < S48x128.size a := fun v82 v136 v139 v258 k0_hw187 k0_h4 => k0_hw187.1 k0_h4
theorem k0_idx374_inb : ∀ (v82 : BitVec 32) (v136 : IVec S16 32) (v139 : IVec S16 32) (v258 : IVec S16 32) (k0_hw187 : k0_chk187 v82 v136 v139 v258), ∀ (k0_h4 : k0_cond4 v82 = 1#1), ∀ a x, ((![v258, v136] : Fin 2 → IVec S16 32) a x).toNat < S64x512.size a := fun v82 v136 v139 v258 k0_hw187 k0_h4 => k0_hw187.2 k0_h4

def k0_chk188 (v82 : BitVec 32) (v136 : IVec S16 32) (v139 : IVec S16 32) (v260 : IVec S16 32) : Prop :=
  (∀ (k0_h4 : k0_cond4 v82 = 1#1), ∀ a x, ((![v139, v260] : Fin 2 → IVec S16 32) a x).toNat < S48x128.size a) ∧
  (∀ (k0_h4 : k0_cond4 v82 = 1#1), ∀ a x, ((![v260, v136] : Fin 2 → IVec S16 32) a x).toNat < S64x512.size a)
theorem k0_idx375_inb : ∀ (v82 : BitVec 32) (v136 : IVec S16 32) (v139 : IVec S16 32) (v260 : IVec S16 32) (k0_hw188 : k0_chk188 v82 v136 v139 v260), ∀ (k0_h4 : k0_cond4 v82 = 1#1), ∀ a x, ((![v139, v260] : Fin 2 → IVec S16 32) a x).toNat < S48x128.size a := fun v82 v136 v139 v260 k0_hw188 k0_h4 => k0_hw188.1 k0_h4
theorem k0_idx376_inb : ∀ (v82 : BitVec 32) (v136 : IVec S16 32) (v139 : IVec S16 32) (v260 : IVec S16 32) (k0_hw188 : k0_chk188 v82 v136 v139 v260), ∀ (k0_h4 : k0_cond4 v82 = 1#1), ∀ a x, ((![v260, v136] : Fin 2 → IVec S16 32) a x).toNat < S64x512.size a := fun v82 v136 v139 v260 k0_hw188 k0_h4 => k0_hw188.2 k0_h4

def k0_chk189 (v82 : BitVec 32) (v136 : IVec S16 32) (v139 : IVec S16 32) (v262 : IVec S16 32) : Prop :=
  (∀ (k0_h4 : k0_cond4 v82 = 1#1), ∀ a x, ((![v139, v262] : Fin 2 → IVec S16 32) a x).toNat < S48x128.size a) ∧
  (∀ (k0_h4 : k0_cond4 v82 = 1#1), ∀ a x, ((![v262, v136] : Fin 2 → IVec S16 32) a x).toNat < S64x512.size a)
theorem k0_idx377_inb : ∀ (v82 : BitVec 32) (v136 : IVec S16 32) (v139 : IVec S16 32) (v262 : IVec S16 32) (k0_hw189 : k0_chk189 v82 v136 v139 v262), ∀ (k0_h4 : k0_cond4 v82 = 1#1), ∀ a x, ((![v139, v262] : Fin 2 → IVec S16 32) a x).toNat < S48x128.size a := fun v82 v136 v139 v262 k0_hw189 k0_h4 => k0_hw189.1 k0_h4
theorem k0_idx378_inb : ∀ (v82 : BitVec 32) (v136 : IVec S16 32) (v139 : IVec S16 32) (v262 : IVec S16 32) (k0_hw189 : k0_chk189 v82 v136 v139 v262), ∀ (k0_h4 : k0_cond4 v82 = 1#1), ∀ a x, ((![v262, v136] : Fin 2 → IVec S16 32) a x).toNat < S64x512.size a := fun v82 v136 v139 v262 k0_hw189 k0_h4 => k0_hw189.2 k0_h4

def k0_chk190 (v82 : BitVec 32) (v136 : IVec S16 32) (v139 : IVec S16 32) (v264 : IVec S16 32) : Prop :=
  (∀ (k0_h4 : k0_cond4 v82 = 1#1), ∀ a x, ((![v139, v264] : Fin 2 → IVec S16 32) a x).toNat < S48x128.size a) ∧
  (∀ (k0_h4 : k0_cond4 v82 = 1#1), ∀ a x, ((![v264, v136] : Fin 2 → IVec S16 32) a x).toNat < S64x512.size a)
theorem k0_idx379_inb : ∀ (v82 : BitVec 32) (v136 : IVec S16 32) (v139 : IVec S16 32) (v264 : IVec S16 32) (k0_hw190 : k0_chk190 v82 v136 v139 v264), ∀ (k0_h4 : k0_cond4 v82 = 1#1), ∀ a x, ((![v139, v264] : Fin 2 → IVec S16 32) a x).toNat < S48x128.size a := fun v82 v136 v139 v264 k0_hw190 k0_h4 => k0_hw190.1 k0_h4
theorem k0_idx380_inb : ∀ (v82 : BitVec 32) (v136 : IVec S16 32) (v139 : IVec S16 32) (v264 : IVec S16 32) (k0_hw190 : k0_chk190 v82 v136 v139 v264), ∀ (k0_h4 : k0_cond4 v82 = 1#1), ∀ a x, ((![v264, v136] : Fin 2 → IVec S16 32) a x).toNat < S64x512.size a := fun v82 v136 v139 v264 k0_hw190 k0_h4 => k0_hw190.2 k0_h4

def k0_chk191 (v82 : BitVec 32) (v136 : IVec S16 32) (v139 : IVec S16 32) (v266 : IVec S16 32) : Prop :=
  (∀ (k0_h4 : k0_cond4 v82 = 1#1), ∀ a x, ((![v139, v266] : Fin 2 → IVec S16 32) a x).toNat < S48x128.size a) ∧
  (∀ (k0_h4 : k0_cond4 v82 = 1#1), ∀ a x, ((![v266, v136] : Fin 2 → IVec S16 32) a x).toNat < S64x512.size a)
theorem k0_idx381_inb : ∀ (v82 : BitVec 32) (v136 : IVec S16 32) (v139 : IVec S16 32) (v266 : IVec S16 32) (k0_hw191 : k0_chk191 v82 v136 v139 v266), ∀ (k0_h4 : k0_cond4 v82 = 1#1), ∀ a x, ((![v139, v266] : Fin 2 → IVec S16 32) a x).toNat < S48x128.size a := fun v82 v136 v139 v266 k0_hw191 k0_h4 => k0_hw191.1 k0_h4
theorem k0_idx382_inb : ∀ (v82 : BitVec 32) (v136 : IVec S16 32) (v139 : IVec S16 32) (v266 : IVec S16 32) (k0_hw191 : k0_chk191 v82 v136 v139 v266), ∀ (k0_h4 : k0_cond4 v82 = 1#1), ∀ a x, ((![v266, v136] : Fin 2 → IVec S16 32) a x).toNat < S64x512.size a := fun v82 v136 v139 v266 k0_hw191 k0_h4 => k0_hw191.2 k0_h4

def k0_chk192 (v82 : BitVec 32) (v136 : IVec S16 32) (v139 : IVec S16 32) (v268 : IVec S16 32) : Prop :=
  (∀ (k0_h4 : k0_cond4 v82 = 1#1), ∀ a x, ((![v139, v268] : Fin 2 → IVec S16 32) a x).toNat < S48x128.size a) ∧
  (∀ (k0_h4 : k0_cond4 v82 = 1#1), ∀ a x, ((![v268, v136] : Fin 2 → IVec S16 32) a x).toNat < S64x512.size a)
theorem k0_idx383_inb : ∀ (v82 : BitVec 32) (v136 : IVec S16 32) (v139 : IVec S16 32) (v268 : IVec S16 32) (k0_hw192 : k0_chk192 v82 v136 v139 v268), ∀ (k0_h4 : k0_cond4 v82 = 1#1), ∀ a x, ((![v139, v268] : Fin 2 → IVec S16 32) a x).toNat < S48x128.size a := fun v82 v136 v139 v268 k0_hw192 k0_h4 => k0_hw192.1 k0_h4
theorem k0_idx384_inb : ∀ (v82 : BitVec 32) (v136 : IVec S16 32) (v139 : IVec S16 32) (v268 : IVec S16 32) (k0_hw192 : k0_chk192 v82 v136 v139 v268), ∀ (k0_h4 : k0_cond4 v82 = 1#1), ∀ a x, ((![v268, v136] : Fin 2 → IVec S16 32) a x).toNat < S64x512.size a := fun v82 v136 v139 v268 k0_hw192 k0_h4 => k0_hw192.2 k0_h4
def k0_off11 (i : grid0.Coords) (k0_t1 : Fin k0_t1_loop.trips) : Fin 2 → Nat :=
  let c0_i32_55 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c512_i32_54 : BitVec 32 := 512#32
  let v92 : BitVec 32 := Scalar.muli v32 c512_i32_54
  let v93 : BitVec 32 := Scalar.addi v2 v92
  ![0, v93.toNat]
def k0_off12 (i : grid0.Coords) (k0_t1 : Fin k0_t1_loop.trips) : Fin 2 → Nat :=
  let c0_i32_59 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_57 : BitVec 32 := 1#32
  let v96 : BitVec 32 := Scalar.addi v32 c1_i32_57
  let c512_i32_58 : BitVec 32 := 512#32
  let v97 : BitVec 32 := Scalar.muli v96 c512_i32_58
  let v98 : BitVec 32 := Scalar.addi v2 v97
  ![0, v98.toNat]
def k0_cond5 (k0_t1 : Fin k0_t1_loop.trips) : BitVec 1 :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c2_i32_64 : BitVec 32 := 2#32
  let v105 : BitVec 32 := Scalar.addi v32 c2_i32_64
  let c32_i32_65 : BitVec 32 := 32#32
  let v106 : BitVec 1 := Scalar.cmpi .slt v105 c32_i32_65
  let v107 : BitVec 32 := Scalar.extui v106
  let c0_i32_66 : BitVec 32 := 0#32
  let v108 : BitVec 1 := Scalar.cmpi .ne v107 c0_i32_66
  v108

def k0_off13 (i : grid0.Coords) (k0_t1 : Fin k0_t1_loop.trips) : Fin 2 → Nat :=
  let c0_i32_83 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c2_i32_81 : BitVec 32 := 2#32
  let v130 : BitVec 32 := Scalar.addi v32 c2_i32_81
  let c512_i32_82 : BitVec 32 := 512#32
  let v131 : BitVec 32 := Scalar.muli v130 c512_i32_82
  let v132 : BitVec 32 := Scalar.addi v2 v131
  ![0, v132.toNat]
def k0_off14 (k0_t1 : Fin k0_t1_loop.trips) (c0_i32_88 : BitVec 32) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c2_i32_85 : BitVec 32 := 2#32
  let v135 : BitVec 32 := Scalar.addi v32 c2_i32_85
  let c64_i32_86 : BitVec 32 := 64#32
  let v136 : BitVec 32 := Scalar.muli v135 c64_i32_86
  let c16_i32_87 : BitVec 32 := 16#32
  let v137 : BitVec 32 := Scalar.addi v136 c16_i32_87
  let v138 : BitVec 32 := Scalar.addi v137 c0_i32_88
  let v139 : Index := Scalar.indexCast v138
  ![v139.toNat]
def k0_off15 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_67 : BitVec 32 := 1#32
  let v109 : BitVec 32 := Scalar.addi v32 c1_i32_67
  let c64_i32_70 : BitVec 32 := 64#32
  let v111 : BitVec 32 := Scalar.muli v109 c64_i32_70
  let v112 : Index := Scalar.indexCast v111
  ![v112.toNat]
def k0_off16 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_67 : BitVec 32 := 1#32
  let v109 : BitVec 32 := Scalar.addi v32 c1_i32_67
  let c64_i32_81 : BitVec 32 := 64#32
  let v130 : BitVec 32 := Scalar.muli v109 c64_i32_81
  let c16_i32_82 : BitVec 32 := 16#32
  let v131 : BitVec 32 := Scalar.addi v130 c16_i32_82
  let c0_i32_83 : BitVec 32 := 0#32
  let v132 : BitVec 32 := Scalar.addi v131 c0_i32_83
  let v133 : Index := Scalar.indexCast v132
  ![v133.toNat]
def k0_cond6 (v115 : BitVec 32) : BitVec 1 :=
  let c0_i32_71 : BitVec 32 := 0#32
  let v116 : BitVec 1 := Scalar.cmpi .sgt v115 c0_i32_71
  let v117 : BitVec 32 := Scalar.extui v116
  let c0_i32_72 : BitVec 32 := 0#32
  let v118 : BitVec 1 := Scalar.cmpi .ne v117 c0_i32_72
  v118

def k0_chk193 (v115 : BitVec 32) (v136 : IVec S16 32) (v139 : IVec S16 32) (v142 : IVec S16 32) : Prop :=
  (∀ (k0_h6 : k0_cond6 v115 = 1#1), ∀ a x, ((![v139, v142] : Fin 2 → IVec S16 32) a x).toNat < S48x128.size a) ∧
  (∀ (k0_h6 : k0_cond6 v115 = 1#1), ∀ a x, ((![v142, v136] : Fin 2 → IVec S16 32) a x).toNat < S64x512.size a)
theorem k0_idx385_inb : ∀ (v115 : BitVec 32) (v136 : IVec S16 32) (v139 : IVec S16 32) (v142 : IVec S16 32) (k0_hw193 : k0_chk193 v115 v136 v139 v142), ∀ (k0_h6 : k0_cond6 v115 = 1#1), ∀ a x, ((![v139, v142] : Fin 2 → IVec S16 32) a x).toNat < S48x128.size a := fun v115 v136 v139 v142 k0_hw193 k0_h6 => k0_hw193.1 k0_h6
theorem k0_idx386_inb : ∀ (v115 : BitVec 32) (v136 : IVec S16 32) (v139 : IVec S16 32) (v142 : IVec S16 32) (k0_hw193 : k0_chk193 v115 v136 v139 v142), ∀ (k0_h6 : k0_cond6 v115 = 1#1), ∀ a x, ((![v142, v136] : Fin 2 → IVec S16 32) a x).toNat < S64x512.size a := fun v115 v136 v139 v142 k0_hw193 k0_h6 => k0_hw193.2 k0_h6

def k0_chk194 (v115 : BitVec 32) (v136 : IVec S16 32) (v139 : IVec S16 32) (v144 : IVec S16 32) : Prop :=
  (∀ (k0_h6 : k0_cond6 v115 = 1#1), ∀ a x, ((![v139, v144] : Fin 2 → IVec S16 32) a x).toNat < S48x128.size a) ∧
  (∀ (k0_h6 : k0_cond6 v115 = 1#1), ∀ a x, ((![v144, v136] : Fin 2 → IVec S16 32) a x).toNat < S64x512.size a)
theorem k0_idx387_inb : ∀ (v115 : BitVec 32) (v136 : IVec S16 32) (v139 : IVec S16 32) (v144 : IVec S16 32) (k0_hw194 : k0_chk194 v115 v136 v139 v144), ∀ (k0_h6 : k0_cond6 v115 = 1#1), ∀ a x, ((![v139, v144] : Fin 2 → IVec S16 32) a x).toNat < S48x128.size a := fun v115 v136 v139 v144 k0_hw194 k0_h6 => k0_hw194.1 k0_h6
theorem k0_idx388_inb : ∀ (v115 : BitVec 32) (v136 : IVec S16 32) (v139 : IVec S16 32) (v144 : IVec S16 32) (k0_hw194 : k0_chk194 v115 v136 v139 v144), ∀ (k0_h6 : k0_cond6 v115 = 1#1), ∀ a x, ((![v144, v136] : Fin 2 → IVec S16 32) a x).toNat < S64x512.size a := fun v115 v136 v139 v144 k0_hw194 k0_h6 => k0_hw194.2 k0_h6

def k0_chk195 (v115 : BitVec 32) (v136 : IVec S16 32) (v139 : IVec S16 32) (v146 : IVec S16 32) : Prop :=
  (∀ (k0_h6 : k0_cond6 v115 = 1#1), ∀ a x, ((![v139, v146] : Fin 2 → IVec S16 32) a x).toNat < S48x128.size a) ∧
  (∀ (k0_h6 : k0_cond6 v115 = 1#1), ∀ a x, ((![v146, v136] : Fin 2 → IVec S16 32) a x).toNat < S64x512.size a)
theorem k0_idx389_inb : ∀ (v115 : BitVec 32) (v136 : IVec S16 32) (v139 : IVec S16 32) (v146 : IVec S16 32) (k0_hw195 : k0_chk195 v115 v136 v139 v146), ∀ (k0_h6 : k0_cond6 v115 = 1#1), ∀ a x, ((![v139, v146] : Fin 2 → IVec S16 32) a x).toNat < S48x128.size a := fun v115 v136 v139 v146 k0_hw195 k0_h6 => k0_hw195.1 k0_h6
theorem k0_idx390_inb : ∀ (v115 : BitVec 32) (v136 : IVec S16 32) (v139 : IVec S16 32) (v146 : IVec S16 32) (k0_hw195 : k0_chk195 v115 v136 v139 v146), ∀ (k0_h6 : k0_cond6 v115 = 1#1), ∀ a x, ((![v146, v136] : Fin 2 → IVec S16 32) a x).toNat < S64x512.size a := fun v115 v136 v139 v146 k0_hw195 k0_h6 => k0_hw195.2 k0_h6

def k0_chk196 (v115 : BitVec 32) (v136 : IVec S16 32) (v139 : IVec S16 32) (v148 : IVec S16 32) : Prop :=
  (∀ (k0_h6 : k0_cond6 v115 = 1#1), ∀ a x, ((![v139, v148] : Fin 2 → IVec S16 32) a x).toNat < S48x128.size a) ∧
  (∀ (k0_h6 : k0_cond6 v115 = 1#1), ∀ a x, ((![v148, v136] : Fin 2 → IVec S16 32) a x).toNat < S64x512.size a)
theorem k0_idx391_inb : ∀ (v115 : BitVec 32) (v136 : IVec S16 32) (v139 : IVec S16 32) (v148 : IVec S16 32) (k0_hw196 : k0_chk196 v115 v136 v139 v148), ∀ (k0_h6 : k0_cond6 v115 = 1#1), ∀ a x, ((![v139, v148] : Fin 2 → IVec S16 32) a x).toNat < S48x128.size a := fun v115 v136 v139 v148 k0_hw196 k0_h6 => k0_hw196.1 k0_h6
theorem k0_idx392_inb : ∀ (v115 : BitVec 32) (v136 : IVec S16 32) (v139 : IVec S16 32) (v148 : IVec S16 32) (k0_hw196 : k0_chk196 v115 v136 v139 v148), ∀ (k0_h6 : k0_cond6 v115 = 1#1), ∀ a x, ((![v148, v136] : Fin 2 → IVec S16 32) a x).toNat < S64x512.size a := fun v115 v136 v139 v148 k0_hw196 k0_h6 => k0_hw196.2 k0_h6

def k0_chk197 (v115 : BitVec 32) (v136 : IVec S16 32) (v139 : IVec S16 32) (v150 : IVec S16 32) : Prop :=
  (∀ (k0_h6 : k0_cond6 v115 = 1#1), ∀ a x, ((![v139, v150] : Fin 2 → IVec S16 32) a x).toNat < S48x128.size a) ∧
  (∀ (k0_h6 : k0_cond6 v115 = 1#1), ∀ a x, ((![v150, v136] : Fin 2 → IVec S16 32) a x).toNat < S64x512.size a)
theorem k0_idx393_inb : ∀ (v115 : BitVec 32) (v136 : IVec S16 32) (v139 : IVec S16 32) (v150 : IVec S16 32) (k0_hw197 : k0_chk197 v115 v136 v139 v150), ∀ (k0_h6 : k0_cond6 v115 = 1#1), ∀ a x, ((![v139, v150] : Fin 2 → IVec S16 32) a x).toNat < S48x128.size a := fun v115 v136 v139 v150 k0_hw197 k0_h6 => k0_hw197.1 k0_h6
theorem k0_idx394_inb : ∀ (v115 : BitVec 32) (v136 : IVec S16 32) (v139 : IVec S16 32) (v150 : IVec S16 32) (k0_hw197 : k0_chk197 v115 v136 v139 v150), ∀ (k0_h6 : k0_cond6 v115 = 1#1), ∀ a x, ((![v150, v136] : Fin 2 → IVec S16 32) a x).toNat < S64x512.size a := fun v115 v136 v139 v150 k0_hw197 k0_h6 => k0_hw197.2 k0_h6

def k0_chk198 (v115 : BitVec 32) (v136 : IVec S16 32) (v139 : IVec S16 32) (v152 : IVec S16 32) : Prop :=
  (∀ (k0_h6 : k0_cond6 v115 = 1#1), ∀ a x, ((![v139, v152] : Fin 2 → IVec S16 32) a x).toNat < S48x128.size a) ∧
  (∀ (k0_h6 : k0_cond6 v115 = 1#1), ∀ a x, ((![v152, v136] : Fin 2 → IVec S16 32) a x).toNat < S64x512.size a)
theorem k0_idx395_inb : ∀ (v115 : BitVec 32) (v136 : IVec S16 32) (v139 : IVec S16 32) (v152 : IVec S16 32) (k0_hw198 : k0_chk198 v115 v136 v139 v152), ∀ (k0_h6 : k0_cond6 v115 = 1#1), ∀ a x, ((![v139, v152] : Fin 2 → IVec S16 32) a x).toNat < S48x128.size a := fun v115 v136 v139 v152 k0_hw198 k0_h6 => k0_hw198.1 k0_h6
theorem k0_idx396_inb : ∀ (v115 : BitVec 32) (v136 : IVec S16 32) (v139 : IVec S16 32) (v152 : IVec S16 32) (k0_hw198 : k0_chk198 v115 v136 v139 v152), ∀ (k0_h6 : k0_cond6 v115 = 1#1), ∀ a x, ((![v152, v136] : Fin 2 → IVec S16 32) a x).toNat < S64x512.size a := fun v115 v136 v139 v152 k0_hw198 k0_h6 => k0_hw198.2 k0_h6

def k0_chk199 (v115 : BitVec 32) (v136 : IVec S16 32) (v139 : IVec S16 32) (v154 : IVec S16 32) : Prop :=
  (∀ (k0_h6 : k0_cond6 v115 = 1#1), ∀ a x, ((![v139, v154] : Fin 2 → IVec S16 32) a x).toNat < S48x128.size a) ∧
  (∀ (k0_h6 : k0_cond6 v115 = 1#1), ∀ a x, ((![v154, v136] : Fin 2 → IVec S16 32) a x).toNat < S64x512.size a)
theorem k0_idx397_inb : ∀ (v115 : BitVec 32) (v136 : IVec S16 32) (v139 : IVec S16 32) (v154 : IVec S16 32) (k0_hw199 : k0_chk199 v115 v136 v139 v154), ∀ (k0_h6 : k0_cond6 v115 = 1#1), ∀ a x, ((![v139, v154] : Fin 2 → IVec S16 32) a x).toNat < S48x128.size a := fun v115 v136 v139 v154 k0_hw199 k0_h6 => k0_hw199.1 k0_h6
theorem k0_idx398_inb : ∀ (v115 : BitVec 32) (v136 : IVec S16 32) (v139 : IVec S16 32) (v154 : IVec S16 32) (k0_hw199 : k0_chk199 v115 v136 v139 v154), ∀ (k0_h6 : k0_cond6 v115 = 1#1), ∀ a x, ((![v154, v136] : Fin 2 → IVec S16 32) a x).toNat < S64x512.size a := fun v115 v136 v139 v154 k0_hw199 k0_h6 => k0_hw199.2 k0_h6

def k0_chk200 (v115 : BitVec 32) (v136 : IVec S16 32) (v139 : IVec S16 32) (v156 : IVec S16 32) : Prop :=
  (∀ (k0_h6 : k0_cond6 v115 = 1#1), ∀ a x, ((![v139, v156] : Fin 2 → IVec S16 32) a x).toNat < S48x128.size a) ∧
  (∀ (k0_h6 : k0_cond6 v115 = 1#1), ∀ a x, ((![v156, v136] : Fin 2 → IVec S16 32) a x).toNat < S64x512.size a)
theorem k0_idx399_inb : ∀ (v115 : BitVec 32) (v136 : IVec S16 32) (v139 : IVec S16 32) (v156 : IVec S16 32) (k0_hw200 : k0_chk200 v115 v136 v139 v156), ∀ (k0_h6 : k0_cond6 v115 = 1#1), ∀ a x, ((![v139, v156] : Fin 2 → IVec S16 32) a x).toNat < S48x128.size a := fun v115 v136 v139 v156 k0_hw200 k0_h6 => k0_hw200.1 k0_h6
theorem k0_idx400_inb : ∀ (v115 : BitVec 32) (v136 : IVec S16 32) (v139 : IVec S16 32) (v156 : IVec S16 32) (k0_hw200 : k0_chk200 v115 v136 v139 v156), ∀ (k0_h6 : k0_cond6 v115 = 1#1), ∀ a x, ((![v156, v136] : Fin 2 → IVec S16 32) a x).toNat < S64x512.size a := fun v115 v136 v139 v156 k0_hw200 k0_h6 => k0_hw200.2 k0_h6

def k0_chk201 (v115 : BitVec 32) (v136 : IVec S16 32) (v139 : IVec S16 32) (v158 : IVec S16 32) : Prop :=
  (∀ (k0_h6 : k0_cond6 v115 = 1#1), ∀ a x, ((![v139, v158] : Fin 2 → IVec S16 32) a x).toNat < S48x128.size a) ∧
  (∀ (k0_h6 : k0_cond6 v115 = 1#1), ∀ a x, ((![v158, v136] : Fin 2 → IVec S16 32) a x).toNat < S64x512.size a)
theorem k0_idx401_inb : ∀ (v115 : BitVec 32) (v136 : IVec S16 32) (v139 : IVec S16 32) (v158 : IVec S16 32) (k0_hw201 : k0_chk201 v115 v136 v139 v158), ∀ (k0_h6 : k0_cond6 v115 = 1#1), ∀ a x, ((![v139, v158] : Fin 2 → IVec S16 32) a x).toNat < S48x128.size a := fun v115 v136 v139 v158 k0_hw201 k0_h6 => k0_hw201.1 k0_h6
theorem k0_idx402_inb : ∀ (v115 : BitVec 32) (v136 : IVec S16 32) (v139 : IVec S16 32) (v158 : IVec S16 32) (k0_hw201 : k0_chk201 v115 v136 v139 v158), ∀ (k0_h6 : k0_cond6 v115 = 1#1), ∀ a x, ((![v158, v136] : Fin 2 → IVec S16 32) a x).toNat < S64x512.size a := fun v115 v136 v139 v158 k0_hw201 k0_h6 => k0_hw201.2 k0_h6

def k0_chk202 (v115 : BitVec 32) (v136 : IVec S16 32) (v139 : IVec S16 32) (v160 : IVec S16 32) : Prop :=
  (∀ (k0_h6 : k0_cond6 v115 = 1#1), ∀ a x, ((![v139, v160] : Fin 2 → IVec S16 32) a x).toNat < S48x128.size a) ∧
  (∀ (k0_h6 : k0_cond6 v115 = 1#1), ∀ a x, ((![v160, v136] : Fin 2 → IVec S16 32) a x).toNat < S64x512.size a)
theorem k0_idx403_inb : ∀ (v115 : BitVec 32) (v136 : IVec S16 32) (v139 : IVec S16 32) (v160 : IVec S16 32) (k0_hw202 : k0_chk202 v115 v136 v139 v160), ∀ (k0_h6 : k0_cond6 v115 = 1#1), ∀ a x, ((![v139, v160] : Fin 2 → IVec S16 32) a x).toNat < S48x128.size a := fun v115 v136 v139 v160 k0_hw202 k0_h6 => k0_hw202.1 k0_h6
theorem k0_idx404_inb : ∀ (v115 : BitVec 32) (v136 : IVec S16 32) (v139 : IVec S16 32) (v160 : IVec S16 32) (k0_hw202 : k0_chk202 v115 v136 v139 v160), ∀ (k0_h6 : k0_cond6 v115 = 1#1), ∀ a x, ((![v160, v136] : Fin 2 → IVec S16 32) a x).toNat < S64x512.size a := fun v115 v136 v139 v160 k0_hw202 k0_h6 => k0_hw202.2 k0_h6

def k0_chk203 (v115 : BitVec 32) (v136 : IVec S16 32) (v139 : IVec S16 32) (v162 : IVec S16 32) : Prop :=
  (∀ (k0_h6 : k0_cond6 v115 = 1#1), ∀ a x, ((![v139, v162] : Fin 2 → IVec S16 32) a x).toNat < S48x128.size a) ∧
  (∀ (k0_h6 : k0_cond6 v115 = 1#1), ∀ a x, ((![v162, v136] : Fin 2 → IVec S16 32) a x).toNat < S64x512.size a)
theorem k0_idx405_inb : ∀ (v115 : BitVec 32) (v136 : IVec S16 32) (v139 : IVec S16 32) (v162 : IVec S16 32) (k0_hw203 : k0_chk203 v115 v136 v139 v162), ∀ (k0_h6 : k0_cond6 v115 = 1#1), ∀ a x, ((![v139, v162] : Fin 2 → IVec S16 32) a x).toNat < S48x128.size a := fun v115 v136 v139 v162 k0_hw203 k0_h6 => k0_hw203.1 k0_h6
theorem k0_idx406_inb : ∀ (v115 : BitVec 32) (v136 : IVec S16 32) (v139 : IVec S16 32) (v162 : IVec S16 32) (k0_hw203 : k0_chk203 v115 v136 v139 v162), ∀ (k0_h6 : k0_cond6 v115 = 1#1), ∀ a x, ((![v162, v136] : Fin 2 → IVec S16 32) a x).toNat < S64x512.size a := fun v115 v136 v139 v162 k0_hw203 k0_h6 => k0_hw203.2 k0_h6

def k0_chk204 (v115 : BitVec 32) (v136 : IVec S16 32) (v139 : IVec S16 32) (v164 : IVec S16 32) : Prop :=
  (∀ (k0_h6 : k0_cond6 v115 = 1#1), ∀ a x, ((![v139, v164] : Fin 2 → IVec S16 32) a x).toNat < S48x128.size a) ∧
  (∀ (k0_h6 : k0_cond6 v115 = 1#1), ∀ a x, ((![v164, v136] : Fin 2 → IVec S16 32) a x).toNat < S64x512.size a)
theorem k0_idx407_inb : ∀ (v115 : BitVec 32) (v136 : IVec S16 32) (v139 : IVec S16 32) (v164 : IVec S16 32) (k0_hw204 : k0_chk204 v115 v136 v139 v164), ∀ (k0_h6 : k0_cond6 v115 = 1#1), ∀ a x, ((![v139, v164] : Fin 2 → IVec S16 32) a x).toNat < S48x128.size a := fun v115 v136 v139 v164 k0_hw204 k0_h6 => k0_hw204.1 k0_h6
theorem k0_idx408_inb : ∀ (v115 : BitVec 32) (v136 : IVec S16 32) (v139 : IVec S16 32) (v164 : IVec S16 32) (k0_hw204 : k0_chk204 v115 v136 v139 v164), ∀ (k0_h6 : k0_cond6 v115 = 1#1), ∀ a x, ((![v164, v136] : Fin 2 → IVec S16 32) a x).toNat < S64x512.size a := fun v115 v136 v139 v164 k0_hw204 k0_h6 => k0_hw204.2 k0_h6

def k0_chk205 (v115 : BitVec 32) (v136 : IVec S16 32) (v139 : IVec S16 32) (v166 : IVec S16 32) : Prop :=
  (∀ (k0_h6 : k0_cond6 v115 = 1#1), ∀ a x, ((![v139, v166] : Fin 2 → IVec S16 32) a x).toNat < S48x128.size a) ∧
  (∀ (k0_h6 : k0_cond6 v115 = 1#1), ∀ a x, ((![v166, v136] : Fin 2 → IVec S16 32) a x).toNat < S64x512.size a)
theorem k0_idx409_inb : ∀ (v115 : BitVec 32) (v136 : IVec S16 32) (v139 : IVec S16 32) (v166 : IVec S16 32) (k0_hw205 : k0_chk205 v115 v136 v139 v166), ∀ (k0_h6 : k0_cond6 v115 = 1#1), ∀ a x, ((![v139, v166] : Fin 2 → IVec S16 32) a x).toNat < S48x128.size a := fun v115 v136 v139 v166 k0_hw205 k0_h6 => k0_hw205.1 k0_h6
theorem k0_idx410_inb : ∀ (v115 : BitVec 32) (v136 : IVec S16 32) (v139 : IVec S16 32) (v166 : IVec S16 32) (k0_hw205 : k0_chk205 v115 v136 v139 v166), ∀ (k0_h6 : k0_cond6 v115 = 1#1), ∀ a x, ((![v166, v136] : Fin 2 → IVec S16 32) a x).toNat < S64x512.size a := fun v115 v136 v139 v166 k0_hw205 k0_h6 => k0_hw205.2 k0_h6

def k0_chk206 (v115 : BitVec 32) (v136 : IVec S16 32) (v139 : IVec S16 32) (v168 : IVec S16 32) : Prop :=
  (∀ (k0_h6 : k0_cond6 v115 = 1#1), ∀ a x, ((![v139, v168] : Fin 2 → IVec S16 32) a x).toNat < S48x128.size a) ∧
  (∀ (k0_h6 : k0_cond6 v115 = 1#1), ∀ a x, ((![v168, v136] : Fin 2 → IVec S16 32) a x).toNat < S64x512.size a)
theorem k0_idx411_inb : ∀ (v115 : BitVec 32) (v136 : IVec S16 32) (v139 : IVec S16 32) (v168 : IVec S16 32) (k0_hw206 : k0_chk206 v115 v136 v139 v168), ∀ (k0_h6 : k0_cond6 v115 = 1#1), ∀ a x, ((![v139, v168] : Fin 2 → IVec S16 32) a x).toNat < S48x128.size a := fun v115 v136 v139 v168 k0_hw206 k0_h6 => k0_hw206.1 k0_h6
theorem k0_idx412_inb : ∀ (v115 : BitVec 32) (v136 : IVec S16 32) (v139 : IVec S16 32) (v168 : IVec S16 32) (k0_hw206 : k0_chk206 v115 v136 v139 v168), ∀ (k0_h6 : k0_cond6 v115 = 1#1), ∀ a x, ((![v168, v136] : Fin 2 → IVec S16 32) a x).toNat < S64x512.size a := fun v115 v136 v139 v168 k0_hw206 k0_h6 => k0_hw206.2 k0_h6

def k0_chk207 (v115 : BitVec 32) (v136 : IVec S16 32) (v139 : IVec S16 32) (v170 : IVec S16 32) : Prop :=
  (∀ (k0_h6 : k0_cond6 v115 = 1#1), ∀ a x, ((![v139, v170] : Fin 2 → IVec S16 32) a x).toNat < S48x128.size a) ∧
  (∀ (k0_h6 : k0_cond6 v115 = 1#1), ∀ a x, ((![v170, v136] : Fin 2 → IVec S16 32) a x).toNat < S64x512.size a)
theorem k0_idx413_inb : ∀ (v115 : BitVec 32) (v136 : IVec S16 32) (v139 : IVec S16 32) (v170 : IVec S16 32) (k0_hw207 : k0_chk207 v115 v136 v139 v170), ∀ (k0_h6 : k0_cond6 v115 = 1#1), ∀ a x, ((![v139, v170] : Fin 2 → IVec S16 32) a x).toNat < S48x128.size a := fun v115 v136 v139 v170 k0_hw207 k0_h6 => k0_hw207.1 k0_h6
theorem k0_idx414_inb : ∀ (v115 : BitVec 32) (v136 : IVec S16 32) (v139 : IVec S16 32) (v170 : IVec S16 32) (k0_hw207 : k0_chk207 v115 v136 v139 v170), ∀ (k0_h6 : k0_cond6 v115 = 1#1), ∀ a x, ((![v170, v136] : Fin 2 → IVec S16 32) a x).toNat < S64x512.size a := fun v115 v136 v139 v170 k0_hw207 k0_h6 => k0_hw207.2 k0_h6

def k0_chk208 (v115 : BitVec 32) (v136 : IVec S16 32) (v139 : IVec S16 32) (v172 : IVec S16 32) : Prop :=
  (∀ (k0_h6 : k0_cond6 v115 = 1#1), ∀ a x, ((![v139, v172] : Fin 2 → IVec S16 32) a x).toNat < S48x128.size a) ∧
  (∀ (k0_h6 : k0_cond6 v115 = 1#1), ∀ a x, ((![v172, v136] : Fin 2 → IVec S16 32) a x).toNat < S64x512.size a)
theorem k0_idx415_inb : ∀ (v115 : BitVec 32) (v136 : IVec S16 32) (v139 : IVec S16 32) (v172 : IVec S16 32) (k0_hw208 : k0_chk208 v115 v136 v139 v172), ∀ (k0_h6 : k0_cond6 v115 = 1#1), ∀ a x, ((![v139, v172] : Fin 2 → IVec S16 32) a x).toNat < S48x128.size a := fun v115 v136 v139 v172 k0_hw208 k0_h6 => k0_hw208.1 k0_h6
theorem k0_idx416_inb : ∀ (v115 : BitVec 32) (v136 : IVec S16 32) (v139 : IVec S16 32) (v172 : IVec S16 32) (k0_hw208 : k0_chk208 v115 v136 v139 v172), ∀ (k0_h6 : k0_cond6 v115 = 1#1), ∀ a x, ((![v172, v136] : Fin 2 → IVec S16 32) a x).toNat < S64x512.size a := fun v115 v136 v139 v172 k0_hw208 k0_h6 => k0_hw208.2 k0_h6

def k0_chk209 (v115 : BitVec 32) (v136 : IVec S16 32) (v139 : IVec S16 32) (v174 : IVec S16 32) : Prop :=
  (∀ (k0_h6 : k0_cond6 v115 = 1#1), ∀ a x, ((![v139, v174] : Fin 2 → IVec S16 32) a x).toNat < S48x128.size a) ∧
  (∀ (k0_h6 : k0_cond6 v115 = 1#1), ∀ a x, ((![v174, v136] : Fin 2 → IVec S16 32) a x).toNat < S64x512.size a)
theorem k0_idx417_inb : ∀ (v115 : BitVec 32) (v136 : IVec S16 32) (v139 : IVec S16 32) (v174 : IVec S16 32) (k0_hw209 : k0_chk209 v115 v136 v139 v174), ∀ (k0_h6 : k0_cond6 v115 = 1#1), ∀ a x, ((![v139, v174] : Fin 2 → IVec S16 32) a x).toNat < S48x128.size a := fun v115 v136 v139 v174 k0_hw209 k0_h6 => k0_hw209.1 k0_h6
theorem k0_idx418_inb : ∀ (v115 : BitVec 32) (v136 : IVec S16 32) (v139 : IVec S16 32) (v174 : IVec S16 32) (k0_hw209 : k0_chk209 v115 v136 v139 v174), ∀ (k0_h6 : k0_cond6 v115 = 1#1), ∀ a x, ((![v174, v136] : Fin 2 → IVec S16 32) a x).toNat < S64x512.size a := fun v115 v136 v139 v174 k0_hw209 k0_h6 => k0_hw209.2 k0_h6

def k0_chk210 (v115 : BitVec 32) (v136 : IVec S16 32) (v139 : IVec S16 32) (v176 : IVec S16 32) : Prop :=
  (∀ (k0_h6 : k0_cond6 v115 = 1#1), ∀ a x, ((![v139, v176] : Fin 2 → IVec S16 32) a x).toNat < S48x128.size a) ∧
  (∀ (k0_h6 : k0_cond6 v115 = 1#1), ∀ a x, ((![v176, v136] : Fin 2 → IVec S16 32) a x).toNat < S64x512.size a)
theorem k0_idx419_inb : ∀ (v115 : BitVec 32) (v136 : IVec S16 32) (v139 : IVec S16 32) (v176 : IVec S16 32) (k0_hw210 : k0_chk210 v115 v136 v139 v176), ∀ (k0_h6 : k0_cond6 v115 = 1#1), ∀ a x, ((![v139, v176] : Fin 2 → IVec S16 32) a x).toNat < S48x128.size a := fun v115 v136 v139 v176 k0_hw210 k0_h6 => k0_hw210.1 k0_h6
theorem k0_idx420_inb : ∀ (v115 : BitVec 32) (v136 : IVec S16 32) (v139 : IVec S16 32) (v176 : IVec S16 32) (k0_hw210 : k0_chk210 v115 v136 v139 v176), ∀ (k0_h6 : k0_cond6 v115 = 1#1), ∀ a x, ((![v176, v136] : Fin 2 → IVec S16 32) a x).toNat < S64x512.size a := fun v115 v136 v139 v176 k0_hw210 k0_h6 => k0_hw210.2 k0_h6

def k0_chk211 (v115 : BitVec 32) (v136 : IVec S16 32) (v139 : IVec S16 32) (v178 : IVec S16 32) : Prop :=
  (∀ (k0_h6 : k0_cond6 v115 = 1#1), ∀ a x, ((![v139, v178] : Fin 2 → IVec S16 32) a x).toNat < S48x128.size a) ∧
  (∀ (k0_h6 : k0_cond6 v115 = 1#1), ∀ a x, ((![v178, v136] : Fin 2 → IVec S16 32) a x).toNat < S64x512.size a)
theorem k0_idx421_inb : ∀ (v115 : BitVec 32) (v136 : IVec S16 32) (v139 : IVec S16 32) (v178 : IVec S16 32) (k0_hw211 : k0_chk211 v115 v136 v139 v178), ∀ (k0_h6 : k0_cond6 v115 = 1#1), ∀ a x, ((![v139, v178] : Fin 2 → IVec S16 32) a x).toNat < S48x128.size a := fun v115 v136 v139 v178 k0_hw211 k0_h6 => k0_hw211.1 k0_h6
theorem k0_idx422_inb : ∀ (v115 : BitVec 32) (v136 : IVec S16 32) (v139 : IVec S16 32) (v178 : IVec S16 32) (k0_hw211 : k0_chk211 v115 v136 v139 v178), ∀ (k0_h6 : k0_cond6 v115 = 1#1), ∀ a x, ((![v178, v136] : Fin 2 → IVec S16 32) a x).toNat < S64x512.size a := fun v115 v136 v139 v178 k0_hw211 k0_h6 => k0_hw211.2 k0_h6

def k0_chk212 (v115 : BitVec 32) (v136 : IVec S16 32) (v139 : IVec S16 32) (v180 : IVec S16 32) : Prop :=
  (∀ (k0_h6 : k0_cond6 v115 = 1#1), ∀ a x, ((![v139, v180] : Fin 2 → IVec S16 32) a x).toNat < S48x128.size a) ∧
  (∀ (k0_h6 : k0_cond6 v115 = 1#1), ∀ a x, ((![v180, v136] : Fin 2 → IVec S16 32) a x).toNat < S64x512.size a)
theorem k0_idx423_inb : ∀ (v115 : BitVec 32) (v136 : IVec S16 32) (v139 : IVec S16 32) (v180 : IVec S16 32) (k0_hw212 : k0_chk212 v115 v136 v139 v180), ∀ (k0_h6 : k0_cond6 v115 = 1#1), ∀ a x, ((![v139, v180] : Fin 2 → IVec S16 32) a x).toNat < S48x128.size a := fun v115 v136 v139 v180 k0_hw212 k0_h6 => k0_hw212.1 k0_h6
theorem k0_idx424_inb : ∀ (v115 : BitVec 32) (v136 : IVec S16 32) (v139 : IVec S16 32) (v180 : IVec S16 32) (k0_hw212 : k0_chk212 v115 v136 v139 v180), ∀ (k0_h6 : k0_cond6 v115 = 1#1), ∀ a x, ((![v180, v136] : Fin 2 → IVec S16 32) a x).toNat < S64x512.size a := fun v115 v136 v139 v180 k0_hw212 k0_h6 => k0_hw212.2 k0_h6

def k0_chk213 (v115 : BitVec 32) (v136 : IVec S16 32) (v139 : IVec S16 32) (v182 : IVec S16 32) : Prop :=
  (∀ (k0_h6 : k0_cond6 v115 = 1#1), ∀ a x, ((![v139, v182] : Fin 2 → IVec S16 32) a x).toNat < S48x128.size a) ∧
  (∀ (k0_h6 : k0_cond6 v115 = 1#1), ∀ a x, ((![v182, v136] : Fin 2 → IVec S16 32) a x).toNat < S64x512.size a)
theorem k0_idx425_inb : ∀ (v115 : BitVec 32) (v136 : IVec S16 32) (v139 : IVec S16 32) (v182 : IVec S16 32) (k0_hw213 : k0_chk213 v115 v136 v139 v182), ∀ (k0_h6 : k0_cond6 v115 = 1#1), ∀ a x, ((![v139, v182] : Fin 2 → IVec S16 32) a x).toNat < S48x128.size a := fun v115 v136 v139 v182 k0_hw213 k0_h6 => k0_hw213.1 k0_h6
theorem k0_idx426_inb : ∀ (v115 : BitVec 32) (v136 : IVec S16 32) (v139 : IVec S16 32) (v182 : IVec S16 32) (k0_hw213 : k0_chk213 v115 v136 v139 v182), ∀ (k0_h6 : k0_cond6 v115 = 1#1), ∀ a x, ((![v182, v136] : Fin 2 → IVec S16 32) a x).toNat < S64x512.size a := fun v115 v136 v139 v182 k0_hw213 k0_h6 => k0_hw213.2 k0_h6

def k0_chk214 (v115 : BitVec 32) (v136 : IVec S16 32) (v139 : IVec S16 32) (v184 : IVec S16 32) : Prop :=
  (∀ (k0_h6 : k0_cond6 v115 = 1#1), ∀ a x, ((![v139, v184] : Fin 2 → IVec S16 32) a x).toNat < S48x128.size a) ∧
  (∀ (k0_h6 : k0_cond6 v115 = 1#1), ∀ a x, ((![v184, v136] : Fin 2 → IVec S16 32) a x).toNat < S64x512.size a)
theorem k0_idx427_inb : ∀ (v115 : BitVec 32) (v136 : IVec S16 32) (v139 : IVec S16 32) (v184 : IVec S16 32) (k0_hw214 : k0_chk214 v115 v136 v139 v184), ∀ (k0_h6 : k0_cond6 v115 = 1#1), ∀ a x, ((![v139, v184] : Fin 2 → IVec S16 32) a x).toNat < S48x128.size a := fun v115 v136 v139 v184 k0_hw214 k0_h6 => k0_hw214.1 k0_h6
theorem k0_idx428_inb : ∀ (v115 : BitVec 32) (v136 : IVec S16 32) (v139 : IVec S16 32) (v184 : IVec S16 32) (k0_hw214 : k0_chk214 v115 v136 v139 v184), ∀ (k0_h6 : k0_cond6 v115 = 1#1), ∀ a x, ((![v184, v136] : Fin 2 → IVec S16 32) a x).toNat < S64x512.size a := fun v115 v136 v139 v184 k0_hw214 k0_h6 => k0_hw214.2 k0_h6

def k0_chk215 (v115 : BitVec 32) (v136 : IVec S16 32) (v139 : IVec S16 32) (v186 : IVec S16 32) : Prop :=
  (∀ (k0_h6 : k0_cond6 v115 = 1#1), ∀ a x, ((![v139, v186] : Fin 2 → IVec S16 32) a x).toNat < S48x128.size a) ∧
  (∀ (k0_h6 : k0_cond6 v115 = 1#1), ∀ a x, ((![v186, v136] : Fin 2 → IVec S16 32) a x).toNat < S64x512.size a)
theorem k0_idx429_inb : ∀ (v115 : BitVec 32) (v136 : IVec S16 32) (v139 : IVec S16 32) (v186 : IVec S16 32) (k0_hw215 : k0_chk215 v115 v136 v139 v186), ∀ (k0_h6 : k0_cond6 v115 = 1#1), ∀ a x, ((![v139, v186] : Fin 2 → IVec S16 32) a x).toNat < S48x128.size a := fun v115 v136 v139 v186 k0_hw215 k0_h6 => k0_hw215.1 k0_h6
theorem k0_idx430_inb : ∀ (v115 : BitVec 32) (v136 : IVec S16 32) (v139 : IVec S16 32) (v186 : IVec S16 32) (k0_hw215 : k0_chk215 v115 v136 v139 v186), ∀ (k0_h6 : k0_cond6 v115 = 1#1), ∀ a x, ((![v186, v136] : Fin 2 → IVec S16 32) a x).toNat < S64x512.size a := fun v115 v136 v139 v186 k0_hw215 k0_h6 => k0_hw215.2 k0_h6

def k0_chk216 (v115 : BitVec 32) (v136 : IVec S16 32) (v139 : IVec S16 32) (v188 : IVec S16 32) : Prop :=
  (∀ (k0_h6 : k0_cond6 v115 = 1#1), ∀ a x, ((![v139, v188] : Fin 2 → IVec S16 32) a x).toNat < S48x128.size a) ∧
  (∀ (k0_h6 : k0_cond6 v115 = 1#1), ∀ a x, ((![v188, v136] : Fin 2 → IVec S16 32) a x).toNat < S64x512.size a)
theorem k0_idx431_inb : ∀ (v115 : BitVec 32) (v136 : IVec S16 32) (v139 : IVec S16 32) (v188 : IVec S16 32) (k0_hw216 : k0_chk216 v115 v136 v139 v188), ∀ (k0_h6 : k0_cond6 v115 = 1#1), ∀ a x, ((![v139, v188] : Fin 2 → IVec S16 32) a x).toNat < S48x128.size a := fun v115 v136 v139 v188 k0_hw216 k0_h6 => k0_hw216.1 k0_h6
theorem k0_idx432_inb : ∀ (v115 : BitVec 32) (v136 : IVec S16 32) (v139 : IVec S16 32) (v188 : IVec S16 32) (k0_hw216 : k0_chk216 v115 v136 v139 v188), ∀ (k0_h6 : k0_cond6 v115 = 1#1), ∀ a x, ((![v188, v136] : Fin 2 → IVec S16 32) a x).toNat < S64x512.size a := fun v115 v136 v139 v188 k0_hw216 k0_h6 => k0_hw216.2 k0_h6

def k0_chk217 (v115 : BitVec 32) (v136 : IVec S16 32) (v139 : IVec S16 32) (v190 : IVec S16 32) : Prop :=
  (∀ (k0_h6 : k0_cond6 v115 = 1#1), ∀ a x, ((![v139, v190] : Fin 2 → IVec S16 32) a x).toNat < S48x128.size a) ∧
  (∀ (k0_h6 : k0_cond6 v115 = 1#1), ∀ a x, ((![v190, v136] : Fin 2 → IVec S16 32) a x).toNat < S64x512.size a)
theorem k0_idx433_inb : ∀ (v115 : BitVec 32) (v136 : IVec S16 32) (v139 : IVec S16 32) (v190 : IVec S16 32) (k0_hw217 : k0_chk217 v115 v136 v139 v190), ∀ (k0_h6 : k0_cond6 v115 = 1#1), ∀ a x, ((![v139, v190] : Fin 2 → IVec S16 32) a x).toNat < S48x128.size a := fun v115 v136 v139 v190 k0_hw217 k0_h6 => k0_hw217.1 k0_h6
theorem k0_idx434_inb : ∀ (v115 : BitVec 32) (v136 : IVec S16 32) (v139 : IVec S16 32) (v190 : IVec S16 32) (k0_hw217 : k0_chk217 v115 v136 v139 v190), ∀ (k0_h6 : k0_cond6 v115 = 1#1), ∀ a x, ((![v190, v136] : Fin 2 → IVec S16 32) a x).toNat < S64x512.size a := fun v115 v136 v139 v190 k0_hw217 k0_h6 => k0_hw217.2 k0_h6

def k0_chk218 (v115 : BitVec 32) (v136 : IVec S16 32) (v139 : IVec S16 32) (v192 : IVec S16 32) : Prop :=
  (∀ (k0_h6 : k0_cond6 v115 = 1#1), ∀ a x, ((![v139, v192] : Fin 2 → IVec S16 32) a x).toNat < S48x128.size a) ∧
  (∀ (k0_h6 : k0_cond6 v115 = 1#1), ∀ a x, ((![v192, v136] : Fin 2 → IVec S16 32) a x).toNat < S64x512.size a)
theorem k0_idx435_inb : ∀ (v115 : BitVec 32) (v136 : IVec S16 32) (v139 : IVec S16 32) (v192 : IVec S16 32) (k0_hw218 : k0_chk218 v115 v136 v139 v192), ∀ (k0_h6 : k0_cond6 v115 = 1#1), ∀ a x, ((![v139, v192] : Fin 2 → IVec S16 32) a x).toNat < S48x128.size a := fun v115 v136 v139 v192 k0_hw218 k0_h6 => k0_hw218.1 k0_h6
theorem k0_idx436_inb : ∀ (v115 : BitVec 32) (v136 : IVec S16 32) (v139 : IVec S16 32) (v192 : IVec S16 32) (k0_hw218 : k0_chk218 v115 v136 v139 v192), ∀ (k0_h6 : k0_cond6 v115 = 1#1), ∀ a x, ((![v192, v136] : Fin 2 → IVec S16 32) a x).toNat < S64x512.size a := fun v115 v136 v139 v192 k0_hw218 k0_h6 => k0_hw218.2 k0_h6

def k0_chk219 (v115 : BitVec 32) (v136 : IVec S16 32) (v139 : IVec S16 32) (v194 : IVec S16 32) : Prop :=
  (∀ (k0_h6 : k0_cond6 v115 = 1#1), ∀ a x, ((![v139, v194] : Fin 2 → IVec S16 32) a x).toNat < S48x128.size a) ∧
  (∀ (k0_h6 : k0_cond6 v115 = 1#1), ∀ a x, ((![v194, v136] : Fin 2 → IVec S16 32) a x).toNat < S64x512.size a)
theorem k0_idx437_inb : ∀ (v115 : BitVec 32) (v136 : IVec S16 32) (v139 : IVec S16 32) (v194 : IVec S16 32) (k0_hw219 : k0_chk219 v115 v136 v139 v194), ∀ (k0_h6 : k0_cond6 v115 = 1#1), ∀ a x, ((![v139, v194] : Fin 2 → IVec S16 32) a x).toNat < S48x128.size a := fun v115 v136 v139 v194 k0_hw219 k0_h6 => k0_hw219.1 k0_h6
theorem k0_idx438_inb : ∀ (v115 : BitVec 32) (v136 : IVec S16 32) (v139 : IVec S16 32) (v194 : IVec S16 32) (k0_hw219 : k0_chk219 v115 v136 v139 v194), ∀ (k0_h6 : k0_cond6 v115 = 1#1), ∀ a x, ((![v194, v136] : Fin 2 → IVec S16 32) a x).toNat < S64x512.size a := fun v115 v136 v139 v194 k0_hw219 k0_h6 => k0_hw219.2 k0_h6

def k0_chk220 (v115 : BitVec 32) (v136 : IVec S16 32) (v139 : IVec S16 32) (v196 : IVec S16 32) : Prop :=
  (∀ (k0_h6 : k0_cond6 v115 = 1#1), ∀ a x, ((![v139, v196] : Fin 2 → IVec S16 32) a x).toNat < S48x128.size a) ∧
  (∀ (k0_h6 : k0_cond6 v115 = 1#1), ∀ a x, ((![v196, v136] : Fin 2 → IVec S16 32) a x).toNat < S64x512.size a)
theorem k0_idx439_inb : ∀ (v115 : BitVec 32) (v136 : IVec S16 32) (v139 : IVec S16 32) (v196 : IVec S16 32) (k0_hw220 : k0_chk220 v115 v136 v139 v196), ∀ (k0_h6 : k0_cond6 v115 = 1#1), ∀ a x, ((![v139, v196] : Fin 2 → IVec S16 32) a x).toNat < S48x128.size a := fun v115 v136 v139 v196 k0_hw220 k0_h6 => k0_hw220.1 k0_h6
theorem k0_idx440_inb : ∀ (v115 : BitVec 32) (v136 : IVec S16 32) (v139 : IVec S16 32) (v196 : IVec S16 32) (k0_hw220 : k0_chk220 v115 v136 v139 v196), ∀ (k0_h6 : k0_cond6 v115 = 1#1), ∀ a x, ((![v196, v136] : Fin 2 → IVec S16 32) a x).toNat < S64x512.size a := fun v115 v136 v139 v196 k0_hw220 k0_h6 => k0_hw220.2 k0_h6

def k0_chk221 (v115 : BitVec 32) (v136 : IVec S16 32) (v139 : IVec S16 32) (v198 : IVec S16 32) : Prop :=
  (∀ (k0_h6 : k0_cond6 v115 = 1#1), ∀ a x, ((![v139, v198] : Fin 2 → IVec S16 32) a x).toNat < S48x128.size a) ∧
  (∀ (k0_h6 : k0_cond6 v115 = 1#1), ∀ a x, ((![v198, v136] : Fin 2 → IVec S16 32) a x).toNat < S64x512.size a)
theorem k0_idx441_inb : ∀ (v115 : BitVec 32) (v136 : IVec S16 32) (v139 : IVec S16 32) (v198 : IVec S16 32) (k0_hw221 : k0_chk221 v115 v136 v139 v198), ∀ (k0_h6 : k0_cond6 v115 = 1#1), ∀ a x, ((![v139, v198] : Fin 2 → IVec S16 32) a x).toNat < S48x128.size a := fun v115 v136 v139 v198 k0_hw221 k0_h6 => k0_hw221.1 k0_h6
theorem k0_idx442_inb : ∀ (v115 : BitVec 32) (v136 : IVec S16 32) (v139 : IVec S16 32) (v198 : IVec S16 32) (k0_hw221 : k0_chk221 v115 v136 v139 v198), ∀ (k0_h6 : k0_cond6 v115 = 1#1), ∀ a x, ((![v198, v136] : Fin 2 → IVec S16 32) a x).toNat < S64x512.size a := fun v115 v136 v139 v198 k0_hw221 k0_h6 => k0_hw221.2 k0_h6

def k0_chk222 (v115 : BitVec 32) (v136 : IVec S16 32) (v139 : IVec S16 32) (v200 : IVec S16 32) : Prop :=
  (∀ (k0_h6 : k0_cond6 v115 = 1#1), ∀ a x, ((![v139, v200] : Fin 2 → IVec S16 32) a x).toNat < S48x128.size a) ∧
  (∀ (k0_h6 : k0_cond6 v115 = 1#1), ∀ a x, ((![v200, v136] : Fin 2 → IVec S16 32) a x).toNat < S64x512.size a)
theorem k0_idx443_inb : ∀ (v115 : BitVec 32) (v136 : IVec S16 32) (v139 : IVec S16 32) (v200 : IVec S16 32) (k0_hw222 : k0_chk222 v115 v136 v139 v200), ∀ (k0_h6 : k0_cond6 v115 = 1#1), ∀ a x, ((![v139, v200] : Fin 2 → IVec S16 32) a x).toNat < S48x128.size a := fun v115 v136 v139 v200 k0_hw222 k0_h6 => k0_hw222.1 k0_h6
theorem k0_idx444_inb : ∀ (v115 : BitVec 32) (v136 : IVec S16 32) (v139 : IVec S16 32) (v200 : IVec S16 32) (k0_hw222 : k0_chk222 v115 v136 v139 v200), ∀ (k0_h6 : k0_cond6 v115 = 1#1), ∀ a x, ((![v200, v136] : Fin 2 → IVec S16 32) a x).toNat < S64x512.size a := fun v115 v136 v139 v200 k0_hw222 k0_h6 => k0_hw222.2 k0_h6

def k0_chk223 (v115 : BitVec 32) (v136 : IVec S16 32) (v139 : IVec S16 32) (v202 : IVec S16 32) : Prop :=
  (∀ (k0_h6 : k0_cond6 v115 = 1#1), ∀ a x, ((![v139, v202] : Fin 2 → IVec S16 32) a x).toNat < S48x128.size a) ∧
  (∀ (k0_h6 : k0_cond6 v115 = 1#1), ∀ a x, ((![v202, v136] : Fin 2 → IVec S16 32) a x).toNat < S64x512.size a)
theorem k0_idx445_inb : ∀ (v115 : BitVec 32) (v136 : IVec S16 32) (v139 : IVec S16 32) (v202 : IVec S16 32) (k0_hw223 : k0_chk223 v115 v136 v139 v202), ∀ (k0_h6 : k0_cond6 v115 = 1#1), ∀ a x, ((![v139, v202] : Fin 2 → IVec S16 32) a x).toNat < S48x128.size a := fun v115 v136 v139 v202 k0_hw223 k0_h6 => k0_hw223.1 k0_h6
theorem k0_idx446_inb : ∀ (v115 : BitVec 32) (v136 : IVec S16 32) (v139 : IVec S16 32) (v202 : IVec S16 32) (k0_hw223 : k0_chk223 v115 v136 v139 v202), ∀ (k0_h6 : k0_cond6 v115 = 1#1), ∀ a x, ((![v202, v136] : Fin 2 → IVec S16 32) a x).toNat < S64x512.size a := fun v115 v136 v139 v202 k0_hw223 k0_h6 => k0_hw223.2 k0_h6

def k0_chk224 (v115 : BitVec 32) (v136 : IVec S16 32) (v139 : IVec S16 32) (v204 : IVec S16 32) : Prop :=
  (∀ (k0_h6 : k0_cond6 v115 = 1#1), ∀ a x, ((![v139, v204] : Fin 2 → IVec S16 32) a x).toNat < S48x128.size a) ∧
  (∀ (k0_h6 : k0_cond6 v115 = 1#1), ∀ a x, ((![v204, v136] : Fin 2 → IVec S16 32) a x).toNat < S64x512.size a)
theorem k0_idx447_inb : ∀ (v115 : BitVec 32) (v136 : IVec S16 32) (v139 : IVec S16 32) (v204 : IVec S16 32) (k0_hw224 : k0_chk224 v115 v136 v139 v204), ∀ (k0_h6 : k0_cond6 v115 = 1#1), ∀ a x, ((![v139, v204] : Fin 2 → IVec S16 32) a x).toNat < S48x128.size a := fun v115 v136 v139 v204 k0_hw224 k0_h6 => k0_hw224.1 k0_h6
theorem k0_idx448_inb : ∀ (v115 : BitVec 32) (v136 : IVec S16 32) (v139 : IVec S16 32) (v204 : IVec S16 32) (k0_hw224 : k0_chk224 v115 v136 v139 v204), ∀ (k0_h6 : k0_cond6 v115 = 1#1), ∀ a x, ((![v204, v136] : Fin 2 → IVec S16 32) a x).toNat < S64x512.size a := fun v115 v136 v139 v204 k0_hw224 k0_h6 => k0_hw224.2 k0_h6

def k0_chk225 (v115 : BitVec 32) (v136 : IVec S16 32) (v139 : IVec S16 32) (v206 : IVec S16 32) : Prop :=
  (∀ (k0_h6 : k0_cond6 v115 = 1#1), ∀ a x, ((![v139, v206] : Fin 2 → IVec S16 32) a x).toNat < S48x128.size a) ∧
  (∀ (k0_h6 : k0_cond6 v115 = 1#1), ∀ a x, ((![v206, v136] : Fin 2 → IVec S16 32) a x).toNat < S64x512.size a)
theorem k0_idx449_inb : ∀ (v115 : BitVec 32) (v136 : IVec S16 32) (v139 : IVec S16 32) (v206 : IVec S16 32) (k0_hw225 : k0_chk225 v115 v136 v139 v206), ∀ (k0_h6 : k0_cond6 v115 = 1#1), ∀ a x, ((![v139, v206] : Fin 2 → IVec S16 32) a x).toNat < S48x128.size a := fun v115 v136 v139 v206 k0_hw225 k0_h6 => k0_hw225.1 k0_h6
theorem k0_idx450_inb : ∀ (v115 : BitVec 32) (v136 : IVec S16 32) (v139 : IVec S16 32) (v206 : IVec S16 32) (k0_hw225 : k0_chk225 v115 v136 v139 v206), ∀ (k0_h6 : k0_cond6 v115 = 1#1), ∀ a x, ((![v206, v136] : Fin 2 → IVec S16 32) a x).toNat < S64x512.size a := fun v115 v136 v139 v206 k0_hw225 k0_h6 => k0_hw225.2 k0_h6

def k0_chk226 (v115 : BitVec 32) (v136 : IVec S16 32) (v139 : IVec S16 32) (v208 : IVec S16 32) : Prop :=
  (∀ (k0_h6 : k0_cond6 v115 = 1#1), ∀ a x, ((![v139, v208] : Fin 2 → IVec S16 32) a x).toNat < S48x128.size a) ∧
  (∀ (k0_h6 : k0_cond6 v115 = 1#1), ∀ a x, ((![v208, v136] : Fin 2 → IVec S16 32) a x).toNat < S64x512.size a)
theorem k0_idx451_inb : ∀ (v115 : BitVec 32) (v136 : IVec S16 32) (v139 : IVec S16 32) (v208 : IVec S16 32) (k0_hw226 : k0_chk226 v115 v136 v139 v208), ∀ (k0_h6 : k0_cond6 v115 = 1#1), ∀ a x, ((![v139, v208] : Fin 2 → IVec S16 32) a x).toNat < S48x128.size a := fun v115 v136 v139 v208 k0_hw226 k0_h6 => k0_hw226.1 k0_h6
theorem k0_idx452_inb : ∀ (v115 : BitVec 32) (v136 : IVec S16 32) (v139 : IVec S16 32) (v208 : IVec S16 32) (k0_hw226 : k0_chk226 v115 v136 v139 v208), ∀ (k0_h6 : k0_cond6 v115 = 1#1), ∀ a x, ((![v208, v136] : Fin 2 → IVec S16 32) a x).toNat < S64x512.size a := fun v115 v136 v139 v208 k0_hw226 k0_h6 => k0_hw226.2 k0_h6

def k0_chk227 (v115 : BitVec 32) (v136 : IVec S16 32) (v139 : IVec S16 32) (v210 : IVec S16 32) : Prop :=
  (∀ (k0_h6 : k0_cond6 v115 = 1#1), ∀ a x, ((![v139, v210] : Fin 2 → IVec S16 32) a x).toNat < S48x128.size a) ∧
  (∀ (k0_h6 : k0_cond6 v115 = 1#1), ∀ a x, ((![v210, v136] : Fin 2 → IVec S16 32) a x).toNat < S64x512.size a)
theorem k0_idx453_inb : ∀ (v115 : BitVec 32) (v136 : IVec S16 32) (v139 : IVec S16 32) (v210 : IVec S16 32) (k0_hw227 : k0_chk227 v115 v136 v139 v210), ∀ (k0_h6 : k0_cond6 v115 = 1#1), ∀ a x, ((![v139, v210] : Fin 2 → IVec S16 32) a x).toNat < S48x128.size a := fun v115 v136 v139 v210 k0_hw227 k0_h6 => k0_hw227.1 k0_h6
theorem k0_idx454_inb : ∀ (v115 : BitVec 32) (v136 : IVec S16 32) (v139 : IVec S16 32) (v210 : IVec S16 32) (k0_hw227 : k0_chk227 v115 v136 v139 v210), ∀ (k0_h6 : k0_cond6 v115 = 1#1), ∀ a x, ((![v210, v136] : Fin 2 → IVec S16 32) a x).toNat < S64x512.size a := fun v115 v136 v139 v210 k0_hw227 k0_h6 => k0_hw227.2 k0_h6

def k0_chk228 (v115 : BitVec 32) (v136 : IVec S16 32) (v139 : IVec S16 32) (v212 : IVec S16 32) : Prop :=
  (∀ (k0_h6 : k0_cond6 v115 = 1#1), ∀ a x, ((![v139, v212] : Fin 2 → IVec S16 32) a x).toNat < S48x128.size a) ∧
  (∀ (k0_h6 : k0_cond6 v115 = 1#1), ∀ a x, ((![v212, v136] : Fin 2 → IVec S16 32) a x).toNat < S64x512.size a)
theorem k0_idx455_inb : ∀ (v115 : BitVec 32) (v136 : IVec S16 32) (v139 : IVec S16 32) (v212 : IVec S16 32) (k0_hw228 : k0_chk228 v115 v136 v139 v212), ∀ (k0_h6 : k0_cond6 v115 = 1#1), ∀ a x, ((![v139, v212] : Fin 2 → IVec S16 32) a x).toNat < S48x128.size a := fun v115 v136 v139 v212 k0_hw228 k0_h6 => k0_hw228.1 k0_h6
theorem k0_idx456_inb : ∀ (v115 : BitVec 32) (v136 : IVec S16 32) (v139 : IVec S16 32) (v212 : IVec S16 32) (k0_hw228 : k0_chk228 v115 v136 v139 v212), ∀ (k0_h6 : k0_cond6 v115 = 1#1), ∀ a x, ((![v212, v136] : Fin 2 → IVec S16 32) a x).toNat < S64x512.size a := fun v115 v136 v139 v212 k0_hw228 k0_h6 => k0_hw228.2 k0_h6

def k0_chk229 (v115 : BitVec 32) (v136 : IVec S16 32) (v139 : IVec S16 32) (v214 : IVec S16 32) : Prop :=
  (∀ (k0_h6 : k0_cond6 v115 = 1#1), ∀ a x, ((![v139, v214] : Fin 2 → IVec S16 32) a x).toNat < S48x128.size a) ∧
  (∀ (k0_h6 : k0_cond6 v115 = 1#1), ∀ a x, ((![v214, v136] : Fin 2 → IVec S16 32) a x).toNat < S64x512.size a)
theorem k0_idx457_inb : ∀ (v115 : BitVec 32) (v136 : IVec S16 32) (v139 : IVec S16 32) (v214 : IVec S16 32) (k0_hw229 : k0_chk229 v115 v136 v139 v214), ∀ (k0_h6 : k0_cond6 v115 = 1#1), ∀ a x, ((![v139, v214] : Fin 2 → IVec S16 32) a x).toNat < S48x128.size a := fun v115 v136 v139 v214 k0_hw229 k0_h6 => k0_hw229.1 k0_h6
theorem k0_idx458_inb : ∀ (v115 : BitVec 32) (v136 : IVec S16 32) (v139 : IVec S16 32) (v214 : IVec S16 32) (k0_hw229 : k0_chk229 v115 v136 v139 v214), ∀ (k0_h6 : k0_cond6 v115 = 1#1), ∀ a x, ((![v214, v136] : Fin 2 → IVec S16 32) a x).toNat < S64x512.size a := fun v115 v136 v139 v214 k0_hw229 k0_h6 => k0_hw229.2 k0_h6

def k0_chk230 (v115 : BitVec 32) (v136 : IVec S16 32) (v139 : IVec S16 32) (v216 : IVec S16 32) : Prop :=
  (∀ (k0_h6 : k0_cond6 v115 = 1#1), ∀ a x, ((![v139, v216] : Fin 2 → IVec S16 32) a x).toNat < S48x128.size a) ∧
  (∀ (k0_h6 : k0_cond6 v115 = 1#1), ∀ a x, ((![v216, v136] : Fin 2 → IVec S16 32) a x).toNat < S64x512.size a)
theorem k0_idx459_inb : ∀ (v115 : BitVec 32) (v136 : IVec S16 32) (v139 : IVec S16 32) (v216 : IVec S16 32) (k0_hw230 : k0_chk230 v115 v136 v139 v216), ∀ (k0_h6 : k0_cond6 v115 = 1#1), ∀ a x, ((![v139, v216] : Fin 2 → IVec S16 32) a x).toNat < S48x128.size a := fun v115 v136 v139 v216 k0_hw230 k0_h6 => k0_hw230.1 k0_h6
theorem k0_idx460_inb : ∀ (v115 : BitVec 32) (v136 : IVec S16 32) (v139 : IVec S16 32) (v216 : IVec S16 32) (k0_hw230 : k0_chk230 v115 v136 v139 v216), ∀ (k0_h6 : k0_cond6 v115 = 1#1), ∀ a x, ((![v216, v136] : Fin 2 → IVec S16 32) a x).toNat < S64x512.size a := fun v115 v136 v139 v216 k0_hw230 k0_h6 => k0_hw230.2 k0_h6

def k0_chk231 (v115 : BitVec 32) (v136 : IVec S16 32) (v139 : IVec S16 32) (v218 : IVec S16 32) : Prop :=
  (∀ (k0_h6 : k0_cond6 v115 = 1#1), ∀ a x, ((![v139, v218] : Fin 2 → IVec S16 32) a x).toNat < S48x128.size a) ∧
  (∀ (k0_h6 : k0_cond6 v115 = 1#1), ∀ a x, ((![v218, v136] : Fin 2 → IVec S16 32) a x).toNat < S64x512.size a)
theorem k0_idx461_inb : ∀ (v115 : BitVec 32) (v136 : IVec S16 32) (v139 : IVec S16 32) (v218 : IVec S16 32) (k0_hw231 : k0_chk231 v115 v136 v139 v218), ∀ (k0_h6 : k0_cond6 v115 = 1#1), ∀ a x, ((![v139, v218] : Fin 2 → IVec S16 32) a x).toNat < S48x128.size a := fun v115 v136 v139 v218 k0_hw231 k0_h6 => k0_hw231.1 k0_h6
theorem k0_idx462_inb : ∀ (v115 : BitVec 32) (v136 : IVec S16 32) (v139 : IVec S16 32) (v218 : IVec S16 32) (k0_hw231 : k0_chk231 v115 v136 v139 v218), ∀ (k0_h6 : k0_cond6 v115 = 1#1), ∀ a x, ((![v218, v136] : Fin 2 → IVec S16 32) a x).toNat < S64x512.size a := fun v115 v136 v139 v218 k0_hw231 k0_h6 => k0_hw231.2 k0_h6

def k0_chk232 (v115 : BitVec 32) (v136 : IVec S16 32) (v139 : IVec S16 32) (v220 : IVec S16 32) : Prop :=
  (∀ (k0_h6 : k0_cond6 v115 = 1#1), ∀ a x, ((![v139, v220] : Fin 2 → IVec S16 32) a x).toNat < S48x128.size a) ∧
  (∀ (k0_h6 : k0_cond6 v115 = 1#1), ∀ a x, ((![v220, v136] : Fin 2 → IVec S16 32) a x).toNat < S64x512.size a)
theorem k0_idx463_inb : ∀ (v115 : BitVec 32) (v136 : IVec S16 32) (v139 : IVec S16 32) (v220 : IVec S16 32) (k0_hw232 : k0_chk232 v115 v136 v139 v220), ∀ (k0_h6 : k0_cond6 v115 = 1#1), ∀ a x, ((![v139, v220] : Fin 2 → IVec S16 32) a x).toNat < S48x128.size a := fun v115 v136 v139 v220 k0_hw232 k0_h6 => k0_hw232.1 k0_h6
theorem k0_idx464_inb : ∀ (v115 : BitVec 32) (v136 : IVec S16 32) (v139 : IVec S16 32) (v220 : IVec S16 32) (k0_hw232 : k0_chk232 v115 v136 v139 v220), ∀ (k0_h6 : k0_cond6 v115 = 1#1), ∀ a x, ((![v220, v136] : Fin 2 → IVec S16 32) a x).toNat < S64x512.size a := fun v115 v136 v139 v220 k0_hw232 k0_h6 => k0_hw232.2 k0_h6

def k0_chk233 (v115 : BitVec 32) (v136 : IVec S16 32) (v139 : IVec S16 32) (v222 : IVec S16 32) : Prop :=
  (∀ (k0_h6 : k0_cond6 v115 = 1#1), ∀ a x, ((![v139, v222] : Fin 2 → IVec S16 32) a x).toNat < S48x128.size a) ∧
  (∀ (k0_h6 : k0_cond6 v115 = 1#1), ∀ a x, ((![v222, v136] : Fin 2 → IVec S16 32) a x).toNat < S64x512.size a)
theorem k0_idx465_inb : ∀ (v115 : BitVec 32) (v136 : IVec S16 32) (v139 : IVec S16 32) (v222 : IVec S16 32) (k0_hw233 : k0_chk233 v115 v136 v139 v222), ∀ (k0_h6 : k0_cond6 v115 = 1#1), ∀ a x, ((![v139, v222] : Fin 2 → IVec S16 32) a x).toNat < S48x128.size a := fun v115 v136 v139 v222 k0_hw233 k0_h6 => k0_hw233.1 k0_h6
theorem k0_idx466_inb : ∀ (v115 : BitVec 32) (v136 : IVec S16 32) (v139 : IVec S16 32) (v222 : IVec S16 32) (k0_hw233 : k0_chk233 v115 v136 v139 v222), ∀ (k0_h6 : k0_cond6 v115 = 1#1), ∀ a x, ((![v222, v136] : Fin 2 → IVec S16 32) a x).toNat < S64x512.size a := fun v115 v136 v139 v222 k0_hw233 k0_h6 => k0_hw233.2 k0_h6

def k0_chk234 (v115 : BitVec 32) (v136 : IVec S16 32) (v139 : IVec S16 32) (v224 : IVec S16 32) : Prop :=
  (∀ (k0_h6 : k0_cond6 v115 = 1#1), ∀ a x, ((![v139, v224] : Fin 2 → IVec S16 32) a x).toNat < S48x128.size a) ∧
  (∀ (k0_h6 : k0_cond6 v115 = 1#1), ∀ a x, ((![v224, v136] : Fin 2 → IVec S16 32) a x).toNat < S64x512.size a)
theorem k0_idx467_inb : ∀ (v115 : BitVec 32) (v136 : IVec S16 32) (v139 : IVec S16 32) (v224 : IVec S16 32) (k0_hw234 : k0_chk234 v115 v136 v139 v224), ∀ (k0_h6 : k0_cond6 v115 = 1#1), ∀ a x, ((![v139, v224] : Fin 2 → IVec S16 32) a x).toNat < S48x128.size a := fun v115 v136 v139 v224 k0_hw234 k0_h6 => k0_hw234.1 k0_h6
theorem k0_idx468_inb : ∀ (v115 : BitVec 32) (v136 : IVec S16 32) (v139 : IVec S16 32) (v224 : IVec S16 32) (k0_hw234 : k0_chk234 v115 v136 v139 v224), ∀ (k0_h6 : k0_cond6 v115 = 1#1), ∀ a x, ((![v224, v136] : Fin 2 → IVec S16 32) a x).toNat < S64x512.size a := fun v115 v136 v139 v224 k0_hw234 k0_h6 => k0_hw234.2 k0_h6

def k0_chk235 (v115 : BitVec 32) (v136 : IVec S16 32) (v139 : IVec S16 32) (v226 : IVec S16 32) : Prop :=
  (∀ (k0_h6 : k0_cond6 v115 = 1#1), ∀ a x, ((![v139, v226] : Fin 2 → IVec S16 32) a x).toNat < S48x128.size a) ∧
  (∀ (k0_h6 : k0_cond6 v115 = 1#1), ∀ a x, ((![v226, v136] : Fin 2 → IVec S16 32) a x).toNat < S64x512.size a)
theorem k0_idx469_inb : ∀ (v115 : BitVec 32) (v136 : IVec S16 32) (v139 : IVec S16 32) (v226 : IVec S16 32) (k0_hw235 : k0_chk235 v115 v136 v139 v226), ∀ (k0_h6 : k0_cond6 v115 = 1#1), ∀ a x, ((![v139, v226] : Fin 2 → IVec S16 32) a x).toNat < S48x128.size a := fun v115 v136 v139 v226 k0_hw235 k0_h6 => k0_hw235.1 k0_h6
theorem k0_idx470_inb : ∀ (v115 : BitVec 32) (v136 : IVec S16 32) (v139 : IVec S16 32) (v226 : IVec S16 32) (k0_hw235 : k0_chk235 v115 v136 v139 v226), ∀ (k0_h6 : k0_cond6 v115 = 1#1), ∀ a x, ((![v226, v136] : Fin 2 → IVec S16 32) a x).toNat < S64x512.size a := fun v115 v136 v139 v226 k0_hw235 k0_h6 => k0_hw235.2 k0_h6

def k0_chk236 (v115 : BitVec 32) (v136 : IVec S16 32) (v139 : IVec S16 32) (v228 : IVec S16 32) : Prop :=
  (∀ (k0_h6 : k0_cond6 v115 = 1#1), ∀ a x, ((![v139, v228] : Fin 2 → IVec S16 32) a x).toNat < S48x128.size a) ∧
  (∀ (k0_h6 : k0_cond6 v115 = 1#1), ∀ a x, ((![v228, v136] : Fin 2 → IVec S16 32) a x).toNat < S64x512.size a)
theorem k0_idx471_inb : ∀ (v115 : BitVec 32) (v136 : IVec S16 32) (v139 : IVec S16 32) (v228 : IVec S16 32) (k0_hw236 : k0_chk236 v115 v136 v139 v228), ∀ (k0_h6 : k0_cond6 v115 = 1#1), ∀ a x, ((![v139, v228] : Fin 2 → IVec S16 32) a x).toNat < S48x128.size a := fun v115 v136 v139 v228 k0_hw236 k0_h6 => k0_hw236.1 k0_h6
theorem k0_idx472_inb : ∀ (v115 : BitVec 32) (v136 : IVec S16 32) (v139 : IVec S16 32) (v228 : IVec S16 32) (k0_hw236 : k0_chk236 v115 v136 v139 v228), ∀ (k0_h6 : k0_cond6 v115 = 1#1), ∀ a x, ((![v228, v136] : Fin 2 → IVec S16 32) a x).toNat < S64x512.size a := fun v115 v136 v139 v228 k0_hw236 k0_h6 => k0_hw236.2 k0_h6

def k0_chk237 (v115 : BitVec 32) (v136 : IVec S16 32) (v139 : IVec S16 32) (v230 : IVec S16 32) : Prop :=
  (∀ (k0_h6 : k0_cond6 v115 = 1#1), ∀ a x, ((![v139, v230] : Fin 2 → IVec S16 32) a x).toNat < S48x128.size a) ∧
  (∀ (k0_h6 : k0_cond6 v115 = 1#1), ∀ a x, ((![v230, v136] : Fin 2 → IVec S16 32) a x).toNat < S64x512.size a)
theorem k0_idx473_inb : ∀ (v115 : BitVec 32) (v136 : IVec S16 32) (v139 : IVec S16 32) (v230 : IVec S16 32) (k0_hw237 : k0_chk237 v115 v136 v139 v230), ∀ (k0_h6 : k0_cond6 v115 = 1#1), ∀ a x, ((![v139, v230] : Fin 2 → IVec S16 32) a x).toNat < S48x128.size a := fun v115 v136 v139 v230 k0_hw237 k0_h6 => k0_hw237.1 k0_h6
theorem k0_idx474_inb : ∀ (v115 : BitVec 32) (v136 : IVec S16 32) (v139 : IVec S16 32) (v230 : IVec S16 32) (k0_hw237 : k0_chk237 v115 v136 v139 v230), ∀ (k0_h6 : k0_cond6 v115 = 1#1), ∀ a x, ((![v230, v136] : Fin 2 → IVec S16 32) a x).toNat < S64x512.size a := fun v115 v136 v139 v230 k0_hw237 k0_h6 => k0_hw237.2 k0_h6

def k0_chk238 (v115 : BitVec 32) (v136 : IVec S16 32) (v139 : IVec S16 32) (v232 : IVec S16 32) : Prop :=
  (∀ (k0_h6 : k0_cond6 v115 = 1#1), ∀ a x, ((![v139, v232] : Fin 2 → IVec S16 32) a x).toNat < S48x128.size a) ∧
  (∀ (k0_h6 : k0_cond6 v115 = 1#1), ∀ a x, ((![v232, v136] : Fin 2 → IVec S16 32) a x).toNat < S64x512.size a)
theorem k0_idx475_inb : ∀ (v115 : BitVec 32) (v136 : IVec S16 32) (v139 : IVec S16 32) (v232 : IVec S16 32) (k0_hw238 : k0_chk238 v115 v136 v139 v232), ∀ (k0_h6 : k0_cond6 v115 = 1#1), ∀ a x, ((![v139, v232] : Fin 2 → IVec S16 32) a x).toNat < S48x128.size a := fun v115 v136 v139 v232 k0_hw238 k0_h6 => k0_hw238.1 k0_h6
theorem k0_idx476_inb : ∀ (v115 : BitVec 32) (v136 : IVec S16 32) (v139 : IVec S16 32) (v232 : IVec S16 32) (k0_hw238 : k0_chk238 v115 v136 v139 v232), ∀ (k0_h6 : k0_cond6 v115 = 1#1), ∀ a x, ((![v232, v136] : Fin 2 → IVec S16 32) a x).toNat < S64x512.size a := fun v115 v136 v139 v232 k0_hw238 k0_h6 => k0_hw238.2 k0_h6

def k0_chk239 (v115 : BitVec 32) (v136 : IVec S16 32) (v139 : IVec S16 32) (v234 : IVec S16 32) : Prop :=
  (∀ (k0_h6 : k0_cond6 v115 = 1#1), ∀ a x, ((![v139, v234] : Fin 2 → IVec S16 32) a x).toNat < S48x128.size a) ∧
  (∀ (k0_h6 : k0_cond6 v115 = 1#1), ∀ a x, ((![v234, v136] : Fin 2 → IVec S16 32) a x).toNat < S64x512.size a)
theorem k0_idx477_inb : ∀ (v115 : BitVec 32) (v136 : IVec S16 32) (v139 : IVec S16 32) (v234 : IVec S16 32) (k0_hw239 : k0_chk239 v115 v136 v139 v234), ∀ (k0_h6 : k0_cond6 v115 = 1#1), ∀ a x, ((![v139, v234] : Fin 2 → IVec S16 32) a x).toNat < S48x128.size a := fun v115 v136 v139 v234 k0_hw239 k0_h6 => k0_hw239.1 k0_h6
theorem k0_idx478_inb : ∀ (v115 : BitVec 32) (v136 : IVec S16 32) (v139 : IVec S16 32) (v234 : IVec S16 32) (k0_hw239 : k0_chk239 v115 v136 v139 v234), ∀ (k0_h6 : k0_cond6 v115 = 1#1), ∀ a x, ((![v234, v136] : Fin 2 → IVec S16 32) a x).toNat < S64x512.size a := fun v115 v136 v139 v234 k0_hw239 k0_h6 => k0_hw239.2 k0_h6

def k0_chk240 (v115 : BitVec 32) (v136 : IVec S16 32) (v139 : IVec S16 32) (v236 : IVec S16 32) : Prop :=
  (∀ (k0_h6 : k0_cond6 v115 = 1#1), ∀ a x, ((![v139, v236] : Fin 2 → IVec S16 32) a x).toNat < S48x128.size a) ∧
  (∀ (k0_h6 : k0_cond6 v115 = 1#1), ∀ a x, ((![v236, v136] : Fin 2 → IVec S16 32) a x).toNat < S64x512.size a)
theorem k0_idx479_inb : ∀ (v115 : BitVec 32) (v136 : IVec S16 32) (v139 : IVec S16 32) (v236 : IVec S16 32) (k0_hw240 : k0_chk240 v115 v136 v139 v236), ∀ (k0_h6 : k0_cond6 v115 = 1#1), ∀ a x, ((![v139, v236] : Fin 2 → IVec S16 32) a x).toNat < S48x128.size a := fun v115 v136 v139 v236 k0_hw240 k0_h6 => k0_hw240.1 k0_h6
theorem k0_idx480_inb : ∀ (v115 : BitVec 32) (v136 : IVec S16 32) (v139 : IVec S16 32) (v236 : IVec S16 32) (k0_hw240 : k0_chk240 v115 v136 v139 v236), ∀ (k0_h6 : k0_cond6 v115 = 1#1), ∀ a x, ((![v236, v136] : Fin 2 → IVec S16 32) a x).toNat < S64x512.size a := fun v115 v136 v139 v236 k0_hw240 k0_h6 => k0_hw240.2 k0_h6

def k0_chk241 (v115 : BitVec 32) (v136 : IVec S16 32) (v139 : IVec S16 32) (v238 : IVec S16 32) : Prop :=
  (∀ (k0_h6 : k0_cond6 v115 = 1#1), ∀ a x, ((![v139, v238] : Fin 2 → IVec S16 32) a x).toNat < S48x128.size a) ∧
  (∀ (k0_h6 : k0_cond6 v115 = 1#1), ∀ a x, ((![v238, v136] : Fin 2 → IVec S16 32) a x).toNat < S64x512.size a)
theorem k0_idx481_inb : ∀ (v115 : BitVec 32) (v136 : IVec S16 32) (v139 : IVec S16 32) (v238 : IVec S16 32) (k0_hw241 : k0_chk241 v115 v136 v139 v238), ∀ (k0_h6 : k0_cond6 v115 = 1#1), ∀ a x, ((![v139, v238] : Fin 2 → IVec S16 32) a x).toNat < S48x128.size a := fun v115 v136 v139 v238 k0_hw241 k0_h6 => k0_hw241.1 k0_h6
theorem k0_idx482_inb : ∀ (v115 : BitVec 32) (v136 : IVec S16 32) (v139 : IVec S16 32) (v238 : IVec S16 32) (k0_hw241 : k0_chk241 v115 v136 v139 v238), ∀ (k0_h6 : k0_cond6 v115 = 1#1), ∀ a x, ((![v238, v136] : Fin 2 → IVec S16 32) a x).toNat < S64x512.size a := fun v115 v136 v139 v238 k0_hw241 k0_h6 => k0_hw241.2 k0_h6

def k0_chk242 (v115 : BitVec 32) (v136 : IVec S16 32) (v139 : IVec S16 32) (v240 : IVec S16 32) : Prop :=
  (∀ (k0_h6 : k0_cond6 v115 = 1#1), ∀ a x, ((![v139, v240] : Fin 2 → IVec S16 32) a x).toNat < S48x128.size a) ∧
  (∀ (k0_h6 : k0_cond6 v115 = 1#1), ∀ a x, ((![v240, v136] : Fin 2 → IVec S16 32) a x).toNat < S64x512.size a)
theorem k0_idx483_inb : ∀ (v115 : BitVec 32) (v136 : IVec S16 32) (v139 : IVec S16 32) (v240 : IVec S16 32) (k0_hw242 : k0_chk242 v115 v136 v139 v240), ∀ (k0_h6 : k0_cond6 v115 = 1#1), ∀ a x, ((![v139, v240] : Fin 2 → IVec S16 32) a x).toNat < S48x128.size a := fun v115 v136 v139 v240 k0_hw242 k0_h6 => k0_hw242.1 k0_h6
theorem k0_idx484_inb : ∀ (v115 : BitVec 32) (v136 : IVec S16 32) (v139 : IVec S16 32) (v240 : IVec S16 32) (k0_hw242 : k0_chk242 v115 v136 v139 v240), ∀ (k0_h6 : k0_cond6 v115 = 1#1), ∀ a x, ((![v240, v136] : Fin 2 → IVec S16 32) a x).toNat < S64x512.size a := fun v115 v136 v139 v240 k0_hw242 k0_h6 => k0_hw242.2 k0_h6

def k0_chk243 (v115 : BitVec 32) (v136 : IVec S16 32) (v139 : IVec S16 32) (v242 : IVec S16 32) : Prop :=
  (∀ (k0_h6 : k0_cond6 v115 = 1#1), ∀ a x, ((![v139, v242] : Fin 2 → IVec S16 32) a x).toNat < S48x128.size a) ∧
  (∀ (k0_h6 : k0_cond6 v115 = 1#1), ∀ a x, ((![v242, v136] : Fin 2 → IVec S16 32) a x).toNat < S64x512.size a)
theorem k0_idx485_inb : ∀ (v115 : BitVec 32) (v136 : IVec S16 32) (v139 : IVec S16 32) (v242 : IVec S16 32) (k0_hw243 : k0_chk243 v115 v136 v139 v242), ∀ (k0_h6 : k0_cond6 v115 = 1#1), ∀ a x, ((![v139, v242] : Fin 2 → IVec S16 32) a x).toNat < S48x128.size a := fun v115 v136 v139 v242 k0_hw243 k0_h6 => k0_hw243.1 k0_h6
theorem k0_idx486_inb : ∀ (v115 : BitVec 32) (v136 : IVec S16 32) (v139 : IVec S16 32) (v242 : IVec S16 32) (k0_hw243 : k0_chk243 v115 v136 v139 v242), ∀ (k0_h6 : k0_cond6 v115 = 1#1), ∀ a x, ((![v242, v136] : Fin 2 → IVec S16 32) a x).toNat < S64x512.size a := fun v115 v136 v139 v242 k0_hw243 k0_h6 => k0_hw243.2 k0_h6

def k0_chk244 (v115 : BitVec 32) (v136 : IVec S16 32) (v139 : IVec S16 32) (v244 : IVec S16 32) : Prop :=
  (∀ (k0_h6 : k0_cond6 v115 = 1#1), ∀ a x, ((![v139, v244] : Fin 2 → IVec S16 32) a x).toNat < S48x128.size a) ∧
  (∀ (k0_h6 : k0_cond6 v115 = 1#1), ∀ a x, ((![v244, v136] : Fin 2 → IVec S16 32) a x).toNat < S64x512.size a)
theorem k0_idx487_inb : ∀ (v115 : BitVec 32) (v136 : IVec S16 32) (v139 : IVec S16 32) (v244 : IVec S16 32) (k0_hw244 : k0_chk244 v115 v136 v139 v244), ∀ (k0_h6 : k0_cond6 v115 = 1#1), ∀ a x, ((![v139, v244] : Fin 2 → IVec S16 32) a x).toNat < S48x128.size a := fun v115 v136 v139 v244 k0_hw244 k0_h6 => k0_hw244.1 k0_h6
theorem k0_idx488_inb : ∀ (v115 : BitVec 32) (v136 : IVec S16 32) (v139 : IVec S16 32) (v244 : IVec S16 32) (k0_hw244 : k0_chk244 v115 v136 v139 v244), ∀ (k0_h6 : k0_cond6 v115 = 1#1), ∀ a x, ((![v244, v136] : Fin 2 → IVec S16 32) a x).toNat < S64x512.size a := fun v115 v136 v139 v244 k0_hw244 k0_h6 => k0_hw244.2 k0_h6

def k0_chk245 (v115 : BitVec 32) (v136 : IVec S16 32) (v139 : IVec S16 32) (v246 : IVec S16 32) : Prop :=
  (∀ (k0_h6 : k0_cond6 v115 = 1#1), ∀ a x, ((![v139, v246] : Fin 2 → IVec S16 32) a x).toNat < S48x128.size a) ∧
  (∀ (k0_h6 : k0_cond6 v115 = 1#1), ∀ a x, ((![v246, v136] : Fin 2 → IVec S16 32) a x).toNat < S64x512.size a)
theorem k0_idx489_inb : ∀ (v115 : BitVec 32) (v136 : IVec S16 32) (v139 : IVec S16 32) (v246 : IVec S16 32) (k0_hw245 : k0_chk245 v115 v136 v139 v246), ∀ (k0_h6 : k0_cond6 v115 = 1#1), ∀ a x, ((![v139, v246] : Fin 2 → IVec S16 32) a x).toNat < S48x128.size a := fun v115 v136 v139 v246 k0_hw245 k0_h6 => k0_hw245.1 k0_h6
theorem k0_idx490_inb : ∀ (v115 : BitVec 32) (v136 : IVec S16 32) (v139 : IVec S16 32) (v246 : IVec S16 32) (k0_hw245 : k0_chk245 v115 v136 v139 v246), ∀ (k0_h6 : k0_cond6 v115 = 1#1), ∀ a x, ((![v246, v136] : Fin 2 → IVec S16 32) a x).toNat < S64x512.size a := fun v115 v136 v139 v246 k0_hw245 k0_h6 => k0_hw245.2 k0_h6

def k0_chk246 (v115 : BitVec 32) (v136 : IVec S16 32) (v139 : IVec S16 32) (v248 : IVec S16 32) : Prop :=
  (∀ (k0_h6 : k0_cond6 v115 = 1#1), ∀ a x, ((![v139, v248] : Fin 2 → IVec S16 32) a x).toNat < S48x128.size a) ∧
  (∀ (k0_h6 : k0_cond6 v115 = 1#1), ∀ a x, ((![v248, v136] : Fin 2 → IVec S16 32) a x).toNat < S64x512.size a)
theorem k0_idx491_inb : ∀ (v115 : BitVec 32) (v136 : IVec S16 32) (v139 : IVec S16 32) (v248 : IVec S16 32) (k0_hw246 : k0_chk246 v115 v136 v139 v248), ∀ (k0_h6 : k0_cond6 v115 = 1#1), ∀ a x, ((![v139, v248] : Fin 2 → IVec S16 32) a x).toNat < S48x128.size a := fun v115 v136 v139 v248 k0_hw246 k0_h6 => k0_hw246.1 k0_h6
theorem k0_idx492_inb : ∀ (v115 : BitVec 32) (v136 : IVec S16 32) (v139 : IVec S16 32) (v248 : IVec S16 32) (k0_hw246 : k0_chk246 v115 v136 v139 v248), ∀ (k0_h6 : k0_cond6 v115 = 1#1), ∀ a x, ((![v248, v136] : Fin 2 → IVec S16 32) a x).toNat < S64x512.size a := fun v115 v136 v139 v248 k0_hw246 k0_h6 => k0_hw246.2 k0_h6

def k0_chk247 (v115 : BitVec 32) (v136 : IVec S16 32) (v139 : IVec S16 32) (v250 : IVec S16 32) : Prop :=
  (∀ (k0_h6 : k0_cond6 v115 = 1#1), ∀ a x, ((![v139, v250] : Fin 2 → IVec S16 32) a x).toNat < S48x128.size a) ∧
  (∀ (k0_h6 : k0_cond6 v115 = 1#1), ∀ a x, ((![v250, v136] : Fin 2 → IVec S16 32) a x).toNat < S64x512.size a)
theorem k0_idx493_inb : ∀ (v115 : BitVec 32) (v136 : IVec S16 32) (v139 : IVec S16 32) (v250 : IVec S16 32) (k0_hw247 : k0_chk247 v115 v136 v139 v250), ∀ (k0_h6 : k0_cond6 v115 = 1#1), ∀ a x, ((![v139, v250] : Fin 2 → IVec S16 32) a x).toNat < S48x128.size a := fun v115 v136 v139 v250 k0_hw247 k0_h6 => k0_hw247.1 k0_h6
theorem k0_idx494_inb : ∀ (v115 : BitVec 32) (v136 : IVec S16 32) (v139 : IVec S16 32) (v250 : IVec S16 32) (k0_hw247 : k0_chk247 v115 v136 v139 v250), ∀ (k0_h6 : k0_cond6 v115 = 1#1), ∀ a x, ((![v250, v136] : Fin 2 → IVec S16 32) a x).toNat < S64x512.size a := fun v115 v136 v139 v250 k0_hw247 k0_h6 => k0_hw247.2 k0_h6

def k0_chk248 (v115 : BitVec 32) (v136 : IVec S16 32) (v139 : IVec S16 32) (v252 : IVec S16 32) : Prop :=
  (∀ (k0_h6 : k0_cond6 v115 = 1#1), ∀ a x, ((![v139, v252] : Fin 2 → IVec S16 32) a x).toNat < S48x128.size a) ∧
  (∀ (k0_h6 : k0_cond6 v115 = 1#1), ∀ a x, ((![v252, v136] : Fin 2 → IVec S16 32) a x).toNat < S64x512.size a)
theorem k0_idx495_inb : ∀ (v115 : BitVec 32) (v136 : IVec S16 32) (v139 : IVec S16 32) (v252 : IVec S16 32) (k0_hw248 : k0_chk248 v115 v136 v139 v252), ∀ (k0_h6 : k0_cond6 v115 = 1#1), ∀ a x, ((![v139, v252] : Fin 2 → IVec S16 32) a x).toNat < S48x128.size a := fun v115 v136 v139 v252 k0_hw248 k0_h6 => k0_hw248.1 k0_h6
theorem k0_idx496_inb : ∀ (v115 : BitVec 32) (v136 : IVec S16 32) (v139 : IVec S16 32) (v252 : IVec S16 32) (k0_hw248 : k0_chk248 v115 v136 v139 v252), ∀ (k0_h6 : k0_cond6 v115 = 1#1), ∀ a x, ((![v252, v136] : Fin 2 → IVec S16 32) a x).toNat < S64x512.size a := fun v115 v136 v139 v252 k0_hw248 k0_h6 => k0_hw248.2 k0_h6

def k0_chk249 (v115 : BitVec 32) (v136 : IVec S16 32) (v139 : IVec S16 32) (v254 : IVec S16 32) : Prop :=
  (∀ (k0_h6 : k0_cond6 v115 = 1#1), ∀ a x, ((![v139, v254] : Fin 2 → IVec S16 32) a x).toNat < S48x128.size a) ∧
  (∀ (k0_h6 : k0_cond6 v115 = 1#1), ∀ a x, ((![v254, v136] : Fin 2 → IVec S16 32) a x).toNat < S64x512.size a)
theorem k0_idx497_inb : ∀ (v115 : BitVec 32) (v136 : IVec S16 32) (v139 : IVec S16 32) (v254 : IVec S16 32) (k0_hw249 : k0_chk249 v115 v136 v139 v254), ∀ (k0_h6 : k0_cond6 v115 = 1#1), ∀ a x, ((![v139, v254] : Fin 2 → IVec S16 32) a x).toNat < S48x128.size a := fun v115 v136 v139 v254 k0_hw249 k0_h6 => k0_hw249.1 k0_h6
theorem k0_idx498_inb : ∀ (v115 : BitVec 32) (v136 : IVec S16 32) (v139 : IVec S16 32) (v254 : IVec S16 32) (k0_hw249 : k0_chk249 v115 v136 v139 v254), ∀ (k0_h6 : k0_cond6 v115 = 1#1), ∀ a x, ((![v254, v136] : Fin 2 → IVec S16 32) a x).toNat < S64x512.size a := fun v115 v136 v139 v254 k0_hw249 k0_h6 => k0_hw249.2 k0_h6

def k0_chk250 (v115 : BitVec 32) (v136 : IVec S16 32) (v139 : IVec S16 32) (v256 : IVec S16 32) : Prop :=
  (∀ (k0_h6 : k0_cond6 v115 = 1#1), ∀ a x, ((![v139, v256] : Fin 2 → IVec S16 32) a x).toNat < S48x128.size a) ∧
  (∀ (k0_h6 : k0_cond6 v115 = 1#1), ∀ a x, ((![v256, v136] : Fin 2 → IVec S16 32) a x).toNat < S64x512.size a)
theorem k0_idx499_inb : ∀ (v115 : BitVec 32) (v136 : IVec S16 32) (v139 : IVec S16 32) (v256 : IVec S16 32) (k0_hw250 : k0_chk250 v115 v136 v139 v256), ∀ (k0_h6 : k0_cond6 v115 = 1#1), ∀ a x, ((![v139, v256] : Fin 2 → IVec S16 32) a x).toNat < S48x128.size a := fun v115 v136 v139 v256 k0_hw250 k0_h6 => k0_hw250.1 k0_h6
theorem k0_idx500_inb : ∀ (v115 : BitVec 32) (v136 : IVec S16 32) (v139 : IVec S16 32) (v256 : IVec S16 32) (k0_hw250 : k0_chk250 v115 v136 v139 v256), ∀ (k0_h6 : k0_cond6 v115 = 1#1), ∀ a x, ((![v256, v136] : Fin 2 → IVec S16 32) a x).toNat < S64x512.size a := fun v115 v136 v139 v256 k0_hw250 k0_h6 => k0_hw250.2 k0_h6

def k0_chk251 (v115 : BitVec 32) (v136 : IVec S16 32) (v139 : IVec S16 32) (v258 : IVec S16 32) : Prop :=
  (∀ (k0_h6 : k0_cond6 v115 = 1#1), ∀ a x, ((![v139, v258] : Fin 2 → IVec S16 32) a x).toNat < S48x128.size a) ∧
  (∀ (k0_h6 : k0_cond6 v115 = 1#1), ∀ a x, ((![v258, v136] : Fin 2 → IVec S16 32) a x).toNat < S64x512.size a)
theorem k0_idx501_inb : ∀ (v115 : BitVec 32) (v136 : IVec S16 32) (v139 : IVec S16 32) (v258 : IVec S16 32) (k0_hw251 : k0_chk251 v115 v136 v139 v258), ∀ (k0_h6 : k0_cond6 v115 = 1#1), ∀ a x, ((![v139, v258] : Fin 2 → IVec S16 32) a x).toNat < S48x128.size a := fun v115 v136 v139 v258 k0_hw251 k0_h6 => k0_hw251.1 k0_h6
theorem k0_idx502_inb : ∀ (v115 : BitVec 32) (v136 : IVec S16 32) (v139 : IVec S16 32) (v258 : IVec S16 32) (k0_hw251 : k0_chk251 v115 v136 v139 v258), ∀ (k0_h6 : k0_cond6 v115 = 1#1), ∀ a x, ((![v258, v136] : Fin 2 → IVec S16 32) a x).toNat < S64x512.size a := fun v115 v136 v139 v258 k0_hw251 k0_h6 => k0_hw251.2 k0_h6

def k0_chk252 (v115 : BitVec 32) (v136 : IVec S16 32) (v139 : IVec S16 32) (v260 : IVec S16 32) : Prop :=
  (∀ (k0_h6 : k0_cond6 v115 = 1#1), ∀ a x, ((![v139, v260] : Fin 2 → IVec S16 32) a x).toNat < S48x128.size a) ∧
  (∀ (k0_h6 : k0_cond6 v115 = 1#1), ∀ a x, ((![v260, v136] : Fin 2 → IVec S16 32) a x).toNat < S64x512.size a)
theorem k0_idx503_inb : ∀ (v115 : BitVec 32) (v136 : IVec S16 32) (v139 : IVec S16 32) (v260 : IVec S16 32) (k0_hw252 : k0_chk252 v115 v136 v139 v260), ∀ (k0_h6 : k0_cond6 v115 = 1#1), ∀ a x, ((![v139, v260] : Fin 2 → IVec S16 32) a x).toNat < S48x128.size a := fun v115 v136 v139 v260 k0_hw252 k0_h6 => k0_hw252.1 k0_h6
theorem k0_idx504_inb : ∀ (v115 : BitVec 32) (v136 : IVec S16 32) (v139 : IVec S16 32) (v260 : IVec S16 32) (k0_hw252 : k0_chk252 v115 v136 v139 v260), ∀ (k0_h6 : k0_cond6 v115 = 1#1), ∀ a x, ((![v260, v136] : Fin 2 → IVec S16 32) a x).toNat < S64x512.size a := fun v115 v136 v139 v260 k0_hw252 k0_h6 => k0_hw252.2 k0_h6

def k0_chk253 (v115 : BitVec 32) (v136 : IVec S16 32) (v139 : IVec S16 32) (v262 : IVec S16 32) : Prop :=
  (∀ (k0_h6 : k0_cond6 v115 = 1#1), ∀ a x, ((![v139, v262] : Fin 2 → IVec S16 32) a x).toNat < S48x128.size a) ∧
  (∀ (k0_h6 : k0_cond6 v115 = 1#1), ∀ a x, ((![v262, v136] : Fin 2 → IVec S16 32) a x).toNat < S64x512.size a)
theorem k0_idx505_inb : ∀ (v115 : BitVec 32) (v136 : IVec S16 32) (v139 : IVec S16 32) (v262 : IVec S16 32) (k0_hw253 : k0_chk253 v115 v136 v139 v262), ∀ (k0_h6 : k0_cond6 v115 = 1#1), ∀ a x, ((![v139, v262] : Fin 2 → IVec S16 32) a x).toNat < S48x128.size a := fun v115 v136 v139 v262 k0_hw253 k0_h6 => k0_hw253.1 k0_h6
theorem k0_idx506_inb : ∀ (v115 : BitVec 32) (v136 : IVec S16 32) (v139 : IVec S16 32) (v262 : IVec S16 32) (k0_hw253 : k0_chk253 v115 v136 v139 v262), ∀ (k0_h6 : k0_cond6 v115 = 1#1), ∀ a x, ((![v262, v136] : Fin 2 → IVec S16 32) a x).toNat < S64x512.size a := fun v115 v136 v139 v262 k0_hw253 k0_h6 => k0_hw253.2 k0_h6

def k0_chk254 (v115 : BitVec 32) (v136 : IVec S16 32) (v139 : IVec S16 32) (v264 : IVec S16 32) : Prop :=
  (∀ (k0_h6 : k0_cond6 v115 = 1#1), ∀ a x, ((![v139, v264] : Fin 2 → IVec S16 32) a x).toNat < S48x128.size a) ∧
  (∀ (k0_h6 : k0_cond6 v115 = 1#1), ∀ a x, ((![v264, v136] : Fin 2 → IVec S16 32) a x).toNat < S64x512.size a)
theorem k0_idx507_inb : ∀ (v115 : BitVec 32) (v136 : IVec S16 32) (v139 : IVec S16 32) (v264 : IVec S16 32) (k0_hw254 : k0_chk254 v115 v136 v139 v264), ∀ (k0_h6 : k0_cond6 v115 = 1#1), ∀ a x, ((![v139, v264] : Fin 2 → IVec S16 32) a x).toNat < S48x128.size a := fun v115 v136 v139 v264 k0_hw254 k0_h6 => k0_hw254.1 k0_h6
theorem k0_idx508_inb : ∀ (v115 : BitVec 32) (v136 : IVec S16 32) (v139 : IVec S16 32) (v264 : IVec S16 32) (k0_hw254 : k0_chk254 v115 v136 v139 v264), ∀ (k0_h6 : k0_cond6 v115 = 1#1), ∀ a x, ((![v264, v136] : Fin 2 → IVec S16 32) a x).toNat < S64x512.size a := fun v115 v136 v139 v264 k0_hw254 k0_h6 => k0_hw254.2 k0_h6

def k0_chk255 (v115 : BitVec 32) (v136 : IVec S16 32) (v139 : IVec S16 32) (v266 : IVec S16 32) : Prop :=
  (∀ (k0_h6 : k0_cond6 v115 = 1#1), ∀ a x, ((![v139, v266] : Fin 2 → IVec S16 32) a x).toNat < S48x128.size a) ∧
  (∀ (k0_h6 : k0_cond6 v115 = 1#1), ∀ a x, ((![v266, v136] : Fin 2 → IVec S16 32) a x).toNat < S64x512.size a)
theorem k0_idx509_inb : ∀ (v115 : BitVec 32) (v136 : IVec S16 32) (v139 : IVec S16 32) (v266 : IVec S16 32) (k0_hw255 : k0_chk255 v115 v136 v139 v266), ∀ (k0_h6 : k0_cond6 v115 = 1#1), ∀ a x, ((![v139, v266] : Fin 2 → IVec S16 32) a x).toNat < S48x128.size a := fun v115 v136 v139 v266 k0_hw255 k0_h6 => k0_hw255.1 k0_h6
theorem k0_idx510_inb : ∀ (v115 : BitVec 32) (v136 : IVec S16 32) (v139 : IVec S16 32) (v266 : IVec S16 32) (k0_hw255 : k0_chk255 v115 v136 v139 v266), ∀ (k0_h6 : k0_cond6 v115 = 1#1), ∀ a x, ((![v266, v136] : Fin 2 → IVec S16 32) a x).toNat < S64x512.size a := fun v115 v136 v139 v266 k0_hw255 k0_h6 => k0_hw255.2 k0_h6

def k0_chk256 (v115 : BitVec 32) (v136 : IVec S16 32) (v139 : IVec S16 32) (v268 : IVec S16 32) : Prop :=
  (∀ (k0_h6 : k0_cond6 v115 = 1#1), ∀ a x, ((![v139, v268] : Fin 2 → IVec S16 32) a x).toNat < S48x128.size a) ∧
  (∀ (k0_h6 : k0_cond6 v115 = 1#1), ∀ a x, ((![v268, v136] : Fin 2 → IVec S16 32) a x).toNat < S64x512.size a)
theorem k0_idx511_inb : ∀ (v115 : BitVec 32) (v136 : IVec S16 32) (v139 : IVec S16 32) (v268 : IVec S16 32) (k0_hw256 : k0_chk256 v115 v136 v139 v268), ∀ (k0_h6 : k0_cond6 v115 = 1#1), ∀ a x, ((![v139, v268] : Fin 2 → IVec S16 32) a x).toNat < S48x128.size a := fun v115 v136 v139 v268 k0_hw256 k0_h6 => k0_hw256.1 k0_h6
theorem k0_idx512_inb : ∀ (v115 : BitVec 32) (v136 : IVec S16 32) (v139 : IVec S16 32) (v268 : IVec S16 32) (k0_hw256 : k0_chk256 v115 v136 v139 v268), ∀ (k0_h6 : k0_cond6 v115 = 1#1), ∀ a x, ((![v268, v136] : Fin 2 → IVec S16 32) a x).toNat < S64x512.size a := fun v115 v136 v139 v268 k0_hw256 k0_h6 => k0_hw256.2 k0_h6
def k0_off17 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_67 : BitVec 32 := 1#32
  let v109 : BitVec 32 := Scalar.addi v32 c1_i32_67
  let c64_i32_81 : BitVec 32 := 64#32
  let v130 : BitVec 32 := Scalar.muli v109 c64_i32_81
  let c16_i32_82 : BitVec 32 := 16#32
  let v131 : BitVec 32 := Scalar.addi v130 c16_i32_82
  let c16_i32_83 : BitVec 32 := 16#32
  let v132 : BitVec 32 := Scalar.addi v131 c16_i32_83
  let v133 : Index := Scalar.indexCast v132
  ![v133.toNat]
def k0_cond7 (v115 : BitVec 32) : BitVec 1 :=
  let c16_i32_73 : BitVec 32 := 16#32
  let v119 : BitVec 1 := Scalar.cmpi .sgt v115 c16_i32_73
  let v120 : BitVec 32 := Scalar.extui v119
  let c0_i32_74 : BitVec 32 := 0#32
  let v121 : BitVec 1 := Scalar.cmpi .ne v120 c0_i32_74
  v121

def k0_chk257 (v115 : BitVec 32) (v136 : IVec S16 32) (v139 : IVec S16 32) (v142 : IVec S16 32) : Prop :=
  (∀ (k0_h7 : k0_cond7 v115 = 1#1), ∀ a x, ((![v139, v142] : Fin 2 → IVec S16 32) a x).toNat < S48x128.size a) ∧
  (∀ (k0_h7 : k0_cond7 v115 = 1#1), ∀ a x, ((![v142, v136] : Fin 2 → IVec S16 32) a x).toNat < S64x512.size a)
theorem k0_idx513_inb : ∀ (v115 : BitVec 32) (v136 : IVec S16 32) (v139 : IVec S16 32) (v142 : IVec S16 32) (k0_hw257 : k0_chk257 v115 v136 v139 v142), ∀ (k0_h7 : k0_cond7 v115 = 1#1), ∀ a x, ((![v139, v142] : Fin 2 → IVec S16 32) a x).toNat < S48x128.size a := fun v115 v136 v139 v142 k0_hw257 k0_h7 => k0_hw257.1 k0_h7
theorem k0_idx514_inb : ∀ (v115 : BitVec 32) (v136 : IVec S16 32) (v139 : IVec S16 32) (v142 : IVec S16 32) (k0_hw257 : k0_chk257 v115 v136 v139 v142), ∀ (k0_h7 : k0_cond7 v115 = 1#1), ∀ a x, ((![v142, v136] : Fin 2 → IVec S16 32) a x).toNat < S64x512.size a := fun v115 v136 v139 v142 k0_hw257 k0_h7 => k0_hw257.2 k0_h7

def k0_chk258 (v115 : BitVec 32) (v136 : IVec S16 32) (v139 : IVec S16 32) (v144 : IVec S16 32) : Prop :=
  (∀ (k0_h7 : k0_cond7 v115 = 1#1), ∀ a x, ((![v139, v144] : Fin 2 → IVec S16 32) a x).toNat < S48x128.size a) ∧
  (∀ (k0_h7 : k0_cond7 v115 = 1#1), ∀ a x, ((![v144, v136] : Fin 2 → IVec S16 32) a x).toNat < S64x512.size a)
theorem k0_idx515_inb : ∀ (v115 : BitVec 32) (v136 : IVec S16 32) (v139 : IVec S16 32) (v144 : IVec S16 32) (k0_hw258 : k0_chk258 v115 v136 v139 v144), ∀ (k0_h7 : k0_cond7 v115 = 1#1), ∀ a x, ((![v139, v144] : Fin 2 → IVec S16 32) a x).toNat < S48x128.size a := fun v115 v136 v139 v144 k0_hw258 k0_h7 => k0_hw258.1 k0_h7
theorem k0_idx516_inb : ∀ (v115 : BitVec 32) (v136 : IVec S16 32) (v139 : IVec S16 32) (v144 : IVec S16 32) (k0_hw258 : k0_chk258 v115 v136 v139 v144), ∀ (k0_h7 : k0_cond7 v115 = 1#1), ∀ a x, ((![v144, v136] : Fin 2 → IVec S16 32) a x).toNat < S64x512.size a := fun v115 v136 v139 v144 k0_hw258 k0_h7 => k0_hw258.2 k0_h7

def k0_chk259 (v115 : BitVec 32) (v136 : IVec S16 32) (v139 : IVec S16 32) (v146 : IVec S16 32) : Prop :=
  (∀ (k0_h7 : k0_cond7 v115 = 1#1), ∀ a x, ((![v139, v146] : Fin 2 → IVec S16 32) a x).toNat < S48x128.size a) ∧
  (∀ (k0_h7 : k0_cond7 v115 = 1#1), ∀ a x, ((![v146, v136] : Fin 2 → IVec S16 32) a x).toNat < S64x512.size a)
theorem k0_idx517_inb : ∀ (v115 : BitVec 32) (v136 : IVec S16 32) (v139 : IVec S16 32) (v146 : IVec S16 32) (k0_hw259 : k0_chk259 v115 v136 v139 v146), ∀ (k0_h7 : k0_cond7 v115 = 1#1), ∀ a x, ((![v139, v146] : Fin 2 → IVec S16 32) a x).toNat < S48x128.size a := fun v115 v136 v139 v146 k0_hw259 k0_h7 => k0_hw259.1 k0_h7
theorem k0_idx518_inb : ∀ (v115 : BitVec 32) (v136 : IVec S16 32) (v139 : IVec S16 32) (v146 : IVec S16 32) (k0_hw259 : k0_chk259 v115 v136 v139 v146), ∀ (k0_h7 : k0_cond7 v115 = 1#1), ∀ a x, ((![v146, v136] : Fin 2 → IVec S16 32) a x).toNat < S64x512.size a := fun v115 v136 v139 v146 k0_hw259 k0_h7 => k0_hw259.2 k0_h7

def k0_chk260 (v115 : BitVec 32) (v136 : IVec S16 32) (v139 : IVec S16 32) (v148 : IVec S16 32) : Prop :=
  (∀ (k0_h7 : k0_cond7 v115 = 1#1), ∀ a x, ((![v139, v148] : Fin 2 → IVec S16 32) a x).toNat < S48x128.size a) ∧
  (∀ (k0_h7 : k0_cond7 v115 = 1#1), ∀ a x, ((![v148, v136] : Fin 2 → IVec S16 32) a x).toNat < S64x512.size a)
theorem k0_idx519_inb : ∀ (v115 : BitVec 32) (v136 : IVec S16 32) (v139 : IVec S16 32) (v148 : IVec S16 32) (k0_hw260 : k0_chk260 v115 v136 v139 v148), ∀ (k0_h7 : k0_cond7 v115 = 1#1), ∀ a x, ((![v139, v148] : Fin 2 → IVec S16 32) a x).toNat < S48x128.size a := fun v115 v136 v139 v148 k0_hw260 k0_h7 => k0_hw260.1 k0_h7
theorem k0_idx520_inb : ∀ (v115 : BitVec 32) (v136 : IVec S16 32) (v139 : IVec S16 32) (v148 : IVec S16 32) (k0_hw260 : k0_chk260 v115 v136 v139 v148), ∀ (k0_h7 : k0_cond7 v115 = 1#1), ∀ a x, ((![v148, v136] : Fin 2 → IVec S16 32) a x).toNat < S64x512.size a := fun v115 v136 v139 v148 k0_hw260 k0_h7 => k0_hw260.2 k0_h7

def k0_chk261 (v115 : BitVec 32) (v136 : IVec S16 32) (v139 : IVec S16 32) (v150 : IVec S16 32) : Prop :=
  (∀ (k0_h7 : k0_cond7 v115 = 1#1), ∀ a x, ((![v139, v150] : Fin 2 → IVec S16 32) a x).toNat < S48x128.size a) ∧
  (∀ (k0_h7 : k0_cond7 v115 = 1#1), ∀ a x, ((![v150, v136] : Fin 2 → IVec S16 32) a x).toNat < S64x512.size a)
theorem k0_idx521_inb : ∀ (v115 : BitVec 32) (v136 : IVec S16 32) (v139 : IVec S16 32) (v150 : IVec S16 32) (k0_hw261 : k0_chk261 v115 v136 v139 v150), ∀ (k0_h7 : k0_cond7 v115 = 1#1), ∀ a x, ((![v139, v150] : Fin 2 → IVec S16 32) a x).toNat < S48x128.size a := fun v115 v136 v139 v150 k0_hw261 k0_h7 => k0_hw261.1 k0_h7
theorem k0_idx522_inb : ∀ (v115 : BitVec 32) (v136 : IVec S16 32) (v139 : IVec S16 32) (v150 : IVec S16 32) (k0_hw261 : k0_chk261 v115 v136 v139 v150), ∀ (k0_h7 : k0_cond7 v115 = 1#1), ∀ a x, ((![v150, v136] : Fin 2 → IVec S16 32) a x).toNat < S64x512.size a := fun v115 v136 v139 v150 k0_hw261 k0_h7 => k0_hw261.2 k0_h7

def k0_chk262 (v115 : BitVec 32) (v136 : IVec S16 32) (v139 : IVec S16 32) (v152 : IVec S16 32) : Prop :=
  (∀ (k0_h7 : k0_cond7 v115 = 1#1), ∀ a x, ((![v139, v152] : Fin 2 → IVec S16 32) a x).toNat < S48x128.size a) ∧
  (∀ (k0_h7 : k0_cond7 v115 = 1#1), ∀ a x, ((![v152, v136] : Fin 2 → IVec S16 32) a x).toNat < S64x512.size a)
theorem k0_idx523_inb : ∀ (v115 : BitVec 32) (v136 : IVec S16 32) (v139 : IVec S16 32) (v152 : IVec S16 32) (k0_hw262 : k0_chk262 v115 v136 v139 v152), ∀ (k0_h7 : k0_cond7 v115 = 1#1), ∀ a x, ((![v139, v152] : Fin 2 → IVec S16 32) a x).toNat < S48x128.size a := fun v115 v136 v139 v152 k0_hw262 k0_h7 => k0_hw262.1 k0_h7
theorem k0_idx524_inb : ∀ (v115 : BitVec 32) (v136 : IVec S16 32) (v139 : IVec S16 32) (v152 : IVec S16 32) (k0_hw262 : k0_chk262 v115 v136 v139 v152), ∀ (k0_h7 : k0_cond7 v115 = 1#1), ∀ a x, ((![v152, v136] : Fin 2 → IVec S16 32) a x).toNat < S64x512.size a := fun v115 v136 v139 v152 k0_hw262 k0_h7 => k0_hw262.2 k0_h7

def k0_chk263 (v115 : BitVec 32) (v136 : IVec S16 32) (v139 : IVec S16 32) (v154 : IVec S16 32) : Prop :=
  (∀ (k0_h7 : k0_cond7 v115 = 1#1), ∀ a x, ((![v139, v154] : Fin 2 → IVec S16 32) a x).toNat < S48x128.size a) ∧
  (∀ (k0_h7 : k0_cond7 v115 = 1#1), ∀ a x, ((![v154, v136] : Fin 2 → IVec S16 32) a x).toNat < S64x512.size a)
theorem k0_idx525_inb : ∀ (v115 : BitVec 32) (v136 : IVec S16 32) (v139 : IVec S16 32) (v154 : IVec S16 32) (k0_hw263 : k0_chk263 v115 v136 v139 v154), ∀ (k0_h7 : k0_cond7 v115 = 1#1), ∀ a x, ((![v139, v154] : Fin 2 → IVec S16 32) a x).toNat < S48x128.size a := fun v115 v136 v139 v154 k0_hw263 k0_h7 => k0_hw263.1 k0_h7
theorem k0_idx526_inb : ∀ (v115 : BitVec 32) (v136 : IVec S16 32) (v139 : IVec S16 32) (v154 : IVec S16 32) (k0_hw263 : k0_chk263 v115 v136 v139 v154), ∀ (k0_h7 : k0_cond7 v115 = 1#1), ∀ a x, ((![v154, v136] : Fin 2 → IVec S16 32) a x).toNat < S64x512.size a := fun v115 v136 v139 v154 k0_hw263 k0_h7 => k0_hw263.2 k0_h7

def k0_chk264 (v115 : BitVec 32) (v136 : IVec S16 32) (v139 : IVec S16 32) (v156 : IVec S16 32) : Prop :=
  (∀ (k0_h7 : k0_cond7 v115 = 1#1), ∀ a x, ((![v139, v156] : Fin 2 → IVec S16 32) a x).toNat < S48x128.size a) ∧
  (∀ (k0_h7 : k0_cond7 v115 = 1#1), ∀ a x, ((![v156, v136] : Fin 2 → IVec S16 32) a x).toNat < S64x512.size a)
theorem k0_idx527_inb : ∀ (v115 : BitVec 32) (v136 : IVec S16 32) (v139 : IVec S16 32) (v156 : IVec S16 32) (k0_hw264 : k0_chk264 v115 v136 v139 v156), ∀ (k0_h7 : k0_cond7 v115 = 1#1), ∀ a x, ((![v139, v156] : Fin 2 → IVec S16 32) a x).toNat < S48x128.size a := fun v115 v136 v139 v156 k0_hw264 k0_h7 => k0_hw264.1 k0_h7
theorem k0_idx528_inb : ∀ (v115 : BitVec 32) (v136 : IVec S16 32) (v139 : IVec S16 32) (v156 : IVec S16 32) (k0_hw264 : k0_chk264 v115 v136 v139 v156), ∀ (k0_h7 : k0_cond7 v115 = 1#1), ∀ a x, ((![v156, v136] : Fin 2 → IVec S16 32) a x).toNat < S64x512.size a := fun v115 v136 v139 v156 k0_hw264 k0_h7 => k0_hw264.2 k0_h7

def k0_chk265 (v115 : BitVec 32) (v136 : IVec S16 32) (v139 : IVec S16 32) (v158 : IVec S16 32) : Prop :=
  (∀ (k0_h7 : k0_cond7 v115 = 1#1), ∀ a x, ((![v139, v158] : Fin 2 → IVec S16 32) a x).toNat < S48x128.size a) ∧
  (∀ (k0_h7 : k0_cond7 v115 = 1#1), ∀ a x, ((![v158, v136] : Fin 2 → IVec S16 32) a x).toNat < S64x512.size a)
theorem k0_idx529_inb : ∀ (v115 : BitVec 32) (v136 : IVec S16 32) (v139 : IVec S16 32) (v158 : IVec S16 32) (k0_hw265 : k0_chk265 v115 v136 v139 v158), ∀ (k0_h7 : k0_cond7 v115 = 1#1), ∀ a x, ((![v139, v158] : Fin 2 → IVec S16 32) a x).toNat < S48x128.size a := fun v115 v136 v139 v158 k0_hw265 k0_h7 => k0_hw265.1 k0_h7
theorem k0_idx530_inb : ∀ (v115 : BitVec 32) (v136 : IVec S16 32) (v139 : IVec S16 32) (v158 : IVec S16 32) (k0_hw265 : k0_chk265 v115 v136 v139 v158), ∀ (k0_h7 : k0_cond7 v115 = 1#1), ∀ a x, ((![v158, v136] : Fin 2 → IVec S16 32) a x).toNat < S64x512.size a := fun v115 v136 v139 v158 k0_hw265 k0_h7 => k0_hw265.2 k0_h7

def k0_chk266 (v115 : BitVec 32) (v136 : IVec S16 32) (v139 : IVec S16 32) (v160 : IVec S16 32) : Prop :=
  (∀ (k0_h7 : k0_cond7 v115 = 1#1), ∀ a x, ((![v139, v160] : Fin 2 → IVec S16 32) a x).toNat < S48x128.size a) ∧
  (∀ (k0_h7 : k0_cond7 v115 = 1#1), ∀ a x, ((![v160, v136] : Fin 2 → IVec S16 32) a x).toNat < S64x512.size a)
theorem k0_idx531_inb : ∀ (v115 : BitVec 32) (v136 : IVec S16 32) (v139 : IVec S16 32) (v160 : IVec S16 32) (k0_hw266 : k0_chk266 v115 v136 v139 v160), ∀ (k0_h7 : k0_cond7 v115 = 1#1), ∀ a x, ((![v139, v160] : Fin 2 → IVec S16 32) a x).toNat < S48x128.size a := fun v115 v136 v139 v160 k0_hw266 k0_h7 => k0_hw266.1 k0_h7
theorem k0_idx532_inb : ∀ (v115 : BitVec 32) (v136 : IVec S16 32) (v139 : IVec S16 32) (v160 : IVec S16 32) (k0_hw266 : k0_chk266 v115 v136 v139 v160), ∀ (k0_h7 : k0_cond7 v115 = 1#1), ∀ a x, ((![v160, v136] : Fin 2 → IVec S16 32) a x).toNat < S64x512.size a := fun v115 v136 v139 v160 k0_hw266 k0_h7 => k0_hw266.2 k0_h7

def k0_chk267 (v115 : BitVec 32) (v136 : IVec S16 32) (v139 : IVec S16 32) (v162 : IVec S16 32) : Prop :=
  (∀ (k0_h7 : k0_cond7 v115 = 1#1), ∀ a x, ((![v139, v162] : Fin 2 → IVec S16 32) a x).toNat < S48x128.size a) ∧
  (∀ (k0_h7 : k0_cond7 v115 = 1#1), ∀ a x, ((![v162, v136] : Fin 2 → IVec S16 32) a x).toNat < S64x512.size a)
theorem k0_idx533_inb : ∀ (v115 : BitVec 32) (v136 : IVec S16 32) (v139 : IVec S16 32) (v162 : IVec S16 32) (k0_hw267 : k0_chk267 v115 v136 v139 v162), ∀ (k0_h7 : k0_cond7 v115 = 1#1), ∀ a x, ((![v139, v162] : Fin 2 → IVec S16 32) a x).toNat < S48x128.size a := fun v115 v136 v139 v162 k0_hw267 k0_h7 => k0_hw267.1 k0_h7
theorem k0_idx534_inb : ∀ (v115 : BitVec 32) (v136 : IVec S16 32) (v139 : IVec S16 32) (v162 : IVec S16 32) (k0_hw267 : k0_chk267 v115 v136 v139 v162), ∀ (k0_h7 : k0_cond7 v115 = 1#1), ∀ a x, ((![v162, v136] : Fin 2 → IVec S16 32) a x).toNat < S64x512.size a := fun v115 v136 v139 v162 k0_hw267 k0_h7 => k0_hw267.2 k0_h7

def k0_chk268 (v115 : BitVec 32) (v136 : IVec S16 32) (v139 : IVec S16 32) (v164 : IVec S16 32) : Prop :=
  (∀ (k0_h7 : k0_cond7 v115 = 1#1), ∀ a x, ((![v139, v164] : Fin 2 → IVec S16 32) a x).toNat < S48x128.size a) ∧
  (∀ (k0_h7 : k0_cond7 v115 = 1#1), ∀ a x, ((![v164, v136] : Fin 2 → IVec S16 32) a x).toNat < S64x512.size a)
theorem k0_idx535_inb : ∀ (v115 : BitVec 32) (v136 : IVec S16 32) (v139 : IVec S16 32) (v164 : IVec S16 32) (k0_hw268 : k0_chk268 v115 v136 v139 v164), ∀ (k0_h7 : k0_cond7 v115 = 1#1), ∀ a x, ((![v139, v164] : Fin 2 → IVec S16 32) a x).toNat < S48x128.size a := fun v115 v136 v139 v164 k0_hw268 k0_h7 => k0_hw268.1 k0_h7
theorem k0_idx536_inb : ∀ (v115 : BitVec 32) (v136 : IVec S16 32) (v139 : IVec S16 32) (v164 : IVec S16 32) (k0_hw268 : k0_chk268 v115 v136 v139 v164), ∀ (k0_h7 : k0_cond7 v115 = 1#1), ∀ a x, ((![v164, v136] : Fin 2 → IVec S16 32) a x).toNat < S64x512.size a := fun v115 v136 v139 v164 k0_hw268 k0_h7 => k0_hw268.2 k0_h7

def k0_chk269 (v115 : BitVec 32) (v136 : IVec S16 32) (v139 : IVec S16 32) (v166 : IVec S16 32) : Prop :=
  (∀ (k0_h7 : k0_cond7 v115 = 1#1), ∀ a x, ((![v139, v166] : Fin 2 → IVec S16 32) a x).toNat < S48x128.size a) ∧
  (∀ (k0_h7 : k0_cond7 v115 = 1#1), ∀ a x, ((![v166, v136] : Fin 2 → IVec S16 32) a x).toNat < S64x512.size a)
theorem k0_idx537_inb : ∀ (v115 : BitVec 32) (v136 : IVec S16 32) (v139 : IVec S16 32) (v166 : IVec S16 32) (k0_hw269 : k0_chk269 v115 v136 v139 v166), ∀ (k0_h7 : k0_cond7 v115 = 1#1), ∀ a x, ((![v139, v166] : Fin 2 → IVec S16 32) a x).toNat < S48x128.size a := fun v115 v136 v139 v166 k0_hw269 k0_h7 => k0_hw269.1 k0_h7
theorem k0_idx538_inb : ∀ (v115 : BitVec 32) (v136 : IVec S16 32) (v139 : IVec S16 32) (v166 : IVec S16 32) (k0_hw269 : k0_chk269 v115 v136 v139 v166), ∀ (k0_h7 : k0_cond7 v115 = 1#1), ∀ a x, ((![v166, v136] : Fin 2 → IVec S16 32) a x).toNat < S64x512.size a := fun v115 v136 v139 v166 k0_hw269 k0_h7 => k0_hw269.2 k0_h7

def k0_chk270 (v115 : BitVec 32) (v136 : IVec S16 32) (v139 : IVec S16 32) (v168 : IVec S16 32) : Prop :=
  (∀ (k0_h7 : k0_cond7 v115 = 1#1), ∀ a x, ((![v139, v168] : Fin 2 → IVec S16 32) a x).toNat < S48x128.size a) ∧
  (∀ (k0_h7 : k0_cond7 v115 = 1#1), ∀ a x, ((![v168, v136] : Fin 2 → IVec S16 32) a x).toNat < S64x512.size a)
theorem k0_idx539_inb : ∀ (v115 : BitVec 32) (v136 : IVec S16 32) (v139 : IVec S16 32) (v168 : IVec S16 32) (k0_hw270 : k0_chk270 v115 v136 v139 v168), ∀ (k0_h7 : k0_cond7 v115 = 1#1), ∀ a x, ((![v139, v168] : Fin 2 → IVec S16 32) a x).toNat < S48x128.size a := fun v115 v136 v139 v168 k0_hw270 k0_h7 => k0_hw270.1 k0_h7
theorem k0_idx540_inb : ∀ (v115 : BitVec 32) (v136 : IVec S16 32) (v139 : IVec S16 32) (v168 : IVec S16 32) (k0_hw270 : k0_chk270 v115 v136 v139 v168), ∀ (k0_h7 : k0_cond7 v115 = 1#1), ∀ a x, ((![v168, v136] : Fin 2 → IVec S16 32) a x).toNat < S64x512.size a := fun v115 v136 v139 v168 k0_hw270 k0_h7 => k0_hw270.2 k0_h7

def k0_chk271 (v115 : BitVec 32) (v136 : IVec S16 32) (v139 : IVec S16 32) (v170 : IVec S16 32) : Prop :=
  (∀ (k0_h7 : k0_cond7 v115 = 1#1), ∀ a x, ((![v139, v170] : Fin 2 → IVec S16 32) a x).toNat < S48x128.size a) ∧
  (∀ (k0_h7 : k0_cond7 v115 = 1#1), ∀ a x, ((![v170, v136] : Fin 2 → IVec S16 32) a x).toNat < S64x512.size a)
theorem k0_idx541_inb : ∀ (v115 : BitVec 32) (v136 : IVec S16 32) (v139 : IVec S16 32) (v170 : IVec S16 32) (k0_hw271 : k0_chk271 v115 v136 v139 v170), ∀ (k0_h7 : k0_cond7 v115 = 1#1), ∀ a x, ((![v139, v170] : Fin 2 → IVec S16 32) a x).toNat < S48x128.size a := fun v115 v136 v139 v170 k0_hw271 k0_h7 => k0_hw271.1 k0_h7
theorem k0_idx542_inb : ∀ (v115 : BitVec 32) (v136 : IVec S16 32) (v139 : IVec S16 32) (v170 : IVec S16 32) (k0_hw271 : k0_chk271 v115 v136 v139 v170), ∀ (k0_h7 : k0_cond7 v115 = 1#1), ∀ a x, ((![v170, v136] : Fin 2 → IVec S16 32) a x).toNat < S64x512.size a := fun v115 v136 v139 v170 k0_hw271 k0_h7 => k0_hw271.2 k0_h7

def k0_chk272 (v115 : BitVec 32) (v136 : IVec S16 32) (v139 : IVec S16 32) (v172 : IVec S16 32) : Prop :=
  (∀ (k0_h7 : k0_cond7 v115 = 1#1), ∀ a x, ((![v139, v172] : Fin 2 → IVec S16 32) a x).toNat < S48x128.size a) ∧
  (∀ (k0_h7 : k0_cond7 v115 = 1#1), ∀ a x, ((![v172, v136] : Fin 2 → IVec S16 32) a x).toNat < S64x512.size a)
theorem k0_idx543_inb : ∀ (v115 : BitVec 32) (v136 : IVec S16 32) (v139 : IVec S16 32) (v172 : IVec S16 32) (k0_hw272 : k0_chk272 v115 v136 v139 v172), ∀ (k0_h7 : k0_cond7 v115 = 1#1), ∀ a x, ((![v139, v172] : Fin 2 → IVec S16 32) a x).toNat < S48x128.size a := fun v115 v136 v139 v172 k0_hw272 k0_h7 => k0_hw272.1 k0_h7
theorem k0_idx544_inb : ∀ (v115 : BitVec 32) (v136 : IVec S16 32) (v139 : IVec S16 32) (v172 : IVec S16 32) (k0_hw272 : k0_chk272 v115 v136 v139 v172), ∀ (k0_h7 : k0_cond7 v115 = 1#1), ∀ a x, ((![v172, v136] : Fin 2 → IVec S16 32) a x).toNat < S64x512.size a := fun v115 v136 v139 v172 k0_hw272 k0_h7 => k0_hw272.2 k0_h7

def k0_chk273 (v115 : BitVec 32) (v136 : IVec S16 32) (v139 : IVec S16 32) (v174 : IVec S16 32) : Prop :=
  (∀ (k0_h7 : k0_cond7 v115 = 1#1), ∀ a x, ((![v139, v174] : Fin 2 → IVec S16 32) a x).toNat < S48x128.size a) ∧
  (∀ (k0_h7 : k0_cond7 v115 = 1#1), ∀ a x, ((![v174, v136] : Fin 2 → IVec S16 32) a x).toNat < S64x512.size a)
theorem k0_idx545_inb : ∀ (v115 : BitVec 32) (v136 : IVec S16 32) (v139 : IVec S16 32) (v174 : IVec S16 32) (k0_hw273 : k0_chk273 v115 v136 v139 v174), ∀ (k0_h7 : k0_cond7 v115 = 1#1), ∀ a x, ((![v139, v174] : Fin 2 → IVec S16 32) a x).toNat < S48x128.size a := fun v115 v136 v139 v174 k0_hw273 k0_h7 => k0_hw273.1 k0_h7
theorem k0_idx546_inb : ∀ (v115 : BitVec 32) (v136 : IVec S16 32) (v139 : IVec S16 32) (v174 : IVec S16 32) (k0_hw273 : k0_chk273 v115 v136 v139 v174), ∀ (k0_h7 : k0_cond7 v115 = 1#1), ∀ a x, ((![v174, v136] : Fin 2 → IVec S16 32) a x).toNat < S64x512.size a := fun v115 v136 v139 v174 k0_hw273 k0_h7 => k0_hw273.2 k0_h7

def k0_chk274 (v115 : BitVec 32) (v136 : IVec S16 32) (v139 : IVec S16 32) (v176 : IVec S16 32) : Prop :=
  (∀ (k0_h7 : k0_cond7 v115 = 1#1), ∀ a x, ((![v139, v176] : Fin 2 → IVec S16 32) a x).toNat < S48x128.size a) ∧
  (∀ (k0_h7 : k0_cond7 v115 = 1#1), ∀ a x, ((![v176, v136] : Fin 2 → IVec S16 32) a x).toNat < S64x512.size a)
theorem k0_idx547_inb : ∀ (v115 : BitVec 32) (v136 : IVec S16 32) (v139 : IVec S16 32) (v176 : IVec S16 32) (k0_hw274 : k0_chk274 v115 v136 v139 v176), ∀ (k0_h7 : k0_cond7 v115 = 1#1), ∀ a x, ((![v139, v176] : Fin 2 → IVec S16 32) a x).toNat < S48x128.size a := fun v115 v136 v139 v176 k0_hw274 k0_h7 => k0_hw274.1 k0_h7
theorem k0_idx548_inb : ∀ (v115 : BitVec 32) (v136 : IVec S16 32) (v139 : IVec S16 32) (v176 : IVec S16 32) (k0_hw274 : k0_chk274 v115 v136 v139 v176), ∀ (k0_h7 : k0_cond7 v115 = 1#1), ∀ a x, ((![v176, v136] : Fin 2 → IVec S16 32) a x).toNat < S64x512.size a := fun v115 v136 v139 v176 k0_hw274 k0_h7 => k0_hw274.2 k0_h7

def k0_chk275 (v115 : BitVec 32) (v136 : IVec S16 32) (v139 : IVec S16 32) (v178 : IVec S16 32) : Prop :=
  (∀ (k0_h7 : k0_cond7 v115 = 1#1), ∀ a x, ((![v139, v178] : Fin 2 → IVec S16 32) a x).toNat < S48x128.size a) ∧
  (∀ (k0_h7 : k0_cond7 v115 = 1#1), ∀ a x, ((![v178, v136] : Fin 2 → IVec S16 32) a x).toNat < S64x512.size a)
theorem k0_idx549_inb : ∀ (v115 : BitVec 32) (v136 : IVec S16 32) (v139 : IVec S16 32) (v178 : IVec S16 32) (k0_hw275 : k0_chk275 v115 v136 v139 v178), ∀ (k0_h7 : k0_cond7 v115 = 1#1), ∀ a x, ((![v139, v178] : Fin 2 → IVec S16 32) a x).toNat < S48x128.size a := fun v115 v136 v139 v178 k0_hw275 k0_h7 => k0_hw275.1 k0_h7
theorem k0_idx550_inb : ∀ (v115 : BitVec 32) (v136 : IVec S16 32) (v139 : IVec S16 32) (v178 : IVec S16 32) (k0_hw275 : k0_chk275 v115 v136 v139 v178), ∀ (k0_h7 : k0_cond7 v115 = 1#1), ∀ a x, ((![v178, v136] : Fin 2 → IVec S16 32) a x).toNat < S64x512.size a := fun v115 v136 v139 v178 k0_hw275 k0_h7 => k0_hw275.2 k0_h7

def k0_chk276 (v115 : BitVec 32) (v136 : IVec S16 32) (v139 : IVec S16 32) (v180 : IVec S16 32) : Prop :=
  (∀ (k0_h7 : k0_cond7 v115 = 1#1), ∀ a x, ((![v139, v180] : Fin 2 → IVec S16 32) a x).toNat < S48x128.size a) ∧
  (∀ (k0_h7 : k0_cond7 v115 = 1#1), ∀ a x, ((![v180, v136] : Fin 2 → IVec S16 32) a x).toNat < S64x512.size a)
theorem k0_idx551_inb : ∀ (v115 : BitVec 32) (v136 : IVec S16 32) (v139 : IVec S16 32) (v180 : IVec S16 32) (k0_hw276 : k0_chk276 v115 v136 v139 v180), ∀ (k0_h7 : k0_cond7 v115 = 1#1), ∀ a x, ((![v139, v180] : Fin 2 → IVec S16 32) a x).toNat < S48x128.size a := fun v115 v136 v139 v180 k0_hw276 k0_h7 => k0_hw276.1 k0_h7
theorem k0_idx552_inb : ∀ (v115 : BitVec 32) (v136 : IVec S16 32) (v139 : IVec S16 32) (v180 : IVec S16 32) (k0_hw276 : k0_chk276 v115 v136 v139 v180), ∀ (k0_h7 : k0_cond7 v115 = 1#1), ∀ a x, ((![v180, v136] : Fin 2 → IVec S16 32) a x).toNat < S64x512.size a := fun v115 v136 v139 v180 k0_hw276 k0_h7 => k0_hw276.2 k0_h7

def k0_chk277 (v115 : BitVec 32) (v136 : IVec S16 32) (v139 : IVec S16 32) (v182 : IVec S16 32) : Prop :=
  (∀ (k0_h7 : k0_cond7 v115 = 1#1), ∀ a x, ((![v139, v182] : Fin 2 → IVec S16 32) a x).toNat < S48x128.size a) ∧
  (∀ (k0_h7 : k0_cond7 v115 = 1#1), ∀ a x, ((![v182, v136] : Fin 2 → IVec S16 32) a x).toNat < S64x512.size a)
theorem k0_idx553_inb : ∀ (v115 : BitVec 32) (v136 : IVec S16 32) (v139 : IVec S16 32) (v182 : IVec S16 32) (k0_hw277 : k0_chk277 v115 v136 v139 v182), ∀ (k0_h7 : k0_cond7 v115 = 1#1), ∀ a x, ((![v139, v182] : Fin 2 → IVec S16 32) a x).toNat < S48x128.size a := fun v115 v136 v139 v182 k0_hw277 k0_h7 => k0_hw277.1 k0_h7
theorem k0_idx554_inb : ∀ (v115 : BitVec 32) (v136 : IVec S16 32) (v139 : IVec S16 32) (v182 : IVec S16 32) (k0_hw277 : k0_chk277 v115 v136 v139 v182), ∀ (k0_h7 : k0_cond7 v115 = 1#1), ∀ a x, ((![v182, v136] : Fin 2 → IVec S16 32) a x).toNat < S64x512.size a := fun v115 v136 v139 v182 k0_hw277 k0_h7 => k0_hw277.2 k0_h7

def k0_chk278 (v115 : BitVec 32) (v136 : IVec S16 32) (v139 : IVec S16 32) (v184 : IVec S16 32) : Prop :=
  (∀ (k0_h7 : k0_cond7 v115 = 1#1), ∀ a x, ((![v139, v184] : Fin 2 → IVec S16 32) a x).toNat < S48x128.size a) ∧
  (∀ (k0_h7 : k0_cond7 v115 = 1#1), ∀ a x, ((![v184, v136] : Fin 2 → IVec S16 32) a x).toNat < S64x512.size a)
theorem k0_idx555_inb : ∀ (v115 : BitVec 32) (v136 : IVec S16 32) (v139 : IVec S16 32) (v184 : IVec S16 32) (k0_hw278 : k0_chk278 v115 v136 v139 v184), ∀ (k0_h7 : k0_cond7 v115 = 1#1), ∀ a x, ((![v139, v184] : Fin 2 → IVec S16 32) a x).toNat < S48x128.size a := fun v115 v136 v139 v184 k0_hw278 k0_h7 => k0_hw278.1 k0_h7
theorem k0_idx556_inb : ∀ (v115 : BitVec 32) (v136 : IVec S16 32) (v139 : IVec S16 32) (v184 : IVec S16 32) (k0_hw278 : k0_chk278 v115 v136 v139 v184), ∀ (k0_h7 : k0_cond7 v115 = 1#1), ∀ a x, ((![v184, v136] : Fin 2 → IVec S16 32) a x).toNat < S64x512.size a := fun v115 v136 v139 v184 k0_hw278 k0_h7 => k0_hw278.2 k0_h7

def k0_chk279 (v115 : BitVec 32) (v136 : IVec S16 32) (v139 : IVec S16 32) (v186 : IVec S16 32) : Prop :=
  (∀ (k0_h7 : k0_cond7 v115 = 1#1), ∀ a x, ((![v139, v186] : Fin 2 → IVec S16 32) a x).toNat < S48x128.size a) ∧
  (∀ (k0_h7 : k0_cond7 v115 = 1#1), ∀ a x, ((![v186, v136] : Fin 2 → IVec S16 32) a x).toNat < S64x512.size a)
theorem k0_idx557_inb : ∀ (v115 : BitVec 32) (v136 : IVec S16 32) (v139 : IVec S16 32) (v186 : IVec S16 32) (k0_hw279 : k0_chk279 v115 v136 v139 v186), ∀ (k0_h7 : k0_cond7 v115 = 1#1), ∀ a x, ((![v139, v186] : Fin 2 → IVec S16 32) a x).toNat < S48x128.size a := fun v115 v136 v139 v186 k0_hw279 k0_h7 => k0_hw279.1 k0_h7
theorem k0_idx558_inb : ∀ (v115 : BitVec 32) (v136 : IVec S16 32) (v139 : IVec S16 32) (v186 : IVec S16 32) (k0_hw279 : k0_chk279 v115 v136 v139 v186), ∀ (k0_h7 : k0_cond7 v115 = 1#1), ∀ a x, ((![v186, v136] : Fin 2 → IVec S16 32) a x).toNat < S64x512.size a := fun v115 v136 v139 v186 k0_hw279 k0_h7 => k0_hw279.2 k0_h7

def k0_chk280 (v115 : BitVec 32) (v136 : IVec S16 32) (v139 : IVec S16 32) (v188 : IVec S16 32) : Prop :=
  (∀ (k0_h7 : k0_cond7 v115 = 1#1), ∀ a x, ((![v139, v188] : Fin 2 → IVec S16 32) a x).toNat < S48x128.size a) ∧
  (∀ (k0_h7 : k0_cond7 v115 = 1#1), ∀ a x, ((![v188, v136] : Fin 2 → IVec S16 32) a x).toNat < S64x512.size a)
theorem k0_idx559_inb : ∀ (v115 : BitVec 32) (v136 : IVec S16 32) (v139 : IVec S16 32) (v188 : IVec S16 32) (k0_hw280 : k0_chk280 v115 v136 v139 v188), ∀ (k0_h7 : k0_cond7 v115 = 1#1), ∀ a x, ((![v139, v188] : Fin 2 → IVec S16 32) a x).toNat < S48x128.size a := fun v115 v136 v139 v188 k0_hw280 k0_h7 => k0_hw280.1 k0_h7
theorem k0_idx560_inb : ∀ (v115 : BitVec 32) (v136 : IVec S16 32) (v139 : IVec S16 32) (v188 : IVec S16 32) (k0_hw280 : k0_chk280 v115 v136 v139 v188), ∀ (k0_h7 : k0_cond7 v115 = 1#1), ∀ a x, ((![v188, v136] : Fin 2 → IVec S16 32) a x).toNat < S64x512.size a := fun v115 v136 v139 v188 k0_hw280 k0_h7 => k0_hw280.2 k0_h7

def k0_chk281 (v115 : BitVec 32) (v136 : IVec S16 32) (v139 : IVec S16 32) (v190 : IVec S16 32) : Prop :=
  (∀ (k0_h7 : k0_cond7 v115 = 1#1), ∀ a x, ((![v139, v190] : Fin 2 → IVec S16 32) a x).toNat < S48x128.size a) ∧
  (∀ (k0_h7 : k0_cond7 v115 = 1#1), ∀ a x, ((![v190, v136] : Fin 2 → IVec S16 32) a x).toNat < S64x512.size a)
theorem k0_idx561_inb : ∀ (v115 : BitVec 32) (v136 : IVec S16 32) (v139 : IVec S16 32) (v190 : IVec S16 32) (k0_hw281 : k0_chk281 v115 v136 v139 v190), ∀ (k0_h7 : k0_cond7 v115 = 1#1), ∀ a x, ((![v139, v190] : Fin 2 → IVec S16 32) a x).toNat < S48x128.size a := fun v115 v136 v139 v190 k0_hw281 k0_h7 => k0_hw281.1 k0_h7
theorem k0_idx562_inb : ∀ (v115 : BitVec 32) (v136 : IVec S16 32) (v139 : IVec S16 32) (v190 : IVec S16 32) (k0_hw281 : k0_chk281 v115 v136 v139 v190), ∀ (k0_h7 : k0_cond7 v115 = 1#1), ∀ a x, ((![v190, v136] : Fin 2 → IVec S16 32) a x).toNat < S64x512.size a := fun v115 v136 v139 v190 k0_hw281 k0_h7 => k0_hw281.2 k0_h7

def k0_chk282 (v115 : BitVec 32) (v136 : IVec S16 32) (v139 : IVec S16 32) (v192 : IVec S16 32) : Prop :=
  (∀ (k0_h7 : k0_cond7 v115 = 1#1), ∀ a x, ((![v139, v192] : Fin 2 → IVec S16 32) a x).toNat < S48x128.size a) ∧
  (∀ (k0_h7 : k0_cond7 v115 = 1#1), ∀ a x, ((![v192, v136] : Fin 2 → IVec S16 32) a x).toNat < S64x512.size a)
theorem k0_idx563_inb : ∀ (v115 : BitVec 32) (v136 : IVec S16 32) (v139 : IVec S16 32) (v192 : IVec S16 32) (k0_hw282 : k0_chk282 v115 v136 v139 v192), ∀ (k0_h7 : k0_cond7 v115 = 1#1), ∀ a x, ((![v139, v192] : Fin 2 → IVec S16 32) a x).toNat < S48x128.size a := fun v115 v136 v139 v192 k0_hw282 k0_h7 => k0_hw282.1 k0_h7
theorem k0_idx564_inb : ∀ (v115 : BitVec 32) (v136 : IVec S16 32) (v139 : IVec S16 32) (v192 : IVec S16 32) (k0_hw282 : k0_chk282 v115 v136 v139 v192), ∀ (k0_h7 : k0_cond7 v115 = 1#1), ∀ a x, ((![v192, v136] : Fin 2 → IVec S16 32) a x).toNat < S64x512.size a := fun v115 v136 v139 v192 k0_hw282 k0_h7 => k0_hw282.2 k0_h7

def k0_chk283 (v115 : BitVec 32) (v136 : IVec S16 32) (v139 : IVec S16 32) (v194 : IVec S16 32) : Prop :=
  (∀ (k0_h7 : k0_cond7 v115 = 1#1), ∀ a x, ((![v139, v194] : Fin 2 → IVec S16 32) a x).toNat < S48x128.size a) ∧
  (∀ (k0_h7 : k0_cond7 v115 = 1#1), ∀ a x, ((![v194, v136] : Fin 2 → IVec S16 32) a x).toNat < S64x512.size a)
theorem k0_idx565_inb : ∀ (v115 : BitVec 32) (v136 : IVec S16 32) (v139 : IVec S16 32) (v194 : IVec S16 32) (k0_hw283 : k0_chk283 v115 v136 v139 v194), ∀ (k0_h7 : k0_cond7 v115 = 1#1), ∀ a x, ((![v139, v194] : Fin 2 → IVec S16 32) a x).toNat < S48x128.size a := fun v115 v136 v139 v194 k0_hw283 k0_h7 => k0_hw283.1 k0_h7
theorem k0_idx566_inb : ∀ (v115 : BitVec 32) (v136 : IVec S16 32) (v139 : IVec S16 32) (v194 : IVec S16 32) (k0_hw283 : k0_chk283 v115 v136 v139 v194), ∀ (k0_h7 : k0_cond7 v115 = 1#1), ∀ a x, ((![v194, v136] : Fin 2 → IVec S16 32) a x).toNat < S64x512.size a := fun v115 v136 v139 v194 k0_hw283 k0_h7 => k0_hw283.2 k0_h7

def k0_chk284 (v115 : BitVec 32) (v136 : IVec S16 32) (v139 : IVec S16 32) (v196 : IVec S16 32) : Prop :=
  (∀ (k0_h7 : k0_cond7 v115 = 1#1), ∀ a x, ((![v139, v196] : Fin 2 → IVec S16 32) a x).toNat < S48x128.size a) ∧
  (∀ (k0_h7 : k0_cond7 v115 = 1#1), ∀ a x, ((![v196, v136] : Fin 2 → IVec S16 32) a x).toNat < S64x512.size a)
theorem k0_idx567_inb : ∀ (v115 : BitVec 32) (v136 : IVec S16 32) (v139 : IVec S16 32) (v196 : IVec S16 32) (k0_hw284 : k0_chk284 v115 v136 v139 v196), ∀ (k0_h7 : k0_cond7 v115 = 1#1), ∀ a x, ((![v139, v196] : Fin 2 → IVec S16 32) a x).toNat < S48x128.size a := fun v115 v136 v139 v196 k0_hw284 k0_h7 => k0_hw284.1 k0_h7
theorem k0_idx568_inb : ∀ (v115 : BitVec 32) (v136 : IVec S16 32) (v139 : IVec S16 32) (v196 : IVec S16 32) (k0_hw284 : k0_chk284 v115 v136 v139 v196), ∀ (k0_h7 : k0_cond7 v115 = 1#1), ∀ a x, ((![v196, v136] : Fin 2 → IVec S16 32) a x).toNat < S64x512.size a := fun v115 v136 v139 v196 k0_hw284 k0_h7 => k0_hw284.2 k0_h7

def k0_chk285 (v115 : BitVec 32) (v136 : IVec S16 32) (v139 : IVec S16 32) (v198 : IVec S16 32) : Prop :=
  (∀ (k0_h7 : k0_cond7 v115 = 1#1), ∀ a x, ((![v139, v198] : Fin 2 → IVec S16 32) a x).toNat < S48x128.size a) ∧
  (∀ (k0_h7 : k0_cond7 v115 = 1#1), ∀ a x, ((![v198, v136] : Fin 2 → IVec S16 32) a x).toNat < S64x512.size a)
theorem k0_idx569_inb : ∀ (v115 : BitVec 32) (v136 : IVec S16 32) (v139 : IVec S16 32) (v198 : IVec S16 32) (k0_hw285 : k0_chk285 v115 v136 v139 v198), ∀ (k0_h7 : k0_cond7 v115 = 1#1), ∀ a x, ((![v139, v198] : Fin 2 → IVec S16 32) a x).toNat < S48x128.size a := fun v115 v136 v139 v198 k0_hw285 k0_h7 => k0_hw285.1 k0_h7
theorem k0_idx570_inb : ∀ (v115 : BitVec 32) (v136 : IVec S16 32) (v139 : IVec S16 32) (v198 : IVec S16 32) (k0_hw285 : k0_chk285 v115 v136 v139 v198), ∀ (k0_h7 : k0_cond7 v115 = 1#1), ∀ a x, ((![v198, v136] : Fin 2 → IVec S16 32) a x).toNat < S64x512.size a := fun v115 v136 v139 v198 k0_hw285 k0_h7 => k0_hw285.2 k0_h7

def k0_chk286 (v115 : BitVec 32) (v136 : IVec S16 32) (v139 : IVec S16 32) (v200 : IVec S16 32) : Prop :=
  (∀ (k0_h7 : k0_cond7 v115 = 1#1), ∀ a x, ((![v139, v200] : Fin 2 → IVec S16 32) a x).toNat < S48x128.size a) ∧
  (∀ (k0_h7 : k0_cond7 v115 = 1#1), ∀ a x, ((![v200, v136] : Fin 2 → IVec S16 32) a x).toNat < S64x512.size a)
theorem k0_idx571_inb : ∀ (v115 : BitVec 32) (v136 : IVec S16 32) (v139 : IVec S16 32) (v200 : IVec S16 32) (k0_hw286 : k0_chk286 v115 v136 v139 v200), ∀ (k0_h7 : k0_cond7 v115 = 1#1), ∀ a x, ((![v139, v200] : Fin 2 → IVec S16 32) a x).toNat < S48x128.size a := fun v115 v136 v139 v200 k0_hw286 k0_h7 => k0_hw286.1 k0_h7
theorem k0_idx572_inb : ∀ (v115 : BitVec 32) (v136 : IVec S16 32) (v139 : IVec S16 32) (v200 : IVec S16 32) (k0_hw286 : k0_chk286 v115 v136 v139 v200), ∀ (k0_h7 : k0_cond7 v115 = 1#1), ∀ a x, ((![v200, v136] : Fin 2 → IVec S16 32) a x).toNat < S64x512.size a := fun v115 v136 v139 v200 k0_hw286 k0_h7 => k0_hw286.2 k0_h7

def k0_chk287 (v115 : BitVec 32) (v136 : IVec S16 32) (v139 : IVec S16 32) (v202 : IVec S16 32) : Prop :=
  (∀ (k0_h7 : k0_cond7 v115 = 1#1), ∀ a x, ((![v139, v202] : Fin 2 → IVec S16 32) a x).toNat < S48x128.size a) ∧
  (∀ (k0_h7 : k0_cond7 v115 = 1#1), ∀ a x, ((![v202, v136] : Fin 2 → IVec S16 32) a x).toNat < S64x512.size a)
theorem k0_idx573_inb : ∀ (v115 : BitVec 32) (v136 : IVec S16 32) (v139 : IVec S16 32) (v202 : IVec S16 32) (k0_hw287 : k0_chk287 v115 v136 v139 v202), ∀ (k0_h7 : k0_cond7 v115 = 1#1), ∀ a x, ((![v139, v202] : Fin 2 → IVec S16 32) a x).toNat < S48x128.size a := fun v115 v136 v139 v202 k0_hw287 k0_h7 => k0_hw287.1 k0_h7
theorem k0_idx574_inb : ∀ (v115 : BitVec 32) (v136 : IVec S16 32) (v139 : IVec S16 32) (v202 : IVec S16 32) (k0_hw287 : k0_chk287 v115 v136 v139 v202), ∀ (k0_h7 : k0_cond7 v115 = 1#1), ∀ a x, ((![v202, v136] : Fin 2 → IVec S16 32) a x).toNat < S64x512.size a := fun v115 v136 v139 v202 k0_hw287 k0_h7 => k0_hw287.2 k0_h7

def k0_chk288 (v115 : BitVec 32) (v136 : IVec S16 32) (v139 : IVec S16 32) (v204 : IVec S16 32) : Prop :=
  (∀ (k0_h7 : k0_cond7 v115 = 1#1), ∀ a x, ((![v139, v204] : Fin 2 → IVec S16 32) a x).toNat < S48x128.size a) ∧
  (∀ (k0_h7 : k0_cond7 v115 = 1#1), ∀ a x, ((![v204, v136] : Fin 2 → IVec S16 32) a x).toNat < S64x512.size a)
theorem k0_idx575_inb : ∀ (v115 : BitVec 32) (v136 : IVec S16 32) (v139 : IVec S16 32) (v204 : IVec S16 32) (k0_hw288 : k0_chk288 v115 v136 v139 v204), ∀ (k0_h7 : k0_cond7 v115 = 1#1), ∀ a x, ((![v139, v204] : Fin 2 → IVec S16 32) a x).toNat < S48x128.size a := fun v115 v136 v139 v204 k0_hw288 k0_h7 => k0_hw288.1 k0_h7
theorem k0_idx576_inb : ∀ (v115 : BitVec 32) (v136 : IVec S16 32) (v139 : IVec S16 32) (v204 : IVec S16 32) (k0_hw288 : k0_chk288 v115 v136 v139 v204), ∀ (k0_h7 : k0_cond7 v115 = 1#1), ∀ a x, ((![v204, v136] : Fin 2 → IVec S16 32) a x).toNat < S64x512.size a := fun v115 v136 v139 v204 k0_hw288 k0_h7 => k0_hw288.2 k0_h7

def k0_chk289 (v115 : BitVec 32) (v136 : IVec S16 32) (v139 : IVec S16 32) (v206 : IVec S16 32) : Prop :=
  (∀ (k0_h7 : k0_cond7 v115 = 1#1), ∀ a x, ((![v139, v206] : Fin 2 → IVec S16 32) a x).toNat < S48x128.size a) ∧
  (∀ (k0_h7 : k0_cond7 v115 = 1#1), ∀ a x, ((![v206, v136] : Fin 2 → IVec S16 32) a x).toNat < S64x512.size a)
theorem k0_idx577_inb : ∀ (v115 : BitVec 32) (v136 : IVec S16 32) (v139 : IVec S16 32) (v206 : IVec S16 32) (k0_hw289 : k0_chk289 v115 v136 v139 v206), ∀ (k0_h7 : k0_cond7 v115 = 1#1), ∀ a x, ((![v139, v206] : Fin 2 → IVec S16 32) a x).toNat < S48x128.size a := fun v115 v136 v139 v206 k0_hw289 k0_h7 => k0_hw289.1 k0_h7
theorem k0_idx578_inb : ∀ (v115 : BitVec 32) (v136 : IVec S16 32) (v139 : IVec S16 32) (v206 : IVec S16 32) (k0_hw289 : k0_chk289 v115 v136 v139 v206), ∀ (k0_h7 : k0_cond7 v115 = 1#1), ∀ a x, ((![v206, v136] : Fin 2 → IVec S16 32) a x).toNat < S64x512.size a := fun v115 v136 v139 v206 k0_hw289 k0_h7 => k0_hw289.2 k0_h7

def k0_chk290 (v115 : BitVec 32) (v136 : IVec S16 32) (v139 : IVec S16 32) (v208 : IVec S16 32) : Prop :=
  (∀ (k0_h7 : k0_cond7 v115 = 1#1), ∀ a x, ((![v139, v208] : Fin 2 → IVec S16 32) a x).toNat < S48x128.size a) ∧
  (∀ (k0_h7 : k0_cond7 v115 = 1#1), ∀ a x, ((![v208, v136] : Fin 2 → IVec S16 32) a x).toNat < S64x512.size a)
theorem k0_idx579_inb : ∀ (v115 : BitVec 32) (v136 : IVec S16 32) (v139 : IVec S16 32) (v208 : IVec S16 32) (k0_hw290 : k0_chk290 v115 v136 v139 v208), ∀ (k0_h7 : k0_cond7 v115 = 1#1), ∀ a x, ((![v139, v208] : Fin 2 → IVec S16 32) a x).toNat < S48x128.size a := fun v115 v136 v139 v208 k0_hw290 k0_h7 => k0_hw290.1 k0_h7
theorem k0_idx580_inb : ∀ (v115 : BitVec 32) (v136 : IVec S16 32) (v139 : IVec S16 32) (v208 : IVec S16 32) (k0_hw290 : k0_chk290 v115 v136 v139 v208), ∀ (k0_h7 : k0_cond7 v115 = 1#1), ∀ a x, ((![v208, v136] : Fin 2 → IVec S16 32) a x).toNat < S64x512.size a := fun v115 v136 v139 v208 k0_hw290 k0_h7 => k0_hw290.2 k0_h7

def k0_chk291 (v115 : BitVec 32) (v136 : IVec S16 32) (v139 : IVec S16 32) (v210 : IVec S16 32) : Prop :=
  (∀ (k0_h7 : k0_cond7 v115 = 1#1), ∀ a x, ((![v139, v210] : Fin 2 → IVec S16 32) a x).toNat < S48x128.size a) ∧
  (∀ (k0_h7 : k0_cond7 v115 = 1#1), ∀ a x, ((![v210, v136] : Fin 2 → IVec S16 32) a x).toNat < S64x512.size a)
theorem k0_idx581_inb : ∀ (v115 : BitVec 32) (v136 : IVec S16 32) (v139 : IVec S16 32) (v210 : IVec S16 32) (k0_hw291 : k0_chk291 v115 v136 v139 v210), ∀ (k0_h7 : k0_cond7 v115 = 1#1), ∀ a x, ((![v139, v210] : Fin 2 → IVec S16 32) a x).toNat < S48x128.size a := fun v115 v136 v139 v210 k0_hw291 k0_h7 => k0_hw291.1 k0_h7
theorem k0_idx582_inb : ∀ (v115 : BitVec 32) (v136 : IVec S16 32) (v139 : IVec S16 32) (v210 : IVec S16 32) (k0_hw291 : k0_chk291 v115 v136 v139 v210), ∀ (k0_h7 : k0_cond7 v115 = 1#1), ∀ a x, ((![v210, v136] : Fin 2 → IVec S16 32) a x).toNat < S64x512.size a := fun v115 v136 v139 v210 k0_hw291 k0_h7 => k0_hw291.2 k0_h7

def k0_chk292 (v115 : BitVec 32) (v136 : IVec S16 32) (v139 : IVec S16 32) (v212 : IVec S16 32) : Prop :=
  (∀ (k0_h7 : k0_cond7 v115 = 1#1), ∀ a x, ((![v139, v212] : Fin 2 → IVec S16 32) a x).toNat < S48x128.size a) ∧
  (∀ (k0_h7 : k0_cond7 v115 = 1#1), ∀ a x, ((![v212, v136] : Fin 2 → IVec S16 32) a x).toNat < S64x512.size a)
theorem k0_idx583_inb : ∀ (v115 : BitVec 32) (v136 : IVec S16 32) (v139 : IVec S16 32) (v212 : IVec S16 32) (k0_hw292 : k0_chk292 v115 v136 v139 v212), ∀ (k0_h7 : k0_cond7 v115 = 1#1), ∀ a x, ((![v139, v212] : Fin 2 → IVec S16 32) a x).toNat < S48x128.size a := fun v115 v136 v139 v212 k0_hw292 k0_h7 => k0_hw292.1 k0_h7
theorem k0_idx584_inb : ∀ (v115 : BitVec 32) (v136 : IVec S16 32) (v139 : IVec S16 32) (v212 : IVec S16 32) (k0_hw292 : k0_chk292 v115 v136 v139 v212), ∀ (k0_h7 : k0_cond7 v115 = 1#1), ∀ a x, ((![v212, v136] : Fin 2 → IVec S16 32) a x).toNat < S64x512.size a := fun v115 v136 v139 v212 k0_hw292 k0_h7 => k0_hw292.2 k0_h7

def k0_chk293 (v115 : BitVec 32) (v136 : IVec S16 32) (v139 : IVec S16 32) (v214 : IVec S16 32) : Prop :=
  (∀ (k0_h7 : k0_cond7 v115 = 1#1), ∀ a x, ((![v139, v214] : Fin 2 → IVec S16 32) a x).toNat < S48x128.size a) ∧
  (∀ (k0_h7 : k0_cond7 v115 = 1#1), ∀ a x, ((![v214, v136] : Fin 2 → IVec S16 32) a x).toNat < S64x512.size a)
theorem k0_idx585_inb : ∀ (v115 : BitVec 32) (v136 : IVec S16 32) (v139 : IVec S16 32) (v214 : IVec S16 32) (k0_hw293 : k0_chk293 v115 v136 v139 v214), ∀ (k0_h7 : k0_cond7 v115 = 1#1), ∀ a x, ((![v139, v214] : Fin 2 → IVec S16 32) a x).toNat < S48x128.size a := fun v115 v136 v139 v214 k0_hw293 k0_h7 => k0_hw293.1 k0_h7
theorem k0_idx586_inb : ∀ (v115 : BitVec 32) (v136 : IVec S16 32) (v139 : IVec S16 32) (v214 : IVec S16 32) (k0_hw293 : k0_chk293 v115 v136 v139 v214), ∀ (k0_h7 : k0_cond7 v115 = 1#1), ∀ a x, ((![v214, v136] : Fin 2 → IVec S16 32) a x).toNat < S64x512.size a := fun v115 v136 v139 v214 k0_hw293 k0_h7 => k0_hw293.2 k0_h7

def k0_chk294 (v115 : BitVec 32) (v136 : IVec S16 32) (v139 : IVec S16 32) (v216 : IVec S16 32) : Prop :=
  (∀ (k0_h7 : k0_cond7 v115 = 1#1), ∀ a x, ((![v139, v216] : Fin 2 → IVec S16 32) a x).toNat < S48x128.size a) ∧
  (∀ (k0_h7 : k0_cond7 v115 = 1#1), ∀ a x, ((![v216, v136] : Fin 2 → IVec S16 32) a x).toNat < S64x512.size a)
theorem k0_idx587_inb : ∀ (v115 : BitVec 32) (v136 : IVec S16 32) (v139 : IVec S16 32) (v216 : IVec S16 32) (k0_hw294 : k0_chk294 v115 v136 v139 v216), ∀ (k0_h7 : k0_cond7 v115 = 1#1), ∀ a x, ((![v139, v216] : Fin 2 → IVec S16 32) a x).toNat < S48x128.size a := fun v115 v136 v139 v216 k0_hw294 k0_h7 => k0_hw294.1 k0_h7
theorem k0_idx588_inb : ∀ (v115 : BitVec 32) (v136 : IVec S16 32) (v139 : IVec S16 32) (v216 : IVec S16 32) (k0_hw294 : k0_chk294 v115 v136 v139 v216), ∀ (k0_h7 : k0_cond7 v115 = 1#1), ∀ a x, ((![v216, v136] : Fin 2 → IVec S16 32) a x).toNat < S64x512.size a := fun v115 v136 v139 v216 k0_hw294 k0_h7 => k0_hw294.2 k0_h7

def k0_chk295 (v115 : BitVec 32) (v136 : IVec S16 32) (v139 : IVec S16 32) (v218 : IVec S16 32) : Prop :=
  (∀ (k0_h7 : k0_cond7 v115 = 1#1), ∀ a x, ((![v139, v218] : Fin 2 → IVec S16 32) a x).toNat < S48x128.size a) ∧
  (∀ (k0_h7 : k0_cond7 v115 = 1#1), ∀ a x, ((![v218, v136] : Fin 2 → IVec S16 32) a x).toNat < S64x512.size a)
theorem k0_idx589_inb : ∀ (v115 : BitVec 32) (v136 : IVec S16 32) (v139 : IVec S16 32) (v218 : IVec S16 32) (k0_hw295 : k0_chk295 v115 v136 v139 v218), ∀ (k0_h7 : k0_cond7 v115 = 1#1), ∀ a x, ((![v139, v218] : Fin 2 → IVec S16 32) a x).toNat < S48x128.size a := fun v115 v136 v139 v218 k0_hw295 k0_h7 => k0_hw295.1 k0_h7
theorem k0_idx590_inb : ∀ (v115 : BitVec 32) (v136 : IVec S16 32) (v139 : IVec S16 32) (v218 : IVec S16 32) (k0_hw295 : k0_chk295 v115 v136 v139 v218), ∀ (k0_h7 : k0_cond7 v115 = 1#1), ∀ a x, ((![v218, v136] : Fin 2 → IVec S16 32) a x).toNat < S64x512.size a := fun v115 v136 v139 v218 k0_hw295 k0_h7 => k0_hw295.2 k0_h7

def k0_chk296 (v115 : BitVec 32) (v136 : IVec S16 32) (v139 : IVec S16 32) (v220 : IVec S16 32) : Prop :=
  (∀ (k0_h7 : k0_cond7 v115 = 1#1), ∀ a x, ((![v139, v220] : Fin 2 → IVec S16 32) a x).toNat < S48x128.size a) ∧
  (∀ (k0_h7 : k0_cond7 v115 = 1#1), ∀ a x, ((![v220, v136] : Fin 2 → IVec S16 32) a x).toNat < S64x512.size a)
theorem k0_idx591_inb : ∀ (v115 : BitVec 32) (v136 : IVec S16 32) (v139 : IVec S16 32) (v220 : IVec S16 32) (k0_hw296 : k0_chk296 v115 v136 v139 v220), ∀ (k0_h7 : k0_cond7 v115 = 1#1), ∀ a x, ((![v139, v220] : Fin 2 → IVec S16 32) a x).toNat < S48x128.size a := fun v115 v136 v139 v220 k0_hw296 k0_h7 => k0_hw296.1 k0_h7
theorem k0_idx592_inb : ∀ (v115 : BitVec 32) (v136 : IVec S16 32) (v139 : IVec S16 32) (v220 : IVec S16 32) (k0_hw296 : k0_chk296 v115 v136 v139 v220), ∀ (k0_h7 : k0_cond7 v115 = 1#1), ∀ a x, ((![v220, v136] : Fin 2 → IVec S16 32) a x).toNat < S64x512.size a := fun v115 v136 v139 v220 k0_hw296 k0_h7 => k0_hw296.2 k0_h7

def k0_chk297 (v115 : BitVec 32) (v136 : IVec S16 32) (v139 : IVec S16 32) (v222 : IVec S16 32) : Prop :=
  (∀ (k0_h7 : k0_cond7 v115 = 1#1), ∀ a x, ((![v139, v222] : Fin 2 → IVec S16 32) a x).toNat < S48x128.size a) ∧
  (∀ (k0_h7 : k0_cond7 v115 = 1#1), ∀ a x, ((![v222, v136] : Fin 2 → IVec S16 32) a x).toNat < S64x512.size a)
theorem k0_idx593_inb : ∀ (v115 : BitVec 32) (v136 : IVec S16 32) (v139 : IVec S16 32) (v222 : IVec S16 32) (k0_hw297 : k0_chk297 v115 v136 v139 v222), ∀ (k0_h7 : k0_cond7 v115 = 1#1), ∀ a x, ((![v139, v222] : Fin 2 → IVec S16 32) a x).toNat < S48x128.size a := fun v115 v136 v139 v222 k0_hw297 k0_h7 => k0_hw297.1 k0_h7
theorem k0_idx594_inb : ∀ (v115 : BitVec 32) (v136 : IVec S16 32) (v139 : IVec S16 32) (v222 : IVec S16 32) (k0_hw297 : k0_chk297 v115 v136 v139 v222), ∀ (k0_h7 : k0_cond7 v115 = 1#1), ∀ a x, ((![v222, v136] : Fin 2 → IVec S16 32) a x).toNat < S64x512.size a := fun v115 v136 v139 v222 k0_hw297 k0_h7 => k0_hw297.2 k0_h7

def k0_chk298 (v115 : BitVec 32) (v136 : IVec S16 32) (v139 : IVec S16 32) (v224 : IVec S16 32) : Prop :=
  (∀ (k0_h7 : k0_cond7 v115 = 1#1), ∀ a x, ((![v139, v224] : Fin 2 → IVec S16 32) a x).toNat < S48x128.size a) ∧
  (∀ (k0_h7 : k0_cond7 v115 = 1#1), ∀ a x, ((![v224, v136] : Fin 2 → IVec S16 32) a x).toNat < S64x512.size a)
theorem k0_idx595_inb : ∀ (v115 : BitVec 32) (v136 : IVec S16 32) (v139 : IVec S16 32) (v224 : IVec S16 32) (k0_hw298 : k0_chk298 v115 v136 v139 v224), ∀ (k0_h7 : k0_cond7 v115 = 1#1), ∀ a x, ((![v139, v224] : Fin 2 → IVec S16 32) a x).toNat < S48x128.size a := fun v115 v136 v139 v224 k0_hw298 k0_h7 => k0_hw298.1 k0_h7
theorem k0_idx596_inb : ∀ (v115 : BitVec 32) (v136 : IVec S16 32) (v139 : IVec S16 32) (v224 : IVec S16 32) (k0_hw298 : k0_chk298 v115 v136 v139 v224), ∀ (k0_h7 : k0_cond7 v115 = 1#1), ∀ a x, ((![v224, v136] : Fin 2 → IVec S16 32) a x).toNat < S64x512.size a := fun v115 v136 v139 v224 k0_hw298 k0_h7 => k0_hw298.2 k0_h7

def k0_chk299 (v115 : BitVec 32) (v136 : IVec S16 32) (v139 : IVec S16 32) (v226 : IVec S16 32) : Prop :=
  (∀ (k0_h7 : k0_cond7 v115 = 1#1), ∀ a x, ((![v139, v226] : Fin 2 → IVec S16 32) a x).toNat < S48x128.size a) ∧
  (∀ (k0_h7 : k0_cond7 v115 = 1#1), ∀ a x, ((![v226, v136] : Fin 2 → IVec S16 32) a x).toNat < S64x512.size a)
theorem k0_idx597_inb : ∀ (v115 : BitVec 32) (v136 : IVec S16 32) (v139 : IVec S16 32) (v226 : IVec S16 32) (k0_hw299 : k0_chk299 v115 v136 v139 v226), ∀ (k0_h7 : k0_cond7 v115 = 1#1), ∀ a x, ((![v139, v226] : Fin 2 → IVec S16 32) a x).toNat < S48x128.size a := fun v115 v136 v139 v226 k0_hw299 k0_h7 => k0_hw299.1 k0_h7
theorem k0_idx598_inb : ∀ (v115 : BitVec 32) (v136 : IVec S16 32) (v139 : IVec S16 32) (v226 : IVec S16 32) (k0_hw299 : k0_chk299 v115 v136 v139 v226), ∀ (k0_h7 : k0_cond7 v115 = 1#1), ∀ a x, ((![v226, v136] : Fin 2 → IVec S16 32) a x).toNat < S64x512.size a := fun v115 v136 v139 v226 k0_hw299 k0_h7 => k0_hw299.2 k0_h7

def k0_chk300 (v115 : BitVec 32) (v136 : IVec S16 32) (v139 : IVec S16 32) (v228 : IVec S16 32) : Prop :=
  (∀ (k0_h7 : k0_cond7 v115 = 1#1), ∀ a x, ((![v139, v228] : Fin 2 → IVec S16 32) a x).toNat < S48x128.size a) ∧
  (∀ (k0_h7 : k0_cond7 v115 = 1#1), ∀ a x, ((![v228, v136] : Fin 2 → IVec S16 32) a x).toNat < S64x512.size a)
theorem k0_idx599_inb : ∀ (v115 : BitVec 32) (v136 : IVec S16 32) (v139 : IVec S16 32) (v228 : IVec S16 32) (k0_hw300 : k0_chk300 v115 v136 v139 v228), ∀ (k0_h7 : k0_cond7 v115 = 1#1), ∀ a x, ((![v139, v228] : Fin 2 → IVec S16 32) a x).toNat < S48x128.size a := fun v115 v136 v139 v228 k0_hw300 k0_h7 => k0_hw300.1 k0_h7
theorem k0_idx600_inb : ∀ (v115 : BitVec 32) (v136 : IVec S16 32) (v139 : IVec S16 32) (v228 : IVec S16 32) (k0_hw300 : k0_chk300 v115 v136 v139 v228), ∀ (k0_h7 : k0_cond7 v115 = 1#1), ∀ a x, ((![v228, v136] : Fin 2 → IVec S16 32) a x).toNat < S64x512.size a := fun v115 v136 v139 v228 k0_hw300 k0_h7 => k0_hw300.2 k0_h7

def k0_chk301 (v115 : BitVec 32) (v136 : IVec S16 32) (v139 : IVec S16 32) (v230 : IVec S16 32) : Prop :=
  (∀ (k0_h7 : k0_cond7 v115 = 1#1), ∀ a x, ((![v139, v230] : Fin 2 → IVec S16 32) a x).toNat < S48x128.size a) ∧
  (∀ (k0_h7 : k0_cond7 v115 = 1#1), ∀ a x, ((![v230, v136] : Fin 2 → IVec S16 32) a x).toNat < S64x512.size a)
theorem k0_idx601_inb : ∀ (v115 : BitVec 32) (v136 : IVec S16 32) (v139 : IVec S16 32) (v230 : IVec S16 32) (k0_hw301 : k0_chk301 v115 v136 v139 v230), ∀ (k0_h7 : k0_cond7 v115 = 1#1), ∀ a x, ((![v139, v230] : Fin 2 → IVec S16 32) a x).toNat < S48x128.size a := fun v115 v136 v139 v230 k0_hw301 k0_h7 => k0_hw301.1 k0_h7
theorem k0_idx602_inb : ∀ (v115 : BitVec 32) (v136 : IVec S16 32) (v139 : IVec S16 32) (v230 : IVec S16 32) (k0_hw301 : k0_chk301 v115 v136 v139 v230), ∀ (k0_h7 : k0_cond7 v115 = 1#1), ∀ a x, ((![v230, v136] : Fin 2 → IVec S16 32) a x).toNat < S64x512.size a := fun v115 v136 v139 v230 k0_hw301 k0_h7 => k0_hw301.2 k0_h7

def k0_chk302 (v115 : BitVec 32) (v136 : IVec S16 32) (v139 : IVec S16 32) (v232 : IVec S16 32) : Prop :=
  (∀ (k0_h7 : k0_cond7 v115 = 1#1), ∀ a x, ((![v139, v232] : Fin 2 → IVec S16 32) a x).toNat < S48x128.size a) ∧
  (∀ (k0_h7 : k0_cond7 v115 = 1#1), ∀ a x, ((![v232, v136] : Fin 2 → IVec S16 32) a x).toNat < S64x512.size a)
theorem k0_idx603_inb : ∀ (v115 : BitVec 32) (v136 : IVec S16 32) (v139 : IVec S16 32) (v232 : IVec S16 32) (k0_hw302 : k0_chk302 v115 v136 v139 v232), ∀ (k0_h7 : k0_cond7 v115 = 1#1), ∀ a x, ((![v139, v232] : Fin 2 → IVec S16 32) a x).toNat < S48x128.size a := fun v115 v136 v139 v232 k0_hw302 k0_h7 => k0_hw302.1 k0_h7
theorem k0_idx604_inb : ∀ (v115 : BitVec 32) (v136 : IVec S16 32) (v139 : IVec S16 32) (v232 : IVec S16 32) (k0_hw302 : k0_chk302 v115 v136 v139 v232), ∀ (k0_h7 : k0_cond7 v115 = 1#1), ∀ a x, ((![v232, v136] : Fin 2 → IVec S16 32) a x).toNat < S64x512.size a := fun v115 v136 v139 v232 k0_hw302 k0_h7 => k0_hw302.2 k0_h7

def k0_chk303 (v115 : BitVec 32) (v136 : IVec S16 32) (v139 : IVec S16 32) (v234 : IVec S16 32) : Prop :=
  (∀ (k0_h7 : k0_cond7 v115 = 1#1), ∀ a x, ((![v139, v234] : Fin 2 → IVec S16 32) a x).toNat < S48x128.size a) ∧
  (∀ (k0_h7 : k0_cond7 v115 = 1#1), ∀ a x, ((![v234, v136] : Fin 2 → IVec S16 32) a x).toNat < S64x512.size a)
theorem k0_idx605_inb : ∀ (v115 : BitVec 32) (v136 : IVec S16 32) (v139 : IVec S16 32) (v234 : IVec S16 32) (k0_hw303 : k0_chk303 v115 v136 v139 v234), ∀ (k0_h7 : k0_cond7 v115 = 1#1), ∀ a x, ((![v139, v234] : Fin 2 → IVec S16 32) a x).toNat < S48x128.size a := fun v115 v136 v139 v234 k0_hw303 k0_h7 => k0_hw303.1 k0_h7
theorem k0_idx606_inb : ∀ (v115 : BitVec 32) (v136 : IVec S16 32) (v139 : IVec S16 32) (v234 : IVec S16 32) (k0_hw303 : k0_chk303 v115 v136 v139 v234), ∀ (k0_h7 : k0_cond7 v115 = 1#1), ∀ a x, ((![v234, v136] : Fin 2 → IVec S16 32) a x).toNat < S64x512.size a := fun v115 v136 v139 v234 k0_hw303 k0_h7 => k0_hw303.2 k0_h7

def k0_chk304 (v115 : BitVec 32) (v136 : IVec S16 32) (v139 : IVec S16 32) (v236 : IVec S16 32) : Prop :=
  (∀ (k0_h7 : k0_cond7 v115 = 1#1), ∀ a x, ((![v139, v236] : Fin 2 → IVec S16 32) a x).toNat < S48x128.size a) ∧
  (∀ (k0_h7 : k0_cond7 v115 = 1#1), ∀ a x, ((![v236, v136] : Fin 2 → IVec S16 32) a x).toNat < S64x512.size a)
theorem k0_idx607_inb : ∀ (v115 : BitVec 32) (v136 : IVec S16 32) (v139 : IVec S16 32) (v236 : IVec S16 32) (k0_hw304 : k0_chk304 v115 v136 v139 v236), ∀ (k0_h7 : k0_cond7 v115 = 1#1), ∀ a x, ((![v139, v236] : Fin 2 → IVec S16 32) a x).toNat < S48x128.size a := fun v115 v136 v139 v236 k0_hw304 k0_h7 => k0_hw304.1 k0_h7
theorem k0_idx608_inb : ∀ (v115 : BitVec 32) (v136 : IVec S16 32) (v139 : IVec S16 32) (v236 : IVec S16 32) (k0_hw304 : k0_chk304 v115 v136 v139 v236), ∀ (k0_h7 : k0_cond7 v115 = 1#1), ∀ a x, ((![v236, v136] : Fin 2 → IVec S16 32) a x).toNat < S64x512.size a := fun v115 v136 v139 v236 k0_hw304 k0_h7 => k0_hw304.2 k0_h7

def k0_chk305 (v115 : BitVec 32) (v136 : IVec S16 32) (v139 : IVec S16 32) (v238 : IVec S16 32) : Prop :=
  (∀ (k0_h7 : k0_cond7 v115 = 1#1), ∀ a x, ((![v139, v238] : Fin 2 → IVec S16 32) a x).toNat < S48x128.size a) ∧
  (∀ (k0_h7 : k0_cond7 v115 = 1#1), ∀ a x, ((![v238, v136] : Fin 2 → IVec S16 32) a x).toNat < S64x512.size a)
theorem k0_idx609_inb : ∀ (v115 : BitVec 32) (v136 : IVec S16 32) (v139 : IVec S16 32) (v238 : IVec S16 32) (k0_hw305 : k0_chk305 v115 v136 v139 v238), ∀ (k0_h7 : k0_cond7 v115 = 1#1), ∀ a x, ((![v139, v238] : Fin 2 → IVec S16 32) a x).toNat < S48x128.size a := fun v115 v136 v139 v238 k0_hw305 k0_h7 => k0_hw305.1 k0_h7
theorem k0_idx610_inb : ∀ (v115 : BitVec 32) (v136 : IVec S16 32) (v139 : IVec S16 32) (v238 : IVec S16 32) (k0_hw305 : k0_chk305 v115 v136 v139 v238), ∀ (k0_h7 : k0_cond7 v115 = 1#1), ∀ a x, ((![v238, v136] : Fin 2 → IVec S16 32) a x).toNat < S64x512.size a := fun v115 v136 v139 v238 k0_hw305 k0_h7 => k0_hw305.2 k0_h7

def k0_chk306 (v115 : BitVec 32) (v136 : IVec S16 32) (v139 : IVec S16 32) (v240 : IVec S16 32) : Prop :=
  (∀ (k0_h7 : k0_cond7 v115 = 1#1), ∀ a x, ((![v139, v240] : Fin 2 → IVec S16 32) a x).toNat < S48x128.size a) ∧
  (∀ (k0_h7 : k0_cond7 v115 = 1#1), ∀ a x, ((![v240, v136] : Fin 2 → IVec S16 32) a x).toNat < S64x512.size a)
theorem k0_idx611_inb : ∀ (v115 : BitVec 32) (v136 : IVec S16 32) (v139 : IVec S16 32) (v240 : IVec S16 32) (k0_hw306 : k0_chk306 v115 v136 v139 v240), ∀ (k0_h7 : k0_cond7 v115 = 1#1), ∀ a x, ((![v139, v240] : Fin 2 → IVec S16 32) a x).toNat < S48x128.size a := fun v115 v136 v139 v240 k0_hw306 k0_h7 => k0_hw306.1 k0_h7
theorem k0_idx612_inb : ∀ (v115 : BitVec 32) (v136 : IVec S16 32) (v139 : IVec S16 32) (v240 : IVec S16 32) (k0_hw306 : k0_chk306 v115 v136 v139 v240), ∀ (k0_h7 : k0_cond7 v115 = 1#1), ∀ a x, ((![v240, v136] : Fin 2 → IVec S16 32) a x).toNat < S64x512.size a := fun v115 v136 v139 v240 k0_hw306 k0_h7 => k0_hw306.2 k0_h7

def k0_chk307 (v115 : BitVec 32) (v136 : IVec S16 32) (v139 : IVec S16 32) (v242 : IVec S16 32) : Prop :=
  (∀ (k0_h7 : k0_cond7 v115 = 1#1), ∀ a x, ((![v139, v242] : Fin 2 → IVec S16 32) a x).toNat < S48x128.size a) ∧
  (∀ (k0_h7 : k0_cond7 v115 = 1#1), ∀ a x, ((![v242, v136] : Fin 2 → IVec S16 32) a x).toNat < S64x512.size a)
theorem k0_idx613_inb : ∀ (v115 : BitVec 32) (v136 : IVec S16 32) (v139 : IVec S16 32) (v242 : IVec S16 32) (k0_hw307 : k0_chk307 v115 v136 v139 v242), ∀ (k0_h7 : k0_cond7 v115 = 1#1), ∀ a x, ((![v139, v242] : Fin 2 → IVec S16 32) a x).toNat < S48x128.size a := fun v115 v136 v139 v242 k0_hw307 k0_h7 => k0_hw307.1 k0_h7
theorem k0_idx614_inb : ∀ (v115 : BitVec 32) (v136 : IVec S16 32) (v139 : IVec S16 32) (v242 : IVec S16 32) (k0_hw307 : k0_chk307 v115 v136 v139 v242), ∀ (k0_h7 : k0_cond7 v115 = 1#1), ∀ a x, ((![v242, v136] : Fin 2 → IVec S16 32) a x).toNat < S64x512.size a := fun v115 v136 v139 v242 k0_hw307 k0_h7 => k0_hw307.2 k0_h7

def k0_chk308 (v115 : BitVec 32) (v136 : IVec S16 32) (v139 : IVec S16 32) (v244 : IVec S16 32) : Prop :=
  (∀ (k0_h7 : k0_cond7 v115 = 1#1), ∀ a x, ((![v139, v244] : Fin 2 → IVec S16 32) a x).toNat < S48x128.size a) ∧
  (∀ (k0_h7 : k0_cond7 v115 = 1#1), ∀ a x, ((![v244, v136] : Fin 2 → IVec S16 32) a x).toNat < S64x512.size a)
theorem k0_idx615_inb : ∀ (v115 : BitVec 32) (v136 : IVec S16 32) (v139 : IVec S16 32) (v244 : IVec S16 32) (k0_hw308 : k0_chk308 v115 v136 v139 v244), ∀ (k0_h7 : k0_cond7 v115 = 1#1), ∀ a x, ((![v139, v244] : Fin 2 → IVec S16 32) a x).toNat < S48x128.size a := fun v115 v136 v139 v244 k0_hw308 k0_h7 => k0_hw308.1 k0_h7
theorem k0_idx616_inb : ∀ (v115 : BitVec 32) (v136 : IVec S16 32) (v139 : IVec S16 32) (v244 : IVec S16 32) (k0_hw308 : k0_chk308 v115 v136 v139 v244), ∀ (k0_h7 : k0_cond7 v115 = 1#1), ∀ a x, ((![v244, v136] : Fin 2 → IVec S16 32) a x).toNat < S64x512.size a := fun v115 v136 v139 v244 k0_hw308 k0_h7 => k0_hw308.2 k0_h7

def k0_chk309 (v115 : BitVec 32) (v136 : IVec S16 32) (v139 : IVec S16 32) (v246 : IVec S16 32) : Prop :=
  (∀ (k0_h7 : k0_cond7 v115 = 1#1), ∀ a x, ((![v139, v246] : Fin 2 → IVec S16 32) a x).toNat < S48x128.size a) ∧
  (∀ (k0_h7 : k0_cond7 v115 = 1#1), ∀ a x, ((![v246, v136] : Fin 2 → IVec S16 32) a x).toNat < S64x512.size a)
theorem k0_idx617_inb : ∀ (v115 : BitVec 32) (v136 : IVec S16 32) (v139 : IVec S16 32) (v246 : IVec S16 32) (k0_hw309 : k0_chk309 v115 v136 v139 v246), ∀ (k0_h7 : k0_cond7 v115 = 1#1), ∀ a x, ((![v139, v246] : Fin 2 → IVec S16 32) a x).toNat < S48x128.size a := fun v115 v136 v139 v246 k0_hw309 k0_h7 => k0_hw309.1 k0_h7
theorem k0_idx618_inb : ∀ (v115 : BitVec 32) (v136 : IVec S16 32) (v139 : IVec S16 32) (v246 : IVec S16 32) (k0_hw309 : k0_chk309 v115 v136 v139 v246), ∀ (k0_h7 : k0_cond7 v115 = 1#1), ∀ a x, ((![v246, v136] : Fin 2 → IVec S16 32) a x).toNat < S64x512.size a := fun v115 v136 v139 v246 k0_hw309 k0_h7 => k0_hw309.2 k0_h7

def k0_chk310 (v115 : BitVec 32) (v136 : IVec S16 32) (v139 : IVec S16 32) (v248 : IVec S16 32) : Prop :=
  (∀ (k0_h7 : k0_cond7 v115 = 1#1), ∀ a x, ((![v139, v248] : Fin 2 → IVec S16 32) a x).toNat < S48x128.size a) ∧
  (∀ (k0_h7 : k0_cond7 v115 = 1#1), ∀ a x, ((![v248, v136] : Fin 2 → IVec S16 32) a x).toNat < S64x512.size a)
theorem k0_idx619_inb : ∀ (v115 : BitVec 32) (v136 : IVec S16 32) (v139 : IVec S16 32) (v248 : IVec S16 32) (k0_hw310 : k0_chk310 v115 v136 v139 v248), ∀ (k0_h7 : k0_cond7 v115 = 1#1), ∀ a x, ((![v139, v248] : Fin 2 → IVec S16 32) a x).toNat < S48x128.size a := fun v115 v136 v139 v248 k0_hw310 k0_h7 => k0_hw310.1 k0_h7
theorem k0_idx620_inb : ∀ (v115 : BitVec 32) (v136 : IVec S16 32) (v139 : IVec S16 32) (v248 : IVec S16 32) (k0_hw310 : k0_chk310 v115 v136 v139 v248), ∀ (k0_h7 : k0_cond7 v115 = 1#1), ∀ a x, ((![v248, v136] : Fin 2 → IVec S16 32) a x).toNat < S64x512.size a := fun v115 v136 v139 v248 k0_hw310 k0_h7 => k0_hw310.2 k0_h7

def k0_chk311 (v115 : BitVec 32) (v136 : IVec S16 32) (v139 : IVec S16 32) (v250 : IVec S16 32) : Prop :=
  (∀ (k0_h7 : k0_cond7 v115 = 1#1), ∀ a x, ((![v139, v250] : Fin 2 → IVec S16 32) a x).toNat < S48x128.size a) ∧
  (∀ (k0_h7 : k0_cond7 v115 = 1#1), ∀ a x, ((![v250, v136] : Fin 2 → IVec S16 32) a x).toNat < S64x512.size a)
theorem k0_idx621_inb : ∀ (v115 : BitVec 32) (v136 : IVec S16 32) (v139 : IVec S16 32) (v250 : IVec S16 32) (k0_hw311 : k0_chk311 v115 v136 v139 v250), ∀ (k0_h7 : k0_cond7 v115 = 1#1), ∀ a x, ((![v139, v250] : Fin 2 → IVec S16 32) a x).toNat < S48x128.size a := fun v115 v136 v139 v250 k0_hw311 k0_h7 => k0_hw311.1 k0_h7
theorem k0_idx622_inb : ∀ (v115 : BitVec 32) (v136 : IVec S16 32) (v139 : IVec S16 32) (v250 : IVec S16 32) (k0_hw311 : k0_chk311 v115 v136 v139 v250), ∀ (k0_h7 : k0_cond7 v115 = 1#1), ∀ a x, ((![v250, v136] : Fin 2 → IVec S16 32) a x).toNat < S64x512.size a := fun v115 v136 v139 v250 k0_hw311 k0_h7 => k0_hw311.2 k0_h7

def k0_chk312 (v115 : BitVec 32) (v136 : IVec S16 32) (v139 : IVec S16 32) (v252 : IVec S16 32) : Prop :=
  (∀ (k0_h7 : k0_cond7 v115 = 1#1), ∀ a x, ((![v139, v252] : Fin 2 → IVec S16 32) a x).toNat < S48x128.size a) ∧
  (∀ (k0_h7 : k0_cond7 v115 = 1#1), ∀ a x, ((![v252, v136] : Fin 2 → IVec S16 32) a x).toNat < S64x512.size a)
theorem k0_idx623_inb : ∀ (v115 : BitVec 32) (v136 : IVec S16 32) (v139 : IVec S16 32) (v252 : IVec S16 32) (k0_hw312 : k0_chk312 v115 v136 v139 v252), ∀ (k0_h7 : k0_cond7 v115 = 1#1), ∀ a x, ((![v139, v252] : Fin 2 → IVec S16 32) a x).toNat < S48x128.size a := fun v115 v136 v139 v252 k0_hw312 k0_h7 => k0_hw312.1 k0_h7
theorem k0_idx624_inb : ∀ (v115 : BitVec 32) (v136 : IVec S16 32) (v139 : IVec S16 32) (v252 : IVec S16 32) (k0_hw312 : k0_chk312 v115 v136 v139 v252), ∀ (k0_h7 : k0_cond7 v115 = 1#1), ∀ a x, ((![v252, v136] : Fin 2 → IVec S16 32) a x).toNat < S64x512.size a := fun v115 v136 v139 v252 k0_hw312 k0_h7 => k0_hw312.2 k0_h7

def k0_chk313 (v115 : BitVec 32) (v136 : IVec S16 32) (v139 : IVec S16 32) (v254 : IVec S16 32) : Prop :=
  (∀ (k0_h7 : k0_cond7 v115 = 1#1), ∀ a x, ((![v139, v254] : Fin 2 → IVec S16 32) a x).toNat < S48x128.size a) ∧
  (∀ (k0_h7 : k0_cond7 v115 = 1#1), ∀ a x, ((![v254, v136] : Fin 2 → IVec S16 32) a x).toNat < S64x512.size a)
theorem k0_idx625_inb : ∀ (v115 : BitVec 32) (v136 : IVec S16 32) (v139 : IVec S16 32) (v254 : IVec S16 32) (k0_hw313 : k0_chk313 v115 v136 v139 v254), ∀ (k0_h7 : k0_cond7 v115 = 1#1), ∀ a x, ((![v139, v254] : Fin 2 → IVec S16 32) a x).toNat < S48x128.size a := fun v115 v136 v139 v254 k0_hw313 k0_h7 => k0_hw313.1 k0_h7
theorem k0_idx626_inb : ∀ (v115 : BitVec 32) (v136 : IVec S16 32) (v139 : IVec S16 32) (v254 : IVec S16 32) (k0_hw313 : k0_chk313 v115 v136 v139 v254), ∀ (k0_h7 : k0_cond7 v115 = 1#1), ∀ a x, ((![v254, v136] : Fin 2 → IVec S16 32) a x).toNat < S64x512.size a := fun v115 v136 v139 v254 k0_hw313 k0_h7 => k0_hw313.2 k0_h7

def k0_chk314 (v115 : BitVec 32) (v136 : IVec S16 32) (v139 : IVec S16 32) (v256 : IVec S16 32) : Prop :=
  (∀ (k0_h7 : k0_cond7 v115 = 1#1), ∀ a x, ((![v139, v256] : Fin 2 → IVec S16 32) a x).toNat < S48x128.size a) ∧
  (∀ (k0_h7 : k0_cond7 v115 = 1#1), ∀ a x, ((![v256, v136] : Fin 2 → IVec S16 32) a x).toNat < S64x512.size a)
theorem k0_idx627_inb : ∀ (v115 : BitVec 32) (v136 : IVec S16 32) (v139 : IVec S16 32) (v256 : IVec S16 32) (k0_hw314 : k0_chk314 v115 v136 v139 v256), ∀ (k0_h7 : k0_cond7 v115 = 1#1), ∀ a x, ((![v139, v256] : Fin 2 → IVec S16 32) a x).toNat < S48x128.size a := fun v115 v136 v139 v256 k0_hw314 k0_h7 => k0_hw314.1 k0_h7
theorem k0_idx628_inb : ∀ (v115 : BitVec 32) (v136 : IVec S16 32) (v139 : IVec S16 32) (v256 : IVec S16 32) (k0_hw314 : k0_chk314 v115 v136 v139 v256), ∀ (k0_h7 : k0_cond7 v115 = 1#1), ∀ a x, ((![v256, v136] : Fin 2 → IVec S16 32) a x).toNat < S64x512.size a := fun v115 v136 v139 v256 k0_hw314 k0_h7 => k0_hw314.2 k0_h7

def k0_chk315 (v115 : BitVec 32) (v136 : IVec S16 32) (v139 : IVec S16 32) (v258 : IVec S16 32) : Prop :=
  (∀ (k0_h7 : k0_cond7 v115 = 1#1), ∀ a x, ((![v139, v258] : Fin 2 → IVec S16 32) a x).toNat < S48x128.size a) ∧
  (∀ (k0_h7 : k0_cond7 v115 = 1#1), ∀ a x, ((![v258, v136] : Fin 2 → IVec S16 32) a x).toNat < S64x512.size a)
theorem k0_idx629_inb : ∀ (v115 : BitVec 32) (v136 : IVec S16 32) (v139 : IVec S16 32) (v258 : IVec S16 32) (k0_hw315 : k0_chk315 v115 v136 v139 v258), ∀ (k0_h7 : k0_cond7 v115 = 1#1), ∀ a x, ((![v139, v258] : Fin 2 → IVec S16 32) a x).toNat < S48x128.size a := fun v115 v136 v139 v258 k0_hw315 k0_h7 => k0_hw315.1 k0_h7
theorem k0_idx630_inb : ∀ (v115 : BitVec 32) (v136 : IVec S16 32) (v139 : IVec S16 32) (v258 : IVec S16 32) (k0_hw315 : k0_chk315 v115 v136 v139 v258), ∀ (k0_h7 : k0_cond7 v115 = 1#1), ∀ a x, ((![v258, v136] : Fin 2 → IVec S16 32) a x).toNat < S64x512.size a := fun v115 v136 v139 v258 k0_hw315 k0_h7 => k0_hw315.2 k0_h7

def k0_chk316 (v115 : BitVec 32) (v136 : IVec S16 32) (v139 : IVec S16 32) (v260 : IVec S16 32) : Prop :=
  (∀ (k0_h7 : k0_cond7 v115 = 1#1), ∀ a x, ((![v139, v260] : Fin 2 → IVec S16 32) a x).toNat < S48x128.size a) ∧
  (∀ (k0_h7 : k0_cond7 v115 = 1#1), ∀ a x, ((![v260, v136] : Fin 2 → IVec S16 32) a x).toNat < S64x512.size a)
theorem k0_idx631_inb : ∀ (v115 : BitVec 32) (v136 : IVec S16 32) (v139 : IVec S16 32) (v260 : IVec S16 32) (k0_hw316 : k0_chk316 v115 v136 v139 v260), ∀ (k0_h7 : k0_cond7 v115 = 1#1), ∀ a x, ((![v139, v260] : Fin 2 → IVec S16 32) a x).toNat < S48x128.size a := fun v115 v136 v139 v260 k0_hw316 k0_h7 => k0_hw316.1 k0_h7
theorem k0_idx632_inb : ∀ (v115 : BitVec 32) (v136 : IVec S16 32) (v139 : IVec S16 32) (v260 : IVec S16 32) (k0_hw316 : k0_chk316 v115 v136 v139 v260), ∀ (k0_h7 : k0_cond7 v115 = 1#1), ∀ a x, ((![v260, v136] : Fin 2 → IVec S16 32) a x).toNat < S64x512.size a := fun v115 v136 v139 v260 k0_hw316 k0_h7 => k0_hw316.2 k0_h7

def k0_chk317 (v115 : BitVec 32) (v136 : IVec S16 32) (v139 : IVec S16 32) (v262 : IVec S16 32) : Prop :=
  (∀ (k0_h7 : k0_cond7 v115 = 1#1), ∀ a x, ((![v139, v262] : Fin 2 → IVec S16 32) a x).toNat < S48x128.size a) ∧
  (∀ (k0_h7 : k0_cond7 v115 = 1#1), ∀ a x, ((![v262, v136] : Fin 2 → IVec S16 32) a x).toNat < S64x512.size a)
theorem k0_idx633_inb : ∀ (v115 : BitVec 32) (v136 : IVec S16 32) (v139 : IVec S16 32) (v262 : IVec S16 32) (k0_hw317 : k0_chk317 v115 v136 v139 v262), ∀ (k0_h7 : k0_cond7 v115 = 1#1), ∀ a x, ((![v139, v262] : Fin 2 → IVec S16 32) a x).toNat < S48x128.size a := fun v115 v136 v139 v262 k0_hw317 k0_h7 => k0_hw317.1 k0_h7
theorem k0_idx634_inb : ∀ (v115 : BitVec 32) (v136 : IVec S16 32) (v139 : IVec S16 32) (v262 : IVec S16 32) (k0_hw317 : k0_chk317 v115 v136 v139 v262), ∀ (k0_h7 : k0_cond7 v115 = 1#1), ∀ a x, ((![v262, v136] : Fin 2 → IVec S16 32) a x).toNat < S64x512.size a := fun v115 v136 v139 v262 k0_hw317 k0_h7 => k0_hw317.2 k0_h7

def k0_chk318 (v115 : BitVec 32) (v136 : IVec S16 32) (v139 : IVec S16 32) (v264 : IVec S16 32) : Prop :=
  (∀ (k0_h7 : k0_cond7 v115 = 1#1), ∀ a x, ((![v139, v264] : Fin 2 → IVec S16 32) a x).toNat < S48x128.size a) ∧
  (∀ (k0_h7 : k0_cond7 v115 = 1#1), ∀ a x, ((![v264, v136] : Fin 2 → IVec S16 32) a x).toNat < S64x512.size a)
theorem k0_idx635_inb : ∀ (v115 : BitVec 32) (v136 : IVec S16 32) (v139 : IVec S16 32) (v264 : IVec S16 32) (k0_hw318 : k0_chk318 v115 v136 v139 v264), ∀ (k0_h7 : k0_cond7 v115 = 1#1), ∀ a x, ((![v139, v264] : Fin 2 → IVec S16 32) a x).toNat < S48x128.size a := fun v115 v136 v139 v264 k0_hw318 k0_h7 => k0_hw318.1 k0_h7
theorem k0_idx636_inb : ∀ (v115 : BitVec 32) (v136 : IVec S16 32) (v139 : IVec S16 32) (v264 : IVec S16 32) (k0_hw318 : k0_chk318 v115 v136 v139 v264), ∀ (k0_h7 : k0_cond7 v115 = 1#1), ∀ a x, ((![v264, v136] : Fin 2 → IVec S16 32) a x).toNat < S64x512.size a := fun v115 v136 v139 v264 k0_hw318 k0_h7 => k0_hw318.2 k0_h7

def k0_chk319 (v115 : BitVec 32) (v136 : IVec S16 32) (v139 : IVec S16 32) (v266 : IVec S16 32) : Prop :=
  (∀ (k0_h7 : k0_cond7 v115 = 1#1), ∀ a x, ((![v139, v266] : Fin 2 → IVec S16 32) a x).toNat < S48x128.size a) ∧
  (∀ (k0_h7 : k0_cond7 v115 = 1#1), ∀ a x, ((![v266, v136] : Fin 2 → IVec S16 32) a x).toNat < S64x512.size a)
theorem k0_idx637_inb : ∀ (v115 : BitVec 32) (v136 : IVec S16 32) (v139 : IVec S16 32) (v266 : IVec S16 32) (k0_hw319 : k0_chk319 v115 v136 v139 v266), ∀ (k0_h7 : k0_cond7 v115 = 1#1), ∀ a x, ((![v139, v266] : Fin 2 → IVec S16 32) a x).toNat < S48x128.size a := fun v115 v136 v139 v266 k0_hw319 k0_h7 => k0_hw319.1 k0_h7
theorem k0_idx638_inb : ∀ (v115 : BitVec 32) (v136 : IVec S16 32) (v139 : IVec S16 32) (v266 : IVec S16 32) (k0_hw319 : k0_chk319 v115 v136 v139 v266), ∀ (k0_h7 : k0_cond7 v115 = 1#1), ∀ a x, ((![v266, v136] : Fin 2 → IVec S16 32) a x).toNat < S64x512.size a := fun v115 v136 v139 v266 k0_hw319 k0_h7 => k0_hw319.2 k0_h7

def k0_chk320 (v115 : BitVec 32) (v136 : IVec S16 32) (v139 : IVec S16 32) (v268 : IVec S16 32) : Prop :=
  (∀ (k0_h7 : k0_cond7 v115 = 1#1), ∀ a x, ((![v139, v268] : Fin 2 → IVec S16 32) a x).toNat < S48x128.size a) ∧
  (∀ (k0_h7 : k0_cond7 v115 = 1#1), ∀ a x, ((![v268, v136] : Fin 2 → IVec S16 32) a x).toNat < S64x512.size a)
theorem k0_idx639_inb : ∀ (v115 : BitVec 32) (v136 : IVec S16 32) (v139 : IVec S16 32) (v268 : IVec S16 32) (k0_hw320 : k0_chk320 v115 v136 v139 v268), ∀ (k0_h7 : k0_cond7 v115 = 1#1), ∀ a x, ((![v139, v268] : Fin 2 → IVec S16 32) a x).toNat < S48x128.size a := fun v115 v136 v139 v268 k0_hw320 k0_h7 => k0_hw320.1 k0_h7
theorem k0_idx640_inb : ∀ (v115 : BitVec 32) (v136 : IVec S16 32) (v139 : IVec S16 32) (v268 : IVec S16 32) (k0_hw320 : k0_chk320 v115 v136 v139 v268), ∀ (k0_h7 : k0_cond7 v115 = 1#1), ∀ a x, ((![v268, v136] : Fin 2 → IVec S16 32) a x).toNat < S64x512.size a := fun v115 v136 v139 v268 k0_hw320 k0_h7 => k0_hw320.2 k0_h7
def k0_off18 (k0_t1 : Fin k0_t1_loop.trips) : Fin 1 → Nat :=
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_67 : BitVec 32 := 1#32
  let v109 : BitVec 32 := Scalar.addi v32 c1_i32_67
  let c64_i32_81 : BitVec 32 := 64#32
  let v130 : BitVec 32 := Scalar.muli v109 c64_i32_81
  let c16_i32_82 : BitVec 32 := 16#32
  let v131 : BitVec 32 := Scalar.addi v130 c16_i32_82
  let c32_i32_83 : BitVec 32 := 32#32
  let v132 : BitVec 32 := Scalar.addi v131 c32_i32_83
  let v133 : Index := Scalar.indexCast v132
  ![v133.toNat]
def k0_cond8 (v115 : BitVec 32) : BitVec 1 :=
  let c32_i32_75 : BitVec 32 := 32#32
  let v122 : BitVec 1 := Scalar.cmpi .sgt v115 c32_i32_75
  let v123 : BitVec 32 := Scalar.extui v122
  let c0_i32_76 : BitVec 32 := 0#32
  let v124 : BitVec 1 := Scalar.cmpi .ne v123 c0_i32_76
  v124

def k0_chk321 (v115 : BitVec 32) (v136 : IVec S16 32) (v139 : IVec S16 32) (v142 : IVec S16 32) : Prop :=
  (∀ (k0_h8 : k0_cond8 v115 = 1#1), ∀ a x, ((![v139, v142] : Fin 2 → IVec S16 32) a x).toNat < S48x128.size a) ∧
  (∀ (k0_h8 : k0_cond8 v115 = 1#1), ∀ a x, ((![v142, v136] : Fin 2 → IVec S16 32) a x).toNat < S64x512.size a)
theorem k0_idx641_inb : ∀ (v115 : BitVec 32) (v136 : IVec S16 32) (v139 : IVec S16 32) (v142 : IVec S16 32) (k0_hw321 : k0_chk321 v115 v136 v139 v142), ∀ (k0_h8 : k0_cond8 v115 = 1#1), ∀ a x, ((![v139, v142] : Fin 2 → IVec S16 32) a x).toNat < S48x128.size a := fun v115 v136 v139 v142 k0_hw321 k0_h8 => k0_hw321.1 k0_h8
theorem k0_idx642_inb : ∀ (v115 : BitVec 32) (v136 : IVec S16 32) (v139 : IVec S16 32) (v142 : IVec S16 32) (k0_hw321 : k0_chk321 v115 v136 v139 v142), ∀ (k0_h8 : k0_cond8 v115 = 1#1), ∀ a x, ((![v142, v136] : Fin 2 → IVec S16 32) a x).toNat < S64x512.size a := fun v115 v136 v139 v142 k0_hw321 k0_h8 => k0_hw321.2 k0_h8

def k0_chk322 (v115 : BitVec 32) (v136 : IVec S16 32) (v139 : IVec S16 32) (v144 : IVec S16 32) : Prop :=
  (∀ (k0_h8 : k0_cond8 v115 = 1#1), ∀ a x, ((![v139, v144] : Fin 2 → IVec S16 32) a x).toNat < S48x128.size a) ∧
  (∀ (k0_h8 : k0_cond8 v115 = 1#1), ∀ a x, ((![v144, v136] : Fin 2 → IVec S16 32) a x).toNat < S64x512.size a)
theorem k0_idx643_inb : ∀ (v115 : BitVec 32) (v136 : IVec S16 32) (v139 : IVec S16 32) (v144 : IVec S16 32) (k0_hw322 : k0_chk322 v115 v136 v139 v144), ∀ (k0_h8 : k0_cond8 v115 = 1#1), ∀ a x, ((![v139, v144] : Fin 2 → IVec S16 32) a x).toNat < S48x128.size a := fun v115 v136 v139 v144 k0_hw322 k0_h8 => k0_hw322.1 k0_h8
theorem k0_idx644_inb : ∀ (v115 : BitVec 32) (v136 : IVec S16 32) (v139 : IVec S16 32) (v144 : IVec S16 32) (k0_hw322 : k0_chk322 v115 v136 v139 v144), ∀ (k0_h8 : k0_cond8 v115 = 1#1), ∀ a x, ((![v144, v136] : Fin 2 → IVec S16 32) a x).toNat < S64x512.size a := fun v115 v136 v139 v144 k0_hw322 k0_h8 => k0_hw322.2 k0_h8

def k0_chk323 (v115 : BitVec 32) (v136 : IVec S16 32) (v139 : IVec S16 32) (v146 : IVec S16 32) : Prop :=
  (∀ (k0_h8 : k0_cond8 v115 = 1#1), ∀ a x, ((![v139, v146] : Fin 2 → IVec S16 32) a x).toNat < S48x128.size a) ∧
  (∀ (k0_h8 : k0_cond8 v115 = 1#1), ∀ a x, ((![v146, v136] : Fin 2 → IVec S16 32) a x).toNat < S64x512.size a)
theorem k0_idx645_inb : ∀ (v115 : BitVec 32) (v136 : IVec S16 32) (v139 : IVec S16 32) (v146 : IVec S16 32) (k0_hw323 : k0_chk323 v115 v136 v139 v146), ∀ (k0_h8 : k0_cond8 v115 = 1#1), ∀ a x, ((![v139, v146] : Fin 2 → IVec S16 32) a x).toNat < S48x128.size a := fun v115 v136 v139 v146 k0_hw323 k0_h8 => k0_hw323.1 k0_h8
theorem k0_idx646_inb : ∀ (v115 : BitVec 32) (v136 : IVec S16 32) (v139 : IVec S16 32) (v146 : IVec S16 32) (k0_hw323 : k0_chk323 v115 v136 v139 v146), ∀ (k0_h8 : k0_cond8 v115 = 1#1), ∀ a x, ((![v146, v136] : Fin 2 → IVec S16 32) a x).toNat < S64x512.size a := fun v115 v136 v139 v146 k0_hw323 k0_h8 => k0_hw323.2 k0_h8

def k0_chk324 (v115 : BitVec 32) (v136 : IVec S16 32) (v139 : IVec S16 32) (v148 : IVec S16 32) : Prop :=
  (∀ (k0_h8 : k0_cond8 v115 = 1#1), ∀ a x, ((![v139, v148] : Fin 2 → IVec S16 32) a x).toNat < S48x128.size a) ∧
  (∀ (k0_h8 : k0_cond8 v115 = 1#1), ∀ a x, ((![v148, v136] : Fin 2 → IVec S16 32) a x).toNat < S64x512.size a)
theorem k0_idx647_inb : ∀ (v115 : BitVec 32) (v136 : IVec S16 32) (v139 : IVec S16 32) (v148 : IVec S16 32) (k0_hw324 : k0_chk324 v115 v136 v139 v148), ∀ (k0_h8 : k0_cond8 v115 = 1#1), ∀ a x, ((![v139, v148] : Fin 2 → IVec S16 32) a x).toNat < S48x128.size a := fun v115 v136 v139 v148 k0_hw324 k0_h8 => k0_hw324.1 k0_h8
theorem k0_idx648_inb : ∀ (v115 : BitVec 32) (v136 : IVec S16 32) (v139 : IVec S16 32) (v148 : IVec S16 32) (k0_hw324 : k0_chk324 v115 v136 v139 v148), ∀ (k0_h8 : k0_cond8 v115 = 1#1), ∀ a x, ((![v148, v136] : Fin 2 → IVec S16 32) a x).toNat < S64x512.size a := fun v115 v136 v139 v148 k0_hw324 k0_h8 => k0_hw324.2 k0_h8

def k0_chk325 (v115 : BitVec 32) (v136 : IVec S16 32) (v139 : IVec S16 32) (v150 : IVec S16 32) : Prop :=
  (∀ (k0_h8 : k0_cond8 v115 = 1#1), ∀ a x, ((![v139, v150] : Fin 2 → IVec S16 32) a x).toNat < S48x128.size a) ∧
  (∀ (k0_h8 : k0_cond8 v115 = 1#1), ∀ a x, ((![v150, v136] : Fin 2 → IVec S16 32) a x).toNat < S64x512.size a)
theorem k0_idx649_inb : ∀ (v115 : BitVec 32) (v136 : IVec S16 32) (v139 : IVec S16 32) (v150 : IVec S16 32) (k0_hw325 : k0_chk325 v115 v136 v139 v150), ∀ (k0_h8 : k0_cond8 v115 = 1#1), ∀ a x, ((![v139, v150] : Fin 2 → IVec S16 32) a x).toNat < S48x128.size a := fun v115 v136 v139 v150 k0_hw325 k0_h8 => k0_hw325.1 k0_h8
theorem k0_idx650_inb : ∀ (v115 : BitVec 32) (v136 : IVec S16 32) (v139 : IVec S16 32) (v150 : IVec S16 32) (k0_hw325 : k0_chk325 v115 v136 v139 v150), ∀ (k0_h8 : k0_cond8 v115 = 1#1), ∀ a x, ((![v150, v136] : Fin 2 → IVec S16 32) a x).toNat < S64x512.size a := fun v115 v136 v139 v150 k0_hw325 k0_h8 => k0_hw325.2 k0_h8

def k0_chk326 (v115 : BitVec 32) (v136 : IVec S16 32) (v139 : IVec S16 32) (v152 : IVec S16 32) : Prop :=
  (∀ (k0_h8 : k0_cond8 v115 = 1#1), ∀ a x, ((![v139, v152] : Fin 2 → IVec S16 32) a x).toNat < S48x128.size a) ∧
  (∀ (k0_h8 : k0_cond8 v115 = 1#1), ∀ a x, ((![v152, v136] : Fin 2 → IVec S16 32) a x).toNat < S64x512.size a)
theorem k0_idx651_inb : ∀ (v115 : BitVec 32) (v136 : IVec S16 32) (v139 : IVec S16 32) (v152 : IVec S16 32) (k0_hw326 : k0_chk326 v115 v136 v139 v152), ∀ (k0_h8 : k0_cond8 v115 = 1#1), ∀ a x, ((![v139, v152] : Fin 2 → IVec S16 32) a x).toNat < S48x128.size a := fun v115 v136 v139 v152 k0_hw326 k0_h8 => k0_hw326.1 k0_h8
theorem k0_idx652_inb : ∀ (v115 : BitVec 32) (v136 : IVec S16 32) (v139 : IVec S16 32) (v152 : IVec S16 32) (k0_hw326 : k0_chk326 v115 v136 v139 v152), ∀ (k0_h8 : k0_cond8 v115 = 1#1), ∀ a x, ((![v152, v136] : Fin 2 → IVec S16 32) a x).toNat < S64x512.size a := fun v115 v136 v139 v152 k0_hw326 k0_h8 => k0_hw326.2 k0_h8

def k0_chk327 (v115 : BitVec 32) (v136 : IVec S16 32) (v139 : IVec S16 32) (v154 : IVec S16 32) : Prop :=
  (∀ (k0_h8 : k0_cond8 v115 = 1#1), ∀ a x, ((![v139, v154] : Fin 2 → IVec S16 32) a x).toNat < S48x128.size a) ∧
  (∀ (k0_h8 : k0_cond8 v115 = 1#1), ∀ a x, ((![v154, v136] : Fin 2 → IVec S16 32) a x).toNat < S64x512.size a)
theorem k0_idx653_inb : ∀ (v115 : BitVec 32) (v136 : IVec S16 32) (v139 : IVec S16 32) (v154 : IVec S16 32) (k0_hw327 : k0_chk327 v115 v136 v139 v154), ∀ (k0_h8 : k0_cond8 v115 = 1#1), ∀ a x, ((![v139, v154] : Fin 2 → IVec S16 32) a x).toNat < S48x128.size a := fun v115 v136 v139 v154 k0_hw327 k0_h8 => k0_hw327.1 k0_h8
theorem k0_idx654_inb : ∀ (v115 : BitVec 32) (v136 : IVec S16 32) (v139 : IVec S16 32) (v154 : IVec S16 32) (k0_hw327 : k0_chk327 v115 v136 v139 v154), ∀ (k0_h8 : k0_cond8 v115 = 1#1), ∀ a x, ((![v154, v136] : Fin 2 → IVec S16 32) a x).toNat < S64x512.size a := fun v115 v136 v139 v154 k0_hw327 k0_h8 => k0_hw327.2 k0_h8

def k0_chk328 (v115 : BitVec 32) (v136 : IVec S16 32) (v139 : IVec S16 32) (v156 : IVec S16 32) : Prop :=
  (∀ (k0_h8 : k0_cond8 v115 = 1#1), ∀ a x, ((![v139, v156] : Fin 2 → IVec S16 32) a x).toNat < S48x128.size a) ∧
  (∀ (k0_h8 : k0_cond8 v115 = 1#1), ∀ a x, ((![v156, v136] : Fin 2 → IVec S16 32) a x).toNat < S64x512.size a)
theorem k0_idx655_inb : ∀ (v115 : BitVec 32) (v136 : IVec S16 32) (v139 : IVec S16 32) (v156 : IVec S16 32) (k0_hw328 : k0_chk328 v115 v136 v139 v156), ∀ (k0_h8 : k0_cond8 v115 = 1#1), ∀ a x, ((![v139, v156] : Fin 2 → IVec S16 32) a x).toNat < S48x128.size a := fun v115 v136 v139 v156 k0_hw328 k0_h8 => k0_hw328.1 k0_h8
theorem k0_idx656_inb : ∀ (v115 : BitVec 32) (v136 : IVec S16 32) (v139 : IVec S16 32) (v156 : IVec S16 32) (k0_hw328 : k0_chk328 v115 v136 v139 v156), ∀ (k0_h8 : k0_cond8 v115 = 1#1), ∀ a x, ((![v156, v136] : Fin 2 → IVec S16 32) a x).toNat < S64x512.size a := fun v115 v136 v139 v156 k0_hw328 k0_h8 => k0_hw328.2 k0_h8

def k0_chk329 (v115 : BitVec 32) (v136 : IVec S16 32) (v139 : IVec S16 32) (v158 : IVec S16 32) : Prop :=
  (∀ (k0_h8 : k0_cond8 v115 = 1#1), ∀ a x, ((![v139, v158] : Fin 2 → IVec S16 32) a x).toNat < S48x128.size a) ∧
  (∀ (k0_h8 : k0_cond8 v115 = 1#1), ∀ a x, ((![v158, v136] : Fin 2 → IVec S16 32) a x).toNat < S64x512.size a)
theorem k0_idx657_inb : ∀ (v115 : BitVec 32) (v136 : IVec S16 32) (v139 : IVec S16 32) (v158 : IVec S16 32) (k0_hw329 : k0_chk329 v115 v136 v139 v158), ∀ (k0_h8 : k0_cond8 v115 = 1#1), ∀ a x, ((![v139, v158] : Fin 2 → IVec S16 32) a x).toNat < S48x128.size a := fun v115 v136 v139 v158 k0_hw329 k0_h8 => k0_hw329.1 k0_h8
theorem k0_idx658_inb : ∀ (v115 : BitVec 32) (v136 : IVec S16 32) (v139 : IVec S16 32) (v158 : IVec S16 32) (k0_hw329 : k0_chk329 v115 v136 v139 v158), ∀ (k0_h8 : k0_cond8 v115 = 1#1), ∀ a x, ((![v158, v136] : Fin 2 → IVec S16 32) a x).toNat < S64x512.size a := fun v115 v136 v139 v158 k0_hw329 k0_h8 => k0_hw329.2 k0_h8

def k0_chk330 (v115 : BitVec 32) (v136 : IVec S16 32) (v139 : IVec S16 32) (v160 : IVec S16 32) : Prop :=
  (∀ (k0_h8 : k0_cond8 v115 = 1#1), ∀ a x, ((![v139, v160] : Fin 2 → IVec S16 32) a x).toNat < S48x128.size a) ∧
  (∀ (k0_h8 : k0_cond8 v115 = 1#1), ∀ a x, ((![v160, v136] : Fin 2 → IVec S16 32) a x).toNat < S64x512.size a)
theorem k0_idx659_inb : ∀ (v115 : BitVec 32) (v136 : IVec S16 32) (v139 : IVec S16 32) (v160 : IVec S16 32) (k0_hw330 : k0_chk330 v115 v136 v139 v160), ∀ (k0_h8 : k0_cond8 v115 = 1#1), ∀ a x, ((![v139, v160] : Fin 2 → IVec S16 32) a x).toNat < S48x128.size a := fun v115 v136 v139 v160 k0_hw330 k0_h8 => k0_hw330.1 k0_h8
theorem k0_idx660_inb : ∀ (v115 : BitVec 32) (v136 : IVec S16 32) (v139 : IVec S16 32) (v160 : IVec S16 32) (k0_hw330 : k0_chk330 v115 v136 v139 v160), ∀ (k0_h8 : k0_cond8 v115 = 1#1), ∀ a x, ((![v160, v136] : Fin 2 → IVec S16 32) a x).toNat < S64x512.size a := fun v115 v136 v139 v160 k0_hw330 k0_h8 => k0_hw330.2 k0_h8

def k0_chk331 (v115 : BitVec 32) (v136 : IVec S16 32) (v139 : IVec S16 32) (v162 : IVec S16 32) : Prop :=
  (∀ (k0_h8 : k0_cond8 v115 = 1#1), ∀ a x, ((![v139, v162] : Fin 2 → IVec S16 32) a x).toNat < S48x128.size a) ∧
  (∀ (k0_h8 : k0_cond8 v115 = 1#1), ∀ a x, ((![v162, v136] : Fin 2 → IVec S16 32) a x).toNat < S64x512.size a)
theorem k0_idx661_inb : ∀ (v115 : BitVec 32) (v136 : IVec S16 32) (v139 : IVec S16 32) (v162 : IVec S16 32) (k0_hw331 : k0_chk331 v115 v136 v139 v162), ∀ (k0_h8 : k0_cond8 v115 = 1#1), ∀ a x, ((![v139, v162] : Fin 2 → IVec S16 32) a x).toNat < S48x128.size a := fun v115 v136 v139 v162 k0_hw331 k0_h8 => k0_hw331.1 k0_h8
theorem k0_idx662_inb : ∀ (v115 : BitVec 32) (v136 : IVec S16 32) (v139 : IVec S16 32) (v162 : IVec S16 32) (k0_hw331 : k0_chk331 v115 v136 v139 v162), ∀ (k0_h8 : k0_cond8 v115 = 1#1), ∀ a x, ((![v162, v136] : Fin 2 → IVec S16 32) a x).toNat < S64x512.size a := fun v115 v136 v139 v162 k0_hw331 k0_h8 => k0_hw331.2 k0_h8

def k0_chk332 (v115 : BitVec 32) (v136 : IVec S16 32) (v139 : IVec S16 32) (v164 : IVec S16 32) : Prop :=
  (∀ (k0_h8 : k0_cond8 v115 = 1#1), ∀ a x, ((![v139, v164] : Fin 2 → IVec S16 32) a x).toNat < S48x128.size a) ∧
  (∀ (k0_h8 : k0_cond8 v115 = 1#1), ∀ a x, ((![v164, v136] : Fin 2 → IVec S16 32) a x).toNat < S64x512.size a)
theorem k0_idx663_inb : ∀ (v115 : BitVec 32) (v136 : IVec S16 32) (v139 : IVec S16 32) (v164 : IVec S16 32) (k0_hw332 : k0_chk332 v115 v136 v139 v164), ∀ (k0_h8 : k0_cond8 v115 = 1#1), ∀ a x, ((![v139, v164] : Fin 2 → IVec S16 32) a x).toNat < S48x128.size a := fun v115 v136 v139 v164 k0_hw332 k0_h8 => k0_hw332.1 k0_h8
theorem k0_idx664_inb : ∀ (v115 : BitVec 32) (v136 : IVec S16 32) (v139 : IVec S16 32) (v164 : IVec S16 32) (k0_hw332 : k0_chk332 v115 v136 v139 v164), ∀ (k0_h8 : k0_cond8 v115 = 1#1), ∀ a x, ((![v164, v136] : Fin 2 → IVec S16 32) a x).toNat < S64x512.size a := fun v115 v136 v139 v164 k0_hw332 k0_h8 => k0_hw332.2 k0_h8

def k0_chk333 (v115 : BitVec 32) (v136 : IVec S16 32) (v139 : IVec S16 32) (v166 : IVec S16 32) : Prop :=
  (∀ (k0_h8 : k0_cond8 v115 = 1#1), ∀ a x, ((![v139, v166] : Fin 2 → IVec S16 32) a x).toNat < S48x128.size a) ∧
  (∀ (k0_h8 : k0_cond8 v115 = 1#1), ∀ a x, ((![v166, v136] : Fin 2 → IVec S16 32) a x).toNat < S64x512.size a)
theorem k0_idx665_inb : ∀ (v115 : BitVec 32) (v136 : IVec S16 32) (v139 : IVec S16 32) (v166 : IVec S16 32) (k0_hw333 : k0_chk333 v115 v136 v139 v166), ∀ (k0_h8 : k0_cond8 v115 = 1#1), ∀ a x, ((![v139, v166] : Fin 2 → IVec S16 32) a x).toNat < S48x128.size a := fun v115 v136 v139 v166 k0_hw333 k0_h8 => k0_hw333.1 k0_h8
theorem k0_idx666_inb : ∀ (v115 : BitVec 32) (v136 : IVec S16 32) (v139 : IVec S16 32) (v166 : IVec S16 32) (k0_hw333 : k0_chk333 v115 v136 v139 v166), ∀ (k0_h8 : k0_cond8 v115 = 1#1), ∀ a x, ((![v166, v136] : Fin 2 → IVec S16 32) a x).toNat < S64x512.size a := fun v115 v136 v139 v166 k0_hw333 k0_h8 => k0_hw333.2 k0_h8

def k0_chk334 (v115 : BitVec 32) (v136 : IVec S16 32) (v139 : IVec S16 32) (v168 : IVec S16 32) : Prop :=
  (∀ (k0_h8 : k0_cond8 v115 = 1#1), ∀ a x, ((![v139, v168] : Fin 2 → IVec S16 32) a x).toNat < S48x128.size a) ∧
  (∀ (k0_h8 : k0_cond8 v115 = 1#1), ∀ a x, ((![v168, v136] : Fin 2 → IVec S16 32) a x).toNat < S64x512.size a)
theorem k0_idx667_inb : ∀ (v115 : BitVec 32) (v136 : IVec S16 32) (v139 : IVec S16 32) (v168 : IVec S16 32) (k0_hw334 : k0_chk334 v115 v136 v139 v168), ∀ (k0_h8 : k0_cond8 v115 = 1#1), ∀ a x, ((![v139, v168] : Fin 2 → IVec S16 32) a x).toNat < S48x128.size a := fun v115 v136 v139 v168 k0_hw334 k0_h8 => k0_hw334.1 k0_h8
theorem k0_idx668_inb : ∀ (v115 : BitVec 32) (v136 : IVec S16 32) (v139 : IVec S16 32) (v168 : IVec S16 32) (k0_hw334 : k0_chk334 v115 v136 v139 v168), ∀ (k0_h8 : k0_cond8 v115 = 1#1), ∀ a x, ((![v168, v136] : Fin 2 → IVec S16 32) a x).toNat < S64x512.size a := fun v115 v136 v139 v168 k0_hw334 k0_h8 => k0_hw334.2 k0_h8

def k0_chk335 (v115 : BitVec 32) (v136 : IVec S16 32) (v139 : IVec S16 32) (v170 : IVec S16 32) : Prop :=
  (∀ (k0_h8 : k0_cond8 v115 = 1#1), ∀ a x, ((![v139, v170] : Fin 2 → IVec S16 32) a x).toNat < S48x128.size a) ∧
  (∀ (k0_h8 : k0_cond8 v115 = 1#1), ∀ a x, ((![v170, v136] : Fin 2 → IVec S16 32) a x).toNat < S64x512.size a)
theorem k0_idx669_inb : ∀ (v115 : BitVec 32) (v136 : IVec S16 32) (v139 : IVec S16 32) (v170 : IVec S16 32) (k0_hw335 : k0_chk335 v115 v136 v139 v170), ∀ (k0_h8 : k0_cond8 v115 = 1#1), ∀ a x, ((![v139, v170] : Fin 2 → IVec S16 32) a x).toNat < S48x128.size a := fun v115 v136 v139 v170 k0_hw335 k0_h8 => k0_hw335.1 k0_h8
theorem k0_idx670_inb : ∀ (v115 : BitVec 32) (v136 : IVec S16 32) (v139 : IVec S16 32) (v170 : IVec S16 32) (k0_hw335 : k0_chk335 v115 v136 v139 v170), ∀ (k0_h8 : k0_cond8 v115 = 1#1), ∀ a x, ((![v170, v136] : Fin 2 → IVec S16 32) a x).toNat < S64x512.size a := fun v115 v136 v139 v170 k0_hw335 k0_h8 => k0_hw335.2 k0_h8

def k0_chk336 (v115 : BitVec 32) (v136 : IVec S16 32) (v139 : IVec S16 32) (v172 : IVec S16 32) : Prop :=
  (∀ (k0_h8 : k0_cond8 v115 = 1#1), ∀ a x, ((![v139, v172] : Fin 2 → IVec S16 32) a x).toNat < S48x128.size a) ∧
  (∀ (k0_h8 : k0_cond8 v115 = 1#1), ∀ a x, ((![v172, v136] : Fin 2 → IVec S16 32) a x).toNat < S64x512.size a)
theorem k0_idx671_inb : ∀ (v115 : BitVec 32) (v136 : IVec S16 32) (v139 : IVec S16 32) (v172 : IVec S16 32) (k0_hw336 : k0_chk336 v115 v136 v139 v172), ∀ (k0_h8 : k0_cond8 v115 = 1#1), ∀ a x, ((![v139, v172] : Fin 2 → IVec S16 32) a x).toNat < S48x128.size a := fun v115 v136 v139 v172 k0_hw336 k0_h8 => k0_hw336.1 k0_h8
theorem k0_idx672_inb : ∀ (v115 : BitVec 32) (v136 : IVec S16 32) (v139 : IVec S16 32) (v172 : IVec S16 32) (k0_hw336 : k0_chk336 v115 v136 v139 v172), ∀ (k0_h8 : k0_cond8 v115 = 1#1), ∀ a x, ((![v172, v136] : Fin 2 → IVec S16 32) a x).toNat < S64x512.size a := fun v115 v136 v139 v172 k0_hw336 k0_h8 => k0_hw336.2 k0_h8

def k0_chk337 (v115 : BitVec 32) (v136 : IVec S16 32) (v139 : IVec S16 32) (v174 : IVec S16 32) : Prop :=
  (∀ (k0_h8 : k0_cond8 v115 = 1#1), ∀ a x, ((![v139, v174] : Fin 2 → IVec S16 32) a x).toNat < S48x128.size a) ∧
  (∀ (k0_h8 : k0_cond8 v115 = 1#1), ∀ a x, ((![v174, v136] : Fin 2 → IVec S16 32) a x).toNat < S64x512.size a)
theorem k0_idx673_inb : ∀ (v115 : BitVec 32) (v136 : IVec S16 32) (v139 : IVec S16 32) (v174 : IVec S16 32) (k0_hw337 : k0_chk337 v115 v136 v139 v174), ∀ (k0_h8 : k0_cond8 v115 = 1#1), ∀ a x, ((![v139, v174] : Fin 2 → IVec S16 32) a x).toNat < S48x128.size a := fun v115 v136 v139 v174 k0_hw337 k0_h8 => k0_hw337.1 k0_h8
theorem k0_idx674_inb : ∀ (v115 : BitVec 32) (v136 : IVec S16 32) (v139 : IVec S16 32) (v174 : IVec S16 32) (k0_hw337 : k0_chk337 v115 v136 v139 v174), ∀ (k0_h8 : k0_cond8 v115 = 1#1), ∀ a x, ((![v174, v136] : Fin 2 → IVec S16 32) a x).toNat < S64x512.size a := fun v115 v136 v139 v174 k0_hw337 k0_h8 => k0_hw337.2 k0_h8

def k0_chk338 (v115 : BitVec 32) (v136 : IVec S16 32) (v139 : IVec S16 32) (v176 : IVec S16 32) : Prop :=
  (∀ (k0_h8 : k0_cond8 v115 = 1#1), ∀ a x, ((![v139, v176] : Fin 2 → IVec S16 32) a x).toNat < S48x128.size a) ∧
  (∀ (k0_h8 : k0_cond8 v115 = 1#1), ∀ a x, ((![v176, v136] : Fin 2 → IVec S16 32) a x).toNat < S64x512.size a)
theorem k0_idx675_inb : ∀ (v115 : BitVec 32) (v136 : IVec S16 32) (v139 : IVec S16 32) (v176 : IVec S16 32) (k0_hw338 : k0_chk338 v115 v136 v139 v176), ∀ (k0_h8 : k0_cond8 v115 = 1#1), ∀ a x, ((![v139, v176] : Fin 2 → IVec S16 32) a x).toNat < S48x128.size a := fun v115 v136 v139 v176 k0_hw338 k0_h8 => k0_hw338.1 k0_h8
theorem k0_idx676_inb : ∀ (v115 : BitVec 32) (v136 : IVec S16 32) (v139 : IVec S16 32) (v176 : IVec S16 32) (k0_hw338 : k0_chk338 v115 v136 v139 v176), ∀ (k0_h8 : k0_cond8 v115 = 1#1), ∀ a x, ((![v176, v136] : Fin 2 → IVec S16 32) a x).toNat < S64x512.size a := fun v115 v136 v139 v176 k0_hw338 k0_h8 => k0_hw338.2 k0_h8

def k0_chk339 (v115 : BitVec 32) (v136 : IVec S16 32) (v139 : IVec S16 32) (v178 : IVec S16 32) : Prop :=
  (∀ (k0_h8 : k0_cond8 v115 = 1#1), ∀ a x, ((![v139, v178] : Fin 2 → IVec S16 32) a x).toNat < S48x128.size a) ∧
  (∀ (k0_h8 : k0_cond8 v115 = 1#1), ∀ a x, ((![v178, v136] : Fin 2 → IVec S16 32) a x).toNat < S64x512.size a)
theorem k0_idx677_inb : ∀ (v115 : BitVec 32) (v136 : IVec S16 32) (v139 : IVec S16 32) (v178 : IVec S16 32) (k0_hw339 : k0_chk339 v115 v136 v139 v178), ∀ (k0_h8 : k0_cond8 v115 = 1#1), ∀ a x, ((![v139, v178] : Fin 2 → IVec S16 32) a x).toNat < S48x128.size a := fun v115 v136 v139 v178 k0_hw339 k0_h8 => k0_hw339.1 k0_h8
theorem k0_idx678_inb : ∀ (v115 : BitVec 32) (v136 : IVec S16 32) (v139 : IVec S16 32) (v178 : IVec S16 32) (k0_hw339 : k0_chk339 v115 v136 v139 v178), ∀ (k0_h8 : k0_cond8 v115 = 1#1), ∀ a x, ((![v178, v136] : Fin 2 → IVec S16 32) a x).toNat < S64x512.size a := fun v115 v136 v139 v178 k0_hw339 k0_h8 => k0_hw339.2 k0_h8

def k0_chk340 (v115 : BitVec 32) (v136 : IVec S16 32) (v139 : IVec S16 32) (v180 : IVec S16 32) : Prop :=
  (∀ (k0_h8 : k0_cond8 v115 = 1#1), ∀ a x, ((![v139, v180] : Fin 2 → IVec S16 32) a x).toNat < S48x128.size a) ∧
  (∀ (k0_h8 : k0_cond8 v115 = 1#1), ∀ a x, ((![v180, v136] : Fin 2 → IVec S16 32) a x).toNat < S64x512.size a)
theorem k0_idx679_inb : ∀ (v115 : BitVec 32) (v136 : IVec S16 32) (v139 : IVec S16 32) (v180 : IVec S16 32) (k0_hw340 : k0_chk340 v115 v136 v139 v180), ∀ (k0_h8 : k0_cond8 v115 = 1#1), ∀ a x, ((![v139, v180] : Fin 2 → IVec S16 32) a x).toNat < S48x128.size a := fun v115 v136 v139 v180 k0_hw340 k0_h8 => k0_hw340.1 k0_h8
theorem k0_idx680_inb : ∀ (v115 : BitVec 32) (v136 : IVec S16 32) (v139 : IVec S16 32) (v180 : IVec S16 32) (k0_hw340 : k0_chk340 v115 v136 v139 v180), ∀ (k0_h8 : k0_cond8 v115 = 1#1), ∀ a x, ((![v180, v136] : Fin 2 → IVec S16 32) a x).toNat < S64x512.size a := fun v115 v136 v139 v180 k0_hw340 k0_h8 => k0_hw340.2 k0_h8

def k0_chk341 (v115 : BitVec 32) (v136 : IVec S16 32) (v139 : IVec S16 32) (v182 : IVec S16 32) : Prop :=
  (∀ (k0_h8 : k0_cond8 v115 = 1#1), ∀ a x, ((![v139, v182] : Fin 2 → IVec S16 32) a x).toNat < S48x128.size a) ∧
  (∀ (k0_h8 : k0_cond8 v115 = 1#1), ∀ a x, ((![v182, v136] : Fin 2 → IVec S16 32) a x).toNat < S64x512.size a)
theorem k0_idx681_inb : ∀ (v115 : BitVec 32) (v136 : IVec S16 32) (v139 : IVec S16 32) (v182 : IVec S16 32) (k0_hw341 : k0_chk341 v115 v136 v139 v182), ∀ (k0_h8 : k0_cond8 v115 = 1#1), ∀ a x, ((![v139, v182] : Fin 2 → IVec S16 32) a x).toNat < S48x128.size a := fun v115 v136 v139 v182 k0_hw341 k0_h8 => k0_hw341.1 k0_h8
theorem k0_idx682_inb : ∀ (v115 : BitVec 32) (v136 : IVec S16 32) (v139 : IVec S16 32) (v182 : IVec S16 32) (k0_hw341 : k0_chk341 v115 v136 v139 v182), ∀ (k0_h8 : k0_cond8 v115 = 1#1), ∀ a x, ((![v182, v136] : Fin 2 → IVec S16 32) a x).toNat < S64x512.size a := fun v115 v136 v139 v182 k0_hw341 k0_h8 => k0_hw341.2 k0_h8

def k0_chk342 (v115 : BitVec 32) (v136 : IVec S16 32) (v139 : IVec S16 32) (v184 : IVec S16 32) : Prop :=
  (∀ (k0_h8 : k0_cond8 v115 = 1#1), ∀ a x, ((![v139, v184] : Fin 2 → IVec S16 32) a x).toNat < S48x128.size a) ∧
  (∀ (k0_h8 : k0_cond8 v115 = 1#1), ∀ a x, ((![v184, v136] : Fin 2 → IVec S16 32) a x).toNat < S64x512.size a)
theorem k0_idx683_inb : ∀ (v115 : BitVec 32) (v136 : IVec S16 32) (v139 : IVec S16 32) (v184 : IVec S16 32) (k0_hw342 : k0_chk342 v115 v136 v139 v184), ∀ (k0_h8 : k0_cond8 v115 = 1#1), ∀ a x, ((![v139, v184] : Fin 2 → IVec S16 32) a x).toNat < S48x128.size a := fun v115 v136 v139 v184 k0_hw342 k0_h8 => k0_hw342.1 k0_h8
theorem k0_idx684_inb : ∀ (v115 : BitVec 32) (v136 : IVec S16 32) (v139 : IVec S16 32) (v184 : IVec S16 32) (k0_hw342 : k0_chk342 v115 v136 v139 v184), ∀ (k0_h8 : k0_cond8 v115 = 1#1), ∀ a x, ((![v184, v136] : Fin 2 → IVec S16 32) a x).toNat < S64x512.size a := fun v115 v136 v139 v184 k0_hw342 k0_h8 => k0_hw342.2 k0_h8

def k0_chk343 (v115 : BitVec 32) (v136 : IVec S16 32) (v139 : IVec S16 32) (v186 : IVec S16 32) : Prop :=
  (∀ (k0_h8 : k0_cond8 v115 = 1#1), ∀ a x, ((![v139, v186] : Fin 2 → IVec S16 32) a x).toNat < S48x128.size a) ∧
  (∀ (k0_h8 : k0_cond8 v115 = 1#1), ∀ a x, ((![v186, v136] : Fin 2 → IVec S16 32) a x).toNat < S64x512.size a)
theorem k0_idx685_inb : ∀ (v115 : BitVec 32) (v136 : IVec S16 32) (v139 : IVec S16 32) (v186 : IVec S16 32) (k0_hw343 : k0_chk343 v115 v136 v139 v186), ∀ (k0_h8 : k0_cond8 v115 = 1#1), ∀ a x, ((![v139, v186] : Fin 2 → IVec S16 32) a x).toNat < S48x128.size a := fun v115 v136 v139 v186 k0_hw343 k0_h8 => k0_hw343.1 k0_h8
theorem k0_idx686_inb : ∀ (v115 : BitVec 32) (v136 : IVec S16 32) (v139 : IVec S16 32) (v186 : IVec S16 32) (k0_hw343 : k0_chk343 v115 v136 v139 v186), ∀ (k0_h8 : k0_cond8 v115 = 1#1), ∀ a x, ((![v186, v136] : Fin 2 → IVec S16 32) a x).toNat < S64x512.size a := fun v115 v136 v139 v186 k0_hw343 k0_h8 => k0_hw343.2 k0_h8

def k0_chk344 (v115 : BitVec 32) (v136 : IVec S16 32) (v139 : IVec S16 32) (v188 : IVec S16 32) : Prop :=
  (∀ (k0_h8 : k0_cond8 v115 = 1#1), ∀ a x, ((![v139, v188] : Fin 2 → IVec S16 32) a x).toNat < S48x128.size a) ∧
  (∀ (k0_h8 : k0_cond8 v115 = 1#1), ∀ a x, ((![v188, v136] : Fin 2 → IVec S16 32) a x).toNat < S64x512.size a)
theorem k0_idx687_inb : ∀ (v115 : BitVec 32) (v136 : IVec S16 32) (v139 : IVec S16 32) (v188 : IVec S16 32) (k0_hw344 : k0_chk344 v115 v136 v139 v188), ∀ (k0_h8 : k0_cond8 v115 = 1#1), ∀ a x, ((![v139, v188] : Fin 2 → IVec S16 32) a x).toNat < S48x128.size a := fun v115 v136 v139 v188 k0_hw344 k0_h8 => k0_hw344.1 k0_h8
theorem k0_idx688_inb : ∀ (v115 : BitVec 32) (v136 : IVec S16 32) (v139 : IVec S16 32) (v188 : IVec S16 32) (k0_hw344 : k0_chk344 v115 v136 v139 v188), ∀ (k0_h8 : k0_cond8 v115 = 1#1), ∀ a x, ((![v188, v136] : Fin 2 → IVec S16 32) a x).toNat < S64x512.size a := fun v115 v136 v139 v188 k0_hw344 k0_h8 => k0_hw344.2 k0_h8

def k0_chk345 (v115 : BitVec 32) (v136 : IVec S16 32) (v139 : IVec S16 32) (v190 : IVec S16 32) : Prop :=
  (∀ (k0_h8 : k0_cond8 v115 = 1#1), ∀ a x, ((![v139, v190] : Fin 2 → IVec S16 32) a x).toNat < S48x128.size a) ∧
  (∀ (k0_h8 : k0_cond8 v115 = 1#1), ∀ a x, ((![v190, v136] : Fin 2 → IVec S16 32) a x).toNat < S64x512.size a)
theorem k0_idx689_inb : ∀ (v115 : BitVec 32) (v136 : IVec S16 32) (v139 : IVec S16 32) (v190 : IVec S16 32) (k0_hw345 : k0_chk345 v115 v136 v139 v190), ∀ (k0_h8 : k0_cond8 v115 = 1#1), ∀ a x, ((![v139, v190] : Fin 2 → IVec S16 32) a x).toNat < S48x128.size a := fun v115 v136 v139 v190 k0_hw345 k0_h8 => k0_hw345.1 k0_h8
theorem k0_idx690_inb : ∀ (v115 : BitVec 32) (v136 : IVec S16 32) (v139 : IVec S16 32) (v190 : IVec S16 32) (k0_hw345 : k0_chk345 v115 v136 v139 v190), ∀ (k0_h8 : k0_cond8 v115 = 1#1), ∀ a x, ((![v190, v136] : Fin 2 → IVec S16 32) a x).toNat < S64x512.size a := fun v115 v136 v139 v190 k0_hw345 k0_h8 => k0_hw345.2 k0_h8

def k0_chk346 (v115 : BitVec 32) (v136 : IVec S16 32) (v139 : IVec S16 32) (v192 : IVec S16 32) : Prop :=
  (∀ (k0_h8 : k0_cond8 v115 = 1#1), ∀ a x, ((![v139, v192] : Fin 2 → IVec S16 32) a x).toNat < S48x128.size a) ∧
  (∀ (k0_h8 : k0_cond8 v115 = 1#1), ∀ a x, ((![v192, v136] : Fin 2 → IVec S16 32) a x).toNat < S64x512.size a)
theorem k0_idx691_inb : ∀ (v115 : BitVec 32) (v136 : IVec S16 32) (v139 : IVec S16 32) (v192 : IVec S16 32) (k0_hw346 : k0_chk346 v115 v136 v139 v192), ∀ (k0_h8 : k0_cond8 v115 = 1#1), ∀ a x, ((![v139, v192] : Fin 2 → IVec S16 32) a x).toNat < S48x128.size a := fun v115 v136 v139 v192 k0_hw346 k0_h8 => k0_hw346.1 k0_h8
theorem k0_idx692_inb : ∀ (v115 : BitVec 32) (v136 : IVec S16 32) (v139 : IVec S16 32) (v192 : IVec S16 32) (k0_hw346 : k0_chk346 v115 v136 v139 v192), ∀ (k0_h8 : k0_cond8 v115 = 1#1), ∀ a x, ((![v192, v136] : Fin 2 → IVec S16 32) a x).toNat < S64x512.size a := fun v115 v136 v139 v192 k0_hw346 k0_h8 => k0_hw346.2 k0_h8

def k0_chk347 (v115 : BitVec 32) (v136 : IVec S16 32) (v139 : IVec S16 32) (v194 : IVec S16 32) : Prop :=
  (∀ (k0_h8 : k0_cond8 v115 = 1#1), ∀ a x, ((![v139, v194] : Fin 2 → IVec S16 32) a x).toNat < S48x128.size a) ∧
  (∀ (k0_h8 : k0_cond8 v115 = 1#1), ∀ a x, ((![v194, v136] : Fin 2 → IVec S16 32) a x).toNat < S64x512.size a)
theorem k0_idx693_inb : ∀ (v115 : BitVec 32) (v136 : IVec S16 32) (v139 : IVec S16 32) (v194 : IVec S16 32) (k0_hw347 : k0_chk347 v115 v136 v139 v194), ∀ (k0_h8 : k0_cond8 v115 = 1#1), ∀ a x, ((![v139, v194] : Fin 2 → IVec S16 32) a x).toNat < S48x128.size a := fun v115 v136 v139 v194 k0_hw347 k0_h8 => k0_hw347.1 k0_h8
theorem k0_idx694_inb : ∀ (v115 : BitVec 32) (v136 : IVec S16 32) (v139 : IVec S16 32) (v194 : IVec S16 32) (k0_hw347 : k0_chk347 v115 v136 v139 v194), ∀ (k0_h8 : k0_cond8 v115 = 1#1), ∀ a x, ((![v194, v136] : Fin 2 → IVec S16 32) a x).toNat < S64x512.size a := fun v115 v136 v139 v194 k0_hw347 k0_h8 => k0_hw347.2 k0_h8

def k0_chk348 (v115 : BitVec 32) (v136 : IVec S16 32) (v139 : IVec S16 32) (v196 : IVec S16 32) : Prop :=
  (∀ (k0_h8 : k0_cond8 v115 = 1#1), ∀ a x, ((![v139, v196] : Fin 2 → IVec S16 32) a x).toNat < S48x128.size a) ∧
  (∀ (k0_h8 : k0_cond8 v115 = 1#1), ∀ a x, ((![v196, v136] : Fin 2 → IVec S16 32) a x).toNat < S64x512.size a)
theorem k0_idx695_inb : ∀ (v115 : BitVec 32) (v136 : IVec S16 32) (v139 : IVec S16 32) (v196 : IVec S16 32) (k0_hw348 : k0_chk348 v115 v136 v139 v196), ∀ (k0_h8 : k0_cond8 v115 = 1#1), ∀ a x, ((![v139, v196] : Fin 2 → IVec S16 32) a x).toNat < S48x128.size a := fun v115 v136 v139 v196 k0_hw348 k0_h8 => k0_hw348.1 k0_h8
theorem k0_idx696_inb : ∀ (v115 : BitVec 32) (v136 : IVec S16 32) (v139 : IVec S16 32) (v196 : IVec S16 32) (k0_hw348 : k0_chk348 v115 v136 v139 v196), ∀ (k0_h8 : k0_cond8 v115 = 1#1), ∀ a x, ((![v196, v136] : Fin 2 → IVec S16 32) a x).toNat < S64x512.size a := fun v115 v136 v139 v196 k0_hw348 k0_h8 => k0_hw348.2 k0_h8

def k0_chk349 (v115 : BitVec 32) (v136 : IVec S16 32) (v139 : IVec S16 32) (v198 : IVec S16 32) : Prop :=
  (∀ (k0_h8 : k0_cond8 v115 = 1#1), ∀ a x, ((![v139, v198] : Fin 2 → IVec S16 32) a x).toNat < S48x128.size a) ∧
  (∀ (k0_h8 : k0_cond8 v115 = 1#1), ∀ a x, ((![v198, v136] : Fin 2 → IVec S16 32) a x).toNat < S64x512.size a)
theorem k0_idx697_inb : ∀ (v115 : BitVec 32) (v136 : IVec S16 32) (v139 : IVec S16 32) (v198 : IVec S16 32) (k0_hw349 : k0_chk349 v115 v136 v139 v198), ∀ (k0_h8 : k0_cond8 v115 = 1#1), ∀ a x, ((![v139, v198] : Fin 2 → IVec S16 32) a x).toNat < S48x128.size a := fun v115 v136 v139 v198 k0_hw349 k0_h8 => k0_hw349.1 k0_h8
theorem k0_idx698_inb : ∀ (v115 : BitVec 32) (v136 : IVec S16 32) (v139 : IVec S16 32) (v198 : IVec S16 32) (k0_hw349 : k0_chk349 v115 v136 v139 v198), ∀ (k0_h8 : k0_cond8 v115 = 1#1), ∀ a x, ((![v198, v136] : Fin 2 → IVec S16 32) a x).toNat < S64x512.size a := fun v115 v136 v139 v198 k0_hw349 k0_h8 => k0_hw349.2 k0_h8

def k0_chk350 (v115 : BitVec 32) (v136 : IVec S16 32) (v139 : IVec S16 32) (v200 : IVec S16 32) : Prop :=
  (∀ (k0_h8 : k0_cond8 v115 = 1#1), ∀ a x, ((![v139, v200] : Fin 2 → IVec S16 32) a x).toNat < S48x128.size a) ∧
  (∀ (k0_h8 : k0_cond8 v115 = 1#1), ∀ a x, ((![v200, v136] : Fin 2 → IVec S16 32) a x).toNat < S64x512.size a)
theorem k0_idx699_inb : ∀ (v115 : BitVec 32) (v136 : IVec S16 32) (v139 : IVec S16 32) (v200 : IVec S16 32) (k0_hw350 : k0_chk350 v115 v136 v139 v200), ∀ (k0_h8 : k0_cond8 v115 = 1#1), ∀ a x, ((![v139, v200] : Fin 2 → IVec S16 32) a x).toNat < S48x128.size a := fun v115 v136 v139 v200 k0_hw350 k0_h8 => k0_hw350.1 k0_h8
theorem k0_idx700_inb : ∀ (v115 : BitVec 32) (v136 : IVec S16 32) (v139 : IVec S16 32) (v200 : IVec S16 32) (k0_hw350 : k0_chk350 v115 v136 v139 v200), ∀ (k0_h8 : k0_cond8 v115 = 1#1), ∀ a x, ((![v200, v136] : Fin 2 → IVec S16 32) a x).toNat < S64x512.size a := fun v115 v136 v139 v200 k0_hw350 k0_h8 => k0_hw350.2 k0_h8

def k0_chk351 (v115 : BitVec 32) (v136 : IVec S16 32) (v139 : IVec S16 32) (v202 : IVec S16 32) : Prop :=
  (∀ (k0_h8 : k0_cond8 v115 = 1#1), ∀ a x, ((![v139, v202] : Fin 2 → IVec S16 32) a x).toNat < S48x128.size a) ∧
  (∀ (k0_h8 : k0_cond8 v115 = 1#1), ∀ a x, ((![v202, v136] : Fin 2 → IVec S16 32) a x).toNat < S64x512.size a)
theorem k0_idx701_inb : ∀ (v115 : BitVec 32) (v136 : IVec S16 32) (v139 : IVec S16 32) (v202 : IVec S16 32) (k0_hw351 : k0_chk351 v115 v136 v139 v202), ∀ (k0_h8 : k0_cond8 v115 = 1#1), ∀ a x, ((![v139, v202] : Fin 2 → IVec S16 32) a x).toNat < S48x128.size a := fun v115 v136 v139 v202 k0_hw351 k0_h8 => k0_hw351.1 k0_h8
theorem k0_idx702_inb : ∀ (v115 : BitVec 32) (v136 : IVec S16 32) (v139 : IVec S16 32) (v202 : IVec S16 32) (k0_hw351 : k0_chk351 v115 v136 v139 v202), ∀ (k0_h8 : k0_cond8 v115 = 1#1), ∀ a x, ((![v202, v136] : Fin 2 → IVec S16 32) a x).toNat < S64x512.size a := fun v115 v136 v139 v202 k0_hw351 k0_h8 => k0_hw351.2 k0_h8

def k0_chk352 (v115 : BitVec 32) (v136 : IVec S16 32) (v139 : IVec S16 32) (v204 : IVec S16 32) : Prop :=
  (∀ (k0_h8 : k0_cond8 v115 = 1#1), ∀ a x, ((![v139, v204] : Fin 2 → IVec S16 32) a x).toNat < S48x128.size a) ∧
  (∀ (k0_h8 : k0_cond8 v115 = 1#1), ∀ a x, ((![v204, v136] : Fin 2 → IVec S16 32) a x).toNat < S64x512.size a)
theorem k0_idx703_inb : ∀ (v115 : BitVec 32) (v136 : IVec S16 32) (v139 : IVec S16 32) (v204 : IVec S16 32) (k0_hw352 : k0_chk352 v115 v136 v139 v204), ∀ (k0_h8 : k0_cond8 v115 = 1#1), ∀ a x, ((![v139, v204] : Fin 2 → IVec S16 32) a x).toNat < S48x128.size a := fun v115 v136 v139 v204 k0_hw352 k0_h8 => k0_hw352.1 k0_h8
theorem k0_idx704_inb : ∀ (v115 : BitVec 32) (v136 : IVec S16 32) (v139 : IVec S16 32) (v204 : IVec S16 32) (k0_hw352 : k0_chk352 v115 v136 v139 v204), ∀ (k0_h8 : k0_cond8 v115 = 1#1), ∀ a x, ((![v204, v136] : Fin 2 → IVec S16 32) a x).toNat < S64x512.size a := fun v115 v136 v139 v204 k0_hw352 k0_h8 => k0_hw352.2 k0_h8

def k0_chk353 (v115 : BitVec 32) (v136 : IVec S16 32) (v139 : IVec S16 32) (v206 : IVec S16 32) : Prop :=
  (∀ (k0_h8 : k0_cond8 v115 = 1#1), ∀ a x, ((![v139, v206] : Fin 2 → IVec S16 32) a x).toNat < S48x128.size a) ∧
  (∀ (k0_h8 : k0_cond8 v115 = 1#1), ∀ a x, ((![v206, v136] : Fin 2 → IVec S16 32) a x).toNat < S64x512.size a)
theorem k0_idx705_inb : ∀ (v115 : BitVec 32) (v136 : IVec S16 32) (v139 : IVec S16 32) (v206 : IVec S16 32) (k0_hw353 : k0_chk353 v115 v136 v139 v206), ∀ (k0_h8 : k0_cond8 v115 = 1#1), ∀ a x, ((![v139, v206] : Fin 2 → IVec S16 32) a x).toNat < S48x128.size a := fun v115 v136 v139 v206 k0_hw353 k0_h8 => k0_hw353.1 k0_h8
theorem k0_idx706_inb : ∀ (v115 : BitVec 32) (v136 : IVec S16 32) (v139 : IVec S16 32) (v206 : IVec S16 32) (k0_hw353 : k0_chk353 v115 v136 v139 v206), ∀ (k0_h8 : k0_cond8 v115 = 1#1), ∀ a x, ((![v206, v136] : Fin 2 → IVec S16 32) a x).toNat < S64x512.size a := fun v115 v136 v139 v206 k0_hw353 k0_h8 => k0_hw353.2 k0_h8

def k0_chk354 (v115 : BitVec 32) (v136 : IVec S16 32) (v139 : IVec S16 32) (v208 : IVec S16 32) : Prop :=
  (∀ (k0_h8 : k0_cond8 v115 = 1#1), ∀ a x, ((![v139, v208] : Fin 2 → IVec S16 32) a x).toNat < S48x128.size a) ∧
  (∀ (k0_h8 : k0_cond8 v115 = 1#1), ∀ a x, ((![v208, v136] : Fin 2 → IVec S16 32) a x).toNat < S64x512.size a)
theorem k0_idx707_inb : ∀ (v115 : BitVec 32) (v136 : IVec S16 32) (v139 : IVec S16 32) (v208 : IVec S16 32) (k0_hw354 : k0_chk354 v115 v136 v139 v208), ∀ (k0_h8 : k0_cond8 v115 = 1#1), ∀ a x, ((![v139, v208] : Fin 2 → IVec S16 32) a x).toNat < S48x128.size a := fun v115 v136 v139 v208 k0_hw354 k0_h8 => k0_hw354.1 k0_h8
theorem k0_idx708_inb : ∀ (v115 : BitVec 32) (v136 : IVec S16 32) (v139 : IVec S16 32) (v208 : IVec S16 32) (k0_hw354 : k0_chk354 v115 v136 v139 v208), ∀ (k0_h8 : k0_cond8 v115 = 1#1), ∀ a x, ((![v208, v136] : Fin 2 → IVec S16 32) a x).toNat < S64x512.size a := fun v115 v136 v139 v208 k0_hw354 k0_h8 => k0_hw354.2 k0_h8

def k0_chk355 (v115 : BitVec 32) (v136 : IVec S16 32) (v139 : IVec S16 32) (v210 : IVec S16 32) : Prop :=
  (∀ (k0_h8 : k0_cond8 v115 = 1#1), ∀ a x, ((![v139, v210] : Fin 2 → IVec S16 32) a x).toNat < S48x128.size a) ∧
  (∀ (k0_h8 : k0_cond8 v115 = 1#1), ∀ a x, ((![v210, v136] : Fin 2 → IVec S16 32) a x).toNat < S64x512.size a)
theorem k0_idx709_inb : ∀ (v115 : BitVec 32) (v136 : IVec S16 32) (v139 : IVec S16 32) (v210 : IVec S16 32) (k0_hw355 : k0_chk355 v115 v136 v139 v210), ∀ (k0_h8 : k0_cond8 v115 = 1#1), ∀ a x, ((![v139, v210] : Fin 2 → IVec S16 32) a x).toNat < S48x128.size a := fun v115 v136 v139 v210 k0_hw355 k0_h8 => k0_hw355.1 k0_h8
theorem k0_idx710_inb : ∀ (v115 : BitVec 32) (v136 : IVec S16 32) (v139 : IVec S16 32) (v210 : IVec S16 32) (k0_hw355 : k0_chk355 v115 v136 v139 v210), ∀ (k0_h8 : k0_cond8 v115 = 1#1), ∀ a x, ((![v210, v136] : Fin 2 → IVec S16 32) a x).toNat < S64x512.size a := fun v115 v136 v139 v210 k0_hw355 k0_h8 => k0_hw355.2 k0_h8

def k0_chk356 (v115 : BitVec 32) (v136 : IVec S16 32) (v139 : IVec S16 32) (v212 : IVec S16 32) : Prop :=
  (∀ (k0_h8 : k0_cond8 v115 = 1#1), ∀ a x, ((![v139, v212] : Fin 2 → IVec S16 32) a x).toNat < S48x128.size a) ∧
  (∀ (k0_h8 : k0_cond8 v115 = 1#1), ∀ a x, ((![v212, v136] : Fin 2 → IVec S16 32) a x).toNat < S64x512.size a)
theorem k0_idx711_inb : ∀ (v115 : BitVec 32) (v136 : IVec S16 32) (v139 : IVec S16 32) (v212 : IVec S16 32) (k0_hw356 : k0_chk356 v115 v136 v139 v212), ∀ (k0_h8 : k0_cond8 v115 = 1#1), ∀ a x, ((![v139, v212] : Fin 2 → IVec S16 32) a x).toNat < S48x128.size a := fun v115 v136 v139 v212 k0_hw356 k0_h8 => k0_hw356.1 k0_h8
theorem k0_idx712_inb : ∀ (v115 : BitVec 32) (v136 : IVec S16 32) (v139 : IVec S16 32) (v212 : IVec S16 32) (k0_hw356 : k0_chk356 v115 v136 v139 v212), ∀ (k0_h8 : k0_cond8 v115 = 1#1), ∀ a x, ((![v212, v136] : Fin 2 → IVec S16 32) a x).toNat < S64x512.size a := fun v115 v136 v139 v212 k0_hw356 k0_h8 => k0_hw356.2 k0_h8

def k0_chk357 (v115 : BitVec 32) (v136 : IVec S16 32) (v139 : IVec S16 32) (v214 : IVec S16 32) : Prop :=
  (∀ (k0_h8 : k0_cond8 v115 = 1#1), ∀ a x, ((![v139, v214] : Fin 2 → IVec S16 32) a x).toNat < S48x128.size a) ∧
  (∀ (k0_h8 : k0_cond8 v115 = 1#1), ∀ a x, ((![v214, v136] : Fin 2 → IVec S16 32) a x).toNat < S64x512.size a)
theorem k0_idx713_inb : ∀ (v115 : BitVec 32) (v136 : IVec S16 32) (v139 : IVec S16 32) (v214 : IVec S16 32) (k0_hw357 : k0_chk357 v115 v136 v139 v214), ∀ (k0_h8 : k0_cond8 v115 = 1#1), ∀ a x, ((![v139, v214] : Fin 2 → IVec S16 32) a x).toNat < S48x128.size a := fun v115 v136 v139 v214 k0_hw357 k0_h8 => k0_hw357.1 k0_h8
theorem k0_idx714_inb : ∀ (v115 : BitVec 32) (v136 : IVec S16 32) (v139 : IVec S16 32) (v214 : IVec S16 32) (k0_hw357 : k0_chk357 v115 v136 v139 v214), ∀ (k0_h8 : k0_cond8 v115 = 1#1), ∀ a x, ((![v214, v136] : Fin 2 → IVec S16 32) a x).toNat < S64x512.size a := fun v115 v136 v139 v214 k0_hw357 k0_h8 => k0_hw357.2 k0_h8

def k0_chk358 (v115 : BitVec 32) (v136 : IVec S16 32) (v139 : IVec S16 32) (v216 : IVec S16 32) : Prop :=
  (∀ (k0_h8 : k0_cond8 v115 = 1#1), ∀ a x, ((![v139, v216] : Fin 2 → IVec S16 32) a x).toNat < S48x128.size a) ∧
  (∀ (k0_h8 : k0_cond8 v115 = 1#1), ∀ a x, ((![v216, v136] : Fin 2 → IVec S16 32) a x).toNat < S64x512.size a)
theorem k0_idx715_inb : ∀ (v115 : BitVec 32) (v136 : IVec S16 32) (v139 : IVec S16 32) (v216 : IVec S16 32) (k0_hw358 : k0_chk358 v115 v136 v139 v216), ∀ (k0_h8 : k0_cond8 v115 = 1#1), ∀ a x, ((![v139, v216] : Fin 2 → IVec S16 32) a x).toNat < S48x128.size a := fun v115 v136 v139 v216 k0_hw358 k0_h8 => k0_hw358.1 k0_h8
theorem k0_idx716_inb : ∀ (v115 : BitVec 32) (v136 : IVec S16 32) (v139 : IVec S16 32) (v216 : IVec S16 32) (k0_hw358 : k0_chk358 v115 v136 v139 v216), ∀ (k0_h8 : k0_cond8 v115 = 1#1), ∀ a x, ((![v216, v136] : Fin 2 → IVec S16 32) a x).toNat < S64x512.size a := fun v115 v136 v139 v216 k0_hw358 k0_h8 => k0_hw358.2 k0_h8

def k0_chk359 (v115 : BitVec 32) (v136 : IVec S16 32) (v139 : IVec S16 32) (v218 : IVec S16 32) : Prop :=
  (∀ (k0_h8 : k0_cond8 v115 = 1#1), ∀ a x, ((![v139, v218] : Fin 2 → IVec S16 32) a x).toNat < S48x128.size a) ∧
  (∀ (k0_h8 : k0_cond8 v115 = 1#1), ∀ a x, ((![v218, v136] : Fin 2 → IVec S16 32) a x).toNat < S64x512.size a)
theorem k0_idx717_inb : ∀ (v115 : BitVec 32) (v136 : IVec S16 32) (v139 : IVec S16 32) (v218 : IVec S16 32) (k0_hw359 : k0_chk359 v115 v136 v139 v218), ∀ (k0_h8 : k0_cond8 v115 = 1#1), ∀ a x, ((![v139, v218] : Fin 2 → IVec S16 32) a x).toNat < S48x128.size a := fun v115 v136 v139 v218 k0_hw359 k0_h8 => k0_hw359.1 k0_h8
theorem k0_idx718_inb : ∀ (v115 : BitVec 32) (v136 : IVec S16 32) (v139 : IVec S16 32) (v218 : IVec S16 32) (k0_hw359 : k0_chk359 v115 v136 v139 v218), ∀ (k0_h8 : k0_cond8 v115 = 1#1), ∀ a x, ((![v218, v136] : Fin 2 → IVec S16 32) a x).toNat < S64x512.size a := fun v115 v136 v139 v218 k0_hw359 k0_h8 => k0_hw359.2 k0_h8

def k0_chk360 (v115 : BitVec 32) (v136 : IVec S16 32) (v139 : IVec S16 32) (v220 : IVec S16 32) : Prop :=
  (∀ (k0_h8 : k0_cond8 v115 = 1#1), ∀ a x, ((![v139, v220] : Fin 2 → IVec S16 32) a x).toNat < S48x128.size a) ∧
  (∀ (k0_h8 : k0_cond8 v115 = 1#1), ∀ a x, ((![v220, v136] : Fin 2 → IVec S16 32) a x).toNat < S64x512.size a)
theorem k0_idx719_inb : ∀ (v115 : BitVec 32) (v136 : IVec S16 32) (v139 : IVec S16 32) (v220 : IVec S16 32) (k0_hw360 : k0_chk360 v115 v136 v139 v220), ∀ (k0_h8 : k0_cond8 v115 = 1#1), ∀ a x, ((![v139, v220] : Fin 2 → IVec S16 32) a x).toNat < S48x128.size a := fun v115 v136 v139 v220 k0_hw360 k0_h8 => k0_hw360.1 k0_h8
theorem k0_idx720_inb : ∀ (v115 : BitVec 32) (v136 : IVec S16 32) (v139 : IVec S16 32) (v220 : IVec S16 32) (k0_hw360 : k0_chk360 v115 v136 v139 v220), ∀ (k0_h8 : k0_cond8 v115 = 1#1), ∀ a x, ((![v220, v136] : Fin 2 → IVec S16 32) a x).toNat < S64x512.size a := fun v115 v136 v139 v220 k0_hw360 k0_h8 => k0_hw360.2 k0_h8

def k0_chk361 (v115 : BitVec 32) (v136 : IVec S16 32) (v139 : IVec S16 32) (v222 : IVec S16 32) : Prop :=
  (∀ (k0_h8 : k0_cond8 v115 = 1#1), ∀ a x, ((![v139, v222] : Fin 2 → IVec S16 32) a x).toNat < S48x128.size a) ∧
  (∀ (k0_h8 : k0_cond8 v115 = 1#1), ∀ a x, ((![v222, v136] : Fin 2 → IVec S16 32) a x).toNat < S64x512.size a)
theorem k0_idx721_inb : ∀ (v115 : BitVec 32) (v136 : IVec S16 32) (v139 : IVec S16 32) (v222 : IVec S16 32) (k0_hw361 : k0_chk361 v115 v136 v139 v222), ∀ (k0_h8 : k0_cond8 v115 = 1#1), ∀ a x, ((![v139, v222] : Fin 2 → IVec S16 32) a x).toNat < S48x128.size a := fun v115 v136 v139 v222 k0_hw361 k0_h8 => k0_hw361.1 k0_h8
theorem k0_idx722_inb : ∀ (v115 : BitVec 32) (v136 : IVec S16 32) (v139 : IVec S16 32) (v222 : IVec S16 32) (k0_hw361 : k0_chk361 v115 v136 v139 v222), ∀ (k0_h8 : k0_cond8 v115 = 1#1), ∀ a x, ((![v222, v136] : Fin 2 → IVec S16 32) a x).toNat < S64x512.size a := fun v115 v136 v139 v222 k0_hw361 k0_h8 => k0_hw361.2 k0_h8

def k0_chk362 (v115 : BitVec 32) (v136 : IVec S16 32) (v139 : IVec S16 32) (v224 : IVec S16 32) : Prop :=
  (∀ (k0_h8 : k0_cond8 v115 = 1#1), ∀ a x, ((![v139, v224] : Fin 2 → IVec S16 32) a x).toNat < S48x128.size a) ∧
  (∀ (k0_h8 : k0_cond8 v115 = 1#1), ∀ a x, ((![v224, v136] : Fin 2 → IVec S16 32) a x).toNat < S64x512.size a)
theorem k0_idx723_inb : ∀ (v115 : BitVec 32) (v136 : IVec S16 32) (v139 : IVec S16 32) (v224 : IVec S16 32) (k0_hw362 : k0_chk362 v115 v136 v139 v224), ∀ (k0_h8 : k0_cond8 v115 = 1#1), ∀ a x, ((![v139, v224] : Fin 2 → IVec S16 32) a x).toNat < S48x128.size a := fun v115 v136 v139 v224 k0_hw362 k0_h8 => k0_hw362.1 k0_h8
theorem k0_idx724_inb : ∀ (v115 : BitVec 32) (v136 : IVec S16 32) (v139 : IVec S16 32) (v224 : IVec S16 32) (k0_hw362 : k0_chk362 v115 v136 v139 v224), ∀ (k0_h8 : k0_cond8 v115 = 1#1), ∀ a x, ((![v224, v136] : Fin 2 → IVec S16 32) a x).toNat < S64x512.size a := fun v115 v136 v139 v224 k0_hw362 k0_h8 => k0_hw362.2 k0_h8

def k0_chk363 (v115 : BitVec 32) (v136 : IVec S16 32) (v139 : IVec S16 32) (v226 : IVec S16 32) : Prop :=
  (∀ (k0_h8 : k0_cond8 v115 = 1#1), ∀ a x, ((![v139, v226] : Fin 2 → IVec S16 32) a x).toNat < S48x128.size a) ∧
  (∀ (k0_h8 : k0_cond8 v115 = 1#1), ∀ a x, ((![v226, v136] : Fin 2 → IVec S16 32) a x).toNat < S64x512.size a)
theorem k0_idx725_inb : ∀ (v115 : BitVec 32) (v136 : IVec S16 32) (v139 : IVec S16 32) (v226 : IVec S16 32) (k0_hw363 : k0_chk363 v115 v136 v139 v226), ∀ (k0_h8 : k0_cond8 v115 = 1#1), ∀ a x, ((![v139, v226] : Fin 2 → IVec S16 32) a x).toNat < S48x128.size a := fun v115 v136 v139 v226 k0_hw363 k0_h8 => k0_hw363.1 k0_h8
theorem k0_idx726_inb : ∀ (v115 : BitVec 32) (v136 : IVec S16 32) (v139 : IVec S16 32) (v226 : IVec S16 32) (k0_hw363 : k0_chk363 v115 v136 v139 v226), ∀ (k0_h8 : k0_cond8 v115 = 1#1), ∀ a x, ((![v226, v136] : Fin 2 → IVec S16 32) a x).toNat < S64x512.size a := fun v115 v136 v139 v226 k0_hw363 k0_h8 => k0_hw363.2 k0_h8

def k0_chk364 (v115 : BitVec 32) (v136 : IVec S16 32) (v139 : IVec S16 32) (v228 : IVec S16 32) : Prop :=
  (∀ (k0_h8 : k0_cond8 v115 = 1#1), ∀ a x, ((![v139, v228] : Fin 2 → IVec S16 32) a x).toNat < S48x128.size a) ∧
  (∀ (k0_h8 : k0_cond8 v115 = 1#1), ∀ a x, ((![v228, v136] : Fin 2 → IVec S16 32) a x).toNat < S64x512.size a)
theorem k0_idx727_inb : ∀ (v115 : BitVec 32) (v136 : IVec S16 32) (v139 : IVec S16 32) (v228 : IVec S16 32) (k0_hw364 : k0_chk364 v115 v136 v139 v228), ∀ (k0_h8 : k0_cond8 v115 = 1#1), ∀ a x, ((![v139, v228] : Fin 2 → IVec S16 32) a x).toNat < S48x128.size a := fun v115 v136 v139 v228 k0_hw364 k0_h8 => k0_hw364.1 k0_h8
theorem k0_idx728_inb : ∀ (v115 : BitVec 32) (v136 : IVec S16 32) (v139 : IVec S16 32) (v228 : IVec S16 32) (k0_hw364 : k0_chk364 v115 v136 v139 v228), ∀ (k0_h8 : k0_cond8 v115 = 1#1), ∀ a x, ((![v228, v136] : Fin 2 → IVec S16 32) a x).toNat < S64x512.size a := fun v115 v136 v139 v228 k0_hw364 k0_h8 => k0_hw364.2 k0_h8

def k0_chk365 (v115 : BitVec 32) (v136 : IVec S16 32) (v139 : IVec S16 32) (v230 : IVec S16 32) : Prop :=
  (∀ (k0_h8 : k0_cond8 v115 = 1#1), ∀ a x, ((![v139, v230] : Fin 2 → IVec S16 32) a x).toNat < S48x128.size a) ∧
  (∀ (k0_h8 : k0_cond8 v115 = 1#1), ∀ a x, ((![v230, v136] : Fin 2 → IVec S16 32) a x).toNat < S64x512.size a)
theorem k0_idx729_inb : ∀ (v115 : BitVec 32) (v136 : IVec S16 32) (v139 : IVec S16 32) (v230 : IVec S16 32) (k0_hw365 : k0_chk365 v115 v136 v139 v230), ∀ (k0_h8 : k0_cond8 v115 = 1#1), ∀ a x, ((![v139, v230] : Fin 2 → IVec S16 32) a x).toNat < S48x128.size a := fun v115 v136 v139 v230 k0_hw365 k0_h8 => k0_hw365.1 k0_h8
theorem k0_idx730_inb : ∀ (v115 : BitVec 32) (v136 : IVec S16 32) (v139 : IVec S16 32) (v230 : IVec S16 32) (k0_hw365 : k0_chk365 v115 v136 v139 v230), ∀ (k0_h8 : k0_cond8 v115 = 1#1), ∀ a x, ((![v230, v136] : Fin 2 → IVec S16 32) a x).toNat < S64x512.size a := fun v115 v136 v139 v230 k0_hw365 k0_h8 => k0_hw365.2 k0_h8

def k0_chk366 (v115 : BitVec 32) (v136 : IVec S16 32) (v139 : IVec S16 32) (v232 : IVec S16 32) : Prop :=
  (∀ (k0_h8 : k0_cond8 v115 = 1#1), ∀ a x, ((![v139, v232] : Fin 2 → IVec S16 32) a x).toNat < S48x128.size a) ∧
  (∀ (k0_h8 : k0_cond8 v115 = 1#1), ∀ a x, ((![v232, v136] : Fin 2 → IVec S16 32) a x).toNat < S64x512.size a)
theorem k0_idx731_inb : ∀ (v115 : BitVec 32) (v136 : IVec S16 32) (v139 : IVec S16 32) (v232 : IVec S16 32) (k0_hw366 : k0_chk366 v115 v136 v139 v232), ∀ (k0_h8 : k0_cond8 v115 = 1#1), ∀ a x, ((![v139, v232] : Fin 2 → IVec S16 32) a x).toNat < S48x128.size a := fun v115 v136 v139 v232 k0_hw366 k0_h8 => k0_hw366.1 k0_h8
theorem k0_idx732_inb : ∀ (v115 : BitVec 32) (v136 : IVec S16 32) (v139 : IVec S16 32) (v232 : IVec S16 32) (k0_hw366 : k0_chk366 v115 v136 v139 v232), ∀ (k0_h8 : k0_cond8 v115 = 1#1), ∀ a x, ((![v232, v136] : Fin 2 → IVec S16 32) a x).toNat < S64x512.size a := fun v115 v136 v139 v232 k0_hw366 k0_h8 => k0_hw366.2 k0_h8

def k0_chk367 (v115 : BitVec 32) (v136 : IVec S16 32) (v139 : IVec S16 32) (v234 : IVec S16 32) : Prop :=
  (∀ (k0_h8 : k0_cond8 v115 = 1#1), ∀ a x, ((![v139, v234] : Fin 2 → IVec S16 32) a x).toNat < S48x128.size a) ∧
  (∀ (k0_h8 : k0_cond8 v115 = 1#1), ∀ a x, ((![v234, v136] : Fin 2 → IVec S16 32) a x).toNat < S64x512.size a)
theorem k0_idx733_inb : ∀ (v115 : BitVec 32) (v136 : IVec S16 32) (v139 : IVec S16 32) (v234 : IVec S16 32) (k0_hw367 : k0_chk367 v115 v136 v139 v234), ∀ (k0_h8 : k0_cond8 v115 = 1#1), ∀ a x, ((![v139, v234] : Fin 2 → IVec S16 32) a x).toNat < S48x128.size a := fun v115 v136 v139 v234 k0_hw367 k0_h8 => k0_hw367.1 k0_h8
theorem k0_idx734_inb : ∀ (v115 : BitVec 32) (v136 : IVec S16 32) (v139 : IVec S16 32) (v234 : IVec S16 32) (k0_hw367 : k0_chk367 v115 v136 v139 v234), ∀ (k0_h8 : k0_cond8 v115 = 1#1), ∀ a x, ((![v234, v136] : Fin 2 → IVec S16 32) a x).toNat < S64x512.size a := fun v115 v136 v139 v234 k0_hw367 k0_h8 => k0_hw367.2 k0_h8

def k0_chk368 (v115 : BitVec 32) (v136 : IVec S16 32) (v139 : IVec S16 32) (v236 : IVec S16 32) : Prop :=
  (∀ (k0_h8 : k0_cond8 v115 = 1#1), ∀ a x, ((![v139, v236] : Fin 2 → IVec S16 32) a x).toNat < S48x128.size a) ∧
  (∀ (k0_h8 : k0_cond8 v115 = 1#1), ∀ a x, ((![v236, v136] : Fin 2 → IVec S16 32) a x).toNat < S64x512.size a)
theorem k0_idx735_inb : ∀ (v115 : BitVec 32) (v136 : IVec S16 32) (v139 : IVec S16 32) (v236 : IVec S16 32) (k0_hw368 : k0_chk368 v115 v136 v139 v236), ∀ (k0_h8 : k0_cond8 v115 = 1#1), ∀ a x, ((![v139, v236] : Fin 2 → IVec S16 32) a x).toNat < S48x128.size a := fun v115 v136 v139 v236 k0_hw368 k0_h8 => k0_hw368.1 k0_h8
theorem k0_idx736_inb : ∀ (v115 : BitVec 32) (v136 : IVec S16 32) (v139 : IVec S16 32) (v236 : IVec S16 32) (k0_hw368 : k0_chk368 v115 v136 v139 v236), ∀ (k0_h8 : k0_cond8 v115 = 1#1), ∀ a x, ((![v236, v136] : Fin 2 → IVec S16 32) a x).toNat < S64x512.size a := fun v115 v136 v139 v236 k0_hw368 k0_h8 => k0_hw368.2 k0_h8

def k0_chk369 (v115 : BitVec 32) (v136 : IVec S16 32) (v139 : IVec S16 32) (v238 : IVec S16 32) : Prop :=
  (∀ (k0_h8 : k0_cond8 v115 = 1#1), ∀ a x, ((![v139, v238] : Fin 2 → IVec S16 32) a x).toNat < S48x128.size a) ∧
  (∀ (k0_h8 : k0_cond8 v115 = 1#1), ∀ a x, ((![v238, v136] : Fin 2 → IVec S16 32) a x).toNat < S64x512.size a)
theorem k0_idx737_inb : ∀ (v115 : BitVec 32) (v136 : IVec S16 32) (v139 : IVec S16 32) (v238 : IVec S16 32) (k0_hw369 : k0_chk369 v115 v136 v139 v238), ∀ (k0_h8 : k0_cond8 v115 = 1#1), ∀ a x, ((![v139, v238] : Fin 2 → IVec S16 32) a x).toNat < S48x128.size a := fun v115 v136 v139 v238 k0_hw369 k0_h8 => k0_hw369.1 k0_h8
theorem k0_idx738_inb : ∀ (v115 : BitVec 32) (v136 : IVec S16 32) (v139 : IVec S16 32) (v238 : IVec S16 32) (k0_hw369 : k0_chk369 v115 v136 v139 v238), ∀ (k0_h8 : k0_cond8 v115 = 1#1), ∀ a x, ((![v238, v136] : Fin 2 → IVec S16 32) a x).toNat < S64x512.size a := fun v115 v136 v139 v238 k0_hw369 k0_h8 => k0_hw369.2 k0_h8

def k0_chk370 (v115 : BitVec 32) (v136 : IVec S16 32) (v139 : IVec S16 32) (v240 : IVec S16 32) : Prop :=
  (∀ (k0_h8 : k0_cond8 v115 = 1#1), ∀ a x, ((![v139, v240] : Fin 2 → IVec S16 32) a x).toNat < S48x128.size a) ∧
  (∀ (k0_h8 : k0_cond8 v115 = 1#1), ∀ a x, ((![v240, v136] : Fin 2 → IVec S16 32) a x).toNat < S64x512.size a)
theorem k0_idx739_inb : ∀ (v115 : BitVec 32) (v136 : IVec S16 32) (v139 : IVec S16 32) (v240 : IVec S16 32) (k0_hw370 : k0_chk370 v115 v136 v139 v240), ∀ (k0_h8 : k0_cond8 v115 = 1#1), ∀ a x, ((![v139, v240] : Fin 2 → IVec S16 32) a x).toNat < S48x128.size a := fun v115 v136 v139 v240 k0_hw370 k0_h8 => k0_hw370.1 k0_h8
theorem k0_idx740_inb : ∀ (v115 : BitVec 32) (v136 : IVec S16 32) (v139 : IVec S16 32) (v240 : IVec S16 32) (k0_hw370 : k0_chk370 v115 v136 v139 v240), ∀ (k0_h8 : k0_cond8 v115 = 1#1), ∀ a x, ((![v240, v136] : Fin 2 → IVec S16 32) a x).toNat < S64x512.size a := fun v115 v136 v139 v240 k0_hw370 k0_h8 => k0_hw370.2 k0_h8

def k0_chk371 (v115 : BitVec 32) (v136 : IVec S16 32) (v139 : IVec S16 32) (v242 : IVec S16 32) : Prop :=
  (∀ (k0_h8 : k0_cond8 v115 = 1#1), ∀ a x, ((![v139, v242] : Fin 2 → IVec S16 32) a x).toNat < S48x128.size a) ∧
  (∀ (k0_h8 : k0_cond8 v115 = 1#1), ∀ a x, ((![v242, v136] : Fin 2 → IVec S16 32) a x).toNat < S64x512.size a)
theorem k0_idx741_inb : ∀ (v115 : BitVec 32) (v136 : IVec S16 32) (v139 : IVec S16 32) (v242 : IVec S16 32) (k0_hw371 : k0_chk371 v115 v136 v139 v242), ∀ (k0_h8 : k0_cond8 v115 = 1#1), ∀ a x, ((![v139, v242] : Fin 2 → IVec S16 32) a x).toNat < S48x128.size a := fun v115 v136 v139 v242 k0_hw371 k0_h8 => k0_hw371.1 k0_h8
theorem k0_idx742_inb : ∀ (v115 : BitVec 32) (v136 : IVec S16 32) (v139 : IVec S16 32) (v242 : IVec S16 32) (k0_hw371 : k0_chk371 v115 v136 v139 v242), ∀ (k0_h8 : k0_cond8 v115 = 1#1), ∀ a x, ((![v242, v136] : Fin 2 → IVec S16 32) a x).toNat < S64x512.size a := fun v115 v136 v139 v242 k0_hw371 k0_h8 => k0_hw371.2 k0_h8

def k0_chk372 (v115 : BitVec 32) (v136 : IVec S16 32) (v139 : IVec S16 32) (v244 : IVec S16 32) : Prop :=
  (∀ (k0_h8 : k0_cond8 v115 = 1#1), ∀ a x, ((![v139, v244] : Fin 2 → IVec S16 32) a x).toNat < S48x128.size a) ∧
  (∀ (k0_h8 : k0_cond8 v115 = 1#1), ∀ a x, ((![v244, v136] : Fin 2 → IVec S16 32) a x).toNat < S64x512.size a)
theorem k0_idx743_inb : ∀ (v115 : BitVec 32) (v136 : IVec S16 32) (v139 : IVec S16 32) (v244 : IVec S16 32) (k0_hw372 : k0_chk372 v115 v136 v139 v244), ∀ (k0_h8 : k0_cond8 v115 = 1#1), ∀ a x, ((![v139, v244] : Fin 2 → IVec S16 32) a x).toNat < S48x128.size a := fun v115 v136 v139 v244 k0_hw372 k0_h8 => k0_hw372.1 k0_h8
theorem k0_idx744_inb : ∀ (v115 : BitVec 32) (v136 : IVec S16 32) (v139 : IVec S16 32) (v244 : IVec S16 32) (k0_hw372 : k0_chk372 v115 v136 v139 v244), ∀ (k0_h8 : k0_cond8 v115 = 1#1), ∀ a x, ((![v244, v136] : Fin 2 → IVec S16 32) a x).toNat < S64x512.size a := fun v115 v136 v139 v244 k0_hw372 k0_h8 => k0_hw372.2 k0_h8

def k0_chk373 (v115 : BitVec 32) (v136 : IVec S16 32) (v139 : IVec S16 32) (v246 : IVec S16 32) : Prop :=
  (∀ (k0_h8 : k0_cond8 v115 = 1#1), ∀ a x, ((![v139, v246] : Fin 2 → IVec S16 32) a x).toNat < S48x128.size a) ∧
  (∀ (k0_h8 : k0_cond8 v115 = 1#1), ∀ a x, ((![v246, v136] : Fin 2 → IVec S16 32) a x).toNat < S64x512.size a)
theorem k0_idx745_inb : ∀ (v115 : BitVec 32) (v136 : IVec S16 32) (v139 : IVec S16 32) (v246 : IVec S16 32) (k0_hw373 : k0_chk373 v115 v136 v139 v246), ∀ (k0_h8 : k0_cond8 v115 = 1#1), ∀ a x, ((![v139, v246] : Fin 2 → IVec S16 32) a x).toNat < S48x128.size a := fun v115 v136 v139 v246 k0_hw373 k0_h8 => k0_hw373.1 k0_h8
theorem k0_idx746_inb : ∀ (v115 : BitVec 32) (v136 : IVec S16 32) (v139 : IVec S16 32) (v246 : IVec S16 32) (k0_hw373 : k0_chk373 v115 v136 v139 v246), ∀ (k0_h8 : k0_cond8 v115 = 1#1), ∀ a x, ((![v246, v136] : Fin 2 → IVec S16 32) a x).toNat < S64x512.size a := fun v115 v136 v139 v246 k0_hw373 k0_h8 => k0_hw373.2 k0_h8

def k0_chk374 (v115 : BitVec 32) (v136 : IVec S16 32) (v139 : IVec S16 32) (v248 : IVec S16 32) : Prop :=
  (∀ (k0_h8 : k0_cond8 v115 = 1#1), ∀ a x, ((![v139, v248] : Fin 2 → IVec S16 32) a x).toNat < S48x128.size a) ∧
  (∀ (k0_h8 : k0_cond8 v115 = 1#1), ∀ a x, ((![v248, v136] : Fin 2 → IVec S16 32) a x).toNat < S64x512.size a)
theorem k0_idx747_inb : ∀ (v115 : BitVec 32) (v136 : IVec S16 32) (v139 : IVec S16 32) (v248 : IVec S16 32) (k0_hw374 : k0_chk374 v115 v136 v139 v248), ∀ (k0_h8 : k0_cond8 v115 = 1#1), ∀ a x, ((![v139, v248] : Fin 2 → IVec S16 32) a x).toNat < S48x128.size a := fun v115 v136 v139 v248 k0_hw374 k0_h8 => k0_hw374.1 k0_h8
theorem k0_idx748_inb : ∀ (v115 : BitVec 32) (v136 : IVec S16 32) (v139 : IVec S16 32) (v248 : IVec S16 32) (k0_hw374 : k0_chk374 v115 v136 v139 v248), ∀ (k0_h8 : k0_cond8 v115 = 1#1), ∀ a x, ((![v248, v136] : Fin 2 → IVec S16 32) a x).toNat < S64x512.size a := fun v115 v136 v139 v248 k0_hw374 k0_h8 => k0_hw374.2 k0_h8

def k0_chk375 (v115 : BitVec 32) (v136 : IVec S16 32) (v139 : IVec S16 32) (v250 : IVec S16 32) : Prop :=
  (∀ (k0_h8 : k0_cond8 v115 = 1#1), ∀ a x, ((![v139, v250] : Fin 2 → IVec S16 32) a x).toNat < S48x128.size a) ∧
  (∀ (k0_h8 : k0_cond8 v115 = 1#1), ∀ a x, ((![v250, v136] : Fin 2 → IVec S16 32) a x).toNat < S64x512.size a)
theorem k0_idx749_inb : ∀ (v115 : BitVec 32) (v136 : IVec S16 32) (v139 : IVec S16 32) (v250 : IVec S16 32) (k0_hw375 : k0_chk375 v115 v136 v139 v250), ∀ (k0_h8 : k0_cond8 v115 = 1#1), ∀ a x, ((![v139, v250] : Fin 2 → IVec S16 32) a x).toNat < S48x128.size a := fun v115 v136 v139 v250 k0_hw375 k0_h8 => k0_hw375.1 k0_h8
theorem k0_idx750_inb : ∀ (v115 : BitVec 32) (v136 : IVec S16 32) (v139 : IVec S16 32) (v250 : IVec S16 32) (k0_hw375 : k0_chk375 v115 v136 v139 v250), ∀ (k0_h8 : k0_cond8 v115 = 1#1), ∀ a x, ((![v250, v136] : Fin 2 → IVec S16 32) a x).toNat < S64x512.size a := fun v115 v136 v139 v250 k0_hw375 k0_h8 => k0_hw375.2 k0_h8

def k0_chk376 (v115 : BitVec 32) (v136 : IVec S16 32) (v139 : IVec S16 32) (v252 : IVec S16 32) : Prop :=
  (∀ (k0_h8 : k0_cond8 v115 = 1#1), ∀ a x, ((![v139, v252] : Fin 2 → IVec S16 32) a x).toNat < S48x128.size a) ∧
  (∀ (k0_h8 : k0_cond8 v115 = 1#1), ∀ a x, ((![v252, v136] : Fin 2 → IVec S16 32) a x).toNat < S64x512.size a)
theorem k0_idx751_inb : ∀ (v115 : BitVec 32) (v136 : IVec S16 32) (v139 : IVec S16 32) (v252 : IVec S16 32) (k0_hw376 : k0_chk376 v115 v136 v139 v252), ∀ (k0_h8 : k0_cond8 v115 = 1#1), ∀ a x, ((![v139, v252] : Fin 2 → IVec S16 32) a x).toNat < S48x128.size a := fun v115 v136 v139 v252 k0_hw376 k0_h8 => k0_hw376.1 k0_h8
theorem k0_idx752_inb : ∀ (v115 : BitVec 32) (v136 : IVec S16 32) (v139 : IVec S16 32) (v252 : IVec S16 32) (k0_hw376 : k0_chk376 v115 v136 v139 v252), ∀ (k0_h8 : k0_cond8 v115 = 1#1), ∀ a x, ((![v252, v136] : Fin 2 → IVec S16 32) a x).toNat < S64x512.size a := fun v115 v136 v139 v252 k0_hw376 k0_h8 => k0_hw376.2 k0_h8

def k0_chk377 (v115 : BitVec 32) (v136 : IVec S16 32) (v139 : IVec S16 32) (v254 : IVec S16 32) : Prop :=
  (∀ (k0_h8 : k0_cond8 v115 = 1#1), ∀ a x, ((![v139, v254] : Fin 2 → IVec S16 32) a x).toNat < S48x128.size a) ∧
  (∀ (k0_h8 : k0_cond8 v115 = 1#1), ∀ a x, ((![v254, v136] : Fin 2 → IVec S16 32) a x).toNat < S64x512.size a)
theorem k0_idx753_inb : ∀ (v115 : BitVec 32) (v136 : IVec S16 32) (v139 : IVec S16 32) (v254 : IVec S16 32) (k0_hw377 : k0_chk377 v115 v136 v139 v254), ∀ (k0_h8 : k0_cond8 v115 = 1#1), ∀ a x, ((![v139, v254] : Fin 2 → IVec S16 32) a x).toNat < S48x128.size a := fun v115 v136 v139 v254 k0_hw377 k0_h8 => k0_hw377.1 k0_h8
theorem k0_idx754_inb : ∀ (v115 : BitVec 32) (v136 : IVec S16 32) (v139 : IVec S16 32) (v254 : IVec S16 32) (k0_hw377 : k0_chk377 v115 v136 v139 v254), ∀ (k0_h8 : k0_cond8 v115 = 1#1), ∀ a x, ((![v254, v136] : Fin 2 → IVec S16 32) a x).toNat < S64x512.size a := fun v115 v136 v139 v254 k0_hw377 k0_h8 => k0_hw377.2 k0_h8

def k0_chk378 (v115 : BitVec 32) (v136 : IVec S16 32) (v139 : IVec S16 32) (v256 : IVec S16 32) : Prop :=
  (∀ (k0_h8 : k0_cond8 v115 = 1#1), ∀ a x, ((![v139, v256] : Fin 2 → IVec S16 32) a x).toNat < S48x128.size a) ∧
  (∀ (k0_h8 : k0_cond8 v115 = 1#1), ∀ a x, ((![v256, v136] : Fin 2 → IVec S16 32) a x).toNat < S64x512.size a)
theorem k0_idx755_inb : ∀ (v115 : BitVec 32) (v136 : IVec S16 32) (v139 : IVec S16 32) (v256 : IVec S16 32) (k0_hw378 : k0_chk378 v115 v136 v139 v256), ∀ (k0_h8 : k0_cond8 v115 = 1#1), ∀ a x, ((![v139, v256] : Fin 2 → IVec S16 32) a x).toNat < S48x128.size a := fun v115 v136 v139 v256 k0_hw378 k0_h8 => k0_hw378.1 k0_h8
theorem k0_idx756_inb : ∀ (v115 : BitVec 32) (v136 : IVec S16 32) (v139 : IVec S16 32) (v256 : IVec S16 32) (k0_hw378 : k0_chk378 v115 v136 v139 v256), ∀ (k0_h8 : k0_cond8 v115 = 1#1), ∀ a x, ((![v256, v136] : Fin 2 → IVec S16 32) a x).toNat < S64x512.size a := fun v115 v136 v139 v256 k0_hw378 k0_h8 => k0_hw378.2 k0_h8

def k0_chk379 (v115 : BitVec 32) (v136 : IVec S16 32) (v139 : IVec S16 32) (v258 : IVec S16 32) : Prop :=
  (∀ (k0_h8 : k0_cond8 v115 = 1#1), ∀ a x, ((![v139, v258] : Fin 2 → IVec S16 32) a x).toNat < S48x128.size a) ∧
  (∀ (k0_h8 : k0_cond8 v115 = 1#1), ∀ a x, ((![v258, v136] : Fin 2 → IVec S16 32) a x).toNat < S64x512.size a)
theorem k0_idx757_inb : ∀ (v115 : BitVec 32) (v136 : IVec S16 32) (v139 : IVec S16 32) (v258 : IVec S16 32) (k0_hw379 : k0_chk379 v115 v136 v139 v258), ∀ (k0_h8 : k0_cond8 v115 = 1#1), ∀ a x, ((![v139, v258] : Fin 2 → IVec S16 32) a x).toNat < S48x128.size a := fun v115 v136 v139 v258 k0_hw379 k0_h8 => k0_hw379.1 k0_h8
theorem k0_idx758_inb : ∀ (v115 : BitVec 32) (v136 : IVec S16 32) (v139 : IVec S16 32) (v258 : IVec S16 32) (k0_hw379 : k0_chk379 v115 v136 v139 v258), ∀ (k0_h8 : k0_cond8 v115 = 1#1), ∀ a x, ((![v258, v136] : Fin 2 → IVec S16 32) a x).toNat < S64x512.size a := fun v115 v136 v139 v258 k0_hw379 k0_h8 => k0_hw379.2 k0_h8

def k0_chk380 (v115 : BitVec 32) (v136 : IVec S16 32) (v139 : IVec S16 32) (v260 : IVec S16 32) : Prop :=
  (∀ (k0_h8 : k0_cond8 v115 = 1#1), ∀ a x, ((![v139, v260] : Fin 2 → IVec S16 32) a x).toNat < S48x128.size a) ∧
  (∀ (k0_h8 : k0_cond8 v115 = 1#1), ∀ a x, ((![v260, v136] : Fin 2 → IVec S16 32) a x).toNat < S64x512.size a)
theorem k0_idx759_inb : ∀ (v115 : BitVec 32) (v136 : IVec S16 32) (v139 : IVec S16 32) (v260 : IVec S16 32) (k0_hw380 : k0_chk380 v115 v136 v139 v260), ∀ (k0_h8 : k0_cond8 v115 = 1#1), ∀ a x, ((![v139, v260] : Fin 2 → IVec S16 32) a x).toNat < S48x128.size a := fun v115 v136 v139 v260 k0_hw380 k0_h8 => k0_hw380.1 k0_h8
theorem k0_idx760_inb : ∀ (v115 : BitVec 32) (v136 : IVec S16 32) (v139 : IVec S16 32) (v260 : IVec S16 32) (k0_hw380 : k0_chk380 v115 v136 v139 v260), ∀ (k0_h8 : k0_cond8 v115 = 1#1), ∀ a x, ((![v260, v136] : Fin 2 → IVec S16 32) a x).toNat < S64x512.size a := fun v115 v136 v139 v260 k0_hw380 k0_h8 => k0_hw380.2 k0_h8

def k0_chk381 (v115 : BitVec 32) (v136 : IVec S16 32) (v139 : IVec S16 32) (v262 : IVec S16 32) : Prop :=
  (∀ (k0_h8 : k0_cond8 v115 = 1#1), ∀ a x, ((![v139, v262] : Fin 2 → IVec S16 32) a x).toNat < S48x128.size a) ∧
  (∀ (k0_h8 : k0_cond8 v115 = 1#1), ∀ a x, ((![v262, v136] : Fin 2 → IVec S16 32) a x).toNat < S64x512.size a)
theorem k0_idx761_inb : ∀ (v115 : BitVec 32) (v136 : IVec S16 32) (v139 : IVec S16 32) (v262 : IVec S16 32) (k0_hw381 : k0_chk381 v115 v136 v139 v262), ∀ (k0_h8 : k0_cond8 v115 = 1#1), ∀ a x, ((![v139, v262] : Fin 2 → IVec S16 32) a x).toNat < S48x128.size a := fun v115 v136 v139 v262 k0_hw381 k0_h8 => k0_hw381.1 k0_h8
theorem k0_idx762_inb : ∀ (v115 : BitVec 32) (v136 : IVec S16 32) (v139 : IVec S16 32) (v262 : IVec S16 32) (k0_hw381 : k0_chk381 v115 v136 v139 v262), ∀ (k0_h8 : k0_cond8 v115 = 1#1), ∀ a x, ((![v262, v136] : Fin 2 → IVec S16 32) a x).toNat < S64x512.size a := fun v115 v136 v139 v262 k0_hw381 k0_h8 => k0_hw381.2 k0_h8

def k0_chk382 (v115 : BitVec 32) (v136 : IVec S16 32) (v139 : IVec S16 32) (v264 : IVec S16 32) : Prop :=
  (∀ (k0_h8 : k0_cond8 v115 = 1#1), ∀ a x, ((![v139, v264] : Fin 2 → IVec S16 32) a x).toNat < S48x128.size a) ∧
  (∀ (k0_h8 : k0_cond8 v115 = 1#1), ∀ a x, ((![v264, v136] : Fin 2 → IVec S16 32) a x).toNat < S64x512.size a)
theorem k0_idx763_inb : ∀ (v115 : BitVec 32) (v136 : IVec S16 32) (v139 : IVec S16 32) (v264 : IVec S16 32) (k0_hw382 : k0_chk382 v115 v136 v139 v264), ∀ (k0_h8 : k0_cond8 v115 = 1#1), ∀ a x, ((![v139, v264] : Fin 2 → IVec S16 32) a x).toNat < S48x128.size a := fun v115 v136 v139 v264 k0_hw382 k0_h8 => k0_hw382.1 k0_h8
theorem k0_idx764_inb : ∀ (v115 : BitVec 32) (v136 : IVec S16 32) (v139 : IVec S16 32) (v264 : IVec S16 32) (k0_hw382 : k0_chk382 v115 v136 v139 v264), ∀ (k0_h8 : k0_cond8 v115 = 1#1), ∀ a x, ((![v264, v136] : Fin 2 → IVec S16 32) a x).toNat < S64x512.size a := fun v115 v136 v139 v264 k0_hw382 k0_h8 => k0_hw382.2 k0_h8

def k0_chk383 (v115 : BitVec 32) (v136 : IVec S16 32) (v139 : IVec S16 32) (v266 : IVec S16 32) : Prop :=
  (∀ (k0_h8 : k0_cond8 v115 = 1#1), ∀ a x, ((![v139, v266] : Fin 2 → IVec S16 32) a x).toNat < S48x128.size a) ∧
  (∀ (k0_h8 : k0_cond8 v115 = 1#1), ∀ a x, ((![v266, v136] : Fin 2 → IVec S16 32) a x).toNat < S64x512.size a)
theorem k0_idx765_inb : ∀ (v115 : BitVec 32) (v136 : IVec S16 32) (v139 : IVec S16 32) (v266 : IVec S16 32) (k0_hw383 : k0_chk383 v115 v136 v139 v266), ∀ (k0_h8 : k0_cond8 v115 = 1#1), ∀ a x, ((![v139, v266] : Fin 2 → IVec S16 32) a x).toNat < S48x128.size a := fun v115 v136 v139 v266 k0_hw383 k0_h8 => k0_hw383.1 k0_h8
theorem k0_idx766_inb : ∀ (v115 : BitVec 32) (v136 : IVec S16 32) (v139 : IVec S16 32) (v266 : IVec S16 32) (k0_hw383 : k0_chk383 v115 v136 v139 v266), ∀ (k0_h8 : k0_cond8 v115 = 1#1), ∀ a x, ((![v266, v136] : Fin 2 → IVec S16 32) a x).toNat < S64x512.size a := fun v115 v136 v139 v266 k0_hw383 k0_h8 => k0_hw383.2 k0_h8

def k0_chk384 (v115 : BitVec 32) (v136 : IVec S16 32) (v139 : IVec S16 32) (v268 : IVec S16 32) : Prop :=
  (∀ (k0_h8 : k0_cond8 v115 = 1#1), ∀ a x, ((![v139, v268] : Fin 2 → IVec S16 32) a x).toNat < S48x128.size a) ∧
  (∀ (k0_h8 : k0_cond8 v115 = 1#1), ∀ a x, ((![v268, v136] : Fin 2 → IVec S16 32) a x).toNat < S64x512.size a)
theorem k0_idx767_inb : ∀ (v115 : BitVec 32) (v136 : IVec S16 32) (v139 : IVec S16 32) (v268 : IVec S16 32) (k0_hw384 : k0_chk384 v115 v136 v139 v268), ∀ (k0_h8 : k0_cond8 v115 = 1#1), ∀ a x, ((![v139, v268] : Fin 2 → IVec S16 32) a x).toNat < S48x128.size a := fun v115 v136 v139 v268 k0_hw384 k0_h8 => k0_hw384.1 k0_h8
theorem k0_idx768_inb : ∀ (v115 : BitVec 32) (v136 : IVec S16 32) (v139 : IVec S16 32) (v268 : IVec S16 32) (k0_hw384 : k0_chk384 v115 v136 v139 v268), ∀ (k0_h8 : k0_cond8 v115 = 1#1), ∀ a x, ((![v268, v136] : Fin 2 → IVec S16 32) a x).toNat < S64x512.size a := fun v115 v136 v139 v268 k0_hw384 k0_h8 => k0_hw384.2 k0_h8
def k0_off19 (i : grid0.Coords) (k0_t1 : Fin k0_t1_loop.trips) : Fin 2 → Nat :=
  let c0_i32_79 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c0_i32_15 : BitVec 32 := 0#32
  let c0_i32_10 : BitVec 32 := 0#32
  let c1_i32 : BitVec 32 := 1#32
  let arg19 : BitVec 32 := Scf.iv c0_i32_10 c1_i32 k0_t1
  let c2_i32 : BitVec 32 := 2#32
  let v31 : BitVec 32 := Scalar.muli arg19 c2_i32
  let v32 : BitVec 32 := Scalar.addi c0_i32_15 v31
  let c1_i32_77 : BitVec 32 := 1#32
  let v125 : BitVec 32 := Scalar.addi v32 c1_i32_77
  let c512_i32_78 : BitVec 32 := 512#32
  let v126 : BitVec 32 := Scalar.muli v125 c512_i32_78
  let v127 : BitVec 32 := Scalar.addi v2 v126
  ![0, v127.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S524288x64 : Shape := ⟨2, ![524288, 64]⟩
abbrev S16384 : Shape := ⟨1, ![16384]⟩
abbrev S16384x64 : Shape := ⟨2, ![16384, 64]⟩
abbrev S65536 : Shape := ⟨1, ![65536]⟩
abbrev S_ : Shape := ⟨0, ![]⟩
abbrev S16384x1 : Shape := ⟨2, ![16384, 1]⟩

abbrev nBuf : Space → Nat
  | .hbm => 13
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S16384, .i32⟩
  | .hbm, ⟨2, _⟩ => ⟨S16384x64, .f32⟩
  | .hbm, ⟨3, _⟩ => ⟨S65536, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S524288x64, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Base.lean ====
/-
  The program as the launch theorem sees it, the names of its buffers, and the index helpers the other modules share:
  the call's configuration, the resource algebra, the tile's scratch memrefs, and cells of the two-axis buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the program: its one SparseCore call, no pipeline. -/
abbrev ΛP : Labels := Pipeline.Sig Λ₀ (Fin 0) fun p => (pcfgs (F := F) p).Adm
/-- The SparseCore configuration the program prints. -/
abbrev K : SparseCore.Cfg τ sig (ΛP (F := F)) 1 := sc (F := F)
/-- Its definitions. -/
abbrev D [FloatOps F] : Defs nD τ sig (Elt F) (ΛP (F := F)) := Pipeline.defs pcfgs defs₀
/-- No loop variant is named. -/
abbrev 𝒱₀ : Variants := Variants.none
abbrev 𝒱 : Variants := 𝒱₀.lift
abbrev v₀ : 𝒱.V := Sum.inl none

/-- The handshakes' rounds, and the transfers' counters. -/
abbrev UH : Type := URounds (GSem nD τ sig) ℕ
abbrev UU : Type := UH × Counters
/-- The resource algebra of the proof, at float values `F`. -/
abbrev MM (F : FTy → Type) : Type _ := MT nD τ sig (HIx 1) (Elt F) ℕ UU ℕ
abbrev EH : Emb UH (MM F) := embL

/-! ## The tile's thread and its memrefs -/

abbrev cV (L : grid0.Coords) : Fin τ.nSC := (L 0).castLE hcore0
abbrev jV (L : grid0.Coords) : Fin τ.nSub := (L 1).castLE hsub0
/-- The thread of tile `L` on device `d`. -/
abbrev thr (d : Dev nD) (L : grid0.Coords) : Thread nD τ := V d (cV L) (jV L)

/-- The four HBM operands: the transposed memory, the padded values, the bin table, the result. -/
abbrev memR : Memref sig .scVector .hbm S64x524288 .f32 := Memref.whole main_v1_scv
abbrev valR : Memref sig .scVector .hbm S16384x128 .f32 := Memref.whole main_v0_scv
abbrev metR : Memref sig .scVector .hbm S65536 .i32 := Memref.whole main_arg3_scv
abbrev outR : Memref sig .scVector .hbm S64x524288 .f32 := Memref.whole main_v2_scv
/-- The tile's own buffers: two windows, its part of the table, two row buffers, two position lists. -/
abbrev winA : Memref sig .scVector .vmem S64x512 .f32 := Memref.whole cc0_scratch0
abbrev winB : Memref sig .scVector .vmem S64x512 .f32 := Memref.whole cc0_scratch1
abbrev tabR : Memref sig .scVector .vmem S2048 .i32 := Memref.whole cc0_scratch2
abbrev rowA : Memref sig .scVector .vmem S48x128 .f32 := Memref.whole cc0_scratch3
abbrev rowB : Memref sig .scVector .vmem S48x128 .f32 := Memref.whole cc0_scratch4
abbrev lstA : Memref sig .scVector .vmem S48 .i32 := Memref.whole cc0_scratch5
abbrev lstB : Memref sig .scVector .vmem S48 .i32 := Memref.whole cc0_scratch6

/-- A tile's program under its weakest precondition. -/
abbrev Wp [FloatOps F] (d : Dev nD) (L : grid0.Coords) {α : Type} (p : Prog (TpuEff nD τ sig (Elt F) Λ₀ (thr d L).2) α) (Q : α → sProp (MM F)) :
    sProp (MM F) :=
  wp frame (wpE (defs₀ (F := F)) 𝒱₀ (thr d L) none) Set.univ p Q

/-! ## Cells -/

/-- Row `r`, column `c` of a row buffer. -/
def rowCell (r : Fin 48) (c : Fin 64) : S48x128.Idx := fun a => match a with
  | 0 => r
  | 1 => ⟨c.val, by have := c.isLt; show c.val < 128; omega⟩
/-- Lane `k` of a sixteen-lane vector. -/
def lane (k : Fin 16) : S16.Idx := Shape.ofLane (d := ![16]) k

end Cert.Proof.Bins

end
-- ==== Proof.Column.lean ====
/-
  One column of a block: the indexed load of a row buffer's column `c` at the block's sixteen rows, and the masked indexed
  store of what it read into row `c` of the window, at the block's sixteen columns. `Cols n` says what the window holds after
  the first `n` columns; `asm` and `pair` are the steps the parts of a block are made of.
-/
module

public import proofs.«01_k».proof.Proof.Base

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What sixteen lanes, in ascending order, leave at column `x` of a row holding `a`: each lane that is on and names `x`
    overwrites it with its value. -/
def lanes {α : Type} (loc : IVec S16 32) (mask : IVec S16 1) (v : Fin 16 → α) (x : ℕ) (a : α) : α :=
  (List.finRange 16).foldl (fun a k => if mask (lane k) = 1 ∧ (loc (lane k)).toNat = x then v k else a) a

/-- The window after the first `n` columns of a block (rows `r k` of the row buffer, columns `loc`, lanes `mask`): those
    columns hold what the lanes leave, the others what they held. -/
def Cols {α : Type} (rows : S48x128.Idx → α) (r : Fin 16 → Fin 48) (loc : IVec S16 32) (mask : IVec S16 1) (n : ℕ)
    (f g : S64x512.Idx → α) : Prop :=
  ∀ i, g i = if (i 0).val < n then lanes loc mask (fun k => rows (rowCell (r k) (i 0))) (i 1).val (f i) else f i

theorem Cols.zero {α : Type} (rows : S48x128.Idx → α) (r : Fin 16 → Fin 48) (loc : IVec S16 32) (mask : IVec S16 1)
    (f : S64x512.Idx → α) : Cols rows r loc mask 0 f f := fun _ => (if_neg (Nat.not_lt_zero _)).symm

/-- A masked store of sixteen lanes, read at one cell. -/
theorem foldl_store (idx : Fin 16 → S64x512.Idx) (mask : IVec S16 1) (v : Fin 16 → Elt F .f32) (i : S64x512.Idx) :
    ∀ (l : List (Fin 16)) (f : S64x512.Idx → Elt F .f32),
      (l.foldl (fun g k => if mask (lane k) = 1 then fun j => if (∀ a, (j a).val = (idx k a).val) then v k else g j else g) f) i
        = l.foldl (fun a k => if mask (lane k) = 1 ∧ ∀ a, (i a).val = (idx k a).val then v k else a) (f i)
  | [], _ => rfl
  | k :: l, f => by
    rw [List.foldl_cons, List.foldl_cons, foldl_store idx mask v i l]
    congr 1
    by_cases hm : mask (lane k) = 1
    · by_cases hi : ∀ a, (i a).val = (idx k a).val
      · rw [if_pos hm, if_pos hi, if_pos ⟨hm, hi⟩]
      · rw [if_pos hm, if_neg hi, if_neg (fun h => hi h.2)]
    · rw [if_neg hm, if_neg (fun h => hm h.1)]

/-- One more column. -/
theorem Cols.step {rows : S48x128.Idx → Elt F .f32} {r : Fin 16 → Fin 48} {loc pos : IVec S16 32} {mask : IVec S16 1} {n : ℕ}
    {f g : S64x512.Idx → Elt F .f32} (hn : n < 64) (hr : ∀ k, (pos (lane k)).toNat = (r k).val) (hC : Cols rows r loc mask n f g)
    (h1 : ∀ a x, ((![pos, broadcast S16 (BitVec.ofNat 32 n)] : Fin 2 → IVec S16 32) a x).toNat < S48x128.size a)
    (h2 : ∀ a x, ((![broadcast S16 (BitVec.ofNat 32 n), loc] : Fin 2 → IVec S16 32) a x).toNat < S64x512.size a) :
    Cols rows r loc mask (n + 1) f
      (storeIdx g ![broadcast S16 (BitVec.ofNat 32 n), loc] (loadIdx rows ![pos, broadcast S16 (BitVec.ofNat 32 n)] h1) mask false h2) := by
  have hnn : (BitVec.ofNat 32 n).toNat = n := by rw [BitVec.toNat_ofNat]; omega
  intro i
  have key : storeIdx g ![broadcast S16 (BitVec.ofNat 32 n), loc] (loadIdx rows ![pos, broadcast S16 (BitVec.ofNat 32 n)] h1) mask false h2 i
      = (List.finRange 16).foldl (fun a k => if mask (lane k) = 1 ∧ ∀ a, (i a).val
          = (idxAt ![broadcast S16 (BitVec.ofNat 32 n), loc] h2 (lane k) a).val
          then loadIdx rows ![pos, broadcast S16 (BitVec.ofNat 32 n)] h1 (lane k) else a) (g i) := by
    unfold storeIdx
    simp only [Bool.false_eq_true, if_false]
    exact foldl_store (fun k => idxAt ![broadcast S16 (BitVec.ofNat 32 n), loc] h2 (lane k)) mask
      (fun k => loadIdx rows ![pos, broadcast S16 (BitVec.ofNat 32 n)] h1 (lane k)) i (List.finRange 16) g
  rw [key]
  have hcell : ∀ k, (∀ a, (i a).val = (idxAt ![broadcast S16 (BitVec.ofNat 32 n), loc] h2 (lane k) a).val)
      ↔ (i 0).val = n ∧ (loc (lane k)).toNat = (i 1).val := by
    intro k
    constructor
    · intro h
      exact ⟨(h 0).trans hnn, (h 1).symm⟩
    · rintro ⟨ha, hb⟩ a
      match a with
      | 0 => exact ha.trans hnn.symm
      | 1 => exact hb.symm
  by_cases hi : (i 0).val = n
  · have hload : ∀ k, loadIdx rows ![pos, broadcast S16 (BitVec.ofNat 32 n)] h1 (lane k) = rows (rowCell (r k) (i 0)) := by
      intro k
      refine congrArg rows (funext fun a => ?_)
      match a with
      | 0 => exact Fin.ext (hr k)
      | 1 => exact Fin.ext (hnn.trans hi.symm)
    rw [if_pos (by omega), hC i, if_neg (by omega)]
    exact congrArg (fun step => List.foldl step (f i) (List.finRange 16)) (funext fun a => funext fun k =>
      if_congr (and_congr_right fun _ => (hcell k).trans ⟨fun h => h.2, fun h => ⟨hi, h⟩⟩) (hload k) rfl)
  · have hno : ∀ k, ¬(mask (lane k) = 1 ∧ ∀ a, (i a).val = (idxAt ![broadcast S16 (BitVec.ofNat 32 n), loc] h2 (lane k) a).val) :=
      fun k h => hi ((hcell k).1 h.2).1
    simp only [if_neg (hno _)]
    rw [show ∀ (l : List (Fin 16)) (a : Elt F .f32), l.foldl (fun a _ => a) a = a from fun l a => by
      induction l with
      | nil => rfl
      | cons _ _ ih => exact ih]
    rw [hC i]
    by_cases hl : (i 0).val < n
    · rw [if_pos hl, if_pos (by omega)]
    · rw [if_neg hl, if_neg (by omega)]

section Steps

variable (d : Dev nD) (L : grid0.Coords)

/-- A tile buffer held outright, at contents `f`. -/
abbrev Held {s : Shape} {e : EltTy} (b : Memref sig .scVector .vmem s e) (f : Buf (Elt F) ((b.access (.whole s)).loc (thr d L))) : sProp (MM F) :=
  (b.access (.whole s)).loc (thr d L) ↦[(b.access (.whole s)).set]{fullShare} f

/-- An index check that holds is passed. -/
theorem asm {P : Prop} {dec : Decidable P} (hP : P) {α : Type} {k : PLift P → Prog (TpuEff nD τ sig (Elt F) Λ₀ (thr d L).2) α} {X : sProp (MM F)}
    {Q : α → sProp (MM F)} (h : X ⊢ Wp d L (k ⟨hP⟩) Q) : X ⊢ Wp d L (Prog.lift (TpuEff.assume P dec) >>= k) Q := by
  refine h.trans (Entails.of_eq ?_)
  exact (wp_assume_of (defs := defs₀ (F := F)) 𝒱₀ (thr d L) none Set.univ hP).symm

/-- A memref accessed whole is its elements. -/
theorem set_access_whole' {s : Shape} {e : EltTy} (b : Memref sig .scVector .vmem s e) : (b.access (.whole s)).set = b.view.set := by
  show (b.view.slice (.whole s)).set = _
  rw [View.set_slice, Rect.set_whole]; rfl

/-- The end of a part. -/
theorem done {α : Type} {v : α} {X : sProp (MM F)} {Q : α → sProp (MM F)} (h : X ⊢ Q v) :
    X ⊢ Wp d L (pure v : Prog (TpuEff nD τ sig (Elt F) Λ₀ (thr d L).2) α) Q := by
  show X ⊢ wp _ _ _ (pure v) Q
  rw [wp_pure]
  iintro H
  imodintro
  iapply h $$ H

/-- A load from a tile buffer that is held (here: sixteen words of the table). -/
theorem loadTab {s : Shape} {e : EltTy} {b : Memref sig .scVector .vmem s e} {r : LoadRect s} {hl : b.view.LoadsAt r} {f : Buf (Elt F) ((b.access (.whole s)).loc (thr d L))}
    {α : Type} {k : (r.shape.Idx → Elt F e) → Prog (TpuEff nD τ sig (Elt F) Λ₀ (thr d L).2) α} {R X : sProp (MM F)} {Q : α → sProp (MM F)}
    (h : iprop((R ∗ Held d L b f) ∗ X) ⊢ Wp d L (k (b.view.readAt (Elt F) r f)) Q) :
    iprop((R ∗ Held d L b f) ∗ X) ⊢ Wp d L (Prog.lift (TpuEff.load b r hl) >>= k) Q := by
  iintro ⟨⟨HR, Hb⟩, HX⟩
  iapply (wp_load (defs := defs₀ (F := F)) 𝒱₀ (thr d L) none Set.univ (m := b) (r := r) (hl := hl) (k := k) (q := fullShare) (f := f)
    (S := (b.access (.whole s)).set) (set_access_whole' b ▸ View.setOn_subset_set _ _)) $$ Hb
  iintro Hb
  iapply h
  isplitr [HX]
  · isplitl [HR]; · iexact HR
    iexact Hb
  iexact HX

/-- Column `n`: the indexed load of the rows, the masked indexed store into the window. -/
theorem pair {rows : Memref sig .scVector .vmem S48x128 .f32} {win : Memref sig .scVector .vmem S64x512 .f32}
    (fr : Buf (Elt F) ((rows.access (.whole S48x128)).loc (thr d L))) (w₀ : S64x512.Idx → Elt F .f32) {r : Fin 16 → Fin 48} {loc pos : IVec S16 32} {mask : IVec S16 1} (n : ℕ)
    {h1 : ∀ a x, ((![pos, broadcast S16 (BitVec.ofNat 32 n)] : Fin 2 → IVec S16 32) a x).toNat < S48x128.size a} {hl : rows.view.Loads}
    {h2 : ∀ a x, ((![broadcast S16 (BitVec.ofNat 32 n), loc] : Fin 2 → IVec S16 32) a x).toNat < S64x512.size a}
    {hs : (win.access (.whole S64x512)).Stores Finset.univ}
    {α : Type} {k : PUnit → Prog (TpuEff nD τ sig (Elt F) Λ₀ (thr d L).2) α} {R : sProp (MM F)} {Q : α → sProp (MM F)}
    (hn : n < 64) (hr : ∀ k, (pos (lane k)).toNat = (r k).val)
    {g : Buf (Elt F) ((win.access (.whole S64x512)).loc (thr d L))}
    (hC : Cols ((rows.access (.whole S48x128)).read (Elt F) fr) r loc mask n w₀ ((win.access (.whole S64x512)).read (Elt F) g))
    (h : ∀ g' : Buf (Elt F) ((win.access (.whole S64x512)).loc (thr d L)),
      Cols ((rows.access (.whole S48x128)).read (Elt F) fr) r loc mask (n + 1) w₀ ((win.access (.whole S64x512)).read (Elt F) g') →
      iprop(R ∗ Held d L rows fr ∗ Held d L win g') ⊢ Wp d L (k ⟨⟩) Q) :
    iprop(R ∗ Held d L rows fr ∗ Held d L win g)
      ⊢ Wp d L (SparseCore.vectorLoadIdx rows ![pos, broadcast S16 (BitVec.ofNat 32 n)] h1 hl >>= fun v =>
          SparseCore.vectorStoreIdx win ![broadcast S16 (BitVec.ofNat 32 n), loc] v mask false h2 hs >>= k) Q := by
  iintro ⟨HR, Hr, Hw⟩
  iapply (SparseCore.wp_vectorLoadIdx (defs := defs₀ (F := F)) 𝒱₀ (thr d L) none Set.univ (q := fullShare) (f := fr) subset_rfl) $$ Hr
  iintro Hr
  iapply (SparseCore.wp_vectorStoreIdx (defs := defs₀ (F := F)) 𝒱₀ (thr d L) none Set.univ (f := g)) $$ Hw
  iintro Hw
  have hC' := hC.step hn hr h1 h2
  have e := View.read_write_univ (Val := Elt F) (v := win.access (.whole S64x512)) g
    (storeIdx ((win.access (.whole S64x512)).read (Elt F) g) ![broadcast S16 (BitVec.ofNat 32 n), loc]
      (loadIdx ((rows.access (.whole S48x128)).read (Elt F) fr) ![pos, broadcast S16 (BitVec.ofNat 32 n)] h1) mask false h2)
  iapply (h _ (e.symm ▸ hC'))
  isplitl [HR]; · iexact HR
  isplitl [Hr]; · iexact Hr
  iexact Hw

/-- A block's check at column `n`: rows below 48, columns of the window below 512. -/
theorem chk_ok {r : Fin 16 → Fin 48} {loc pos : IVec S16 32} (n : ℕ) (hn : n < 64) (hr : ∀ k, (pos (lane k)).toNat = (r k).val)
    (hloc : ∀ k, (loc (lane k)).toNat < 512) {c : Prop} :
    (∀ _ : c, ∀ a x, ((![pos, broadcast S16 (BitVec.ofNat 32 n)] : Fin 2 → IVec S16 32) a x).toNat < S48x128.size a)
      ∧ (∀ _ : c, ∀ a x, ((![broadcast S16 (BitVec.ofNat 32 n), loc] : Fin 2 → IVec S16 32) a x).toNat < S64x512.size a) := by
  have hnn : (BitVec.ofNat 32 n).toNat = n := by rw [BitVec.toNat_ofNat]; omega
  have hlane : ∀ x : S16.Idx, ∃ k : Fin 16, x = lane k := fun x => ⟨x 0, funext fun a => by rw [Subsingleton.elim a 0]; rfl⟩
  constructor
  · intro _ a x
    obtain ⟨k, rfl⟩ := hlane x
    match a with
    | 0 => exact lt_of_eq_of_lt (hr k) (r k).isLt
    | 1 => exact lt_of_eq_of_lt hnn (show n < 128 by omega)
  · intro _ a x
    obtain ⟨k, rfl⟩ := hlane x
    match a with
    | 0 => exact lt_of_eq_of_lt hnn hn
    | 1 => exact hloc k

end Steps

end Cert.Proof.Bins

end
-- ==== Proof.Table.lean ====
/-
  The values of the call: the words of a bin, the rows they gather, a window after its entries, the whole result; and the
  kernel's word arithmetic read as those.
-/
module

public import proofs.«01_k».proof.Proof.Column

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Cells of the call's operands -/

/-- Word `w` of bin `b`'s part of the table. -/
def metCell (b : Fin 1024) (w : Fin 64) : S65536.Idx := fun a => match a with
  | 0 => ⟨64 * b.val + w.val, by have := b.isLt; have := w.isLt; show _ < 65536; omega⟩
/-- Row `p` of the padded values, column `c`. -/
def valCell (p : Fin 16384) (c : Fin 128) : S16384x128.Idx := fun a => match a with
  | 0 => p
  | 1 => c
/-- Cell `j` of bin `b`'s window of the memory. -/
def bigCell (b : Fin 1024) (j : S64x512.Idx) : S64x524288.Idx := fun a => match a with
  | 0 => j 0
  | 1 => ⟨512 * b.val + (j 1).val, by have := b.isLt; have : (j 1).val < 512 := (j 1).isLt; show _ < 524288; omega⟩
/-- The bin a cell of the memory lies in, and its place in that bin's window. -/
def binOf (i : S64x524288.Idx) : Fin 1024 := ⟨(i 1).val / 512, by have : (i 1).val < 524288 := (i 1).isLt; omega⟩
def inBin (i : S64x524288.Idx) : S64x512.Idx := fun a => match a with
  | 0 => i 0
  | 1 => ⟨(i 1).val % 512, Nat.mod_lt _ (by decide)⟩

theorem binOf_bigCell (b : Fin 1024) (j : S64x512.Idx) : binOf (bigCell b j) = b := by
  have : (j 1).val < 512 := (j 1).isLt
  refine Fin.ext ?_
  show (512 * b.val + (j 1).val) / 512 = b.val
  omega
theorem inBin_bigCell (b : Fin 1024) (j : S64x512.Idx) : inBin (bigCell b j) = j := by
  have : (j 1).val < 512 := (j 1).isLt
  funext a
  match a with
  | 0 => rfl
  | 1 => exact Fin.ext (show (512 * b.val + (j 1).val) % 512 = (j 1).val by omega)
theorem bigCell_inBin (i : S64x524288.Idx) : bigCell (binOf i) (inBin i) = i := by
  funext a
  match a with
  | 0 => rfl
  | 1 => exact Fin.ext (Nat.div_add_mod (i 1).val 512)

/-! ## What a bin's words say -/

section Words

variable {α : Type} (fT : S64x524288.Idx → α) (fV : S16384x128.Idx → α) (fM : S65536.Idx → BitVec 32)

/-- Entry `j` of block `k` of a bin's 48. -/
def ent (k : Fin 3) (j : Fin 16) : Fin 48 := ⟨16 * k.val + j.val, by have := k.isLt; have := j.isLt; omega⟩
/-- How many entries bin `b` has, and the code word of its entry `e`. -/
def cnt (b : Fin 1024) : BitVec 32 := fM (metCell b 0)
def code (b : Fin 1024) (e : Fin 48) : BitVec 32 := fM (metCell b ⟨16 + e.val, by have := e.isLt; omega⟩)
/-- A code's two fields: the column in the bin's window, the row of the values. -/
def colOf (c : BitVec 32) : BitVec 32 := c &&& 1023#32
def posOf (c : BitVec 32) : BitVec 32 := c.sshiftRight 10 &&& 16383#32

theorem posOf_lt (c : BitVec 32) : (posOf c).toNat < 16384 := by
  unfold posOf
  rw [BitVec.toNat_and]
  exact lt_of_le_of_lt Nat.and_le_right (by decide)

/-- The rows of the values that bin `b`'s entries name. -/
def gathered (b : Fin 1024) : S48x128.Idx → α := fun x => fV (valCell ⟨(posOf (code fM b (x 0))).toNat, posOf_lt _⟩ (x 1))

/-- Entry `e` of bin `b` is in use and names column `x`. -/
def Hit (b : Fin 1024) (e : Fin 48) (x : ℕ) : Prop := (e.val : ℤ) < (cnt fM b).toInt ∧ (colOf (code fM b e)).toNat = x

instance (b : Fin 1024) (e : Fin 48) (x : ℕ) : Decidable (Hit fM b e x) := by unfold Hit; infer_instance

/-- A window after block `k` of bin `b`'s entries, in ascending order: each entry in use overwrites the column it names
    with the row of the values it names. -/
def block (b : Fin 1024) (k : Fin 3) (f : S64x512.Idx → α) : S64x512.Idx → α := fun i =>
  (List.finRange 16).foldl (fun a j => if Hit fM b (ent k j) (i 1).val then gathered fV fM b (rowCell (ent k j) (i 0)) else a) (f i)
/-- A window after all three. -/
def applied (b : Fin 1024) (f : S64x512.Idx → α) : S64x512.Idx → α := block fV fM b 2 (block fV fM b 1 (block fV fM b 0 f))
/-- Bin `b`'s window of the memory. -/
def winIn (b : Fin 1024) : S64x512.Idx → α := fun j => fT (bigCell b j)
/-- The call's result: every bin's window with its entries applied. -/
def result : S64x524288.Idx → α := fun i => applied fV fM (binOf i) (winIn fT (binOf i)) (inBin i)

theorem result_bigCell (b : Fin 1024) (j : S64x512.Idx) : result fT fV fM (bigCell b j) = applied fV fM b (winIn fT b) j := by
  unfold result
  rw [binOf_bigCell, inBin_bigCell]

/-- What the call needs of the table: in every block of entries with one in use, every code's column is in the window. -/
def Good : Prop := ∀ (b : Fin 1024) (k : Fin 3) (j : Fin 16), 16 * (k.val : ℤ) < (cnt fM b).toInt → (colOf (code fM b (ent k j))).toNat < 512

/-- A block that starts past the count leaves the window as it is. -/
theorem block_off {b : Fin 1024} {k : Fin 3} (h : ¬16 * (k.val : ℤ) < (cnt fM b).toInt) (f : S64x512.Idx → α) : block fV fM b k f = f := by
  funext i
  have hno : ∀ j, ¬Hit fM b (ent k j) (i 1).val := fun j hj => by
    have := hj.1
    simp only [ent] at this
    omega
  unfold block
  simp only [if_neg (hno _)]
  have : ∀ (l : List (Fin 16)) (a : α), l.foldl (fun a _ => a) a = a := fun l a => by
    induction l with
    | nil => rfl
    | cons _ _ ih => exact ih
  exact this _ _

/-- Sixty-four columns of a block are the block. -/
theorem block_on {b : Fin 1024} {k : Fin 3} {loc : IVec S16 32} {mask : IVec S16 1} {rows : S48x128.Idx → α} {f g : S64x512.Idx → α}
    (hrows : rows = gathered fV fM b) (hloc : ∀ j, loc (lane j) = colOf (code fM b (ent k j)))
    (hmask : ∀ j, mask (lane j) = 1 ↔ ((ent k j).val : ℤ) < (cnt fM b).toInt)
    (h : Cols rows (ent k) loc mask 64 f g) : g = block fV fM b k f := by
  subst hrows
  funext i
  rw [h i, if_pos (show (i 0).val < 64 from (i 0).isLt)]
  unfold lanes block
  refine congrArg (fun step => List.foldl step (f i) (List.finRange 16)) (funext fun a => funext fun j => ?_)
  refine if_congr ?_ rfl rfl
  unfold Hit
  rw [hmask j, hloc j]

end Words

/-! ## The kernel's word arithmetic -/

/-- The tile's `v`-th bin. -/
def bin (L : grid0.Coords) (v : ℕ) : Fin 1024 := ⟨(512 * (L 0).val + 32 * (L 1).val + v) % 1024, Nat.mod_lt _ (by decide)⟩

theorem bin_val (L : grid0.Coords) {v : ℕ} (hv : v < 32) : (bin L v).val = 512 * (L 0).val + 32 * (L 1).val + v := by
  have h0 : (L 0).val < 2 := (L 0).isLt
  have h1 : (L 1).val < 16 := (L 1).isLt
  exact Nat.mod_eq_of_lt (by omega)

section Pays

variable (x : Vec F S16 .i32)

theorem shr_and (c : BitVec 32) : IntOp.andi (IntOp.shrsi .vector c 10#32) 16383#32 = posOf c := rfl

theorem pay10 (k : S16.Idx) : k0_pay10 (F := F) x k = posOf (x k) := rfl
theorem pay11 (k : S16.Idx) : k0_pay11 (F := F) x k = posOf (x k) := rfl
theorem pay12 (k : S16.Idx) : k0_pay12 (F := F) x k = posOf (x k) := rfl
theorem pay22 (k : S16.Idx) : k0_pay22 (F := F) x k = posOf (x k) := rfl
theorem pay24 (k : S16.Idx) : k0_pay24 (k0_pay23 (F := F) x) 16383#32 k = posOf (x k) := rfl
theorem pay25 (k : S16.Idx) : k0_pay25 (F := F) x k = posOf (x k) := rfl
theorem pay28 (k : S16.Idx) : k0_pay28 (F := F) x k = posOf (x k) := rfl
theorem pay29 (k : S16.Idx) : k0_pay29 (F := F) x k = posOf (x k) := rfl
theorem pay30 (k : S16.Idx) : k0_pay30 (F := F) x k = posOf (x k) := rfl

theorem pay1 (k : S16.Idx) : k0_pay1 (F := F) x k = colOf (x k) := rfl

theorem pay2_lane : ∀ k : Fin 16, (k0_pay2 (lane k)).toNat = (ent 0 k).val := by decide
theorem pay5_lane : ∀ k : Fin 16, (k0_pay5 (lane k)).toNat = (ent 1 k).val := by decide
theorem pay8_lane : ∀ k : Fin 16, (k0_pay8 (lane k)).toNat = (ent 2 k).val := by decide

end Pays

end Cert.Proof.Bins

end
-- ==== Proof.Steps.lean ====
/-
  The steps a tile is made of, each over one buffer or one transfer: a fetch, a write-out, a gather, their waits, loads and stores.
-/
module

public import proofs.«01_k».proof.Proof.Table

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Steps

variable (d : Dev nD) (L : grid0.Coords)

/-- A tile buffer held outright, reading as something that satisfies `P`. -/
def Own {s : Shape} {e : EltTy} (b : Memref sig .scVector .vmem s e) (P : (s.Idx → Elt F e) → Prop) : sProp (MM F) :=
  iprop(∃ f : Buf (Elt F) ((b.access (.whole s)).loc (thr d L)), ⌜P (b.view.read (Elt F) f)⌝ ∗ Held d L b f)

/-- What a memref reads whole. -/
theorem acc_read {s : Shape} {e : EltTy} (b : Memref sig .scVector .vmem s e) (f : Buf (Elt F) ((b.access (.whole s)).loc (thr d L))) :
    (b.access (.whole s)).read (Elt F) f = b.view.read (Elt F) f := by
  funext x
  show b.view.read (Elt F) f ((Rect.whole s).emb x) = b.view.read (Elt F) f x
  exact congrArg _ (funext fun a => Fin.ext (by simp [Rect.whole]))

theorem held_eq {s : Shape} {e : EltTy} (b : Memref sig .scVector .vmem s e) (f : Buf (Elt F) ((b.access (.whole s)).loc (thr d L))) :
    (Held d L b f : sProp (MM F)) = (b.view.loc (thr d L) ↦[b.view.set]{fullShare} f) := by
  show ((b.access (.whole s)).loc (thr d L) ↦[(b.access (.whole s)).set]{fullShare} f : sProp (MM F)) = _
  rw [set_access_whole']

theorem Own.mono {s : Shape} {e : EltTy} {b : Memref sig .scVector .vmem s e} {P P' : (s.Idx → Elt F e) → Prop} (h : ∀ w, P w → P' w) :
    (Own d L b P : sProp (MM F)) ⊢ Own d L b P' := by
  unfold Own
  iintro ⟨%f, %hP, H⟩
  iexists f
  isplitr
  · ipureintro; exact h _ hP
  iexact H

/-- A buffer written whole reads as what was written. -/
theorem Own.written {s : Shape} {e : EltTy} {b : Memref sig .scVector .vmem s e} {P : (s.Idx → Elt F e) → Prop} {f : Buf (Elt F) (b.view.loc (thr d L))}
    {w : s.Idx → Elt F e} (h : P w) :
    (b.view.loc (thr d L) ↦[b.view.set]{fullShare} (b.view.write (Elt F) f w Finset.univ) : sProp (MM F)) ⊢ Own d L b P := by
  unfold Own
  iintro H
  iexists (b.view.write (Elt F) f w Finset.univ)
  isplitr
  · ipureintro; rw [View.read_write_univ]; exact h
  iapply (Entails.of_eq (held_eq d L b _).symm) $$ H

theorem Own.of_held {s : Shape} {e : EltTy} {b : Memref sig .scVector .vmem s e} {P : (s.Idx → Elt F e) → Prop} {f : Buf (Elt F) ((b.access (.whole s)).loc (thr d L))}
    (h : P (b.view.read (Elt F) f)) : (Held d L b f : sProp (MM F)) ⊢ Own d L b P := by
  unfold Own
  iintro H
  iexists f
  isplitr
  · ipureintro; exact h
  iexact H

variable {α : Type} {Q : α → sProp (MM F)}

/-! ## Local transfers -/

/-- A fetch is issued: the tile gives a share of the source's elements, its own buffer and the semaphore at zero, and goes on
    with the transfer in flight, which brings back the buffer reading as the source does. -/
theorem fetch {s : Shape} {e : EltTy} {src : Memref sig .scVector .hbm s e} {dst : Memref sig .scVector .vmem s e} {sem : DmaSem sig} {hs : src.view.WordExact} {hd : dst.view.WordExact}
    {hsem : DmaTarget.Typed (nD := nD) (p := (thr d L).2) .hbm (.dma sem) (.here dst)} {k : PUnit → Prog (TpuEff nD τ sig (Elt F) Λ₀ (thr d L).2) α} {q : PosShare TreeShare} {fs : Buf (Elt F) (src.view.loc (thr d L))}
    {P P' : (s.Idx → Elt F e) → Prop} (h0 : 0 < s.numel) (h : P' (src.view.read (Elt F) fs)) :
    iprop((src.view.loc (thr d L) ↦[src.view.set]{q} fs) ∗ Own d L dst P ∗ semVal (thr d L, SemLoc.dma sem) 0)
      ⊢ iprop((Transfers.Flight countersEmb (thr d L) (.dma sem) (default : HIx 1) dst.view.dmaCredit
              iprop(Own d L dst P' ∗ (src.view.loc (thr d L) ↦[src.view.set]{q} fs)) -∗ Wp d L (k ⟨⟩) Q)
          -∗ Wp d L (Prog.lift (.enqueueDma src (.here dst) (.dma sem) hs hd hsem) >>= k) Q) := by
  unfold Own
  iintro ⟨Hs, ⟨%fd, -, Hd⟩, Hv⟩ Hk
  ihave Hd' := (Entails.of_eq (held_eq d L dst fd)) $$ Hd
  iapply (Transfers.wp_dmaLocal countersEmb 𝒱₀ (thr d L) none (defs := defs₀ (F := F)) (via := .same) (default : HIx 1) dst.view.dmaCredit rfl (View.dmaCredit_pos _ h0) subset_rfl) $$ [Hs Hd' Hv]
  · isplitl [Hs]; · iexact Hs
    isplitl [Hd']; · iexact Hd'
    iexact Hv
  iintro HF
  iapply Hk
  iapply (Transfers.Flight_mono countersEmb (thr d L) (sep_mono_left (Own.written d L h))) $$ HF

/-- A window is written out: the elements of the result the destination names, at anything, end holding `fin`, which reads
    there as the window does. -/
theorem writeOut {s : Shape} {e : EltTy} {src : Memref sig .scVector .vmem s e} {dst : Memref sig .scVector .hbm s e} {sem : DmaSem sig} {hs : src.view.WordExact} {hd : dst.view.WordExact}
    {hsem : DmaTarget.Typed (nD := nD) (p := (thr d L).2) .vmem (.dma sem) (.here dst)} {k : PUnit → Prog (TpuEff nD τ sig (Elt F) Λ₀ (thr d L).2) α}
    {f0 fin : Buf (Elt F) (dst.view.loc (thr d L))} {P : (s.Idx → Elt F e) → Prop} (h0 : 0 < s.numel) (h : ∀ w, P w → dst.view.read (Elt F) fin = w) :
    iprop(Own d L src P ∗ (dst.view.loc (thr d L) ↦[dst.view.set]{fullShare} f0) ∗ semVal (thr d L, SemLoc.dma sem) 0)
      ⊢ iprop((Transfers.Flight countersEmb (thr d L) (.dma sem) (default : HIx 1) dst.view.dmaCredit
              iprop((dst.view.loc (thr d L) ↦[dst.view.set]{fullShare} fin) ∗ Own d L src fun _ => True) -∗ Wp d L (k ⟨⟩) Q)
          -∗ Wp d L (Prog.lift (.enqueueDma src (.here dst) (.dma sem) hs hd hsem) >>= k) Q) := by
  unfold Own
  iintro ⟨⟨%fs, %hP, Hs⟩, Hd, Hv⟩ Hk
  ihave Hs' := (Entails.of_eq (held_eq d L src fs)) $$ Hs
  iapply (Transfers.wp_dmaLocal countersEmb 𝒱₀ (thr d L) none (defs := defs₀ (F := F)) (via := .same) (default : HIx 1) dst.view.dmaCredit rfl (View.dmaCredit_pos _ h0) subset_rfl) $$ [Hd Hs' Hv]
  · isplitl [Hs']; · iexact Hs'
    isplitl [Hd]; · iexact Hd
    iexact Hv
  iintro HF
  iapply Hk
  iapply (Transfers.Flight_mono countersEmb (thr d L) (BIClass.sep_mono ?_ ?_)) $$ HF
  · refine Entails.of_eq (pointsTo_congr fun i hi => ?_)
    have e : View.write (Elt F) dst.view f0 ((ReadAs.same : ReadAs (Elt F) s e s e).apply (src.view.read (Elt F) fs)) Finset.univ
        = dst.view.write (Elt F) f0 (dst.view.read (Elt F) fin) Finset.univ := by rw [h _ hP]
    rw [e, View.write_read_eq_piecewise]
    exact Finset.piecewise_eq_of_mem _ _ _ hi
  · exact (Entails.of_eq (held_eq d L src fs).symm).trans (Own.of_held d L (P := fun _ => True) trivial)

/-- A gather is issued: a share of the values, the row buffer, the list of rows, each in range. -/
theorem gather {src : Memref sig .scVector .hbm S16384x128 .f32} {dst : Memref sig .scVector .vmem S48x128 .f32} {offs : Memref sig .scVector .vmem S48 .i32}
    {hg : S16384x128.Gathers 0 S48x128} {hn : S48.numel = S48x128.size hg.axis'} {sem : DmaSem sig}
    {hp : (thr d L).2.kind = .scVector} {hsrc : src.view.WordExact} {he : (EltTy.f32).bits = 32} {hsp : Space.hbm = .hbm ∨ Space.hbm = .shared} {hr : S16384x128.StreamRows 0}
    {k : PUnit → Prog (TpuEff nD τ sig (Elt F) Λ₀ (thr d L).2) α} {q : PosShare TreeShare} {fs : Buf (Elt F) (src.view.loc (thr d L))}
    {P : (S48x128.Idx → Elt F .f32) → Prop} {Pl : (S48.Idx → Elt F .i32) → Prop} {P' : (S48x128.Idx → Elt F .f32) → Prop}
    (N : ℕ) (hN : ∑ j, (dst.slice (S48x128.rowRect hg.axis' j) (S48x128.stride_rowRect hg.axis' j)).view.dmaCredit = N)
    (hin : ∀ l, Pl l → ∀ x, (l x).toNat < 16384)
    (h : ∀ l (hl : Pl l), P' (SparseCore.gatherPayload hg (src.view.read (Elt F) fs) (SparseCore.rows l hn (hin l hl)))) :
    iprop((src.view.loc (thr d L) ↦[src.view.set]{q} fs) ∗ Own d L dst P ∗ Own d L offs Pl ∗ semVal (thr d L, SemLoc.dma sem) 0)
      ⊢ iprop((Transfers.Flight countersEmb (thr d L) (.dma sem) (default : HIx 1) N
              iprop(Own d L dst P' ∗ (src.view.loc (thr d L) ↦[src.view.set]{q} fs) ∗ Own d L offs fun _ => True) -∗ Wp d L (k ⟨⟩) Q)
          -∗ Wp d L (SparseCore.enqueueIndirectGather hp src dst hg offs hn sem hsrc he hsp hr >>= k) Q) := by
  unfold Own
  iintro ⟨Hs, ⟨%fd, -, Hd⟩, ⟨%fo, %hl, Ho⟩, Hv⟩ Hk
  ihave Hd' := (Entails.of_eq (held_eq d L dst fd)) $$ Hd
  ihave Ho' := (Entails.of_eq (held_eq d L offs fo)) $$ Ho
  iapply (SparseCore.wp_indirectGatherLocal countersEmb 𝒱₀ (thr d L) none (defs := defs₀ (F := F)) (default : HIx 1) N hN (by decide) (hin _ hl)) $$ [Hs Hd' Ho' Hv]
  · isplitl [Hs]; · iexact Hs
    isplitl [Hd']; · iexact Hd'
    isplitl [Ho']; · iexact Ho'
    iexact Hv
  iintro HF
  iapply Hk
  iapply (Transfers.Flight_mono countersEmb (thr d L) (BIClass.sep_mono ?_ (sep_mono_right ?_))) $$ HF
  · exact Own.written d L (h _ hl)
  · exact (Entails.of_eq (held_eq d L offs fo).symm).trans (Own.of_held d L (P := fun _ => True) trivial)

/-! ## Waits -/

/-- What the tile owes, and the waits it has done: those it started with and its own. -/
def Owe (O : CellTallies nD τ sig (HIx 1)) (W : Waits sig (HIx 1)) : sProp (MM F) :=
  iprop(∃ W' : Waits sig (HIx 1), ⌜∀ p ∈ W', p ∈ W ∨ p.2 = none⌝ ∗ owes (thr d L) O W')

/-- A wait for a transfer in flight. -/
theorem wait {sp sp' : Space} {s s' : Shape} {e e' : EltTy} {sem : DmaSem sig} {src : Memref sig (thr d L).2.kind sp' s' e'} {dst : Memref sig (thr d L).2.kind sp s e}
    {hs : src.view.WordExact} {hd : dst.view.WordExact} {k : PUnit → Prog (TpuEff nD τ sig (Elt F) Λ₀ (thr d L).2) α} {N : ℕ} {X : sProp (MM F)}
    {O : CellTallies nD τ sig (HIx 1)} {W : Waits sig (HIx 1)} (hN : dst.view.dmaCredit = N) :
    iprop(Transfers.Flight countersEmb (thr d L) (.dma sem) (default : HIx 1) N X ∗ Owe d L O W ∗ Transfers.MayWaits (thr d L) (default : HIx 1) O)
      ⊢ iprop((iprop(X ∗ semVal (thr d L, SemLoc.dma sem) 0 ∗ Owe d L O W) -∗ Wp d L (k ⟨⟩) Q)
          -∗ Wp d L (Prog.lift (.waitDma2 sem src dst hs hd) >>= k) Q) := by
  unfold Owe
  iintro ⟨HF, ⟨%W', %hW, HO⟩, #Hmw⟩ Hk
  iapply (Transfers.wp_waitLocalO countersEmb 𝒱₀ (thr d L) none (defs := defs₀ (F := F)) (default : HIx 1) hN) $$ [HF HO]
  · isplitl [HF]; · iexact HF
    isplitl [HO]; · iexact HO
    iapply (Transfers.MayWaits.elim (SemLoc.dma sem)) $$ Hmw
  iintro ⟨HX, Hv, HO⟩
  iapply Hk
  isplitl [HX]; · iexact HX
  isplitl [Hv]; · iexact Hv
  iexists (insert (SemLoc.dma sem, (default : HIx 1)) W')
  isplitr
  · ipureintro
    intro p hp
    rcases Finset.mem_insert.mp hp with rfl | hp
    · exact Or.inr rfl
    · exact hW p hp
  iexact HO

/-! ## Loads and stores -/

/-- A load from a tile buffer. -/
theorem load {s : Shape} {e : EltTy} {b : Memref sig .scVector .vmem s e} {r : LoadRect s} {hl : b.view.LoadsAt r} {k : (r.shape.Idx → Elt F e) → Prog (TpuEff nD τ sig (Elt F) Λ₀ (thr d L).2) α}
    {w : s.Idx → Elt F e} :
    Own d L b (· = w) ⊢ iprop((Own d L b (· = w) -∗ Wp d L (k fun x => w (r.idx x)) Q) -∗ Wp d L (Prog.lift (.load b r hl) >>= k) Q) := by
  unfold Own
  iintro ⟨%f, %hP, H⟩ Hk
  iapply (wp_load (defs := defs₀ (F := F)) 𝒱₀ (thr d L) none Set.univ (m := b) (r := r) (hl := hl) (q := fullShare) (f := f)
    (S := (b.access (.whole s)).set) (set_access_whole' b ▸ View.setOn_subset_set _ _)) $$ H
  iintro H
  rw [show b.view.readAt (Elt F) r f = fun x => w (r.idx x) from funext fun x => by rw [View.readAt_apply, hP]]
  iapply Hk
  iexists f
  isplitr
  · ipureintro; exact hP
  iexact H

/-- A load whose value goes unused. -/
theorem load' {s : Shape} {e : EltTy} {b : Memref sig .scVector .vmem s e} {r : LoadRect s} {hl : b.view.LoadsAt r} {k : Prog (TpuEff nD τ sig (Elt F) Λ₀ (thr d L).2) α}
    {P : (s.Idx → Elt F e) → Prop} :
    Own d L b P ⊢ iprop((Own d L b P -∗ Wp d L k Q) -∗ Wp d L (Prog.lift (.load b r hl) >>= fun _ => k) Q) := by
  unfold Own
  iintro ⟨%f, %hP, H⟩ Hk
  iapply (wp_load (defs := defs₀ (F := F)) 𝒱₀ (thr d L) none Set.univ (m := b) (r := r) (hl := hl) (q := fullShare) (f := f)
    (S := (b.access (.whole s)).set) (set_access_whole' b ▸ View.setOn_subset_set _ _)) $$ H
  iintro H
  iapply Hk
  iexists f
  isplitr
  · ipureintro; exact hP
  iexact H

/-- A store into a tile buffer: inside the rectangle the new words, outside what was there. -/
theorem store {s : Shape} {e : EltTy} {b : Memref sig .scVector .vmem s e} {r : Rect s} {w : r.shape.Idx → Elt F e} {hx : (b.access r).Stores Finset.univ}
    {hm : (Finset.univ : Finset r.shape.Idx) = Finset.univ ∨ ∀ a, r.stride a = 1} {k : PUnit → Prog (TpuEff nD τ sig (Elt F) Λ₀ (thr d L).2) α}
    {P P' : (s.Idx → Elt F e) → Prop} (h : ∀ v v' : s.Idx → Elt F e, P v → (∀ x, v' (r.emb x) = w x) → (∀ y, y ∉ r.set → v' y = v y) → P' v') :
    Own d L b P ⊢ iprop((Own d L b P' -∗ Wp d L (k ⟨⟩) Q) -∗ Wp d L (Prog.lift (.store b r w Finset.univ hx hm) >>= k) Q) := by
  unfold Own
  iintro ⟨%f, %hP, H⟩ Hk
  iapply (wp_store (defs := defs₀ (F := F)) 𝒱₀ (thr d L) none Set.univ (m := b) (r := r) (f := f)
    (S := (b.access (.whole s)).set) (set_access_whole' b ▸ View.set_slice_subset b.view r)) $$ H
  iintro H
  iapply Hk
  iexists ((b.access r).write (Elt F) f w Finset.univ)
  isplitr
  · ipureintro
    refine h (b.view.read (Elt F) f) _ hP (fun x => View.read_slice_write_emb (v := b.view) r f w (Finset.mem_univ x)) fun y hy => ?_
    exact View.read_slice_write_of_not_mem (v := b.view) r f w Finset.univ (by rw [Rect.map_emb_univ]; exact hy)
  iexact H

end Steps

end Cert.Proof.Bins

end
-- ==== Proof.Windows.lean ====
/-
  A bin's window of the memory and of the result: its cells, its fetch, its write-out, and the waits for them.
-/
module

public import proofs.«01_k».proof.Proof.Steps

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Windows

variable (d : Dev nD) (L : grid0.Coords)

/-- The cells of the memory that lie in bin `b`. -/
def binSet (b : Fin 1024) : Finset S64x524288.Idx := Finset.univ.filter fun i => binOf i = b

theorem mem_binSet {b : Fin 1024} {i : S64x524288.Idx} : i ∈ binSet b ↔ binOf i = b := by simp [binSet]

/-- A window-wide slice at bin `b`'s columns is the bin's cells. -/
theorem unit_set {off : Fin 2 → ℕ} {inb : ∀ a, off a + S64x512.size a ≤ S64x524288.size a} {b : Fin 1024} (h : off = ![0, 512 * b.val]) :
    (Rect.unit (s := S64x524288) off S64x512.size inb).set = binSet b := by
  subst h
  ext i
  rw [Rect.mem_set_unit, mem_binSet]
  have h0 : (i 0).val < 64 := (i 0).isLt
  constructor
  · intro h
    have h1 := h 1
    have h1l : 512 * b.val ≤ (i 1).val := h1.1
    have h1r : (i 1).val < 512 * b.val + 512 := h1.2
    exact Fin.ext (show (i 1).val / 512 = b.val by omega)
  · intro h a
    have hb : (i 1).val / 512 = b.val := congrArg Fin.val h
    match a with
    | 0 => exact ⟨Nat.zero_le _, show (i 0).val < 0 + 64 by omega⟩
    | 1 => exact ⟨show 512 * b.val ≤ (i 1).val by omega, show (i 1).val < 512 * b.val + 512 by omega⟩

/-- Its cell `j` is the bin's. -/
theorem unit_emb {off : Fin 2 → ℕ} {inb : ∀ a, off a + S64x512.size a ≤ S64x524288.size a} {b : Fin 1024} (h : off = ![0, 512 * b.val]) (j : S64x512.Idx) :
    (Rect.unit (s := S64x524288) off S64x512.size inb).emb j = bigCell b j := by
  subst h
  funext a
  match a with
  | 0 => exact Fin.ext (show 0 + 1 * (j 0).val = (j 0).val by omega)
  | 1 => exact Fin.ext (show 512 * b.val + 1 * (j 1).val = 512 * b.val + (j 1).val by omega)

/-- The windows of the memory and of the result at an offset. -/
abbrev memW (off : Fin 2 → ℕ) (inb : ∀ a, off a + S64x512.size a ≤ S64x524288.size a) : Memref sig .scVector .hbm S64x512 .f32 :=
  memR.slice (Rect.unit (s := S64x524288) off S64x512.size inb) (fun _ => rfl)
abbrev outW (off : Fin 2 → ℕ) (inb : ∀ a, off a + S64x512.size a ≤ S64x524288.size a) : Memref sig .scVector .hbm S64x512 .f32 :=
  outR.slice (Rect.unit (s := S64x524288) off S64x512.size inb) (fun _ => rfl)

section

variable {off : Fin 2 → ℕ} {inb : ∀ a, off a + S64x512.size a ≤ S64x524288.size a} {b : Fin 1024}

theorem memW_set (h : off = ![0, 512 * b.val]) : (memW off inb).view.set = binSet b :=
  (View.set_slice_whole _ _).trans (unit_set h)
theorem outW_set (h : off = ![0, 512 * b.val]) : (outW off inb).view.set = binSet b :=
  (View.set_slice_whole _ _).trans (unit_set h)

theorem memW_read (h : off = ![0, 512 * b.val]) (f : S64x524288.Idx → Elt F .f32) : (memW off inb).view.read (Elt F) f = winIn f b := by
  funext j
  refine (View.read_apply _ _).trans ((cast_eq _ _).trans ?_)
  exact congrArg f (unit_emb h j)
theorem outW_read (h : off = ![0, 512 * b.val]) (f : S64x524288.Idx → Elt F .f32) : (outW off inb).view.read (Elt F) f = winIn f b := by
  funext j
  refine (View.read_apply _ _).trans ((cast_eq _ _).trans ?_)
  exact congrArg f (unit_emb h j)

end

/-! ## What a tile holds of the call's operands -/

variable (q qa qb : PosShare TreeShare) (fT f0 : S64x524288.Idx → Elt F .f32) (fV : S16384x128.Idx → Elt F .f32) (fM : S65536.Idx → BitVec 32)

/-- A share of cells of the memory, of the values, and cells of the result outright. -/
abbrev MemP (s : Finset S64x524288.Idx) : sProp (MM F) := memR.view.loc (thr d L) ↦[s]{q} fT
abbrev ValP (q : PosShare TreeShare) : sProp (MM F) := valR.view.loc (thr d L) ↦[Finset.univ]{q} fV
abbrev OutP (s : Finset S64x524288.Idx) (f : S64x524288.Idx → Elt F .f32) : sProp (MM F) := outR.view.loc (thr d L) ↦[s]{fullShare} f

/-- The tile's cells of the result in its bins from `v` on, and before `v`. -/
def todo (v : ℕ) : Finset S64x524288.Idx := Finset.univ.filter fun i => ∃ u : Fin 32, v ≤ u.val ∧ binOf i = bin L u.val
def past (v : ℕ) : Finset S64x524288.Idx := Finset.univ.filter fun i => ∃ u : Fin 32, u.val < v ∧ binOf i = bin L u.val

theorem mem_todo {v : ℕ} {i : S64x524288.Idx} : i ∈ todo L v ↔ ∃ u, v ≤ u ∧ u < 32 ∧ binOf i = bin L u := by
  rw [todo, Finset.mem_filter]
  exact ⟨fun ⟨_, u, h1, h2⟩ => ⟨u.val, h1, u.isLt, h2⟩, fun ⟨u, h1, h2, h3⟩ => ⟨Finset.mem_univ _, ⟨u, h2⟩, h1, h3⟩⟩
theorem mem_past {v : ℕ} {i : S64x524288.Idx} : i ∈ past L v ↔ ∃ u, u < v ∧ u < 32 ∧ binOf i = bin L u := by
  rw [past, Finset.mem_filter]
  exact ⟨fun ⟨_, u, h1, h2⟩ => ⟨u.val, h1, u.isLt, h2⟩, fun ⟨u, h1, h2, h3⟩ => ⟨Finset.mem_univ _, ⟨u, h2⟩, h1, h3⟩⟩

theorem bin_inj {u v : ℕ} (hu : u < 32) (hv : v < 32) (h : bin L u = bin L v) : u = v := by
  have := congrArg Fin.val h
  rw [bin_val L hu, bin_val L hv] at this
  omega

theorem todo_split {v : ℕ} (hv : v < 32) : todo L v = binSet (bin L v) ∪ todo L (v + 1) := by
  ext i
  rw [Finset.mem_union, mem_binSet, mem_todo, mem_todo]
  constructor
  · rintro ⟨u, h1, h2, h3⟩
    rcases Nat.eq_or_lt_of_le h1 with rfl | h
    · exact Or.inl h3
    · exact Or.inr ⟨u, h, h2, h3⟩
  · rintro (h | ⟨u, h1, h2, h3⟩)
    · exact ⟨v, le_rfl, hv, h⟩
    · exact ⟨u, by omega, h2, h3⟩
theorem todo_disj {v : ℕ} (hv : v < 32) : Disjoint (binSet (bin L v)) (todo L (v + 1)) := by
  rw [Finset.disjoint_left]
  intro i hi hj
  rw [mem_todo] at hj
  obtain ⟨u, h1, h2, h3⟩ := hj
  have := bin_inj L h2 hv (h3.symm.trans (mem_binSet.mp hi))
  omega
theorem past_succ {v : ℕ} (hv : v < 32) : past L (v + 1) = past L v ∪ binSet (bin L v) := by
  ext i
  rw [Finset.mem_union, mem_binSet, mem_past, mem_past]
  constructor
  · rintro ⟨u, h1, h2, h3⟩
    rcases Nat.eq_or_lt_of_le (Nat.lt_succ_iff.mp h1) with rfl | h
    · exact Or.inr h3
    · exact Or.inl ⟨u, h, h2, h3⟩
  · rintro (⟨u, h1, h2, h3⟩ | h)
    · exact ⟨u, by omega, h2, h3⟩
    · exact ⟨v, by omega, hv, h⟩
theorem past_disj {v : ℕ} (hv : v < 32) : Disjoint (past L v) (binSet (bin L v)) := by
  rw [Finset.disjoint_left]
  intro i hj hi
  rw [mem_past] at hj
  obtain ⟨u, h1, h2, h3⟩ := hj
  have := bin_inj L h2 hv (h3.symm.trans (mem_binSet.mp hi))
  omega
theorem past_zero : past L 0 = ∅ := by
  ext i
  simp [past]
theorem past_all : past L 32 = todo L 0 := by
  ext i
  rw [mem_past, mem_todo]
  exact ⟨fun ⟨u, h1, _, h3⟩ => ⟨u, Nat.zero_le _, h1, h3⟩, fun ⟨u, _, h2, h3⟩ => ⟨u, h2, h2, h3⟩⟩

/-! ## Transfers of windows -/

variable {α : Type} {Q : α → sProp (MM F)}

/-- The fetch of bin `b`'s window into `win` in flight, with the rest of the tile's share of the memory. -/
def InFl (sem : DmaSem sig) (win : Memref sig .scVector .vmem S64x512 .f32) (b : Fin 1024) : sProp (MM F) :=
  iprop(Transfers.Flight countersEmb (thr d L) (.dma sem) (default : HIx 1) win.view.dmaCredit
      iprop(Own d L win (· = winIn fT b) ∗ MemP d L q fT (binSet b)) ∗ MemP d L q fT (Finset.univ \ binSet b))

theorem fetchBin {win : Memref sig .scVector .vmem S64x512 .f32} {sem : DmaSem sig} {off : Fin 2 → ℕ} {inb : ∀ a, off a + S64x512.size a ≤ S64x524288.size a}
    {b : Fin 1024} (h : off = ![0, 512 * b.val]) {hs : (memW off inb).view.WordExact} {hd : win.view.WordExact}
    {hsem : DmaTarget.Typed (nD := nD) (p := (thr d L).2) .hbm (.dma sem) (.here win)} {k : PUnit → Prog (TpuEff nD τ sig (Elt F) Λ₀ (thr d L).2) α}
    {P : (S64x512.Idx → Elt F .f32) → Prop} :
    iprop(MemP d L q fT Finset.univ ∗ Own d L win P ∗ semVal (thr d L, SemLoc.dma sem) 0)
      ⊢ iprop((InFl d L q fT sem win b -∗ Wp d L (k ⟨⟩) Q) -∗ Wp d L (Prog.lift (.enqueueDma (memW off inb) (.here win) (.dma sem) hs hd hsem) >>= k) Q) := by
  iintro ⟨HM, Hw, Hv⟩ Hk
  ihave HM' := (pointsTo_split_subset (q := q) (f := fT) (S := Finset.univ) (Finset.subset_univ (binSet b))).1 $$ HM
  icases HM' with ⟨HM1, HM2⟩
  iapply (fetch d L (src := memW off inb) (fs := fT) (q := q) (P' := (· = winIn fT b)) (by decide) (memW_read h fT)) $$ [HM1 Hw Hv]
  · isplitl [HM1]; · rw [memW_set h]; iexact HM1
    isplitl [Hw]; · iexact Hw
    iexact Hv
  iintro HF
  rw [memW_set h]
  iapply Hk
  unfold InFl
  isplitl [HF]; · iexact HF
  iexact HM2

variable {O : CellTallies nD τ sig (HIx 1)} {W : Waits sig (HIx 1)}

theorem waitBin {win : Memref sig .scVector .vmem S64x512 .f32} {sem : DmaSem sig} {b : Fin 1024}
    {src : Memref sig (thr d L).2.kind .hbm S64x512 .f32} {hs : src.view.WordExact} {hd : win.view.WordExact} {k : PUnit → Prog (TpuEff nD τ sig (Elt F) Λ₀ (thr d L).2) α} :
    iprop(InFl d L q fT sem win b ∗ Owe d L O W ∗ Transfers.MayWaits (thr d L) (default : HIx 1) O)
      ⊢ iprop((iprop(Own d L win (· = winIn fT b) ∗ MemP d L q fT Finset.univ ∗ semVal (thr d L, SemLoc.dma sem) 0 ∗ Owe d L O W) -∗ Wp d L (k ⟨⟩) Q)
          -∗ Wp d L (Prog.lift (.waitDma2 sem src win hs hd) >>= k) Q) := by
  unfold InFl
  iintro ⟨⟨HF, HM2⟩, HO, #Hmw⟩ Hk
  iapply (wait d L (rfl : win.view.dmaCredit = _)) $$ [HF HO]
  · isplitl [HF]; · iexact HF
    isplitl [HO]; · iexact HO
    iexact Hmw
  iintro ⟨⟨Hw, HM1⟩, Hv, HO⟩
  iapply Hk
  isplitl [Hw]; · iexact Hw
  isplitl [HM1 HM2]
  · iapply (pointsTo_split_subset (q := q) (f := fT) (S := Finset.univ) (Finset.subset_univ (binSet b))).2
    isplitl [HM1] <;> iassumption
  isplitl [Hv]; · iexact Hv
  iexact HO

/-- What a window's write-out counts: the same wherever in the result it goes. -/
def outN : ℕ := sig.dmaCredit .scVector (Kind.scVector.table .hbm) outR.view.buf S64x512 .f32

/-- The write-out of the tile's window `v` in flight. -/
def OutFl (sem : DmaSem sig) (win : Memref sig .scVector .vmem S64x512 .f32) (v : ℕ) : sProp (MM F) :=
  Transfers.Flight countersEmb (thr d L) (.dma sem) (default : HIx 1) outN
    iprop(OutP d L (binSet (bin L v)) (result fT fV fM) ∗ Own d L win fun _ => True)

theorem sendBin {win : Memref sig .scVector .vmem S64x512 .f32} {sem : DmaSem sig} {off : Fin 2 → ℕ} {inb : ∀ a, off a + S64x512.size a ≤ S64x524288.size a}
    {v : ℕ} (hv : v < 32) (h : off = ![0, 512 * (bin L v).val]) {hs : win.view.WordExact} {hd : (outW off inb).view.WordExact}
    {hsem : DmaTarget.Typed (nD := nD) (p := (thr d L).2) .vmem (.dma sem) (.here (outW off inb))} {k : PUnit → Prog (TpuEff nD τ sig (Elt F) Λ₀ (thr d L).2) α} :
    iprop(OutP d L (todo L v) f0 ∗ Own d L win (· = applied fV fM (bin L v) (winIn fT (bin L v))) ∗ semVal (thr d L, SemLoc.dma sem) 0)
      ⊢ iprop((iprop(OutFl d L fT fV fM sem win v ∗ OutP d L (todo L (v + 1)) f0) -∗ Wp d L (k ⟨⟩) Q)
          -∗ Wp d L (Prog.lift (.enqueueDma win (.here (outW off inb)) (.dma sem) hs hd hsem) >>= k) Q) := by
  rw [todo_split L hv]
  iintro ⟨HT, Hw, Hv⟩ Hk
  ihave HT' := (pointsTo_union (q := fullShare) (f := f0) (todo_disj L hv)).1 $$ HT
  icases HT' with ⟨H1, H2⟩
  iapply (writeOut d L (dst := outW off inb) (f0 := f0) (fin := result fT fV fM) (P := (· = applied fV fM (bin L v) (winIn fT (bin L v)))) (by decide) ?_) $$ [H1 Hw Hv]
  · intro w hw
    rw [outW_read h, hw]
    funext j
    exact result_bigCell fT fV fM (bin L v) j
  · isplitl [Hw]; · iexact Hw
    isplitl [H1]; · rw [outW_set h]; iexact H1
    iexact Hv
  iintro HF
  rw [outW_set h]
  iapply Hk
  isplitl [HF]; · unfold OutFl; iexact HF
  iexact H2

theorem waitSend {win : Memref sig .scVector .vmem S64x512 .f32} {sem : DmaSem sig} {off : Fin 2 → ℕ} {inb : ∀ a, off a + S64x512.size a ≤ S64x524288.size a}
    {v : ℕ} (hv : v < 32) {hs : win.view.WordExact} {hd : (outW off inb).view.WordExact} {k : PUnit → Prog (TpuEff nD τ sig (Elt F) Λ₀ (thr d L).2) α} :
    iprop(OutFl d L fT fV fM sem win v ∗ OutP d L (past L v) (result fT fV fM) ∗ Owe d L O W ∗ Transfers.MayWaits (thr d L) (default : HIx 1) O)
      ⊢ iprop((iprop(Own d L win (fun _ => True) ∗ OutP d L (past L (v + 1)) (result fT fV fM) ∗ semVal (thr d L, SemLoc.dma sem) 0 ∗ Owe d L O W) -∗ Wp d L (k ⟨⟩) Q)
          -∗ Wp d L (Prog.lift (.waitDma2 sem win (outW off inb) hs hd) >>= k) Q) := by
  unfold OutFl
  rw [past_succ L hv]
  iintro ⟨HF, HP, HO, #Hmw⟩ Hk
  iapply (wait d L (dst := outW off inb) (rfl : _ = outN)) $$ [HF HO]
  · isplitl [HF]; · iexact HF
    isplitl [HO]; · iexact HO
    iexact Hmw
  iintro ⟨⟨HX, Hw⟩, Hv, HO⟩
  iapply Hk
  isplitl [Hw]; · iexact Hw
  isplitl [HP HX]
  · iapply (pointsTo_union (q := fullShare) (f := result fT fV fM) (past_disj L hv)).2
    isplitl [HP] <;> iassumption
  isplitl [Hv]; · iexact Hv
  iexact HO

end Windows

end Cert.Proof.Bins

end
-- ==== Proof.Gathering.lean ====
/-
  A bin's words read off the tile's part of the table, the list of rows its entries name, and the gather of those rows.
-/
module

public import proofs.«01_k».proof.Proof.Windows

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Gathering

variable (d : Dev nD) (L : grid0.Coords)
variable (fV : S16384x128.Idx → Elt F .f32) (fM : S65536.Idx → BitVec 32)

/-! ## The tile's part of the table -/

/-- The tile's 2048 words of the table. -/
def tabOf : S2048.Idx → BitVec 32 := fun j => fM fun a => match a with
  | 0 => ⟨(32768 * (L 0).val + 2048 * (L 1).val + (j 0).val) % 65536, Nat.mod_lt _ (by decide)⟩

/-- A word of them is a word of one of the tile's bins. -/
theorem tabOf_word {v : ℕ} (hv : v < 32) (w : Fin 64) (j : S2048.Idx) (h : (j 0).val = 64 * v + w.val) : tabOf L fM j = fM (metCell (bin L v) w) := by
  have h0 : (L 0).val < 2 := (L 0).isLt
  have h1 : (L 1).val < 16 := (L 1).isLt
  have hw := w.isLt
  have hb := bin_val L hv
  refine congrArg fM (funext fun a => ?_)
  match a with
  | 0 => exact Fin.ext (show (32768 * (L 0).val + 2048 * (L 1).val + (j 0).val) % 65536 = 64 * (bin L v).val + w.val by omega)

/-- Sixteen codes of a bin, loaded. -/
theorem load_code {v : ℕ} (hv : v < 32) (k : Fin 3) {off : Fin 1 → ℕ} {inb : ∀ a, off a + S16.size a ≤ S2048.size a} (h : off = ![64 * v + 16 + 16 * k.val]) (j : Fin 16) :
    tabOf L fM ((Rect.unit (s := S2048) off S16.size inb).toLoadRect.idx (lane j)) = code fM (bin L v) (ent k j) := by
  subst h
  refine tabOf_word L fM hv ⟨16 + (ent k j).val, by have := (ent k j).isLt; omega⟩ _ ?_
  show 64 * v + 16 + 16 * k.val + 1 * j.val = 64 * v + (16 + (16 * k.val + j.val))
  omega

/-- A bin's count, loaded. -/
theorem load_cnt {v : ℕ} (hv : v < 32) {off : Fin 1 → ℕ} {inb : ∀ a, off a + S16.size a ≤ S2048.size a} (h : off = ![64 * v]) :
    tabOf L fM ((Rect.unit (s := S2048) off S16.size inb).toLoadRect.idx (lane 0)) = cnt fM (bin L v) := by
  subst h
  refine tabOf_word L fM hv 0 _ ?_
  show 64 * v + 1 * 0 = 64 * v + 0
  omega

/-! ## The list of rows -/

/-- Word `e` of a list. -/
def lstCell (e : Fin 48) : S48.Idx := fun a => match a with
  | 0 => e

theorem lstCell_eta (x : S48.Idx) : lstCell (x 0) = x := by
  funext a
  match a with
  | 0 => rfl

/-- The list's first `n` words are the rows bin `b`'s first `n` entries name. -/
def Listed (b : Fin 1024) (n : ℕ) (l : S48.Idx → BitVec 32) : Prop := ∀ e : Fin 48, e.val < n → l (lstCell e) = posOf (code fM b e)

theorem Listed.zero (b : Fin 1024) (l : S48.Idx → BitVec 32) : Listed fM b 0 l := fun _ h => absurd h (Nat.not_lt_zero _)

theorem Listed.lt {b : Fin 1024} {l : S48.Idx → BitVec 32} (h : Listed fM b 48 l) (x : S48.Idx) : (l x).toNat < 16384 := by
  rw [← lstCell_eta x, h _ (x 0).isLt]
  exact posOf_lt _

/-- Sixteen more words. -/
theorem Listed.step {b : Fin 1024} (k : Fin 3) {off : Fin 1 → ℕ} {inb : ∀ a, off a + S16.size a ≤ S48.size a} (ho : off = ![16 * k.val])
    {w : S16.Idx → BitVec 32} (hw : ∀ j, w (lane j) = posOf (code fM b (ent k j))) (l l' : S48.Idx → BitVec 32) (h : Listed fM b (16 * k.val) l)
    (h1 : ∀ x, l' ((Rect.unit (s := S48) off S16.size inb).emb x) = w x) (h2 : ∀ y, y ∉ (Rect.unit (s := S48) off S16.size inb).set → l' y = l y) :
    Listed fM b (16 * k.val + 16) l' := by
  subst ho
  intro e he
  by_cases hk : e.val < 16 * k.val
  · rw [h2 _ ?_]
    · exact h e hk
    · rw [Rect.mem_set_unit]
      intro hm
      have : 16 * k.val ≤ e.val := (hm 0).1
      omega
  · have hj : e.val - 16 * k.val < 16 := by omega
    have e1 : (Rect.unit (s := S48) ![16 * k.val] S16.size inb).emb (lane ⟨e.val - 16 * k.val, hj⟩) = lstCell e := by
      funext a
      match a with
      | 0 => exact Fin.ext (show 16 * k.val + 1 * (e.val - 16 * k.val) = e.val by omega)
    have e2 : ent k ⟨e.val - 16 * k.val, hj⟩ = e := Fin.ext (show 16 * k.val + (e.val - 16 * k.val) = e.val by omega)
    rw [← e1, h1, hw, e2]

/-! ## The gather -/

/-- All of the values, as the gather addresses them. -/
abbrev valW : Memref sig .scVector .hbm S16384x128 .f32 :=
  valR.slice (Rect.unit (s := S16384x128) ![0, 0] S16384x128.size inb_S16384x128_S16384x128_0_0) (fun _ => rfl)

theorem valW_emb (x : S16384x128.Idx) : (Rect.unit (s := S16384x128) ![0, 0] S16384x128.size inb_S16384x128_S16384x128_0_0).emb x = x := by
  funext a
  match a with
  | 0 => exact Fin.ext (show 0 + 1 * (x 0).val = (x 0).val by omega)
  | 1 => exact Fin.ext (show 0 + 1 * (x 1).val = (x 1).val by omega)

theorem valW_set : valW.view.set = Finset.univ := by
  refine (View.set_slice_whole _ _).trans (Finset.eq_univ_iff_forall.mpr fun x => ?_)
  rw [← Rect.map_emb_univ]
  exact Finset.mem_map.mpr ⟨x, Finset.mem_univ _, valW_emb x⟩

theorem valW_read : valW.view.read (Elt F) fV = fV := by
  funext x
  refine (View.read_apply _ _).trans ((cast_eq _ _).trans ?_)
  exact congrArg fV (valW_emb x)

/-- What the gather brings is what the bin's entries name. -/
theorem payload {b : Fin 1024} {hg : S16384x128.Gathers 0 S48x128} {hn : S48.numel = S48x128.size hg.axis'} {l : S48.Idx → Elt F .i32} (hl : Listed fM b 48 l)
    (hin : ∀ x, (l x).toNat < S16384x128.size hg.axis) :
    SparseCore.gatherPayload hg (valW.view.read (Elt F) fV) (SparseCore.rows l hn hin) = gathered fV fM b := by
  rw [valW_read]
  funext x
  refine congrArg fV (funext fun a => ?_)
  match a with
  | 0 =>
    refine Fin.ext ?_
    refine (congrArg Fin.val (hg.idx_axis _ x)).trans ?_
    show (l (S48.rowMajor.symm (Fin.cast hn.symm (x hg.axis')))).toNat = (posOf (code fM b (x 0))).toNat
    have e : S48.rowMajor.symm (Fin.cast hn.symm (x hg.axis')) = lstCell (x 0) := by
      rw [Equiv.symm_apply_eq]
      refine Fin.ext ?_
      rw [Shape.rowMajor_val_one]
      rfl
    rw [e, hl _ (x 0).isLt]
  | 1 =>
    refine Fin.ext ?_
    exact Shape.Gathers.idx_of_ne hg _ x 1 (by decide)

variable {α : Type} {Q : α → sProp (MM F)} (q : PosShare TreeShare)

/-- The gather of bin `b`'s rows in flight. -/
def GaFl (sem : DmaSem sig) (rows : Memref sig .scVector .vmem S48x128 .f32) (lst : Memref sig .scVector .vmem S48 .i32) (b : Fin 1024) : sProp (MM F) :=
  Transfers.Flight countersEmb (thr d L) (.dma sem) (default : HIx 1) rows.view.dmaCredit
    iprop(Own d L rows (· = gathered fV fM b) ∗ ValP d L fV q ∗ Own d L lst fun _ => True)

theorem gatherBin {rows : Memref sig .scVector .vmem S48x128 .f32} {lst : Memref sig .scVector .vmem S48 .i32} {sem : DmaSem sig} {b : Fin 1024}
    {hg : S16384x128.Gathers 0 S48x128} {hn : S48.numel = S48x128.size hg.axis'}
    {hp : (thr d L).2.kind = .scVector} {hsrc : valW.view.WordExact} {he : (EltTy.f32).bits = 32} {hsp : Space.hbm = .hbm ∨ Space.hbm = .shared} {hr : S16384x128.StreamRows 0}
    {k : PUnit → Prog (TpuEff nD τ sig (Elt F) Λ₀ (thr d L).2) α} {P : (S48x128.Idx → Elt F .f32) → Prop}
    (hN : ∑ j, (rows.slice (S48x128.rowRect hg.axis' j) (S48x128.stride_rowRect hg.axis' j)).view.dmaCredit = rows.view.dmaCredit) :
    iprop(ValP d L fV q ∗ Own d L rows P ∗ Own d L lst (Listed fM b 48) ∗ semVal (thr d L, SemLoc.dma sem) 0)
      ⊢ iprop((GaFl d L fV fM q sem rows lst b -∗ Wp d L (k ⟨⟩) Q)
          -∗ Wp d L (SparseCore.enqueueIndirectGather hp valW rows hg lst hn sem hsrc he hsp hr >>= k) Q) := by
  iintro ⟨HV, Hr, Hl, Hv⟩ Hk
  iapply (gather d L (src := valW) (fs := fV) (q := q) (Pl := Listed fM b 48) (P' := (· = gathered fV fM b)) rows.view.dmaCredit hN
    (fun l hl => hl.lt fM) (fun l hl => payload fV fM hl _)) $$ [HV Hr Hl Hv]
  · isplitl [HV]; · rw [valW_set]; iexact HV
    isplitl [Hr]; · iexact Hr
    isplitl [Hl]; · iexact Hl
    iexact Hv
  iintro HF
  rw [valW_set]
  iapply Hk
  unfold GaFl
  iexact HF

variable {O : CellTallies nD τ sig (HIx 1)} {W : Waits sig (HIx 1)}

theorem waitGather {rows : Memref sig .scVector .vmem S48x128 .f32} {lst : Memref sig .scVector .vmem S48 .i32} {sem : DmaSem sig} {b : Fin 1024}
    {src : Memref sig (thr d L).2.kind .hbm S16384x128 .f32} {hs : src.view.WordExact} {hd : rows.view.WordExact} {k : PUnit → Prog (TpuEff nD τ sig (Elt F) Λ₀ (thr d L).2) α} :
    iprop(GaFl d L fV fM q sem rows lst b ∗ Owe d L O W ∗ Transfers.MayWaits (thr d L) (default : HIx 1) O)
      ⊢ iprop((iprop(Own d L rows (· = gathered fV fM b) ∗ ValP d L fV q ∗ Own d L lst (fun _ => True) ∗ semVal (thr d L, SemLoc.dma sem) 0 ∗ Owe d L O W) -∗ Wp d L (k ⟨⟩) Q)
          -∗ Wp d L (SparseCore.waitIndirectGather sem src rows hs hd >>= k) Q) := by
  unfold GaFl
  iintro ⟨HF, HO, #Hmw⟩ Hk
  iapply (wait d L (rfl : rows.view.dmaCredit = _)) $$ [HF HO]
  · isplitl [HF]; · iexact HF
    isplitl [HO]; · iexact HO
    iexact Hmw
  iintro ⟨⟨Hr, HV, Hl⟩, Hv, HO⟩
  iapply Hk
  isplitl [Hr]; · iexact Hr
  isplitl [HV]; · iexact HV
  isplitl [Hl]; · iexact Hl
  isplitl [Hv]; · iexact Hv
  iexact HO

theorem rowA_sum (h : S16384x128.Gathers 0 S48x128) :
    ∑ j, (rowA.slice (S48x128.rowRect h.axis' j) (S48x128.stride_rowRect h.axis' j)).view.dmaCredit = rowA.view.dmaCredit := by decide +revert
theorem rowB_sum (h : S16384x128.Gathers 0 S48x128) :
    ∑ j, (rowB.slice (S48x128.rowRect h.axis' j) (S48x128.stride_rowRect h.axis' j)).view.dmaCredit = rowB.view.dmaCredit := by decide +revert

end Gathering

end Cert.Proof.Bins

end
-- ==== Proof.Apply.lean ====
/-
  A block of a bin under its test: sixteen entries if the count reaches past its start, nothing otherwise. Either way the
  window ends as the block leaves it.
-/
module

public import proofs.«01_k».proof.Proof.Gathering

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Blocks

variable (d : Dev nD) (L : grid0.Coords)
variable (fV : S16384x128.Idx → Elt F .f32) (fM : S65536.Idx → BitVec 32)

/-- A signed comparison, carried as a word and tested. -/
theorem tested (p : CmpIPredicate) (x y : BitVec 32) : Scalar.cmpi .ne (Scalar.extui (Scalar.cmpi p x y)) 0#32 = 1#1 ↔ Scalar.cmpi p x y = 1#1 := by
  generalize Scalar.cmpi p x y = z
  revert z
  decide

theorem sgt_iff (x y : BitVec 32) : Scalar.cmpi .sgt x y = 1#1 ↔ y.toInt < x.toInt := by
  show BitVec.ofBool (y.slt x) = 1#1 ↔ _
  rw [BitVec.slt]
  by_cases h : y.toInt < x.toInt <;> simp [h]

theorem slt_iff (x y : BitVec 32) : IntOp.cmpi .slt x y = 1#1 ↔ x.toInt < y.toInt := by
  show BitVec.ofBool (x.slt y) = 1#1 ↔ _
  rw [BitVec.slt]
  by_cases h : x.toInt < y.toInt <;> simp [h]

theorem past0 {v c : BitVec 32} (e : v = c) : k0_cond2 v = 1#1 ↔ 16 * (((0 : Fin 3).val : ℕ) : ℤ) < c.toInt := by
  subst e
  exact (tested _ _ _).trans (sgt_iff _ _)
theorem past1 {v c : BitVec 32} (e : v = c) : k0_cond3 v = 1#1 ↔ 16 * (((1 : Fin 3).val : ℕ) : ℤ) < c.toInt := by
  subst e
  exact (tested _ _ _).trans (sgt_iff _ _)
theorem past2 {v c : BitVec 32} (e : v = c) : k0_cond4 v = 1#1 ↔ 16 * (((2 : Fin 3).val : ℕ) : ℤ) < c.toInt := by
  subst e
  exact (tested _ _ _).trans (sgt_iff _ _)

/-- A lane is on iff its entry is in use. -/
theorem mask_iff {v c : BitVec 32} (e : v = c) (pos : IVec S16 32) (k : Fin 3) (hp : ∀ j, (pos (lane j)).toNat = (ent k j).val) (j : Fin 16) :
    k0_pay3 v pos (lane j) = 1 ↔ ((ent k j).val : ℤ) < c.toInt := by
  subst e
  refine (slt_iff (pos (lane j)) v).trans ?_
  have h := hp j
  have hl := (ent k j).isLt
  rw [BitVec.toInt_eq_toNat_of_lt (by omega), h]

/-- The columns a block's codes name. -/
theorem loc_eq {ft : Buf (Elt F) ((tabR.access (.whole S2048)).loc (thr d L))} (hft : tabR.view.read (Elt F) ft = tabOf L fM) {v : ℕ} (hv : v < 32) (k : Fin 3)
    {off : Fin 1 → ℕ} {inb : ∀ a, off a + S16.size a ≤ S2048.size a} (h : off = ![64 * v + 16 + 16 * k.val]) (j : Fin 16) :
    k0_pay1 (F := F) (tabR.view.readAt (Elt F) (Rect.unit (s := S2048) off S16.size inb).toLoadRect ft) (lane j) = colOf (code fM (bin L v) (ent k j)) := by
  rw [pay1]
  refine congrArg colOf ?_
  refine Eq.trans ?_ (load_code L fM hv k (inb := inb) h j)
  rw [← hft]
  rfl

/-- A program run, then what follows it. -/
theorem bindW {α β : Type} {p : Prog (TpuEff nD τ sig (Elt F) Λ₀ (thr d L).2) α} {k : α → Prog (TpuEff nD τ sig (Elt F) Λ₀ (thr d L).2) β} {X : sProp (MM F)} {Q : β → sProp (MM F)}
    (h : X ⊢ Wp d L p fun a => Wp d L (k a) Q) : X ⊢ Wp d L (p >>= k) Q := by
  refine h.trans (Entails.of_eq ?_)
  exact (wp_bind _ _ _ _ _ _).symm

/-- The same, by what the first program is known to end in. -/
theorem runW {α β : Type} {p : Prog (TpuEff nD τ sig (Elt F) Λ₀ (thr d L).2) α} {k : α → Prog (TpuEff nD τ sig (Elt F) Λ₀ (thr d L).2) β} {R : α → sProp (MM F)} {Q : β → sProp (MM F)} :
    Wp d L p R ⊢ iprop((∀ a, R a -∗ Wp d L (k a) Q) -∗ Wp d L (p >>= k) Q) := by
  iintro Hp Hk
  iapply (bindW d L (p := p) (k := k) (Q := Q) BIBase.Entails.rfl)
  iapply (wp_wand _ _ _) $$ Hp
  iexact Hk

/-- A block under its test, with what follows it. -/
theorem blk {c : Prop} [Decidable c] {rows : Memref sig .scVector .vmem S48x128 .f32} {win : Memref sig .scVector .vmem S64x512 .f32}
    {α : Type} {A : c → Prog (TpuEff nD τ sig (Elt F) Λ₀ (thr d L).2) α} {J : Prog (TpuEff nD τ sig (Elt F) Λ₀ (thr d L).2) α} {Q : α → sProp (MM F)} {R : sProp (MM F)}
    {b : Fin 1024} (k : Fin 3) (w : S64x512.Idx → Elt F .f32) (hc : c ↔ 16 * (k.val : ℤ) < (cnt fM b).toInt)
    (hJ : iprop(R ∗ Own d L tabR (· = tabOf L fM) ∗ Own d L rows (· = gathered fV fM b) ∗ Own d L win (· = block fV fM b k w)) ⊢ Wp d L J Q)
    (hA : ∀ (h : c) (ft : Buf (Elt F) ((tabR.access (.whole S2048)).loc (thr d L))) (fr : Buf (Elt F) ((rows.access (.whole S48x128)).loc (thr d L)))
      (g : Buf (Elt F) ((win.access (.whole S64x512)).loc (thr d L))), tabR.view.read (Elt F) ft = tabOf L fM →
      (∀ (loc : IVec S16 32) (mask : IVec S16 1) (g' : Buf (Elt F) ((win.access (.whole S64x512)).loc (thr d L))),
        (∀ j, loc (lane j) = colOf (code fM b (ent k j))) → (∀ j, mask (lane j) = 1 ↔ ((ent k j).val : ℤ) < (cnt fM b).toInt) →
        Cols ((rows.access (.whole S48x128)).read (Elt F) fr) (ent k) loc mask 64 ((win.access (.whole S64x512)).read (Elt F) g) ((win.access (.whole S64x512)).read (Elt F) g') →
        iprop((R ∗ Held d L tabR ft) ∗ Held d L rows fr ∗ Held d L win g') ⊢ Wp d L J Q) →
      iprop((R ∗ Held d L tabR ft) ∗ Held d L rows fr ∗ Held d L win g) ⊢ Wp d L (A h) Q) :
    iprop(R ∗ Own d L tabR (· = tabOf L fM) ∗ Own d L rows (· = gathered fV fM b) ∗ Own d L win (· = w))
      ⊢ Wp d L (if h : c then A h else J) Q := by
  by_cases h : c
  · rw [dif_pos h]
    unfold Own
    iintro ⟨HR, ⟨%ft, %hft, Ht⟩, ⟨%fr, %hfr, Hr⟩, ⟨%g, %hg, Hw⟩⟩
    have hK : ∀ (loc : IVec S16 32) (mask : IVec S16 1) (g' : Buf (Elt F) ((win.access (.whole S64x512)).loc (thr d L))),
        (∀ j, loc (lane j) = colOf (code fM b (ent k j))) → (∀ j, mask (lane j) = 1 ↔ ((ent k j).val : ℤ) < (cnt fM b).toInt) →
        Cols ((rows.access (.whole S48x128)).read (Elt F) fr) (ent k) loc mask 64 ((win.access (.whole S64x512)).read (Elt F) g) ((win.access (.whole S64x512)).read (Elt F) g') →
        iprop((R ∗ Held d L tabR ft) ∗ Held d L rows fr ∗ Held d L win g') ⊢ Wp d L J Q := by
      intro loc mask g' hl hm hC
      refine BIBase.Entails.trans ?_ hJ
      iintro ⟨⟨HR, Ht⟩, Hr, Hw⟩
      isplitl [HR]; · iexact HR
      isplitl [Ht]; · iapply (Own.of_held d L (P := (· = tabOf L fM)) hft) $$ Ht
      isplitl [Hr]; · iapply (Own.of_held d L (P := (· = gathered fV fM b)) hfr) $$ Hr
      rw [acc_read, acc_read, acc_read, hg] at hC
      iapply (Own.of_held d L (P := (· = block fV fM b k w)) (block_on fV fM hfr hl hm hC)) $$ Hw
    iapply (hA h ft fr g hft hK)
    isplitl [HR Ht]
    · isplitl [HR]; · iexact HR
      iexact Ht
    isplitl [Hr]; · iexact Hr
    iexact Hw
  · rw [dif_neg h]
    rw [block_off fV fM (fun hh => h (hc.2 hh))] at hJ
    exact hJ

end Blocks

end Cert.Proof.Bins

end
-- ==== Proof.PartsA.lean ====
/-
  The parts of an even bin's three blocks: sixteen entries each, copied a column at a time from the first row buffer
  into the first window.
-/
module

public import proofs.«01_k».proof.Proof.Column

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Parts

variable (d : Dev nD) (L : grid0.Coords)
variable (arg2 : Memref sig .scVector .hbm S64x524288 .f32) (harg2 : arg2.IsWhole) (arg3 : Memref sig .scVector .hbm S16384x128 .f32) (harg3 : arg3.IsWhole) (arg4 : Memref sig .scVector .hbm S65536 .i32) (harg4 : arg4.IsWhole) (arg5 : Memref sig .scVector .hbm S64x524288 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S2048 .i32) (harg8 : arg8.IsWhole) (arg9 : Memref sig .scVector .vmem S48x128 .f32) (harg9 : arg9.IsWhole) (arg10 : Memref sig .scVector .vmem S48x128 .f32) (harg10 : arg10.IsWhole) (arg11 : Memref sig .scVector .vmem S48 .i32) (harg11 : arg11.IsWhole) (arg12 : Memref sig .scVector .vmem S48 .i32) (harg12 : arg12.IsWhole) (arg13 : DmaSems sig S_) (arg14 : DmaSems sig S_) (arg15 : DmaSems sig S_) (arg16 : DmaSems sig S_) (arg17 : DmaSems sig S_) (arg18 : DmaSems sig S_) (v31_r0 : DmaSems sig S_)

/-- Columns 0 to 7 of the block, after the load of its sixteen codes. -/
theorem part1_run (k0_t1 : Fin k0_t1_loop.trips) (v32 : BitVec 32) (v82 : BitVec 32) (k0_h2 : k0_cond2 v82 = 1#1)
    {R : sProp (MM F)} {Q : _ → sProp (MM F)} (ft : Buf (Elt F) ((arg8.access (.whole S2048)).loc (thr d L)))
    (fr : Buf (Elt F) ((arg9.access (.whole S48x128)).loc (thr d L))) (g : Buf (Elt F) ((arg6.access (.whole S64x512)).loc (thr d L)))
    {r : Fin 16 → Fin 48} (hr : ∀ k, (k0_pay2 (lane k)).toNat = (r k).val)
    (hloc : ∀ k, ((k0_pay1 (arg8.view.readAt (Elt F) (Rect.unit (s := S2048) (k0_off8 k0_t1) S16.size (k0_off8_inb k0_t1)).toLoadRect ft)) (lane k)).toNat < 512)
    (h : ∀ hw (g' : Buf (Elt F) ((arg6.access (.whole S64x512)).loc (thr d L))),
      Cols ((arg9.access (.whole S48x128)).read (Elt F) fr) r (k0_pay1 (arg8.view.readAt (Elt F) (Rect.unit (s := S2048) (k0_off8 k0_t1) S16.size (k0_off8_inb k0_t1)).toLoadRect ft)) (k0_pay3 v82 k0_pay2) 8 ((arg6.access (.whole S64x512)).read (Elt F) g)
        ((arg6.access (.whole S64x512)).read (Elt F) g') →
      iprop((R ∗ Held d L arg8 ft) ∗ Held d L arg9 fr ∗ Held d L arg6 g')
        ⊢ Q ⟨(k0_pay1 (arg8.view.readAt (Elt F) (Rect.unit (s := S2048) (k0_off8 k0_t1) S16.size (k0_off8_inb k0_t1)).toLoadRect ft)), k0_pay2, (k0_pay3 v82 k0_pay2), broadcast S16 (BitVec.ofNat 32 8), hw⟩) :
    iprop((R ∗ Held d L arg8 ft) ∗ Held d L arg9 fr ∗ Held d L arg6 g)
      ⊢ Wp d L (k0_part1 L arg2 harg2 arg3 harg3 arg4 harg4 arg5 harg5 arg6 harg6 arg7 harg7 arg8 harg8 arg9 harg9 arg10 harg10 arg11 harg11 arg12 harg12 arg13 arg14 arg15 arg16 arg17 arg18 v31_r0 k0_t1 v32 v82 k0_h2) Q := by
  rw [k0_part1_eq_skeleton]; unfold k0_part1_skel
  refine loadTab d L ?_
  refine asm d L (chk_ok 0 (by decide) hr hloc) ?_
  refine pair d L fr _ 0 (by decide) hr (Cols.zero _ r _ _ _) fun g1 hC1 => ?_
  refine asm d L (chk_ok 1 (by decide) hr hloc) ?_
  refine pair d L fr _ 1 (by decide) hr hC1 fun g2 hC2 => ?_
  refine asm d L (chk_ok 2 (by decide) hr hloc) ?_
  refine pair d L fr _ 2 (by decide) hr hC2 fun g3 hC3 => ?_
  refine asm d L (chk_ok 3 (by decide) hr hloc) ?_
  refine pair d L fr _ 3 (by decide) hr hC3 fun g4 hC4 => ?_
  refine asm d L (chk_ok 4 (by decide) hr hloc) ?_
  refine pair d L fr _ 4 (by decide) hr hC4 fun g5 hC5 => ?_
  refine asm d L (chk_ok 5 (by decide) hr hloc) ?_
  refine pair d L fr _ 5 (by decide) hr hC5 fun g6 hC6 => ?_
  refine asm d L (chk_ok 6 (by decide) hr hloc) ?_
  refine pair d L fr _ 6 (by decide) hr hC6 fun g7 hC7 => ?_
  refine asm d L (chk_ok 7 (by decide) hr hloc) ?_
  refine pair d L fr _ 7 (by decide) hr hC7 fun g8 hC8 => ?_
  refine asm d L (chk_ok 8 (by decide) hr hloc) ?_
  exact done d L (h _ g8 hC8)

/-- Columns 8 to 19 of the block. -/
theorem part2_run (v82 : BitVec 32) (k0_h2 : k0_cond2 v82 = 1#1) (v136 : IVec S16 32) (v139 : IVec S16 32) (v141 : IVec S16 1) (v158 : IVec S16 32) (k0_hw9 : k0_chk9 v82 v136 v139 v158)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v158 = broadcast S16 (BitVec.ofNat 32 8)) (w₀ : S64x512.Idx → Elt F .f32)
    (hC : Cols ((arg9.access (.whole S48x128)).read (Elt F) fr) r v136 v141 8 w₀ ((arg6.access (.whole S64x512)).read (Elt F) g))
    (h : ∀ hw (g' : Buf (Elt F) ((arg6.access (.whole S64x512)).loc (thr d L))),
      Cols ((arg9.access (.whole S48x128)).read (Elt F) fr) r v136 v141 20 w₀ ((arg6.access (.whole S64x512)).read (Elt F) g') →
      iprop(R ∗ Held d L arg9 fr ∗ Held d L arg6 g') ⊢ Q ⟨broadcast S16 (BitVec.ofNat 32 20), hw⟩) :
    iprop(R ∗ Held d L arg9 fr ∗ Held d L arg6 g)
      ⊢ Wp d L (k0_part2 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h2 v136 v139 v141 v158 k0_hw9) Q := by
  subst hv
  rw [k0_part2_eq_skeleton]; unfold k0_part2_skel
  refine pair d L fr _ 8 (by decide) hr hC fun g1 hC1 => ?_
  refine asm d L (chk_ok 9 (by decide) hr hloc) ?_
  refine pair d L fr _ 9 (by decide) hr hC1 fun g2 hC2 => ?_
  refine asm d L (chk_ok 10 (by decide) hr hloc) ?_
  refine pair d L fr _ 10 (by decide) hr hC2 fun g3 hC3 => ?_
  refine asm d L (chk_ok 11 (by decide) hr hloc) ?_
  refine pair d L fr _ 11 (by decide) hr hC3 fun g4 hC4 => ?_
  refine asm d L (chk_ok 12 (by decide) hr hloc) ?_
  refine pair d L fr _ 12 (by decide) hr hC4 fun g5 hC5 => ?_
  refine asm d L (chk_ok 13 (by decide) hr hloc) ?_
  refine pair d L fr _ 13 (by decide) hr hC5 fun g6 hC6 => ?_
  refine asm d L (chk_ok 14 (by decide) hr hloc) ?_
  refine pair d L fr _ 14 (by decide) hr hC6 fun g7 hC7 => ?_
  refine asm d L (chk_ok 15 (by decide) hr hloc) ?_
  refine pair d L fr _ 15 (by decide) hr hC7 fun g8 hC8 => ?_
  refine asm d L (chk_ok 16 (by decide) hr hloc) ?_
  refine pair d L fr _ 16 (by decide) hr hC8 fun g9 hC9 => ?_
  refine asm d L (chk_ok 17 (by decide) hr hloc) ?_
  refine pair d L fr _ 17 (by decide) hr hC9 fun g10 hC10 => ?_
  refine asm d L (chk_ok 18 (by decide) hr hloc) ?_
  refine pair d L fr _ 18 (by decide) hr hC10 fun g11 hC11 => ?_
  refine asm d L (chk_ok 19 (by decide) hr hloc) ?_
  refine pair d L fr _ 19 (by decide) hr hC11 fun g12 hC12 => ?_
  refine asm d L (chk_ok 20 (by decide) hr hloc) ?_
  exact done d L (h _ g12 hC12)

/-- Columns 20 to 31 of the block. -/
theorem part3_run (v82 : BitVec 32) (k0_h2 : k0_cond2 v82 = 1#1) (v136 : IVec S16 32) (v139 : IVec S16 32) (v141 : IVec S16 1) (v182 : IVec S16 32) (k0_hw21 : k0_chk21 v82 v136 v139 v182)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v182 = broadcast S16 (BitVec.ofNat 32 20)) (w₀ : S64x512.Idx → Elt F .f32)
    (hC : Cols ((arg9.access (.whole S48x128)).read (Elt F) fr) r v136 v141 20 w₀ ((arg6.access (.whole S64x512)).read (Elt F) g))
    (h : ∀ hw (g' : Buf (Elt F) ((arg6.access (.whole S64x512)).loc (thr d L))),
      Cols ((arg9.access (.whole S48x128)).read (Elt F) fr) r v136 v141 32 w₀ ((arg6.access (.whole S64x512)).read (Elt F) g') →
      iprop(R ∗ Held d L arg9 fr ∗ Held d L arg6 g') ⊢ Q ⟨broadcast S16 (BitVec.ofNat 32 32), hw⟩) :
    iprop(R ∗ Held d L arg9 fr ∗ Held d L arg6 g)
      ⊢ Wp d L (k0_part3 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h2 v136 v139 v141 v182 k0_hw21) Q := by
  subst hv
  rw [k0_part3_eq_skeleton]; unfold k0_part3_skel
  refine pair d L fr _ 20 (by decide) hr hC fun g1 hC1 => ?_
  refine asm d L (chk_ok 21 (by decide) hr hloc) ?_
  refine pair d L fr _ 21 (by decide) hr hC1 fun g2 hC2 => ?_
  refine asm d L (chk_ok 22 (by decide) hr hloc) ?_
  refine pair d L fr _ 22 (by decide) hr hC2 fun g3 hC3 => ?_
  refine asm d L (chk_ok 23 (by decide) hr hloc) ?_
  refine pair d L fr _ 23 (by decide) hr hC3 fun g4 hC4 => ?_
  refine asm d L (chk_ok 24 (by decide) hr hloc) ?_
  refine pair d L fr _ 24 (by decide) hr hC4 fun g5 hC5 => ?_
  refine asm d L (chk_ok 25 (by decide) hr hloc) ?_
  refine pair d L fr _ 25 (by decide) hr hC5 fun g6 hC6 => ?_
  refine asm d L (chk_ok 26 (by decide) hr hloc) ?_
  refine pair d L fr _ 26 (by decide) hr hC6 fun g7 hC7 => ?_
  refine asm d L (chk_ok 27 (by decide) hr hloc) ?_
  refine pair d L fr _ 27 (by decide) hr hC7 fun g8 hC8 => ?_
  refine asm d L (chk_ok 28 (by decide) hr hloc) ?_
  refine pair d L fr _ 28 (by decide) hr hC8 fun g9 hC9 => ?_
  refine asm d L (chk_ok 29 (by decide) hr hloc) ?_
  refine pair d L fr _ 29 (by decide) hr hC9 fun g10 hC10 => ?_
  refine asm d L (chk_ok 30 (by decide) hr hloc) ?_
  refine pair d L fr _ 30 (by decide) hr hC10 fun g11 hC11 => ?_
  refine asm d L (chk_ok 31 (by decide) hr hloc) ?_
  refine pair d L fr _ 31 (by decide) hr hC11 fun g12 hC12 => ?_
  refine asm d L (chk_ok 32 (by decide) hr hloc) ?_
  exact done d L (h _ g12 hC12)

/-- Columns 32 to 43 of the block. -/
theorem part4_run (v82 : BitVec 32) (k0_h2 : k0_cond2 v82 = 1#1) (v136 : IVec S16 32) (v139 : IVec S16 32) (v141 : IVec S16 1) (v206 : IVec S16 32) (k0_hw33 : k0_chk33 v82 v136 v139 v206)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v206 = broadcast S16 (BitVec.ofNat 32 32)) (w₀ : S64x512.Idx → Elt F .f32)
    (hC : Cols ((arg9.access (.whole S48x128)).read (Elt F) fr) r v136 v141 32 w₀ ((arg6.access (.whole S64x512)).read (Elt F) g))
    (h : ∀ hw (g' : Buf (Elt F) ((arg6.access (.whole S64x512)).loc (thr d L))),
      Cols ((arg9.access (.whole S48x128)).read (Elt F) fr) r v136 v141 44 w₀ ((arg6.access (.whole S64x512)).read (Elt F) g') →
      iprop(R ∗ Held d L arg9 fr ∗ Held d L arg6 g') ⊢ Q ⟨broadcast S16 (BitVec.ofNat 32 44), hw⟩) :
    iprop(R ∗ Held d L arg9 fr ∗ Held d L arg6 g)
      ⊢ Wp d L (k0_part4 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h2 v136 v139 v141 v206 k0_hw33) Q := by
  subst hv
  rw [k0_part4_eq_skeleton]; unfold k0_part4_skel
  refine pair d L fr _ 32 (by decide) hr hC fun g1 hC1 => ?_
  refine asm d L (chk_ok 33 (by decide) hr hloc) ?_
  refine pair d L fr _ 33 (by decide) hr hC1 fun g2 hC2 => ?_
  refine asm d L (chk_ok 34 (by decide) hr hloc) ?_
  refine pair d L fr _ 34 (by decide) hr hC2 fun g3 hC3 => ?_
  refine asm d L (chk_ok 35 (by decide) hr hloc) ?_
  refine pair d L fr _ 35 (by decide) hr hC3 fun g4 hC4 => ?_
  refine asm d L (chk_ok 36 (by decide) hr hloc) ?_
  refine pair d L fr _ 36 (by decide) hr hC4 fun g5 hC5 => ?_
  refine asm d L (chk_ok 37 (by decide) hr hloc) ?_
  refine pair d L fr _ 37 (by decide) hr hC5 fun g6 hC6 => ?_
  refine asm d L (chk_ok 38 (by decide) hr hloc) ?_
  refine pair d L fr _ 38 (by decide) hr hC6 fun g7 hC7 => ?_
  refine asm d L (chk_ok 39 (by decide) hr hloc) ?_
  refine pair d L fr _ 39 (by decide) hr hC7 fun g8 hC8 => ?_
  refine asm d L (chk_ok 40 (by decide) hr hloc) ?_
  refine pair d L fr _ 40 (by decide) hr hC8 fun g9 hC9 => ?_
  refine asm d L (chk_ok 41 (by decide) hr hloc) ?_
  refine pair d L fr _ 41 (by decide) hr hC9 fun g10 hC10 => ?_
  refine asm d L (chk_ok 42 (by decide) hr hloc) ?_
  refine pair d L fr _ 42 (by decide) hr hC10 fun g11 hC11 => ?_
  refine asm d L (chk_ok 43 (by decide) hr hloc) ?_
  refine pair d L fr _ 43 (by decide) hr hC11 fun g12 hC12 => ?_
  refine asm d L (chk_ok 44 (by decide) hr hloc) ?_
  exact done d L (h _ g12 hC12)

/-- Columns 44 to 55 of the block. -/
theorem part5_run (v82 : BitVec 32) (k0_h2 : k0_cond2 v82 = 1#1) (v136 : IVec S16 32) (v139 : IVec S16 32) (v141 : IVec S16 1) (v230 : IVec S16 32) (k0_hw45 : k0_chk45 v82 v136 v139 v230)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v230 = broadcast S16 (BitVec.ofNat 32 44)) (w₀ : S64x512.Idx → Elt F .f32)
    (hC : Cols ((arg9.access (.whole S48x128)).read (Elt F) fr) r v136 v141 44 w₀ ((arg6.access (.whole S64x512)).read (Elt F) g))
    (h : ∀ hw (g' : Buf (Elt F) ((arg6.access (.whole S64x512)).loc (thr d L))),
      Cols ((arg9.access (.whole S48x128)).read (Elt F) fr) r v136 v141 56 w₀ ((arg6.access (.whole S64x512)).read (Elt F) g') →
      iprop(R ∗ Held d L arg9 fr ∗ Held d L arg6 g') ⊢ Q ⟨broadcast S16 (BitVec.ofNat 32 56), hw⟩) :
    iprop(R ∗ Held d L arg9 fr ∗ Held d L arg6 g)
      ⊢ Wp d L (k0_part5 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h2 v136 v139 v141 v230 k0_hw45) Q := by
  subst hv
  rw [k0_part5_eq_skeleton]; unfold k0_part5_skel
  refine pair d L fr _ 44 (by decide) hr hC fun g1 hC1 => ?_
  refine asm d L (chk_ok 45 (by decide) hr hloc) ?_
  refine pair d L fr _ 45 (by decide) hr hC1 fun g2 hC2 => ?_
  refine asm d L (chk_ok 46 (by decide) hr hloc) ?_
  refine pair d L fr _ 46 (by decide) hr hC2 fun g3 hC3 => ?_
  refine asm d L (chk_ok 47 (by decide) hr hloc) ?_
  refine pair d L fr _ 47 (by decide) hr hC3 fun g4 hC4 => ?_
  refine asm d L (chk_ok 48 (by decide) hr hloc) ?_
  refine pair d L fr _ 48 (by decide) hr hC4 fun g5 hC5 => ?_
  refine asm d L (chk_ok 49 (by decide) hr hloc) ?_
  refine pair d L fr _ 49 (by decide) hr hC5 fun g6 hC6 => ?_
  refine asm d L (chk_ok 50 (by decide) hr hloc) ?_
  refine pair d L fr _ 50 (by decide) hr hC6 fun g7 hC7 => ?_
  refine asm d L (chk_ok 51 (by decide) hr hloc) ?_
  refine pair d L fr _ 51 (by decide) hr hC7 fun g8 hC8 => ?_
  refine asm d L (chk_ok 52 (by decide) hr hloc) ?_
  refine pair d L fr _ 52 (by decide) hr hC8 fun g9 hC9 => ?_
  refine asm d L (chk_ok 53 (by decide) hr hloc) ?_
  refine pair d L fr _ 53 (by decide) hr hC9 fun g10 hC10 => ?_
  refine asm d L (chk_ok 54 (by decide) hr hloc) ?_
  refine pair d L fr _ 54 (by decide) hr hC10 fun g11 hC11 => ?_
  refine asm d L (chk_ok 55 (by decide) hr hloc) ?_
  refine pair d L fr _ 55 (by decide) hr hC11 fun g12 hC12 => ?_
  refine asm d L (chk_ok 56 (by decide) hr hloc) ?_
  exact done d L (h _ g12 hC12)

/-- Columns 0 to 7 of the block, after the load of its sixteen codes. -/
theorem part6_run (k0_t1 : Fin k0_t1_loop.trips) (v32 : BitVec 32) (v82 : BitVec 32) (k0_h3 : k0_cond3 v82 = 1#1)
    {R : sProp (MM F)} {Q : _ → sProp (MM F)} (ft : Buf (Elt F) ((arg8.access (.whole S2048)).loc (thr d L)))
    (fr : Buf (Elt F) ((arg9.access (.whole S48x128)).loc (thr d L))) (g : Buf (Elt F) ((arg6.access (.whole S64x512)).loc (thr d L)))
    {r : Fin 16 → Fin 48} (hr : ∀ k, (k0_pay5 (lane k)).toNat = (r k).val)
    (hloc : ∀ k, ((k0_pay4 (arg8.view.readAt (Elt F) (Rect.unit (s := S2048) (k0_off9 k0_t1) S16.size (k0_off9_inb k0_t1)).toLoadRect ft)) (lane k)).toNat < 512)
    (h : ∀ hw (g' : Buf (Elt F) ((arg6.access (.whole S64x512)).loc (thr d L))),
      Cols ((arg9.access (.whole S48x128)).read (Elt F) fr) r (k0_pay4 (arg8.view.readAt (Elt F) (Rect.unit (s := S2048) (k0_off9 k0_t1) S16.size (k0_off9_inb k0_t1)).toLoadRect ft)) (k0_pay6 v82 k0_pay5) 8 ((arg6.access (.whole S64x512)).read (Elt F) g)
        ((arg6.access (.whole S64x512)).read (Elt F) g') →
      iprop((R ∗ Held d L arg8 ft) ∗ Held d L arg9 fr ∗ Held d L arg6 g')
        ⊢ Q ⟨(k0_pay4 (arg8.view.readAt (Elt F) (Rect.unit (s := S2048) (k0_off9 k0_t1) S16.size (k0_off9_inb k0_t1)).toLoadRect ft)), k0_pay5, (k0_pay6 v82 k0_pay5), broadcast S16 (BitVec.ofNat 32 8), hw⟩) :
    iprop((R ∗ Held d L arg8 ft) ∗ Held d L arg9 fr ∗ Held d L arg6 g)
      ⊢ Wp d L (k0_part6 L arg2 harg2 arg3 harg3 arg4 harg4 arg5 harg5 arg6 harg6 arg7 harg7 arg8 harg8 arg9 harg9 arg10 harg10 arg11 harg11 arg12 harg12 arg13 arg14 arg15 arg16 arg17 arg18 v31_r0 k0_t1 v32 v82 k0_h3) Q := by
  rw [k0_part6_eq_skeleton]; unfold k0_part6_skel
  refine loadTab d L ?_
  refine asm d L (chk_ok 0 (by decide) hr hloc) ?_
  refine pair d L fr _ 0 (by decide) hr (Cols.zero _ r _ _ _) fun g1 hC1 => ?_
  refine asm d L (chk_ok 1 (by decide) hr hloc) ?_
  refine pair d L fr _ 1 (by decide) hr hC1 fun g2 hC2 => ?_
  refine asm d L (chk_ok 2 (by decide) hr hloc) ?_
  refine pair d L fr _ 2 (by decide) hr hC2 fun g3 hC3 => ?_
  refine asm d L (chk_ok 3 (by decide) hr hloc) ?_
  refine pair d L fr _ 3 (by decide) hr hC3 fun g4 hC4 => ?_
  refine asm d L (chk_ok 4 (by decide) hr hloc) ?_
  refine pair d L fr _ 4 (by decide) hr hC4 fun g5 hC5 => ?_
  refine asm d L (chk_ok 5 (by decide) hr hloc) ?_
  refine pair d L fr _ 5 (by decide) hr hC5 fun g6 hC6 => ?_
  refine asm d L (chk_ok 6 (by decide) hr hloc) ?_
  refine pair d L fr _ 6 (by decide) hr hC6 fun g7 hC7 => ?_
  refine asm d L (chk_ok 7 (by decide) hr hloc) ?_
  refine pair d L fr _ 7 (by decide) hr hC7 fun g8 hC8 => ?_
  refine asm d L (chk_ok 8 (by decide) hr hloc) ?_
  exact done d L (h _ g8 hC8)

/-- Columns 8 to 19 of the block. -/
theorem part7_run (v82 : BitVec 32) (k0_h3 : k0_cond3 v82 = 1#1) (v136 : IVec S16 32) (v139 : IVec S16 32) (v141 : IVec S16 1) (v158 : IVec S16 32) (k0_hw73 : k0_chk73 v82 v136 v139 v158)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v158 = broadcast S16 (BitVec.ofNat 32 8)) (w₀ : S64x512.Idx → Elt F .f32)
    (hC : Cols ((arg9.access (.whole S48x128)).read (Elt F) fr) r v136 v141 8 w₀ ((arg6.access (.whole S64x512)).read (Elt F) g))
    (h : ∀ hw (g' : Buf (Elt F) ((arg6.access (.whole S64x512)).loc (thr d L))),
      Cols ((arg9.access (.whole S48x128)).read (Elt F) fr) r v136 v141 20 w₀ ((arg6.access (.whole S64x512)).read (Elt F) g') →
      iprop(R ∗ Held d L arg9 fr ∗ Held d L arg6 g') ⊢ Q ⟨broadcast S16 (BitVec.ofNat 32 20), hw⟩) :
    iprop(R ∗ Held d L arg9 fr ∗ Held d L arg6 g)
      ⊢ Wp d L (k0_part7 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h3 v136 v139 v141 v158 k0_hw73) Q := by
  subst hv
  rw [k0_part7_eq_skeleton]; unfold k0_part7_skel
  refine pair d L fr _ 8 (by decide) hr hC fun g1 hC1 => ?_
  refine asm d L (chk_ok 9 (by decide) hr hloc) ?_
  refine pair d L fr _ 9 (by decide) hr hC1 fun g2 hC2 => ?_
  refine asm d L (chk_ok 10 (by decide) hr hloc) ?_
  refine pair d L fr _ 10 (by decide) hr hC2 fun g3 hC3 => ?_
  refine asm d L (chk_ok 11 (by decide) hr hloc) ?_
  refine pair d L fr _ 11 (by decide) hr hC3 fun g4 hC4 => ?_
  refine asm d L (chk_ok 12 (by decide) hr hloc) ?_
  refine pair d L fr _ 12 (by decide) hr hC4 fun g5 hC5 => ?_
  refine asm d L (chk_ok 13 (by decide) hr hloc) ?_
  refine pair d L fr _ 13 (by decide) hr hC5 fun g6 hC6 => ?_
  refine asm d L (chk_ok 14 (by decide) hr hloc) ?_
  refine pair d L fr _ 14 (by decide) hr hC6 fun g7 hC7 => ?_
  refine asm d L (chk_ok 15 (by decide) hr hloc) ?_
  refine pair d L fr _ 15 (by decide) hr hC7 fun g8 hC8 => ?_
  refine asm d L (chk_ok 16 (by decide) hr hloc) ?_
  refine pair d L fr _ 16 (by decide) hr hC8 fun g9 hC9 => ?_
  refine asm d L (chk_ok 17 (by decide) hr hloc) ?_
  refine pair d L fr _ 17 (by decide) hr hC9 fun g10 hC10 => ?_
  refine asm d L (chk_ok 18 (by decide) hr hloc) ?_
  refine pair d L fr _ 18 (by decide) hr hC10 fun g11 hC11 => ?_
  refine asm d L (chk_ok 19 (by decide) hr hloc) ?_
  refine pair d L fr _ 19 (by decide) hr hC11 fun g12 hC12 => ?_
  refine asm d L (chk_ok 20 (by decide) hr hloc) ?_
  exact done d L (h _ g12 hC12)

/-- Columns 20 to 31 of the block. -/
theorem part8_run (v82 : BitVec 32) (k0_h3 : k0_cond3 v82 = 1#1) (v136 : IVec S16 32) (v139 : IVec S16 32) (v141 : IVec S16 1) (v182 : IVec S16 32) (k0_hw85 : k0_chk85 v82 v136 v139 v182)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v182 = broadcast S16 (BitVec.ofNat 32 20)) (w₀ : S64x512.Idx → Elt F .f32)
    (hC : Cols ((arg9.access (.whole S48x128)).read (Elt F) fr) r v136 v141 20 w₀ ((arg6.access (.whole S64x512)).read (Elt F) g))
    (h : ∀ hw (g' : Buf (Elt F) ((arg6.access (.whole S64x512)).loc (thr d L))),
      Cols ((arg9.access (.whole S48x128)).read (Elt F) fr) r v136 v141 32 w₀ ((arg6.access (.whole S64x512)).read (Elt F) g') →
      iprop(R ∗ Held d L arg9 fr ∗ Held d L arg6 g') ⊢ Q ⟨broadcast S16 (BitVec.ofNat 32 32), hw⟩) :
    iprop(R ∗ Held d L arg9 fr ∗ Held d L arg6 g)
      ⊢ Wp d L (k0_part8 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h3 v136 v139 v141 v182 k0_hw85) Q := by
  subst hv
  rw [k0_part8_eq_skeleton]; unfold k0_part8_skel
  refine pair d L fr _ 20 (by decide) hr hC fun g1 hC1 => ?_
  refine asm d L (chk_ok 21 (by decide) hr hloc) ?_
  refine pair d L fr _ 21 (by decide) hr hC1 fun g2 hC2 => ?_
  refine asm d L (chk_ok 22 (by decide) hr hloc) ?_
  refine pair d L fr _ 22 (by decide) hr hC2 fun g3 hC3 => ?_
  refine asm d L (chk_ok 23 (by decide) hr hloc) ?_
  refine pair d L fr _ 23 (by decide) hr hC3 fun g4 hC4 => ?_
  refine asm d L (chk_ok 24 (by decide) hr hloc) ?_
  refine pair d L fr _ 24 (by decide) hr hC4 fun g5 hC5 => ?_
  refine asm d L (chk_ok 25 (by decide) hr hloc) ?_
  refine pair d L fr _ 25 (by decide) hr hC5 fun g6 hC6 => ?_
  refine asm d L (chk_ok 26 (by decide) hr hloc) ?_
  refine pair d L fr _ 26 (by decide) hr hC6 fun g7 hC7 => ?_
  refine asm d L (chk_ok 27 (by decide) hr hloc) ?_
  refine pair d L fr _ 27 (by decide) hr hC7 fun g8 hC8 => ?_
  refine asm d L (chk_ok 28 (by decide) hr hloc) ?_
  refine pair d L fr _ 28 (by decide) hr hC8 fun g9 hC9 => ?_
  refine asm d L (chk_ok 29 (by decide) hr hloc) ?_
  refine pair d L fr _ 29 (by decide) hr hC9 fun g10 hC10 => ?_
  refine asm d L (chk_ok 30 (by decide) hr hloc) ?_
  refine pair d L fr _ 30 (by decide) hr hC10 fun g11 hC11 => ?_
  refine asm d L (chk_ok 31 (by decide) hr hloc) ?_
  refine pair d L fr _ 31 (by decide) hr hC11 fun g12 hC12 => ?_
  refine asm d L (chk_ok 32 (by decide) hr hloc) ?_
  exact done d L (h _ g12 hC12)

/-- Columns 32 to 43 of the block. -/
theorem part9_run (v82 : BitVec 32) (k0_h3 : k0_cond3 v82 = 1#1) (v136 : IVec S16 32) (v139 : IVec S16 32) (v141 : IVec S16 1) (v206 : IVec S16 32) (k0_hw97 : k0_chk97 v82 v136 v139 v206)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v206 = broadcast S16 (BitVec.ofNat 32 32)) (w₀ : S64x512.Idx → Elt F .f32)
    (hC : Cols ((arg9.access (.whole S48x128)).read (Elt F) fr) r v136 v141 32 w₀ ((arg6.access (.whole S64x512)).read (Elt F) g))
    (h : ∀ hw (g' : Buf (Elt F) ((arg6.access (.whole S64x512)).loc (thr d L))),
      Cols ((arg9.access (.whole S48x128)).read (Elt F) fr) r v136 v141 44 w₀ ((arg6.access (.whole S64x512)).read (Elt F) g') →
      iprop(R ∗ Held d L arg9 fr ∗ Held d L arg6 g') ⊢ Q ⟨broadcast S16 (BitVec.ofNat 32 44), hw⟩) :
    iprop(R ∗ Held d L arg9 fr ∗ Held d L arg6 g)
      ⊢ Wp d L (k0_part9 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h3 v136 v139 v141 v206 k0_hw97) Q := by
  subst hv
  rw [k0_part9_eq_skeleton]; unfold k0_part9_skel
  refine pair d L fr _ 32 (by decide) hr hC fun g1 hC1 => ?_
  refine asm d L (chk_ok 33 (by decide) hr hloc) ?_
  refine pair d L fr _ 33 (by decide) hr hC1 fun g2 hC2 => ?_
  refine asm d L (chk_ok 34 (by decide) hr hloc) ?_
  refine pair d L fr _ 34 (by decide) hr hC2 fun g3 hC3 => ?_
  refine asm d L (chk_ok 35 (by decide) hr hloc) ?_
  refine pair d L fr _ 35 (by decide) hr hC3 fun g4 hC4 => ?_
  refine asm d L (chk_ok 36 (by decide) hr hloc) ?_
  refine pair d L fr _ 36 (by decide) hr hC4 fun g5 hC5 => ?_
  refine asm d L (chk_ok 37 (by decide) hr hloc) ?_
  refine pair d L fr _ 37 (by decide) hr hC5 fun g6 hC6 => ?_
  refine asm d L (chk_ok 38 (by decide) hr hloc) ?_
  refine pair d L fr _ 38 (by decide) hr hC6 fun g7 hC7 => ?_
  refine asm d L (chk_ok 39 (by decide) hr hloc) ?_
  refine pair d L fr _ 39 (by decide) hr hC7 fun g8 hC8 => ?_
  refine asm d L (chk_ok 40 (by decide) hr hloc) ?_
  refine pair d L fr _ 40 (by decide) hr hC8 fun g9 hC9 => ?_
  refine asm d L (chk_ok 41 (by decide) hr hloc) ?_
  refine pair d L fr _ 41 (by decide) hr hC9 fun g10 hC10 => ?_
  refine asm d L (chk_ok 42 (by decide) hr hloc) ?_
  refine pair d L fr _ 42 (by decide) hr hC10 fun g11 hC11 => ?_
  refine asm d L (chk_ok 43 (by decide) hr hloc) ?_
  refine pair d L fr _ 43 (by decide) hr hC11 fun g12 hC12 => ?_
  refine asm d L (chk_ok 44 (by decide) hr hloc) ?_
  exact done d L (h _ g12 hC12)

/-- Columns 44 to 55 of the block. -/
theorem part10_run (v82 : BitVec 32) (k0_h3 : k0_cond3 v82 = 1#1) (v136 : IVec S16 32) (v139 : IVec S16 32) (v141 : IVec S16 1) (v230 : IVec S16 32) (k0_hw109 : k0_chk109 v82 v136 v139 v230)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v230 = broadcast S16 (BitVec.ofNat 32 44)) (w₀ : S64x512.Idx → Elt F .f32)
    (hC : Cols ((arg9.access (.whole S48x128)).read (Elt F) fr) r v136 v141 44 w₀ ((arg6.access (.whole S64x512)).read (Elt F) g))
    (h : ∀ hw (g' : Buf (Elt F) ((arg6.access (.whole S64x512)).loc (thr d L))),
      Cols ((arg9.access (.whole S48x128)).read (Elt F) fr) r v136 v141 56 w₀ ((arg6.access (.whole S64x512)).read (Elt F) g') →
      iprop(R ∗ Held d L arg9 fr ∗ Held d L arg6 g') ⊢ Q ⟨broadcast S16 (BitVec.ofNat 32 56), hw⟩) :
    iprop(R ∗ Held d L arg9 fr ∗ Held d L arg6 g)
      ⊢ Wp d L (k0_part10 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h3 v136 v139 v141 v230 k0_hw109) Q := by
  subst hv
  rw [k0_part10_eq_skeleton]; unfold k0_part10_skel
  refine pair d L fr _ 44 (by decide) hr hC fun g1 hC1 => ?_
  refine asm d L (chk_ok 45 (by decide) hr hloc) ?_
  refine pair d L fr _ 45 (by decide) hr hC1 fun g2 hC2 => ?_
  refine asm d L (chk_ok 46 (by decide) hr hloc) ?_
  refine pair d L fr _ 46 (by decide) hr hC2 fun g3 hC3 => ?_
  refine asm d L (chk_ok 47 (by decide) hr hloc) ?_
  refine pair d L fr _ 47 (by decide) hr hC3 fun g4 hC4 => ?_
  refine asm d L (chk_ok 48 (by decide) hr hloc) ?_
  refine pair d L fr _ 48 (by decide) hr hC4 fun g5 hC5 => ?_
  refine asm d L (chk_ok 49 (by decide) hr hloc) ?_
  refine pair d L fr _ 49 (by decide) hr hC5 fun g6 hC6 => ?_
  refine asm d L (chk_ok 50 (by decide) hr hloc) ?_
  refine pair d L fr _ 50 (by decide) hr hC6 fun g7 hC7 => ?_
  refine asm d L (chk_ok 51 (by decide) hr hloc) ?_
  refine pair d L fr _ 51 (by decide) hr hC7 fun g8 hC8 => ?_
  refine asm d L (chk_ok 52 (by decide) hr hloc) ?_
  refine pair d L fr _ 52 (by decide) hr hC8 fun g9 hC9 => ?_
  refine asm d L (chk_ok 53 (by decide) hr hloc) ?_
  refine pair d L fr _ 53 (by decide) hr hC9 fun g10 hC10 => ?_
  refine asm d L (chk_ok 54 (by decide) hr hloc) ?_
  refine pair d L fr _ 54 (by decide) hr hC10 fun g11 hC11 => ?_
  refine asm d L (chk_ok 55 (by decide) hr hloc) ?_
  refine pair d L fr _ 55 (by decide) hr hC11 fun g12 hC12 => ?_
  refine asm d L (chk_ok 56 (by decide) hr hloc) ?_
  exact done d L (h _ g12 hC12)

/-- Columns 0 to 7 of the block, after the load of its sixteen codes. -/
theorem part11_run (k0_t1 : Fin k0_t1_loop.trips) (v32 : BitVec 32) (v82 : BitVec 32) (k0_h4 : k0_cond4 v82 = 1#1)
    {R : sProp (MM F)} {Q : _ → sProp (MM F)} (ft : Buf (Elt F) ((arg8.access (.whole S2048)).loc (thr d L)))
    (fr : Buf (Elt F) ((arg9.access (.whole S48x128)).loc (thr d L))) (g : Buf (Elt F) ((arg6.access (.whole S64x512)).loc (thr d L)))
    {r : Fin 16 → Fin 48} (hr : ∀ k, (k0_pay8 (lane k)).toNat = (r k).val)
    (hloc : ∀ k, ((k0_pay7 (arg8.view.readAt (Elt F) (Rect.unit (s := S2048) (k0_off10 k0_t1) S16.size (k0_off10_inb k0_t1)).toLoadRect ft)) (lane k)).toNat < 512)
    (h : ∀ hw (g' : Buf (Elt F) ((arg6.access (.whole S64x512)).loc (thr d L))),
      Cols ((arg9.access (.whole S48x128)).read (Elt F) fr) r (k0_pay7 (arg8.view.readAt (Elt F) (Rect.unit (s := S2048) (k0_off10 k0_t1) S16.size (k0_off10_inb k0_t1)).toLoadRect ft)) (k0_pay9 v82 k0_pay8) 8 ((arg6.access (.whole S64x512)).read (Elt F) g)
        ((arg6.access (.whole S64x512)).read (Elt F) g') →
      iprop((R ∗ Held d L arg8 ft) ∗ Held d L arg9 fr ∗ Held d L arg6 g')
        ⊢ Q ⟨(k0_pay7 (arg8.view.readAt (Elt F) (Rect.unit (s := S2048) (k0_off10 k0_t1) S16.size (k0_off10_inb k0_t1)).toLoadRect ft)), k0_pay8, (k0_pay9 v82 k0_pay8), broadcast S16 (BitVec.ofNat 32 8), hw⟩) :
    iprop((R ∗ Held d L arg8 ft) ∗ Held d L arg9 fr ∗ Held d L arg6 g)
      ⊢ Wp d L (k0_part11 L arg2 harg2 arg3 harg3 arg4 harg4 arg5 harg5 arg6 harg6 arg7 harg7 arg8 harg8 arg9 harg9 arg10 harg10 arg11 harg11 arg12 harg12 arg13 arg14 arg15 arg16 arg17 arg18 v31_r0 k0_t1 v32 v82 k0_h4) Q := by
  rw [k0_part11_eq_skeleton]; unfold k0_part11_skel
  refine loadTab d L ?_
  refine asm d L (chk_ok 0 (by decide) hr hloc) ?_
  refine pair d L fr _ 0 (by decide) hr (Cols.zero _ r _ _ _) fun g1 hC1 => ?_
  refine asm d L (chk_ok 1 (by decide) hr hloc) ?_
  refine pair d L fr _ 1 (by decide) hr hC1 fun g2 hC2 => ?_
  refine asm d L (chk_ok 2 (by decide) hr hloc) ?_
  refine pair d L fr _ 2 (by decide) hr hC2 fun g3 hC3 => ?_
  refine asm d L (chk_ok 3 (by decide) hr hloc) ?_
  refine pair d L fr _ 3 (by decide) hr hC3 fun g4 hC4 => ?_
  refine asm d L (chk_ok 4 (by decide) hr hloc) ?_
  refine pair d L fr _ 4 (by decide) hr hC4 fun g5 hC5 => ?_
  refine asm d L (chk_ok 5 (by decide) hr hloc) ?_
  refine pair d L fr _ 5 (by decide) hr hC5 fun g6 hC6 => ?_
  refine asm d L (chk_ok 6 (by decide) hr hloc) ?_
  refine pair d L fr _ 6 (by decide) hr hC6 fun g7 hC7 => ?_
  refine asm d L (chk_ok 7 (by decide) hr hloc) ?_
  refine pair d L fr _ 7 (by decide) hr hC7 fun g8 hC8 => ?_
  refine asm d L (chk_ok 8 (by decide) hr hloc) ?_
  exact done d L (h _ g8 hC8)

/-- Columns 8 to 19 of the block. -/
theorem part12_run (v82 : BitVec 32) (k0_h4 : k0_cond4 v82 = 1#1) (v136 : IVec S16 32) (v139 : IVec S16 32) (v141 : IVec S16 1) (v158 : IVec S16 32) (k0_hw137 : k0_chk137 v82 v136 v139 v158)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v158 = broadcast S16 (BitVec.ofNat 32 8)) (w₀ : S64x512.Idx → Elt F .f32)
    (hC : Cols ((arg9.access (.whole S48x128)).read (Elt F) fr) r v136 v141 8 w₀ ((arg6.access (.whole S64x512)).read (Elt F) g))
    (h : ∀ hw (g' : Buf (Elt F) ((arg6.access (.whole S64x512)).loc (thr d L))),
      Cols ((arg9.access (.whole S48x128)).read (Elt F) fr) r v136 v141 20 w₀ ((arg6.access (.whole S64x512)).read (Elt F) g') →
      iprop(R ∗ Held d L arg9 fr ∗ Held d L arg6 g') ⊢ Q ⟨broadcast S16 (BitVec.ofNat 32 20), hw⟩) :
    iprop(R ∗ Held d L arg9 fr ∗ Held d L arg6 g)
      ⊢ Wp d L (k0_part12 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h4 v136 v139 v141 v158 k0_hw137) Q := by
  subst hv
  rw [k0_part12_eq_skeleton]; unfold k0_part12_skel
  refine pair d L fr _ 8 (by decide) hr hC fun g1 hC1 => ?_
  refine asm d L (chk_ok 9 (by decide) hr hloc) ?_
  refine pair d L fr _ 9 (by decide) hr hC1 fun g2 hC2 => ?_
  refine asm d L (chk_ok 10 (by decide) hr hloc) ?_
  refine pair d L fr _ 10 (by decide) hr hC2 fun g3 hC3 => ?_
  refine asm d L (chk_ok 11 (by decide) hr hloc) ?_
  refine pair d L fr _ 11 (by decide) hr hC3 fun g4 hC4 => ?_
  refine asm d L (chk_ok 12 (by decide) hr hloc) ?_
  refine pair d L fr _ 12 (by decide) hr hC4 fun g5 hC5 => ?_
  refine asm d L (chk_ok 13 (by decide) hr hloc) ?_
  refine pair d L fr _ 13 (by decide) hr hC5 fun g6 hC6 => ?_
  refine asm d L (chk_ok 14 (by decide) hr hloc) ?_
  refine pair d L fr _ 14 (by decide) hr hC6 fun g7 hC7 => ?_
  refine asm d L (chk_ok 15 (by decide) hr hloc) ?_
  refine pair d L fr _ 15 (by decide) hr hC7 fun g8 hC8 => ?_
  refine asm d L (chk_ok 16 (by decide) hr hloc) ?_
  refine pair d L fr _ 16 (by decide) hr hC8 fun g9 hC9 => ?_
  refine asm d L (chk_ok 17 (by decide) hr hloc) ?_
  refine pair d L fr _ 17 (by decide) hr hC9 fun g10 hC10 => ?_
  refine asm d L (chk_ok 18 (by decide) hr hloc) ?_
  refine pair d L fr _ 18 (by decide) hr hC10 fun g11 hC11 => ?_
  refine asm d L (chk_ok 19 (by decide) hr hloc) ?_
  refine pair d L fr _ 19 (by decide) hr hC11 fun g12 hC12 => ?_
  refine asm d L (chk_ok 20 (by decide) hr hloc) ?_
  exact done d L (h _ g12 hC12)

/-- Columns 20 to 31 of the block. -/
theorem part13_run (v82 : BitVec 32) (k0_h4 : k0_cond4 v82 = 1#1) (v136 : IVec S16 32) (v139 : IVec S16 32) (v141 : IVec S16 1) (v182 : IVec S16 32) (k0_hw149 : k0_chk149 v82 v136 v139 v182)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v182 = broadcast S16 (BitVec.ofNat 32 20)) (w₀ : S64x512.Idx → Elt F .f32)
    (hC : Cols ((arg9.access (.whole S48x128)).read (Elt F) fr) r v136 v141 20 w₀ ((arg6.access (.whole S64x512)).read (Elt F) g))
    (h : ∀ hw (g' : Buf (Elt F) ((arg6.access (.whole S64x512)).loc (thr d L))),
      Cols ((arg9.access (.whole S48x128)).read (Elt F) fr) r v136 v141 32 w₀ ((arg6.access (.whole S64x512)).read (Elt F) g') →
      iprop(R ∗ Held d L arg9 fr ∗ Held d L arg6 g') ⊢ Q ⟨broadcast S16 (BitVec.ofNat 32 32), hw⟩) :
    iprop(R ∗ Held d L arg9 fr ∗ Held d L arg6 g)
      ⊢ Wp d L (k0_part13 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h4 v136 v139 v141 v182 k0_hw149) Q := by
  subst hv
  rw [k0_part13_eq_skeleton]; unfold k0_part13_skel
  refine pair d L fr _ 20 (by decide) hr hC fun g1 hC1 => ?_
  refine asm d L (chk_ok 21 (by decide) hr hloc) ?_
  refine pair d L fr _ 21 (by decide) hr hC1 fun g2 hC2 => ?_
  refine asm d L (chk_ok 22 (by decide) hr hloc) ?_
  refine pair d L fr _ 22 (by decide) hr hC2 fun g3 hC3 => ?_
  refine asm d L (chk_ok 23 (by decide) hr hloc) ?_
  refine pair d L fr _ 23 (by decide) hr hC3 fun g4 hC4 => ?_
  refine asm d L (chk_ok 24 (by decide) hr hloc) ?_
  refine pair d L fr _ 24 (by decide) hr hC4 fun g5 hC5 => ?_
  refine asm d L (chk_ok 25 (by decide) hr hloc) ?_
  refine pair d L fr _ 25 (by decide) hr hC5 fun g6 hC6 => ?_
  refine asm d L (chk_ok 26 (by decide) hr hloc) ?_
  refine pair d L fr _ 26 (by decide) hr hC6 fun g7 hC7 => ?_
  refine asm d L (chk_ok 27 (by decide) hr hloc) ?_
  refine pair d L fr _ 27 (by decide) hr hC7 fun g8 hC8 => ?_
  refine asm d L (chk_ok 28 (by decide) hr hloc) ?_
  refine pair d L fr _ 28 (by decide) hr hC8 fun g9 hC9 => ?_
  refine asm d L (chk_ok 29 (by decide) hr hloc) ?_
  refine pair d L fr _ 29 (by decide) hr hC9 fun g10 hC10 => ?_
  refine asm d L (chk_ok 30 (by decide) hr hloc) ?_
  refine pair d L fr _ 30 (by decide) hr hC10 fun g11 hC11 => ?_
  refine asm d L (chk_ok 31 (by decide) hr hloc) ?_
  refine pair d L fr _ 31 (by decide) hr hC11 fun g12 hC12 => ?_
  refine asm d L (chk_ok 32 (by decide) hr hloc) ?_
  exact done d L (h _ g12 hC12)

/-- Columns 32 to 43 of the block. -/
theorem part14_run (v82 : BitVec 32) (k0_h4 : k0_cond4 v82 = 1#1) (v136 : IVec S16 32) (v139 : IVec S16 32) (v141 : IVec S16 1) (v206 : IVec S16 32) (k0_hw161 : k0_chk161 v82 v136 v139 v206)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v206 = broadcast S16 (BitVec.ofNat 32 32)) (w₀ : S64x512.Idx → Elt F .f32)
    (hC : Cols ((arg9.access (.whole S48x128)).read (Elt F) fr) r v136 v141 32 w₀ ((arg6.access (.whole S64x512)).read (Elt F) g))
    (h : ∀ hw (g' : Buf (Elt F) ((arg6.access (.whole S64x512)).loc (thr d L))),
      Cols ((arg9.access (.whole S48x128)).read (Elt F) fr) r v136 v141 44 w₀ ((arg6.access (.whole S64x512)).read (Elt F) g') →
      iprop(R ∗ Held d L arg9 fr ∗ Held d L arg6 g') ⊢ Q ⟨broadcast S16 (BitVec.ofNat 32 44), hw⟩) :
    iprop(R ∗ Held d L arg9 fr ∗ Held d L arg6 g)
      ⊢ Wp d L (k0_part14 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h4 v136 v139 v141 v206 k0_hw161) Q := by
  subst hv
  rw [k0_part14_eq_skeleton]; unfold k0_part14_skel
  refine pair d L fr _ 32 (by decide) hr hC fun g1 hC1 => ?_
  refine asm d L (chk_ok 33 (by decide) hr hloc) ?_
  refine pair d L fr _ 33 (by decide) hr hC1 fun g2 hC2 => ?_
  refine asm d L (chk_ok 34 (by decide) hr hloc) ?_
  refine pair d L fr _ 34 (by decide) hr hC2 fun g3 hC3 => ?_
  refine asm d L (chk_ok 35 (by decide) hr hloc) ?_
  refine pair d L fr _ 35 (by decide) hr hC3 fun g4 hC4 => ?_
  refine asm d L (chk_ok 36 (by decide) hr hloc) ?_
  refine pair d L fr _ 36 (by decide) hr hC4 fun g5 hC5 => ?_
  refine asm d L (chk_ok 37 (by decide) hr hloc) ?_
  refine pair d L fr _ 37 (by decide) hr hC5 fun g6 hC6 => ?_
  refine asm d L (chk_ok 38 (by decide) hr hloc) ?_
  refine pair d L fr _ 38 (by decide) hr hC6 fun g7 hC7 => ?_
  refine asm d L (chk_ok 39 (by decide) hr hloc) ?_
  refine pair d L fr _ 39 (by decide) hr hC7 fun g8 hC8 => ?_
  refine asm d L (chk_ok 40 (by decide) hr hloc) ?_
  refine pair d L fr _ 40 (by decide) hr hC8 fun g9 hC9 => ?_
  refine asm d L (chk_ok 41 (by decide) hr hloc) ?_
  refine pair d L fr _ 41 (by decide) hr hC9 fun g10 hC10 => ?_
  refine asm d L (chk_ok 42 (by decide) hr hloc) ?_
  refine pair d L fr _ 42 (by decide) hr hC10 fun g11 hC11 => ?_
  refine asm d L (chk_ok 43 (by decide) hr hloc) ?_
  refine pair d L fr _ 43 (by decide) hr hC11 fun g12 hC12 => ?_
  refine asm d L (chk_ok 44 (by decide) hr hloc) ?_
  exact done d L (h _ g12 hC12)

/-- Columns 44 to 55 of the block. -/
theorem part15_run (v82 : BitVec 32) (k0_h4 : k0_cond4 v82 = 1#1) (v136 : IVec S16 32) (v139 : IVec S16 32) (v141 : IVec S16 1) (v230 : IVec S16 32) (k0_hw173 : k0_chk173 v82 v136 v139 v230)
    {R : sProp (MM F)} {Q : _ → sProp (MM F)}
    (fr : Buf (Elt F) ((arg9.access (.whole S48x128)).loc (thr d L))) (g : Buf (Elt F) ((arg6.access (.whole S64x512)).loc (thr d L)))
    {r : Fin 16 → Fin 48} (hr : ∀ k, (v139 (lane k)).toNat = (r k).val)
    (hloc : ∀ k, (v136 (lane k)).toNat < 512) (hv : v230 = broadcast S16 (BitVec.ofNat 32 44)) (w₀ : S64x512.Idx → Elt F .f32)
    (hC : Cols ((arg9.access (.whole S48x128)).read (Elt F) fr) r v136 v141 44 w₀ ((arg6.access (.whole S64x512)).read (Elt F) g))
    (h : ∀ hw (g' : Buf (Elt F) ((arg6.access (.whole S64x512)).loc (thr d L))),
      Cols ((arg9.access (.whole S48x128)).read (Elt F) fr) r v136 v141 56 w₀ ((arg6.access (.whole S64x512)).read (Elt F) g') →
      iprop(R ∗ Held d L arg9 fr ∗ Held d L arg6 g') ⊢ Q ⟨broadcast S16 (BitVec.ofNat 32 56), hw⟩) :
    iprop(R ∗ Held d L arg9 fr ∗ Held d L arg6 g)
      ⊢ Wp d L (k0_part15 L arg2 harg2 arg3 harg3 arg4 harg4 arg5 harg5 arg6 harg6 arg7 harg7 arg8 harg8 arg9 harg9 arg10 harg10 arg11 harg11 arg12 harg12 arg13 arg14 arg15 arg16 arg17 arg18 v31_r0 v82 k0_h4 v136 v139 v141 v230 k0_hw173) Q := by
  subst hv
  rw [k0_part15_eq_skeleton]; unfold k0_part15_skel
  refine pair d L fr _ 44 (by decide) hr hC fun g1 hC1 => ?_
  refine asm d L (chk_ok 45 (by decide) hr hloc) ?_
  refine pair d L fr _ 45 (by decide) hr hC1 fun g2 hC2 => ?_
  refine asm d L (chk_ok 46 (by decide) hr hloc) ?_
  refine pair d L fr _ 46 (by decide) hr hC2 fun g3 hC3 => ?_
  refine asm d L (chk_ok 47 (by decide) hr hloc) ?_
  refine pair d L fr _ 47 (by decide) hr hC3 fun g4 hC4 => ?_
  refine asm d L (chk_ok 48 (by decide) hr hloc) ?_
  refine pair d L fr _ 48 (by decide) hr hC4 fun g5 hC5 => ?_
  refine asm d L (chk_ok 49 (by decide) hr hloc) ?_
  refine pair d L fr _ 49 (by decide) hr hC5 fun g6 hC6 => ?_
  refine asm d L (chk_ok 50 (by decide) hr hloc) ?_
  refine pair d L fr _ 50 (by decide) hr hC6 fun g7 hC7 => ?_
  refine asm d L (chk_ok 51 (by decide) hr hloc) ?_
  refine pair d L fr _ 51 (by decide) hr hC7 fun g8 hC8 => ?_
  refine asm d L (chk_ok 52 (by decide) hr hloc) ?_
  refine pair d L fr _ 52 (by decide) hr hC8 fun g9 hC9 => ?_
  refine asm d L (chk_ok 53 (by decide) hr hloc) ?_
  refine pair d L fr _ 53 (by decide) hr hC9 fun g10 hC10 => ?_
  refine asm d L (chk_ok 54 (by decide) hr hloc) ?_
  refine pair d L fr _ 54 (by decide) hr hC10 fun g11 hC11 => ?_
  refine asm d L (chk_ok 55 (by decide) hr hloc) ?_
  refine pair d L fr _ 55 (by decide) hr hC11 fun g12 hC12 => ?_
  refine asm d L (chk_ok 56 (by decide) hr hloc) ?_
  exact done d L (h _ g12 hC12)

end Parts

end Cert.Proof.Bins

end
-- ==== Proof.HalfA.lean ====
/-
  The even bin of a trip: its rows' gather is waited for and its three blocks applied, while the odd bin's rows are gathered.
-/
module

public import proofs.«01_k».proof.Proof.Apply
public import proofs.«01_k».proof.Proof.PartsA

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Half

variable (d : Dev nD) (L : grid0.Coords)
variable (fT : S64x524288.Idx → Elt F .f32) (fV : S16384x128.Idx → Elt F .f32) (fM : S65536.Idx → BitVec 32)
variable (h2 : memR.IsWhole) (h3 : valR.IsWhole) (h4 : metR.IsWhole) (h5 : outR.IsWhole) (h6 : winA.IsWhole) (h7 : winB.IsWhole) (h8 : tabR.IsWhole)
  (h9 : rowA.IsWhole) (h10 : rowB.IsWhole) (h11 : lstA.IsWhole) (h12 : lstB.IsWhole) (a13 a14 a15 a16 a17 a18 v31 : DmaSems sig S_)
variable {O : CellTallies nD τ sig (HIx 1)} {W : Waits sig (HIx 1)}

/-- Sixteen codes of the odd bin, by the offset the trip computes. -/
theorem off6_eq (t : Fin k0_t1_loop.trips) (k : Fin 3) : k0_off6 t (BitVec.ofNat 32 (16 * k.val)) = ![64 * (2 * t.val + 1) + 16 + 16 * k.val] := by
  rw [k0_off6_eq]
  exact congrArg (fun n => ![n]) (by omega)

/-- The rest of the odd bin's list and the gather of its rows, then the even bin's three blocks. -/
theorem part33_run (good : Good fM) (t : Fin k0_t1_loop.trips) (v2 v32 v45 v62 : _) (c : BitVec 32) (qa qb : PosShare TreeShare) (w : S64x512.Idx → Elt F .f32)
    (hv62 : ∀ j, k0_pay24 v62 c (lane j) = posOf (code fM (bin L (2 * t.val + 1)) (ent 1 j))) :
    iprop(Own d L tabR (· = tabOf L fM) ∗ Own d L lstB (Listed fM (bin L (2 * t.val + 1)) 16) ∗ Own d L rowB (fun _ => True) ∗ ValP d L fV qb
        ∗ semVal (thr d L, SemLoc.dma a18.sem) 0 ∗ GaFl d L fV fM qa a17.sem rowA lstA (bin L (2 * t.val)) ∗ Own d L winA (· = w) ∗ Owe d L O W
        ∗ Transfers.MayWaits (thr d L) (default : HIx 1) O)
      ⊢ Wp d L (k0_part33 L memR h2 valR h3 metR h4 outR h5 winA h6 winB h7 tabR h8 rowA h9 rowB h10 lstA h11 lstB h12 a13 a14 a15 a16 a17 a18 v31 v2 t v32 v45 v62 c) fun _ =>
        iprop((GaFl d L fV fM qb a18.sem rowB lstB (bin L (2 * t.val + 1)) ∗ ValP d L fV qa ∗ Own d L lstA (fun _ => True) ∗ semVal (thr d L, SemLoc.dma a17.sem) 0 ∗ Owe d L O W)
          ∗ Own d L tabR (· = tabOf L fM) ∗ Own d L rowA (· = gathered fV fM (bin L (2 * t.val))) ∗ Own d L winA (· = applied fV fM (bin L (2 * t.val)) w)) := by
  have ht : t.val < 16 := t.isLt
  rw [k0_part33_eq_skeleton]; unfold k0_part33_skel
  iintro ⟨Ht, Hl, Hr, HV, Hs, HG, Hw, HO, #Hmw⟩
  iapply (load' d L) $$ Hl
  iintro Hl
  iapply (store d L (P := Listed fM (bin L (2 * t.val + 1)) 16) (P' := Listed fM (bin L (2 * t.val + 1)) 32) (Listed.step fM 1 rfl hv62)) $$ Hl
  iintro Hl
  iapply (load d L) $$ Ht
  iintro Ht
  iapply (load' d L) $$ Hl
  iintro Hl
  iapply (store d L (P := Listed fM (bin L (2 * t.val + 1)) 32) (P' := Listed fM (bin L (2 * t.val + 1)) 48)
    (Listed.step fM 2 rfl fun j => congrArg posOf (load_code L fM (show 2 * t.val + 1 < 32 by omega) 2 (off6_eq t 2) j))) $$ Hl
  iintro Hl
  iapply (gatherBin d L fV fM qb (rowB_sum _)) $$ [HV Hr Hl Hs]
  · isplitl [HV]; · iexact HV
    isplitl [Hr]; · iexact Hr
    isplitl [Hl]; · iexact Hl
    iexact Hs
  iintro HGB
  iapply (waitGather d L fV fM qa) $$ [HG HO]
  · isplitl [HG]; · iexact HG
    isplitl [HO]; · iexact HO
    iexact Hmw
  iintro ⟨HrA, HVA, HlA, HsA, HO⟩
  iapply (load d L) $$ Ht
  iintro Ht
  have hcnt := load_cnt L fM (show 2 * t.val < 32 by omega) (inb := k0_off7_inb t) ((k0_off7_eq t).trans (congrArg (fun n => ![n]) (by omega)))
  ihave H : iprop((GaFl d L fV fM qb a18.sem rowB lstB (bin L (2 * t.val + 1)) ∗ ValP d L fV qa ∗ Own d L lstA (fun _ => True) ∗ semVal (thr d L, SemLoc.dma a17.sem) 0 ∗ Owe d L O W)
          ∗ Own d L tabR (· = tabOf L fM) ∗ Own d L rowA (· = gathered fV fM (bin L (2 * t.val))) ∗ Own d L winA (· = w)) $$ [HGB HVA HlA HsA HO Ht HrA Hw]
  · isplitl [HGB HVA HlA HsA HO]
    · isplitl [HGB]; · iexact HGB
      isplitl [HVA]; · iexact HVA
      isplitl [HlA]; · iexact HlA
      isplitl [HsA]; · iexact HsA
      iexact HO
    isplitl [Ht]; · iexact Ht
    isplitl [HrA]; · iexact HrA
    iexact Hw
  iclear Hmw
  istop
  refine blk d L fV fM 0 w (past0 hcnt) ?_ fun hc ft fr g hft hK => ?_
  · refine blk d L fV fM 1 _ (past1 hcnt) ?_ fun hc ft fr g hft hK => ?_
    · refine blk d L fV fM 2 _ (past2 hcnt) ?_ fun hc ft fr g hft hK => ?_
      · exact done d L .rfl
      · have hl := loc_eq d L fM hft (show 2 * t.val < 32 by omega) 2 (inb := k0_off10_inb t) (by rw [k0_off10_eq]; exact congrArg (fun n => ![n]) (by show _ = 64 * _ + 16 + 16 * 2; omega))
        have hlt : ∀ j, ((k0_pay1 (F := F) (tabR.view.readAt (Elt F) (Rect.unit (s := S2048) (k0_off10 t) S16.size (k0_off10_inb t)).toLoadRect ft)) (lane j)).toNat < 512 := fun j => (congrArg BitVec.toNat (hl j)).trans_lt (good _ 2 j ((past2 hcnt).1 hc))
        refine bindW d L ?_
        refine part11_run d L memR h2 valR h3 metR h4 outR h5 winA h6 winB h7 tabR h8 rowA h9 rowB h10 lstA h11 lstB h12 a13 a14 a15 a16 a17 a18 v31 t _ _ hc ft fr g (r := ent 2) pay8_lane hlt fun w1 g1 C1 => ?_
        refine bindW d L ?_
        refine part12_run d L memR h2 valR h3 metR h4 outR h5 winA h6 winB h7 tabR h8 rowA h9 rowB h10 lstA h11 lstB h12 a13 a14 a15 a16 a17 a18 v31 _ hc _ _ _ _ w1 fr g1 (r := ent 2) pay8_lane hlt rfl _ C1 fun w2 g2 C2 => ?_
        refine bindW d L ?_
        refine part13_run d L memR h2 valR h3 metR h4 outR h5 winA h6 winB h7 tabR h8 rowA h9 rowB h10 lstA h11 lstB h12 a13 a14 a15 a16 a17 a18 v31 _ hc _ _ _ _ w2 fr g2 (r := ent 2) pay8_lane hlt rfl _ C2 fun w3 g3 C3 => ?_
        refine bindW d L ?_
        refine part14_run d L memR h2 valR h3 metR h4 outR h5 winA h6 winB h7 tabR h8 rowA h9 rowB h10 lstA h11 lstB h12 a13 a14 a15 a16 a17 a18 v31 _ hc _ _ _ _ w3 fr g3 (r := ent 2) pay8_lane hlt rfl _ C3 fun w4 g4 C4 => ?_
        refine bindW d L ?_
        refine part15_run d L memR h2 valR h3 metR h4 outR h5 winA h6 winB h7 tabR h8 rowA h9 rowB h10 lstA h11 lstB h12 a13 a14 a15 a16 a17 a18 v31 _ hc _ _ _ _ w4 fr g4 (r := ent 2) pay8_lane hlt rfl _ C4 fun w5 g5 C5 => ?_
        refine pair d L fr _ 56 (by decide) pay8_lane C5 fun g6 C6 => ?_
        refine asm d L (chk_ok 57 (by decide) pay8_lane hlt) ?_
        refine pair d L fr _ 57 (by decide) pay8_lane C6 fun g7 C7 => ?_
        refine asm d L (chk_ok 58 (by decide) pay8_lane hlt) ?_
        refine pair d L fr _ 58 (by decide) pay8_lane C7 fun g8 C8 => ?_
        refine asm d L (chk_ok 59 (by decide) pay8_lane hlt) ?_
        refine pair d L fr _ 59 (by decide) pay8_lane C8 fun g9 C9 => ?_
        refine asm d L (chk_ok 60 (by decide) pay8_lane hlt) ?_
        refine pair d L fr _ 60 (by decide) pay8_lane C9 fun g10 C10 => ?_
        refine asm d L (chk_ok 61 (by decide) pay8_lane hlt) ?_
        refine pair d L fr _ 61 (by decide) pay8_lane C10 fun g11 C11 => ?_
        refine asm d L (chk_ok 62 (by decide) pay8_lane hlt) ?_
        refine pair d L fr _ 62 (by decide) pay8_lane C11 fun g12 C12 => ?_
        refine asm d L (chk_ok 63 (by decide) pay8_lane hlt) ?_
        refine pair d L fr _ 63 (by decide) pay8_lane C12 fun g13 C13 => ?_
        exact hK _ _ _ hl (mask_iff hcnt _ 2 pay8_lane) C13
    · have hl := loc_eq d L fM hft (show 2 * t.val < 32 by omega) 1 (inb := k0_off9_inb t) (by rw [k0_off9_eq]; exact congrArg (fun n => ![n]) (by show _ = 64 * _ + 16 + 16 * 1; omega))
      have hlt : ∀ j, ((k0_pay1 (F := F) (tabR.view.readAt (Elt F) (Rect.unit (s := S2048) (k0_off9 t) S16.size (k0_off9_inb t)).toLoadRect ft)) (lane j)).toNat < 512 := fun j => (congrArg BitVec.toNat (hl j)).trans_lt (good _ 1 j ((past1 hcnt).1 hc))
      refine bindW d L ?_
      refine part6_run d L memR h2 valR h3 metR h4 outR h5 winA h6 winB h7 tabR h8 rowA h9 rowB h10 lstA h11 lstB h12 a13 a14 a15 a16 a17 a18 v31 t _ _ hc ft fr g (r := ent 1) pay5_lane hlt fun w1 g1 C1 => ?_
      refine bindW d L ?_
      refine part7_run d L memR h2 valR h3 metR h4 outR h5 winA h6 winB h7 tabR h8 rowA h9 rowB h10 lstA h11 lstB h12 a13 a14 a15 a16 a17 a18 v31 _ hc _ _ _ _ w1 fr g1 (r := ent 1) pay5_lane hlt rfl _ C1 fun w2 g2 C2 => ?_
      refine bindW d L ?_
      refine part8_run d L memR h2 valR h3 metR h4 outR h5 winA h6 winB h7 tabR h8 rowA h9 rowB h10 lstA h11 lstB h12 a13 a14 a15 a16 a17 a18 v31 _ hc _ _ _ _ w2 fr g2 (r := ent 1) pay5_lane hlt rfl _ C2 fun w3 g3 C3 => ?_
      refine bindW d L ?_
      refine part9_run d L memR h2 valR h3 metR h4 outR h5 winA h6 winB h7 tabR h8 rowA h9 rowB h10 lstA h11 lstB h12 a13 a14 a15 a16 a17 a18 v31 _ hc _ _ _ _ w3 fr g3 (r := ent 1) pay5_lane hlt rfl _ C3 fun w4 g4 C4 => ?_
      refine bindW d L ?_
      refine part10_run d L memR h2 valR h3 metR h4 outR h5 winA h6 winB h7 tabR h8 rowA h9 rowB h10 lstA h11 lstB h12 a13 a14 a15 a16 a17 a18 v31 _ hc _ _ _ _ w4 fr g4 (r := ent 1) pay5_lane hlt rfl _ C4 fun w5 g5 C5 => ?_
      refine pair d L fr _ 56 (by decide) pay5_lane C5 fun g6 C6 => ?_
      refine asm d L (chk_ok 57 (by decide) pay5_lane hlt) ?_
      refine pair d L fr _ 57 (by decide) pay5_lane C6 fun g7 C7 => ?_
      refine asm d L (chk_ok 58 (by decide) pay5_lane hlt) ?_
      refine pair d L fr _ 58 (by decide) pay5_lane C7 fun g8 C8 => ?_
      refine asm d L (chk_ok 59 (by decide) pay5_lane hlt) ?_
      refine pair d L fr _ 59 (by decide) pay5_lane C8 fun g9 C9 => ?_
      refine asm d L (chk_ok 60 (by decide) pay5_lane hlt) ?_
      refine pair d L fr _ 60 (by decide) pay5_lane C9 fun g10 C10 => ?_
      refine asm d L (chk_ok 61 (by decide) pay5_lane hlt) ?_
      refine pair d L fr _ 61 (by decide) pay5_lane C10 fun g11 C11 => ?_
      refine asm d L (chk_ok 62 (by decide) pay5_lane hlt) ?_
      refine pair d L fr _ 62 (by decide) pay5_lane C11 fun g12 C12 => ?_
      refine asm d L (chk_ok 63 (by decide) pay5_lane hlt) ?_
      refine pair d L fr _ 63 (by decide) pay5_lane C12 fun g13 C13 => ?_
      exact hK _ _ _ hl (mask_iff hcnt _ 1 pay5_lane) C13
  · have hl := loc_eq d L fM hft (show 2 * t.val < 32 by omega) 0 (inb := k0_off8_inb t) (by rw [k0_off8_eq]; exact congrArg (fun n => ![n]) (by show _ = 64 * _ + 16 + 16 * 0; omega))
    have hlt : ∀ j, ((k0_pay1 (F := F) (tabR.view.readAt (Elt F) (Rect.unit (s := S2048) (k0_off8 t) S16.size (k0_off8_inb t)).toLoadRect ft)) (lane j)).toNat < 512 := fun j => (congrArg BitVec.toNat (hl j)).trans_lt (good _ 0 j ((past0 hcnt).1 hc))
    refine bindW d L ?_
    refine part1_run d L memR h2 valR h3 metR h4 outR h5 winA h6 winB h7 tabR h8 rowA h9 rowB h10 lstA h11 lstB h12 a13 a14 a15 a16 a17 a18 v31 t _ _ hc ft fr g (r := ent 0) pay2_lane hlt fun w1 g1 C1 => ?_
    refine bindW d L ?_
    refine part2_run d L memR h2 valR h3 metR h4 outR h5 winA h6 winB h7 tabR h8 rowA h9 rowB h10 lstA h11 lstB h12 a13 a14 a15 a16 a17 a18 v31 _ hc _ _ _ _ w1 fr g1 (r := ent 0) pay2_lane hlt rfl _ C1 fun w2 g2 C2 => ?_
    refine bindW d L ?_
    refine part3_run d L memR h2 valR h3 metR h4 outR h5 winA h6 winB h7 tabR h8 rowA h9 rowB h10 lstA h11 lstB h12 a13 a14 a15 a16 a17 a18 v31 _ hc _ _ _ _ w2 fr g2 (r := ent 0) pay2_lane hlt rfl _ C2 fun w3 g3 C3 => ?_
    refine bindW d L ?_
    refine part4_run d L memR h2 valR h3 metR h4 outR h5 winA h6 winB h7 tabR h8 rowA h9 rowB h10 lstA h11 lstB h12 a13 a14 a15 a16 a17 a18 v31 _ hc _ _ _ _ w3 fr g3 (r := ent 0) pay2_lane hlt rfl _ C3 fun w4 g4 C4 => ?_
    refine bindW d L ?_
    refine part5_run d L memR h2 valR h3 metR h4 outR h5 winA h6 winB h7 tabR h8 rowA h9 rowB h10 lstA h11 lstB h12 a13 a14 a15 a16 a17 a18 v31 _ hc _ _ _ _ w4 fr g4 (r := ent 0) pay2_lane hlt rfl _ C4 fun w5 g5 C5 => ?_
    refine pair d L fr _ 56 (by decide) pay2_lane C5 fun g6 C6 => ?_
    refine asm d L (chk_ok 57 (by decide) pay2_lane hlt) ?_
    refine pair d L fr _ 57 (by decide) pay2_lane C6 fun g7 C7 => ?_
    refine asm d L (chk_ok 58 (by decide) pay2_lane hlt) ?_
    refine pair d L fr _ 58 (by decide) pay2_lane C7 fun g8 C8 => ?_
    refine asm d L (chk_ok 59 (by decide) pay2_lane hlt) ?_
    refine pair d L fr _ 59 (by decide) pay2_lane C8 fun g9 C9 => ?_
    refine asm d L (chk_ok 60 (by decide) pay2_lane hlt) ?_
    refine pair d L fr _ 60 (by decide) pay2_lane C9 fun g10 C10 => ?_
    refine asm d L (chk_ok 61 (by decide) pay2_lane hlt) ?_
    refine pair d L fr _ 61 (by decide) pay2_lane C10 fun g11 C11 => ?_
    refine asm d L (chk_ok 62 (by decide) pay2_lane hlt) ?_
    refine pair d L fr _ 62 (by decide) pay2_lane C11 fun g12 C12 => ?_
    refine asm d L (chk_ok 63 (by decide) pay2_lane hlt) ?_
    refine pair d L fr _ 63 (by decide) pay2_lane C12 fun g13 C13 => ?_
    exact hK _ _ _ hl (mask_iff hcnt _ 0 pay2_lane) C13

end Half

end Cert.Proof.Bins

end
-- ==== Proof.PartsB.lean ====
/-
  The parts of an odd bin's three blocks: sixteen entries each, copied a column at a time from the second row buffer
  into the second window.
-/
module

public import proofs.«01_k».proof.Proof.Column

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Parts

variable (d : Dev nD) (L : grid0.Coords)
variable (arg2 : Memref sig .scVector .hbm S64x524288 .f32) (harg2 : arg2.IsWhole) (arg3 : Memref sig .scVector .hbm S16384x128 .f32) (harg3 : arg3.IsWhole) (arg4 : Memref sig .scVector .hbm S65536 .i32) (harg4 : arg4.IsWhole) (arg5 : Memref sig .scVector .hbm S64x524288 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S2048 .i32) (harg8 : arg8.IsWhole) (arg9 : Memref sig .scVector .vmem S48x128 .f32) (harg9 : arg9.IsWhole) (arg10 : Memref sig .scVector .vmem S48x128 .f32) (harg10 : arg10.IsWhole) (arg11 : Memref sig .scVector .vmem S48 .i32) (harg11 : arg11.IsWhole) (arg12 : Memref sig .scVector .vmem S48 .i32) (harg12 : arg12.IsWhole) (arg13 : DmaSems sig S_) (arg14 : DmaSems sig S_) (arg15 : DmaSems sig S_) (arg16 : DmaSems sig S_) (arg17 : DmaSems sig S_) (arg18 : DmaSems sig S_) (v31_r0 : DmaSems sig S_)

/-- Columns 0 to 7 of the block, after the load of its sixteen codes. -/
theorem part17_run (k0_t1 : Fin k0_t1_loop.trips) (v109 : BitVec 32) (v115 : BitVec 32) (k0_h6 : k0_cond6 v115 = 1#1)
    {R : sProp (MM F)} {Q : _ → sProp (MM F)} (ft : Buf (Elt F) ((arg8.access (.whole S2048)).loc (thr d L)))
    (fr : Buf (Elt F) ((arg10.access (.whole S48x128)).loc (thr d L))) (g : Buf (Elt F) ((arg7.access (.whole S64x512)).loc (thr d L)))
    {r : Fin 16 → Fin 48} (hr : ∀ k, (k0_pay14 (lane k)).toNat = (r k).val)
    (hloc : ∀ k, ((k0_pay13 (arg8.view.readAt (Elt F) (Rect.unit (s := S2048) (k0_off16 k0_t1) S16.size (k0_off16_inb k0_t1)).toLoadRect ft)) (lane k)).toNat < 512)
    (h : ∀ hw (g' : Buf (Elt F) ((arg7.access (.whole S64x512)).loc (thr d L))),
      Cols ((arg10.access (.whole S48x128)).read (Elt F) fr) r (k0_pay13 (arg8.view.readAt (Elt F) (Rect.unit (s := S2048) (k0_off16 k0_t1) S16.size (k0_off16_inb k0_t1)).toLoadRect ft)) (k0_pay15 v115 k0_pay14) 8 ((arg7.access (.whole S64x512)).read (Elt F) g)
        ((arg7.access (.whole S64x512)).read (Elt F) g') →
      iprop((R ∗ Held d L arg8 ft) ∗ Held d L arg10 fr ∗ Held d L arg7 g')
        ⊢ Q ⟨(k0_pay13 (arg8.view.readAt (Elt F) (Rect.unit (s := S2048) (k0_off16 k0_t1) S16.size (k0_off16_inb k0_t1)).toLoadRect ft)), k0_pay14, (k0_pay15 v115 k0_pay14), broadcast S16 (BitVec.ofNat 32 8), hw⟩) :
    iprop((R ∗ Held d L arg8 ft) ∗ Held d L arg10 fr ∗ Held d L arg7 g)
      ⊢ Wp d L (k0_part17 L arg2 harg2 arg3 harg3 arg4 harg4 arg5 harg5 arg6 harg6 arg7 harg7 arg8 harg8 arg9 harg9 arg10 harg10 arg11 harg11 arg12 harg12 arg13 arg14 arg15 arg16 arg17 arg18 v31_r0 k0_t1 v109 v115 k0_h6) Q := by
  rw [k0_part17_eq_skeleton]; unfold k0_part17_skel
  refine loadTab d L ?_
  refine asm d L (chk_ok 0 (by decide) hr hloc) ?_
  refine pair d L fr _ 0 (by decide) hr (Cols.zero _ r _ _ _) fun g1 hC1 => ?_
  refine asm d L (chk_ok 1 (by decide) hr hloc) ?_
  refine pair d L fr _ 1 (by decide) hr hC1 fun g2 hC2 => ?_
  refine asm d L (chk_ok 2 (by decide) hr hloc) ?_
  refine pair d L fr _ 2 (by decide) hr hC2 fun g3 hC3 => ?_
  refine asm d L (chk_ok 3 (by decide) hr hloc) ?_
  refine pair d L fr _ 3 (by decide) hr hC3 fun g4 hC4 => ?_
  refine asm d L (chk_ok 4 (by decide) hr hloc) ?_
  refine pair d L fr _ 4 (by decide) hr hC4 fun g5 hC5 => ?_
  refine asm d L (chk_ok 5 (by decide) hr hloc) ?_
  refine pair d L fr _ 5 (by decide) hr hC5 fun g6 hC6 => ?_
  refine asm d L (chk_ok 6 (by decide) hr hloc) ?_
  refine pair d L fr _ 6 (by decide) hr hC6 fun g7 hC7 => ?_
  refine asm d L (chk_ok 7 (by decide) hr hloc) ?_
  refine pair d L fr _ 7 (by decide) hr hC7 fun g8 hC8 => ?_
  refine asm d L (chk_ok 8 (by decide) hr hloc) ?_
  exact done d L (h _ g8 hC8)

/-- Columns 8 to 19 of the block. -/
theorem part18_run (v115 : BitVec 32) (k0_h6 : k0_cond6 v115 = 1#1) (v136 : IVec S16 32) (v139 : IVec S16 32) (v141 : IVec S16 1) (v158 : IVec S16 32) (k0_hw201 : k0_chk201 v115 v136 v139 v158)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v158 = broadcast S16 (BitVec.ofNat 32 8)) (w₀ : S64x512.Idx → Elt F .f32)
    (hC : Cols ((arg10.access (.whole S48x128)).read (Elt F) fr) r v136 v141 8 w₀ ((arg7.access (.whole S64x512)).read (Elt F) g))
    (h : ∀ hw (g' : Buf (Elt F) ((arg7.access (.whole S64x512)).loc (thr d L))),
      Cols ((arg10.access (.whole S48x128)).read (Elt F) fr) r v136 v141 20 w₀ ((arg7.access (.whole S64x512)).read (Elt F) g') →
      iprop(R ∗ Held d L arg10 fr ∗ Held d L arg7 g') ⊢ Q ⟨broadcast S16 (BitVec.ofNat 32 20), hw⟩) :
    iprop(R ∗ Held d L arg10 fr ∗ Held d L arg7 g)
      ⊢ Wp d L (k0_part18 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h6 v136 v139 v141 v158 k0_hw201) Q := by
  subst hv
  rw [k0_part18_eq_skeleton]; unfold k0_part18_skel
  refine pair d L fr _ 8 (by decide) hr hC fun g1 hC1 => ?_
  refine asm d L (chk_ok 9 (by decide) hr hloc) ?_
  refine pair d L fr _ 9 (by decide) hr hC1 fun g2 hC2 => ?_
  refine asm d L (chk_ok 10 (by decide) hr hloc) ?_
  refine pair d L fr _ 10 (by decide) hr hC2 fun g3 hC3 => ?_
  refine asm d L (chk_ok 11 (by decide) hr hloc) ?_
  refine pair d L fr _ 11 (by decide) hr hC3 fun g4 hC4 => ?_
  refine asm d L (chk_ok 12 (by decide) hr hloc) ?_
  refine pair d L fr _ 12 (by decide) hr hC4 fun g5 hC5 => ?_
  refine asm d L (chk_ok 13 (by decide) hr hloc) ?_
  refine pair d L fr _ 13 (by decide) hr hC5 fun g6 hC6 => ?_
  refine asm d L (chk_ok 14 (by decide) hr hloc) ?_
  refine pair d L fr _ 14 (by decide) hr hC6 fun g7 hC7 => ?_
  refine asm d L (chk_ok 15 (by decide) hr hloc) ?_
  refine pair d L fr _ 15 (by decide) hr hC7 fun g8 hC8 => ?_
  refine asm d L (chk_ok 16 (by decide) hr hloc) ?_
  refine pair d L fr _ 16 (by decide) hr hC8 fun g9 hC9 => ?_
  refine asm d L (chk_ok 17 (by decide) hr hloc) ?_
  refine pair d L fr _ 17 (by decide) hr hC9 fun g10 hC10 => ?_
  refine asm d L (chk_ok 18 (by decide) hr hloc) ?_
  refine pair d L fr _ 18 (by decide) hr hC10 fun g11 hC11 => ?_
  refine asm d L (chk_ok 19 (by decide) hr hloc) ?_
  refine pair d L fr _ 19 (by decide) hr hC11 fun g12 hC12 => ?_
  refine asm d L (chk_ok 20 (by decide) hr hloc) ?_
  exact done d L (h _ g12 hC12)

/-- Columns 20 to 31 of the block. -/
theorem part19_run (v115 : BitVec 32) (k0_h6 : k0_cond6 v115 = 1#1) (v136 : IVec S16 32) (v139 : IVec S16 32) (v141 : IVec S16 1) (v182 : IVec S16 32) (k0_hw213 : k0_chk213 v115 v136 v139 v182)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v182 = broadcast S16 (BitVec.ofNat 32 20)) (w₀ : S64x512.Idx → Elt F .f32)
    (hC : Cols ((arg10.access (.whole S48x128)).read (Elt F) fr) r v136 v141 20 w₀ ((arg7.access (.whole S64x512)).read (Elt F) g))
    (h : ∀ hw (g' : Buf (Elt F) ((arg7.access (.whole S64x512)).loc (thr d L))),
      Cols ((arg10.access (.whole S48x128)).read (Elt F) fr) r v136 v141 32 w₀ ((arg7.access (.whole S64x512)).read (Elt F) g') →
      iprop(R ∗ Held d L arg10 fr ∗ Held d L arg7 g') ⊢ Q ⟨broadcast S16 (BitVec.ofNat 32 32), hw⟩) :
    iprop(R ∗ Held d L arg10 fr ∗ Held d L arg7 g)
      ⊢ Wp d L (k0_part19 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h6 v136 v139 v141 v182 k0_hw213) Q := by
  subst hv
  rw [k0_part19_eq_skeleton]; unfold k0_part19_skel
  refine pair d L fr _ 20 (by decide) hr hC fun g1 hC1 => ?_
  refine asm d L (chk_ok 21 (by decide) hr hloc) ?_
  refine pair d L fr _ 21 (by decide) hr hC1 fun g2 hC2 => ?_
  refine asm d L (chk_ok 22 (by decide) hr hloc) ?_
  refine pair d L fr _ 22 (by decide) hr hC2 fun g3 hC3 => ?_
  refine asm d L (chk_ok 23 (by decide) hr hloc) ?_
  refine pair d L fr _ 23 (by decide) hr hC3 fun g4 hC4 => ?_
  refine asm d L (chk_ok 24 (by decide) hr hloc) ?_
  refine pair d L fr _ 24 (by decide) hr hC4 fun g5 hC5 => ?_
  refine asm d L (chk_ok 25 (by decide) hr hloc) ?_
  refine pair d L fr _ 25 (by decide) hr hC5 fun g6 hC6 => ?_
  refine asm d L (chk_ok 26 (by decide) hr hloc) ?_
  refine pair d L fr _ 26 (by decide) hr hC6 fun g7 hC7 => ?_
  refine asm d L (chk_ok 27 (by decide) hr hloc) ?_
  refine pair d L fr _ 27 (by decide) hr hC7 fun g8 hC8 => ?_
  refine asm d L (chk_ok 28 (by decide) hr hloc) ?_
  refine pair d L fr _ 28 (by decide) hr hC8 fun g9 hC9 => ?_
  refine asm d L (chk_ok 29 (by decide) hr hloc) ?_
  refine pair d L fr _ 29 (by decide) hr hC9 fun g10 hC10 => ?_
  refine asm d L (chk_ok 30 (by decide) hr hloc) ?_
  refine pair d L fr _ 30 (by decide) hr hC10 fun g11 hC11 => ?_
  refine asm d L (chk_ok 31 (by decide) hr hloc) ?_
  refine pair d L fr _ 31 (by decide) hr hC11 fun g12 hC12 => ?_
  refine asm d L (chk_ok 32 (by decide) hr hloc) ?_
  exact done d L (h _ g12 hC12)

/-- Columns 32 to 43 of the block. -/
theorem part20_run (v115 : BitVec 32) (k0_h6 : k0_cond6 v115 = 1#1) (v136 : IVec S16 32) (v139 : IVec S16 32) (v141 : IVec S16 1) (v206 : IVec S16 32) (k0_hw225 : k0_chk225 v115 v136 v139 v206)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v206 = broadcast S16 (BitVec.ofNat 32 32)) (w₀ : S64x512.Idx → Elt F .f32)
    (hC : Cols ((arg10.access (.whole S48x128)).read (Elt F) fr) r v136 v141 32 w₀ ((arg7.access (.whole S64x512)).read (Elt F) g))
    (h : ∀ hw (g' : Buf (Elt F) ((arg7.access (.whole S64x512)).loc (thr d L))),
      Cols ((arg10.access (.whole S48x128)).read (Elt F) fr) r v136 v141 44 w₀ ((arg7.access (.whole S64x512)).read (Elt F) g') →
      iprop(R ∗ Held d L arg10 fr ∗ Held d L arg7 g') ⊢ Q ⟨broadcast S16 (BitVec.ofNat 32 44), hw⟩) :
    iprop(R ∗ Held d L arg10 fr ∗ Held d L arg7 g)
      ⊢ Wp d L (k0_part20 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h6 v136 v139 v141 v206 k0_hw225) Q := by
  subst hv
  rw [k0_part20_eq_skeleton]; unfold k0_part20_skel
  refine pair d L fr _ 32 (by decide) hr hC fun g1 hC1 => ?_
  refine asm d L (chk_ok 33 (by decide) hr hloc) ?_
  refine pair d L fr _ 33 (by decide) hr hC1 fun g2 hC2 => ?_
  refine asm d L (chk_ok 34 (by decide) hr hloc) ?_
  refine pair d L fr _ 34 (by decide) hr hC2 fun g3 hC3 => ?_
  refine asm d L (chk_ok 35 (by decide) hr hloc) ?_
  refine pair d L fr _ 35 (by decide) hr hC3 fun g4 hC4 => ?_
  refine asm d L (chk_ok 36 (by decide) hr hloc) ?_
  refine pair d L fr _ 36 (by decide) hr hC4 fun g5 hC5 => ?_
  refine asm d L (chk_ok 37 (by decide) hr hloc) ?_
  refine pair d L fr _ 37 (by decide) hr hC5 fun g6 hC6 => ?_
  refine asm d L (chk_ok 38 (by decide) hr hloc) ?_
  refine pair d L fr _ 38 (by decide) hr hC6 fun g7 hC7 => ?_
  refine asm d L (chk_ok 39 (by decide) hr hloc) ?_
  refine pair d L fr _ 39 (by decide) hr hC7 fun g8 hC8 => ?_
  refine asm d L (chk_ok 40 (by decide) hr hloc) ?_
  refine pair d L fr _ 40 (by decide) hr hC8 fun g9 hC9 => ?_
  refine asm d L (chk_ok 41 (by decide) hr hloc) ?_
  refine pair d L fr _ 41 (by decide) hr hC9 fun g10 hC10 => ?_
  refine asm d L (chk_ok 42 (by decide) hr hloc) ?_
  refine pair d L fr _ 42 (by decide) hr hC10 fun g11 hC11 => ?_
  refine asm d L (chk_ok 43 (by decide) hr hloc) ?_
  refine pair d L fr _ 43 (by decide) hr hC11 fun g12 hC12 => ?_
  refine asm d L (chk_ok 44 (by decide) hr hloc) ?_
  exact done d L (h _ g12 hC12)

/-- Columns 44 to 55 of the block. -/
theorem part21_run (v115 : BitVec 32) (k0_h6 : k0_cond6 v115 = 1#1) (v136 : IVec S16 32) (v139 : IVec S16 32) (v141 : IVec S16 1) (v230 : IVec S16 32) (k0_hw237 : k0_chk237 v115 v136 v139 v230)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v230 = broadcast S16 (BitVec.ofNat 32 44)) (w₀ : S64x512.Idx → Elt F .f32)
    (hC : Cols ((arg10.access (.whole S48x128)).read (Elt F) fr) r v136 v141 44 w₀ ((arg7.access (.whole S64x512)).read (Elt F) g))
    (h : ∀ hw (g' : Buf (Elt F) ((arg7.access (.whole S64x512)).loc (thr d L))),
      Cols ((arg10.access (.whole S48x128)).read (Elt F) fr) r v136 v141 56 w₀ ((arg7.access (.whole S64x512)).read (Elt F) g') →
      iprop(R ∗ Held d L arg10 fr ∗ Held d L arg7 g') ⊢ Q ⟨broadcast S16 (BitVec.ofNat 32 56), hw⟩) :
    iprop(R ∗ Held d L arg10 fr ∗ Held d L arg7 g)
      ⊢ Wp d L (k0_part21 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h6 v136 v139 v141 v230 k0_hw237) Q := by
  subst hv
  rw [k0_part21_eq_skeleton]; unfold k0_part21_skel
  refine pair d L fr _ 44 (by decide) hr hC fun g1 hC1 => ?_
  refine asm d L (chk_ok 45 (by decide) hr hloc) ?_
  refine pair d L fr _ 45 (by decide) hr hC1 fun g2 hC2 => ?_
  refine asm d L (chk_ok 46 (by decide) hr hloc) ?_
  refine pair d L fr _ 46 (by decide) hr hC2 fun g3 hC3 => ?_
  refine asm d L (chk_ok 47 (by decide) hr hloc) ?_
  refine pair d L fr _ 47 (by decide) hr hC3 fun g4 hC4 => ?_
  refine asm d L (chk_ok 48 (by decide) hr hloc) ?_
  refine pair d L fr _ 48 (by decide) hr hC4 fun g5 hC5 => ?_
  refine asm d L (chk_ok 49 (by decide) hr hloc) ?_
  refine pair d L fr _ 49 (by decide) hr hC5 fun g6 hC6 => ?_
  refine asm d L (chk_ok 50 (by decide) hr hloc) ?_
  refine pair d L fr _ 50 (by decide) hr hC6 fun g7 hC7 => ?_
  refine asm d L (chk_ok 51 (by decide) hr hloc) ?_
  refine pair d L fr _ 51 (by decide) hr hC7 fun g8 hC8 => ?_
  refine asm d L (chk_ok 52 (by decide) hr hloc) ?_
  refine pair d L fr _ 52 (by decide) hr hC8 fun g9 hC9 => ?_
  refine asm d L (chk_ok 53 (by decide) hr hloc) ?_
  refine pair d L fr _ 53 (by decide) hr hC9 fun g10 hC10 => ?_
  refine asm d L (chk_ok 54 (by decide) hr hloc) ?_
  refine pair d L fr _ 54 (by decide) hr hC10 fun g11 hC11 => ?_
  refine asm d L (chk_ok 55 (by decide) hr hloc) ?_
  refine pair d L fr _ 55 (by decide) hr hC11 fun g12 hC12 => ?_
  refine asm d L (chk_ok 56 (by decide) hr hloc) ?_
  exact done d L (h _ g12 hC12)

/-- Columns 0 to 7 of the block, after the load of its sixteen codes. -/
theorem part22_run (k0_t1 : Fin k0_t1_loop.trips) (v109 : BitVec 32) (v115 : BitVec 32) (k0_h7 : k0_cond7 v115 = 1#1)
    {R : sProp (MM F)} {Q : _ → sProp (MM F)} (ft : Buf (Elt F) ((arg8.access (.whole S2048)).loc (thr d L)))
    (fr : Buf (Elt F) ((arg10.access (.whole S48x128)).loc (thr d L))) (g : Buf (Elt F) ((arg7.access (.whole S64x512)).loc (thr d L)))
    {r : Fin 16 → Fin 48} (hr : ∀ k, (k0_pay17 (lane k)).toNat = (r k).val)
    (hloc : ∀ k, ((k0_pay16 (arg8.view.readAt (Elt F) (Rect.unit (s := S2048) (k0_off17 k0_t1) S16.size (k0_off17_inb k0_t1)).toLoadRect ft)) (lane k)).toNat < 512)
    (h : ∀ hw (g' : Buf (Elt F) ((arg7.access (.whole S64x512)).loc (thr d L))),
      Cols ((arg10.access (.whole S48x128)).read (Elt F) fr) r (k0_pay16 (arg8.view.readAt (Elt F) (Rect.unit (s := S2048) (k0_off17 k0_t1) S16.size (k0_off17_inb k0_t1)).toLoadRect ft)) (k0_pay18 v115 k0_pay17) 8 ((arg7.access (.whole S64x512)).read (Elt F) g)
        ((arg7.access (.whole S64x512)).read (Elt F) g') →
      iprop((R ∗ Held d L arg8 ft) ∗ Held d L arg10 fr ∗ Held d L arg7 g')
        ⊢ Q ⟨(k0_pay16 (arg8.view.readAt (Elt F) (Rect.unit (s := S2048) (k0_off17 k0_t1) S16.size (k0_off17_inb k0_t1)).toLoadRect ft)), k0_pay17, (k0_pay18 v115 k0_pay17), broadcast S16 (BitVec.ofNat 32 8), hw⟩) :
    iprop((R ∗ Held d L arg8 ft) ∗ Held d L arg10 fr ∗ Held d L arg7 g)
      ⊢ Wp d L (k0_part22 L arg2 harg2 arg3 harg3 arg4 harg4 arg5 harg5 arg6 harg6 arg7 harg7 arg8 harg8 arg9 harg9 arg10 harg10 arg11 harg11 arg12 harg12 arg13 arg14 arg15 arg16 arg17 arg18 v31_r0 k0_t1 v109 v115 k0_h7) Q := by
  rw [k0_part22_eq_skeleton]; unfold k0_part22_skel
  refine loadTab d L ?_
  refine asm d L (chk_ok 0 (by decide) hr hloc) ?_
  refine pair d L fr _ 0 (by decide) hr (Cols.zero _ r _ _ _) fun g1 hC1 => ?_
  refine asm d L (chk_ok 1 (by decide) hr hloc) ?_
  refine pair d L fr _ 1 (by decide) hr hC1 fun g2 hC2 => ?_
  refine asm d L (chk_ok 2 (by decide) hr hloc) ?_
  refine pair d L fr _ 2 (by decide) hr hC2 fun g3 hC3 => ?_
  refine asm d L (chk_ok 3 (by decide) hr hloc) ?_
  refine pair d L fr _ 3 (by decide) hr hC3 fun g4 hC4 => ?_
  refine asm d L (chk_ok 4 (by decide) hr hloc) ?_
  refine pair d L fr _ 4 (by decide) hr hC4 fun g5 hC5 => ?_
  refine asm d L (chk_ok 5 (by decide) hr hloc) ?_
  refine pair d L fr _ 5 (by decide) hr hC5 fun g6 hC6 => ?_
  refine asm d L (chk_ok 6 (by decide) hr hloc) ?_
  refine pair d L fr _ 6 (by decide) hr hC6 fun g7 hC7 => ?_
  refine asm d L (chk_ok 7 (by decide) hr hloc) ?_
  refine pair d L fr _ 7 (by decide) hr hC7 fun g8 hC8 => ?_
  refine asm d L (chk_ok 8 (by decide) hr hloc) ?_
  exact done d L (h _ g8 hC8)

/-- Columns 8 to 19 of the block. -/
theorem part23_run (v115 : BitVec 32) (k0_h7 : k0_cond7 v115 = 1#1) (v136 : IVec S16 32) (v139 : IVec S16 32) (v141 : IVec S16 1) (v158 : IVec S16 32) (k0_hw265 : k0_chk265 v115 v136 v139 v158)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v158 = broadcast S16 (BitVec.ofNat 32 8)) (w₀ : S64x512.Idx → Elt F .f32)
    (hC : Cols ((arg10.access (.whole S48x128)).read (Elt F) fr) r v136 v141 8 w₀ ((arg7.access (.whole S64x512)).read (Elt F) g))
    (h : ∀ hw (g' : Buf (Elt F) ((arg7.access (.whole S64x512)).loc (thr d L))),
      Cols ((arg10.access (.whole S48x128)).read (Elt F) fr) r v136 v141 20 w₀ ((arg7.access (.whole S64x512)).read (Elt F) g') →
      iprop(R ∗ Held d L arg10 fr ∗ Held d L arg7 g') ⊢ Q ⟨broadcast S16 (BitVec.ofNat 32 20), hw⟩) :
    iprop(R ∗ Held d L arg10 fr ∗ Held d L arg7 g)
      ⊢ Wp d L (k0_part23 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h7 v136 v139 v141 v158 k0_hw265) Q := by
  subst hv
  rw [k0_part23_eq_skeleton]; unfold k0_part23_skel
  refine pair d L fr _ 8 (by decide) hr hC fun g1 hC1 => ?_
  refine asm d L (chk_ok 9 (by decide) hr hloc) ?_
  refine pair d L fr _ 9 (by decide) hr hC1 fun g2 hC2 => ?_
  refine asm d L (chk_ok 10 (by decide) hr hloc) ?_
  refine pair d L fr _ 10 (by decide) hr hC2 fun g3 hC3 => ?_
  refine asm d L (chk_ok 11 (by decide) hr hloc) ?_
  refine pair d L fr _ 11 (by decide) hr hC3 fun g4 hC4 => ?_
  refine asm d L (chk_ok 12 (by decide) hr hloc) ?_
  refine pair d L fr _ 12 (by decide) hr hC4 fun g5 hC5 => ?_
  refine asm d L (chk_ok 13 (by decide) hr hloc) ?_
  refine pair d L fr _ 13 (by decide) hr hC5 fun g6 hC6 => ?_
  refine asm d L (chk_ok 14 (by decide) hr hloc) ?_
  refine pair d L fr _ 14 (by decide) hr hC6 fun g7 hC7 => ?_
  refine asm d L (chk_ok 15 (by decide) hr hloc) ?_
  refine pair d L fr _ 15 (by decide) hr hC7 fun g8 hC8 => ?_
  refine asm d L (chk_ok 16 (by decide) hr hloc) ?_
  refine pair d L fr _ 16 (by decide) hr hC8 fun g9 hC9 => ?_
  refine asm d L (chk_ok 17 (by decide) hr hloc) ?_
  refine pair d L fr _ 17 (by decide) hr hC9 fun g10 hC10 => ?_
  refine asm d L (chk_ok 18 (by decide) hr hloc) ?_
  refine pair d L fr _ 18 (by decide) hr hC10 fun g11 hC11 => ?_
  refine asm d L (chk_ok 19 (by decide) hr hloc) ?_
  refine pair d L fr _ 19 (by decide) hr hC11 fun g12 hC12 => ?_
  refine asm d L (chk_ok 20 (by decide) hr hloc) ?_
  exact done d L (h _ g12 hC12)

/-- Columns 20 to 31 of the block. -/
theorem part24_run (v115 : BitVec 32) (k0_h7 : k0_cond7 v115 = 1#1) (v136 : IVec S16 32) (v139 : IVec S16 32) (v141 : IVec S16 1) (v182 : IVec S16 32) (k0_hw277 : k0_chk277 v115 v136 v139 v182)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v182 = broadcast S16 (BitVec.ofNat 32 20)) (w₀ : S64x512.Idx → Elt F .f32)
    (hC : Cols ((arg10.access (.whole S48x128)).read (Elt F) fr) r v136 v141 20 w₀ ((arg7.access (.whole S64x512)).read (Elt F) g))
    (h : ∀ hw (g' : Buf (Elt F) ((arg7.access (.whole S64x512)).loc (thr d L))),
      Cols ((arg10.access (.whole S48x128)).read (Elt F) fr) r v136 v141 32 w₀ ((arg7.access (.whole S64x512)).read (Elt F) g') →
      iprop(R ∗ Held d L arg10 fr ∗ Held d L arg7 g') ⊢ Q ⟨broadcast S16 (BitVec.ofNat 32 32), hw⟩) :
    iprop(R ∗ Held d L arg10 fr ∗ Held d L arg7 g)
      ⊢ Wp d L (k0_part24 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h7 v136 v139 v141 v182 k0_hw277) Q := by
  subst hv
  rw [k0_part24_eq_skeleton]; unfold k0_part24_skel
  refine pair d L fr _ 20 (by decide) hr hC fun g1 hC1 => ?_
  refine asm d L (chk_ok 21 (by decide) hr hloc) ?_
  refine pair d L fr _ 21 (by decide) hr hC1 fun g2 hC2 => ?_
  refine asm d L (chk_ok 22 (by decide) hr hloc) ?_
  refine pair d L fr _ 22 (by decide) hr hC2 fun g3 hC3 => ?_
  refine asm d L (chk_ok 23 (by decide) hr hloc) ?_
  refine pair d L fr _ 23 (by decide) hr hC3 fun g4 hC4 => ?_
  refine asm d L (chk_ok 24 (by decide) hr hloc) ?_
  refine pair d L fr _ 24 (by decide) hr hC4 fun g5 hC5 => ?_
  refine asm d L (chk_ok 25 (by decide) hr hloc) ?_
  refine pair d L fr _ 25 (by decide) hr hC5 fun g6 hC6 => ?_
  refine asm d L (chk_ok 26 (by decide) hr hloc) ?_
  refine pair d L fr _ 26 (by decide) hr hC6 fun g7 hC7 => ?_
  refine asm d L (chk_ok 27 (by decide) hr hloc) ?_
  refine pair d L fr _ 27 (by decide) hr hC7 fun g8 hC8 => ?_
  refine asm d L (chk_ok 28 (by decide) hr hloc) ?_
  refine pair d L fr _ 28 (by decide) hr hC8 fun g9 hC9 => ?_
  refine asm d L (chk_ok 29 (by decide) hr hloc) ?_
  refine pair d L fr _ 29 (by decide) hr hC9 fun g10 hC10 => ?_
  refine asm d L (chk_ok 30 (by decide) hr hloc) ?_
  refine pair d L fr _ 30 (by decide) hr hC10 fun g11 hC11 => ?_
  refine asm d L (chk_ok 31 (by decide) hr hloc) ?_
  refine pair d L fr _ 31 (by decide) hr hC11 fun g12 hC12 => ?_
  refine asm d L (chk_ok 32 (by decide) hr hloc) ?_
  exact done d L (h _ g12 hC12)

/-- Columns 32 to 43 of the block. -/
theorem part25_run (v115 : BitVec 32) (k0_h7 : k0_cond7 v115 = 1#1) (v136 : IVec S16 32) (v139 : IVec S16 32) (v141 : IVec S16 1) (v206 : IVec S16 32) (k0_hw289 : k0_chk289 v115 v136 v139 v206)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v206 = broadcast S16 (BitVec.ofNat 32 32)) (w₀ : S64x512.Idx → Elt F .f32)
    (hC : Cols ((arg10.access (.whole S48x128)).read (Elt F) fr) r v136 v141 32 w₀ ((arg7.access (.whole S64x512)).read (Elt F) g))
    (h : ∀ hw (g' : Buf (Elt F) ((arg7.access (.whole S64x512)).loc (thr d L))),
      Cols ((arg10.access (.whole S48x128)).read (Elt F) fr) r v136 v141 44 w₀ ((arg7.access (.whole S64x512)).read (Elt F) g') →
      iprop(R ∗ Held d L arg10 fr ∗ Held d L arg7 g') ⊢ Q ⟨broadcast S16 (BitVec.ofNat 32 44), hw⟩) :
    iprop(R ∗ Held d L arg10 fr ∗ Held d L arg7 g)
      ⊢ Wp d L (k0_part25 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h7 v136 v139 v141 v206 k0_hw289) Q := by
  subst hv
  rw [k0_part25_eq_skeleton]; unfold k0_part25_skel
  refine pair d L fr _ 32 (by decide) hr hC fun g1 hC1 => ?_
  refine asm d L (chk_ok 33 (by decide) hr hloc) ?_
  refine pair d L fr _ 33 (by decide) hr hC1 fun g2 hC2 => ?_
  refine asm d L (chk_ok 34 (by decide) hr hloc) ?_
  refine pair d L fr _ 34 (by decide) hr hC2 fun g3 hC3 => ?_
  refine asm d L (chk_ok 35 (by decide) hr hloc) ?_
  refine pair d L fr _ 35 (by decide) hr hC3 fun g4 hC4 => ?_
  refine asm d L (chk_ok 36 (by decide) hr hloc) ?_
  refine pair d L fr _ 36 (by decide) hr hC4 fun g5 hC5 => ?_
  refine asm d L (chk_ok 37 (by decide) hr hloc) ?_
  refine pair d L fr _ 37 (by decide) hr hC5 fun g6 hC6 => ?_
  refine asm d L (chk_ok 38 (by decide) hr hloc) ?_
  refine pair d L fr _ 38 (by decide) hr hC6 fun g7 hC7 => ?_
  refine asm d L (chk_ok 39 (by decide) hr hloc) ?_
  refine pair d L fr _ 39 (by decide) hr hC7 fun g8 hC8 => ?_
  refine asm d L (chk_ok 40 (by decide) hr hloc) ?_
  refine pair d L fr _ 40 (by decide) hr hC8 fun g9 hC9 => ?_
  refine asm d L (chk_ok 41 (by decide) hr hloc) ?_
  refine pair d L fr _ 41 (by decide) hr hC9 fun g10 hC10 => ?_
  refine asm d L (chk_ok 42 (by decide) hr hloc) ?_
  refine pair d L fr _ 42 (by decide) hr hC10 fun g11 hC11 => ?_
  refine asm d L (chk_ok 43 (by decide) hr hloc) ?_
  refine pair d L fr _ 43 (by decide) hr hC11 fun g12 hC12 => ?_
  refine asm d L (chk_ok 44 (by decide) hr hloc) ?_
  exact done d L (h _ g12 hC12)

/-- Columns 44 to 55 of the block. -/
theorem part26_run (v115 : BitVec 32) (k0_h7 : k0_cond7 v115 = 1#1) (v136 : IVec S16 32) (v139 : IVec S16 32) (v141 : IVec S16 1) (v230 : IVec S16 32) (k0_hw301 : k0_chk301 v115 v136 v139 v230)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v230 = broadcast S16 (BitVec.ofNat 32 44)) (w₀ : S64x512.Idx → Elt F .f32)
    (hC : Cols ((arg10.access (.whole S48x128)).read (Elt F) fr) r v136 v141 44 w₀ ((arg7.access (.whole S64x512)).read (Elt F) g))
    (h : ∀ hw (g' : Buf (Elt F) ((arg7.access (.whole S64x512)).loc (thr d L))),
      Cols ((arg10.access (.whole S48x128)).read (Elt F) fr) r v136 v141 56 w₀ ((arg7.access (.whole S64x512)).read (Elt F) g') →
      iprop(R ∗ Held d L arg10 fr ∗ Held d L arg7 g') ⊢ Q ⟨broadcast S16 (BitVec.ofNat 32 56), hw⟩) :
    iprop(R ∗ Held d L arg10 fr ∗ Held d L arg7 g)
      ⊢ Wp d L (k0_part26 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h7 v136 v139 v141 v230 k0_hw301) Q := by
  subst hv
  rw [k0_part26_eq_skeleton]; unfold k0_part26_skel
  refine pair d L fr _ 44 (by decide) hr hC fun g1 hC1 => ?_
  refine asm d L (chk_ok 45 (by decide) hr hloc) ?_
  refine pair d L fr _ 45 (by decide) hr hC1 fun g2 hC2 => ?_
  refine asm d L (chk_ok 46 (by decide) hr hloc) ?_
  refine pair d L fr _ 46 (by decide) hr hC2 fun g3 hC3 => ?_
  refine asm d L (chk_ok 47 (by decide) hr hloc) ?_
  refine pair d L fr _ 47 (by decide) hr hC3 fun g4 hC4 => ?_
  refine asm d L (chk_ok 48 (by decide) hr hloc) ?_
  refine pair d L fr _ 48 (by decide) hr hC4 fun g5 hC5 => ?_
  refine asm d L (chk_ok 49 (by decide) hr hloc) ?_
  refine pair d L fr _ 49 (by decide) hr hC5 fun g6 hC6 => ?_
  refine asm d L (chk_ok 50 (by decide) hr hloc) ?_
  refine pair d L fr _ 50 (by decide) hr hC6 fun g7 hC7 => ?_
  refine asm d L (chk_ok 51 (by decide) hr hloc) ?_
  refine pair d L fr _ 51 (by decide) hr hC7 fun g8 hC8 => ?_
  refine asm d L (chk_ok 52 (by decide) hr hloc) ?_
  refine pair d L fr _ 52 (by decide) hr hC8 fun g9 hC9 => ?_
  refine asm d L (chk_ok 53 (by decide) hr hloc) ?_
  refine pair d L fr _ 53 (by decide) hr hC9 fun g10 hC10 => ?_
  refine asm d L (chk_ok 54 (by decide) hr hloc) ?_
  refine pair d L fr _ 54 (by decide) hr hC10 fun g11 hC11 => ?_
  refine asm d L (chk_ok 55 (by decide) hr hloc) ?_
  refine pair d L fr _ 55 (by decide) hr hC11 fun g12 hC12 => ?_
  refine asm d L (chk_ok 56 (by decide) hr hloc) ?_
  exact done d L (h _ g12 hC12)

/-- Columns 0 to 7 of the block, after the load of its sixteen codes. -/
theorem part27_run (k0_t1 : Fin k0_t1_loop.trips) (v109 : BitVec 32) (v115 : BitVec 32) (k0_h8 : k0_cond8 v115 = 1#1)
    {R : sProp (MM F)} {Q : _ → sProp (MM F)} (ft : Buf (Elt F) ((arg8.access (.whole S2048)).loc (thr d L)))
    (fr : Buf (Elt F) ((arg10.access (.whole S48x128)).loc (thr d L))) (g : Buf (Elt F) ((arg7.access (.whole S64x512)).loc (thr d L)))
    {r : Fin 16 → Fin 48} (hr : ∀ k, (k0_pay20 (lane k)).toNat = (r k).val)
    (hloc : ∀ k, ((k0_pay19 (arg8.view.readAt (Elt F) (Rect.unit (s := S2048) (k0_off18 k0_t1) S16.size (k0_off18_inb k0_t1)).toLoadRect ft)) (lane k)).toNat < 512)
    (h : ∀ hw (g' : Buf (Elt F) ((arg7.access (.whole S64x512)).loc (thr d L))),
      Cols ((arg10.access (.whole S48x128)).read (Elt F) fr) r (k0_pay19 (arg8.view.readAt (Elt F) (Rect.unit (s := S2048) (k0_off18 k0_t1) S16.size (k0_off18_inb k0_t1)).toLoadRect ft)) (k0_pay21 v115 k0_pay20) 8 ((arg7.access (.whole S64x512)).read (Elt F) g)
        ((arg7.access (.whole S64x512)).read (Elt F) g') →
      iprop((R ∗ Held d L arg8 ft) ∗ Held d L arg10 fr ∗ Held d L arg7 g')
        ⊢ Q ⟨(k0_pay19 (arg8.view.readAt (Elt F) (Rect.unit (s := S2048) (k0_off18 k0_t1) S16.size (k0_off18_inb k0_t1)).toLoadRect ft)), k0_pay20, (k0_pay21 v115 k0_pay20), broadcast S16 (BitVec.ofNat 32 8), hw⟩) :
    iprop((R ∗ Held d L arg8 ft) ∗ Held d L arg10 fr ∗ Held d L arg7 g)
      ⊢ Wp d L (k0_part27 L arg2 harg2 arg3 harg3 arg4 harg4 arg5 harg5 arg6 harg6 arg7 harg7 arg8 harg8 arg9 harg9 arg10 harg10 arg11 harg11 arg12 harg12 arg13 arg14 arg15 arg16 arg17 arg18 v31_r0 k0_t1 v109 v115 k0_h8) Q := by
  rw [k0_part27_eq_skeleton]; unfold k0_part27_skel
  refine loadTab d L ?_
  refine asm d L (chk_ok 0 (by decide) hr hloc) ?_
  refine pair d L fr _ 0 (by decide) hr (Cols.zero _ r _ _ _) fun g1 hC1 => ?_
  refine asm d L (chk_ok 1 (by decide) hr hloc) ?_
  refine pair d L fr _ 1 (by decide) hr hC1 fun g2 hC2 => ?_
  refine asm d L (chk_ok 2 (by decide) hr hloc) ?_
  refine pair d L fr _ 2 (by decide) hr hC2 fun g3 hC3 => ?_
  refine asm d L (chk_ok 3 (by decide) hr hloc) ?_
  refine pair d L fr _ 3 (by decide) hr hC3 fun g4 hC4 => ?_
  refine asm d L (chk_ok 4 (by decide) hr hloc) ?_
  refine pair d L fr _ 4 (by decide) hr hC4 fun g5 hC5 => ?_
  refine asm d L (chk_ok 5 (by decide) hr hloc) ?_
  refine pair d L fr _ 5 (by decide) hr hC5 fun g6 hC6 => ?_
  refine asm d L (chk_ok 6 (by decide) hr hloc) ?_
  refine pair d L fr _ 6 (by decide) hr hC6 fun g7 hC7 => ?_
  refine asm d L (chk_ok 7 (by decide) hr hloc) ?_
  refine pair d L fr _ 7 (by decide) hr hC7 fun g8 hC8 => ?_
  refine asm d L (chk_ok 8 (by decide) hr hloc) ?_
  exact done d L (h _ g8 hC8)

/-- Columns 8 to 19 of the block. -/
theorem part28_run (v115 : BitVec 32) (k0_h8 : k0_cond8 v115 = 1#1) (v136 : IVec S16 32) (v139 : IVec S16 32) (v141 : IVec S16 1) (v158 : IVec S16 32) (k0_hw329 : k0_chk329 v115 v136 v139 v158)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v158 = broadcast S16 (BitVec.ofNat 32 8)) (w₀ : S64x512.Idx → Elt F .f32)
    (hC : Cols ((arg10.access (.whole S48x128)).read (Elt F) fr) r v136 v141 8 w₀ ((arg7.access (.whole S64x512)).read (Elt F) g))
    (h : ∀ hw (g' : Buf (Elt F) ((arg7.access (.whole S64x512)).loc (thr d L))),
      Cols ((arg10.access (.whole S48x128)).read (Elt F) fr) r v136 v141 20 w₀ ((arg7.access (.whole S64x512)).read (Elt F) g') →
      iprop(R ∗ Held d L arg10 fr ∗ Held d L arg7 g') ⊢ Q ⟨broadcast S16 (BitVec.ofNat 32 20), hw⟩) :
    iprop(R ∗ Held d L arg10 fr ∗ Held d L arg7 g)
      ⊢ Wp d L (k0_part28 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h8 v136 v139 v141 v158 k0_hw329) Q := by
  subst hv
  rw [k0_part28_eq_skeleton]; unfold k0_part28_skel
  refine pair d L fr _ 8 (by decide) hr hC fun g1 hC1 => ?_
  refine asm d L (chk_ok 9 (by decide) hr hloc) ?_
  refine pair d L fr _ 9 (by decide) hr hC1 fun g2 hC2 => ?_
  refine asm d L (chk_ok 10 (by decide) hr hloc) ?_
  refine pair d L fr _ 10 (by decide) hr hC2 fun g3 hC3 => ?_
  refine asm d L (chk_ok 11 (by decide) hr hloc) ?_
  refine pair d L fr _ 11 (by decide) hr hC3 fun g4 hC4 => ?_
  refine asm d L (chk_ok 12 (by decide) hr hloc) ?_
  refine pair d L fr _ 12 (by decide) hr hC4 fun g5 hC5 => ?_
  refine asm d L (chk_ok 13 (by decide) hr hloc) ?_
  refine pair d L fr _ 13 (by decide) hr hC5 fun g6 hC6 => ?_
  refine asm d L (chk_ok 14 (by decide) hr hloc) ?_
  refine pair d L fr _ 14 (by decide) hr hC6 fun g7 hC7 => ?_
  refine asm d L (chk_ok 15 (by decide) hr hloc) ?_
  refine pair d L fr _ 15 (by decide) hr hC7 fun g8 hC8 => ?_
  refine asm d L (chk_ok 16 (by decide) hr hloc) ?_
  refine pair d L fr _ 16 (by decide) hr hC8 fun g9 hC9 => ?_
  refine asm d L (chk_ok 17 (by decide) hr hloc) ?_
  refine pair d L fr _ 17 (by decide) hr hC9 fun g10 hC10 => ?_
  refine asm d L (chk_ok 18 (by decide) hr hloc) ?_
  refine pair d L fr _ 18 (by decide) hr hC10 fun g11 hC11 => ?_
  refine asm d L (chk_ok 19 (by decide) hr hloc) ?_
  refine pair d L fr _ 19 (by decide) hr hC11 fun g12 hC12 => ?_
  refine asm d L (chk_ok 20 (by decide) hr hloc) ?_
  exact done d L (h _ g12 hC12)

/-- Columns 20 to 31 of the block. -/
theorem part29_run (v115 : BitVec 32) (k0_h8 : k0_cond8 v115 = 1#1) (v136 : IVec S16 32) (v139 : IVec S16 32) (v141 : IVec S16 1) (v182 : IVec S16 32) (k0_hw341 : k0_chk341 v115 v136 v139 v182)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v182 = broadcast S16 (BitVec.ofNat 32 20)) (w₀ : S64x512.Idx → Elt F .f32)
    (hC : Cols ((arg10.access (.whole S48x128)).read (Elt F) fr) r v136 v141 20 w₀ ((arg7.access (.whole S64x512)).read (Elt F) g))
    (h : ∀ hw (g' : Buf (Elt F) ((arg7.access (.whole S64x512)).loc (thr d L))),
      Cols ((arg10.access (.whole S48x128)).read (Elt F) fr) r v136 v141 32 w₀ ((arg7.access (.whole S64x512)).read (Elt F) g') →
      iprop(R ∗ Held d L arg10 fr ∗ Held d L arg7 g') ⊢ Q ⟨broadcast S16 (BitVec.ofNat 32 32), hw⟩) :
    iprop(R ∗ Held d L arg10 fr ∗ Held d L arg7 g)
      ⊢ Wp d L (k0_part29 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h8 v136 v139 v141 v182 k0_hw341) Q := by
  subst hv
  rw [k0_part29_eq_skeleton]; unfold k0_part29_skel
  refine pair d L fr _ 20 (by decide) hr hC fun g1 hC1 => ?_
  refine asm d L (chk_ok 21 (by decide) hr hloc) ?_
  refine pair d L fr _ 21 (by decide) hr hC1 fun g2 hC2 => ?_
  refine asm d L (chk_ok 22 (by decide) hr hloc) ?_
  refine pair d L fr _ 22 (by decide) hr hC2 fun g3 hC3 => ?_
  refine asm d L (chk_ok 23 (by decide) hr hloc) ?_
  refine pair d L fr _ 23 (by decide) hr hC3 fun g4 hC4 => ?_
  refine asm d L (chk_ok 24 (by decide) hr hloc) ?_
  refine pair d L fr _ 24 (by decide) hr hC4 fun g5 hC5 => ?_
  refine asm d L (chk_ok 25 (by decide) hr hloc) ?_
  refine pair d L fr _ 25 (by decide) hr hC5 fun g6 hC6 => ?_
  refine asm d L (chk_ok 26 (by decide) hr hloc) ?_
  refine pair d L fr _ 26 (by decide) hr hC6 fun g7 hC7 => ?_
  refine asm d L (chk_ok 27 (by decide) hr hloc) ?_
  refine pair d L fr _ 27 (by decide) hr hC7 fun g8 hC8 => ?_
  refine asm d L (chk_ok 28 (by decide) hr hloc) ?_
  refine pair d L fr _ 28 (by decide) hr hC8 fun g9 hC9 => ?_
  refine asm d L (chk_ok 29 (by decide) hr hloc) ?_
  refine pair d L fr _ 29 (by decide) hr hC9 fun g10 hC10 => ?_
  refine asm d L (chk_ok 30 (by decide) hr hloc) ?_
  refine pair d L fr _ 30 (by decide) hr hC10 fun g11 hC11 => ?_
  refine asm d L (chk_ok 31 (by decide) hr hloc) ?_
  refine pair d L fr _ 31 (by decide) hr hC11 fun g12 hC12 => ?_
  refine asm d L (chk_ok 32 (by decide) hr hloc) ?_
  exact done d L (h _ g12 hC12)

/-- Columns 32 to 43 of the block. -/
theorem part30_run (v115 : BitVec 32) (k0_h8 : k0_cond8 v115 = 1#1) (v136 : IVec S16 32) (v139 : IVec S16 32) (v141 : IVec S16 1) (v206 : IVec S16 32) (k0_hw353 : k0_chk353 v115 v136 v139 v206)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v206 = broadcast S16 (BitVec.ofNat 32 32)) (w₀ : S64x512.Idx → Elt F .f32)
    (hC : Cols ((arg10.access (.whole S48x128)).read (Elt F) fr) r v136 v141 32 w₀ ((arg7.access (.whole S64x512)).read (Elt F) g))
    (h : ∀ hw (g' : Buf (Elt F) ((arg7.access (.whole S64x512)).loc (thr d L))),
      Cols ((arg10.access (.whole S48x128)).read (Elt F) fr) r v136 v141 44 w₀ ((arg7.access (.whole S64x512)).read (Elt F) g') →
      iprop(R ∗ Held d L arg10 fr ∗ Held d L arg7 g') ⊢ Q ⟨broadcast S16 (BitVec.ofNat 32 44), hw⟩) :
    iprop(R ∗ Held d L arg10 fr ∗ Held d L arg7 g)
      ⊢ Wp d L (k0_part30 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h8 v136 v139 v141 v206 k0_hw353) Q := by
  subst hv
  rw [k0_part30_eq_skeleton]; unfold k0_part30_skel
  refine pair d L fr _ 32 (by decide) hr hC fun g1 hC1 => ?_
  refine asm d L (chk_ok 33 (by decide) hr hloc) ?_
  refine pair d L fr _ 33 (by decide) hr hC1 fun g2 hC2 => ?_
  refine asm d L (chk_ok 34 (by decide) hr hloc) ?_
  refine pair d L fr _ 34 (by decide) hr hC2 fun g3 hC3 => ?_
  refine asm d L (chk_ok 35 (by decide) hr hloc) ?_
  refine pair d L fr _ 35 (by decide) hr hC3 fun g4 hC4 => ?_
  refine asm d L (chk_ok 36 (by decide) hr hloc) ?_
  refine pair d L fr _ 36 (by decide) hr hC4 fun g5 hC5 => ?_
  refine asm d L (chk_ok 37 (by decide) hr hloc) ?_
  refine pair d L fr _ 37 (by decide) hr hC5 fun g6 hC6 => ?_
  refine asm d L (chk_ok 38 (by decide) hr hloc) ?_
  refine pair d L fr _ 38 (by decide) hr hC6 fun g7 hC7 => ?_
  refine asm d L (chk_ok 39 (by decide) hr hloc) ?_
  refine pair d L fr _ 39 (by decide) hr hC7 fun g8 hC8 => ?_
  refine asm d L (chk_ok 40 (by decide) hr hloc) ?_
  refine pair d L fr _ 40 (by decide) hr hC8 fun g9 hC9 => ?_
  refine asm d L (chk_ok 41 (by decide) hr hloc) ?_
  refine pair d L fr _ 41 (by decide) hr hC9 fun g10 hC10 => ?_
  refine asm d L (chk_ok 42 (by decide) hr hloc) ?_
  refine pair d L fr _ 42 (by decide) hr hC10 fun g11 hC11 => ?_
  refine asm d L (chk_ok 43 (by decide) hr hloc) ?_
  refine pair d L fr _ 43 (by decide) hr hC11 fun g12 hC12 => ?_
  refine asm d L (chk_ok 44 (by decide) hr hloc) ?_
  exact done d L (h _ g12 hC12)

/-- Columns 44 to 55 of the block. -/
theorem part31_run (v115 : BitVec 32) (k0_h8 : k0_cond8 v115 = 1#1) (v136 : IVec S16 32) (v139 : IVec S16 32) (v141 : IVec S16 1) (v230 : IVec S16 32) (k0_hw365 : k0_chk365 v115 v136 v139 v230)
    {R : sProp (MM F)} {Q : _ → sProp (MM F)}
    (fr : Buf (Elt F) ((arg10.access (.whole S48x128)).loc (thr d L))) (g : Buf (Elt F) ((arg7.access (.whole S64x512)).loc (thr d L)))
    {r : Fin 16 → Fin 48} (hr : ∀ k, (v139 (lane k)).toNat = (r k).val)
    (hloc : ∀ k, (v136 (lane k)).toNat < 512) (hv : v230 = broadcast S16 (BitVec.ofNat 32 44)) (w₀ : S64x512.Idx → Elt F .f32)
    (hC : Cols ((arg10.access (.whole S48x128)).read (Elt F) fr) r v136 v141 44 w₀ ((arg7.access (.whole S64x512)).read (Elt F) g))
    (h : ∀ hw (g' : Buf (Elt F) ((arg7.access (.whole S64x512)).loc (thr d L))),
      Cols ((arg10.access (.whole S48x128)).read (Elt F) fr) r v136 v141 56 w₀ ((arg7.access (.whole S64x512)).read (Elt F) g') →
      iprop(R ∗ Held d L arg10 fr ∗ Held d L arg7 g') ⊢ Q ⟨broadcast S16 (BitVec.ofNat 32 56), hw⟩) :
    iprop(R ∗ Held d L arg10 fr ∗ Held d L arg7 g)
      ⊢ Wp d L (k0_part31 L arg2 harg2 arg3 harg3 arg4 harg4 arg5 harg5 arg6 harg6 arg7 harg7 arg8 harg8 arg9 harg9 arg10 harg10 arg11 harg11 arg12 harg12 arg13 arg14 arg15 arg16 arg17 arg18 v31_r0 v115 k0_h8 v136 v139 v141 v230 k0_hw365) Q := by
  subst hv
  rw [k0_part31_eq_skeleton]; unfold k0_part31_skel
  refine pair d L fr _ 44 (by decide) hr hC fun g1 hC1 => ?_
  refine asm d L (chk_ok 45 (by decide) hr hloc) ?_
  refine pair d L fr _ 45 (by decide) hr hC1 fun g2 hC2 => ?_
  refine asm d L (chk_ok 46 (by decide) hr hloc) ?_
  refine pair d L fr _ 46 (by decide) hr hC2 fun g3 hC3 => ?_
  refine asm d L (chk_ok 47 (by decide) hr hloc) ?_
  refine pair d L fr _ 47 (by decide) hr hC3 fun g4 hC4 => ?_
  refine asm d L (chk_ok 48 (by decide) hr hloc) ?_
  refine pair d L fr _ 48 (by decide) hr hC4 fun g5 hC5 => ?_
  refine asm d L (chk_ok 49 (by decide) hr hloc) ?_
  refine pair d L fr _ 49 (by decide) hr hC5 fun g6 hC6 => ?_
  refine asm d L (chk_ok 50 (by decide) hr hloc) ?_
  refine pair d L fr _ 50 (by decide) hr hC6 fun g7 hC7 => ?_
  refine asm d L (chk_ok 51 (by decide) hr hloc) ?_
  refine pair d L fr _ 51 (by decide) hr hC7 fun g8 hC8 => ?_
  refine asm d L (chk_ok 52 (by decide) hr hloc) ?_
  refine pair d L fr _ 52 (by decide) hr hC8 fun g9 hC9 => ?_
  refine asm d L (chk_ok 53 (by decide) hr hloc) ?_
  refine pair d L fr _ 53 (by decide) hr hC9 fun g10 hC10 => ?_
  refine asm d L (chk_ok 54 (by decide) hr hloc) ?_
  refine pair d L fr _ 54 (by decide) hr hC10 fun g11 hC11 => ?_
  refine asm d L (chk_ok 55 (by decide) hr hloc) ?_
  refine pair d L fr _ 55 (by decide) hr hC11 fun g12 hC12 => ?_
  refine asm d L (chk_ok 56 (by decide) hr hloc) ?_
  exact done d L (h _ g12 hC12)

end Parts

end Cert.Proof.Bins

end
-- ==== Proof.HalfB.lean ====
/-
  The even bin's window goes out, the next even window is fetched and its rows gathered, and the odd bin's three blocks are
  applied.
-/
module

public import proofs.«01_k».proof.Proof.Apply
public import proofs.«01_k».proof.Proof.PartsB

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Half

variable (d : Dev nD) (L : grid0.Coords)
variable (fT : S64x524288.Idx → Elt F .f32) (fV : S16384x128.Idx → Elt F .f32) (fM : S65536.Idx → BitVec 32)
variable (h2 : memR.IsWhole) (h3 : valR.IsWhole) (h4 : metR.IsWhole) (h5 : outR.IsWhole) (h6 : winA.IsWhole) (h7 : winB.IsWhole) (h8 : tabR.IsWhole)
  (h9 : rowA.IsWhole) (h10 : rowB.IsWhole) (h11 : lstA.IsWhole) (h12 : lstB.IsWhole) (a13 a14 a15 a16 a17 a18 v31 : DmaSems sig S_)
variable {O : CellTallies nD τ sig (HIx 1)} {W : Waits sig (HIx 1)}
variable (q qa qb : PosShare TreeShare) (f0 : S64x524288.Idx → Elt F .f32)

/-- An optional step, with what follows it. -/
theorem opt {c : Prop} [Decidable c] {α : Type} {A : c → Prog (TpuEff nD τ sig (Elt F) Λ₀ (thr d L).2) α} {J : Prog (TpuEff nD τ sig (Elt F) Λ₀ (thr d L).2) α} {Q : α → sProp (MM F)} {X Y : sProp (MM F)}
    (hJ : Y ⊢ Wp d L J Q) (hN : ¬c → X ⊢ Y) (hA : ∀ h : c, (Y ⊢ Wp d L J Q) → X ⊢ Wp d L (A h) Q) :
    X ⊢ Wp d L (if h : c then A h else J) Q := by
  by_cases h : c
  · rw [dif_pos h]; exact hA h hJ
  · rw [dif_neg h]; exact (hN h).trans hJ

theorem cond5_iff : ∀ t : Fin k0_t1_loop.trips, k0_cond5 t = 1#1 ↔ 2 * (t.val + 1) < 32 := by decide +kernel

/-- The columns of a bin of the tile, as an offset. -/
theorem cols_off {n v : ℕ} (hv : v < 32) (h : n = 262144 * (L 0).val + 16384 * (L 1).val + 512 * v) : (![0, n] : Fin 2 → ℕ) = ![0, 512 * (bin L v).val] := by
  have := bin_val L hv
  exact congrArg (fun n => (![0, n] : Fin 2 → ℕ)) (by omega)

/-- Sixteen codes of the next even bin, by the offset the trip computes. -/
theorem off14_eq (t : Fin k0_t1_loop.trips) (k : Fin 3) : k0_off14 t (BitVec.ofNat 32 (16 * k.val)) = ![64 * (2 * (t.val + 1)) + 16 + 16 * k.val] := by
  rw [k0_off14_eq]
  exact congrArg (fun n => ![n]) (by omega)

/-- What the tile holds of its even bins before window `v`: the window and the rows on their way, or everything idle once
    there is no such window. -/
def Even (s13 s17 : DmaSem sig) (v : ℕ) : sProp (MM F) :=
  if v < 32 then iprop(InFl d L q fT s13 winA (bin L v) ∗ GaFl d L fV fM qa s17 rowA lstA (bin L v))
  else iprop(Own d L winA (fun _ => True) ∗ semVal (thr d L, SemLoc.dma s13) 0 ∗ MemP d L q fT Finset.univ ∗ Own d L rowA (fun _ => True) ∗ Own d L lstA (fun _ => True)
    ∗ semVal (thr d L, SemLoc.dma s17) 0 ∗ ValP d L fV qa)

/-- The fetch of the next even window, and two thirds of its list. -/
theorem part16_run (t : Fin k0_t1_loop.trips) (v2 v32 : _) (h : k0_cond5 t = 1#1) {P : (S64x512.Idx → Elt F .f32) → Prop} :
    iprop(Own d L tabR (· = tabOf L fM) ∗ Own d L lstA (fun _ => True) ∗ MemP d L q fT Finset.univ ∗ Own d L winA P ∗ semVal (thr d L, SemLoc.dma a13.sem) 0)
      ⊢ Wp d L (k0_part16 L memR h2 valR h3 metR h4 outR h5 winA h6 winB h7 tabR h8 rowA h9 rowB h10 lstA h11 lstB h12 a13 a14 a15 a16 a17 a18 v31 v2 t v32 h) fun v164 =>
        iprop(⌜∀ j, v164 (lane j) = posOf (code fM (bin L (2 * (t.val + 1))) (ent 2 j))⌝ ∗ Own d L tabR (· = tabOf L fM)
          ∗ Own d L lstA (Listed fM (bin L (2 * (t.val + 1))) 32) ∗ InFl d L q fT a13.sem winA (bin L (2 * (t.val + 1)))) := by
  have hv := (cond5_iff t).1 h
  rw [k0_part16_eq_skeleton]; unfold k0_part16_skel
  iintro ⟨Ht, Hl, HM, Hw, Hs⟩
  iapply (fetchBin d L q fT (P := P) (b := bin L (2 * (t.val + 1))) ((k0_off13_eq L t).trans (cols_off L hv (by omega)))) $$ [HM Hw Hs]
  · isplitl [HM]; · iexact HM
    isplitl [Hw]; · iexact Hw
    iexact Hs
  iintro HF
  iapply (load d L) $$ Ht
  iintro Ht
  iapply (load' d L) $$ Hl
  iintro Hl
  ihave Hl := (Own.mono d L (P' := Listed fM (bin L (2 * (t.val + 1))) 0) fun w _ => Listed.zero fM _ w) $$ Hl
  iapply (store d L (P := Listed fM (bin L (2 * (t.val + 1))) 0) (P' := Listed fM (bin L (2 * (t.val + 1))) 16)
    (Listed.step fM 0 rfl fun j => congrArg posOf (load_code L fM hv 0 (off14_eq t 0) j))) $$ Hl
  iintro Hl
  iapply (load d L) $$ Ht
  iintro Ht
  iapply (load' d L) $$ Hl
  iintro Hl
  iapply (store d L (P := Listed fM (bin L (2 * (t.val + 1))) 16) (P' := Listed fM (bin L (2 * (t.val + 1))) 32)
    (Listed.step fM 1 rfl fun j => congrArg posOf (load_code L fM hv 1 (off14_eq t 1) j))) $$ Hl
  iintro Hl
  iapply (load d L) $$ Ht
  iintro Ht
  iapply (done d L .rfl)
  isplitr
  · ipureintro
    exact fun j => congrArg posOf (load_code L fM hv 2 (off14_eq t 2) j)
  isplitl [Ht]; · iexact Ht
  isplitl [Hl]; · iexact Hl
  iexact HF

set_option maxHeartbeats 2000000 in
/-- The even bin's window is written out and its successor's fetched, then the odd bin's three blocks. -/
theorem part34_run (good : Good fM) (t : Fin k0_t1_loop.trips) (v2 v32 : _) :
    iprop(Own d L tabR (· = tabOf L fM) ∗ OutP d L (todo L (2 * t.val)) f0 ∗ OutP d L (past L (2 * t.val)) (result fT fV fM)
        ∗ Own d L winA (· = applied fV fM (bin L (2 * t.val)) (winIn fT (bin L (2 * t.val)))) ∗ semVal (thr d L, SemLoc.dma a15.sem) 0
        ∗ InFl d L q fT a14.sem winB (bin L (2 * t.val + 1)) ∗ Own d L lstA (fun _ => True) ∗ Own d L rowA (fun _ => True) ∗ ValP d L fV qa
        ∗ semVal (thr d L, SemLoc.dma a17.sem) 0 ∗ GaFl d L fV fM qb a18.sem rowB lstB (bin L (2 * t.val + 1)) ∗ semVal (thr d L, SemLoc.dma a13.sem) 0 ∗ Owe d L O W
        ∗ Transfers.MayWaits (thr d L) (default : HIx 1) O)
      ⊢ Wp d L (k0_part34 L memR h2 valR h3 metR h4 outR h5 winA h6 winB h7 tabR h8 rowA h9 rowB h10 lstA h11 lstB h12 a13 a14 a15 a16 a17 a18 v31 v2 t v32) fun _ =>
        iprop((Even d L fT fV fM q qa a13.sem a17.sem (2 * (t.val + 1)) ∗ OutP d L (todo L (2 * t.val + 1)) f0 ∗ OutP d L (past L (2 * t.val + 1)) (result fT fV fM)
            ∗ semVal (thr d L, SemLoc.dma a15.sem) 0 ∗ semVal (thr d L, SemLoc.dma a14.sem) 0 ∗ ValP d L fV qb ∗ Own d L lstB (fun _ => True)
            ∗ semVal (thr d L, SemLoc.dma a18.sem) 0 ∗ Owe d L O W)
          ∗ Own d L tabR (· = tabOf L fM) ∗ Own d L rowB (· = gathered fV fM (bin L (2 * t.val + 1)))
          ∗ Own d L winB (· = applied fV fM (bin L (2 * t.val + 1)) (winIn fT (bin L (2 * t.val + 1))))) := by
  have ht : t.val < 16 := t.isLt
  rw [k0_part34_eq_skeleton]; unfold k0_part34_skel
  iintro ⟨Ht, Hto, Hpa, HwA, Hs15, HFB, HlA, HrA, HVA, Hs17, HGB, Hs13, HO, #Hmw⟩
  iapply (sendBin d L fT f0 fV fM (v := 2 * t.val) (show 2 * t.val < 32 by omega) ((k0_off11_eq L t).trans (cols_off L (by omega) (by omega)))) $$ [Hto HwA Hs15]
  · isplitl [Hto]; · iexact Hto
    isplitl [HwA]; · iexact HwA
    iexact Hs15
  iintro ⟨HFO, Hto⟩
  iapply (waitBin d L q fT) $$ [HFB HO]
  · isplitl [HFB]; · iexact HFB
    isplitl [HO]; · iexact HO
    iexact Hmw
  iintro ⟨HwB, HM, Hs14, HO⟩
  iapply (waitSend d L fT fV fM (v := 2 * t.val) (show 2 * t.val < 32 by omega)) $$ [HFO Hpa HO]
  · isplitl [HFO]; · iexact HFO
    isplitl [Hpa]; · iexact Hpa
    isplitl [HO]; · iexact HO
    iexact Hmw
  iintro ⟨HwA, Hpa, Hs15, HO⟩
  ihave H : iprop((Own d L winA (fun _ => True) ∗ semVal (thr d L, SemLoc.dma a13.sem) 0 ∗ MemP d L q fT Finset.univ ∗ Own d L rowA (fun _ => True) ∗ Own d L lstA (fun _ => True)
      ∗ semVal (thr d L, SemLoc.dma a17.sem) 0 ∗ ValP d L fV qa)
      ∗ (OutP d L (todo L (2 * t.val + 1)) f0 ∗ OutP d L (past L (2 * t.val + 1)) (result fT fV fM)
            ∗ semVal (thr d L, SemLoc.dma a15.sem) 0 ∗ semVal (thr d L, SemLoc.dma a14.sem) 0 ∗ GaFl d L fV fM qb a18.sem rowB lstB (bin L (2 * t.val + 1)) ∗ Owe d L O W
            ∗ Transfers.MayWaits (thr d L) (default : HIx 1) O)
          ∗ Own d L tabR (· = tabOf L fM) ∗ Own d L winB (· = winIn fT (bin L (2 * t.val + 1)))) $$ [HwA Hs13 HM HrA HlA Hs17 HVA Hto Hpa Hs15 Hs14 HGB HO Ht HwB]
  · isplitl [HwA Hs13 HM HrA HlA Hs17 HVA]
    · isplitl [HwA]; · iexact HwA
      isplitl [Hs13]; · iexact Hs13
      isplitl [HM]; · iexact HM
      isplitl [HrA]; · iexact HrA
      isplitl [HlA]; · iexact HlA
      isplitl [Hs17]; · iexact Hs17
      iexact HVA
    isplitl [Hto Hpa Hs15 Hs14 HGB HO]
    · isplitl [Hto]; · iexact Hto
      isplitl [Hpa]; · iexact Hpa
      isplitl [Hs15]; · iexact Hs15
      isplitl [Hs14]; · iexact Hs14
      isplitl [HGB]; · iexact HGB
      isplitl [HO]; · iexact HO
      iexact Hmw
    isplitl [Ht]; · iexact Ht
    iexact HwB
  iclear Hmw
  istop
  refine opt d L (Y := iprop(Even d L fT fV fM q qa a13.sem a17.sem (2 * (t.val + 1))
      ∗ (OutP d L (todo L (2 * t.val + 1)) f0 ∗ OutP d L (past L (2 * t.val + 1)) (result fT fV fM)
            ∗ semVal (thr d L, SemLoc.dma a15.sem) 0 ∗ semVal (thr d L, SemLoc.dma a14.sem) 0 ∗ GaFl d L fV fM qb a18.sem rowB lstB (bin L (2 * t.val + 1)) ∗ Owe d L O W
            ∗ Transfers.MayWaits (thr d L) (default : HIx 1) O)
          ∗ Own d L tabR (· = tabOf L fM) ∗ Own d L winB (· = winIn fT (bin L (2 * t.val + 1))))) ?_ (fun hn => ?_) fun hc hJ => ?_
  · iintro ⟨HE, ⟨Hto, Hpa, Hs15, Hs14, HGB, HO, #Hmw⟩, Ht, Hw⟩
    iapply (waitGather d L fV fM qb) $$ [HGB HO]
    · isplitl [HGB]; · iexact HGB
      isplitl [HO]; · iexact HO
      iexact Hmw
    iintro ⟨HrB, HVB, HlB, Hs18, HO⟩
    iapply (load d L) $$ Ht
    iintro Ht
    have hcnt := load_cnt L fM (show 2 * t.val + 1 < 32 by omega) (inb := k0_off15_inb t) ((k0_off15_eq t).trans (congrArg (fun n => ![n]) (by omega)))
    ihave H : iprop((Even d L fT fV fM q qa a13.sem a17.sem (2 * (t.val + 1)) ∗ OutP d L (todo L (2 * t.val + 1)) f0 ∗ OutP d L (past L (2 * t.val + 1)) (result fT fV fM)
            ∗ semVal (thr d L, SemLoc.dma a15.sem) 0 ∗ semVal (thr d L, SemLoc.dma a14.sem) 0 ∗ ValP d L fV qb ∗ Own d L lstB (fun _ => True)
            ∗ semVal (thr d L, SemLoc.dma a18.sem) 0 ∗ Owe d L O W)
          ∗ Own d L tabR (· = tabOf L fM) ∗ Own d L rowB (· = gathered fV fM (bin L (2 * t.val + 1)))
          ∗ Own d L winB (· = winIn fT (bin L (2 * t.val + 1)))) $$ [HE Hto Hpa Hs15 Hs14 HVB HlB Hs18 HO Ht HrB Hw]
    · isplitl [HE Hto Hpa Hs15 Hs14 HVB HlB Hs18 HO]
      · isplitl [HE]; · iexact HE
        isplitl [Hto]; · iexact Hto
        isplitl [Hpa]; · iexact Hpa
        isplitl [Hs15]; · iexact Hs15
        isplitl [Hs14]; · iexact Hs14
        isplitl [HVB]; · iexact HVB
        isplitl [HlB]; · iexact HlB
        isplitl [Hs18]; · iexact Hs18
        iexact HO
      isplitl [Ht]; · iexact Ht
      isplitl [HrB]; · iexact HrB
      iexact Hw
    iclear Hmw
    istop
    refine blk d L fV fM 0 _ (past0 hcnt) ?_ fun hc ft fr g hft hK => ?_
    · refine blk d L fV fM 1 _ (past1 hcnt) ?_ fun hc ft fr g hft hK => ?_
      · refine blk d L fV fM 2 _ (past2 hcnt) ?_ fun hc ft fr g hft hK => ?_
        · exact done d L .rfl
        · have hl := loc_eq d L fM hft (show 2 * t.val + 1 < 32 by omega) 2 (inb := k0_off18_inb t) (by rw [k0_off18_eq]; exact congrArg (fun n => ![n]) (by show _ = 64 * _ + 16 + 16 * 2; omega))
          have hlt : ∀ j, ((k0_pay1 (F := F) (tabR.view.readAt (Elt F) (Rect.unit (s := S2048) (k0_off18 t) S16.size (k0_off18_inb t)).toLoadRect ft)) (lane j)).toNat < 512 := fun j => (congrArg BitVec.toNat (hl j)).trans_lt (good _ 2 j ((past2 hcnt).1 hc))
          refine bindW d L ?_
          refine part27_run d L memR h2 valR h3 metR h4 outR h5 winA h6 winB h7 tabR h8 rowA h9 rowB h10 lstA h11 lstB h12 a13 a14 a15 a16 a17 a18 v31 t _ _ hc ft fr g (r := ent 2) pay8_lane hlt fun w1 g1 C1 => ?_
          refine bindW d L ?_
          refine part28_run d L memR h2 valR h3 metR h4 outR h5 winA h6 winB h7 tabR h8 rowA h9 rowB h10 lstA h11 lstB h12 a13 a14 a15 a16 a17 a18 v31 _ hc _ _ _ _ w1 fr g1 (r := ent 2) pay8_lane hlt rfl _ C1 fun w2 g2 C2 => ?_
          refine bindW d L ?_
          refine part29_run d L memR h2 valR h3 metR h4 outR h5 winA h6 winB h7 tabR h8 rowA h9 rowB h10 lstA h11 lstB h12 a13 a14 a15 a16 a17 a18 v31 _ hc _ _ _ _ w2 fr g2 (r := ent 2) pay8_lane hlt rfl _ C2 fun w3 g3 C3 => ?_
          refine bindW d L ?_
          refine part30_run d L memR h2 valR h3 metR h4 outR h5 winA h6 winB h7 tabR h8 rowA h9 rowB h10 lstA h11 lstB h12 a13 a14 a15 a16 a17 a18 v31 _ hc _ _ _ _ w3 fr g3 (r := ent 2) pay8_lane hlt rfl _ C3 fun w4 g4 C4 => ?_
          refine bindW d L ?_
          refine part31_run d L memR h2 valR h3 metR h4 outR h5 winA h6 winB h7 tabR h8 rowA h9 rowB h10 lstA h11 lstB h12 a13 a14 a15 a16 a17 a18 v31 _ hc _ _ _ _ w4 fr g4 (r := ent 2) pay8_lane hlt rfl _ C4 fun w5 g5 C5 => ?_
          refine pair d L fr _ 56 (by decide) pay8_lane C5 fun g6 C6 => ?_
          refine asm d L (chk_ok 57 (by decide) pay8_lane hlt) ?_
          refine pair d L fr _ 57 (by decide) pay8_lane C6 fun g7 C7 => ?_
          refine asm d L (chk_ok 58 (by decide) pay8_lane hlt) ?_
          refine pair d L fr _ 58 (by decide) pay8_lane C7 fun g8 C8 => ?_
          refine asm d L (chk_ok 59 (by decide) pay8_lane hlt) ?_
          refine pair d L fr _ 59 (by decide) pay8_lane C8 fun g9 C9 => ?_
          refine asm d L (chk_ok 60 (by decide) pay8_lane hlt) ?_
          refine pair d L fr _ 60 (by decide) pay8_lane C9 fun g10 C10 => ?_
          refine asm d L (chk_ok 61 (by decide) pay8_lane hlt) ?_
          refine pair d L fr _ 61 (by decide) pay8_lane C10 fun g11 C11 => ?_
          refine asm d L (chk_ok 62 (by decide) pay8_lane hlt) ?_
          refine pair d L fr _ 62 (by decide) pay8_lane C11 fun g12 C12 => ?_
          refine asm d L (chk_ok 63 (by decide) pay8_lane hlt) ?_
          refine pair d L fr _ 63 (by decide) pay8_lane C12 fun g13 C13 => ?_
          exact hK _ _ _ hl (mask_iff hcnt _ 2 pay8_lane) C13
      · have hl := loc_eq d L fM hft (show 2 * t.val + 1 < 32 by omega) 1 (inb := k0_off17_inb t) (by rw [k0_off17_eq]; exact congrArg (fun n => ![n]) (by show _ = 64 * _ + 16 + 16 * 1; omega))
        have hlt : ∀ j, ((k0_pay1 (F := F) (tabR.view.readAt (Elt F) (Rect.unit (s := S2048) (k0_off17 t) S16.size (k0_off17_inb t)).toLoadRect ft)) (lane j)).toNat < 512 := fun j => (congrArg BitVec.toNat (hl j)).trans_lt (good _ 1 j ((past1 hcnt).1 hc))
        refine bindW d L ?_
        refine part22_run d L memR h2 valR h3 metR h4 outR h5 winA h6 winB h7 tabR h8 rowA h9 rowB h10 lstA h11 lstB h12 a13 a14 a15 a16 a17 a18 v31 t _ _ hc ft fr g (r := ent 1) pay5_lane hlt fun w1 g1 C1 => ?_
        refine bindW d L ?_
        refine part23_run d L memR h2 valR h3 metR h4 outR h5 winA h6 winB h7 tabR h8 rowA h9 rowB h10 lstA h11 lstB h12 a13 a14 a15 a16 a17 a18 v31 _ hc _ _ _ _ w1 fr g1 (r := ent 1) pay5_lane hlt rfl _ C1 fun w2 g2 C2 => ?_
        refine bindW d L ?_
        refine part24_run d L memR h2 valR h3 metR h4 outR h5 winA h6 winB h7 tabR h8 rowA h9 rowB h10 lstA h11 lstB h12 a13 a14 a15 a16 a17 a18 v31 _ hc _ _ _ _ w2 fr g2 (r := ent 1) pay5_lane hlt rfl _ C2 fun w3 g3 C3 => ?_
        refine bindW d L ?_
        refine part25_run d L memR h2 valR h3 metR h4 outR h5 winA h6 winB h7 tabR h8 rowA h9 rowB h10 lstA h11 lstB h12 a13 a14 a15 a16 a17 a18 v31 _ hc _ _ _ _ w3 fr g3 (r := ent 1) pay5_lane hlt rfl _ C3 fun w4 g4 C4 => ?_
        refine bindW d L ?_
        refine part26_run d L memR h2 valR h3 metR h4 outR h5 winA h6 winB h7 tabR h8 rowA h9 rowB h10 lstA h11 lstB h12 a13 a14 a15 a16 a17 a18 v31 _ hc _ _ _ _ w4 fr g4 (r := ent 1) pay5_lane hlt rfl _ C4 fun w5 g5 C5 => ?_
        refine pair d L fr _ 56 (by decide) pay5_lane C5 fun g6 C6 => ?_
        refine asm d L (chk_ok 57 (by decide) pay5_lane hlt) ?_
        refine pair d L fr _ 57 (by decide) pay5_lane C6 fun g7 C7 => ?_
        refine asm d L (chk_ok 58 (by decide) pay5_lane hlt) ?_
        refine pair d L fr _ 58 (by decide) pay5_lane C7 fun g8 C8 => ?_
        refine asm d L (chk_ok 59 (by decide) pay5_lane hlt) ?_
        refine pair d L fr _ 59 (by decide) pay5_lane C8 fun g9 C9 => ?_
        refine asm d L (chk_ok 60 (by decide) pay5_lane hlt) ?_
        refine pair d L fr _ 60 (by decide) pay5_lane C9 fun g10 C10 => ?_
        refine asm d L (chk_ok 61 (by decide) pay5_lane hlt) ?_
        refine pair d L fr _ 61 (by decide) pay5_lane C10 fun g11 C11 => ?_
        refine asm d L (chk_ok 62 (by decide) pay5_lane hlt) ?_
        refine pair d L fr _ 62 (by decide) pay5_lane C11 fun g12 C12 => ?_
        refine asm d L (chk_ok 63 (by decide) pay5_lane hlt) ?_
        refine pair d L fr _ 63 (by decide) pay5_lane C12 fun g13 C13 => ?_
        exact hK _ _ _ hl (mask_iff hcnt _ 1 pay5_lane) C13
    · have hl := loc_eq d L fM hft (show 2 * t.val + 1 < 32 by omega) 0 (inb := k0_off16_inb t) (by rw [k0_off16_eq]; exact congrArg (fun n => ![n]) (by show _ = 64 * _ + 16 + 16 * 0; omega))
      have hlt : ∀ j, ((k0_pay1 (F := F) (tabR.view.readAt (Elt F) (Rect.unit (s := S2048) (k0_off16 t) S16.size (k0_off16_inb t)).toLoadRect ft)) (lane j)).toNat < 512 := fun j => (congrArg BitVec.toNat (hl j)).trans_lt (good _ 0 j ((past0 hcnt).1 hc))
      refine bindW d L ?_
      refine part17_run d L memR h2 valR h3 metR h4 outR h5 winA h6 winB h7 tabR h8 rowA h9 rowB h10 lstA h11 lstB h12 a13 a14 a15 a16 a17 a18 v31 t _ _ hc ft fr g (r := ent 0) pay2_lane hlt fun w1 g1 C1 => ?_
      refine bindW d L ?_
      refine part18_run d L memR h2 valR h3 metR h4 outR h5 winA h6 winB h7 tabR h8 rowA h9 rowB h10 lstA h11 lstB h12 a13 a14 a15 a16 a17 a18 v31 _ hc _ _ _ _ w1 fr g1 (r := ent 0) pay2_lane hlt rfl _ C1 fun w2 g2 C2 => ?_
      refine bindW d L ?_
      refine part19_run d L memR h2 valR h3 metR h4 outR h5 winA h6 winB h7 tabR h8 rowA h9 rowB h10 lstA h11 lstB h12 a13 a14 a15 a16 a17 a18 v31 _ hc _ _ _ _ w2 fr g2 (r := ent 0) pay2_lane hlt rfl _ C2 fun w3 g3 C3 => ?_
      refine bindW d L ?_
      refine part20_run d L memR h2 valR h3 metR h4 outR h5 winA h6 winB h7 tabR h8 rowA h9 rowB h10 lstA h11 lstB h12 a13 a14 a15 a16 a17 a18 v31 _ hc _ _ _ _ w3 fr g3 (r := ent 0) pay2_lane hlt rfl _ C3 fun w4 g4 C4 => ?_
      refine bindW d L ?_
      refine part21_run d L memR h2 valR h3 metR h4 outR h5 winA h6 winB h7 tabR h8 rowA h9 rowB h10 lstA h11 lstB h12 a13 a14 a15 a16 a17 a18 v31 _ hc _ _ _ _ w4 fr g4 (r := ent 0) pay2_lane hlt rfl _ C4 fun w5 g5 C5 => ?_
      refine pair d L fr _ 56 (by decide) pay2_lane C5 fun g6 C6 => ?_
      refine asm d L (chk_ok 57 (by decide) pay2_lane hlt) ?_
      refine pair d L fr _ 57 (by decide) pay2_lane C6 fun g7 C7 => ?_
      refine asm d L (chk_ok 58 (by decide) pay2_lane hlt) ?_
      refine pair d L fr _ 58 (by decide) pay2_lane C7 fun g8 C8 => ?_
      refine asm d L (chk_ok 59 (by decide) pay2_lane hlt) ?_
      refine pair d L fr _ 59 (by decide) pay2_lane C8 fun g9 C9 => ?_
      refine asm d L (chk_ok 60 (by decide) pay2_lane hlt) ?_
      refine pair d L fr _ 60 (by decide) pay2_lane C9 fun g10 C10 => ?_
      refine asm d L (chk_ok 61 (by decide) pay2_lane hlt) ?_
      refine pair d L fr _ 61 (by decide) pay2_lane C10 fun g11 C11 => ?_
      refine asm d L (chk_ok 62 (by decide) pay2_lane hlt) ?_
      refine pair d L fr _ 62 (by decide) pay2_lane C11 fun g12 C12 => ?_
      refine asm d L (chk_ok 63 (by decide) pay2_lane hlt) ?_
      refine pair d L fr _ 63 (by decide) pay2_lane C12 fun g13 C13 => ?_
      exact hK _ _ _ hl (mask_iff hcnt _ 0 pay2_lane) C13
  · refine sep_mono_left (Entails.of_eq ?_)
    unfold Even
    rw [if_neg (fun h => hn ((cond5_iff t).2 h))]
  · have hv := (cond5_iff t).1 hc
    refine bindW d L ?_
    iintro ⟨⟨HwA, Hs13, HM, HrA, HlA, Hs17, HVA⟩, HX, Ht, HwB⟩
    iapply (wp_wand _ _ _) $$ [HwA Hs13 HM HlA Ht]
    · iapply (part16_run d L fT fM h2 h3 h4 h5 h6 h7 h8 h9 h10 h11 h12 a13 a14 a15 a16 a17 a18 v31 q t v2 v32 hc (P := fun _ => True))
      isplitl [Ht]; · iexact Ht
      isplitl [HlA]; · iexact HlA
      isplitl [HM]; · iexact HM
      isplitl [HwA]; · iexact HwA
      iexact Hs13
    iintro %v164 ⟨%h164, Ht, HlA, HF⟩
    iapply (load' d L) $$ HlA
    iintro HlA
    iapply (store d L (P := Listed fM (bin L (2 * (t.val + 1))) 32) (P' := Listed fM (bin L (2 * (t.val + 1))) 48) (Listed.step fM 2 rfl h164)) $$ HlA
    iintro HlA
    iapply (gatherBin d L fV fM qa (rowA_sum _)) $$ [HVA HrA HlA Hs17]
    · isplitl [HVA]; · iexact HVA
      isplitl [HrA]; · iexact HrA
      isplitl [HlA]; · iexact HlA
      iexact Hs17
    iintro HG
    iapply hJ
    isplitl [HF HG]
    · unfold Even
      rw [if_pos hv]
      isplitl [HF]; · iexact HF
      iexact HG
    isplitl [HX]; · iexact HX
    isplitl [Ht]; · iexact Ht
    iexact HwB

end Half

end Cert.Proof.Bins

end
-- ==== Proof.Trip.lean ====
/-
  One trip of the tile's loop, two bins, by the invariant the windows in flight keep.
-/
module

public import proofs.«01_k».proof.Proof.HalfA
public import proofs.«01_k».proof.Proof.HalfB

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Trip

variable (d : Dev nD) (L : grid0.Coords)
variable (fT : S64x524288.Idx → Elt F .f32) (fV : S16384x128.Idx → Elt F .f32) (fM : S65536.Idx → BitVec 32)
variable (h2 : memR.IsWhole) (h3 : valR.IsWhole) (h4 : metR.IsWhole) (h5 : outR.IsWhole) (h6 : winA.IsWhole) (h7 : winB.IsWhole) (h8 : tabR.IsWhole)
  (h9 : rowA.IsWhole) (h10 : rowB.IsWhole) (h11 : lstA.IsWhole) (h12 : lstB.IsWhole) (a13 a14 a15 a16 a17 a18 v31 : DmaSems sig S_)
variable {O : CellTallies nD τ sig (HIx 1)} {W : Waits sig (HIx 1)}
variable (q qa qb qm : PosShare TreeShare) (f0 : S64x524288.Idx → Elt F .f32)

theorem cond1_iff : ∀ t : Fin k0_t1_loop.trips, k0_cond1 t = 1#1 ↔ ¬t.val = 0 := by decide +kernel

/-- What the tile holds of its odd bins before trip `t`: the last one on its way out, or an idle window at the start. -/
def Odd (s16 : DmaSem sig) (t : ℕ) : sProp (MM F) :=
  if t = 0 then iprop(Own d L winB (fun _ => True) ∗ semVal (thr d L, SemLoc.dma s16) 0) else OutFl d L fT fV fM s16 winB (2 * t - 1)

/-- The even window has come, the odd one is free: the odd bin's window is fetched and its list begun. -/
theorem part32_run (t : Fin k0_t1_loop.trips) (v2 c0 c1 : BitVec 32) :
    iprop(Own d L tabR (· = tabOf L fM) ∗ InFl d L q fT a13.sem winA (bin L (2 * t.val)) ∗ Odd d L fT fV fM a16.sem t.val
        ∗ OutP d L (past L (2 * t.val - 1)) (result fT fV fM) ∗ Own d L lstB (fun _ => True) ∗ semVal (thr d L, SemLoc.dma a14.sem) 0 ∗ Owe d L O W
        ∗ Transfers.MayWaits (thr d L) (default : HIx 1) O)
      ⊢ Wp d L (k0_part32 L memR h2 valR h3 metR h4 outR h5 winA h6 winB h7 tabR h8 rowA h9 rowB h10 lstA h11 lstB h12 a13 a14 a15 a16 a17 a18 v31 v2 c0 c1 t) fun r =>
        iprop(⌜∀ j, k0_pay24 r.2.2.1 r.2.2.2 (lane j) = posOf (code fM (bin L (2 * t.val + 1)) (ent 1 j))⌝ ∗ Own d L tabR (· = tabOf L fM)
          ∗ Own d L winA (· = winIn fT (bin L (2 * t.val))) ∗ semVal (thr d L, SemLoc.dma a13.sem) 0 ∗ InFl d L q fT a14.sem winB (bin L (2 * t.val + 1))
          ∗ semVal (thr d L, SemLoc.dma a16.sem) 0 ∗ OutP d L (past L (2 * t.val)) (result fT fV fM) ∗ Own d L lstB (Listed fM (bin L (2 * t.val + 1)) 16)
          ∗ Owe d L O W) := by
  have ht : t.val < 16 := t.isLt
  rw [k0_part32_eq_skeleton]; unfold k0_part32_skel
  iintro ⟨Ht, HF, HB, Hpa, Hl, Hs14, HO, #Hmw⟩
  iapply (waitBin d L q fT) $$ [HF HO]
  · isplitl [HF]; · iexact HF
    isplitl [HO]; · iexact HO
    iexact Hmw
  iintro ⟨HwA, HM, Hs13, HO⟩
  ihave H : iprop((Odd d L fT fV fM a16.sem t.val ∗ OutP d L (past L (2 * t.val - 1)) (result fT fV fM) ∗ Owe d L O W ∗ Transfers.MayWaits (thr d L) (default : HIx 1) O)
      ∗ (Own d L tabR (· = tabOf L fM) ∗ Own d L winA (· = winIn fT (bin L (2 * t.val))) ∗ semVal (thr d L, SemLoc.dma a13.sem) 0 ∗ MemP d L q fT Finset.univ
        ∗ Own d L lstB (fun _ => True) ∗ semVal (thr d L, SemLoc.dma a14.sem) 0)) $$ [HB Hpa HO Ht HwA Hs13 HM Hl Hs14]
  · isplitl [HB Hpa HO]
    · isplitl [HB]; · iexact HB
      isplitl [Hpa]; · iexact Hpa
      isplitl [HO]; · iexact HO
      iexact Hmw
    isplitl [Ht]; · iexact Ht
    isplitl [HwA]; · iexact HwA
    isplitl [Hs13]; · iexact Hs13
    isplitl [HM]; · iexact HM
    isplitl [Hl]; · iexact Hl
    iexact Hs14
  iclear Hmw
  istop
  refine opt d L (Y := iprop((Own d L winB (fun _ => True) ∗ semVal (thr d L, SemLoc.dma a16.sem) 0 ∗ OutP d L (past L (2 * t.val)) (result fT fV fM) ∗ Owe d L O W)
      ∗ (Own d L tabR (· = tabOf L fM) ∗ Own d L winA (· = winIn fT (bin L (2 * t.val))) ∗ semVal (thr d L, SemLoc.dma a13.sem) 0 ∗ MemP d L q fT Finset.univ
        ∗ Own d L lstB (fun _ => True) ∗ semVal (thr d L, SemLoc.dma a14.sem) 0))) ?_ (fun hn => ?_) fun hc hJ => ?_
  · iintro ⟨⟨HwB, Hs16, Hpa, HO⟩, Ht, HwA, Hs13, HM, Hl, Hs14⟩
    iapply (fetchBin d L q fT (P := fun _ => True) (b := bin L (2 * t.val + 1)) ((k0_off5_eq L t).trans (cols_off L (by omega) (by omega)))) $$ [HM HwB Hs14]
    · isplitl [HM]; · iexact HM
      isplitl [HwB]; · iexact HwB
      iexact Hs14
    iintro HF
    iapply (load d L) $$ Ht
    iintro Ht
    iapply (load' d L) $$ Hl
    iintro Hl
    ihave Hl := (Own.mono d L (P' := Listed fM (bin L (2 * t.val + 1)) 0) fun w _ => Listed.zero fM _ w) $$ Hl
    iapply (store d L (P := Listed fM (bin L (2 * t.val + 1)) 0) (P' := Listed fM (bin L (2 * t.val + 1)) 16)
      (Listed.step fM 0 rfl fun j => congrArg posOf (load_code L fM (show 2 * t.val + 1 < 32 by omega) 0 (off6_eq t 0) j))) $$ Hl
    iintro Hl
    iapply (load d L) $$ Ht
    iintro Ht
    iapply (done d L .rfl)
    isplitr
    · ipureintro
      exact fun j => congrArg posOf (load_code L fM (show 2 * t.val + 1 < 32 by omega) 1 (off6_eq t 1) j)
    isplitl [Ht]; · iexact Ht
    isplitl [HwA]; · iexact HwA
    isplitl [Hs13]; · iexact Hs13
    isplitl [HF]; · iexact HF
    isplitl [Hs16]; · iexact Hs16
    isplitl [Hpa]; · iexact Hpa
    isplitl [Hl]; · iexact Hl
    iexact HO
  · refine sep_mono_left ?_
    have h0 : t.val = 0 := by
      by_contra h
      exact hn ((cond1_iff t).2 h)
    unfold Odd
    rw [if_pos h0, h0]
    iintro ⟨⟨HwB, Hs16⟩, Hpa, HO, -⟩
    isplitl [HwB]; · iexact HwB
    isplitl [Hs16]; · iexact Hs16
    isplitl [Hpa]; · iexact Hpa
    iexact HO
  · have h0 := (cond1_iff t).1 hc
    unfold Odd
    rw [if_neg h0]
    iintro ⟨⟨HB, Hpa, HO, #Hmw⟩, HX⟩
    iapply (waitSend d L fT fV fM (v := 2 * t.val - 1) (show 2 * t.val - 1 < 32 by omega)) $$ [HB Hpa HO]
    · isplitl [HB]; · iexact HB
      isplitl [Hpa]; · iexact Hpa
      isplitl [HO]; · iexact HO
      iexact Hmw
    rw [show 2 * t.val - 1 + 1 = 2 * t.val by omega]
    iintro ⟨HwB, Hpa, Hs16, HO⟩
    iclear Hmw
    iapply hJ
    isplitl [HwB Hpa Hs16 HO]
    · isplitl [HwB]; · iexact HwB
      isplitl [Hs16]; · iexact Hs16
      isplitl [Hpa]; · iexact Hpa
      iexact HO
    iexact HX

/-- The tile before trip `t`. -/
def Inv (O : CellTallies nD τ sig (HIx 1)) (W : Waits sig (HIx 1)) (s13 s14 s15 s16 s17 s18 : DmaSem sig) (t : ℕ) : sProp (MM F) :=
  iprop(Own d L tabR (· = tabOf L fM) ∗ Even d L fT fV fM q qa s13 s17 (2 * t) ∗ Odd d L fT fV fM s16 t ∗ OutP d L (past L (2 * t - 1)) (result fT fV fM)
    ∗ OutP d L (todo L (2 * t)) f0 ∗ Own d L rowB (fun _ => True) ∗ Own d L lstB (fun _ => True) ∗ semVal (thr d L, SemLoc.dma s14) 0 ∗ semVal (thr d L, SemLoc.dma s15) 0
    ∗ semVal (thr d L, SemLoc.dma s18) 0 ∗ ValP d L fV qb ∗ Owe d L O W ∗ Transfers.MayWaits (thr d L) (default : HIx 1) O)

/-- One trip: two bins. -/
theorem trip_run (good : Good fM) (t : Fin k0_t1_loop.trips) (v2 : BitVec 32) (acc : Unit) :
    Inv d L fT fV fM q qa qb f0 O W a13.sem a14.sem a15.sem a16.sem a17.sem a18.sem t.val
      ⊢ Wp d L (k0_t1_body L memR h2 valR h3 metR h4 outR h5 winA h6 winB h7 tabR h8 rowA h9 rowB h10 lstA h11 lstB h12 a13 a14 a15 a16 a17 a18 v31 v2 t acc) fun _ =>
        Inv d L fT fV fM q qa qb f0 O W a13.sem a14.sem a15.sem a16.sem a17.sem a18.sem (t.val + 1) := by
  have ht : t.val < 16 := t.isLt
  unfold k0_t1_body
  unfold Inv
  rw [show Even d L fT fV fM q qa a13.sem a17.sem (2 * t.val)
    = iprop(InFl d L q fT a13.sem winA (bin L (2 * t.val)) ∗ GaFl d L fV fM qa a17.sem rowA lstA (bin L (2 * t.val))) from by unfold Even; rw [if_pos (by omega)]]
  iintro ⟨Ht, ⟨HFA, HGA⟩, HB, Hpa, Hto, HrB, HlB, Hs14, Hs15, Hs18, HVB, HO, #Hmw⟩
  iapply (runW d L) $$ [Ht HFA HB Hpa HlB Hs14 HO]
  · iapply (part32_run d L fT fV fM h2 h3 h4 h5 h6 h7 h8 h9 h10 h11 h12 a13 a14 a15 a16 a17 a18 v31 q t v2 0#32 1#32)
    isplitl [Ht]; · iexact Ht
    isplitl [HFA]; · iexact HFA
    isplitl [HB]; · iexact HB
    isplitl [Hpa]; · iexact Hpa
    isplitl [HlB]; · iexact HlB
    isplitl [Hs14]; · iexact Hs14
    isplitl [HO]; · iexact HO
    iexact Hmw
  iintro %r ⟨%hr, Ht, HwA, Hs13, HFB, Hs16, Hpa, HlB, HO⟩
  obtain ⟨v32, v45, v62, c⟩ := r
  iapply (runW d L) $$ [Ht HlB HrB HVB Hs18 HGA HwA HO]
  · iapply (part33_run d L fV fM h2 h3 h4 h5 h6 h7 h8 h9 h10 h11 h12 a13 a14 a15 a16 a17 a18 v31 good t v2 v32 v45 v62 c qa qb (winIn fT (bin L (2 * t.val))) hr)
    isplitl [Ht]; · iexact Ht
    isplitl [HlB]; · iexact HlB
    isplitl [HrB]; · iexact HrB
    isplitl [HVB]; · iexact HVB
    isplitl [Hs18]; · iexact Hs18
    isplitl [HGA]; · iexact HGA
    isplitl [HwA]; · iexact HwA
    isplitl [HO]; · iexact HO
    iexact Hmw
  iintro %u ⟨⟨HGB, HVA, HlA, Hs17, HO⟩, Ht, HrA, HwA⟩
  ihave HrA := (Own.mono d L (P' := fun _ => True) fun _ _ => trivial) $$ HrA
  iapply (runW d L) $$ [Ht Hto Hpa HwA Hs15 HFB HlA HrA HVA Hs17 HGB Hs13 HO]
  · iapply (part34_run d L fT fV fM h2 h3 h4 h5 h6 h7 h8 h9 h10 h11 h12 a13 a14 a15 a16 a17 a18 v31 q qa qb f0 good t v2 v32)
    isplitl [Ht]; · iexact Ht
    isplitl [Hto]; · iexact Hto
    isplitl [Hpa]; · iexact Hpa
    isplitl [HwA]; · iexact HwA
    isplitl [Hs15]; · iexact Hs15
    isplitl [HFB]; · iexact HFB
    isplitl [HlA]; · iexact HlA
    isplitl [HrA]; · iexact HrA
    isplitl [HVA]; · iexact HVA
    isplitl [Hs17]; · iexact Hs17
    isplitl [HGB]; · iexact HGB
    isplitl [Hs13]; · iexact Hs13
    isplitl [HO]; · iexact HO
    iexact Hmw
  iintro %v125 ⟨⟨HE, Hto, Hpa, Hs15, Hs14, HVB, HlB, Hs18, HO⟩, Ht, HrB, HwB⟩
  iapply (sendBin d L fT f0 fV fM (v := 2 * t.val + 1) (show 2 * t.val + 1 < 32 by omega) ((k0_off19_eq L t).trans (cols_off L (by omega) (by omega)))) $$ [Hto HwB Hs16]
  · isplitl [Hto]; · iexact Hto
    isplitl [HwB]; · iexact HwB
    iexact Hs16
  iintro ⟨HFO, Hto⟩
  iapply (done d L .rfl)
  isplitl [Ht]; · iexact Ht
  isplitl [HE]; · iexact HE
  isplitl [HFO]
  · unfold Odd
    rw [if_neg (Nat.succ_ne_zero _), show 2 * (t.val + 1) - 1 = 2 * t.val + 1 by omega]
    iexact HFO
  rw [show 2 * (t.val + 1) - 1 = 2 * t.val + 1 by omega, show 2 * (t.val + 1) = 2 * t.val + 1 + 1 by omega]
  isplitl [Hpa]; · iexact Hpa
  isplitl [Hto]; · iexact Hto
  isplitl [HrB]; · iapply (Own.mono d L (P' := fun _ => True) fun _ _ => trivial) $$ HrB
  isplitl [HlB]; · iexact HlB
  isplitl [Hs14]; · iexact Hs14
  isplitl [Hs15]; · iexact Hs15
  isplitl [Hs18]; · iexact Hs18
  isplitl [HVB]; · iexact HVB
  isplitl [HO]; · iexact HO
  iexact Hmw

end Trip

end Cert.Proof.Bins

end
-- ==== Proof.Tile.lean ====
/-
  The whole tile: the table, the first window and list, sixteen trips, the last write-out.
-/
module

public import proofs.«01_k».proof.Proof.Trip

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

section Tile

variable (d : Dev nD) (L : grid0.Coords)
variable (fT : S64x524288.Idx → Elt F .f32) (fV : S16384x128.Idx → Elt F .f32) (fM : S65536.Idx → BitVec 32)
variable (h2 : memR.IsWhole) (h3 : valR.IsWhole) (h4 : metR.IsWhole) (h5 : outR.IsWhole) (h6 : winA.IsWhole) (h7 : winB.IsWhole) (h8 : tabR.IsWhole)
  (h9 : rowA.IsWhole) (h10 : rowB.IsWhole) (h11 : lstA.IsWhole) (h12 : lstB.IsWhole) (a13 a14 a15 a16 a17 a18 v31 : DmaSems sig S_)
variable {O : CellTallies nD τ sig (HIx 1)} {W : Waits sig (HIx 1)}
variable (q qa qb qm : PosShare TreeShare) (f0 : S64x524288.Idx → Elt F .f32)

/-- A share of the bin table. -/
abbrev MetP (s : Finset S65536.Idx) : sProp (MM F) := metR.view.loc (thr d L) ↦[s]{qm} (fM : S65536.Idx → Elt F .i32)

/-- The tile's part of the table, as its copy names it. -/
abbrev metW : Memref sig .scVector .hbm S2048 .i32 := metR.slice (Rect.unit (s := S65536) (k0_off1 L) S2048.size (k0_off1_inb L)) (fun _ => rfl)

theorem metW_read : (metW L).view.read (Elt F) (fM : S65536.Idx → Elt F .i32) = tabOf L fM := by
  have h0 : (L 0).val < 2 := (L 0).isLt
  have h1 : (L 1).val < 16 := (L 1).isLt
  funext x
  refine (View.read_apply _ _).trans ((cast_eq _ _).trans ?_)
  refine congrArg fM (funext fun a => ?_)
  match a with
  | 0 =>
    refine Fin.ext ?_
    have hx : (x 0).val < 2048 := (x 0).isLt
    show k0_off1 L 0 + 1 * (x 0).val = (32768 * (L 0).val + 2048 * (L 1).val + (x 0).val) % 65536
    rw [k0_off1_eq]
    show 32768 * (L 0).val + 2048 * (L 1).val + 1 * (x 0).val = _
    omega

/-- The start: the table, the first even window, the first list. -/
theorem part35_run {Pw : (S64x512.Idx → Elt F .f32) → Prop} {Pt : (S2048.Idx → Elt F .i32) → Prop} :
    iprop(MetP d L fM qm Finset.univ ∗ Own d L tabR Pt ∗ semVal (thr d L, SemLoc.dma v31.sem) 0 ∗ MemP d L q fT Finset.univ ∗ Own d L winA Pw
        ∗ semVal (thr d L, SemLoc.dma a13.sem) 0 ∗ Own d L lstA (fun _ => True) ∗ Owe d L O W ∗ Transfers.MayWaits (thr d L) (default : HIx 1) O)
      ⊢ Wp d L (k0_part35 L memR h2 valR h3 metR h4 outR h5 winA h6 winB h7 tabR h8 rowA h9 rowB h10 lstA h11 lstB h12 a13 a14 a15 a16 a17 a18 v31) fun _ =>
        iprop(MetP d L fM qm Finset.univ ∗ Own d L tabR (· = tabOf L fM) ∗ semVal (thr d L, SemLoc.dma v31.sem) 0 ∗ InFl d L q fT a13.sem winA (bin L 0)
          ∗ Own d L lstA (Listed fM (bin L 0) 48) ∗ Owe d L O W) := by
  rw [k0_part35_eq_skeleton]; unfold k0_part35_skel
  iintro ⟨HT, Ht, Hs31, HM, HwA, Hs13, Hl, HO, #Hmw⟩
  ihave HT' := (pointsTo_split_subset (q := qm) (f := (fM : S65536.Idx → Elt F .i32)) (S := Finset.univ) (Finset.subset_univ (metW L).view.set)).1 $$ HT
  icases HT' with ⟨HT1, HT2⟩
  iapply (fetch d L (src := metW L) (fs := (fM : S65536.Idx → Elt F .i32)) (q := qm) (P' := (· = tabOf L fM)) (by decide) (metW_read L fM)) $$ [HT1 Ht Hs31]
  · isplitl [HT1]; · iexact HT1
    isplitl [Ht]; · iexact Ht
    iexact Hs31
  iintro HF
  iapply (wait d L (dst := tabR) (rfl : tabR.view.dmaCredit = _)) $$ [HF HO]
  · isplitl [HF]; · iexact HF
    isplitl [HO]; · iexact HO
    iexact Hmw
  iintro ⟨⟨Ht, HT1⟩, Hs31, HO⟩
  iapply (fetchBin d L q fT (P := Pw) (b := bin L 0) ((k0_off2_eq L 0).trans (cols_off L (by omega) (by show _ + 15872 * 0 = _; omega)))) $$ [HM HwA Hs13]
  · isplitl [HM]; · iexact HM
    isplitl [HwA]; · iexact HwA
    iexact Hs13
  iintro HF
  iapply (load d L) $$ Ht
  iintro Ht
  iapply (load' d L) $$ Hl
  iintro Hl
  ihave Hl := (Own.mono d L (P' := Listed fM (bin L 0) 0) fun w _ => Listed.zero fM _ w) $$ Hl
  iapply (store d L (P := Listed fM (bin L 0) 0) (P' := Listed fM (bin L 0) 16)
    (Listed.step fM 0 rfl fun j => congrArg posOf (load_code L fM (show 0 < 32 by omega) 0 rfl j))) $$ Hl
  iintro Hl
  iapply (load d L) $$ Ht
  iintro Ht
  iapply (load' d L) $$ Hl
  iintro Hl
  iapply (store d L (P := Listed fM (bin L 0) 16) (P' := Listed fM (bin L 0) 32)
    (Listed.step fM 1 rfl fun j => congrArg posOf (load_code L fM (show 0 < 32 by omega) 1 rfl j))) $$ Hl
  iintro Hl
  iapply (load d L) $$ Ht
  iintro Ht
  iapply (load' d L) $$ Hl
  iintro Hl
  iapply (store d L (P := Listed fM (bin L 0) 32) (P' := Listed fM (bin L 0) 48)
    (Listed.step fM 2 rfl fun j => congrArg posOf (load_code L fM (show 0 < 32 by omega) 2 rfl j))) $$ Hl
  iintro Hl
  iapply (done d L .rfl)
  isplitl [HT1 HT2]
  · iapply (pointsTo_split_subset (q := qm) (f := (fM : S65536.Idx → Elt F .i32)) (S := Finset.univ) (Finset.subset_univ (metW L).view.set)).2
    isplitl [HT1]; · iexact HT1
    iexact HT2
  isplitl [Ht]; · iexact Ht
  isplitl [Hs31]; · iexact Hs31
  isplitl [HF]; · iexact HF
  isplitl [Hl]; · iexact Hl
  iexact HO

/-- What a tile uses and gives back: its shares, its buffers, its semaphores. -/
def Kit : sProp (MM F) :=
  iprop(MetP d L fM qm Finset.univ ∗ MemP d L q fT Finset.univ ∗ ValP d L fV qa ∗ ValP d L fV qb
    ∗ (Own d L winA (fun _ => True) ∗ Own d L winB (fun _ => True) ∗ Own d L tabR (fun _ => True) ∗ Own d L rowA (fun _ => True) ∗ Own d L rowB (fun _ => True)
      ∗ Own d L lstA (fun _ => True) ∗ Own d L lstB (fun _ => True))
    ∗ (semVal (thr d L, SemLoc.dma a13.sem) 0 ∗ semVal (thr d L, SemLoc.dma a14.sem) 0 ∗ semVal (thr d L, SemLoc.dma a15.sem) 0 ∗ semVal (thr d L, SemLoc.dma a16.sem) 0
      ∗ semVal (thr d L, SemLoc.dma a17.sem) 0 ∗ semVal (thr d L, SemLoc.dma a18.sem) 0 ∗ semVal (thr d L, SemLoc.dma v31.sem) 0))

/-- The whole tile. -/
theorem tile_run (good : Good fM) :
    iprop(Kit d L fT fV fM a13 a14 a15 a16 a17 a18 v31 q qa qb qm ∗ OutP d L (todo L 0) f0 ∗ Owe d L O W ∗ Transfers.MayWaits (thr d L) (default : HIx 1) O)
      ⊢ Wp d L (cc0_main L memR h2 valR h3 metR h4 outR h5 winA h6 winB h7 tabR h8 rowA h9 rowB h10 lstA h11 lstB h12 a13 a14 a15 a16 a17 a18 v31) fun _ =>
        iprop(Kit d L fT fV fM a13 a14 a15 a16 a17 a18 v31 q qa qb qm ∗ OutP d L (todo L 0) (result fT fV fM) ∗ Owe d L O W) := by
  rw [cc0_main_eq_skeleton]; unfold cc0_main_skel
  unfold Kit
  iintro ⟨⟨HT, HM, HVA, HVB, ⟨HwA, HwB, Ht, HrA, HrB, HlA, HlB⟩, ⟨Hs13, Hs14, Hs15, Hs16, Hs17, Hs18, Hs31⟩⟩, Hout, HO, #Hmw⟩
  iapply (runW d L) $$ [HT Ht Hs31 HM HwA Hs13 HlA HO]
  · iapply (part35_run d L fT fM h2 h3 h4 h5 h6 h7 h8 h9 h10 h11 h12 a13 a14 a15 a16 a17 a18 v31 q qm (Pw := fun _ => True) (Pt := fun _ => True))
    isplitl [HT]; · iexact HT
    isplitl [Ht]; · iexact Ht
    isplitl [Hs31]; · iexact Hs31
    isplitl [HM]; · iexact HM
    isplitl [HwA]; · iexact HwA
    isplitl [Hs13]; · iexact Hs13
    isplitl [HlA]; · iexact HlA
    isplitl [HO]; · iexact HO
    iexact Hmw
  iintro %v2 ⟨HT, Ht, Hs31, HF, HlA, HO⟩
  iapply (gatherBin d L fV fM qa (rowA_sum _)) $$ [HVA HrA HlA Hs17]
  · isplitl [HVA]; · iexact HVA
    isplitl [HrA]; · iexact HrA
    isplitl [HlA]; · iexact HlA
    iexact Hs17
  iintro HG
  iapply (Scf.wp_for_bind frame (wpE (defs₀ (F := F)) 𝒱₀ (thr d L) none) Set.univ _ _ _ k0_t1_ok _ _
    (fun t _ => Inv d L fT fV fM q qa qb f0 O W a13.sem a14.sem a15.sem a16.sem a17.sem a18.sem t)
    (trip_run d L fT fV fM h2 h3 h4 h5 h6 h7 h8 h9 h10 h11 h12 a13 a14 a15 a16 a17 a18 v31 q qa qb f0 good · v2 ·)) $$ [Ht HF HG HwB Hs16 Hout HrB HlB Hs14 Hs15 Hs18 HVB HO]
  · unfold Inv
    isplitl [Ht]; · iexact Ht
    isplitl [HF HG]
    · unfold Even
      rw [if_pos (by decide)]
      isplitl [HF]; · iexact HF
      iexact HG
    isplitl [HwB Hs16]
    · unfold Odd
      rw [if_pos rfl]
      isplitl [HwB]; · iexact HwB
      iexact Hs16
    isplitr
    · rw [show 2 * 0 - 1 = 0 from rfl, past_zero]
      iapply (Entails.of_eq pointsTo_empty.symm)
      iempintro
    isplitl [Hout]; · iexact Hout
    isplitl [HrB]; · iexact HrB
    isplitl [HlB]; · iexact HlB
    isplitl [Hs14]; · iexact Hs14
    isplitl [Hs15]; · iexact Hs15
    isplitl [Hs18]; · iexact Hs18
    isplitl [HVB]; · iexact HVB
    isplitl [HO]; · iexact HO
    iexact Hmw
  iintro %acc HI
  rw [show Scf.trips k0_t1_loop.lb k0_t1_loop.ub k0_t1_loop.st = 16 from by decide]
  unfold Inv
  icases HI with ⟨Ht, HE, HB, Hpa, Hto, HrB, HlB, Hs14, Hs15, Hs18, HVB, HO, -⟩
  ihave HB := (Entails.of_eq (show Odd d L fT fV fM a16.sem 16 = OutFl d L fT fV fM a16.sem winB 31 from if_neg (by decide))) $$ HB
  iapply (waitSend d L fT fV fM (v := 31) (show 31 < 32 by omega)) $$ [HB Hpa HO]
  · isplitl [HB]; · iexact HB
    isplitl [Hpa]; · iexact Hpa
    isplitl [HO]; · iexact HO
    iexact Hmw
  rw [show 31 + 1 = 32 from rfl, past_all]
  iintro ⟨HwB, Hpa, Hs16, HO⟩
  iapply (done d L .rfl)
  ihave HE := (Entails.of_eq (show Even d L fT fV fM q qa a13.sem a17.sem (2 * 16)
    = iprop(Own d L winA (fun _ => True) ∗ semVal (thr d L, SemLoc.dma a13.sem) 0 ∗ MemP d L q fT Finset.univ ∗ Own d L rowA (fun _ => True) ∗ Own d L lstA (fun _ => True)
      ∗ semVal (thr d L, SemLoc.dma a17.sem) 0 ∗ ValP d L fV qa) from if_neg (by decide))) $$ HE
  icases HE with ⟨HwA, Hs13, HM, HrA, HlA, Hs17, HVA⟩
  isplitr [Hpa HO]
  · isplitl [HT]; · iexact HT
    isplitl [HM]; · iexact HM
    isplitl [HVA]; · iexact HVA
    isplitl [HVB]; · iexact HVB
    isplitl [HwA HwB Ht HrA HrB HlA HlB]
    · isplitl [HwA]; · iexact HwA
      isplitl [HwB]; · iexact HwB
      isplitl [Ht]; · iapply (Own.mono d L (P' := fun _ => True) fun _ _ => trivial) $$ Ht
      isplitl [HrA]; · iexact HrA
      isplitl [HrB]; · iexact HrB
      isplitl [HlA]; · iexact HlA
      iexact HlB
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    iexact Hs31
  isplitl [Hpa]; · iexact Hpa
  iexact HO

end Tile

end Cert.Proof.Bins

end
-- ==== Proof.Launch.lean ====
/-
  The launch: what the call takes and gives back, dealt over the two SparseCores and their sixteen tiles each.
-/
module

public import proofs.«01_k».proof.Proof.Tile

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Rounds

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The shares -/

/-- SparseCore `c`'s read share, and tile `L`'s part of it. -/
def coreShare (c : Fin 2) : PosShare TreeShare := Transfers.dealOf fullShare Finset.univ c
def tileShare (L : grid0.Coords) : PosShare TreeShare := Transfers.dealOf (coreShare (L 0)) (Finset.univ : Finset (Fin 16)) (L 1)

abbrev memLoc (d : Dev nD) : Loc nD τ sig := (SparseCore.T d).loc main_v1
abbrev valLoc (d : Dev nD) : Loc nD τ sig := (SparseCore.T d).loc main_v0
abbrev metLoc (d : Dev nD) : Loc nD τ sig := (SparseCore.T d).loc main_arg3
abbrev outLoc (d : Dev nD) : Loc nD τ sig := (SparseCore.T d).loc main_v2

section Hold

variable (d : Dev nD) (fT : S64x524288.Idx → Elt F .f32) (fV : S16384x128.Idx → Elt F .f32) (fM : S65536.Idx → BitVec 32)

/-- The four operands: shares `q` of the inputs, the elements `s` of the result outright. -/
def Operands (q : PosShare TreeShare) (s : Finset S64x524288.Idx) (f : S64x524288.Idx → Elt F .f32) : sProp (MM F) :=
  iprop((metLoc d ↦{q} (fM : S65536.Idx → Elt F .i32)) ∗ (memLoc d ↦{q} fT) ∗ (valLoc d ↦{q} fV) ∗ outLoc d ↦[s]{fullShare} f)

instance Operands_storable (q : PosShare TreeShare) (s : Finset S64x524288.Idx) (f : S64x524288.Idx → Elt F .f32) :
    BI.Storable (upEmb : UEmb _ (MM F)) (Operands d fT fV fM q s f) := by
  unfold Operands; infer_instance

end Hold

/-! ## A tile's own buffers and semaphores -/

section Tile

variable (d : Dev nD) (L : grid0.Coords)

/-- A tile's buffer, as the device names it. -/
def ref (L : grid0.Coords) (a : Ref sig .scVector) : DevRef τ sig := (Proc.scVector (cV L) (jV L)).devRef a
/-- The tile's seven scratch buffers, and its seven semaphores. -/
abbrev scratch (L : grid0.Coords) : Finset (DevRef τ sig) :=
  {ref L cc0_scratch0, ref L cc0_scratch1, ref L cc0_scratch2, ref L cc0_scratch3,
    ref L cc0_scratch4, ref L cc0_scratch5, ref L cc0_scratch6}
abbrev cell (s : DmaSems sig S_) : GSem nD τ sig := (thr d L, .dma s.sem)
abbrev cells : Finset (GSem nD τ sig) :=
  {cell d L cc0_scratch7, cell d L cc0_scratch8, cell d L cc0_scratch9, cell d L cc0_scratch10, cell d L cc0_scratch11, cell d L cc0_scratch12, cell d L cc0_scoped0}

omit [FloatOps F] in
theorem cell_inj {s t : DmaSems sig S_} : cell d L s = cell d L t ↔ s.sem = t.sem :=
  ⟨fun h => SemLoc.dma.inj (Prod.mk.inj h).2, fun h => by rw [cell, cell, h]⟩

omit [FloatOps F] in
theorem sems_split :
    (SparseCore.Cfg.ownSems0 (thr d L) : sProp (MM F))
      = iprop((semVal (cell d L cc0_scratch7) 0 ∗ semVal (cell d L cc0_scratch8) 0 ∗ semVal (cell d L cc0_scratch9) 0 ∗ semVal (cell d L cc0_scratch10) 0
          ∗ semVal (cell d L cc0_scratch11) 0 ∗ semVal (cell d L cc0_scratch12) 0 ∗ semVal (cell d L cc0_scoped0) 0)
        ∗ bigSep (SparseCore.Cfg.ownCells (thr d L) \ cells d L) fun g => semVal g 0) := by
  have hsub : cells d L ⊆ SparseCore.Cfg.ownCells (thr d L) := by
    intro g hg
    simp only [cells, Finset.mem_insert, Finset.mem_singleton] at hg
    rcases hg with h | h | h | h | h | h | h <;> subst h <;> refine SparseCore.Cfg.mem_ownCells.mpr ⟨rfl, ?_⟩
    · show (SemLoc.dma cc0_scratch7.sem : SemLoc sig).isScoped .scVector = true; decide
    · show (SemLoc.dma cc0_scratch8.sem : SemLoc sig).isScoped .scVector = true; decide
    · show (SemLoc.dma cc0_scratch9.sem : SemLoc sig).isScoped .scVector = true; decide
    · show (SemLoc.dma cc0_scratch10.sem : SemLoc sig).isScoped .scVector = true; decide
    · show (SemLoc.dma cc0_scratch11.sem : SemLoc sig).isScoped .scVector = true; decide
    · show (SemLoc.dma cc0_scratch12.sem : SemLoc sig).isScoped .scVector = true; decide
    · show (SemLoc.dma cc0_scoped0.sem : SemLoc sig).isScoped .scVector = true; decide
  unfold SparseCore.Cfg.ownSems0
  rw [SparseCore.bigSep_sdiff_split' hsub]
  congr 1
  unfold cells
  rw [SparseCore.bigSep_insert' (by simp only [Finset.mem_insert, Finset.mem_singleton, cell_inj]; decide),
    SparseCore.bigSep_insert' (by simp only [Finset.mem_insert, Finset.mem_singleton, cell_inj]; decide),
    SparseCore.bigSep_insert' (by simp only [Finset.mem_insert, Finset.mem_singleton, cell_inj]; decide),
    SparseCore.bigSep_insert' (by simp only [Finset.mem_insert, Finset.mem_singleton, cell_inj]; decide),
    SparseCore.bigSep_insert' (by simp only [Finset.mem_insert, Finset.mem_singleton, cell_inj]; decide),
    SparseCore.bigSep_insert' (by simp only [Finset.mem_singleton, cell_inj]; decide), bigSep_singleton]

/-- A whole scratch buffer held at some contents. -/
theorem own_whole {s : Shape} {e : EltTy} (b : Memref sig .scVector .vmem s e) (hs : b.view.set = Finset.univ) :
    (iprop(∃ f, b.view.loc (thr d L) ↦{fullShare} f) : sProp (MM F)) = Own d L b fun _ => True := by
  have h1 : (iprop(∃ f, b.view.loc (thr d L) ↦{fullShare} f) : sProp (MM F)) ⊢ Own d L b fun _ => True := by
    iintro ⟨%f, H⟩
    iapply (Own.of_held d L (b := b) (P := fun _ => True) (f := f) trivial)
    iapply (Entails.of_eq (held_eq d L b f).symm)
    rw [hs]; iexact H
  have h2 : (Own d L b fun _ => True) ⊢ (iprop(∃ f, b.view.loc (thr d L) ↦{fullShare} f) : sProp (MM F)) := by
    unfold Own
    iintro ⟨%f, -, H⟩
    ihave H := (Entails.of_eq (held_eq d L b f)) $$ H
    rw [hs]
    iexists f; iexact H
  exact BI.Entails.antisymm h1 h2

omit [FloatOps F] in
theorem ref_iff (a b : Ref sig .scVector) : ref L a = ref L b ↔ a = b :=
  (Proc.devRef_injective _).eq_iff

theorem bufs_split :
    (SparseCore.Cfg.ownBufs (thr d L) : sProp (MM F))
      = iprop((Own d L winA (fun _ => True) ∗ Own d L winB (fun _ => True) ∗ Own d L tabR (fun _ => True) ∗ Own d L rowA (fun _ => True) ∗ Own d L rowB (fun _ => True)
          ∗ Own d L lstA (fun _ => True) ∗ Own d L lstB (fun _ => True))
        ∗ bigSep (SparseCore.Cfg.ownRefs (τ := τ) (thr d L).2 \ scratch L) fun b => iprop(∃ f, ((d, b) : Loc nD τ sig) ↦{fullShare} f)) := by
  have hsub : scratch L ⊆ SparseCore.Cfg.ownRefs (τ := τ) (thr d L).2 := by
    intro b hb
    simp only [scratch, Finset.mem_insert, Finset.mem_singleton] at hb
    rcases hb with h | h | h | h | h | h | h <;> subst h <;> exact SparseCore.Cfg.mem_ownRefs_of_owner (p := Proc.scVector (cV L) (jV L)) rfl
  unfold SparseCore.Cfg.ownBufs
  rw [SparseCore.bigSep_sdiff_split' hsub]
  congr 1
  unfold scratch
  rw [SparseCore.bigSep_insert' (by simp only [Finset.mem_insert, Finset.mem_singleton, ref_iff]; decide),
    SparseCore.bigSep_insert' (by simp only [Finset.mem_insert, Finset.mem_singleton, ref_iff]; decide),
    SparseCore.bigSep_insert' (by simp only [Finset.mem_insert, Finset.mem_singleton, ref_iff]; decide),
    SparseCore.bigSep_insert' (by simp only [Finset.mem_insert, Finset.mem_singleton, ref_iff]; decide),
    SparseCore.bigSep_insert' (by simp only [Finset.mem_insert, Finset.mem_singleton, ref_iff]; decide),
    SparseCore.bigSep_insert' (by simp only [Finset.mem_singleton, ref_iff]; decide), bigSep_singleton,
    ← own_whole d L winA (View.set_whole _), ← own_whole d L winB (View.set_whole _), ← own_whole d L tabR (View.set_whole _), ← own_whole d L rowA (View.set_whole _),
    ← own_whole d L rowB (View.set_whole _), ← own_whole d L lstA (View.set_whole _), ← own_whole d L lstB (View.set_whole _)]
  rfl

variable (fT : S64x524288.Idx → Elt F .f32) (fV : S16384x128.Idx → Elt F .f32) (fM : S65536.Idx → BitVec 32) (f0 : S64x524288.Idx → Elt F .f32)

/-- A tile's task: from its operands and its own buffers and semaphores, the whole body, its bins of the result written. -/
theorem tile_body (hF : (K (F := F)).Facts) (good : Good fM) (O : CellTallies nD τ sig (HIx 1)) (W : Waits sig (HIx 1)) (hO : ∀ g, O g none = 0) :
    iprop(levAts (K (F := F)).L (K (F := F)).lev ∗ emp ∗ Operands d fT fV fM (tileShare L) (todo L 0) f0
        ∗ scopedBufs (thr d L) ∗ scopedSems0 (thr d L) ∗ owes (thr d L) O W)
      ⊢ Wp d L (cc0_main L memR (Memref.isWhole_whole _) valR (Memref.isWhole_whole _) metR (Memref.isWhole_whole _) outR (Memref.isWhole_whole _)
            winA (Memref.isWhole_whole _) winB (Memref.isWhole_whole _) tabR (Memref.isWhole_whole _) rowA (Memref.isWhole_whole _) rowB (Memref.isWhole_whole _)
            lstA (Memref.isWhole_whole _) lstB (Memref.isWhole_whole _) cc0_scratch7 cc0_scratch8 cc0_scratch9 cc0_scratch10 cc0_scratch11 cc0_scratch12 cc0_scoped0)
          fun _ => iprop(Operands d fT fV fM (tileShare L) (todo L 0) (result fT fV fM)
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), sems_split, bufs_split]
  unfold Operands
  iintro ⟨#Hlv, -, ⟨HT, HM, HV, Hout⟩, ⟨Hbufs, Hbr⟩, ⟨Hsems, Hsr⟩, HO⟩
  ihave Hmw := (show levAts (K (F := F)).L (K (F := F)).lev ⊢ Transfers.MayWaits (thr d L) (default : HIx 1) O from
    (K (F := F)).mayWaits_none (thr := thr d L) hO) $$ Hlv
  ihave HV := (pointsTo_share (PosShare.mem_left_op_right (tileShare L))).1 $$ HV
  icases HV with ⟨HVA, HVB⟩
  have run := tile_run d L fT fV fM (Memref.isWhole_whole _) (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _)
    cc0_scratch7 cc0_scratch8 cc0_scratch9 cc0_scratch10 cc0_scratch11 cc0_scratch12 cc0_scoped0 (tileShare L) (tileShare L).left (tileShare L).right (tileShare L) f0 good (O := O) (W := W)
  ihave Hrun := run $$ [HT HM HVA HVB Hbufs Hsems Hout HO Hmw]
  · unfold Kit Owe
    isplitl [HT HM HVA HVB Hbufs Hsems]
    · isplitl [HT]; · iexact HT
      isplitl [HM]; · iexact HM
      isplitl [HVA]; · iexact HVA
      isplitl [HVB]; · iexact HVB
      isplitl [Hbufs]; · iexact Hbufs
      iexact Hsems
    isplitl [Hout]; · iexact Hout
    isplitl [HO]
    · iexists W
      isplitr; · ipureintro; exact fun p hp => .inl hp
      iexact HO
    iexact Hmw
  iapply (wp_wand frame (wpE (defs₀ (F := F)) 𝒱₀ (thr d L) none) Set.univ) $$ Hrun
  iintro %_ ⟨HK, Hout, HO⟩
  unfold Kit
  icases HK with ⟨HT, HM, HVA, HVB, Hbufs, Hsems⟩
  isplitl [HT HM HVA HVB Hout]
  · isplitl [HT]; · iexact HT
    isplitl [HM]; · iexact HM
    isplitl [HVA HVB]
    · iapply (pointsTo_share (PosShare.mem_left_op_right (tileShare L))).2
      isplitl [HVA]; · iexact HVA
      iexact HVB
    iexact Hout
  isplitl [Hbufs Hbr]
  · isplitl [Hbufs]; · iexact Hbufs
    iexact Hbr
  isplitl [Hsems Hsr]
  · isplitl [Hsems]; · iexact Hsems
    iexact Hsr
  unfold Owe
  iexact HO

end Tile

/-! ## The obligations of the launch -/

section Pay

variable (fT : Dev nD → S64x524288.Idx → Elt F .f32) (fV : Dev nD → S16384x128.Idx → Elt F .f32) (fM : Dev nD → S65536.Idx → BitVec 32)
  (f0 : Dev nD → S64x524288.Idx → Elt F .f32)

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem nCore_zero : (K (F := F)).nCore 0 = 2 := rfl
omit [FloatOps F] in
theorem nSub_zero : (K (F := F)).nSub 0 = 16 := rfl

/-- Tile `i` of SparseCore `c`. -/
abbrev tile (c : Fin 2) (i : Fin 16) : grid0.Coords := coordsV c i

/-- The elements of the result that SparseCore `c` writes. -/
def coreSet (c : Fin 2) : Finset S64x524288.Idx := Finset.univ.biUnion fun i : Fin 16 => todo (tile c i) 0

/-- What SparseCore `c` is handed and hands back; what its tile `i` is handed and hands back. -/
abbrev coreOps (d : Dev nD) (c : Fin 2) (f : S64x524288.Idx → Elt F .f32) : sProp (MM F) := Operands d (fT d) (fV d) (fM d) (coreShare c) (coreSet c) f
abbrev tileOps (d : Dev nD) (c : Fin 2) (i : Fin 16) (f : S64x524288.Idx → Elt F .f32) : sProp (MM F) :=
  Operands d (fT d) (fV d) (fM d) (tileShare (tile c i)) (todo (tile c i) 0) f

def P : (K (F := F)).Pay (nD := nD) (Val := Elt F) (Name := ℕ) (U := UU) where
  st := fun q d c => match q with | 0 => coreOps fT fV fM d (Fin.cast nCore_zero c) (f0 d)
  dn := fun q d c => match q with | 0 => coreOps fT fV fM d (Fin.cast nCore_zero c) (result (fT d) (fV d) (fM d))
  go := fun q d c i => match q with | 0 => tileOps fT fV fM d (Fin.cast nCore_zero c) (Fin.cast nSub_zero i) (f0 d)
  td := fun q d c i => match q with | 0 => tileOps fT fV fM d (Fin.cast nCore_zero c) (Fin.cast nSub_zero i) (result (fT d) (fV d) (fM d))
  x := fun _ _ => iprop(emp)

instance P_storable : (P fT fV fM f0).IsStorable where
  st q d c := match q with
    | 0 => (inferInstance : BI.Storable (upEmb : UEmb _ (MM F)) (coreOps fT fV fM d (Fin.cast nCore_zero c) (f0 d)))
  dn q d c := match q with
    | 0 => (inferInstance : BI.Storable (upEmb : UEmb _ (MM F)) (coreOps fT fV fM d (Fin.cast nCore_zero c) (result (fT d) (fV d) (fM d))))
  go q d c i := match q with
    | 0 => (inferInstance : BI.Storable (upEmb : UEmb _ (MM F)) (tileOps fT fV fM d (Fin.cast nCore_zero c) (Fin.cast nSub_zero i) (f0 d)))
  td q d c i := match q with
    | 0 => (inferInstance : BI.Storable (upEmb : UEmb _ (MM F)) (tileOps fT fV fM d (Fin.cast nCore_zero c) (Fin.cast nSub_zero i) (result (fT d) (fV d) (fM d))))

theorem defs₀_vector (c : Fin τ.nSC) (s : Fin τ.nSub) :
    defs₀ (F := F) (.scVector c s) 0 ()
      = SparseCore.onTile hcore0 hsub0 (fun c s => cc0_main (coordsV c s) memR (Memref.isWhole_whole _) valR (Memref.isWhole_whole _) metR (Memref.isWhole_whole _)
          outR (Memref.isWhole_whole _) winA (Memref.isWhole_whole _) winB (Memref.isWhole_whole _) tabR (Memref.isWhole_whole _) rowA (Memref.isWhole_whole _)
          rowB (Memref.isWhole_whole _) lstA (Memref.isWhole_whole _) lstB (Memref.isWhole_whole _)
          cc0_scratch7 cc0_scratch8 cc0_scratch9 cc0_scratch10 cc0_scratch11 cc0_scratch12 cc0_scoped0) ⟨⟩ c s := rfl

omit [FloatOps F] in
theorem obl_post {th : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (good : ∀ d, Good (fM d)) : (K (F := F)).TileObl (D (F := F)) 𝒱 (P fT fV fM f0) v₀ 0 := by
  intro d c i O W hO _ _
  simp only [show (P fT fV fM f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fT d) (fV d) (fM d) (f0 d) hF (good d) O W hO).trans (wp_mono frame _ _ fun _ => obl_post)

/-! ## The bins, dealt and gathered back -/

omit [FloatOps F] in
theorem bin_tile (c : Fin 2) (i : Fin 16) {v : ℕ} (hv : v < 32) : (bin (tile c i) v).val = 512 * c.val + 32 * i.val + v := bin_val (tile c i) hv

omit [FloatOps F] in
theorem mem_coreSet {c : Fin 2} {x : S64x524288.Idx} : x ∈ coreSet c ↔ (binOf x).val / 512 = c.val := by
  have hb : (binOf x).val < 1024 := (binOf x).isLt
  rw [coreSet, Finset.mem_biUnion]
  refine ⟨fun ⟨i, _, h⟩ => ?_, fun h => ⟨⟨(binOf x).val % 512 / 32, by omega⟩, Finset.mem_univ _, (mem_todo _).mpr ⟨(binOf x).val % 32, by omega, by omega, Fin.ext ?_⟩⟩⟩
  · obtain ⟨u, _, hu, e⟩ := (mem_todo _).mp h
    rw [e, bin_tile c i hu]
    omega
  · refine Eq.trans ?_ (bin_tile _ _ (by omega)).symm
    show (binOf x).val = 512 * c.val + 32 * ((binOf x).val % 512 / 32) + (binOf x).val % 32
    omega

omit [FloatOps F] in
theorem todo_disjoint (c : Fin 2) : ∀ i ∈ (Finset.univ : Finset (Fin 16)), ∀ j ∈ (Finset.univ : Finset (Fin 16)), i ≠ j → Disjoint (todo (tile c i) 0) (todo (tile c j) 0) := by
  refine fun i _ j _ h => Finset.disjoint_left.mpr fun x hi hj => h (Fin.ext ?_)
  obtain ⟨u, _, hu, e⟩ := (mem_todo _).mp hi
  obtain ⟨w, _, hw, e'⟩ := (mem_todo _).mp hj
  have := (bin_tile c i hu).symm.trans ((congrArg Fin.val (e.symm.trans e')).trans (bin_tile c j hw))
  omega

omit [FloatOps F] in
theorem core_disjoint : ∀ c ∈ (Finset.univ : Finset (Fin 2)), ∀ c' ∈ (Finset.univ : Finset (Fin 2)), c ≠ c' → Disjoint (coreSet c) (coreSet c') :=
  fun _ _ _ _ h => Finset.disjoint_left.mpr fun _ h1 h2 => h (Fin.ext ((mem_coreSet.mp h1).symm.trans (mem_coreSet.mp h2)))

omit [FloatOps F] in
theorem core_cover : (Finset.univ : Finset (Fin 2)).biUnion coreSet = Finset.univ := by
  ext x
  have hb : (binOf x).val < 1024 := (binOf x).isLt
  simp only [Finset.mem_biUnion, Finset.mem_univ, true_and, iff_true]
  exact ⟨⟨(binOf x).val / 512, by omega⟩, mem_coreSet.mpr rfl⟩

omit [FloatOps F] in
/-- Operands at share `q`, dealt among the members of `I`, the result's elements by a partition. -/
theorem operands_deal {I : Type} [LinearOrder I] [Fintype I] [Nonempty I] (d : Dev nD) (gT : S64x524288.Idx → Elt F .f32) (gV : S16384x128.Idx → Elt F .f32)
    (gM : S65536.Idx → BitVec 32) (q : PosShare TreeShare) (s : I → Finset S64x524288.Idx) (hs : ∀ i ∈ (Finset.univ : Finset I), ∀ j ∈ (Finset.univ : Finset I), i ≠ j → Disjoint (s i) (s j))
    (f : S64x524288.Idx → Elt F .f32) :
    Operands d gT gV gM q (Finset.univ.biUnion s) f = bigSep Finset.univ fun i : I => Operands d gT gV gM (Transfers.dealOf q Finset.univ i) (s i) f := by
  unfold Operands
  rw [bigSep_sep', bigSep_sep', bigSep_sep', ← Transfers.pointsTo_deal Finset.univ Finset.univ_nonempty q, ← Transfers.pointsTo_deal Finset.univ Finset.univ_nonempty q,
    ← Transfers.pointsTo_deal Finset.univ Finset.univ_nonempty q, pointsTo_biUnion Finset.univ (ℓ := outLoc d) s hs]

theorem core_deal (d : Dev nD) (c : Fin 2) (f : S64x524288.Idx → Elt F .f32) :
    coreOps fT fV fM d c f = bigSep Finset.univ fun i : Fin 16 => tileOps fT fV fM d c i f :=
  operands_deal d (fT d) (fV d) (fM d) (coreShare c) (fun i => todo (tile c i) 0) (todo_disjoint c) f

theorem whole_deal (d : Dev nD) (f : S64x524288.Idx → Elt F .f32) :
    Operands d (fT d) (fV d) (fM d) fullShare Finset.univ f = bigSep Finset.univ fun c : Fin 2 => coreOps fT fV fM d c f := by
  rw [← core_cover]
  exact operands_deal d (fT d) (fV d) (fM d) fullShare coreSet core_disjoint f

omit [FloatOps F] in
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P fT fV fM f0) 0 := by
  intro d c
  show coreOps fT fV fM d (Fin.cast nCore_zero c) (f0 d) ⊢ |={Set.univ}=> iprop(
      (bigSep Finset.univ fun i : Fin ((K (F := F)).nSub 0) => tileOps fT fV fM d (Fin.cast nCore_zero c) (Fin.cast nSub_zero i) (f0 d))
      ∗ ((bigSep Finset.univ fun i : Fin ((K (F := F)).nSub 0) => tileOps fT fV fM d (Fin.cast nCore_zero c) (Fin.cast nSub_zero i) (result (fT d) (fV d) (fM d)))
          -∗ coreOps fT fV fM d (Fin.cast nCore_zero c) (result (fT d) (fV d) (fM d))))
  rw [bigSep_tasks (F := F) (fun i => tileOps fT fV fM d (Fin.cast nCore_zero c) i (f0 d)),
    bigSep_tasks (F := F) (fun i => tileOps fT fV fM d (Fin.cast nCore_zero c) i (result (fT d) (fV d) (fM d))), core_deal, core_deal]
  iintro H; imodintro
  isplitl [H]; · iexact H
  iintro H; iexact H

theorem starts (d : Dev nD) : (bigSep Finset.univ fun c : Fin ((K (F := F)).nCore 0) => (P fT fV fM f0).st 0 d c)
    = Operands d (fT d) (fV d) (fM d) fullShare Finset.univ (f0 d) := by
  rw [whole_deal fT fV fM d]
  exact bigSep_cores (F := F) fun c => coreOps fT fV fM d c (f0 d)
theorem dones (d : Dev nD) : (bigSep Finset.univ fun c : Fin ((K (F := F)).nCore 0) => (P fT fV fM f0).dn 0 d c)
    = Operands d (fT d) (fV d) (fM d) fullShare Finset.univ (result (fT d) (fV d) (fM d)) := by
  rw [whole_deal fT fV fM d]
  exact bigSep_cores (F := F) fun c => coreOps fT fV fM d c (result (fT d) (fV d) (fM d))

/-! ## The launch element of the proof's own state -/

def u₀ : UU := (initOf (K (F := F)).hsCells (K (F := F)).hsToks, 1)

omit [FloatOps F] in
theorem bigSep_none {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P fT fV fM f0).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun th : Thread nD τ => bigSep Finset.univ fun q : Fin 1 => (P fT fV fM f0).x q th) = bigSep Finset.univ fun _ => iprop(emp) from
    bigSep_congr fun _ _ => bigSep_univ_of_subsingleton (0 : Fin 1), bigSep_none]
  iempintro

end Pay

end Cert.Proof.Bins

end
-- ==== Proof.Run.lean ====
/-
  The whole program: the host operations around the call, and its run at any float values.
-/
module

public import proofs.«01_k».proof.Proof.Launch

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.StableHlo (held held_sub_split wp_hlo_within)

variable (m : (ℓ : Loc nD τ sig) → Buf (Elt F) ℓ) (ρ : Dev nD → PrngReg)

/-! ## The arrays of @main and its operations -/

abbrev b0 : DevRef τ sig := Proc.devRef .tc (main_arg0 : Ref sig .tc)
abbrev b1 : DevRef τ sig := Proc.devRef .tc (main_arg1 : Ref sig .tc)
abbrev b2 : DevRef τ sig := Proc.devRef .tc (main_arg2 : Ref sig .tc)
abbrev b3 : DevRef τ sig := Proc.devRef .tc (main_arg3 : Ref sig .tc)
abbrev bC : DevRef τ sig := Proc.devRef .tc (main_c : Ref sig .tc)
abbrev bP : DevRef τ sig := Proc.devRef .tc (main_call0_v0 : Ref sig .tc)
abbrev bV : DevRef τ sig := Proc.devRef .tc (main_v0 : Ref sig .tc)
abbrev bT : DevRef τ sig := Proc.devRef .tc (main_v1 : Ref sig .tc)
abbrev bO : DevRef τ sig := Proc.devRef .tc (main_v2 : Ref sig .tc)
abbrev bR : DevRef τ sig := Proc.devRef .tc (main_v3 : Ref sig .tc)

abbrev opZero : HloOp τ sig (Elt F) := StableHlo.nullary main_c (constantI S_ 32 0#32)
abbrev opConv : HloOp τ sig (Elt F) := StableHlo.TRef.unary (.of main_c : StableHlo.TRef sig ⟨S_, .i32⟩) (.of main_call0_v0 : StableHlo.TRef sig ⟨S_, .f32⟩) (sitofp .f32)
abbrev opPad : HloOp τ sig (Elt F) := StableHlo.TRef.binary (.of main_arg2 : StableHlo.TRef sig ⟨S16384x64, .f32⟩) (.of main_call0_v0 : StableHlo.TRef sig ⟨S_, .f32⟩)
  (.of main_v0 : StableHlo.TRef sig ⟨S16384x128, .f32⟩) (fun x v => pad S16384x128 ![0, 0] ![0, 64] ![0, 0] x v pads_S16384x64_S16384x128_000_0640 h_S_)
abbrev opIn : HloOp τ sig (Elt F) := StableHlo.unary main_arg0 main_v1 ((transpose S64x524288 [1, 0] · transposes_S524288x64_S64x524288_1_0) : (⟨S524288x64, .f32⟩ : BufTy).Contents (Elt F) → (⟨S64x524288, .f32⟩ : BufTy).Contents (Elt F))
abbrev opOut : HloOp τ sig (Elt F) := StableHlo.unary main_v2 main_v3 ((transpose S524288x64 [1, 0] · transposes_S64x524288_S524288x64_1_0) : (⟨S64x524288, .f32⟩ : BufTy).Contents (Elt F) → (⟨S524288x64, .f32⟩ : BufTy).Contents (Elt F))

/-- What the call reads: the memory transposed, the values padded to rows of 128, the bin table; the result's launch contents. -/
def memIn (d : Dev nD) : S64x524288.Idx → Elt F .f32 :=
  transpose S64x524288 [1, 0] (m ((SparseCore.T d).loc main_arg0) : S524288x64.Idx → Elt F .f32) transposes_S524288x64_S64x524288_1_0
def valIn (d : Dev nD) : S16384x128.Idx → Elt F .f32 :=
  pad S16384x128 ![0, 0] ![0, 64] ![0, 0] (m ((SparseCore.T d).loc main_arg2) : S16384x64.Idx → Elt F .f32) (sitofp .f32 (constantI S_ 32 0#32)) pads_S16384x64_S16384x128_000_0640 h_S_
def metIn (d : Dev nD) : S65536.Idx → BitVec 32 := m ((SparseCore.T d).loc main_arg3)
def outIn (d : Dev nD) : S64x524288.Idx → Elt F .f32 := m ((SparseCore.T d).loc main_v2)
/-- What the call leaves, and what @main returns. -/
def outFin (d : Dev nD) : S64x524288.Idx → Elt F .f32 := result (memIn m d) (valIn m d) (metIn m d)
def resFin (d : Dev nD) : S524288x64.Idx → Elt F .f32 := transpose S524288x64 [1, 0] (outFin m d) transposes_S64x524288_S524288x64_1_0

/-- The launch valuation; before the call; after it; at the end. -/
def V0 (d : Dev nD) : Valuation τ sig (Elt F) := fun b => m (d, b)
def V1 (d : Dev nD) : Valuation τ sig (Elt F) := (opIn (F := F)).result ((opPad (F := F)).result ((opConv (F := F)).result ((opZero (F := F)).result (V0 m d))))
def V2 (d : Dev nD) : Valuation τ sig (Elt F) := Function.update (V1 m d) bO (outFin m d)
def V3 (d : Dev nD) : Valuation τ sig (Elt F) := (opOut (F := F)).result (V2 m d)

/-- An operation leaves a buffer it does not write. -/
theorem keep (op : HloOp τ sig (Elt F)) {y : DevRef τ sig} (hw : op.writes = {y}) (W : Valuation τ sig (Elt F)) {b : DevRef τ sig} (h : b ≠ y) : op.result W b = W b :=
  op.result_of_not_mem W (by rw [hw, Finset.mem_singleton]; exact h)

theorem V1_keep (d : Dev nD) {b : DevRef τ sig} (h1 : b ≠ bT) (h2 : b ≠ bV) (h3 : b ≠ bP) (h4 : b ≠ bC) : V1 m d b = V0 m d b := by
  unfold V1
  rw [keep (opIn (F := F)) rfl _ h1, keep (opPad (F := F)) rfl _ h2, keep (opConv (F := F)) rfl _ h3, keep (opZero (F := F)) rfl _ h4]
theorem V1_T (d : Dev nD) : V1 m d bT = memIn m d := by
  unfold V1
  refine (StableHlo.unary_result _ _ _ _ _ _).trans ?_
  rw [keep (opPad (F := F)) rfl _ (show b0 ≠ bV by decide), keep (opConv (F := F)) rfl _ (show b0 ≠ bP by decide), keep (opZero (F := F)) rfl _ (show b0 ≠ bC by decide)]
  rfl
theorem V1_V (d : Dev nD) : V1 m d bV = valIn m d := by
  unfold V1
  rw [keep (opIn (F := F)) rfl _ (show bV ≠ bT by decide)]
  refine (StableHlo.binary_result _ _ _ _ _ _ _ _).trans ?_
  rw [show (opConv (F := F)).result ((opZero (F := F)).result (V0 m d)) bP = (sitofp .f32 (constantI S_ 32 0#32) : FVec F S_ .f32) from
      (StableHlo.unary_result _ _ _ _ _ _).trans (by rw [show (opZero (F := F)).result (V0 m d) bC = constantI S_ 32 0#32 from StableHlo.nullary_result _ _ _ _]; rfl),
    keep (opConv (F := F)) rfl _ (show b2 ≠ bP by decide), keep (opZero (F := F)) rfl _ (show b2 ≠ bC by decide)]
  rfl
theorem V2_keep (d : Dev nD) {b : DevRef τ sig} (h : b ≠ bO) : V2 m d b = V1 m d b := Function.update_of_ne h _ _
theorem V2_O (d : Dev nD) : V2 m d bO = outFin m d := Function.update_self _ _ _
theorem V3_R (d : Dev nD) : V3 m d bR = resFin m d := by
  unfold V3
  refine (StableHlo.unary_result _ _ _ _ _ _).trans ?_
  rw [V2_O]; rfl
theorem V3_arg (d : Dev nD) {b : DevRef τ sig} (h0 : b ≠ bR) (h : b ≠ bO) (h1 : b ≠ bT) (h2 : b ≠ bV) (h3 : b ≠ bP) (h4 : b ≠ bC) : V3 m d b = m (d, b) := by
  unfold V3
  rw [keep (opOut (F := F)) rfl _ h0, V2_keep m d h, V1_keep m d h1 h2 h3 h4]
  rfl

/-! ## The arrays held -/

/-- The call's four operands, and all of @main's arrays. -/
abbrev callBufs : Finset (DevRef τ sig) := {b3, bT, bV, bO}
abbrev allBufs : Finset (DevRef τ sig) := {b0, b1, b2, b3, bC, bP, bV, bT, bO, bR}

theorem held_call (d : Dev nD) (W : Valuation τ sig (Elt F)) :
    (held (T d) callBufs W : sProp (MM F)) = Operands d (W bT) (W bV) (W b3) fullShare Finset.univ (W bO) := by
  unfold held callBufs Operands
  rw [SparseCore.bigSep_insert' (by decide), SparseCore.bigSep_insert' (by decide), SparseCore.bigSep_insert' (by decide), bigSep_singleton]

theorem unscoped_held (d : Dev nD) : (unscopedBufs d (fun b => m ((SparseCore.T d).loc b)) : sProp (MM F)) = held (T d) allBufs (V0 m d) := by
  unfold unscopedBufs held allBufs
  rw [show (Finset.univ.filter fun b : Ref sig .tc => ¬ b.isScoped) = {main_arg0, main_arg1, main_arg2, main_arg3, main_c, main_call0_v0, main_v0, main_v1, main_v2, main_v3} by decide]
  repeat rw [SparseCore.bigSep_insert' (by decide)]
  rw [bigSep_singleton]
  repeat rw [SparseCore.bigSep_insert' (by decide)]
  rw [bigSep_singleton]
  rfl

/-- The arrays before the call: its operands and the rest. -/
theorem held_before (d : Dev nD) : (held (T d) allBufs (V1 m d) : sProp (MM F))
    = iprop(Operands d (memIn m d) (valIn m d) (metIn m d) fullShare Finset.univ (outIn m d) ∗ held (T d) (allBufs \ callBufs) (V1 m d)) := by
  rw [held_sub_split (T d) (show callBufs ⊆ allBufs by decide), held_call, V1_T, V1_V, V1_keep m d (b := b3) (by decide) (by decide) (by decide) (by decide),
    V1_keep m d (b := bO) (by decide) (by decide) (by decide) (by decide)]
  rfl
theorem held_after (d : Dev nD) : (held (T d) allBufs (V2 m d) : sProp (MM F))
    = iprop(Operands d (memIn m d) (valIn m d) (metIn m d) fullShare Finset.univ (outFin m d) ∗ held (T d) (allBufs \ callBufs) (V1 m d)) := by
  rw [held_sub_split (T d) (show callBufs ⊆ allBufs by decide), held_call, V2_O, V2_keep m d (b := bT) (by decide), V2_keep m d (b := bV) (by decide), V2_keep m d (b := b3) (by decide),
    V1_T, V1_V, V1_keep m d (b := b3) (by decide) (by decide) (by decide) (by decide),
    StableHlo.held_congr (T d) (S := allBufs \ callBufs) (V := V2 m d) (V' := V1 m d) fun b hb => V2_keep m d fun e => by subst e; exact absurd hb (by decide)]
  rfl

/-! ## @main -/

abbrev PP : (K (F := F)).Pay (nD := nD) (Val := Elt F) (Name := ℕ) (U := UU) := P (memIn m) (valIn m) (metIn m) (outIn m)

/-- What @main leaves: every array at its final contents. -/
abbrev FIN (d : Dev nD) : sProp (MM F) := held (T d) allBufs (V3 m d)

/-- @main on device `d`'s TensorCore: the padding and the transposition, the call, the transposition back. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opZero) (S := allBufs) (show ({bC} : Finset (DevRef τ sig)) ⊆ allBufs by decide) (V := V0 m d)) $$ [Hb Hheld]
  · isplitl [Hb] <;> iassumption
  iintro ⟨Hb, Hheld⟩
  rw [wp_ret]; imodintro
  iapply (wp_hlo_within 𝒱 (SparseCore.T d) none Set.univ (op := opConv) (S := allBufs) (show ({bC, bP} : Finset (DevRef τ sig)) ⊆ allBufs by decide)
    (V := (opZero (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := allBufs) (show ({b2, bP, bV} : Finset (DevRef τ sig)) ⊆ allBufs by decide)
    (V := (opConv (F := F)).result ((opZero (F := F)).result (V0 m d)))) $$ [Hb Hheld]
  · isplitl [Hb] <;> iassumption
  iintro ⟨Hb, Hheld⟩
  rw [wp_ret]; imodintro; imodintro
  iapply (wp_hlo_within 𝒱 (SparseCore.T d) none Set.univ (op := opIn) (S := allBufs) (show ({b0, bT} : Finset (DevRef τ sig)) ⊆ allBufs by decide)
    (V := (opPad (F := F)).result ((opConv (F := F)).result ((opZero (F := F)).result (V0 m d))))) $$ [Hb Hheld]
  · isplitl [Hb] <;> iassumption
  iintro ⟨Hb, Hheld⟩
  rw [wp_ret]; imodintro
  ihave Hh := (Entails.of_eq ((show held (T d) allBufs ((opIn (F := F)).result ((opPad (F := F)).result ((opConv (F := F)).result ((opZero (F := F)).result (V0 m d)))))
      = (held (T d) allBufs (V1 m d) : sProp (MM F)) from rfl).trans (held_before m d))) $$ Hheld
  icases Hh with ⟨Hops, Hrest⟩
  iapply ((K (F := F)).wp_run (D (F := F)) 𝒱 (EH := EH) (P := PP m) κ d 0) $$ [Hst Hops Hb Hrest Hts]
  isplitr; · iexact Hctx
  isplitl [Hst]; · iexact Hst
  isplitl [Hops]
  · rw [starts]; iexact Hops
  iintro ⟨Hst, Hdn⟩
  ihave Hops := (Entails.of_eq (dones (memIn m) (valIn m) (metIn m) (outIn m) d)) $$ Hdn
  iapply (wp_hlo_within 𝒱 (SparseCore.T d) none Set.univ (op := opOut) (S := allBufs) (show ({bO, bR} : Finset (DevRef τ sig)) ⊆ allBufs by decide) (V := V2 m d)) $$ [Hb Hops Hrest]
  · isplitl [Hb]; · iexact Hb
    rw [held_after]
    isplitl [Hops]; · iexact Hops
    iexact Hrest
  iintro ⟨Hb, Hheld⟩
  rw [wp_ret]; imodintro; imodintro
  isplitl [Hst]; · iexact Hst
  isplitr [Hb Hts]
  · iexact Hheld
  isplitl [Hb] <;> iassumption

/-- What is read off the final memory: the four arguments and the result. -/
def fq (d : Dev nD) (s' : Phys nD τ sig (Elt F)) : Prop :=
  s'.mem.mem (d, bR) = V3 m d bR ∧ s'.mem.mem (d, b0) = V3 m d b0 ∧ s'.mem.mem (d, b1) = V3 m d b1 ∧ s'.mem.mem (d, b2) = V3 m d b2
    ∧ s'.mem.mem (d, b3) = V3 m d b3

theorem hread (d : Dev nD) (s' : Phys nD τ sig (Elt F)) {b : DevRef τ sig} (hb : b ∈ allBufs) :
    iprop(FIN m d ∗ SI s') ⊢ (⌜s'.mem.mem (d, b) = V3 m d b⌝ : sProp (MM F)) := by
  unfold FIN held
  rw [SparseCore.bigSep_erase' hb]
  iintro ⟨⟨Hb, -⟩, HSI⟩
  ihave H := (SI_pointsTo_agree (st := s') (ℓ := (d, b)) (I := Finset.univ) (q := fullShare) (f := V3 m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp (MM F)) := by
  refine (persistent_entails_right (hread m d s' (b := bR) (by decide))).trans ?_
  iintro ⟨%hR, H⟩
  ihave H := (persistent_entails_right (hread m d s' (b := b0) (by decide))) $$ H
  icases H with ⟨%h0, H⟩
  ihave H := (persistent_entails_right (hread m d s' (b := b1) (by decide))) $$ H
  icases H with ⟨%h1, H⟩
  ihave H := (persistent_entails_right (hread m d s' (b := b2) (by decide))) $$ H
  icases H with ⟨%h2, H⟩
  ihave H := (hread m d s' (b := b3) (by decide)) $$ H
  icases H with %h3
  ipureintro; exact ⟨hR, h0, h1, h2, h3⟩

/-- The program's run: it ends with the arguments unchanged, the result at `resFin` and every semaphore at zero. -/
def Done (r : PUnit × MemSt nD τ sig (Elt F)) : Prop :=
  (∀ c : Dev nD, r.2.mem ((c.tc : Thread nD τ).loc main_v3) = resFin m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

theorem run_main [∀ e, Nonempty (Elt F e)] (good : ∀ d, Good (metIn m d)) :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (memIn m) (valIn m) (metIn m) (outIn m) facts good)
    (fun q _ => match q with | 0 => SparseCore.Cfg.VecSplit.of_plain (vecSplit (memIn m) (valIn m) (metIn m) (outIn m)))
    m ρ main (fun _ => iprop(emp)) (FIN m) (u₀ (F := F)) (sep_elim_left.trans (hu₀ (memIn m) (valIn m) (metIn m) (outIn m))) (hmain m ρ) (fq m) (hfin m) (Done m)
    (fun _ h hz => ⟨fun c => ⟨(h c).1.trans (V3_R m c), (h c).2.1.trans (V3_arg m c (by decide) (by decide) (by decide) (by decide) (by decide) (by decide)),
      (h c).2.2.1.trans (V3_arg m c (by decide) (by decide) (by decide) (by decide) (by decide) (by decide)),
      (h c).2.2.2.1.trans (V3_arg m c (by decide) (by decide) (by decide) (by decide) (by decide) (by decide)),
      (h c).2.2.2.2.trans (V3_arg m c (by decide) (by decide) (by decide) (by decide) (by decide) (by decide))⟩, hz⟩)

end Cert.Proof.Bins

end
-- ==== Proof.Pre.lean ====
/-
  What the preconditions say of the table. `columns_in_bin`: in every block of entries with one in use, every code names a
  column of the window. `bin_table` says that, and that for every row the last entry in use that names it carries the
  last position that writes it.
-/
module

public import proofs.«01_k».proof.Proof.Table
public import proofs.«01_k».proof.Pre_columns_in_bin
public import proofs.«01_k».proof.Proof.Gen.Pre_columns_in_bin
public import proofs.«01_k».proof.Pre_bin_table
public import proofs.«01_k».proof.Proof.Gen.Pre_bin_table
public import Idealize.ShloMosaic.Lib.WordCmp
public import Idealize.ShloMosaic.Lib.ValueIdxCore
public import Idealize.ShloMosaic.Lib.Pipeline.Value
public import Idealize.ShloMosaic.Lib.Routing.OpsPair

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The table as 1024 rows of 64 words -/

section Reading

variable {α : Type} (fM : S65536.Idx → BitVec 32)

open ValueIdx (ix1 ix2)

/-- Cell `(b, w)` of the table laid out in rows is word `w` of bin `b`. -/
theorem table_word (h : S65536.ShapeCasts ⟨2, ![1024, 64]⟩) (b : Fin 1024) (w : Fin 64) :
    shapeCast ⟨2, ![1024, 64]⟩ fM h (ix2 b w) = fM (metCell b w) :=
  congrArg fM (Shape.reshapeEquiv_eq_of_rowMajor h (by
    rw [Shape.rowMajor_val_one, Shape.rowMajor_val_two]
    show 64 * b.val + w.val = b.val * 64 + w.val
    omega))

/-- Its first column is the counts. -/
theorem counts_at (h : S65536.ShapeCasts ⟨2, ![1024, 64]⟩) (h' : Shape.Slices ⟨2, ![1024, 64]⟩ ![0, 0] ⟨2, ![1024, 1]⟩) (b : Fin 1024) (u : Fin 1) :
    extractStridedSlice ⟨2, ![1024, 1]⟩ ![0, 0] (shapeCast ⟨2, ![1024, 64]⟩ fM h) h' (ix2 b u) = cnt fM b := by
  refine Eq.trans (congrArg (shapeCast ⟨2, ![1024, 64]⟩ fM h) ?_) (table_word fM h b 0)
  funext a
  match a with
  | 0 => exact Fin.ext (Nat.zero_add _)
  | 1 => exact Fin.ext (show 0 + u.val = 0 by omega)

/-- Its last 48 columns are the codes. -/
theorem codes_at (h : S65536.ShapeCasts ⟨2, ![1024, 64]⟩) (h' : Shape.Slices ⟨2, ![1024, 64]⟩ ![0, 16] ⟨2, ![1024, 48]⟩) (b : Fin 1024) (e : Fin 48) :
    extractStridedSlice ⟨2, ![1024, 48]⟩ ![0, 16] (shapeCast ⟨2, ![1024, 64]⟩ fM h) h' (ix2 b e) = code fM b e := by
  refine Eq.trans (congrArg (shapeCast ⟨2, ![1024, 64]⟩ fM h) ?_) (table_word fM h b ⟨16 + e.val, by have := e.isLt; omega⟩)
  funext a
  match a with
  | 0 => exact Fin.ext (Nat.zero_add _)
  | 1 => rfl

/-- A column repeated along a row, and a row repeated down a column. -/
theorem col_at (x : Shape.Idx ⟨2, ![1024, 1]⟩ → α) (h : Shape.BroadcastsInDim ⟨2, ![1024, 1]⟩ ⟨2, ![1024, 48]⟩ ![0, 1]) (b : Fin 1024) (e : Fin 48) :
    broadcastInDim ⟨2, ![1024, 48]⟩ ![0, 1] h x (ix2 b e) = x (ix2 b 0) :=
  congrArg x (funext fun a => match a with
    | 0 => rfl
    | 1 => rfl)
theorem row_at (x : Shape.Idx ⟨1, ![48]⟩ → α) (h : Shape.BroadcastsInDim ⟨1, ![48]⟩ ⟨2, ![1, 48]⟩ ![1])
    (h' : Shape.BroadcastsInDim ⟨2, ![1, 48]⟩ ⟨2, ![1024, 48]⟩ ![0, 1]) (b : Fin 1024) (e : Fin 48) :
    broadcastInDim ⟨2, ![1024, 48]⟩ ![0, 1] h' (broadcastInDim ⟨2, ![1, 48]⟩ ![1] h x) (ix2 b e) = x (ix1 e) :=
  congrArg x (funext fun a => match a with
    | 0 => rfl)

theorem colOf_lt (c : BitVec 32) : (colOf c).toNat < 1024 := by
  unfold colOf
  rw [BitVec.toNat_and]
  exact lt_of_le_of_lt Nat.and_le_right (by decide)
theorem colOf_toInt (c : BitVec 32) : (colOf c).toInt = ((colOf c).toNat : ℤ) := by
  have := colOf_lt c
  rw [BitVec.toInt_eq_toNat_cond, if_pos (by omega)]

/-- Where entry `e`'s block starts. -/
theorem block_start (h : Shape.BroadcastsInDim ⟨0, ![]⟩ ⟨1, ![48]⟩ (![] : Fin 0 → Fin 1)) (k : Fin 3) (j : Fin 16) :
    (Host.shli (Host.shrsi (iotaInDim ⟨1, ![48]⟩ 32 0) (broadcastInDim ⟨1, ![48]⟩ ![] h (constantI ⟨0, ![]⟩ 32 4#32)))
      (broadcastInDim ⟨1, ![48]⟩ ![] h (constantI ⟨0, ![]⟩ 32 4#32)) (ix1 (ent k j))).toInt = 16 * (k.val : ℤ) :=
  (by decide : ∀ (k : Fin 3) (j : Fin 16), (Host.shli (s := ⟨1, ![48]⟩) (Host.shrsi (iotaInDim ⟨1, ![48]⟩ 32 0) fun _ => 4#32) (fun _ => 4#32)
    (ix1 (ent k j))).toInt = 16 * (k.val : ℤ)) k j

end Reading

open ValueIdx (ix1 ix2 ix3)

/-! ## The words the table is read as -/

section Words

/-- The row an entry's word names: its bin's first row plus its column, or the row past the end when the entry is not in use; a word that is not negative is
    not wrapped. -/
theorem row_word (b : Fin 1024) (e : Fin 48) (n c : BitVec 32) :
    let r := Scalar.select (IntOp.cmpi .slt (BitVec.ofNat 32 e.val) n)
      (IntOp.addi (IntOp.muli 512#32 (BitVec.ofNat 32 b.val)) (IntOp.andi c 1023#32)) 524288#32
    (Scalar.select (IntOp.cmpi .slt r 0#32) (IntOp.addi r 524288#32) r).toInt
      = if (e.val : ℤ) < n.toInt then ((512 * b.val + (colOf c).toNat : ℕ) : ℤ) else 524288 := by
  intro r
  have hb := b.isLt
  have he := e.isLt
  have hc := colOf_lt c
  have hr : r = BitVec.ofNat 32 (if (e.val : ℤ) < n.toInt then 512 * b.val + (colOf c).toNat else 524288) := by
    show Scalar.select _ _ _ = _
    rw [WordCmp.cmpi_slt_eq, WordCmp.select_decide, WordCmp.toInt_ofNat_of_lt (show e.val < 2 ^ 31 by omega)]
    split
    · rw [show IntOp.andi c 1023#32 = BitVec.ofNat 32 (colOf c).toNat from (BitVec.ofNat_toNat ..).symm ▸ (BitVec.setWidth_eq _).symm, WordCmp.muli_ofNat, WordCmp.addi_ofNat]
    · rfl
  have hlt : (if (e.val : ℤ) < n.toInt then 512 * b.val + (colOf c).toNat else 524288) < 2 ^ 31 := by split <;> omega
  rw [Routing.wrap_of_lt _ _ (by rw [hr, WordCmp.toNat_ofNat_of_lt (by omega)]; exact hlt), hr, WordCmp.toInt_ofNat_of_lt hlt]
  split <;> rfl

theorem addi_at {s : Shape} (x y : IVec s 32) (i : s.Idx) : addi x y i = IntOp.addi (x i) (y i) := rfl
theorem muli_at {s : Shape} (x y : IVec s 32) (i : s.Idx) : muli x y i = IntOp.muli (x i) (y i) := rfl
theorem hshr_at {s : Shape} (x y : IVec s 32) (i : s.Idx) : Host.shrsi x y i = IntOp.shrsi .host (x i) (y i) := rfl

/-- A table of words with an axis of one added. -/
theorem unit_at {α : Type} (x : Shape.Idx ⟨2, ![1024, 48]⟩ → α) (h : Shape.BroadcastsInDim ⟨2, ![1024, 48]⟩ ⟨3, ![1024, 48, 1]⟩ ![0, 1]) (b : Fin 1024) (e : Fin 48) :
    broadcastInDim ⟨3, ![1024, 48, 1]⟩ ![0, 1] h x (ix3 b e 0) = x (ix2 b e) :=
  congrArg x (funext fun a => match a with
    | 0 => rfl
    | 1 => rfl)
/-- A vector stood up as a column. -/
theorem stood_at {α : Type} (x : Shape.Idx ⟨1, ![1024]⟩ → α) (h : Shape.BroadcastsInDim ⟨1, ![1024]⟩ ⟨2, ![1024, 1]⟩ ![0]) (b : Fin 1024) :
    broadcastInDim ⟨2, ![1024, 1]⟩ ![0] h x (ix2 b 0) = x (ix1 b) :=
  congrArg x (funext fun a => match a with
    | 0 => rfl)
theorem position_at {α : Type} (x : Shape.Idx ⟨1, ![16384]⟩ → α) (h : Shape.BroadcastsInDim ⟨1, ![16384]⟩ ⟨2, ![16384, 1]⟩ ![0]) (p : Fin 16384) :
    broadcastInDim ⟨2, ![16384, 1]⟩ ![0] h x (ix2 p 0) = x (ix1 p) :=
  congrArg x (funext fun a => match a with
    | 0 => rfl)

end Words

/-! ## The columns -/

/-- Each entry's block is not entered, or its code names a column of the window. -/
theorem good_of_inside {fM : S65536.Idx → BitVec 32} {h : Shape.BroadcastsInDim ⟨0, ![]⟩ ⟨1, ![48]⟩ (![] : Fin 0 → Fin 1)}
    (e : ∀ (b : Fin 1024) (e : Fin 48), IntOp.ori (IntOp.cmpi .sle (cnt fM b) (Host.shli (Host.shrsi (iotaInDim ⟨1, ![48]⟩ 32 0)
        (broadcastInDim ⟨1, ![48]⟩ ![] h (constantI ⟨0, ![]⟩ 32 4#32))) (broadcastInDim ⟨1, ![48]⟩ ![] h (constantI ⟨0, ![]⟩ 32 4#32)) (ix1 e)))
      (IntOp.cmpi .slt (colOf (code fM b e)) 512#32) = 1#1) : Good fM := by
  intro b k j hlt
  have e := e b (ent k j)
  rw [WordCmp.cmpi_sle_eq, WordCmp.cmpi_slt_eq, WordCmp.ori_ofBool, WordCmp.ofBool_eq_one_iff,
    Bool.or_eq_true, decide_eq_true_eq, decide_eq_true_eq, block_start, colOf_toInt] at e
  have h512 : (512#32).toInt = 512 := rfl
  omega

/-- The first precondition, read off. -/
theorem good_of_pre {x0 : FVec F Cert.Pre_columns_in_bin.S524288x64 .f32} {x1 : IVec Cert.Pre_columns_in_bin.S16384 32} {x2 : FVec F Cert.Pre_columns_in_bin.S16384x64 .f32}
    {fM : S65536.Idx → BitVec 32} (h : Cert.Pre_columns_in_bin.fn x0 x1 x2 fM = fun _ => 1#1) : Good fM := by
  refine good_of_inside (h := by decide) fun b e => ?_
  have e := congrFun h (ix2 b e)
  unfold Cert.Pre_columns_in_bin.fn at e
  dsimp only at e
  rw [WordCmp.ori_at, WordCmp.cmpi_at, WordCmp.cmpi_at, col_at, row_at, counts_at, WordCmp.andi_at, codes_at] at e
  exact e

/-! ## The whole table -/

section Whole

/-- Two arrays of booleans side by side hold everywhere exactly when each does. -/
theorem both {x : IVec ⟨2, ![1024, 512]⟩ 1} {y : IVec ⟨2, ![1024, 48]⟩ 1} {h : Shape.Concatenates [⟨2, ![1024, 512]⟩, ⟨2, ![1024, 48]⟩] ⟨2, ![1024, 560]⟩ 1}
    (e : concatenate ⟨2, ![1024, 560]⟩ 1 [⟨⟨2, ![1024, 512]⟩, x⟩, ⟨⟨2, ![1024, 48]⟩, y⟩] h = fun _ => 1#1) :
    (∀ b c, x (ix2 b c) = 1#1) ∧ ∀ b c, y (ix2 b c) = 1#1 := by
  constructor
  · intro b c
    refine (concatenate_pair_apply_left _ x y h (ix2 b ⟨c.val, by omega⟩) rfl _ fun a => ?_).symm.trans (congrFun e _)
    match a with
    | 0 => rfl
    | 1 => rfl
  · intro b c
    refine (concatenate_pair_apply_right _ x y h (ix2 b ⟨c.val + 512, by omega⟩) rfl rfl (ix2 b c) (fun a ha => ?_) rfl).symm.trans (congrFun e _)
    match a with
    | 0 => rfl
    | 1 => exact absurd rfl ha

/-- Two vectors compared, the answers laid out in rows of 512. -/
theorem eq_of_compare {x y : IVec ⟨1, ![524288]⟩ 32} {h : Shape.ShapeCasts ⟨1, ![524288]⟩ ⟨2, ![1024, 512]⟩}
    (e : ∀ b c, shapeCast ⟨2, ![1024, 512]⟩ (cmpi .eq x y) h (ix2 b c) = 1#1) (r : Fin 524288) : x (ix1 r) = y (ix1 r) := by
  have hr := r.isLt
  have e := e ⟨r.val / 512, by omega⟩ ⟨r.val % 512, by omega⟩
  have hc : shapeCast ⟨2, ![1024, 512]⟩ (cmpi .eq x y) h (ix2 ⟨r.val / 512, by omega⟩ ⟨r.val % 512, by omega⟩) = cmpi .eq x y (ix1 r) :=
    congrArg (cmpi .eq x y) (Shape.reshapeEquiv_eq_of_rowMajor h (by
      rw [Shape.rowMajor_val_one, Shape.rowMajor_val_two]
      show r.val = r.val / 512 * 512 + r.val % 512
      omega))
  rw [hc, WordCmp.cmpi_at, WordCmp.cmpi_eq_eq, WordCmp.ofBool_eq_one_iff, decide_eq_true_eq] at e
  exact e

/-- The row an index word names: a negative one counts from the end. -/
def rowOf (i : BitVec 32) : BitVec 32 := Scalar.select (IntOp.cmpi .slt i 0#32) (IntOp.addi i 524288#32) i

variable {x0 : FVec F Cert.Pre_bin_table.S524288x64 .f32} {x1 : IVec Cert.Pre_bin_table.S16384 32} {x2 : FVec F Cert.Pre_bin_table.S16384x64 .f32}
  {fM : S65536.Idx → BitVec 32}

theorem good_of_table (h : Cert.Pre_bin_table.fn x0 x1 x2 fM = fun _ => 1#1) : Good fM := by
  refine good_of_inside (h := by decide) fun b e => ?_
  unfold Cert.Pre_bin_table.fn Cert.Pre_bin_table.fn_part1 Cert.Pre_bin_table.fn_part2 at h
  dsimp only at h
  have e := (both h).2 b e
  rw [WordCmp.ori_at, WordCmp.cmpi_at, WordCmp.cmpi_at, col_at, row_at, counts_at, WordCmp.andi_at, codes_at] at e
  exact e

/-- The second precondition: two scatters over -1 agree at every row, that of the entries' positions by the rows the entries
    name and that of all positions by the rows the index names. -/
theorem table_of_table (h : Cert.Pre_bin_table.fn x0 x1 x2 fM = fun _ => 1#1) :
    ∃ (rows : IVec Cert.Pre_bin_table.S1024x48x1 32) (pos : IVec Cert.Pre_bin_table.S1024x48 32) (ws : IVec Cert.Pre_bin_table.S16384x1 32)
      (ps : IVec Cert.Pre_bin_table.S16384 32) (base : IVec Cert.Pre_bin_table.S524288 32),
      (∀ b e, (rows (ix3 b e 0)).toInt = if (e.val : ℤ) < (cnt fM b).toInt then ((512 * b.val + (colOf (code fM b e)).toNat : ℕ) : ℤ) else 524288)
      ∧ (∀ b e, pos (ix2 b e) = posOf (code fM b e)) ∧ (∀ p, ws (ix2 p 0) = rowOf (x1 (ix1 p))) ∧ (∀ p : Fin 16384, ps (ix1 p) = BitVec.ofNat 32 p.val)
      ∧ (∀ r, base r = 4294967295#32)
      ∧ ∀ r, Host.scatter Cert.Pre_bin_table.scatter_S524288_S1024x48x1_S1024x48_n_0_0_2 (fun _ b => b) base rows pos (ix1 r)
          = Host.scatter Cert.Pre_bin_table.scatter_S524288_S16384x1_S16384_n_0_0_1 (fun _ b => b) base ws ps (ix1 r) := by
  unfold Cert.Pre_bin_table.fn Cert.Pre_bin_table.fn_part1 Cert.Pre_bin_table.fn_part2 Cert.Pre_bin_table.fn_where at h
  dsimp only at h
  have key := eq_of_compare (both h).1
  refine ⟨_, _, _, _, _, fun b e => ?_, fun b e => ?_, fun p => ?_, fun p => ?_, fun r => ?_, key⟩
  · refine Eq.trans (congrArg BitVec.toInt ?_) (row_word b e (cnt fM b) (code fM b e))
    rw [unit_at, WordCmp.select_at, WordCmp.cmpi_at, addi_at, WordCmp.select_at, WordCmp.cmpi_at, addi_at, WordCmp.andi_at, col_at, col_at, row_at, counts_at, codes_at]
    rw [muli_at, stood_at]
    rfl
  · rw [WordCmp.andi_at, hshr_at, codes_at]
    rfl
  · rw [position_at, WordCmp.select_at, WordCmp.cmpi_at, addi_at]
    rfl
  · rfl
  · rfl

end Whole

end Cert.Proof.Bins

end
-- ==== Proof.Scatter.lean ====
/-
  The reference side: its scatter of rows and the two scatters of the precondition, each read at one element as the last
  update that lands there. The cell the kernel leaves is the one of the position listed for its row; the cell the reference
  leaves is the one of the position that last wrote its row.
-/
module

public import proofs.«01_k».proof.Proof.Pre
public import proofs.«01_k».proof.Proof.Gen.ReferenceIdeal
public import Idealize.ShloMosaic.Lib.Routing.OpsPair

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

open ValueIdx (ix1 ix2 ix3 eq_ix1 eq_ix2)

/-! ## A fold in which each hit overwrites -/

section Folds

variable {ι α : Type} (hit : ι → Prop) [DecidablePred hit] (v : ι → α)

/-- Without a hit it keeps what it starts from. -/
theorem fold_none : ∀ (l : List ι) (a : α), (∀ n ∈ l, ¬hit n) → l.foldl (fun a n => if hit n then v n else a) a = a
  | [], _, _ => rfl
  | x :: l, a, h => by
    rw [List.foldl_cons, if_neg (h x (List.mem_cons_self ..))]
    exact fold_none l a fun n hn => h n (List.mem_cons_of_mem _ hn)

/-- With one it ends at the last hit's value. -/
theorem fold_last [LT ι] {n : ι} (hn : hit n) (hlast : ∀ n', n < n' → ¬hit n') :
    ∀ (l : List ι) (a : α), l.Pairwise (· < ·) → n ∈ l → l.foldl (fun a n => if hit n then v n else a) a = v n
  | [], _, _, h => nomatch h
  | x :: l, a, hp, h => by
    obtain ⟨hx, hl⟩ := List.pairwise_cons.1 hp
    rw [List.foldl_cons]
    by_cases hm : n ∈ l
    · exact fold_last hn hlast l _ hl hm
    · obtain rfl : n = x := (List.mem_cons.1 h).resolve_right hm
      rw [if_pos hn]
      exact fold_none hit v l _ fun n' h' => hlast n' (hx n' h')

end Folds

/-! ## A scatter that overwrites -/

section Cases

variable {α : Type} {s si u : Shape} {w : ℕ} (d : ScatterDims s si u) (x0 : s.Idx → α) (idx : IVec si w) (upd : u.Idx → α) (i : s.Idx)

/-- An element is the last update that lands on it, or what it was if none does. -/
theorem scatter_cases :
    (∃ k, d.resultIdx? k idx = some i ∧ (∀ k', (u.rowMajor k).val < (u.rowMajor k').val → d.resultIdx? k' idx ≠ some i)
      ∧ Host.scatter d (fun _ b => b) x0 idx upd i = upd k)
    ∨ ((∀ k, d.resultIdx? k idx ≠ some i) ∧ Host.scatter d (fun _ b => b) x0 idx upd i = x0 i) := by
  rw [Routing.scatter_at]
  by_cases hex : ∃ n, d.resultIdx? (u.rowMajor.symm n) idx = some i
  · left
    obtain ⟨n, hn, hmax⟩ := (Finset.univ.filter fun n => d.resultIdx? (u.rowMajor.symm n) idx = some i).exists_max_image id
      (hex.imp fun n h => Finset.mem_filter.2 ⟨Finset.mem_univ _, h⟩)
    have hn := (Finset.mem_filter.1 hn).2
    have hmax : ∀ n', n < n' → d.resultIdx? (u.rowMajor.symm n') idx ≠ some i := fun n' hlt h =>
      absurd (hmax n' (Finset.mem_filter.2 ⟨Finset.mem_univ _, h⟩)) (not_le.2 hlt)
    refine ⟨u.rowMajor.symm n, hn, fun k' hlt h => hmax (u.rowMajor k') ?_ (by rw [Equiv.symm_apply_apply]; exact h), ?_⟩
    · rw [Equiv.apply_symm_apply] at hlt
      exact hlt
    · exact fold_last (fun n => d.resultIdx? (u.rowMajor.symm n) idx = some i) (fun n => upd (u.rowMajor.symm n)) hn hmax _ _
        (List.pairwise_lt_finRange _) (List.mem_finRange n)
  · right
    refine ⟨fun k h => hex ⟨u.rowMajor k, by rw [Equiv.symm_apply_apply]; exact h⟩, ?_⟩
    exact fold_none (fun n => d.resultIdx? (u.rowMajor.symm n) idx = some i) (fun n => upd (u.rowMajor.symm n)) _ _ fun n _ h => hex ⟨n, h⟩

end Cases

/-! ## Where the updates land -/

section Dims

/-- Row `p` of the values lands on row `r` exactly when the word at `p` names `r`. -/
theorem lands (k : Cert.ReferenceIdeal.S16384x64.Idx) (idx : IVec Cert.ReferenceIdeal.S16384x1 32) (i : S524288x64.Idx) :
    Cert.ReferenceIdeal.scatter_S524288x64_S16384x1_S16384x64_1_0_0_1.resultIdx? k idx = some i
      ↔ (idx (ix2 (k 0) 0)).toInt = ((i 0).val : ℤ) ∧ (k 1).val = (i 1).val := by
  rw [Routing.resultIdx?_eq_some]
  have e0 : Cert.ReferenceIdeal.scatter_S524288x64_S16384x1_S16384x64_1_0_0_1.start k idx 0 = (idx (ix2 (k 0) 0)).toInt := by
    refine congrArg (fun x => (idx x).toInt) (funext fun a => ?_)
    match a with
    | 0 => rfl
    | 1 => rfl
  have w0 : Cert.ReferenceIdeal.scatter_S524288x64_S16384x1_S16384x64_1_0_0_1.window k 0 = 0 := rfl
  have e1 : Cert.ReferenceIdeal.scatter_S524288x64_S16384x1_S16384x64_1_0_0_1.start k idx 1 = 0 := rfl
  have w1 : Cert.ReferenceIdeal.scatter_S524288x64_S16384x1_S16384x64_1_0_0_1.window k 1 = (k 1).val := rfl
  constructor
  · intro h
    have h0 := h 0
    have h1 := h 1
    rw [e0, w0] at h0
    rw [e1, w1] at h1
    exact ⟨by simpa using h0, by simpa using h1⟩
  · rintro ⟨h0, h1⟩ a
    match a with
    | 0 => rw [e0, w0, h0]; simp
    | 1 => rw [e1, w1, h1]; simp

/-- Position `p` likewise. -/
theorem lands_pos (k : Cert.Pre_bin_table.S16384.Idx) (idx : IVec Cert.Pre_bin_table.S16384x1 32) (r : Fin 524288) :
    Cert.Pre_bin_table.scatter_S524288_S16384x1_S16384_n_0_0_1.resultIdx? k idx = some (ix1 r) ↔ (idx (ix2 (k 0) 0)).toInt = (r.val : ℤ) := by
  rw [Routing.resultIdx?_eq_some]
  have e0 : Cert.Pre_bin_table.scatter_S524288_S16384x1_S16384_n_0_0_1.start k idx 0 = (idx (ix2 (k 0) 0)).toInt := by
    refine congrArg (fun x => (idx x).toInt) (funext fun a => ?_)
    match a with
    | 0 => rfl
    | 1 => rfl
  have w0 : Cert.Pre_bin_table.scatter_S524288_S16384x1_S16384_n_0_0_1.window k 0 = 0 := rfl
  constructor
  · intro h
    have h0 := h 0
    rw [e0, w0] at h0
    simpa using h0
  · intro h0 a
    match a with
    | 0 => rw [e0, w0, h0]; simp

/-- An entry's position lands on row `r` exactly when the entry's word names `r`. -/
theorem lands_entry (k : Cert.Pre_bin_table.S1024x48.Idx) (idx : IVec Cert.Pre_bin_table.S1024x48x1 32) (r : Fin 524288) :
    Cert.Pre_bin_table.scatter_S524288_S1024x48x1_S1024x48_n_0_0_2.resultIdx? k idx = some (ix1 r) ↔ (idx (ix3 (k 0) (k 1) 0)).toInt = (r.val : ℤ) := by
  rw [Routing.resultIdx?_eq_some]
  have e0 : Cert.Pre_bin_table.scatter_S524288_S1024x48x1_S1024x48_n_0_0_2.start k idx 0 = (idx (ix3 (k 0) (k 1) 0)).toInt := by
    refine congrArg (fun x => (idx x).toInt) (funext fun a => ?_)
    match a with
    | 0 => rfl
    | 1 => rfl
    | 2 => rfl
  have w0 : Cert.Pre_bin_table.scatter_S524288_S1024x48x1_S1024x48_n_0_0_2.window k 0 = 0 := rfl
  constructor
  · intro h
    have h0 := h 0
    rw [e0, w0] at h0
    simpa using h0
  · intro h0 a
    match a with
    | 0 => rw [e0, w0, h0]; simp

end Dims

/-! ## The reference's cell -/

section Reference

variable {α : Type}

/-- The reference's cell `(r, c)` is cell `(p, c)` of the values, `p` the position that last wrote row `r`; or it is the memory's and no position did. -/
theorem reference_cases (x0 : S524288x64.Idx → α) (x2 : Cert.ReferenceIdeal.S16384x64.Idx → α) (idx : IVec Cert.ReferenceIdeal.S16384x1 32)
    (base : IVec Cert.Pre_bin_table.S524288 32) (ps : IVec Cert.Pre_bin_table.S16384 32) (hps : ∀ p : Fin 16384, ps (ix1 p) = BitVec.ofNat 32 p.val)
    (r : Fin 524288) (c : Fin 64) :
    (∃ p : Fin 16384, Host.scatter Cert.ReferenceIdeal.scatter_S524288x64_S16384x1_S16384x64_1_0_0_1 (fun _ b => b) x0 idx x2 (ix2 r c) = x2 (ix2 p c)
      ∧ Host.scatter Cert.Pre_bin_table.scatter_S524288_S16384x1_S16384_n_0_0_1 (fun _ b => b) base idx ps (ix1 r) = BitVec.ofNat 32 p.val)
    ∨ (Host.scatter Cert.ReferenceIdeal.scatter_S524288x64_S16384x1_S16384x64_1_0_0_1 (fun _ b => b) x0 idx x2 (ix2 r c) = x0 (ix2 r c)
      ∧ Host.scatter Cert.Pre_bin_table.scatter_S524288_S16384x1_S16384_n_0_0_1 (fun _ b => b) base idx ps (ix1 r) = base (ix1 r)) := by
  rcases scatter_cases Cert.Pre_bin_table.scatter_S524288_S16384x1_S16384_n_0_0_1 base idx ps (ix1 r) with ⟨k, hk, hlast, hw⟩ | ⟨hno, hw⟩
  · left
    rw [lands_pos] at hk
    refine ⟨k 0, ?_, hw.trans ((congrArg ps (eq_ix1 k)).trans (hps _))⟩
    rcases scatter_cases Cert.ReferenceIdeal.scatter_S524288x64_S16384x1_S16384x64_1_0_0_1 x0 idx x2 (ix2 r c) with ⟨j, hj, hjlast, hr⟩ | ⟨hno, -⟩
    · rw [lands] at hj
      have ec : j 1 = c := Fin.ext hj.2
      -- the last row to land is the last position to write
      have v : ∀ p : Fin 16384, (Cert.ReferenceIdeal.S16384x64.rowMajor (ix2 p c)).val = p.val * 64 + c.val := fun p => Shape.rowMajor_val_two (d := ![16384, 64]) _
      have v' : (Cert.ReferenceIdeal.S16384x64.rowMajor j).val = (j 0).val * 64 + (j 1).val := Shape.rowMajor_val_two (d := ![16384, 64]) _
      have z : ∀ k : Cert.Pre_bin_table.S16384.Idx, (Cert.Pre_bin_table.S16384.rowMajor k).val = (k 0).val := fun k => Shape.rowMajor_val_one (d := ![16384]) _
      have e0 : j 0 = k 0 := by
        refine Fin.ext (le_antisymm (not_lt.1 fun hlt => ?_) (not_lt.1 fun hlt => ?_))
        · exact hlast (ix1 (j 0)) (by rw [z, z]; exact hlt) ((lands_pos _ _ _).2 hj.1)
        · refine hjlast (ix2 (k 0) c) ?_ ((lands _ _ _).2 ⟨hk, rfl⟩)
          refine (lt_of_eq_of_lt v' ?_).trans_eq (v (k 0)).symm
          have : (j 1).val = c.val := hj.2
          omega
      exact hr.trans (congrArg x2 ((eq_ix2 j).trans (congrArg₂ ix2 e0 ec)))
    · exact absurd ((lands _ _ _).2 ⟨hk, rfl⟩) (hno (ix2 (k 0) c))
  · right
    refine ⟨?_, hw⟩
    rcases scatter_cases Cert.ReferenceIdeal.scatter_S524288x64_S16384x1_S16384x64_1_0_0_1 x0 idx x2 (ix2 r c) with ⟨j, hj, -, -⟩ | ⟨-, hr⟩
    · exact absurd ((lands_pos _ _ _).2 ((lands _ _ _).1 hj).1) (hno (ix1 (j 0)))
    · exact hr

end Reference

/-! ## The kernel's cell -/

section Kernel

variable {α : Type} (fV : S16384x128.Idx → α) (fM : S65536.Idx → BitVec 32)

/-- A bin's three blocks, one fold over its 48 entries. -/
theorem applied_fold (b : Fin 1024) (f : S64x512.Idx → α) (j : S64x512.Idx) :
    applied fV fM b f j
      = (List.finRange 48).foldl (fun a e => if Hit fM b e (j 1).val then gathered fV fM b (rowCell e (j 0)) else a) (f j) := by
  have hl : List.finRange 48 = (List.finRange 16).map (ent 0) ++ ((List.finRange 16).map (ent 1) ++ (List.finRange 16).map (ent 2)) := by decide
  rw [hl, List.foldl_append, List.foldl_append, List.foldl_map, List.foldl_map, List.foldl_map]
  rfl

/-- Cell `(r, c)` of the memory, in the transposed memory. -/
def across (i : S524288x64.Idx) : S64x524288.Idx := ix2 (i 1) (i 0)

/-- The kernel's cell `(r, c)` is cell `(p, c)` of the padded values, `p` the position listed for row `r`; or it is the memory's and none is. -/
theorem kernel_cases (good : Good fM) (x0 : S524288x64.Idx → α) (fT : S64x524288.Idx → α) (hT : ∀ i, fT (across i) = x0 i)
    (rows : IVec Cert.Pre_bin_table.S1024x48x1 32) (pos : IVec Cert.Pre_bin_table.S1024x48 32) (base : IVec Cert.Pre_bin_table.S524288 32)
    (hrows : ∀ b e, (rows (ix3 b e 0)).toInt
      = if (e.val : ℤ) < (cnt fM b).toInt then ((512 * b.val + (colOf (code fM b e)).toNat : ℕ) : ℤ) else 524288)
    (hpos : ∀ b e, pos (ix2 b e) = posOf (code fM b e)) (r : Fin 524288) (c : Fin 64) :
    (∃ p : Fin 16384, result fT fV fM (across (ix2 r c)) = fV (valCell p ⟨c.val, by omega⟩)
      ∧ Host.scatter Cert.Pre_bin_table.scatter_S524288_S1024x48x1_S1024x48_n_0_0_2 (fun _ b => b) base rows pos (ix1 r) = BitVec.ofNat 32 p.val)
    ∨ (result fT fV fM (across (ix2 r c)) = x0 (ix2 r c)
      ∧ Host.scatter Cert.Pre_bin_table.scatter_S524288_S1024x48x1_S1024x48_n_0_0_2 (fun _ b => b) base rows pos (ix1 r) = base (ix1 r)) := by
  have hir := r.isLt
  have hcol : ∀ b e, (e.val : ℤ) < (cnt fM b).toInt → (colOf (code fM b e)).toNat < 512 := fun b e he => by
    have hk : e = ent ⟨e.val / 16, by omega⟩ ⟨e.val % 16, by omega⟩ := Fin.ext (show e.val = 16 * (e.val / 16) + e.val % 16 by omega)
    rw [hk]
    exact good b _ _ (show 16 * ((e.val / 16 : ℕ) : ℤ) < _ by omega)
  -- the entries that name the row are its bin's that name its column
  let b : Fin 1024 := ⟨r.val / 512, by omega⟩
  have hland : ∀ k : Cert.Pre_bin_table.S1024x48.Idx, Cert.Pre_bin_table.scatter_S524288_S1024x48x1_S1024x48_n_0_0_2.resultIdx? k rows = some (ix1 r)
      ↔ k 0 = b ∧ Hit fM b (k 1) (r.val % 512) := by
    intro k
    rw [lands_entry, hrows (k 0) (k 1)]
    constructor
    · intro h0
      split at h0
      · next hlt =>
        have := hcol _ _ hlt
        have e0 : 512 * (k 0).val + (colOf (code fM (k 0) (k 1))).toNat = r.val := by exact_mod_cast h0
        have eb : k 0 = b := Fin.ext (show (k 0).val = r.val / 512 by omega)
        refine ⟨eb, ?_⟩
        rw [← eb]
        exact ⟨hlt, by omega⟩
      · omega
    · rintro ⟨eb, ⟨hlt, hc⟩⟩
      rw [eb, if_pos hlt, hc]
      show ((512 * (r.val / 512) + r.val % 512 : ℕ) : ℤ) = _
      omega
  have hval : result fT fV fM (across (ix2 r c)) = (List.finRange 48).foldl (fun a e =>
      if Hit fM b e (r.val % 512) then gathered fV fM b (rowCell e c) else a) (x0 (ix2 r c)) := by
    refine (applied_fold fV fM _ _ _).trans ?_
    rw [show winIn fT (binOf (across (ix2 r c))) (inBin (across (ix2 r c))) = x0 (ix2 r c) from (congrArg fT (bigCell_inBin _)).trans (hT _)]
    rfl
  rw [hval]
  rcases scatter_cases Cert.Pre_bin_table.scatter_S524288_S1024x48x1_S1024x48_n_0_0_2 base rows pos (ix1 r) with ⟨k, hk, hlast, hw⟩ | ⟨hno, hw⟩
  · left
    rw [hland] at hk
    refine ⟨⟨(posOf (code fM b (k 1))).toNat, posOf_lt _⟩, ?_, ?_⟩
    · refine fold_last (fun e => Hit fM b e (r.val % 512)) (fun e => gathered fV fM b (rowCell e c)) hk.2 (fun e' hlt h => ?_) _ _
        (List.pairwise_lt_finRange 48) (List.mem_finRange (k 1))
      refine hlast (ix2 b e') ?_ ((hland _).2 ⟨rfl, h⟩)
      have v : (Cert.Pre_bin_table.S1024x48.rowMajor (ix2 b e')).val = b.val * 48 + e'.val := Shape.rowMajor_val_two (d := ![1024, 48]) _
      have v' : (Cert.Pre_bin_table.S1024x48.rowMajor k).val = (k 0).val * 48 + (k 1).val := Shape.rowMajor_val_two (d := ![1024, 48]) _
      have hlt : (k 1).val < e'.val := hlt
      rw [v, v', hk.1]
      omega
    · rw [hw, (congrArg pos (eq_ix2 k)).trans (hpos (k 0) (k 1)), hk.1]
      exact (BitVec.eq_of_toNat_eq (by rw [WordCmp.toNat_ofNat_of_lt (lt_trans (posOf_lt _) (by decide))]))
  · right
    exact ⟨fold_none (fun e => Hit fM b e (r.val % 512)) (fun e => gathered fV fM b (rowCell e c)) _ _ fun e _ h => hno (ix2 b e) ((hland _).2 ⟨rfl, h⟩), hw⟩

end Kernel

/-! ## The two cells are one -/

section Equal

/-- When every row's listed position is the one that last wrote it, the kernel's cell is the reference's. -/
theorem cell_eq {x0 : FVec F Cert.Pre_bin_table.S524288x64 .f32} {x1 : IVec Cert.Pre_bin_table.S16384 32} {x2 : FVec F Cert.Pre_bin_table.S16384x64 .f32}
    {fV : S16384x128.Idx → F .f32} {fM : S65536.Idx → BitVec 32} (h : Cert.Pre_bin_table.fn x0 x1 x2 fM = fun _ => 1#1)
    (fT : S64x524288.Idx → F .f32) (hT : ∀ i, fT (across i) = x0 i) (hV : ∀ (p : Fin 16384) (c : Fin 64), fV (valCell p ⟨c.val, by omega⟩) = x2 (ix2 p c))
    (idx : IVec Cert.ReferenceIdeal.S16384x1 32) (hidx : ∀ p, idx (ix2 p 0) = rowOf (x1 (ix1 p))) (i : S524288x64.Idx) :
    result fT fV fM (across i) = Host.scatter Cert.ReferenceIdeal.scatter_S524288x64_S16384x1_S16384x64_1_0_0_1 (fun _ b => b) x0 idx x2 i := by
  obtain ⟨rows, pos, ws, ps, base, hrows, hpos, hws, hps, hbase, key⟩ := table_of_table h
  have one : ∀ k : Cert.Pre_bin_table.S16384x1.Idx, k = ix2 (k 0) 0 := fun k => (eq_ix2 k).trans (congrArg (ix2 (k 0)) (Subsingleton.elim (α := Fin 1) _ _))
  obtain rfl : ws = idx := funext fun k =>
    (congrArg ws (one k)).trans ((hws (k 0)).trans ((hidx (k 0)).symm.trans (congrArg idx (one k)).symm))
  have inj : ∀ p q : Fin 16384, BitVec.ofNat 32 p.val = BitVec.ofNat 32 q.val → p = q := fun p q e => by
    have e := congrArg BitVec.toNat e
    rw [WordCmp.toNat_ofNat_of_lt (by omega), WordCmp.toNat_ofNat_of_lt (by omega)] at e
    exact Fin.ext e
  have out : ∀ p : Fin 16384, BitVec.ofNat 32 p.val ≠ 4294967295#32 := fun p e => by
    have e := congrArg BitVec.toNat e
    rw [WordCmp.toNat_ofNat_of_lt (by omega)] at e
    have e : p.val = 4294967295 := e
    omega
  have ei := eq_ix2 i
  rw [ei]
  have key := key (i 0)
  rcases kernel_cases fV fM (good_of_table h) x0 fT hT rows pos base hrows hpos (i 0) (i 1) with ⟨p, hk, hl⟩ | ⟨hk, hl⟩ <;>
    rcases reference_cases x0 x2 ws base ps hps (i 0) (i 1) with ⟨q, hr, hw⟩ | ⟨hr, hw⟩ <;> rw [hl, hw] at key
  · obtain rfl := inj p q key
    exact hk.trans ((hV p (i 1)).trans hr.symm)
  · exact absurd (key.trans (hbase _)) (out p)
  · exact absurd (key.symm.trans (hbase _)) (out q)
  · exact hk.trans hr.symm

end Equal

end Cert.Proof.Bins

end
-- ==== Proof.Value.lean ====
/-
  The value: what @main returns is what the reference returns, at any float values.
-/
module

public import proofs.«01_k».proof.Proof.Run
public import proofs.«01_k».proof.Proof.Scatter
public import Idealize.ShloMosaic.Lib.KernelVsHost

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

open ValueIdx (ix1 ix2)

/-! ## The kernel's operands, read at the cells the values come from -/

section Reads

variable (m : (ℓ : Loc nD τ sig) → Buf (Elt F) ℓ)

theorem memIn_across (d : Dev nD) (i : S524288x64.Idx) : memIn m d (across i) = (m ((SparseCore.T d).loc main_arg0) : S524288x64.Idx → Elt F .f32) i :=
  congrArg (m ((SparseCore.T d).loc main_arg0) : S524288x64.Idx → Elt F .f32) (funext fun a => match a with
    | 0 => rfl
    | 1 => rfl)

theorem valIn_at (d : Dev nD) (p : Fin 16384) (c : Fin 64) :
    valIn m d (valCell p ⟨c.val, by omega⟩) = (m ((SparseCore.T d).loc main_arg2) : S16384x64.Idx → Elt F .f32) (ix2 p c) :=
  pad_apply_of_inside _ _ _ _ _ _ _ _ _ fun a => match a with
    | 0 => show p.val = 0 + p.val * (0 + 1) by omega
    | 1 => show c.val = 0 + c.val * (0 + 1) by omega

theorem resFin_at (d : Dev nD) (i : S524288x64.Idx) : resFin m d i = result (memIn m d) (valIn m d) (metIn m d) (across i) :=
  congrArg (result (memIn m d) (valIn m d) (metIn m d)) (funext fun a => match a with
    | 0 => rfl
    | 1 => rfl)

end Reads

/-! ## The two results are one -/

section Equal

/-- The reference's scatter of the values' rows over the memory is what @main returns, whatever vector of words names the rows
    the index names. -/
theorem value_eq (m : (ℓ : Loc nD τ sig) → Buf (Elt F) ℓ) (c : Dev nD)
    (h : Cert.Pre_bin_table.fn (m ((SparseCore.T c).loc main_arg0) : S524288x64.Idx → Elt F .f32) (m ((SparseCore.T c).loc main_arg1) : S16384.Idx → BitVec 32)
      (m ((SparseCore.T c).loc main_arg2) : S16384x64.Idx → Elt F .f32) (metIn m c) = fun _ => 1#1)
    {x0 : S524288x64.Idx → Elt F .f32} {x1 : S16384.Idx → BitVec 32} {x2 : S16384x64.Idx → Elt F .f32}
    (h0 : x0 = m ((SparseCore.T c).loc main_arg0)) (h1 : x1 = m ((SparseCore.T c).loc main_arg1)) (h2 : x2 = m ((SparseCore.T c).loc main_arg2))
    (idx : IVec Cert.ReferenceIdeal.S16384x1 32) (hidx : ∀ p : Fin 16384, idx (ix2 p 0) = rowOf (x1 (ix1 p))) :
    Host.scatter Cert.ReferenceIdeal.scatter_S524288x64_S16384x1_S16384x64_1_0_0_1 (fun _ b => b) x0 idx x2 = resFin m c := by
  subst h0 h1 h2
  funext i
  rw [resFin_at]
  exact (cell_eq h (memIn m c) (memIn_across m c) (valIn_at m c) idx hidx i).symm

end Equal

end Cert.Proof.Bins

end
-- ==== Proof.Claims.lean ====
/-
  The claims, each read off the one run of the program and the one equation of its result.
-/
module

public import proofs.«01_k».proof.Proof.Value
public import proofs.«01_k».proof.Defs
public import proofs.«01_k».proof.Proof.Gen.Kernel
public import proofs.«01_k».proof.Proof.Gen.Reference
public import proofs.«01_k».proof.Proof.Gen.ReferenceIdeal.Run
public import proofs.«01_k».proof.Proof.Gen.Reference.Run
public import Idealize.ShloMosaic.Lib.Quiescent

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-! ## Frames -/

theorem frame_kernelIdeal : Cert.quiescent_KernelIdeal := fun m ρ h =>
  (θ_run Cert.KernelIdeal.defs _ _).mono (fun _ d => ⟨fun c => (d.1 c).2, d.2⟩) (run_main (F := Ideal) m ρ fun c => good_of_pre (h c))
theorem frame_kernelIdeal_table : Cert.quiescent_KernelIdeal_pre_bin_table := fun m ρ h =>
  (θ_run Cert.KernelIdeal.defs _ _).mono (fun _ d => ⟨fun c => (d.1 c).2, d.2⟩) (run_main (F := Ideal) m ρ fun c => good_of_table (h c))

/-- The kernel as printed is the same text at the machine's floats. -/
theorem frame_kernel : Cert.quiescent_Kernel := fun m ρ h =>
  (θ_run Cert.KernelIdeal.defs _ _).mono (fun _ d => ⟨fun c => (d.1 c).2, d.2⟩) (run_main (F := Bits) m ρ fun c => good_of_pre (h c))
theorem frame_kernel_table : Cert.quiescent_Kernel_pre_bin_table := fun m ρ h =>
  (θ_run Cert.KernelIdeal.defs _ _).mono (fun _ d => ⟨fun c => (d.1 c).2, d.2⟩) (run_main (F := Bits) m ρ fun c => good_of_table (h c))

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)
theorem frame_referenceIdeal_table : Cert.quiescent_ReferenceIdeal_pre_bin_table := fun m ρ _ => frame_referenceIdeal m ρ trivial

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

/-! ## Values -/

/-- The results are equal as extended reals. -/
theorem value_ideal : Cert.algebraic_KernelIdeal_ReferenceIdeal_pre_bin_table := fun m ρ m' ρ' h hm =>
  ⟨fun c => resFin m c, (θ_run Cert.KernelIdeal.defs _ _).mono (fun _ d c => d.1 c) (run_main (F := Ideal) m ρ fun c => good_of_table (h c)),
    (θ_run Cert.ReferenceIdeal.defs _ _).mono
      (fun _ d c => ⟨(d c).1.trans (value_eq m c (h c) (hm c).1 (hm c).2.1 (hm c).2.2.1 _ fun p => position_at _ _ p), (d c).2⟩)
      (Cert.ReferenceIdeal.Value.run (F := Ideal) m' ρ')⟩

/-- They are equal bit for bit: nothing is computed on the floats. -/
theorem value_bits : Cert.bitexact_Kernel_Reference_pre_bin_table := fun m ρ m' ρ' h hm =>
  ⟨fun c => resFin (F := Bits) m c, (θ_run Cert.KernelIdeal.defs _ _).mono (fun _ d c => d.1 c) (run_main (F := Bits) m ρ fun c => good_of_table (h c)),
    (θ_run Cert.Reference.defs _ _).mono
      (fun _ d c => ⟨(d c).1.trans (value_eq (F := Bits) m c (h c) (hm c).1 (hm c).2.1 (hm c).2.2.1 _ fun p => position_at _ _ p), (d c).2⟩)
      (Cert.Reference.Value.run (F := Bits) m' ρ')⟩

end Cert.Proof.Bins

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_columns_in_bin
public import proofs.«01_k».proof.Proof.Gen.Pre_bin_table
public import proofs.«01_k».proof.Proof.Gen.ReferenceIdeal.Run
public import proofs.«01_k».proof.Proof.Gen.Reference.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Reference.Gen.facts, Cert.Pre_columns_in_bin.Gen.facts,
    Cert.Pre_bin_table.Gen.facts, Bins.frame_kernel, Bins.frame_kernel_table, Bins.frame_kernelIdeal, Bins.frame_kernelIdeal_table,
    Bins.frame_referenceIdeal, Bins.frame_referenceIdeal_table, Bins.frame_reference, trivial, Bins.value_ideal, Bins.value_bits⟩

end Cert.Proof

end
